-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_norm_in_finite [hPre_norm_in_finite : Cert.Pre_norm_in_finite.Facts] (m : (ℓ : Loc Cert.NormInIdeal.nD Cert.NormInIdeal.τ Cert.NormInIdeal.sig) → Buf (Elt Ideal) ℓ) : Prop :=
  ∀ c : Dev Cert.NormInIdeal.nD,
    (Cert.Pre_norm_in_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))) = (fun _ => 1#1)

def Pre_NormInRefIdeal (m : (ℓ : Loc Cert.NormInRefIdeal.nD Cert.NormInRefIdeal.τ Cert.NormInRefIdeal.sig) → Buf (Elt Ideal) ℓ) : Prop :=
  True

def Pre_NormInRefIdeal_norm_in_finite [hPre_norm_in_finite : Cert.Pre_norm_in_finite.Facts] (m : (ℓ : Loc Cert.NormInRefIdeal.nD Cert.NormInRefIdeal.τ Cert.NormInRefIdeal.sig) → Buf (Elt Ideal) ℓ) : Prop :=
  ∀ c : Dev Cert.NormInRefIdeal.nD,
    (Cert.Pre_norm_in_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryIdeal_q_finite [hPre_q_finite : Cert.Pre_q_finite.Facts] (m : (ℓ : Loc Cert.QueryIdeal.nD Cert.QueryIdeal.τ Cert.QueryIdeal.sig) → Buf (Elt Ideal) ℓ) : Prop :=
  ∀ c : Dev Cert.QueryIdeal.nD,
    (Cert.Pre_q_finite.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)) (m ((c.tc : Thread Cert.QueryIdeal.nD Cert.QueryIdeal.τ).loc Cert.QueryIdeal.main_arg4)) (m ((c.tc : Thread Cert.QueryIdeal.nD Cert.QueryIdeal.τ).loc Cert.QueryIdeal.main_arg5)) (m ((c.tc : Thread Cert.QueryIdeal.nD Cert.QueryIdeal.τ).loc Cert.QueryIdeal.main_arg6)) (m ((c.tc : Thread Cert.QueryIdeal.nD Cert.QueryIdeal.τ).loc Cert.QueryIdeal.main_arg7)) (m ((c.tc : Thread Cert.QueryIdeal.nD Cert.QueryIdeal.τ).loc Cert.QueryIdeal.main_arg8))) = (fun _ => 1#1)

def Pre_QueryRefIdeal (m : (ℓ : Loc Cert.QueryRefIdeal.nD Cert.QueryRefIdeal.τ Cert.QueryRefIdeal.sig) → Buf (Elt Ideal) ℓ) : Prop :=
  True

def Pre_QueryRefIdeal_q_finite [hPre_q_finite : Cert.Pre_q_finite.Facts] (m : (ℓ : Loc Cert.QueryRefIdeal.nD Cert.QueryRefIdeal.τ Cert.QueryRefIdeal.sig) → Buf (Elt Ideal) ℓ) : Prop :=
  ∀ c : Dev Cert.QueryRefIdeal.nD,
    (Cert.Pre_q_finite.fn (F := Ideal) (m ((c.tc : Thread Cert.QueryRefIdeal.nD Cert.QueryRefIdeal.τ).loc Cert.QueryRefIdeal.main_arg0)) (m ((c.tc : Thread Cert.QueryRefIdeal.nD Cert.QueryRefIdeal.τ).loc Cert.QueryRefIdeal.main_arg1)) (m ((c.tc : Thread Cert.QueryRefIdeal.nD Cert.QueryRefIdeal.τ).loc Cert.QueryRefIdeal.main_arg2)) (m ((c.tc : Thread Cert.QueryRefIdeal.nD Cert.QueryRefIdeal.τ).loc Cert.QueryRefIdeal.main_arg3)) (m ((c.tc : Thread Cert.QueryRefIdeal.nD Cert.QueryRefIdeal.τ).loc Cert.QueryRefIdeal.main_arg4)) (m ((c.tc : Thread Cert.QueryRefIdeal.nD Cert.QueryRefIdeal.τ).loc Cert.QueryRefIdeal.main_arg5)) (m ((c.tc : Thread Cert.QueryRefIdeal.nD Cert.QueryRefIdeal.τ).loc Cert.QueryRefIdeal.main_arg6)) (m ((c.tc : Thread Cert.QueryRefIdeal.nD Cert.QueryRefIdeal.τ).loc Cert.QueryRefIdeal.main_arg7)) (m ((c.tc : Thread Cert.QueryRefIdeal.nD Cert.QueryRefIdeal.τ).loc Cert.QueryRefIdeal.main_arg8))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_kv_finite [hPre_kv_finite : Cert.Pre_kv_finite.Facts] (m : (ℓ : Loc Cert.KvIdeal.nD Cert.KvIdeal.τ Cert.KvIdeal.sig) → Buf (Elt Ideal) ℓ) : Prop :=
  ∀ c : Dev Cert.KvIdeal.nD,
    (Cert.Pre_kv_finite.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7)) (m ((c.tc : Thread Cert.KvIdeal.nD Cert.KvIdeal.τ).loc Cert.KvIdeal.main_arg8)) (m ((c.tc : Thread Cert.KvIdeal.nD Cert.KvIdeal.τ).loc Cert.KvIdeal.main_arg9)) (m ((c.tc : Thread Cert.KvIdeal.nD Cert.KvIdeal.τ).loc Cert.KvIdeal.main_arg10)) (m ((c.tc : Thread Cert.KvIdeal.nD Cert.KvIdeal.τ).loc Cert.KvIdeal.main_arg11))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_kv_finite [hPre_kv_finite : Cert.Pre_kv_finite.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7)) (m ((c.tc : Thread Cert.KvRefIdeal.nD Cert.KvRefIdeal.τ).loc Cert.KvRefIdeal.main_arg8)) (m ((c.tc : Thread Cert.KvRefIdeal.nD Cert.KvRefIdeal.τ).loc Cert.KvRefIdeal.main_arg9)) (m ((c.tc : Thread Cert.KvRefIdeal.nD Cert.KvRefIdeal.τ).loc Cert.KvRefIdeal.main_arg10)) (m ((c.tc : Thread Cert.KvRefIdeal.nD Cert.KvRefIdeal.τ).loc Cert.KvRefIdeal.main_arg11))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_attn_fwd_finite [hPre_attn_fwd_finite : Cert.Pre_attn_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_attn_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_attn_fwd_finite [hPre_attn_fwd_finite : Cert.Pre_attn_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_attn_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixIdeal_norm_mix_finite [hPre_norm_mix_finite : Cert.Pre_norm_mix_finite.Facts] (m : (ℓ : Loc Cert.NormMixIdeal.nD Cert.NormMixIdeal.τ Cert.NormMixIdeal.sig) → Buf (Elt Ideal) ℓ) : Prop :=
  ∀ c : Dev Cert.NormMixIdeal.nD,
    (Cert.Pre_norm_mix_finite.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4))) = (fun _ => 1#1)

def Pre_NormMixRefIdeal (m : (ℓ : Loc Cert.NormMixRefIdeal.nD Cert.NormMixRefIdeal.τ Cert.NormMixRefIdeal.sig) → Buf (Elt Ideal) ℓ) : Prop :=
  True

def Pre_NormMixRefIdeal_norm_mix_finite [hPre_norm_mix_finite : Cert.Pre_norm_mix_finite.Facts] (m : (ℓ : Loc Cert.NormMixRefIdeal.nD Cert.NormMixRefIdeal.τ Cert.NormMixRefIdeal.sig) → Buf (Elt Ideal) ℓ) : Prop :=
  ∀ c : Dev Cert.NormMixRefIdeal.nD,
    (Cert.Pre_norm_mix_finite.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInIdeal_pre_norm_in_finite [hNormInIdeal : Cert.NormInIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_norm_in_finite m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormInRefIdeal_pre_norm_in_finite [hNormInRefIdeal : Cert.NormInRefIdeal.Facts] [hPre_norm_in_finite : Cert.Pre_norm_in_finite.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal_norm_in_finite m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5)
      ∧ r.2.mem ((c.tc : Thread Cert.Query.nD Cert.Query.τ).loc Cert.Query.main_arg6) = m ((c.tc : Thread Cert.Query.nD Cert.Query.τ).loc Cert.Query.main_arg6)
      ∧ r.2.mem ((c.tc : Thread Cert.Query.nD Cert.Query.τ).loc Cert.Query.main_arg7) = m ((c.tc : Thread Cert.Query.nD Cert.Query.τ).loc Cert.Query.main_arg7)
      ∧ r.2.mem ((c.tc : Thread Cert.Query.nD Cert.Query.τ).loc Cert.Query.main_arg8) = m ((c.tc : Thread Cert.Query.nD Cert.Query.τ).loc Cert.Query.main_arg8))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
      ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
      ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7)
      ∧ r.2.mem ((c.tc : Thread Cert.QueryIdeal.nD Cert.QueryIdeal.τ).loc Cert.QueryIdeal.main_arg8) = m ((c.tc : Thread Cert.QueryIdeal.nD Cert.QueryIdeal.τ).loc Cert.QueryIdeal.main_arg8))
      ∧ r.2.sem = fun _ => 0)

def quiescent_QueryIdeal_pre_q_finite [hQueryIdeal : Cert.QueryIdeal.Facts] [hPre_q_finite : Cert.Pre_q_finite.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal_q_finite m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
      ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
      ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7)
      ∧ r.2.mem ((c.tc : Thread Cert.QueryIdeal.nD Cert.QueryIdeal.τ).loc Cert.QueryIdeal.main_arg8) = m ((c.tc : Thread Cert.QueryIdeal.nD Cert.QueryIdeal.τ).loc Cert.QueryIdeal.main_arg8))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5)
      ∧ r.2.mem ((c.tc : Thread Cert.QueryRefIdeal.nD Cert.QueryRefIdeal.τ).loc Cert.QueryRefIdeal.main_arg6) = m ((c.tc : Thread Cert.QueryRefIdeal.nD Cert.QueryRefIdeal.τ).loc Cert.QueryRefIdeal.main_arg6)
      ∧ r.2.mem ((c.tc : Thread Cert.QueryRefIdeal.nD Cert.QueryRefIdeal.τ).loc Cert.QueryRefIdeal.main_arg7) = m ((c.tc : Thread Cert.QueryRefIdeal.nD Cert.QueryRefIdeal.τ).loc Cert.QueryRefIdeal.main_arg7)
      ∧ r.2.mem ((c.tc : Thread Cert.QueryRefIdeal.nD Cert.QueryRefIdeal.τ).loc Cert.QueryRefIdeal.main_arg8) = m ((c.tc : Thread Cert.QueryRefIdeal.nD Cert.QueryRefIdeal.τ).loc Cert.QueryRefIdeal.main_arg8))
      ∧ r.2.sem = fun _ => 0)

def quiescent_QueryRefIdeal_pre_q_finite [hQueryRefIdeal : Cert.QueryRefIdeal.Facts] [hPre_q_finite : Cert.Pre_q_finite.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal_q_finite m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5)
      ∧ r.2.mem ((c.tc : Thread Cert.QueryRefIdeal.nD Cert.QueryRefIdeal.τ).loc Cert.QueryRefIdeal.main_arg6) = m ((c.tc : Thread Cert.QueryRefIdeal.nD Cert.QueryRefIdeal.τ).loc Cert.QueryRefIdeal.main_arg6)
      ∧ r.2.mem ((c.tc : Thread Cert.QueryRefIdeal.nD Cert.QueryRefIdeal.τ).loc Cert.QueryRefIdeal.main_arg7) = m ((c.tc : Thread Cert.QueryRefIdeal.nD Cert.QueryRefIdeal.τ).loc Cert.QueryRefIdeal.main_arg7)
      ∧ r.2.mem ((c.tc : Thread Cert.QueryRefIdeal.nD Cert.QueryRefIdeal.τ).loc Cert.QueryRefIdeal.main_arg8) = m ((c.tc : Thread Cert.QueryRefIdeal.nD Cert.QueryRefIdeal.τ).loc Cert.QueryRefIdeal.main_arg8))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5)
      ∧ r.2.mem ((c.tc : Thread Cert.Kv.nD Cert.Kv.τ).loc Cert.Kv.main_arg6) = m ((c.tc : Thread Cert.Kv.nD Cert.Kv.τ).loc Cert.Kv.main_arg6)
      ∧ r.2.mem ((c.tc : Thread Cert.Kv.nD Cert.Kv.τ).loc Cert.Kv.main_arg7) = m ((c.tc : Thread Cert.Kv.nD Cert.Kv.τ).loc Cert.Kv.main_arg7)
      ∧ r.2.mem ((c.tc : Thread Cert.Kv.nD Cert.Kv.τ).loc Cert.Kv.main_arg8) = m ((c.tc : Thread Cert.Kv.nD Cert.Kv.τ).loc Cert.Kv.main_arg8)
      ∧ r.2.mem ((c.tc : Thread Cert.Kv.nD Cert.Kv.τ).loc Cert.Kv.main_arg9) = m ((c.tc : Thread Cert.Kv.nD Cert.Kv.τ).loc Cert.Kv.main_arg9)
      ∧ r.2.mem ((c.tc : Thread Cert.Kv.nD Cert.Kv.τ).loc Cert.Kv.main_arg10) = m ((c.tc : Thread Cert.Kv.nD Cert.Kv.τ).loc Cert.Kv.main_arg10)
      ∧ r.2.mem ((c.tc : Thread Cert.Kv.nD Cert.Kv.τ).loc Cert.Kv.main_arg11) = m ((c.tc : Thread Cert.Kv.nD Cert.Kv.τ).loc Cert.Kv.main_arg11))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
      ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
      ∧ r.2.mem ((c.tc : Thread Cert.KvIdeal.nD Cert.KvIdeal.τ).loc Cert.KvIdeal.main_arg9) = m ((c.tc : Thread Cert.KvIdeal.nD Cert.KvIdeal.τ).loc Cert.KvIdeal.main_arg9)
      ∧ r.2.mem ((c.tc : Thread Cert.KvIdeal.nD Cert.KvIdeal.τ).loc Cert.KvIdeal.main_arg10) = m ((c.tc : Thread Cert.KvIdeal.nD Cert.KvIdeal.τ).loc Cert.KvIdeal.main_arg10)
      ∧ r.2.mem ((c.tc : Thread Cert.KvIdeal.nD Cert.KvIdeal.τ).loc Cert.KvIdeal.main_arg11) = m ((c.tc : Thread Cert.KvIdeal.nD Cert.KvIdeal.τ).loc Cert.KvIdeal.main_arg11))
      ∧ r.2.sem = fun _ => 0)

def quiescent_KvIdeal_pre_kv_finite [hKvIdeal : Cert.KvIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg), Pre_KvIdeal_kv_finite m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
      ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
      ∧ r.2.mem ((c.tc : Thread Cert.KvIdeal.nD Cert.KvIdeal.τ).loc Cert.KvIdeal.main_arg9) = m ((c.tc : Thread Cert.KvIdeal.nD Cert.KvIdeal.τ).loc Cert.KvIdeal.main_arg9)
      ∧ r.2.mem ((c.tc : Thread Cert.KvIdeal.nD Cert.KvIdeal.τ).loc Cert.KvIdeal.main_arg10) = m ((c.tc : Thread Cert.KvIdeal.nD Cert.KvIdeal.τ).loc Cert.KvIdeal.main_arg10)
      ∧ r.2.mem ((c.tc : Thread Cert.KvIdeal.nD Cert.KvIdeal.τ).loc Cert.KvIdeal.main_arg11) = m ((c.tc : Thread Cert.KvIdeal.nD Cert.KvIdeal.τ).loc Cert.KvIdeal.main_arg11))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7)
      ∧ r.2.mem ((c.tc : Thread Cert.KvRefIdeal.nD Cert.KvRefIdeal.τ).loc Cert.KvRefIdeal.main_arg8) = m ((c.tc : Thread Cert.KvRefIdeal.nD Cert.KvRefIdeal.τ).loc Cert.KvRefIdeal.main_arg8)
      ∧ r.2.mem ((c.tc : Thread Cert.KvRefIdeal.nD Cert.KvRefIdeal.τ).loc Cert.KvRefIdeal.main_arg9) = m ((c.tc : Thread Cert.KvRefIdeal.nD Cert.KvRefIdeal.τ).loc Cert.KvRefIdeal.main_arg9)
      ∧ r.2.mem ((c.tc : Thread Cert.KvRefIdeal.nD Cert.KvRefIdeal.τ).loc Cert.KvRefIdeal.main_arg10) = m ((c.tc : Thread Cert.KvRefIdeal.nD Cert.KvRefIdeal.τ).loc Cert.KvRefIdeal.main_arg10)
      ∧ r.2.mem ((c.tc : Thread Cert.KvRefIdeal.nD Cert.KvRefIdeal.τ).loc Cert.KvRefIdeal.main_arg11) = m ((c.tc : Thread Cert.KvRefIdeal.nD Cert.KvRefIdeal.τ).loc Cert.KvRefIdeal.main_arg11))
      ∧ r.2.sem = fun _ => 0)

def quiescent_KvRefIdeal_pre_kv_finite [hKvRefIdeal : Cert.KvRefIdeal.Facts] [hPre_kv_finite : Cert.Pre_kv_finite.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_kv_finite m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7)
      ∧ r.2.mem ((c.tc : Thread Cert.KvRefIdeal.nD Cert.KvRefIdeal.τ).loc Cert.KvRefIdeal.main_arg8) = m ((c.tc : Thread Cert.KvRefIdeal.nD Cert.KvRefIdeal.τ).loc Cert.KvRefIdeal.main_arg8)
      ∧ r.2.mem ((c.tc : Thread Cert.KvRefIdeal.nD Cert.KvRefIdeal.τ).loc Cert.KvRefIdeal.main_arg9) = m ((c.tc : Thread Cert.KvRefIdeal.nD Cert.KvRefIdeal.τ).loc Cert.KvRefIdeal.main_arg9)
      ∧ r.2.mem ((c.tc : Thread Cert.KvRefIdeal.nD Cert.KvRefIdeal.τ).loc Cert.KvRefIdeal.main_arg10) = m ((c.tc : Thread Cert.KvRefIdeal.nD Cert.KvRefIdeal.τ).loc Cert.KvRefIdeal.main_arg10)
      ∧ r.2.mem ((c.tc : Thread Cert.KvRefIdeal.nD Cert.KvRefIdeal.τ).loc Cert.KvRefIdeal.main_arg11) = m ((c.tc : Thread Cert.KvRefIdeal.nD Cert.KvRefIdeal.τ).loc Cert.KvRefIdeal.main_arg11))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_attn_fwd_finite [hFwdIdeal : Cert.FwdIdeal.Facts] [hPre_attn_fwd_finite : Cert.Pre_attn_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_attn_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_attn_fwd_finite [hFwdRefIdeal : Cert.FwdRefIdeal.Facts] [hPre_attn_fwd_finite : Cert.Pre_attn_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_attn_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4))
      ∧ r.2.sem = fun _ => 0)

def quiescent_NormMixIdeal_pre_norm_mix_finite [hNormMixIdeal : Cert.NormMixIdeal.Facts] [hPre_norm_mix_finite : Cert.Pre_norm_mix_finite.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal_norm_mix_finite m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4))
      ∧ r.2.sem = fun _ => 0)

def quiescent_NormMixRefIdeal_pre_norm_mix_finite [hNormMixRefIdeal : Cert.NormMixRefIdeal.Facts] [hPre_norm_mix_finite : Cert.Pre_norm_mix_finite.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal_norm_mix_finite m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v35_0)) (v1 : (c : Dev Cert.AttnIdeal.nD) → Buf (Elt Ideal) ((c.tc : Thread Cert.AttnIdeal.nD Cert.AttnIdeal.τ).loc Cert.AttnIdeal.main_v35_1)) (v2 : (c : Dev Cert.AttnIdeal.nD) → Buf (Elt Ideal) ((c.tc : Thread Cert.AttnIdeal.nD Cert.AttnIdeal.τ).loc Cert.AttnIdeal.main_v35_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v35_0) = v0 c
          ∧ r.2.mem ((c.tc : Thread Cert.AttnIdeal.nD Cert.AttnIdeal.τ).loc Cert.AttnIdeal.main_v35_1) = v1 c
          ∧ r.2.mem ((c.tc : Thread Cert.AttnIdeal.nD Cert.AttnIdeal.τ).loc Cert.AttnIdeal.main_v35_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v68) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_NormIn_NormInIdeal : Prop :=
  True

def algebraic_NormInIdeal_NormInRefIdeal_pre_norm_in_finite [hNormInIdeal : Cert.NormInIdeal.Facts] [hNormInRefIdeal : Cert.NormInRefIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal_norm_in_finite m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v7_0)) (v1 : (c : Dev Cert.NormInIdeal.nD) → Buf (Elt Ideal) ((c.tc : Thread Cert.NormInIdeal.nD Cert.NormInIdeal.τ).loc Cert.NormInIdeal.main_v7_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v7_0) = v0 c
          ∧ r.2.mem ((c.tc : Thread Cert.NormInIdeal.nD Cert.NormInIdeal.τ).loc Cert.NormInIdeal.main_v7_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v38) = v0 c
          ∧ r.2.mem ((c.tc : Thread Cert.NormInRefIdeal.nD Cert.NormInRefIdeal.τ).loc Cert.NormInRefIdeal.main_v39) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v40_0)) (v1 : (c : Dev Cert.MixerIdeal.nD) → Buf (Elt Ideal) ((c.tc : Thread Cert.MixerIdeal.nD Cert.MixerIdeal.τ).loc Cert.MixerIdeal.main_v40_1)) (v2 : (c : Dev Cert.MixerIdeal.nD) → Buf (Elt Ideal) ((c.tc : Thread Cert.MixerIdeal.nD Cert.MixerIdeal.τ).loc Cert.MixerIdeal.main_v40_2)) (v3 : (c : Dev Cert.MixerIdeal.nD) → Buf (Elt Ideal) ((c.tc : Thread Cert.MixerIdeal.nD Cert.MixerIdeal.τ).loc Cert.MixerIdeal.main_v40_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v40_0) = v0 c
          ∧ r.2.mem ((c.tc : Thread Cert.MixerIdeal.nD Cert.MixerIdeal.τ).loc Cert.MixerIdeal.main_v40_1) = v1 c
          ∧ r.2.mem ((c.tc : Thread Cert.MixerIdeal.nD Cert.MixerIdeal.τ).loc Cert.MixerIdeal.main_v40_2) = v2 c
          ∧ r.2.mem ((c.tc : Thread Cert.MixerIdeal.nD Cert.MixerIdeal.τ).loc Cert.MixerIdeal.main_v40_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v78) = v0 c
          ∧ r.2.mem ((c.tc : Thread Cert.MixerRefIdeal.nD Cert.MixerRefIdeal.τ).loc Cert.MixerRefIdeal.main_v81) = v1 c
          ∧ r.2.mem ((c.tc : Thread Cert.MixerRefIdeal.nD Cert.MixerRefIdeal.τ).loc Cert.MixerRefIdeal.main_v82) = v2 c
          ∧ r.2.mem ((c.tc : Thread Cert.MixerRefIdeal.nD Cert.MixerRefIdeal.τ).loc Cert.MixerRefIdeal.main_v70) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v44_0)) (v1 : (c : Dev Cert.FfnIdeal.nD) → Buf (Elt Ideal) ((c.tc : Thread Cert.FfnIdeal.nD Cert.FfnIdeal.τ).loc Cert.FfnIdeal.main_v44_1)) (v2 : (c : Dev Cert.FfnIdeal.nD) → Buf (Elt Ideal) ((c.tc : Thread Cert.FfnIdeal.nD Cert.FfnIdeal.τ).loc Cert.FfnIdeal.main_v44_2)) (v3 : (c : Dev Cert.FfnIdeal.nD) → Buf (Elt Ideal) ((c.tc : Thread Cert.FfnIdeal.nD Cert.FfnIdeal.τ).loc Cert.FfnIdeal.main_v44_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v44_0) = v0 c
          ∧ r.2.mem ((c.tc : Thread Cert.FfnIdeal.nD Cert.FfnIdeal.τ).loc Cert.FfnIdeal.main_v44_1) = v1 c
          ∧ r.2.mem ((c.tc : Thread Cert.FfnIdeal.nD Cert.FfnIdeal.τ).loc Cert.FfnIdeal.main_v44_2) = v2 c
          ∧ r.2.mem ((c.tc : Thread Cert.FfnIdeal.nD Cert.FfnIdeal.τ).loc Cert.FfnIdeal.main_v44_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_v79) = v1 c
          ∧ r.2.mem ((c.tc : Thread Cert.FfnRefIdeal.nD Cert.FfnRefIdeal.τ).loc Cert.FfnRefIdeal.main_v81) = v2 c
          ∧ r.2.mem ((c.tc : Thread Cert.FfnRefIdeal.nD Cert.FfnRefIdeal.τ).loc Cert.FfnRefIdeal.main_v83) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Query_QueryIdeal : Prop :=
  True

def algebraic_QueryIdeal_QueryRefIdeal_pre_q_finite [hQueryIdeal : Cert.QueryIdeal.Facts] [hQueryRefIdeal : Cert.QueryRefIdeal.Facts] [hPre_q_finite : Cert.Pre_q_finite.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal_q_finite m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)
      ∧ m' ((c.tc : Thread Cert.QueryRefIdeal.nD Cert.QueryRefIdeal.τ).loc Cert.QueryRefIdeal.main_arg5) = m ((c.tc : Thread Cert.QueryIdeal.nD Cert.QueryIdeal.τ).loc Cert.QueryIdeal.main_arg5)
      ∧ m' ((c.tc : Thread Cert.QueryRefIdeal.nD Cert.QueryRefIdeal.τ).loc Cert.QueryRefIdeal.main_arg6) = m ((c.tc : Thread Cert.QueryIdeal.nD Cert.QueryIdeal.τ).loc Cert.QueryIdeal.main_arg6)
      ∧ m' ((c.tc : Thread Cert.QueryRefIdeal.nD Cert.QueryRefIdeal.τ).loc Cert.QueryRefIdeal.main_arg7) = m ((c.tc : Thread Cert.QueryIdeal.nD Cert.QueryIdeal.τ).loc Cert.QueryIdeal.main_arg7)
      ∧ m' ((c.tc : Thread Cert.QueryRefIdeal.nD Cert.QueryRefIdeal.τ).loc Cert.QueryRefIdeal.main_arg8) = m ((c.tc : Thread Cert.QueryIdeal.nD Cert.QueryIdeal.τ).loc Cert.QueryIdeal.main_arg8)) →
    ∃ (v0 : (c : Dev Cert.QueryIdeal.nD) → Buf (Elt Ideal) ((c.tc : Thread Cert.QueryIdeal.nD Cert.QueryIdeal.τ).loc Cert.QueryIdeal.main_v29_0)) (v1 : (c : Dev Cert.QueryIdeal.nD) → Buf (Elt Ideal) ((c.tc : Thread Cert.QueryIdeal.nD Cert.QueryIdeal.τ).loc Cert.QueryIdeal.main_v29_1)) (v2 : (c : Dev Cert.QueryIdeal.nD) → Buf (Elt Ideal) ((c.tc : Thread Cert.QueryIdeal.nD Cert.QueryIdeal.τ).loc Cert.QueryIdeal.main_v29_2)) (v3 : (c : Dev Cert.QueryIdeal.nD) → Buf (Elt Ideal) ((c.tc : Thread Cert.QueryIdeal.nD Cert.QueryIdeal.τ).loc Cert.QueryIdeal.main_v29_3)) (v4 : (c : Dev Cert.QueryIdeal.nD) → Buf (Elt Ideal) ((c.tc : Thread Cert.QueryIdeal.nD Cert.QueryIdeal.τ).loc Cert.QueryIdeal.main_v29_4)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v29_0) = v0 c
          ∧ r.2.mem ((c.tc : Thread Cert.QueryIdeal.nD Cert.QueryIdeal.τ).loc Cert.QueryIdeal.main_v29_1) = v1 c
          ∧ r.2.mem ((c.tc : Thread Cert.QueryIdeal.nD Cert.QueryIdeal.τ).loc Cert.QueryIdeal.main_v29_2) = v2 c
          ∧ r.2.mem ((c.tc : Thread Cert.QueryIdeal.nD Cert.QueryIdeal.τ).loc Cert.QueryIdeal.main_v29_3) = v3 c
          ∧ r.2.mem ((c.tc : Thread Cert.QueryIdeal.nD Cert.QueryIdeal.τ).loc Cert.QueryIdeal.main_v29_4) = v4 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
          ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
          ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7)
          ∧ r.2.mem ((c.tc : Thread Cert.QueryIdeal.nD Cert.QueryIdeal.τ).loc Cert.QueryIdeal.main_arg8) = m ((c.tc : Thread Cert.QueryIdeal.nD Cert.QueryIdeal.τ).loc Cert.QueryIdeal.main_arg8))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v124) = v0 c
          ∧ r.2.mem ((c.tc : Thread Cert.QueryRefIdeal.nD Cert.QueryRefIdeal.τ).loc Cert.QueryRefIdeal.main_v128) = v1 c
          ∧ r.2.mem ((c.tc : Thread Cert.QueryRefIdeal.nD Cert.QueryRefIdeal.τ).loc Cert.QueryRefIdeal.main_v129) = v2 c
          ∧ r.2.mem ((c.tc : Thread Cert.QueryRefIdeal.nD Cert.QueryRefIdeal.τ).loc Cert.QueryRefIdeal.main_v130) = v3 c
          ∧ r.2.mem ((c.tc : Thread Cert.QueryRefIdeal.nD Cert.QueryRefIdeal.τ).loc Cert.QueryRefIdeal.main_v131) = v4 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4)
          ∧ r.2.mem ((c.tc : Thread Cert.QueryRefIdeal.nD Cert.QueryRefIdeal.τ).loc Cert.QueryRefIdeal.main_arg5) = m' ((c.tc : Thread Cert.QueryRefIdeal.nD Cert.QueryRefIdeal.τ).loc Cert.QueryRefIdeal.main_arg5)
          ∧ r.2.mem ((c.tc : Thread Cert.QueryRefIdeal.nD Cert.QueryRefIdeal.τ).loc Cert.QueryRefIdeal.main_arg6) = m' ((c.tc : Thread Cert.QueryRefIdeal.nD Cert.QueryRefIdeal.τ).loc Cert.QueryRefIdeal.main_arg6)
          ∧ r.2.mem ((c.tc : Thread Cert.QueryRefIdeal.nD Cert.QueryRefIdeal.τ).loc Cert.QueryRefIdeal.main_arg7) = m' ((c.tc : Thread Cert.QueryRefIdeal.nD Cert.QueryRefIdeal.τ).loc Cert.QueryRefIdeal.main_arg7)
          ∧ r.2.mem ((c.tc : Thread Cert.QueryRefIdeal.nD Cert.QueryRefIdeal.τ).loc Cert.QueryRefIdeal.main_arg8) = m' ((c.tc : Thread Cert.QueryRefIdeal.nD Cert.QueryRefIdeal.τ).loc Cert.QueryRefIdeal.main_arg8))

def preserves_Kv_KvIdeal : Prop :=
  True

def algebraic_KvIdeal_KvRefIdeal_pre_kv_finite [hKvIdeal : Cert.KvIdeal.Facts] [hKvRefIdeal : Cert.KvRefIdeal.Facts] [hPre_kv_finite : Cert.Pre_kv_finite.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_kv_finite m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)
      ∧ m' ((c.tc : Thread Cert.KvRefIdeal.nD Cert.KvRefIdeal.τ).loc Cert.KvRefIdeal.main_arg6) = m ((c.tc : Thread Cert.KvIdeal.nD Cert.KvIdeal.τ).loc Cert.KvIdeal.main_arg6)
      ∧ m' ((c.tc : Thread Cert.KvRefIdeal.nD Cert.KvRefIdeal.τ).loc Cert.KvRefIdeal.main_arg7) = m ((c.tc : Thread Cert.KvIdeal.nD Cert.KvIdeal.τ).loc Cert.KvIdeal.main_arg7)
      ∧ m' ((c.tc : Thread Cert.KvRefIdeal.nD Cert.KvRefIdeal.τ).loc Cert.KvRefIdeal.main_arg8) = m ((c.tc : Thread Cert.KvIdeal.nD Cert.KvIdeal.τ).loc Cert.KvIdeal.main_arg8)
      ∧ m' ((c.tc : Thread Cert.KvRefIdeal.nD Cert.KvRefIdeal.τ).loc Cert.KvRefIdeal.main_arg9) = m ((c.tc : Thread Cert.KvIdeal.nD Cert.KvIdeal.τ).loc Cert.KvIdeal.main_arg9)
      ∧ m' ((c.tc : Thread Cert.KvRefIdeal.nD Cert.KvRefIdeal.τ).loc Cert.KvRefIdeal.main_arg10) = m ((c.tc : Thread Cert.KvIdeal.nD Cert.KvIdeal.τ).loc Cert.KvIdeal.main_arg10)
      ∧ m' ((c.tc : Thread Cert.KvRefIdeal.nD Cert.KvRefIdeal.τ).loc Cert.KvRefIdeal.main_arg11) = m ((c.tc : Thread Cert.KvIdeal.nD Cert.KvIdeal.τ).loc Cert.KvIdeal.main_arg11)) →
    ∃ (v0 : (c : Dev Cert.KvIdeal.nD) → Buf (Elt Ideal) ((c.tc : Thread Cert.KvIdeal.nD Cert.KvIdeal.τ).loc Cert.KvIdeal.main_v38_0)) (v1 : (c : Dev Cert.KvIdeal.nD) → Buf (Elt Ideal) ((c.tc : Thread Cert.KvIdeal.nD Cert.KvIdeal.τ).loc Cert.KvIdeal.main_v38_1)) (v2 : (c : Dev Cert.KvIdeal.nD) → Buf (Elt Ideal) ((c.tc : Thread Cert.KvIdeal.nD Cert.KvIdeal.τ).loc Cert.KvIdeal.main_v38_2)) (v3 : (c : Dev Cert.KvIdeal.nD) → Buf (Elt Ideal) ((c.tc : Thread Cert.KvIdeal.nD Cert.KvIdeal.τ).loc Cert.KvIdeal.main_v38_3)) (v4 : (c : Dev Cert.KvIdeal.nD) → Buf (Elt Ideal) ((c.tc : Thread Cert.KvIdeal.nD Cert.KvIdeal.τ).loc Cert.KvIdeal.main_v38_4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v38_0) = v0 c
          ∧ r.2.mem ((c.tc : Thread Cert.KvIdeal.nD Cert.KvIdeal.τ).loc Cert.KvIdeal.main_v38_1) = v1 c
          ∧ r.2.mem ((c.tc : Thread Cert.KvIdeal.nD Cert.KvIdeal.τ).loc Cert.KvIdeal.main_v38_2) = v2 c
          ∧ r.2.mem ((c.tc : Thread Cert.KvIdeal.nD Cert.KvIdeal.τ).loc Cert.KvIdeal.main_v38_3) = v3 c
          ∧ r.2.mem ((c.tc : Thread Cert.KvIdeal.nD Cert.KvIdeal.τ).loc Cert.KvIdeal.main_v38_4) = v4 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
          ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
          ∧ r.2.mem ((c.tc : Thread Cert.KvIdeal.nD Cert.KvIdeal.τ).loc Cert.KvIdeal.main_arg7) = m ((c.tc : Thread Cert.KvIdeal.nD Cert.KvIdeal.τ).loc Cert.KvIdeal.main_arg7)
          ∧ r.2.mem ((c.tc : Thread Cert.KvIdeal.nD Cert.KvIdeal.τ).loc Cert.KvIdeal.main_arg8) = m ((c.tc : Thread Cert.KvIdeal.nD Cert.KvIdeal.τ).loc Cert.KvIdeal.main_arg8)
          ∧ r.2.mem ((c.tc : Thread Cert.KvIdeal.nD Cert.KvIdeal.τ).loc Cert.KvIdeal.main_arg9) = m ((c.tc : Thread Cert.KvIdeal.nD Cert.KvIdeal.τ).loc Cert.KvIdeal.main_arg9)
          ∧ r.2.mem ((c.tc : Thread Cert.KvIdeal.nD Cert.KvIdeal.τ).loc Cert.KvIdeal.main_arg10) = m ((c.tc : Thread Cert.KvIdeal.nD Cert.KvIdeal.τ).loc Cert.KvIdeal.main_arg10)
          ∧ r.2.mem ((c.tc : Thread Cert.KvIdeal.nD Cert.KvIdeal.τ).loc Cert.KvIdeal.main_arg11) = m ((c.tc : Thread Cert.KvIdeal.nD Cert.KvIdeal.τ).loc Cert.KvIdeal.main_arg11))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v123) = v0 c
          ∧ r.2.mem ((c.tc : Thread Cert.KvRefIdeal.nD Cert.KvRefIdeal.τ).loc Cert.KvRefIdeal.main_v126) = v1 c
          ∧ r.2.mem ((c.tc : Thread Cert.KvRefIdeal.nD Cert.KvRefIdeal.τ).loc Cert.KvRefIdeal.main_v128) = v2 c
          ∧ r.2.mem ((c.tc : Thread Cert.KvRefIdeal.nD Cert.KvRefIdeal.τ).loc Cert.KvRefIdeal.main_v129) = v3 c
          ∧ r.2.mem ((c.tc : Thread Cert.KvRefIdeal.nD Cert.KvRefIdeal.τ).loc Cert.KvRefIdeal.main_v130) = v4 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6)
          ∧ r.2.mem ((c.tc : Thread Cert.KvRefIdeal.nD Cert.KvRefIdeal.τ).loc Cert.KvRefIdeal.main_arg7) = m' ((c.tc : Thread Cert.KvRefIdeal.nD Cert.KvRefIdeal.τ).loc Cert.KvRefIdeal.main_arg7)
          ∧ r.2.mem ((c.tc : Thread Cert.KvRefIdeal.nD Cert.KvRefIdeal.τ).loc Cert.KvRefIdeal.main_arg8) = m' ((c.tc : Thread Cert.KvRefIdeal.nD Cert.KvRefIdeal.τ).loc Cert.KvRefIdeal.main_arg8)
          ∧ r.2.mem ((c.tc : Thread Cert.KvRefIdeal.nD Cert.KvRefIdeal.τ).loc Cert.KvRefIdeal.main_arg9) = m' ((c.tc : Thread Cert.KvRefIdeal.nD Cert.KvRefIdeal.τ).loc Cert.KvRefIdeal.main_arg9)
          ∧ r.2.mem ((c.tc : Thread Cert.KvRefIdeal.nD Cert.KvRefIdeal.τ).loc Cert.KvRefIdeal.main_arg10) = m' ((c.tc : Thread Cert.KvRefIdeal.nD Cert.KvRefIdeal.τ).loc Cert.KvRefIdeal.main_arg10)
          ∧ r.2.mem ((c.tc : Thread Cert.KvRefIdeal.nD Cert.KvRefIdeal.τ).loc Cert.KvRefIdeal.main_arg11) = m' ((c.tc : Thread Cert.KvRefIdeal.nD Cert.KvRefIdeal.τ).loc Cert.KvRefIdeal.main_arg11))

def preserves_Fwd_FwdIdeal : Prop :=
  IdealRules.named_const.Statement Cert.FwdIdeal.κ "mask" .f32 0xF149F2CA#32 ⊥

def algebraic_FwdIdeal_FwdRefIdeal_pre_attn_fwd_finite [hFwdIdeal : Cert.FwdIdeal.Facts] [hFwdRefIdeal : Cert.FwdRefIdeal.Facts] [hPre_attn_fwd_finite : Cert.Pre_attn_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_attn_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v31) = v0 c
          ∧ r.2.mem ((c.tc : Thread Cert.FwdRefIdeal.nD Cert.FwdRefIdeal.τ).loc Cert.FwdRefIdeal.main_v32) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_NormMix_NormMixIdeal : Prop :=
  True

def algebraic_NormMixIdeal_NormMixRefIdeal_pre_norm_mix_finite [hNormMixIdeal : Cert.NormMixIdeal.Facts] [hNormMixRefIdeal : Cert.NormMixRefIdeal.Facts] [hPre_norm_mix_finite : Cert.Pre_norm_mix_finite.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal_norm_mix_finite m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)) →
    ∃ (v0 : (c : Dev Cert.NormMixIdeal.nD) → Buf (Elt Ideal) ((c.tc : Thread Cert.NormMixIdeal.nD Cert.NormMixIdeal.τ).loc Cert.NormMixIdeal.main_v7_0)) (v1 : (c : Dev Cert.NormMixIdeal.nD) → Buf (Elt Ideal) ((c.tc : Thread Cert.NormMixIdeal.nD Cert.NormMixIdeal.τ).loc Cert.NormMixIdeal.main_v7_1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v7_0) = v0 c
          ∧ r.2.mem ((c.tc : Thread Cert.NormMixIdeal.nD Cert.NormMixIdeal.τ).loc Cert.NormMixIdeal.main_v7_1) = v1 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v38) = v0 c
          ∧ r.2.mem ((c.tc : Thread Cert.NormMixRefIdeal.nD Cert.NormMixRefIdeal.τ).loc Cert.NormMixRefIdeal.main_v39) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def Claim : Prop :=
  ∃ (hAttn : Cert.Attn.Facts) (hAttnIdeal : Cert.AttnIdeal.Facts) (hAttnRefIdeal : Cert.AttnRefIdeal.Facts) (hNormIn : Cert.NormIn.Facts) (hNormInIdeal : Cert.NormInIdeal.Facts) (hNormInRefIdeal : Cert.NormInRefIdeal.Facts) (hLoss : Cert.Loss.Facts) (hLossIdeal : Cert.LossIdeal.Facts) (hLossRefIdeal : Cert.LossRefIdeal.Facts) (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hQuery : Cert.Query.Facts) (hQueryIdeal : Cert.QueryIdeal.Facts) (hQueryRefIdeal : Cert.QueryRefIdeal.Facts) (hKv : Cert.Kv.Facts) (hKvIdeal : Cert.KvIdeal.Facts) (hKvRefIdeal : Cert.KvRefIdeal.Facts) (hFwd : Cert.Fwd.Facts) (hFwdIdeal : Cert.FwdIdeal.Facts) (hFwdRefIdeal : Cert.FwdRefIdeal.Facts) (hNormMix : Cert.NormMix.Facts) (hNormMixIdeal : Cert.NormMixIdeal.Facts) (hNormMixRefIdeal : Cert.NormMixRefIdeal.Facts) (hNormFwd : Cert.NormFwd.Facts) (hNormFwdIdeal : Cert.NormFwdIdeal.Facts) (hNormFwdRefIdeal : Cert.NormFwdRefIdeal.Facts) (hPre_attn_finite : Cert.Pre_attn_finite.Facts) (hPre_norm_in_finite : Cert.Pre_norm_in_finite.Facts) (hPre_loss_finite : Cert.Pre_loss_finite.Facts) (hPre_mixer_finite : Cert.Pre_mixer_finite.Facts) (hPre_ffn_finite : Cert.Pre_ffn_finite.Facts) (hPre_q_finite : Cert.Pre_q_finite.Facts) (hPre_kv_finite : Cert.Pre_kv_finite.Facts) (hPre_attn_fwd_finite : Cert.Pre_attn_fwd_finite.Facts) (hPre_norm_mix_finite : Cert.Pre_norm_mix_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_NormIn (hNormIn := hNormIn)
    ∧ quiescent_NormInIdeal (hNormInIdeal := hNormInIdeal)
    ∧ quiescent_NormInIdeal_pre_norm_in_finite (hNormInIdeal := hNormInIdeal) (hPre_norm_in_finite := hPre_norm_in_finite)
    ∧ quiescent_NormInRefIdeal (hNormInRefIdeal := hNormInRefIdeal)
    ∧ quiescent_NormInRefIdeal_pre_norm_in_finite (hNormInRefIdeal := hNormInRefIdeal) (hPre_norm_in_finite := hPre_norm_in_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Query (hQuery := hQuery)
    ∧ quiescent_QueryIdeal (hQueryIdeal := hQueryIdeal)
    ∧ quiescent_QueryIdeal_pre_q_finite (hQueryIdeal := hQueryIdeal) (hPre_q_finite := hPre_q_finite)
    ∧ quiescent_QueryRefIdeal (hQueryRefIdeal := hQueryRefIdeal)
    ∧ quiescent_QueryRefIdeal_pre_q_finite (hQueryRefIdeal := hQueryRefIdeal) (hPre_q_finite := hPre_q_finite)
    ∧ quiescent_Kv (hKv := hKv)
    ∧ quiescent_KvIdeal (hKvIdeal := hKvIdeal)
    ∧ quiescent_KvIdeal_pre_kv_finite (hKvIdeal := hKvIdeal) (hPre_kv_finite := hPre_kv_finite)
    ∧ quiescent_KvRefIdeal (hKvRefIdeal := hKvRefIdeal)
    ∧ quiescent_KvRefIdeal_pre_kv_finite (hKvRefIdeal := hKvRefIdeal) (hPre_kv_finite := hPre_kv_finite)
    ∧ quiescent_Fwd (hFwd := hFwd)
    ∧ quiescent_FwdIdeal (hFwdIdeal := hFwdIdeal)
    ∧ quiescent_FwdIdeal_pre_attn_fwd_finite (hFwdIdeal := hFwdIdeal) (hPre_attn_fwd_finite := hPre_attn_fwd_finite)
    ∧ quiescent_FwdRefIdeal (hFwdRefIdeal := hFwdRefIdeal)
    ∧ quiescent_FwdRefIdeal_pre_attn_fwd_finite (hFwdRefIdeal := hFwdRefIdeal) (hPre_attn_fwd_finite := hPre_attn_fwd_finite)
    ∧ quiescent_NormMix (hNormMix := hNormMix)
    ∧ quiescent_NormMixIdeal (hNormMixIdeal := hNormMixIdeal)
    ∧ quiescent_NormMixIdeal_pre_norm_mix_finite (hNormMixIdeal := hNormMixIdeal) (hPre_norm_mix_finite := hPre_norm_mix_finite)
    ∧ quiescent_NormMixRefIdeal (hNormMixRefIdeal := hNormMixRefIdeal)
    ∧ quiescent_NormMixRefIdeal_pre_norm_mix_finite (hNormMixRefIdeal := hNormMixRefIdeal) (hPre_norm_mix_finite := hPre_norm_mix_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_NormIn_NormInIdeal
    ∧ algebraic_NormInIdeal_NormInRefIdeal_pre_norm_in_finite (hNormInIdeal := hNormInIdeal) (hNormInRefIdeal := hNormInRefIdeal) (hPre_norm_in_finite := hPre_norm_in_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Query_QueryIdeal
    ∧ algebraic_QueryIdeal_QueryRefIdeal_pre_q_finite (hQueryIdeal := hQueryIdeal) (hQueryRefIdeal := hQueryRefIdeal) (hPre_q_finite := hPre_q_finite)
    ∧ preserves_Kv_KvIdeal
    ∧ algebraic_KvIdeal_KvRefIdeal_pre_kv_finite (hKvIdeal := hKvIdeal) (hKvRefIdeal := hKvRefIdeal) (hPre_kv_finite := hPre_kv_finite)
    ∧ preserves_Fwd_FwdIdeal
    ∧ algebraic_FwdIdeal_FwdRefIdeal_pre_attn_fwd_finite (hFwdIdeal := hFwdIdeal) (hFwdRefIdeal := hFwdRefIdeal) (hPre_attn_fwd_finite := hPre_attn_fwd_finite)
    ∧ preserves_NormMix_NormMixIdeal
    ∧ algebraic_NormMixIdeal_NormMixRefIdeal_pre_norm_mix_finite (hNormMixIdeal := hNormMixIdeal) (hNormMixRefIdeal := hNormMixRefIdeal) (hPre_norm_mix_finite := hPre_norm_mix_finite)
    ∧ preserves_NormFwd_NormFwdIdeal
    ∧ algebraic_NormFwdIdeal_NormFwdRefIdeal (hNormFwdIdeal := hNormFwdIdeal) (hNormFwdRefIdeal := hNormFwdRefIdeal)
-- ==== Pre_attn_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v14 : IVec S_ 1) (main_v15 : FVec F S4096x8x128 .f32) (main_cst_5 : FVec F S_ .f32) : IVec S_ 1 :=
  let main_v16 : FVec F S4096x8x128 .f32 := broadcastInDim S4096x8x128 ![] bcast_S_S4096x8x128 main_cst_5
  let main_v17 : IVec S4096x8x128 1 := cmpf .olt main_v15 main_v16
  let main_c_6 : IVec S_ 1 := constantI S_ 1 1#1
  let main_v18 : IVec S_ 1 := (fun x v => Host.reduce IntOp.andi x v reducesTo_S4096x8x128_S_d0_1_2 h_S_) main_v17 main_c_6
  let main_v19 : IVec S_ 1 := andi main_v14 main_v18
  main_v19

def fn {F : FTy → Type} [FloatOps F] (main_arg0 : FVec F S4096x8x192 .f32) (main_arg1 : FVec F S4096x8x192 .f32) (main_arg2 : FVec F S4096x8x128 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_c_0 : IVec S_ 1 := constantI S_ 1 1#1
  let main_v4 : IVec S_ 1 := andi main_c_0 main_v3
  let main_v5 : FVec F S4096x8x192 .f32 := Host.absf main_arg1
  let main_cst_1 : FVec F S_ .f32 := constant S_ .f32 0x7F800000#32
  let main_v6 : FVec F S4096x8x192 .f32 := broadcastInDim S4096x8x192 ![] bcast_S_S4096x8x192 main_cst_1
  let main_v7 : IVec S4096x8x192 1 := cmpf .olt main_v5 main_v6
  let main_c_2 : IVec S_ 1 := constantI S_ 1 1#1
  let main_v8 : IVec S_ 1 := (fun x v => Host.reduce IntOp.andi x v reducesTo_S4096x8x192_S_d0_1_2 h_S_) main_v7 main_c_2
  let main_v9 : IVec S_ 1 := andi main_v4 main_v8
  let main_v10 : FVec F S4096x8x128 .f32 := Host.absf main_arg2
  let main_cst_3 : FVec F S_ .f32 := constant S_ .f32 0x7F800000#32
  let main_v11 : FVec F S4096x8x128 .f32 := broadcastInDim S4096x8x128 ![] bcast_S_S4096x8x128 main_cst_3
  let main_v12 : IVec S4096x8x128 1 := cmpf .olt main_v10 main_v11
  let main_c_4 : IVec S_ 1 := constantI S_ 1 1#1
  let main_v13 : IVec S_ 1 := (fun x v => Host.reduce IntOp.andi x v reducesTo_S4096x8x128_S_d0_1_2 h_S_) main_v12 main_c_4
  let main_v14 : IVec S_ 1 := andi main_v9 main_v13
  let main_v15 : FVec F S4096x8x128 .f32 := Host.absf main_arg3
  let main_cst_5 : FVec F S_ .f32 := constant S_ .f32 0x7F800000#32
  fn_part1 (F := F) main_v14 main_v15 main_cst_5
-- ==== Pre_attn_fwd_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn {F : FTy → Type} [FloatOps F] (main_arg0 : FVec F S4096x8x192 .f32) (main_arg1 : FVec F S4096x8x192 .f32) (main_arg2 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_c_0 : IVec S_ 1 := constantI S_ 1 1#1
  let main_v4 : IVec S_ 1 := andi main_c_0 main_v3
  let main_v5 : FVec F S4096x8x192 .f32 := Host.absf main_arg1
  let main_cst_1 : FVec F S_ .f32 := constant S_ .f32 0x7F800000#32
  let main_v6 : FVec F S4096x8x192 .f32 := broadcastInDim S4096x8x192 ![] bcast_S_S4096x8x192 main_cst_1
  let main_v7 : IVec S4096x8x192 1 := cmpf .olt main_v5 main_v6
  let main_c_2 : IVec S_ 1 := constantI S_ 1 1#1
  let main_v8 : IVec S_ 1 := (fun x v => Host.reduce IntOp.andi x v reducesTo_S4096x8x192_S_d0_1_2 h_S_) main_v7 main_c_2
  let main_v9 : IVec S_ 1 := andi main_v4 main_v8
  let main_v10 : FVec F S4096x8x128 .f32 := Host.absf main_arg2
  let main_cst_3 : FVec F S_ .f32 := constant S_ .f32 0x7F800000#32
  let main_v11 : FVec F S4096x8x128 .f32 := broadcastInDim S4096x8x128 ![] bcast_S_S4096x8x128 main_cst_3
  let main_v12 : IVec S4096x8x128 1 := cmpf .olt main_v10 main_v11
  let main_c_4 : IVec S_ 1 := constantI S_ 1 1#1
  let main_v13 : IVec S_ 1 := (fun x v => Host.reduce IntOp.andi x v reducesTo_S4096x8x128_S_d0_1_2 h_S_) main_v12 main_c_4
  let main_v14 : IVec S_ 1 := andi main_v9 main_v13
  main_v14
-- ==== Pre_ffn_finite.lean ====
abbrev S4096x1024 : Shape := ⟨2, ![4096, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x1024 .f32) (main_arg1 : FVec F S1024x5632 .f32) (main_arg2 : FVec F S3x5632 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S3x5632 .f32 := Host.absf main_arg2
  let main_cst_3 : FVec F S_ .f32 := constant S_ .f32 0x7F800000#32
  let main_v11 : FVec F S3x5632 .f32 := broadcastInDim S3x5632 ![] bcast_S_S3x5632 main_cst_3
  let main_v12 : IVec S3x5632 1 := cmpf .olt main_v10 main_v11
  let main_c_4 : IVec S_ 1 := constantI S_ 1 1#1
  let main_v13 : IVec S_ 1 := (fun x v => Host.reduce IntOp.andi x v reducesTo_S3x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_v14 main_v15 main_cst_5
-- ==== Pre_kv_finite.lean ====
abbrev S4096x1024 : Shape := ⟨2, ![4096, 1024]⟩
abbrev S1024 : Shape := ⟨1, ![1024]⟩
abbrev S1024x320 : Shape := ⟨2, ![1024, 320]⟩
abbrev S256 : Shape := ⟨1, ![256]⟩
abbrev S256x2048 : Shape := ⟨2, ![256, 2048]⟩
abbrev S4096x32 : Shape := ⟨2, ![4096, 32]⟩
abbrev S4096x8x192 : Shape := ⟨3, ![4096, 8, 192]⟩
abbrev S4096x8x128 : Shape := ⟨3, ![4096, 8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x320 : S_.BroadcastsInDim S1024x320 (![] : Fin 0 → Fin S1024x320.rank)
  reducesTo_S1024x320_S_d0_1 : S1024x320.ReducesTo [0, 1] S_
  bcast_S_S256 : S_.BroadcastsInDim S256 (![] : Fin 0 → Fin S256.rank)
  reducesTo_S256_S_d0 : S256.ReducesTo [0] S_
  bcast_S_S256x2048 : S_.BroadcastsInDim S256x2048 (![] : Fin 0 → Fin S256x2048.rank)
  reducesTo_S256x2048_S_d0_1 : S256x2048.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x8x192 : S_.BroadcastsInDim S4096x8x192 (![] : Fin 0 → Fin S4096x8x192.rank)
  reducesTo_S4096x8x192_S_d0_1_2 : S4096x8x192.ReducesTo [0, 1, 2] S_
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part3 {F : FTy → Type} [FloatOps F] (main_v49 : IVec S_ 1) (main_v50 : FVec F S4096x8x128 .f32) : IVec S_ 1 :=
  let main_cst_19 : FVec F S_ .f32 := constant S_ .f32 0x7F800000#32
  let main_v51 : FVec F S4096x8x128 .f32 := broadcastInDim S4096x8x128 ![] bcast_S_S4096x8x128 main_cst_19
  let main_v52 : IVec S4096x8x128 1 := cmpf .olt main_v50 main_v51
  let main_c_20 : IVec S_ 1 := constantI S_ 1 1#1
  let main_v53 : IVec S_ 1 := (fun x v => Host.reduce IntOp.andi x v reducesTo_S4096x8x128_S_d0_1_2 h_S_) main_v52 main_c_20
  let main_v54 : IVec S_ 1 := andi main_v49 main_v53
  main_v54

def fn_part2 {F : FTy → Type} [FloatOps F] (main_arg7 : FVec F S4096x8x192 .f32) (main_arg8 : FVec F S4096x8x192 .f32) (main_arg9 : FVec F S4096x8x128 .f32) (main_arg10 : FVec F S4096x8x128 .f32) (main_v29 : IVec S_ 1) (main_v32 : IVec S4096x32 1) (main_c_12 : IVec S_ 1) : IVec S_ 1 :=
  let main_v33 : IVec S_ 1 := (fun x v => Host.reduce IntOp.andi x v reducesTo_S4096x32_S_d0_1 h_S_) main_v32 main_c_12
  let main_v34 : IVec S_ 1 := andi main_v29 main_v33
  let main_v35 : FVec F S4096x8x192 .f32 := Host.absf main_arg7
  let main_cst_13 : FVec F S_ .f32 := constant S_ .f32 0x7F800000#32
  let main_v36 : FVec F S4096x8x192 .f32 := broadcastInDim S4096x8x192 ![] bcast_S_S4096x8x192 main_cst_13
  let main_v37 : IVec S4096x8x192 1 := cmpf .olt main_v35 main_v36
  let main_c_14 : IVec S_ 1 := constantI S_ 1 1#1
  let main_v38 : IVec S_ 1 := (fun x v => Host.reduce IntOp.andi x v reducesTo_S4096x8x192_S_d0_1_2 h_S_) main_v37 main_c_14
  let main_v39 : IVec S_ 1 := andi main_v34 main_v38
  let main_v40 : FVec F S4096x8x192 .f32 := Host.absf main_arg8
  let main_cst_15 : FVec F S_ .f32 := constant S_ .f32 0x7F800000#32
  let main_v41 : FVec F S4096x8x192 .f32 := broadcastInDim S4096x8x192 ![] bcast_S_S4096x8x192 main_cst_15
  let main_v42 : IVec S4096x8x192 1 := cmpf .olt main_v40 main_v41
  let main_c_16 : IVec S_ 1 := constantI S_ 1 1#1
  let main_v43 : IVec S_ 1 := (fun x v => Host.reduce IntOp.andi x v reducesTo_S4096x8x192_S_d0_1_2 h_S_) main_v42 main_c_16
  let main_v44 : IVec S_ 1 := andi main_v39 main_v43
  let main_v45 : FVec F S4096x8x128 .f32 := Host.absf main_arg9
  let main_cst_17 : FVec F S_ .f32 := constant S_ .f32 0x7F800000#32
  let main_v46 : FVec F S4096x8x128 .f32 := broadcastInDim S4096x8x128 ![] bcast_S_S4096x8x128 main_cst_17
  let main_v47 : IVec S4096x8x128 1 := cmpf .olt main_v45 main_v46
  let main_c_18 : IVec S_ 1 := constantI S_ 1 1#1
  let main_v48 : IVec S_ 1 := (fun x v => Host.reduce IntOp.andi x v reducesTo_S4096x8x128_S_d0_1_2 h_S_) main_v47 main_c_18
  let main_v49 : IVec S_ 1 := andi main_v44 main_v48
  let main_v50 : FVec F S4096x8x128 .f32 := Host.absf main_arg10
  fn_part3 (F := F) main_v49 main_v50

def fn_part1 {F : FTy → Type} [FloatOps F] (main_arg4 : FVec F S256x2048 .f32) (main_arg5 : FVec F S4096x32 .f32) (main_arg6 : FVec F S4096x32 .f32) (main_arg7 : FVec F S4096x8x192 .f32) (main_arg8 : FVec F S4096x8x192 .f32) (main_arg9 : FVec F S4096x8x128 .f32) (main_arg10 : FVec F S4096x8x128 .f32) (main_v14 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S256x2048 .f32 := Host.absf main_arg4
  let main_cst_7 : FVec F S_ .f32 := constant S_ .f32 0x7F800000#32
  let main_v21 : FVec F S256x2048 .f32 := broadcastInDim S256x2048 ![] bcast_S_S256x2048 main_cst_7
  let main_v22 : IVec S256x2048 1 := cmpf .olt main_v20 main_v21
  let main_c_8 : IVec S_ 1 := constantI S_ 1 1#1
  let main_v23 : IVec S_ 1 := (fun x v => Host.reduce IntOp.andi x v reducesTo_S256x2048_S_d0_1 h_S_) main_v22 main_c_8
  let main_v24 : IVec S_ 1 := andi main_v19 main_v23
  let main_v25 : FVec F S4096x32 .f32 := Host.absf main_arg5
  let main_cst_9 : FVec F S_ .f32 := constant S_ .f32 0x7F800000#32
  let main_v26 : FVec F S4096x32 .f32 := broadcastInDim S4096x32 ![] bcast_S_S4096x32 main_cst_9
  let main_v27 : IVec S4096x32 1 := cmpf .olt main_v25 main_v26
  let main_c_10 : IVec S_ 1 := constantI S_ 1 1#1
  let main_v28 : IVec S_ 1 := (fun x v => Host.reduce IntOp.andi x v reducesTo_S4096x32_S_d0_1 h_S_) main_v27 main_c_10
  let main_v29 : IVec S_ 1 := andi main_v24 main_v28
  let main_v30 : FVec F S4096x32 .f32 := Host.absf main_arg6
  let main_cst_11 : FVec F S_ .f32 := constant S_ .f32 0x7F800000#32
  let main_v31 : FVec F S4096x32 .f32 := broadcastInDim S4096x32 ![] bcast_S_S4096x32 main_cst_11
  let main_v32 : IVec S4096x32 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S4096x1024 .f32) (main_arg1 : FVec F S1024 .f32) (main_arg2 : FVec F S1024x320 .f32) (main_arg3 : FVec F S256 .f32) (main_arg4 : FVec F S256x2048 .f32) (main_arg5 : FVec F S4096x32 .f32) (main_arg6 : FVec F S4096x32 .f32) (main_arg7 : FVec F S4096x8x192 .f32) (main_arg8 : FVec F S4096x8x192 .f32) (main_arg9 : FVec F S4096x8x128 .f32) (main_arg10 : FVec F S4096x8x128 .f32) (main_arg11 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x320 .f32 := Host.absf main_arg2
  let main_cst_3 : FVec F S_ .f32 := constant S_ .f32 0x7F800000#32
  let main_v11 : FVec F S1024x320 .f32 := broadcastInDim S1024x320 ![] bcast_S_S1024x320 main_cst_3
  let main_v12 : IVec S1024x320 1 := cmpf .olt main_v10 main_v11
  let main_c_4 : IVec S_ 1 := constantI S_ 1 1#1
  let main_v13 : IVec S_ 1 := (fun x v => Host.reduce IntOp.andi x v reducesTo_S1024x320_S_d0_1 h_S_) main_v12 main_c_4
  let main_v14 : IVec S_ 1 := andi main_v9 main_v13
  let main_v15 : FVec F S256 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x2816 .f32) (main_arg1 : FVec F S2816x1024 .f32) (main_arg2 : FVec F S4096x1024 .f32) (main_arg3 : FVec F S1024 .f32) (main_arg4 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_c_0 : IVec S_ 1 := constantI S_ 1 1#1
  let main_v4 : IVec S_ 1 := andi main_c_0 main_v3
  let main_v5 : FVec F S2816x1024 .f32 := Host.absf main_arg1
  let main_cst_1 : FVec F S_ .f32 := constant S_ .f32 0x7F800000#32
  let main_v6 : FVec F S2816x1024 .f32 := broadcastInDim S2816x1024 ![] bcast_S_S2816x1024 main_cst_1
  let main_v7 : IVec S2816x1024 1 := cmpf .olt main_v5 main_v6
  let main_c_2 : IVec S_ 1 := constantI S_ 1 1#1
  let main_v8 : IVec S_ 1 := (fun x v => Host.reduce IntOp.andi x v reducesTo_S2816x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_v14 main_v15 main_cst_5
-- ==== Pre_mixer_finite.lean ====
abbrev S4096x1024 : Shape := ⟨2, ![4096, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4096x1024 .f32) (main_v14 : IVec S_ 1) (main_v15 : FVec F S1024x1024 .f32) (main_cst_5 : FVec F S_ .f32) : IVec S_ 1 :=
  let main_v16 : FVec F S1024x1024 .f32 := broadcastInDim S1024x1024 ![] bcast_S_S1024x1024 main_cst_5
  let main_v17 : IVec S1024x1024 1 := cmpf .olt main_v15 main_v16
  let main_c_6 : IVec S_ 1 := constantI S_ 1 1#1
  let main_v18 : IVec S_ 1 := (fun x v => Host.reduce IntOp.andi x v reducesTo_S1024x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x1024 .f32) (main_arg1 : FVec F S1024x3072 .f32) (main_arg2 : FVec F S3x1024 .f32) (main_arg3 : FVec F S1024x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x3072 .f32 := Host.absf main_arg1
  let main_cst_1 : FVec F S_ .f32 := constant S_ .f32 0x7F800000#32
  let main_v6 : FVec F S1024x3072 .f32 := broadcastInDim S1024x3072 ![] bcast_S_S1024x3072 main_cst_1
  let main_v7 : IVec S1024x3072 1 := cmpf .olt main_v5 main_v6
  let main_c_2 : IVec S_ 1 := constantI S_ 1 1#1
  let main_v8 : IVec S_ 1 := (fun x v => Host.reduce IntOp.andi x v reducesTo_S1024x3072_S_d0_1 h_S_) main_v7 main_c_2
  let main_v9 : IVec S_ 1 := andi main_v4 main_v8
  let main_v10 : FVec F S3x1024 .f32 := Host.absf main_arg2
  let main_cst_3 : FVec F S_ .f32 := constant S_ .f32 0x7F800000#32
  let main_v11 : FVec F S3x1024 .f32 := broadcastInDim S3x1024 ![] bcast_S_S3x1024 main_cst_3
  let main_v12 : IVec S3x1024 1 := cmpf .olt main_v10 main_v11
  let main_c_4 : IVec S_ 1 := constantI S_ 1 1#1
  let main_v13 : IVec S_ 1 := (fun x v => Host.reduce IntOp.andi x v reducesTo_S3x1024_S_d0_1 h_S_) main_v12 main_c_4
  let main_v14 : IVec S_ 1 := andi main_v9 main_v13
  let main_v15 : FVec F S1024x1024 .f32 := Host.absf main_arg3
  let main_cst_5 : FVec F S_ .f32 := constant S_ .f32 0x7F800000#32
  fn_part1 (F := F) main_arg4 main_v14 main_v15 main_cst_5
-- ==== Pre_norm_in_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v14 : IVec S_ 1) (main_v15 : FVec F S4096x5632 .f32) (main_cst_5 : FVec F S_ .f32) : IVec S_ 1 :=
  let main_v16 : FVec F S4096x5632 .f32 := broadcastInDim S4096x5632 ![] bcast_S_S4096x5632 main_cst_5
  let main_v17 : IVec S4096x5632 1 := cmpf .olt main_v15 main_v16
  let main_c_6 : IVec S_ 1 := constantI S_ 1 1#1
  let main_v18 : IVec S_ 1 := (fun x v => Host.reduce IntOp.andi x v reducesTo_S4096x5632_S_d0_1 h_S_) main_v17 main_c_6
  let main_v19 : IVec S_ 1 := andi main_v14 main_v18
  main_v19

def fn {F : FTy → Type} [FloatOps F] (main_arg0 : FVec F S4096x1024 .f32) (main_arg1 : FVec F S1024 .f32) (main_arg2 : FVec F S1024x5632 .f32) (main_arg3 : FVec F S4096x5632 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S4096x5632 .f32 := Host.absf main_arg3
  let main_cst_5 : FVec F S_ .f32 := constant S_ .f32 0x7F800000#32
  fn_part1 (F := F) main_v14 main_v15 main_cst_5
-- ==== Pre_norm_mix_finite.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_v14 : IVec S_ 1) (main_v15 : FVec F S4096x3072 .f32) (main_cst_5 : FVec F S_ .f32) : IVec S_ 1 :=
  let main_v16 : FVec F S4096x3072 .f32 := broadcastInDim S4096x3072 ![] bcast_S_S4096x3072 main_cst_5
  let main_v17 : IVec S4096x3072 1 := cmpf .olt main_v15 main_v16
  let main_c_6 : IVec S_ 1 := constantI S_ 1 1#1
  let main_v18 : IVec S_ 1 := (fun x v => Host.reduce IntOp.andi x v reducesTo_S4096x3072_S_d0_1 h_S_) main_v17 main_c_6
  let main_v19 : IVec S_ 1 := andi main_v14 main_v18
  main_v19

def fn {F : FTy → Type} [FloatOps F] (main_arg0 : FVec F S4096x1024 .f32) (main_arg1 : FVec F S1024 .f32) (main_arg2 : FVec F S1024x3072 .f32) (main_arg3 : FVec F S4096x3072 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x3072 .f32 := Host.absf main_arg2
  let main_cst_3 : FVec F S_ .f32 := constant S_ .f32 0x7F800000#32
  let main_v11 : FVec F S1024x3072 .f32 := broadcastInDim S1024x3072 ![] bcast_S_S1024x3072 main_cst_3
  let main_v12 : IVec S1024x3072 1 := cmpf .olt main_v10 main_v11
  let main_c_4 : IVec S_ 1 := constantI S_ 1 1#1
  let main_v13 : IVec S_ 1 := (fun x v => Host.reduce IntOp.andi x v reducesTo_S1024x3072_S_d0_1 h_S_) main_v12 main_c_4
  let main_v14 : IVec S_ 1 := andi main_v9 main_v13
  let main_v15 : FVec F S4096x3072 .f32 := Host.absf main_arg3
  let main_cst_5 : FVec F S_ .f32 := constant S_ .f32 0x7F800000#32
  fn_part1 (F := F) main_v14 main_v15 main_cst_5
-- ==== Pre_q_finite.lean ====
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S4096x32 : Shape := ⟨2, ![4096, 32]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x1536 : S_.BroadcastsInDim S4096x1536 (![] : Fin 0 → Fin S4096x1536.rank)
  reducesTo_S4096x1536_S_d0_1 : S4096x1536.ReducesTo [0, 1] S_

variable [Facts]

def fn_part2 {F : FTy → Type} [FloatOps F] (main_arg7 : FVec F S4096x1536 .f32) (main_v29 : IVec S_ 1) (main_v32 : IVec S4096x32 1) (main_c_12 : IVec S_ 1) : IVec S_ 1 :=
  let main_v33 : IVec S_ 1 := (fun x v => Host.reduce IntOp.andi x v reducesTo_S4096x32_S_d0_1 h_S_) main_v32 main_c_12
  let main_v34 : IVec S_ 1 := andi main_v29 main_v33
  let main_v35 : FVec F S4096x1536 .f32 := Host.absf main_arg7
  let main_cst_13 : FVec F S_ .f32 := constant S_ .f32 0x7F800000#32
  let main_v36 : FVec F S4096x1536 .f32 := broadcastInDim S4096x1536 ![] bcast_S_S4096x1536 main_cst_13
  let main_v37 : IVec S4096x1536 1 := cmpf .olt main_v35 main_v36
  let main_c_14 : IVec S_ 1 := constantI S_ 1 1#1
  let main_v38 : IVec S_ 1 := (fun x v => Host.reduce IntOp.andi x v reducesTo_S4096x1536_S_d0_1 h_S_) main_v37 main_c_14
  let main_v39 : IVec S_ 1 := andi main_v34 main_v38
  main_v39

def fn_part1 {F : FTy → Type} [FloatOps F] (main_arg4 : FVec F S512x1536 .f32) (main_arg5 : FVec F S4096x32 .f32) (main_arg6 : FVec F S4096x32 .f32) (main_arg7 : FVec F S4096x1536 .f32) (main_v14 : IVec S_ 1) (main_v15 : FVec F S512 .f32) (main_cst_5 : FVec F S_ .f32) : IVec S_ 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S512x1536 .f32 := Host.absf main_arg4
  let main_cst_7 : FVec F S_ .f32 := constant S_ .f32 0x7F800000#32
  let main_v21 : FVec F S512x1536 .f32 := broadcastInDim S512x1536 ![] bcast_S_S512x1536 main_cst_7
  let main_v22 : IVec S512x1536 1 := cmpf .olt main_v20 main_v21
  let main_c_8 : IVec S_ 1 := constantI S_ 1 1#1
  let main_v23 : IVec S_ 1 := (fun x v => Host.reduce IntOp.andi x v reducesTo_S512x1536_S_d0_1 h_S_) main_v22 main_c_8
  let main_v24 : IVec S_ 1 := andi main_v19 main_v23
  let main_v25 : FVec F S4096x32 .f32 := Host.absf main_arg5
  let main_cst_9 : FVec F S_ .f32 := constant S_ .f32 0x7F800000#32
  let main_v26 : FVec F S4096x32 .f32 := broadcastInDim S4096x32 ![] bcast_S_S4096x32 main_cst_9
  let main_v27 : IVec S4096x32 1 := cmpf .olt main_v25 main_v26
  let main_c_10 : IVec S_ 1 := constantI S_ 1 1#1
  let main_v28 : IVec S_ 1 := (fun x v => Host.reduce IntOp.andi x v reducesTo_S4096x32_S_d0_1 h_S_) main_v27 main_c_10
  let main_v29 : IVec S_ 1 := andi main_v24 main_v28
  let main_v30 : FVec F S4096x32 .f32 := Host.absf main_arg6
  let main_cst_11 : FVec F S_ .f32 := constant S_ .f32 0x7F800000#32
  let main_v31 : FVec F S4096x32 .f32 := broadcastInDim S4096x32 ![] bcast_S_S4096x32 main_cst_11
  let main_v32 : IVec S4096x32 1 := cmpf .olt main_v30 main_v31
  let main_c_12 : IVec S_ 1 := constantI S_ 1 1#1
  fn_part2 (F := F) main_arg7 main_v29 main_v32 main_c_12

def fn {F : FTy → Type} [FloatOps F] (main_arg0 : FVec F S4096x1024 .f32) (main_arg1 : FVec F S1024 .f32) (main_arg2 : FVec F S1024x512 .f32) (main_arg3 : FVec F S512 .f32) (main_arg4 : FVec F S512x1536 .f32) (main_arg5 : FVec F S4096x32 .f32) (main_arg6 : FVec F S4096x32 .f32) (main_arg7 : FVec F S4096x1536 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x512 .f32 := Host.absf main_arg2
  let main_cst_3 : FVec F S_ .f32 := constant S_ .f32 0x7F800000#32
  let main_v11 : FVec F S1024x512 .f32 := broadcastInDim S1024x512 ![] bcast_S_S1024x512 main_cst_3
  let main_v12 : IVec S1024x512 1 := cmpf .olt main_v10 main_v11
  let main_c_4 : IVec S_ 1 := constantI S_ 1 1#1
  let main_v13 : IVec S_ 1 := (fun x v => Host.reduce IntOp.andi x v reducesTo_S1024x512_S_d0_1 h_S_) main_v12 main_c_4
  let main_v14 : IVec S_ 1 := andi main_v9 main_v13
  let main_v15 : FVec F S512 .f32 := Host.absf main_arg3
  let main_cst_5 : FVec F S_ .f32 := constant S_ .f32 0x7F800000#32
  fn_part1 (F := F) main_arg4 main_arg5 main_arg6 main_arg7 main_v14 main_v15 main_cst_5
-- ==== Attn.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x256 : Shape := ⟨3, ![8, 4096, 256]⟩
abbrev S8x4096x128 : Shape := ⟨3, ![8, 4096, 128]⟩
abbrev S4096x1024 : Shape := ⟨2, ![4096, 1024]⟩
abbrev S1x4096x256 : Shape := ⟨3, ![1, 4096, 256]⟩
abbrev S1x1024x256 : Shape := ⟨3, ![1, 1024, 256]⟩
abbrev S1x1024x128 : Shape := ⟨3, ![1, 1024, 128]⟩
abbrev S4096x128 : Shape := ⟨2, ![4096, 128]⟩
abbrev S1x4096x128 : Shape := ⟨3, ![1, 4096, 128]⟩
abbrev S4096x256 : Shape := ⟨2, ![4096, 256]⟩
abbrev S1024x256 : Shape := ⟨2, ![1024, 256]⟩
abbrev S1024x128 : Shape := ⟨2, ![1024, 128]⟩
abbrev S1x512x256 : Shape := ⟨3, ![1, 512, 256]⟩
abbrev S512x256 : Shape := ⟨2, ![512, 256]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S512x512 : Shape := ⟨2, ![512, 512]⟩
abbrev S1x1024x1 : Shape := ⟨3, ![1, 1024, 1]⟩
abbrev S1024x1 : Shape := ⟨2, ![1024, 1]⟩
abbrev S1024 : Shape := ⟨1, ![1024]⟩
abbrev S1024x512 : Shape := ⟨2, ![1024, 512]⟩

abbrev nBuf : Space → Nat
  | .hbm => 52
  | .vmem => 21
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x128x4096, .f32⟩
  | .hbm, ⟨28, _⟩ => ⟨S4096x8x128, .f32⟩
  | .hbm, ⟨29, _⟩ => ⟨S8x4096, .f32⟩
  | .hbm, ⟨30, _⟩ => ⟨S8x4096, .f32⟩
  | .hbm, ⟨31, _⟩ => ⟨S8x4096x192, .f32⟩
  | .hbm, ⟨32, _⟩ => ⟨S8x4096x192, .bf16⟩
  | .hbm, ⟨33, _⟩ => ⟨S_, .i32⟩
  | .hbm, ⟨34, _⟩ => ⟨S_, .bf16⟩
  | .hbm, ⟨35, _⟩ => ⟨S8x4096x256, .bf16⟩
  | .hbm, ⟨36, _⟩ => ⟨S8x4096x192, .f32⟩
  | .hbm, ⟨37, _⟩ => ⟨S8x4096x192, .bf16⟩
  | .hbm, ⟨38, _⟩ => ⟨S_, .i32⟩
  | .hbm, ⟨39, _⟩ => ⟨S_, .bf16⟩
  | .hbm, ⟨40, _⟩ => ⟨S8x4096x256, .bf16⟩
  | .hbm, ⟨41, _⟩ => ⟨S8x4096x128, .f32⟩
  | .hbm, ⟨42, _⟩ => ⟨S8x4096x128, .bf16⟩
  | .hbm, ⟨43, _⟩ => ⟨S4096x1024, .f32⟩
  | .hbm, ⟨44, _⟩ => ⟨S4096x1024, .bf16⟩
  | .hbm, ⟨45, _⟩ => ⟨S4096x8x128, .bf16⟩
  | .hbm, ⟨46, _⟩ => ⟨S4096x1024, .bf16⟩
  | .hbm, ⟨47, _⟩ => ⟨S8x4096x1, .f32⟩
  | .hbm, ⟨48, _⟩ => ⟨S8x4096x128, .f32⟩
  | .hbm, ⟨49, _⟩ => ⟨S8x4096x256, .bf16⟩
  | .hbm, ⟨50, _⟩ => ⟨S8x4096x256, .bf16⟩
  | .hbm, ⟨51, _⟩ => ⟨S8x4096x128, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S1x4096x256, .bf16⟩
  | .local _ .vmem, ⟨13, _⟩ => ⟨S1x4096x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S4096x256, .f32⟩
  | .local _ .vmem, ⟨19, _⟩ => ⟨S1024x256, .f32⟩
  | .local _ .vmem, ⟨20, _⟩ => ⟨S1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_call2_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  v4
def k0_off1 (i : grid0.Coords) : Fin 3 → Nat :=
  let c0 : Index := 0#32
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v6 : Index := Scalar.indexCast v5
  let c0_1 : Index := 0#32
  ![0, v6.toNat, 0]
def k0_off2 (i : grid0.Coords) : Fin 2 → Nat :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v9 : Index := Scalar.indexCast v5
  let c0_2 : Index := 0#32
  ![v9.toNat, 0]
def k0_off3 (i : grid0.Coords) : Fin 3 → Nat :=
  let c0_3 : Index := 0#32
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v12 : Index := Scalar.indexCast v5
  let c0_4 : Index := 0#32
  ![0, v12.toNat, 0]
def k0_off4 (i : grid0.Coords) : Fin 2 → Nat :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v45 : Index := Scalar.indexCast v5
  let c0_18 : Index := 0#32
  ![v45.toNat, 0]
def k0_mult2 (i : grid0.Coords) : BitVec 32 :=
  let c2_i32_20 : BitVec 32 := 2#32
  let arg1 : BitVec 32 := BitVec.ofNat 32 (i 1).val
  let v52 : BitVec 32 := Scalar.muli c2_i32_20 arg1
  let c1_i32 : BitVec 32 := 1#32
  let v53 : BitVec 32 := Scalar.addi v52 c1_i32
  let c512_i32_21 : BitVec 32 := 512#32
  let v54 : BitVec 32 := Scalar.muli v53 c512_i32_21
  v54
def k0_off5 (i : grid0.Coords) : Fin 3 → Nat :=
  let c0_22 : Index := 0#32
  let c2_i32_20 : BitVec 32 := 2#32
  let arg1 : BitVec 32 := BitVec.ofNat 32 (i 1).val
  let v52 : BitVec 32 := Scalar.muli c2_i32_20 arg1
  let c1_i32 : BitVec 32 := 1#32
  let v53 : BitVec 32 := Scalar.addi v52 c1_i32
  let c512_i32_21 : BitVec 32 := 512#32
  let v54 : BitVec 32 := Scalar.muli v53 c512_i32_21
  let v55 : BitVec 32 := v54
  let v56 : Index := Scalar.indexCast v55
  let c0_23 : Index := 0#32
  ![0, v56.toNat, 0]
def k0_off6 (i : grid0.Coords) : Fin 2 → Nat :=
  let c2_i32_20 : BitVec 32 := 2#32
  let arg1 : BitVec 32 := BitVec.ofNat 32 (i 1).val
  let v52 : BitVec 32 := Scalar.muli c2_i32_20 arg1
  let c1_i32 : BitVec 32 := 1#32
  let v53 : BitVec 32 := Scalar.addi v52 c1_i32
  let c512_i32_21 : BitVec 32 := 512#32
  let v54 : BitVec 32 := Scalar.muli v53 c512_i32_21
  let v55 : BitVec 32 := v54
  let v59 : Index := Scalar.indexCast v55
  let c0_24 : Index := 0#32
  ![v59.toNat, 0]
def k0_off7 (i : grid0.Coords) : Fin 3 → Nat :=
  let c0_25 : Index := 0#32
  let c2_i32_20 : BitVec 32 := 2#32
  let arg1 : BitVec 32 := BitVec.ofNat 32 (i 1).val
  let v52 : BitVec 32 := Scalar.muli c2_i32_20 arg1
  let c1_i32 : BitVec 32 := 1#32
  let v53 : BitVec 32 := Scalar.addi v52 c1_i32
  let c512_i32_21 : BitVec 32 := 512#32
  let v54 : BitVec 32 := Scalar.muli v53 c512_i32_21
  let v55 : BitVec 32 := v54
  let v62 : Index := Scalar.indexCast v55
  let c0_26 : Index := 0#32
  ![0, v62.toNat, 0]
def k0_off8 (i : grid0.Coords) : Fin 2 → Nat :=
  let c2_i32_20 : BitVec 32 := 2#32
  let arg1 : BitVec 32 := BitVec.ofNat 32 (i 1).val
  let v52 : BitVec 32 := Scalar.muli c2_i32_20 arg1
  let c1_i32 : BitVec 32 := 1#32
  let v53 : BitVec 32 := Scalar.addi v52 c1_i32
  let c512_i32_21 : BitVec 32 := 512#32
  let v54 : BitVec 32 := Scalar.muli v53 c512_i32_21
  let v55 : BitVec 32 := v54
  let v113 : Index := Scalar.indexCast v55
  let c0_51 : Index := 0#32
  ![v113.toNat, 0]
@[reducible] def k0_t1_loop (i : grid0.Coords) : Scf.Loop 32 :=
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_64 : BitVec 32 := 1#32
  ⟨v134, v139, c1_i32_64⟩
def k0_mult3 (i : grid0.Coords) (k0_t1 : Fin (k0_t1_loop i).trips) : BitVec 32 :=
  let arg1 : BitVec 32 := BitVec.ofNat 32 (i 1).val
  let c1_i32_61 : BitVec 32 := 1#32
  let v134 : BitVec 32 := Scalar.addi arg1 c1_i32_61
  let c1_i32_64 : BitVec 32 := 1#32
  let arg14 : BitVec 32 := Scf.iv v134 c1_i32_64 k0_t1
  let c1024_i32 : BitVec 32 := 1024#32
  let v153 : BitVec 32 := Scalar.muli arg14 c1024_i32
  v153
def k0_off9 (i : grid0.Coords) (k0_t1 : Fin (k0_t1_loop i).trips) : Fin 3 → Nat :=
  let c0_77 : Index := 0#32
  let arg1 : BitVec 32 := BitVec.ofNat 32 (i 1).val
  let c1_i32_61 : BitVec 32 := 1#32
  let v134 : BitVec 32 := Scalar.addi arg1 c1_i32_61
  let c1_i32_64 : BitVec 32 := 1#32
  let arg14 : BitVec 32 := Scf.iv v134 c1_i32_64 k0_t1
  let c1024_i32 : BitVec 32 := 1024#32
  let v153 : BitVec 32 := Scalar.muli arg14 c1024_i32
  let v154 : BitVec 32 := v153
  let v155 : Index := Scalar.indexCast v154
  let c0_78 : Index := 0#32
  ![0, v155.toNat, 0]
def k0_off10 (i : grid0.Coords) (k0_t1 : Fin (k0_t1_loop i).trips) : Fin 2 → Nat :=
  let arg1 : BitVec 32 := BitVec.ofNat 32 (i 1).val
  let c1_i32_61 : BitVec 32 := 1#32
  let v134 : BitVec 32 := Scalar.addi arg1 c1_i32_61
  let c1_i32_64 : BitVec 32 := 1#32
  let arg14 : BitVec 32 := Scf.iv v134 c1_i32_64 k0_t1
  let c1024_i32 : BitVec 32 := 1024#32
  let v153 : BitVec 32 := Scalar.muli arg14 c1024_i32
  let v154 : BitVec 32 := v153
  let v158 : Index := Scalar.indexCast v154
  let c0_79 : Index := 0#32
  ![v158.toNat, 0]
def k0_off11 (i : grid0.Coords) (k0_t1 : Fin (k0_t1_loop i).trips) : Fin 3 → Nat :=
  let c0_80 : Index := 0#32
  let arg1 : BitVec 32 := BitVec.ofNat 32 (i 1).val
  let c1_i32_61 : BitVec 32 := 1#32
  let v134 : BitVec 32 := Scalar.addi arg1 c1_i32_61
  let c1_i32_64 : BitVec 32 := 1#32
  let arg14 : BitVec 32 := Scf.iv v134 c1_i32_64 k0_t1
  let c1024_i32 : BitVec 32 := 1024#32
  let v153 : BitVec 32 := Scalar.muli arg14 c1024_i32
  let v154 : BitVec 32 := v153
  let v161 : Index := Scalar.indexCast v154
  let c0_81 : Index := 0#32
  ![0, v161.toNat, 0]
def k0_off12 (i : grid0.Coords) (k0_t1 : Fin (k0_t1_loop i).trips) : Fin 2 → Nat :=
  let arg1 : BitVec 32 := BitVec.ofNat 32 (i 1).val
  let c1_i32_61 : BitVec 32 := 1#32
  let v134 : BitVec 32 := Scalar.addi arg1 c1_i32_61
  let c1_i32_64 : BitVec 32 := 1#32
  let arg14 : BitVec 32 := Scf.iv v134 c1_i32_64 k0_t1
  let c1024_i32 : BitVec 32 := 1024#32
  let v153 : BitVec 32 := Scalar.muli arg14 c1024_i32
  let v154 : BitVec 32 := v153
  let v207 : Index := Scalar.indexCast v154
  let c0_106 : Index := 0#32
  ![v207.toNat, 0]
@[reducible] def k0_t2_loop (i : grid0.Coords) : Scf.Loop 32 :=
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let v136 : BitVec 32 := Scalar.addi v134 v135
  let c1_i32_65 : BitVec 32 := 1#32
  ⟨v139, v136, c1_i32_65⟩
def k0_mult4 (i : grid0.Coords) (k0_t2 : Fin (k0_t2_loop i).trips) : BitVec 32 :=
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_65 : BitVec 32 := 1#32
  let arg14 : BitVec 32 := Scf.iv v139 c1_i32_65 k0_t2
  let c1024_i32 : BitVec 32 := 1024#32
  let v153 : BitVec 32 := Scalar.muli arg14 c1024_i32
  v153
def k0_off13 (i : grid0.Coords) (k0_t2 : Fin (k0_t2_loop i).trips) : Fin 3 → Nat :=
  let c0_77 : Index := 0#32
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_65 : BitVec 32 := 1#32
  let arg14 : BitVec 32 := Scf.iv v139 c1_i32_65 k0_t2
  let c1024_i32 : BitVec 32 := 1024#32
  let v153 : BitVec 32 := Scalar.muli arg14 c1024_i32
  let v154 : BitVec 32 := v153
  let v155 : Index := Scalar.indexCast v154
  let c0_78 : Index := 0#32
  ![0, v155.toNat, 0]
def k0_off14 (i : grid0.Coords) (k0_t2 : Fin (k0_t2_loop i).trips) : Fin 2 → Nat :=
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_65 : BitVec 32 := 1#32
  let arg14 : BitVec 32 := Scf.iv v139 c1_i32_65 k0_t2
  let c1024_i32 : BitVec 32 := 1024#32
  let v153 : BitVec 32 := Scalar.muli arg14 c1024_i32
  let v154 : BitVec 32 := v153
  let v158 : Index := Scalar.indexCast v154
  let c0_79 : Index := 0#32
  ![v158.toNat, 0]
def k0_off15 (i : grid0.Coords) (k0_t2 : Fin (k0_t2_loop i).trips) : Fin 3 → Nat :=
  let c0_80 : Index := 0#32
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_65 : BitVec 32 := 1#32
  let arg14 : BitVec 32 := Scf.iv v139 c1_i32_65 k0_t2
  let c1024_i32 : BitVec 32 := 1024#32
  let v153 : BitVec 32 := Scalar.muli arg14 c1024_i32
  let v154 : BitVec 32 := v153
  let v161 : Index := Scalar.indexCast v154
  let c0_81 : Index := 0#32
  ![0, v161.toNat, 0]
def k0_off16 (i : grid0.Coords) (k0_t2 : Fin (k0_t2_loop i).trips) : Fin 2 → Nat :=
  let arg1 : BitVec 32 := BitVec.ofNat 32 (i 1).val
  let c1_i32_61 : BitVec 32 := 1#32
  let v134 : BitVec 32 := Scalar.addi arg1 c1_i32_61
  let c4_i32 : BitVec 32 := 4#32
  let v135 : BitVec 32 := Scalar.subi c4_i32 v134
  let c1_i32_63 : BitVec 32 := 1#32
  let v137 : BitVec 32 := Scalar.divsi v135 c1_i32_63
  let v138 : BitVec 32 := Scalar.muli v137 c1_i32_63
  let v139 : BitVec 32 := Scalar.addi v134 v138
  let c1_i32_65 : BitVec 32 := 1#32
  let arg14 : BitVec 32 := Scf.iv v139 c1_i32_65 k0_t2
  let c1024_i32 : BitVec 32 := 1024#32
  let v153 : BitVec 32 := Scalar.muli arg14 c1024_i32
  let v154 : BitVec 32 := v153
  let v207 : Index := Scalar.indexCast v154
  let c0_106 : Index := 0#32
  ![v207.toNat, 0]
def k0_cond2 (i : grid0.Coords) : BitVec 1 :=
  let arg1 : BitVec 32 := BitVec.ofNat 32 (i 1).val
  let c3_i32 : BitVec 32 := 3#32
  let v150 : BitVec 1 := Scalar.cmpi .eq arg1 c3_i32
  let v151 : BitVec 32 := Scalar.extui v150
  let c0_i32_76 : BitVec 32 := 0#32
  let v152 : BitVec 1 := Scalar.cmpi .ne v151 c0_i32_76
  v152

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x64 : Shape := ⟨3, ![8, 4096, 64]⟩
abbrev S8x4096x256 : Shape := ⟨3, ![8, 4096, 256]⟩
abbrev S8x4096x128 : Shape := ⟨3, ![8, 4096, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .i1⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x128x4096, .f32⟩
  | .hbm, ⟨57, _⟩ => ⟨S4096x8x128, .f32⟩
  | .hbm, ⟨58, _⟩ => ⟨S8x128x4096, .f32⟩
  | .hbm, ⟨59, _⟩ => ⟨S8x4096x4096, .f32⟩
  | .hbm, ⟨60, _⟩ => ⟨S8x128x4096, .f32⟩
  | .hbm, ⟨61, _⟩ => ⟨S4096x8x128, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x192, .f32⟩
  | .hbm, ⟨80, _⟩ => ⟨S4096x8x192, .f32⟩
  | .hbm, ⟨81, _⟩ => ⟨S8x4096x192, .f32⟩
  | .hbm, ⟨82, _⟩ => ⟨S4096x8x192, .f32⟩
  | .hbm, ⟨83, _⟩ => ⟨S8x4096x192, .f32⟩
  | .hbm, ⟨84, _⟩ => ⟨S_, .f32⟩
  | .hbm, ⟨85, _⟩ => ⟨S8x4096x64, .f32⟩
  | .hbm, ⟨86, _⟩ => ⟨S8x4096x256, .f32⟩
  | .hbm, ⟨87, _⟩ => ⟨S8x4096x256, .bf16⟩
  | .hbm, ⟨88, _⟩ => ⟨S8x4096x192, .f32⟩
  | .hbm, ⟨89, _⟩ => ⟨S_, .f32⟩
  | .hbm, ⟨90, _⟩ => ⟨S8x4096x64, .f32⟩
  | .hbm, ⟨91, _⟩ => ⟨S8x4096x256, .f32⟩
  | .hbm, ⟨92, _⟩ => ⟨S8x4096x256, .bf16⟩
  | .hbm, ⟨93, _⟩ => ⟨S8x4096x128, .f32⟩
  | .hbm, ⟨94, _⟩ => ⟨S8x4096x128, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== NormIn.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x8x704 : Shape := ⟨3, ![1024, 8, 704]⟩
abbrev S8x1024x704 : Shape := ⟨3, ![8, 1024, 704]⟩
abbrev S4096x8x704 : Shape := ⟨3, ![4096, 8, 704]⟩
abbrev S8x4096x704 : Shape := ⟨3, ![8, 4096, 704]⟩
abbrev S1x1024 : Shape := ⟨2, ![1, 1024]⟩
abbrev S8x256x704 : Shape := ⟨3, ![8, 256, 704]⟩
abbrev S256x1024 : Shape := ⟨2, ![256, 1024]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S4096x5632, .bf16⟩
  | .hbm, ⟨9, _⟩ => ⟨S4096x8x704, .bf16⟩
  | .hbm, ⟨10, _⟩ => ⟨S8x4096x704, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S8x256x704, .bf16⟩
  | .local _ .vmem, ⟨1, _⟩ => ⟨S8x256x704, .bf16⟩
  | .local _ .vmem, ⟨2, _⟩ => ⟨S8x1024x704, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormInRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S4096x4x704, .bf16⟩
  | .hbm, ⟨7, _⟩ => ⟨S4x4096x704, .bf16⟩
  | .hbm, ⟨8, _⟩ => ⟨S2816x1024, .bf16⟩
  | .hbm, ⟨9, _⟩ => ⟨S4x704x1024, .bf16⟩
  | .hbm, ⟨10, _⟩ => ⟨S1x1024, .f32⟩
  | .hbm, ⟨11, _⟩ => ⟨S1x128, .f32⟩
  | .hbm, ⟨12, _⟩ => ⟨S4096x1024, .f32⟩
  | .hbm, ⟨13, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x128, .f32⟩
  | .hbm, ⟨76, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Mixer.lean ====
abbrev S4096x1024 : Shape := ⟨2, ![4096, 1024]⟩
abbrev S1024x3072 : Shape := ⟨2, ![1024, 3072]⟩
abbrev S3x1024 : Shape := ⟨2, ![3, 1024]⟩
abbrev S1024x1024 : Shape := ⟨2, ![1024, 1024]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩
abbrev S1x4096x1024 : Shape := ⟨3, ![1, 4096, 1024]⟩
abbrev S4x4096x1024 : Shape := ⟨3, ![4, 4096, 1024]⟩
abbrev S3x4096x1024 : Shape := ⟨3, ![3, 4096, 1024]⟩
abbrev S3x1024x1024 : Shape := ⟨3, ![3, 1024, 1024]⟩
abbrev S512x1024 : Shape := ⟨2, ![512, 1024]⟩
abbrev S4x512x512 : Shape := ⟨3, ![4, 512, 512]⟩
abbrev S512x512 : Shape := ⟨2, ![512, 512]⟩
abbrev S3x512 : Shape := ⟨2, ![3, 512]⟩
abbrev S3x512x512 : Shape := ⟨3, ![3, 512, 512]⟩
abbrev S3x1024x512 : Shape := ⟨3, ![3, 1024, 512]⟩
abbrev S8x512 : Shape := ⟨2, ![8, 512]⟩
abbrev S1x512x512 : Shape := ⟨3, ![1, 512, 512]⟩
abbrev S1x512 : Shape := ⟨2, ![1, 512]⟩
abbrev S512 : Shape := ⟨1, ![512]⟩
abbrev S1x1024x512 : Shape := ⟨3, ![1, 1024, 512]⟩
abbrev S1024x512 : Shape := ⟨2, ![1024, 512]⟩

abbrev nBuf : Space → Nat
  | .hbm => 51
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S1024x3072, .bf16⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S2x1024, .f32⟩
  | .hbm, ⟨16, _⟩ => ⟨S4094x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S1x1024, .f32⟩
  | .hbm, ⟨25, _⟩ => ⟨S4095x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S4x4096x1024, .f32⟩
  | .hbm, ⟨42, _⟩ => ⟨S4x4096x1024, .bf16⟩
  | .hbm, ⟨43, _⟩ => ⟨S4096x1024, .f32⟩
  | .hbm, ⟨44, _⟩ => ⟨S4096x1024, .bf16⟩
  | .hbm, ⟨45, _⟩ => ⟨S1024x1024, .bf16⟩
  | .hbm, ⟨46, _⟩ => ⟨S4096x1024, .bf16⟩
  | .hbm, ⟨47, _⟩ => ⟨S3x4096x1024, .bf16⟩
  | .hbm, ⟨48, _⟩ => ⟨S3x1024x1024, .bf16⟩
  | .hbm, ⟨49, _⟩ => ⟨S1024x1024, .bf16⟩
  | .hbm, ⟨50, _⟩ => ⟨S3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x512x512, .bf16⟩
  | .local _ .vmem, ⟨5, _⟩ => ⟨S4x512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S3x512, .f32⟩
  | .local _ .vmem, ⟨11, _⟩ => ⟨S3x512, .f32⟩
  | .local _ .vmem, ⟨12, _⟩ => ⟨S3x512x512, .bf16⟩
  | .local _ .vmem, ⟨13, _⟩ => ⟨S3x512x512, .bf16⟩
  | .local _ .vmem, ⟨14, _⟩ => ⟨S3x1024x512, .bf16⟩
  | .local _ .vmem, ⟨15, _⟩ => ⟨S3x1024x512, .bf16⟩
  | .local _ .vmem, ⟨16, _⟩ => ⟨S512x1024, .bf16⟩
  | .local _ .vmem, ⟨17, _⟩ => ⟨S512x1024, .bf16⟩
  | .local _ .vmem, ⟨18, _⟩ => ⟨S3x512, .f32⟩
  | .local _ .vmem, ⟨19, _⟩ => ⟨S3x512, .f32⟩
  | .local _ .vmem, ⟨20, _⟩ => ⟨S3x1024x512, .f32⟩
  | .local _ .vmem, ⟨21, _⟩ => ⟨S512x1024, .f32⟩
  | .local _ .vmem, ⟨22, _⟩ => ⟨S8x512, .f32⟩
  | .local _ .vmem, ⟨23, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev main_v40_2 : Ref sig .tc := ⟨.hbm, 49, rfl⟩
abbrev main_v40_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v129 : BitVec 1 := Scalar.cmpi .eq arg1 c7_i32
  let v130 : BitVec 32 := Scalar.extui v129
  let c0_i32_84 : BitVec 32 := 0#32
  let v131 : BitVec 1 := Scalar.cmpi .ne v130 c0_i32_84
  v131

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MixerRefIdeal.lean ====
abbrev S4096x1024 : Shape := ⟨2, ![4096, 1024]⟩
abbrev S1024x3072 : Shape := ⟨2, ![1024, 3072]⟩
abbrev S3x1024 : Shape := ⟨2, ![3, 1024]⟩
abbrev S1024x1024 : Shape := ⟨2, ![1024, 1024]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩
abbrev S3072x1024 : Shape := ⟨2, ![3072, 1024]⟩
abbrev S4096x3x1024 : Shape := ⟨3, ![4096, 3, 1024]⟩
abbrev S3x4096x1024 : Shape := ⟨3, ![3, 4096, 1024]⟩
abbrev S1024x3x1024 : Shape := ⟨3, ![1024, 3, 1024]⟩
abbrev S3x1024x1024 : Shape := ⟨3, ![3, 1024, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S2x1024, .f32⟩
  | .hbm, ⟨14, _⟩ => ⟨S4094x1024, .f32⟩
  | .hbm, ⟨15, _⟩ => ⟨S4096x1024, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S1x1024, .f32⟩
  | .hbm, ⟨25, _⟩ => ⟨S4095x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S3x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4095x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S_, .f32⟩
  | .hbm, ⟨72, _⟩ => ⟨S3x1024, .f32⟩
  | .hbm, ⟨73, _⟩ => ⟨S3x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S2x1024, .f32⟩
  | .hbm, ⟨83, _⟩ => ⟨S4094x1024, .f32⟩
  | .hbm, ⟨84, _⟩ => ⟨S_, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S_, .f32⟩
  | .hbm, ⟨89, _⟩ => ⟨S3x1024, .f32⟩
  | .hbm, ⟨90, _⟩ => ⟨S3x1024, .f32⟩
  | .hbm, ⟨91, _⟩ => ⟨S4096x1024, .f32⟩
  | .hbm, ⟨92, _⟩ => ⟨S4096x1024, .f32⟩
  | .hbm, ⟨93, _⟩ => ⟨S4096x3072, .f32⟩
  | .hbm, ⟨94, _⟩ => ⟨S3072x1024, .f32⟩
  | .hbm, ⟨95, _⟩ => ⟨S1024x3072, .f32⟩
  | .hbm, ⟨96, _⟩ => ⟨S4096x3x1024, .f32⟩
  | .hbm, ⟨97, _⟩ => ⟨S3x4096x1024, .f32⟩
  | .hbm, ⟨98, _⟩ => ⟨S3x4096x1024, .bf16⟩
  | .hbm, ⟨99, _⟩ => ⟨S1024x3x1024, .f32⟩
  | .hbm, ⟨100, _⟩ => ⟨S3x1024x1024, .f32⟩
  | .hbm, ⟨101, _⟩ => ⟨S3x1024x1024, .bf16⟩
  | .hbm, ⟨102, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Ffn.lean ====
abbrev S4096x1024 : Shape := ⟨2, ![4096, 1024]⟩
abbrev S1024x5632 : Shape := ⟨2, ![1024, 5632]⟩
abbrev S3x5632 : Shape := ⟨2, ![3, 5632]⟩
abbrev S2816x1024 : Shape := ⟨2, ![2816, 1024]⟩
abbrev S4096x5632 : Shape := ⟨2, ![4096, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S3x8x704 : Shape := ⟨3, ![3, 8, 704]⟩
abbrev S8x3x704 : Shape := ⟨3, ![8, 3, 704]⟩
abbrev S4x704x1024 : Shape := ⟨3, ![4, 704, 1024]⟩
abbrev S4096x2x4x704 : Shape := ⟨4, ![4096, 2, 4, 704]⟩
abbrev S2x4x4096x704 : Shape := ⟨4, ![2, 4, 4096, 704]⟩
abbrev S2x4x1024x704 : Shape := ⟨4, ![2, 4, 1024, 704]⟩
abbrev S2x4x3x704 : Shape := ⟨4, ![2, 4, 3, 704]⟩
abbrev S512x1024 : Shape := ⟨2, ![512, 1024]⟩
abbrev S1x704x1024 : Shape := ⟨3, ![1, 704, 1024]⟩
abbrev S2x1x512x704 : Shape := ⟨4, ![2, 1, 512, 704]⟩
abbrev S1x512x704 : Shape := ⟨3, ![1, 512, 704]⟩
abbrev S1x3x704 : Shape := ⟨3, ![1, 3, 704]⟩
abbrev S2x1x1024x704 : Shape := ⟨4, ![2, 1, 1024, 704]⟩
abbrev S2x1x3x704 : Shape := ⟨4, ![2, 1, 3, 704]⟩
abbrev S2x1024x704 : Shape := ⟨3, ![2, 1024, 704]⟩
abbrev S704x1024 : Shape := ⟨2, ![704, 1024]⟩
abbrev S2x8x704 : Shape := ⟨3, ![2, 8, 704]⟩
abbrev S512x704 : Shape := ⟨2, ![512, 704]⟩
abbrev S1x1x512x704 : Shape := ⟨4, ![1, 1, 512, 704]⟩
abbrev S1x1x704 : Shape := ⟨3, ![1, 1, 704]⟩
abbrev S1x704 : Shape := ⟨2, ![1, 704]⟩
abbrev S8x704 : Shape := ⟨2, ![8, 704]⟩
abbrev S1x8x704 : Shape := ⟨3, ![1, 8, 704]⟩
abbrev S704 : Shape := ⟨1, ![704]⟩
abbrev S1x1024x704 : Shape := ⟨3, ![1, 1024, 704]⟩
abbrev S1024x704 : Shape := ⟨2, ![1024, 704]⟩
abbrev S2x3x704 : Shape := ⟨3, ![2, 3, 704]⟩

abbrev nBuf : Space → Nat
  | .hbm => 63
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S1024x5632, .bf16⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S_, .f32⟩
  | .hbm, ⟨11, _⟩ => ⟨S2x5632, .f32⟩
  | .hbm, ⟨12, _⟩ => ⟨S4094x5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x4x704, .f32⟩
  | .hbm, ⟨46, _⟩ => ⟨S4x4096x704, .f32⟩
  | .hbm, ⟨47, _⟩ => ⟨S4x4096x704, .bf16⟩
  | .hbm, ⟨48, _⟩ => ⟨S3x8x704, .f32⟩
  | .hbm, ⟨49, _⟩ => ⟨S8x3x704, .f32⟩
  | .hbm, ⟨50, _⟩ => ⟨S2816x1024, .bf16⟩
  | .hbm, ⟨51, _⟩ => ⟨S4x704x1024, .bf16⟩
  | .hbm, ⟨52, _⟩ => ⟨S4096x2x4x704, .f32⟩
  | .hbm, ⟨53, _⟩ => ⟨S2x4x4096x704, .f32⟩
  | .hbm, ⟨54, _⟩ => ⟨S2x4x4096x704, .bf16⟩
  | .hbm, ⟨55, _⟩ => ⟨S4096x2x4x704, .f32⟩
  | .hbm, ⟨56, _⟩ => ⟨S2x4x4096x704, .f32⟩
  | .hbm, ⟨57, _⟩ => ⟨S2x4x4096x704, .bf16⟩
  | .hbm, ⟨58, _⟩ => ⟨S4096x1024, .bf16⟩
  | .hbm, ⟨59, _⟩ => ⟨S2x4x4096x704, .bf16⟩
  | .hbm, ⟨60, _⟩ => ⟨S2x4x1024x704, .bf16⟩
  | .hbm, ⟨61, _⟩ => ⟨S4x704x1024, .bf16⟩
  | .hbm, ⟨62, _⟩ => ⟨S2x4x3x704, .f32⟩
  | .local _ .vmem, ⟨0, _⟩ => ⟨S512x1024, .f32⟩
  | .local _ .vmem, ⟨1, _⟩ => ⟨S512x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S512x1024, .bf16⟩
  | .local _ .vmem, ⟨11, _⟩ => ⟨S512x1024, .bf16⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S2x1x512x704, .bf16⟩
  | .local _ .vmem, ⟨17, _⟩ => ⟨S2x1x512x704, .bf16⟩
  | .local _ .vmem, ⟨18, _⟩ => ⟨S2x1x1024x704, .bf16⟩
  | .local _ .vmem, ⟨19, _⟩ => ⟨S2x1x1024x704, .bf16⟩
  | .local _ .vmem, ⟨20, _⟩ => ⟨S1x704x1024, .bf16⟩
  | .local _ .vmem, ⟨21, _⟩ => ⟨S1x704x1024, .bf16⟩
  | .local _ .vmem, ⟨22, _⟩ => ⟨S2x1x3x704, .f32⟩
  | .local _ .vmem, ⟨23, _⟩ => ⟨S2x1x3x704, .f32⟩
  | .local _ .vmem, ⟨24, _⟩ => ⟨S2x1024x704, .f32⟩
  | .local _ .vmem, ⟨25, _⟩ => ⟨S704x1024, .f32⟩
  | .local _ .vmem, ⟨26, _⟩ => ⟨S2x8x704, .f32⟩
  | .local _ .vmem, ⟨27, _⟩ => ⟨S2x8x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v207 : BitVec 1 := Scalar.cmpi .eq arg1 c7_i32
  let v208 : BitVec 32 := Scalar.extui v207
  let c0_i32_147 : BitVec 32 := 0#32
  let v209 : BitVec 1 := Scalar.cmpi .ne v208 c0_i32_147
  v209

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x3x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S4096x1024 : Shape := ⟨2, ![4096, 1024]⟩
abbrev S1024x5632 : Shape := ⟨2, ![1024, 5632]⟩
abbrev S3x5632 : Shape := ⟨2, ![3, 5632]⟩
abbrev S2816x1024 : Shape := ⟨2, ![2816, 1024]⟩
abbrev S4096x5632 : Shape := ⟨2, ![4096, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1024x2816 : Shape := ⟨2, ![1024, 2816]⟩
abbrev S5632x1024 : Shape := ⟨2, ![5632, 1024]⟩
abbrev S4096x2x4x704 : Shape := ⟨4, ![4096, 2, 4, 704]⟩
abbrev S2x4x4096x704 : Shape := ⟨4, ![2, 4, 4096, 704]⟩
abbrev S1024x2x4x704 : Shape := ⟨4, ![1024, 2, 4, 704]⟩
abbrev S2x4x1024x704 : Shape := ⟨4, ![2, 4, 1024, 704]⟩
abbrev S4x704x1024 : Shape := ⟨3, ![4, 704, 1024]⟩
abbrev S3x2x4x704 : Shape := ⟨4, ![3, 2, 4, 704]⟩
abbrev S2x4x3x704 : Shape := ⟨4, ![2, 4, 3, 704]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S4096x1024, .f32⟩
  | .hbm, ⟨5, _⟩ => ⟨S4096x5632, .f32⟩
  | .hbm, ⟨6, _⟩ => ⟨S1x5632, .f32⟩
  | .hbm, ⟨7, _⟩ => ⟨S5632, .f32⟩
  | .hbm, ⟨8, _⟩ => ⟨S_, .f32⟩
  | .hbm, ⟨9, _⟩ => ⟨S2x5632, .f32⟩
  | .hbm, ⟨10, _⟩ => ⟨S4094x5632, .f32⟩
  | .hbm, ⟨11, _⟩ => ⟨S4096x5632, .f32⟩
  | .hbm, ⟨12, _⟩ => ⟨S_, .f32⟩
  | .hbm, ⟨13, _⟩ => ⟨S2x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S_, .f32⟩
  | .hbm, ⟨24, _⟩ => ⟨S1x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S1024x2816, .f32⟩
  | .hbm, ⟨53, _⟩ => ⟨S2816x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S4096x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S3x5632, .f32⟩
  | .hbm, ⟨73, _⟩ => ⟨S4096x5632, .f32⟩
  | .hbm, ⟨74, _⟩ => ⟨S4096x5632, .f32⟩
  | .hbm, ⟨75, _⟩ => ⟨S4096x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S4095x5632, .f32⟩
  | .hbm, ⟨83, _⟩ => ⟨S_, .f32⟩
  | .hbm, ⟨84, _⟩ => ⟨S4096x5632, .f32⟩
  | .hbm, ⟨85, _⟩ => ⟨S4096x5632, .f32⟩
  | .hbm, ⟨86, _⟩ => ⟨S1x5632, .f32⟩
  | .hbm, ⟨87, _⟩ => ⟨S_, .f32⟩
  | .hbm, ⟨88, _⟩ => ⟨S3x5632, .f32⟩
  | .hbm, ⟨89, _⟩ => ⟨S3x5632, .f32⟩
  | .hbm, ⟨90, _⟩ => ⟨S4096x5632, .f32⟩
  | .hbm, ⟨91, _⟩ => ⟨S4096x5632, .f32⟩
  | .hbm, ⟨92, _⟩ => ⟨S4096x5632, .f32⟩
  | .hbm, ⟨93, _⟩ => ⟨S_, .f32⟩
  | .hbm, ⟨94, _⟩ => ⟨S5632, .f32⟩
  | .hbm, ⟨95, _⟩ => ⟨S1x5632, .f32⟩
  | .hbm, ⟨96, _⟩ => ⟨S_, .f32⟩
  | .hbm, ⟨97, _⟩ => ⟨S5632, .f32⟩
  | .hbm, ⟨98, _⟩ => ⟨S2x5632, .f32⟩
  | .hbm, ⟨99, _⟩ => ⟨S4094x5632, .f32⟩
  | .hbm, ⟨100, _⟩ => ⟨S_, .f32⟩
  | .hbm, ⟨101, _⟩ => ⟨S4096x5632, .f32⟩
  | .hbm, ⟨102, _⟩ => ⟨S4096x5632, .f32⟩
  | .hbm, ⟨103, _⟩ => ⟨S1x5632, .f32⟩
  | .hbm, ⟨104, _⟩ => ⟨S_, .f32⟩
  | .hbm, ⟨105, _⟩ => ⟨S3x5632, .f32⟩
  | .hbm, ⟨106, _⟩ => ⟨S3x5632, .f32⟩
  | .hbm, ⟨107, _⟩ => ⟨S5632x1024, .f32⟩
  | .hbm, ⟨108, _⟩ => ⟨S1024x5632, .f32⟩
  | .hbm, ⟨109, _⟩ => ⟨S4096x2x4x704, .f32⟩
  | .hbm, ⟨110, _⟩ => ⟨S2x4x4096x704, .f32⟩
  | .hbm, ⟨111, _⟩ => ⟨S2x4x4096x704, .bf16⟩
  | .hbm, ⟨112, _⟩ => ⟨S1024x2x4x704, .f32⟩
  | .hbm, ⟨113, _⟩ => ⟨S2x4x1024x704, .f32⟩
  | .hbm, ⟨114, _⟩ => ⟨S2x4x1024x704, .bf16⟩
  | .hbm, ⟨115, _⟩ => ⟨S4x704x1024, .f32⟩
  | .hbm, ⟨116, _⟩ => ⟨S4x704x1024, .bf16⟩
  | .hbm, ⟨117, _⟩ => ⟨S3x2x4x704, .f32⟩
  | .hbm, ⟨118, _⟩ => ⟨S2x4x3x704, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Query.lean ====
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S4096x32 : Shape := ⟨2, ![4096, 32]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x64 : Shape := ⟨2, ![4096, 64]⟩
abbrev S4096x128 : Shape := ⟨2, ![4096, 128]⟩
abbrev S4096x8x192 : Shape := ⟨3, ![4096, 8, 192]⟩
abbrev S8x4096x192 : Shape := ⟨3, ![8, 4096, 192]⟩
abbrev S8x4096x256 : Shape := ⟨3, ![8, 4096, 256]⟩
abbrev S1x512 : Shape := ⟨2, ![1, 512]⟩
abbrev S512x8x192 : Shape := ⟨3, ![512, 8, 192]⟩
abbrev S8x512x192 : Shape := ⟨3, ![8, 512, 192]⟩
abbrev S8x512x256 : Shape := ⟨3, ![8, 512, 256]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S1x512x128 : Shape := ⟨3, ![1, 512, 128]⟩
abbrev S512x256 : Shape := ⟨2, ![512, 256]⟩
abbrev S1x512x256 : Shape := ⟨3, ![1, 512, 256]⟩

abbrev nBuf : Space → Nat
  | .hbm => 51
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S512x1536, .f32⟩
  | .hbm, ⟨5, _⟩ => ⟨S4096x32, .f32⟩
  | .hbm, ⟨6, _⟩ => ⟨S4096x32, .f32⟩
  | .hbm, ⟨7, _⟩ => ⟨S4096x1536, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S_, .f32⟩
  | .hbm, ⟨27, _⟩ => ⟨S4096x64, .f32⟩
  | .hbm, ⟨28, _⟩ => ⟨S4096x128, .f32⟩
  | .hbm, ⟨29, _⟩ => ⟨S4096x32, .f32⟩
  | .hbm, ⟨30, _⟩ => ⟨S4096x128, .f32⟩
  | .hbm, ⟨31, _⟩ => ⟨S4096x8x192, .f32⟩
  | .hbm, ⟨32, _⟩ => ⟨S8x4096x192, .f32⟩
  | .hbm, ⟨33, _⟩ => ⟨S_, .i32⟩
  | .hbm, ⟨34, _⟩ => ⟨S_, .f32⟩
  | .hbm, ⟨35, _⟩ => ⟨S8x4096x256, .f32⟩
  | .hbm, ⟨36, _⟩ => ⟨S8x4096x256, .bf16⟩
  | .hbm, ⟨37, _⟩ => ⟨S1x1024, .f32⟩
  | .hbm, ⟨38, _⟩ => ⟨S1024x512, .bf16⟩
  | .hbm, ⟨39, _⟩ => ⟨S1x512, .f32⟩
  | .hbm, ⟨40, _⟩ => ⟨S512x8x192, .f32⟩
  | .hbm, ⟨41, _⟩ => ⟨S8x512x192, .f32⟩
  | .hbm, ⟨42, _⟩ => ⟨S_, .i32⟩
  | .hbm, ⟨43, _⟩ => ⟨S_, .f32⟩
  | .hbm, ⟨44, _⟩ => ⟨S8x512x256, .f32⟩
  | .hbm, ⟨45, _⟩ => ⟨S8x512x256, .bf16⟩
  | .hbm, ⟨46, _⟩ => ⟨S4096x1024, .f32⟩
  | .hbm, ⟨47, _⟩ => ⟨S8x512x256, .bf16⟩
  | .hbm, ⟨48, _⟩ => ⟨S1024x512, .bf16⟩
  | .hbm, ⟨49, _⟩ => ⟨S1x512, .f32⟩
  | .hbm, ⟨50, _⟩ => ⟨S1x1024, .f32⟩
  | .local _ .vmem, ⟨0, _⟩ => ⟨S8x512x256, .bf16⟩
  | .local _ .vmem, ⟨1, _⟩ => ⟨S8x512x256, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x512, .bf16⟩
  | .local _ .vmem, ⟨10, _⟩ => ⟨S1x512, .f32⟩
  | .local _ .vmem, ⟨11, _⟩ => ⟨S8x512x256, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S8x512x256, .bf16⟩
  | .local _ .vmem, ⟨19, _⟩ => ⟨S1024x512, .bf16⟩
  | .local _ .vmem, ⟨20, _⟩ => ⟨S1x512, .f32⟩
  | .local _ .vmem, ⟨21, _⟩ => ⟨S1x1024, .f32⟩
  | .local _ .vmem, ⟨22, _⟩ => ⟨S8x512x256, .f32⟩
  | .local _ .vmem, ⟨23, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v29_3 : Ref sig .tc := ⟨.hbm, 49, rfl⟩
abbrev main_v29_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v386 : BitVec 1 := Scalar.cmpi .eq arg0 c7_i32
  let v387 : BitVec 32 := Scalar.extui v386
  let c0_i32_243 : BitVec 32 := 0#32
  let v388 : BitVec 1 := Scalar.cmpi .ne v387 c0_i32_243
  v388

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QueryRefIdeal.lean ====
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S4096x32 : Shape := ⟨2, ![4096, 32]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩
abbrev S1x512 : Shape := ⟨2, ![1, 512]⟩
abbrev S4096x8x192 : Shape := ⟨3, ![4096, 8, 192]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x128 : Shape := ⟨3, ![4096, 8, 128]⟩
abbrev S1536x512 : Shape := ⟨2, ![1536, 512]⟩
abbrev S512x1024 : Shape := ⟨2, ![512, 1024]⟩
abbrev S512x8x192 : Shape := ⟨3, ![512, 8, 192]⟩
abbrev S8x512x192 : Shape := ⟨3, ![8, 512, 192]⟩
abbrev S8x512x256 : Shape := ⟨3, ![8, 512, 256]⟩

abbrev nBuf : Space → Nat
  | .hbm => 165
  | .vmem => 0
  | .smem => 0
  | _ => 0

abbrev hbmTy0_0 (i : Nat) : BufTy := match i % 128 with
  | 0 => ⟨S4096x1024, .f32⟩
  | 1 => ⟨S1024, .f32⟩
  | 2 => ⟨S1024x512, .f32⟩
  | 3 => ⟨S512, .f32⟩
  | 4 => ⟨S512x1536, .f32⟩
  | 5 => ⟨S4096x32, .f32⟩
  | 6 => ⟨S4096x32, .f32⟩
  | 7 => ⟨S4096x1536, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x512, .f32⟩
  | 30 => ⟨S4096x512, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x512, .f32⟩
  | 46 => ⟨S4096x512, .f32⟩
  | 47 => ⟨S1x512, .f32⟩
  | 48 => ⟨S4096x512, .f32⟩
  | 49 => ⟨S4096x512, .f32⟩
  | 50 => ⟨S4096x1536, .f32⟩
  | 51 => ⟨S4096x8x192, .f32⟩
  | 52 => ⟨S4096x8x64, .f32⟩
  | 53 => ⟨S4096x1x32, .f32⟩
  | 54 => ⟨S4096x1x32, .f32⟩
  | 55 => ⟨S4096x8x32, .f32⟩
  | 56 => ⟨S4096x8x32, .f32⟩
  | 57 => ⟨S4096x8x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x64, .f32⟩
  | 68 => ⟨S4096x8x128, .f32⟩
  | 69 => ⟨S4096x8x192, .f32⟩
  | 70 => ⟨S_, .f32⟩
  | 71 => ⟨S4096x8x192, .f32⟩
  | 72 => ⟨S4096x8x192, .f32⟩
  | 73 => ⟨S4096x8x192, .f32⟩
  | 74 => ⟨S_, .f32⟩
  | 75 => ⟨S4096x8x192, .f32⟩
  | 76 => ⟨S4096x8x192, .f32⟩
  | 77 => ⟨S4096x8x128, .f32⟩
  | 78 => ⟨S4096x8x64, .f32⟩
  | 79 => ⟨S_, .f32⟩
  | 80 => ⟨S4096x8x192, .f32⟩
  | 81 => ⟨S4096x8x32, .f32⟩
  | 82 => ⟨S4096x8x32, .f32⟩
  | 83 => ⟨S4096x8x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x64, .f32⟩
  | 95 => ⟨S_, .f32⟩
  | 96 => ⟨S4096x8x192, .f32⟩
  | 97 => ⟨S4096x8x192, .f32⟩
  | 98 => ⟨S4096x1536, .f32⟩
  | 99 => ⟨S1536x512, .f32⟩
  | 100 => ⟨S512x1536, .f32⟩
  | 101 => ⟨S4096x512, .f32⟩
  | 102 => ⟨S4096x512, .f32⟩
  | 103 => ⟨S_, .f32⟩
  | 104 => ⟨S512, .f32⟩
  | 105 => ⟨S1x512, .f32⟩
  | 106 => ⟨S4096x512, .f32⟩
  | 107 => ⟨S4096x512, .f32⟩
  | 108 => ⟨S_, .f32⟩
  | 109 => ⟨S512, .f32⟩
  | 110 => ⟨S4096x512, .f32⟩
  | 111 => ⟨S_, .f32⟩
  | 112 => ⟨S4096, .f32⟩
  | 113 => ⟨S4096x1, .f32⟩
  | 114 => ⟨S4096x512, .f32⟩
  | 115 => ⟨S4096x512, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x512, .f32⟩
  | 123 => ⟨S4096x512, .f32⟩
  | 124 => ⟨S4096x512, .f32⟩
  | 125 => ⟨S4096x512, .f32⟩
  | 126 => ⟨S4096x512, .f32⟩
  | 127 => ⟨S512x1024, .f32⟩
  | _ => ⟨S4096x1024, .f32⟩

abbrev hbmTy0_1 (i : Nat) : BufTy := match i % 128 with
  | 0 => ⟨S1024x512, .f32⟩
  | 1 => ⟨S4096x1024, .f32⟩
  | 2 => ⟨S4096x1024, .f32⟩
  | 3 => ⟨S_, .f32⟩
  | 4 => ⟨S1024, .f32⟩
  | 5 => ⟨S1x1024, .f32⟩
  | 6 => ⟨S4096x1024, .f32⟩
  | 7 => ⟨S4096x1024, .f32⟩
  | 8 => ⟨S_, .f32⟩
  | 9 => ⟨S1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1024, .f32⟩
  | 16 => ⟨S4096x1024, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S512x8x192, .f32⟩
  | 29 => ⟨S8x512x192, .f32⟩
  | 30 => ⟨S_, .i32⟩
  | 31 => ⟨S_, .f32⟩
  | 32 => ⟨S8x512x256, .f32⟩
  | 33 => ⟨S8x512x256, .bf16⟩
  | 34 => ⟨S1024x512, .bf16⟩
  | 35 => ⟨S1x512, .f32⟩
  | 36 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_cst_13 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_14 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_16 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_17 : Ref sig .tc := ⟨.hbm, 136, rfl⟩
abbrev main_v109 : Ref sig .tc := ⟨.hbm, 137, rfl⟩
abbrev main_v110 : Ref sig .tc := ⟨.hbm, 138, rfl⟩
abbrev main_cst_18 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_19 : Ref sig .tc := ⟨.hbm, 146, rfl⟩
abbrev main_v117 : Ref sig .tc := ⟨.hbm, 147, rfl⟩
abbrev main_v118 : Ref sig .tc := ⟨.hbm, 148, rfl⟩
abbrev main_cst_20 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c : Ref sig .tc := ⟨.hbm, 158, rfl⟩
abbrev main_call0_v0 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩

abbrev nD : Nat := 1
abbrev τ : Topo := Topo.v7x

variable {F : FTy → Type} [FloatOps F]
-- ==== Kv.lean ====
abbrev S4096x1024 : Shape := ⟨2, ![4096, 1024]⟩
abbrev S1024 : Shape := ⟨1, ![1024]⟩
abbrev S1024x320 : Shape := ⟨2, ![1024, 320]⟩
abbrev S256 : Shape := ⟨1, ![256]⟩
abbrev S256x2048 : Shape := ⟨2, ![256, 2048]⟩
abbrev S4096x32 : Shape := ⟨2, ![4096, 32]⟩
abbrev S4096x8x192 : Shape := ⟨3, ![4096, 8, 192]⟩
abbrev S4096x8x128 : Shape := ⟨3, ![4096, 8, 128]⟩
abbrev S_ : Shape := ⟨0, ![]⟩
abbrev S4096x64 : Shape := ⟨2, ![4096, 64]⟩
abbrev S4096x128 : Shape := ⟨2, ![4096, 128]⟩
abbrev S4096 : Shape := ⟨1, ![4096]⟩
abbrev S4096x1 : Shape := ⟨2, ![4096, 1]⟩
abbrev S1x1024 : Shape := ⟨2, ![1, 1024]⟩
abbrev S4096x320 : Shape := ⟨2, ![4096, 320]⟩
abbrev S8x4096x192 : Shape := ⟨3, ![8, 4096, 192]⟩
abbrev S8x4096x256 : Shape := ⟨3, ![8, 4096, 256]⟩
abbrev S8x4096x128 : Shape := ⟨3, ![8, 4096, 128]⟩
abbrev S4096x256 : Shape := ⟨2, ![4096, 256]⟩
abbrev S1024x384 : Shape := ⟨2, ![1024, 384]⟩
abbrev S1x256 : Shape := ⟨2, ![1, 256]⟩
abbrev S256x8x256 : Shape := ⟨3, ![256, 8, 256]⟩
abbrev S8x256x256 : Shape := ⟨3, ![8, 256, 256]⟩
abbrev S8x512x256 : Shape := ⟨3, ![8, 512, 256]⟩
abbrev S8x512x128 : Shape := ⟨3, ![8, 512, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x512x256 : Shape := ⟨3, ![1, 512, 256]⟩
abbrev S1x512x128 : Shape := ⟨3, ![1, 512, 128]⟩
abbrev S1x256x256 : Shape := ⟨3, ![1, 256, 256]⟩
abbrev S256x256 : Shape := ⟨2, ![256, 256]⟩
abbrev S512x384 : Shape := ⟨2, ![512, 384]⟩

abbrev nBuf : Space → Nat
  | .hbm => 65
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S256x2048, .f32⟩
  | .hbm, ⟨5, _⟩ => ⟨S4096x32, .f32⟩
  | .hbm, ⟨6, _⟩ => ⟨S4096x32, .f32⟩
  | .hbm, ⟨7, _⟩ => ⟨S4096x8x192, .f32⟩
  | .hbm, ⟨8, _⟩ => ⟨S4096x8x192, .f32⟩
  | .hbm, ⟨9, _⟩ => ⟨S4096x8x128, .f32⟩
  | .hbm, ⟨10, _⟩ => ⟨S4096x8x128, .f32⟩
  | .hbm, ⟨11, _⟩ => ⟨S4096x1024, .f32⟩
  | .hbm, ⟨12, _⟩ => ⟨S_, .f32⟩
  | .hbm, ⟨13, _⟩ => ⟨S4096x64, .f32⟩
  | .hbm, ⟨14, _⟩ => ⟨S4096x128, .f32⟩
  | .hbm, ⟨15, _⟩ => ⟨S4096x32, .f32⟩
  | .hbm, ⟨16, _⟩ => ⟨S4096x128, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S1024x320, .bf16⟩
  | .hbm, ⟨35, _⟩ => ⟨S4096x320, .f32⟩
  | .hbm, ⟨36, _⟩ => ⟨S8x4096x192, .f32⟩
  | .hbm, ⟨37, _⟩ => ⟨S8x4096x192, .bf16⟩
  | .hbm, ⟨38, _⟩ => ⟨S_, .i32⟩
  | .hbm, ⟨39, _⟩ => ⟨S_, .bf16⟩
  | .hbm, ⟨40, _⟩ => ⟨S8x4096x256, .bf16⟩
  | .hbm, ⟨41, _⟩ => ⟨S8x4096x192, .f32⟩
  | .hbm, ⟨42, _⟩ => ⟨S8x4096x192, .bf16⟩
  | .hbm, ⟨43, _⟩ => ⟨S_, .i32⟩
  | .hbm, ⟨44, _⟩ => ⟨S_, .bf16⟩
  | .hbm, ⟨45, _⟩ => ⟨S8x4096x256, .bf16⟩
  | .hbm, ⟨46, _⟩ => ⟨S8x4096x128, .f32⟩
  | .hbm, ⟨47, _⟩ => ⟨S8x4096x128, .bf16⟩
  | .hbm, ⟨48, _⟩ => ⟨S8x4096x128, .f32⟩
  | .hbm, ⟨49, _⟩ => ⟨S8x4096x128, .bf16⟩
  | .hbm, ⟨50, _⟩ => ⟨S4096x256, .f32⟩
  | .hbm, ⟨51, _⟩ => ⟨S1x1024, .f32⟩
  | .hbm, ⟨52, _⟩ => ⟨S1024x320, .bf16⟩
  | .hbm, ⟨53, _⟩ => ⟨S_, .i32⟩
  | .hbm, ⟨54, _⟩ => ⟨S_, .bf16⟩
  | .hbm, ⟨55, _⟩ => ⟨S1024x384, .bf16⟩
  | .hbm, ⟨56, _⟩ => ⟨S1x256, .f32⟩
  | .hbm, ⟨57, _⟩ => ⟨S256x8x256, .f32⟩
  | .hbm, ⟨58, _⟩ => ⟨S8x256x256, .f32⟩
  | .hbm, ⟨59, _⟩ => ⟨S8x256x256, .bf16⟩
  | .hbm, ⟨60, _⟩ => ⟨S4096x1024, .f32⟩
  | .hbm, ⟨61, _⟩ => ⟨S8x256x256, .bf16⟩
  | .hbm, ⟨62, _⟩ => ⟨S1024x384, .bf16⟩
  | .hbm, ⟨63, _⟩ => ⟨S1x256, .f32⟩
  | .hbm, ⟨64, _⟩ => ⟨S1x1024, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1024x384, .bf16⟩
  | .local _ .vmem, ⟨16, _⟩ => ⟨S1x256, .f32⟩
  | .local _ .vmem, ⟨17, _⟩ => ⟨S8x256x256, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1024, .f32⟩
  | .local _ .vmem, ⟨23, _⟩ => ⟨S512x1024, .f32⟩
  | .local _ .vmem, ⟨24, _⟩ => ⟨S8x256x256, .bf16⟩
  | .local _ .vmem, ⟨25, _⟩ => ⟨S1024x384, .bf16⟩
  | .local _ .vmem, ⟨26, _⟩ => ⟨S1x256, .f32⟩
  | .local _ .vmem, ⟨27, _⟩ => ⟨S1x1024, .f32⟩
  | .local _ .vmem, ⟨28, _⟩ => ⟨S8x256x256, .f32⟩
  | .local _ .vmem, ⟨29, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev main_v38_3 : Ref sig .tc := ⟨.hbm, 63, rfl⟩
abbrev main_v38_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v356 : BitVec 1 := Scalar.cmpi .eq arg0 c7_i32
  let v357 : BitVec 32 := Scalar.extui v356
  let c0_i32_227 : BitVec 32 := 0#32
  let v358 : BitVec 1 := Scalar.cmpi .ne v357 c0_i32_227
  v358

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KvRefIdeal.lean ====
abbrev S4096x1024 : Shape := ⟨2, ![4096, 1024]⟩
abbrev S1024 : Shape := ⟨1, ![1024]⟩
abbrev S1024x320 : Shape := ⟨2, ![1024, 320]⟩
abbrev S256 : Shape := ⟨1, ![256]⟩
abbrev S256x2048 : Shape := ⟨2, ![256, 2048]⟩
abbrev S4096x32 : Shape := ⟨2, ![4096, 32]⟩
abbrev S4096x8x192 : Shape := ⟨3, ![4096, 8, 192]⟩
abbrev S4096x8x128 : Shape := ⟨3, ![4096, 8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x320 : Shape := ⟨2, ![4096, 320]⟩
abbrev S4096x256 : Shape := ⟨2, ![4096, 256]⟩
abbrev S4096x64 : Shape := ⟨2, ![4096, 64]⟩
abbrev S1x256 : Shape := ⟨2, ![1, 256]⟩
abbrev S4096x2048 : Shape := ⟨2, ![4096, 2048]⟩
abbrev S4096x8x256 : Shape := ⟨3, ![4096, 8, 256]⟩
abbrev S4096x1x64 : Shape := ⟨3, ![4096, 1, 64]⟩
abbrev S4096x8x64 : Shape := ⟨3, ![4096, 8, 64]⟩
abbrev S2048x256 : Shape := ⟨2, ![2048, 256]⟩
abbrev S320x1024 : Shape := ⟨2, ![320, 1024]⟩
abbrev S256x8x256 : Shape := ⟨3, ![256, 8, 256]⟩
abbrev S8x256x256 : Shape := ⟨3, ![8, 256, 256]⟩
abbrev S1024x384 : Shape := ⟨2, ![1024, 384]⟩

abbrev nBuf : Space → Nat
  | .hbm => 170
  | .vmem => 0
  | .smem => 0
  | _ => 0

abbrev hbmTy0_0 (i : Nat) : BufTy := match i % 128 with
  | 0 => ⟨S4096x1024, .f32⟩
  | 1 => ⟨S1024, .f32⟩
  | 2 => ⟨S1024x320, .f32⟩
  | 3 => ⟨S256, .f32⟩
  | 4 => ⟨S256x2048, .f32⟩
  | 5 => ⟨S4096x32, .f32⟩
  | 6 => ⟨S4096x32, .f32⟩
  | 7 => ⟨S4096x8x192, .f32⟩
  | 8 => ⟨S4096x8x192, .f32⟩
  | 9 => ⟨S4096x8x128, .f32⟩
  | 10 => ⟨S4096x8x128, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x320, .f32⟩
  | 33 => ⟨S4096x256, .f32⟩
  | 34 => ⟨S4096x64, .f32⟩
  | 35 => ⟨S4096x32, .f32⟩
  | 36 => ⟨S4096x32, .f32⟩
  | 37 => ⟨S4096x32, .f32⟩
  | 38 => ⟨S4096x32, .f32⟩
  | 39 => ⟨S4096x32, .f32⟩
  | 40 => ⟨S4096x32, .f32⟩
  | 41 => ⟨S4096x32, .f32⟩
  | 42 => ⟨S4096x32, .f32⟩
  | 43 => ⟨S4096x64, .f32⟩
  | 44 => ⟨S4096x256, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x256, .f32⟩
  | 60 => ⟨S4096x256, .f32⟩
  | 61 => ⟨S1x256, .f32⟩
  | 62 => ⟨S4096x256, .f32⟩
  | 63 => ⟨S4096x256, .f32⟩
  | 64 => ⟨S4096x2048, .f32⟩
  | 65 => ⟨S4096x8x256, .f32⟩
  | 66 => ⟨S4096x8x128, .f32⟩
  | 67 => ⟨S4096x1x64, .f32⟩
  | 68 => ⟨S4096x8x64, .f32⟩
  | 69 => ⟨S4096x8x192, .f32⟩
  | 70 => ⟨S4096x8x128, .f32⟩
  | 71 => ⟨S4096x8x128, .f32⟩
  | 72 => ⟨S4096x8x192, .f32⟩
  | 73 => ⟨S_, .f32⟩
  | 74 => ⟨S4096x8x256, .f32⟩
  | 75 => ⟨S_, .f32⟩
  | 76 => ⟨S4096x8x256, .f32⟩
  | 77 => ⟨S4096x8x256, .f32⟩
  | 78 => ⟨S4096x8x128, .f32⟩
  | 79 => ⟨S4096x8x64, .f32⟩
  | 80 => ⟨S_, .f32⟩
  | 81 => ⟨S4096x64, .f32⟩
  | 82 => ⟨S4096x1x64, .f32⟩
  | 83 => ⟨S_, .f32⟩
  | 84 => ⟨S4096x64, .f32⟩
  | 85 => ⟨S_, .f32⟩
  | 86 => ⟨S4096x8x256, .f32⟩
  | 87 => ⟨S4096x8x256, .f32⟩
  | 88 => ⟨S4096x2048, .f32⟩
  | 89 => ⟨S2048x256, .f32⟩
  | 90 => ⟨S256x2048, .f32⟩
  | 91 => ⟨S4096x256, .f32⟩
  | 92 => ⟨S4096x256, .f32⟩
  | 93 => ⟨S_, .f32⟩
  | 94 => ⟨S256, .f32⟩
  | 95 => ⟨S1x256, .f32⟩
  | 96 => ⟨S4096x256, .f32⟩
  | 97 => ⟨S4096x256, .f32⟩
  | 98 => ⟨S_, .f32⟩
  | 99 => ⟨S256, .f32⟩
  | 100 => ⟨S4096x256, .f32⟩
  | 101 => ⟨S_, .f32⟩
  | 102 => ⟨S4096, .f32⟩
  | 103 => ⟨S4096x1, .f32⟩
  | 104 => ⟨S4096x256, .f32⟩
  | 105 => ⟨S4096x256, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x32, .f32⟩
  | 118 => ⟨S4096x32, .f32⟩
  | 119 => ⟨S4096x32, .f32⟩
  | 120 => ⟨S4096x32, .f32⟩
  | 121 => ⟨S4096x32, .f32⟩
  | 122 => ⟨S4096x32, .f32⟩
  | 123 => ⟨S4096x32, .f32⟩
  | 124 => ⟨S4096x32, .f32⟩
  | 125 => ⟨S4096x32, .f32⟩
  | 126 => ⟨S4096x64, .f32⟩
  | 127 => ⟨S_, .f32⟩
  | _ => ⟨S4096x1024, .f32⟩

abbrev hbmTy0_1 (i : Nat) : BufTy := match i % 128 with
  | 0 => ⟨S4096x320, .f32⟩
  | 1 => ⟨S_, .f32⟩
  | 2 => ⟨S4096x320, .f32⟩
  | 3 => ⟨S4096x320, .f32⟩
  | 4 => ⟨S320x1024, .f32⟩
  | 5 => ⟨S1024x320, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S4096x1024, .f32⟩
  | 13 => ⟨S_, .f32⟩
  | 14 => ⟨S1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1024, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S256x8x256, .f32⟩
  | 34 => ⟨S8x256x256, .f32⟩
  | 35 => ⟨S8x256x256, .bf16⟩
  | 36 => ⟨S_, .i32⟩
  | 37 => ⟨S_, .f32⟩
  | 38 => ⟨S1024x384, .f32⟩
  | 39 => ⟨S1024x384, .bf16⟩
  | 40 => ⟨S1x256, .f32⟩
  | 41 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_17 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_19 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_v109 : Ref sig .tc := ⟨.hbm, 143, rfl⟩
abbrev main_cst_21 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_22 : Ref sig .tc := ⟨.hbm, 151, rfl⟩
abbrev main_v116 : Ref sig .tc := ⟨.hbm, 152, rfl⟩
abbrev main_v117 : Ref sig .tc := ⟨.hbm, 153, rfl⟩
abbrev main_cst_23 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_c : Ref sig .tc := ⟨.hbm, 164, rfl⟩
abbrev main_call0_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩

abbrev nD : Nat := 1
abbrev τ : Topo := Topo.v7x

variable {F : FTy → Type} [FloatOps F]
-- ==== Fwd.lean ====
abbrev S4096x8x192 : Shape := ⟨3, ![4096, 8, 192]⟩
abbrev S4096x8x128 : Shape := ⟨3, ![4096, 8, 128]⟩
abbrev S8x4096x192 : Shape := ⟨3, ![8, 4096, 192]⟩
abbrev S_ : Shape := ⟨0, ![]⟩
abbrev S8x4096x256 : Shape := ⟨3, ![8, 4096, 256]⟩
abbrev S8x4096x128 : Shape := ⟨3, ![8, 4096, 128]⟩
abbrev S4096x1024 : Shape := ⟨2, ![4096, 1024]⟩
abbrev S1x1024x256 : Shape := ⟨3, ![1, 1024, 256]⟩
abbrev S1x4096x256 : Shape := ⟨3, ![1, 4096, 256]⟩
abbrev S1x4096x128 : Shape := ⟨3, ![1, 4096, 128]⟩
abbrev S1024x128 : Shape := ⟨2, ![1024, 128]⟩
abbrev S1x1024x128 : Shape := ⟨3, ![1, 1024, 128]⟩
abbrev S1x512x256 : Shape := ⟨3, ![1, 512, 256]⟩
abbrev S512x256 : Shape := ⟨2, ![512, 256]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S512 : Shape := ⟨1, ![512]⟩
abbrev S1x512x128 : Shape := ⟨3, ![1, 512, 128]⟩
abbrev S512x512 : Shape := ⟨2, ![512, 512]⟩

abbrev nBuf : Space → Nat
  | .hbm => 17
  | .vmem => 10
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S8x4096x192, .f32⟩
  | .hbm, ⟨4, _⟩ => ⟨S8x4096x192, .bf16⟩
  | .hbm, ⟨5, _⟩ => ⟨S_, .i32⟩
  | .hbm, ⟨6, _⟩ => ⟨S_, .bf16⟩
  | .hbm, ⟨7, _⟩ => ⟨S8x4096x256, .bf16⟩
  | .hbm, ⟨8, _⟩ => ⟨S8x4096x192, .f32⟩
  | .hbm, ⟨9, _⟩ => ⟨S8x4096x192, .bf16⟩
  | .hbm, ⟨10, _⟩ => ⟨S_, .i32⟩
  | .hbm, ⟨11, _⟩ => ⟨S_, .bf16⟩
  | .hbm, ⟨12, _⟩ => ⟨S8x4096x256, .bf16⟩
  | .hbm, ⟨13, _⟩ => ⟨S8x4096x128, .f32⟩
  | .hbm, ⟨14, _⟩ => ⟨S8x4096x128, .bf16⟩
  | .hbm, ⟨15, _⟩ => ⟨S4096x1024, .bf16⟩
  | .hbm, ⟨16, _⟩ => ⟨S8x4096x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_6 : BitVec 32 := 1#32
  ⟨c0_i32, v11, c1_i32_6⟩
def k0_mult1 (i : grid0.Coords) (k0_t1 : Fin (k0_t1_loop i).trips) : BitVec 32 :=
  let c0_i32 : BitVec 32 := 0#32
  let c1_i32_6 : BitVec 32 := 1#32
  let arg7 : BitVec 32 := Scf.iv c0_i32 c1_i32_6 k0_t1
  let c2_i32_48 : BitVec 32 := 2#32
  let v126 : BitVec 32 := Scalar.muli arg7 c2_i32_48
  let c512_i32_49 : BitVec 32 := 512#32
  let v127 : BitVec 32 := Scalar.muli v126 c512_i32_49
  v127
def k0_off1 (i : grid0.Coords) (k0_t1 : Fin (k0_t1_loop i).trips) : Fin 3 → Nat :=
  let c0_50 : Index := 0#32
  let c0_i32 : BitVec 32 := 0#32
  let c1_i32_6 : BitVec 32 := 1#32
  let arg7 : BitVec 32 := Scf.iv c0_i32 c1_i32_6 k0_t1
  let c2_i32_48 : BitVec 32 := 2#32
  let v126 : BitVec 32 := Scalar.muli arg7 c2_i32_48
  let c512_i32_49 : BitVec 32 := 512#32
  let v127 : BitVec 32 := Scalar.muli v126 c512_i32_49
  let v128 : BitVec 32 := v127
  let v129 : Index := Scalar.indexCast v128
  let c0_51 : Index := 0#32
  ![0, v129.toNat, 0]
def k0_off2 (i : grid0.Coords) (k0_t1 : Fin (k0_t1_loop i).trips) : Fin 3 → Nat :=
  let c0_52 : Index := 0#32
  let c0_i32 : BitVec 32 := 0#32
  let c1_i32_6 : BitVec 32 := 1#32
  let arg7 : BitVec 32 := Scf.iv c0_i32 c1_i32_6 k0_t1
  let c2_i32_48 : BitVec 32 := 2#32
  let v126 : BitVec 32 := Scalar.muli arg7 c2_i32_48
  let c512_i32_49 : BitVec 32 := 512#32
  let v127 : BitVec 32 := Scalar.muli v126 c512_i32_49
  let v128 : BitVec 32 := v127
  let v132 : Index := Scalar.indexCast v128
  let c0_53 : Index := 0#32
  ![0, v132.toNat, 0]
@[reducible] def k0_t2_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_7 : BitVec 32 := 1#32
  ⟨v11, v8, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_7 : BitVec 32 := 1#32
  let arg7 : BitVec 32 := Scf.iv v11 c1_i32_7 k0_t2
  let c2_i32_48 : BitVec 32 := 2#32
  let v126 : BitVec 32 := Scalar.muli arg7 c2_i32_48
  let c512_i32_49 : BitVec 32 := 512#32
  let v127 : BitVec 32 := Scalar.muli v126 c512_i32_49
  v127
def k0_off3 (i : grid0.Coords) (k0_t2 : Fin (k0_t2_loop i).trips) : Fin 3 → Nat :=
  let c0_50 : Index := 0#32
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_7 : BitVec 32 := 1#32
  let arg7 : BitVec 32 := Scf.iv v11 c1_i32_7 k0_t2
  let c2_i32_48 : BitVec 32 := 2#32
  let v126 : BitVec 32 := Scalar.muli arg7 c2_i32_48
  let c512_i32_49 : BitVec 32 := 512#32
  let v127 : BitVec 32 := Scalar.muli v126 c512_i32_49
  let v128 : BitVec 32 := v127
  let v129 : Index := Scalar.indexCast v128
  let c0_51 : Index := 0#32
  ![0, v129.toNat, 0]
def k0_off4 (i : grid0.Coords) (k0_t2 : Fin (k0_t2_loop i).trips) : Fin 3 → Nat :=
  let c0_52 : Index := 0#32
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_7 : BitVec 32 := 1#32
  let arg7 : BitVec 32 := Scf.iv v11 c1_i32_7 k0_t2
  let c2_i32_48 : BitVec 32 := 2#32
  let v126 : BitVec 32 := Scalar.muli arg7 c2_i32_48
  let c512_i32_49 : BitVec 32 := 512#32
  let v127 : BitVec 32 := Scalar.muli v126 c512_i32_49
  let v128 : BitVec 32 := v127
  let v132 : Index := Scalar.indexCast v128
  let c0_53 : Index := 0#32
  ![0, v132.toNat, 0]
def k0_mult3 (i : grid0.Coords) : BitVec 32 :=
  let c2_i32 : BitVec 32 := 2#32
  let arg1 : BitVec 32 := BitVec.ofNat 32 (i 1).val
  let v14 : BitVec 32 := Scalar.muli c2_i32 arg1
  let c512_i32 : BitVec 32 := 512#32
  let v15 : BitVec 32 := Scalar.muli v14 c512_i32
  v15
def k0_off5 (i : grid0.Coords) : Fin 3 → Nat :=
  let c0_8 : Index := 0#32
  let c2_i32 : BitVec 32 := 2#32
  let arg1 : BitVec 32 := BitVec.ofNat 32 (i 1).val
  let v14 : BitVec 32 := Scalar.muli c2_i32 arg1
  let c512_i32 : BitVec 32 := 512#32
  let v15 : BitVec 32 := Scalar.muli v14 c512_i32
  let v16 : BitVec 32 := v15
  let v17 : Index := Scalar.indexCast v16
  let c0_9 : Index := 0#32
  ![0, v17.toNat, 0]
def k0_mult4 (i : grid0.Coords) : BitVec 32 :=
  let c2_i32_10 : BitVec 32 := 2#32
  let arg1 : BitVec 32 := BitVec.ofNat 32 (i 1).val
  let v20 : BitVec 32 := Scalar.muli c2_i32_10 arg1
  let c512_i32_11 : BitVec 32 := 512#32
  let v21 : BitVec 32 := Scalar.muli v20 c512_i32_11
  v21
def k0_off6 (i : grid0.Coords) : Fin 3 → Nat :=
  let c0_12 : Index := 0#32
  let c2_i32_10 : BitVec 32 := 2#32
  let arg1 : BitVec 32 := BitVec.ofNat 32 (i 1).val
  let v20 : BitVec 32 := Scalar.muli c2_i32_10 arg1
  let c512_i32_11 : BitVec 32 := 512#32
  let v21 : BitVec 32 := Scalar.muli v20 c512_i32_11
  let v22 : BitVec 32 := v21
  let v23 : Index := Scalar.indexCast v22
  let c0_13 : Index := 0#32
  ![0, v23.toNat, 0]
def k0_mult5 (i : grid0.Coords) : BitVec 32 :=
  let c2_i32_14 : BitVec 32 := 2#32
  let arg1 : BitVec 32 := BitVec.ofNat 32 (i 1).val
  let v26 : BitVec 32 := Scalar.muli c2_i32_14 arg1
  let c1_i32_15 : BitVec 32 := 1#32
  let v27 : BitVec 32 := Scalar.addi v26 c1_i32_15
  let c512_i32_16 : BitVec 32 := 512#32
  let v28 : BitVec 32 := Scalar.muli v27 c512_i32_16
  v28
def k0_off7 (i : grid0.Coords) : Fin 3 → Nat :=
  let c0_17 : Index := 0#32
  let c2_i32_14 : BitVec 32 := 2#32
  let arg1 : BitVec 32 := BitVec.ofNat 32 (i 1).val
  let v26 : BitVec 32 := Scalar.muli c2_i32_14 arg1
  let c1_i32_15 : BitVec 32 := 1#32
  let v27 : BitVec 32 := Scalar.addi v26 c1_i32_15
  let c512_i32_16 : BitVec 32 := 512#32
  let v28 : BitVec 32 := Scalar.muli v27 c512_i32_16
  let v29 : BitVec 32 := v28
  let v30 : Index := Scalar.indexCast v29
  let c0_18 : Index := 0#32
  ![0, v30.toNat, 0]
def k0_mult6 (i : grid0.Coords) : BitVec 32 :=
  let c2_i32_19 : BitVec 32 := 2#32
  let arg1 : BitVec 32 := BitVec.ofNat 32 (i 1).val
  let v33 : BitVec 32 := Scalar.muli c2_i32_19 arg1
  let c1_i32_20 : BitVec 32 := 1#32
  let v34 : BitVec 32 := Scalar.addi v33 c1_i32_20
  let c512_i32_21 : BitVec 32 := 512#32
  let v35 : BitVec 32 := Scalar.muli v34 c512_i32_21
  v35
def k0_off8 (i : grid0.Coords) : Fin 3 → Nat :=
  let c0_22 : Index := 0#32
  let c2_i32_19 : BitVec 32 := 2#32
  let arg1 : BitVec 32 := BitVec.ofNat 32 (i 1).val
  let v33 : BitVec 32 := Scalar.muli c2_i32_19 arg1
  let c1_i32_20 : BitVec 32 := 1#32
  let v34 : BitVec 32 := Scalar.addi v33 c1_i32_20
  let c512_i32_21 : BitVec 32 := 512#32
  let v35 : BitVec 32 := Scalar.muli v34 c512_i32_21
  let v36 : BitVec 32 := v35
  let v37 : Index := Scalar.indexCast v36
  let c0_23 : Index := 0#32
  ![0, v37.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "mask" => some ⊥
  | _ => none
-- ==== FwdRefIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x4096x128 : Shape := ⟨3, ![8, 4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S8x4096x4096, .f32⟩
  | .hbm, ⟨4, _⟩ => ⟨S4096, .i32⟩
  | .hbm, ⟨5, _⟩ => ⟨S1x4096, .i32⟩
  | .hbm, ⟨6, _⟩ => ⟨S4096x1, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S8x4096x4096, .i1⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x128x4096, .f32⟩
  | .hbm, ⟨30, _⟩ => ⟨S4096x8x128, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S4096x1024, .f32⟩
  | .hbm, ⟨43, _⟩ => ⟨S4096x1024, .bf16⟩
  | .hbm, ⟨44, _⟩ => ⟨S8x4096x128, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== NormMix.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x3x1024 : Shape := ⟨3, ![1024, 3, 1024]⟩
abbrev S3x1024x1024 : Shape := ⟨3, ![3, 1024, 1024]⟩
abbrev S4096x3x1024 : Shape := ⟨3, ![4096, 3, 1024]⟩
abbrev S3x4096x1024 : Shape := ⟨3, ![3, 4096, 1024]⟩
abbrev S1x1024 : Shape := ⟨2, ![1, 1024]⟩
abbrev S3x512x1024 : Shape := ⟨3, ![3, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S1024x3072, .bf16⟩
  | .hbm, ⟨6, _⟩ => ⟨S1024x3x1024, .bf16⟩
  | .hbm, ⟨7, _⟩ => ⟨S3x1024x1024, .bf16⟩
  | .hbm, ⟨8, _⟩ => ⟨S4096x3072, .bf16⟩
  | .hbm, ⟨9, _⟩ => ⟨S4096x3x1024, .bf16⟩
  | .hbm, ⟨10, _⟩ => ⟨S3x4096x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S3x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormMixRefIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.AttnIdealBase.lean ====
/- The memrefs of the attention backward's body. -/
module

public import proofs.«01_k».proof.Proof.Gen.AttnIdeal.Frame
public import proofs.«01_k».proof.Proof.Gen.AttnIdeal.Skeleton
public import Idealize.ShloMosaic.Lib.Pipeline.Frame
public import Idealize.ShloMosaic.Lib.Tactic

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref owned by core `c` at some contents. -/
abbrev anyAt (c : Dev nD) {S : Shape} {e : EltTy} (M : Memref sig .tc .vmem S e) : sProp 𝕄 :=
  iprop(∃ d, owns (c : Thread nD τ) M fullShare d)

/-- The condition under which a point clears the query gradient's accumulator, as the body computes it. -/
abbrev clears (i : grid0.Coords) : BitVec 1 :=
  Scalar.cmpi .ne (Scalar.extui (Scalar.cmpi .eq (BitVec.ofNat 32 (i 1).val) 0#32) : BitVec 32) 0#32

section Run

variable (c : Dev nD) (i : grid0.Coords)
  (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x4096x128 .f32) (harg7 : arg7.IsWhole)
  (arg8 : Memref sig .tc .vmem S1x4096x256 .bf16) (harg8 : arg8.IsWhole) (arg9 : Memref sig .tc .vmem S1x1024x256 .bf16) (harg9 : arg9.IsWhole)
  (arg10 : Memref sig .tc .vmem S1x1024x128 .bf16) (harg10 : arg10.IsWhole) (arg11 : Memref sig .tc .vmem S4096x256 .f32) (harg11 : arg11.IsWhole)
  (arg12 : Memref sig .tc .vmem S1024x256 .f32) (harg12 : arg12.IsWhole) (arg13 : Memref sig .tc .vmem S1024x128 .f32) (harg13 : arg13.IsWhole)
  (x0 : Vec F S1x4096x256 .bf16) (x1 : Vec F S1x1024x256 .bf16) (x2 : Vec F S1x1024x128 .bf16) (x3 x4 : Vec F S4096x128 .bf16) (x5 : Vec F S1x4096x128 .f32)

/-- The inputs' memrefs at their contents. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The outputs' and the scratch memrefs, each at some contents. -/
abbrev rest : sProp 𝕄 :=
  iprop(anyAt c arg8 ∗ anyAt c arg9 ∗ anyAt c arg10 ∗ anyAt c arg11 ∗ anyAt c arg12 ∗ anyAt c arg13)

end Run

end Cert.AttnIdeal.Proof

end
-- ==== Proof.AttnIdealRun.lean ====
/- One run of the attention backward's body, at any point: the inputs stay, the outputs and the scratch are left at some contents. -/
module

public import proofs.«01_k».proof.Proof.AttnIdealBase
public import proofs.«01_k».proof.Proof.Gen.AttnIdeal.Loops
public import proofs.«01_k».proof.Proof.Gen.AttnIdeal.Skeleton
public import Idealize.ShloMosaic.Lib.Pipeline.Frame
public import Idealize.ShloMosaic.Lib.Tactic

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

section Run

variable (c : Dev nD) (i : grid0.Coords)
  (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x4096x128 .f32) (harg7 : arg7.IsWhole)
  (arg8 : Memref sig .tc .vmem S1x4096x256 .bf16) (harg8 : arg8.IsWhole) (arg9 : Memref sig .tc .vmem S1x1024x256 .bf16) (harg9 : arg9.IsWhole)
  (arg10 : Memref sig .tc .vmem S1x1024x128 .bf16) (harg10 : arg10.IsWhole) (arg11 : Memref sig .tc .vmem S4096x256 .f32) (harg11 : arg11.IsWhole)
  (arg12 : Memref sig .tc .vmem S1024x256 .f32) (harg12 : arg12.IsWhole) (arg13 : Memref sig .tc .vmem S1024x128 .f32) (harg13 : arg13.IsWhole)
  (x0 : Vec F S1x4096x256 .bf16) (x1 : Vec F S1x1024x256 .bf16) (x2 : Vec F S1x1024x128 .bf16) (x3 x4 : Vec F S4096x128 .bf16) (x5 : Vec F S1x4096x128 .f32)

set_option maxHeartbeats 4000000 in
theorem run (K : PUnit → sProp 𝕄) :
    iprop(inputs c arg2 arg3 arg4 arg5 arg6 arg7 x0 x1 x2 x3 x4 x5 ∗ rest c arg8 arg9 arg10 arg11 arg12 arg13
        ∗ (iprop(inputs c arg2 arg3 arg4 arg5 arg6 arg7 x0 x1 x2 x3 x4 x5 ∗ rest c arg8 arg9 arg10 arg11 arg12 arg13) -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part5_eq_skeleton, k0_part6_eq_skeleton, k0_part7_eq_skeleton, k0_part8_eq_skeleton]
  unfold inputs rest anyAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨⟨%d6, %f6, -, H6⟩, ⟨%d7, %f7, -, H7⟩, ⟨%d8, %f8, -, H8⟩, ⟨%d9, %f9, -, H9⟩, ⟨%d10, %f10, -, H10⟩, ⟨%d11, %f11, -, H11⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  by_cases hc0 : clears i = 1#1 <;> by_cases hc1 : k0_cond2 i = 1#1
  all_goals
    sl_exec (disch := first | sl_exact hc0 | sl_exact hc1)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [H10]; · iexists _, _; isplitr; swap; · iexact H10
                     ipureintro; rfl
    iexists _, _; isplitr; swap; · iexact H11
    ipureintro; rfl

end Run

end Cert.AttnIdeal.Proof

end
-- ==== Proof.AttnIdealFrame.lean ====
/- The frame of the attention backward: the outputs are forgotten, the scratch is at some contents between the points. -/
module

public import proofs.«01_k».proof.Proof.AttnIdealRun

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output windows: nothing here reads what the body leaves in them. -/
def forgets : Fin 9 → Bool := fun w => decide (6 ≤ w.val)

/-- The proof data: every input keeps its block, an output is unnamed, the scratch is at some contents. -/
def anyDats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t
    | ⟨3, _⟩ => iblk m c 3 t | ⟨4, _⟩ => iblk m c 4 t | ⟨5, _⟩ => iblk m c 5 t
    | w => Pipeline.Dat.unnamed (cfg := cfg0) w t
  Φ _ := Pipeline.ΦA spec0 c
  q _ := fullShare
  owed _ := 0

theorem anyDats_A (c : Dev nD) (w : Fin cfg0.W) : (anyDats m 0 c).A w = V m c (Pipeline.arrRef spec0 w) := by dsimp only [anyDats]

theorem after0 (c : Dev nD) (t : Fin cfg0.N) : (anyDats m 0 c).after 0 t = iblk m c 0 t := rfl
theorem after1 (c : Dev nD) (t : Fin cfg0.N) : (anyDats m 0 c).after 1 t = iblk m c 1 t := rfl
theorem after2 (c : Dev nD) (t : Fin cfg0.N) : (anyDats m 0 c).after 2 t = iblk m c 2 t := rfl
theorem after3 (c : Dev nD) (t : Fin cfg0.N) : (anyDats m 0 c).after 3 t = iblk m c 3 t := rfl
theorem after4 (c : Dev nD) (t : Fin cfg0.N) : (anyDats m 0 c).after 4 t = iblk m c 4 t := rfl
theorem after5 (c : Dev nD) (t : Fin cfg0.N) : (anyDats m 0 c).after 5 t = iblk m c 5 t := rfl
theorem before0 (c : Dev nD) (t : Fin cfg0.N) (d) : (anyDats m 0 c).before 0 t d = iblk m c 0 t :=
  before0_0_of m _ (anyDats_A m c 0) (after0 m c) t d
theorem before1 (c : Dev nD) (t : Fin cfg0.N) (d) : (anyDats m 0 c).before 1 t d = iblk m c 1 t :=
  before0_1_of m _ (anyDats_A m c 1) (after1 m c) t d
theorem before2 (c : Dev nD) (t : Fin cfg0.N) (d) : (anyDats m 0 c).before 2 t d = iblk m c 2 t :=
  before0_2_of m _ (anyDats_A m c 2) (after2 m c) t d
theorem before3 (c : Dev nD) (t : Fin cfg0.N) (d) : (anyDats m 0 c).before 3 t d = iblk m c 3 t :=
  before0_3_of m _ (anyDats_A m c 3) (after3 m c) t d
theorem before4 (c : Dev nD) (t : Fin cfg0.N) (d) : (anyDats m 0 c).before 4 t d = iblk m c 4 t :=
  before0_4_of m _ (anyDats_A m c 4) (after4 m c) t d
theorem before5 (c : Dev nD) (t : Fin cfg0.N) (d) : (anyDats m 0 c).before 5 t d = iblk m c 5 t :=
  before0_5_of m _ (anyDats_A m c 5) (after5 m c) t d

/-- The inputs' staging memrefs at the point, at their blocks. -/
abbrev inputsAt (c : Dev nD) (t : Fin cfg0.N) : sProp 𝕄 :=
  inputs c (st0_0 t) (st0_1 t) (st0_2 t) (st0_3 t) (st0_4 t) (st0_5 t)
    (iblk m c 0 t) (iblk m c 1 t) (iblk m c 2 t) (iblk m c 3 t) (iblk m c 4 t) (iblk m c 5 t)

/-- The invariant between the points: the three scratch buffers at some contents, the generator register at some state. -/
theorem PhiA_eq (c : Dev nD) :
    (Pipeline.ΦA spec0 c : sProp 𝕄)
      = iprop(iprop(anyAt c (Memref.whole cc0_scratch0) ∗ anyAt c (Memref.whole cc0_scratch1) ∗ anyAt c (Memref.whole cc0_scratch2))
          ∗ (∃ r, prngReg c r)) := by
  unfold Pipeline.ΦA; rw [scopedRest0_eq]; simp only [anyAt, owns_whole]

/-- What the body is called with at the point, and what it returns. -/
def anyPre (c : Dev nD) (t : Fin cfg0.N) : sProp 𝕄 :=
  iprop((anyDats m 0 c).Φ t.castSucc ∗ (anyDats m 0 c).owesAt () t.castSucc
    ∗ (∃ d, owns (c : Thread nD τ) (st0_0 t) fullShare ((anyDats m 0 c).before 0 t d))
    ∗ (∃ d, owns (c : Thread nD τ) (st0_1 t) fullShare ((anyDats m 0 c).before 1 t d))
    ∗ (∃ d, owns (c : Thread nD τ) (st0_2 t) fullShare ((anyDats m 0 c).before 2 t d))
    ∗ (∃ d, owns (c : Thread nD τ) (st0_3 t) fullShare ((anyDats m 0 c).before 3 t d))
    ∗ (∃ d, owns (c : Thread nD τ) (st0_4 t) fullShare ((anyDats m 0 c).before 4 t d))
    ∗ (∃ d, owns (c : Thread nD τ) (st0_5 t) fullShare ((anyDats m 0 c).before 5 t d))
    ∗ anyAt c (st0_6 t) ∗ anyAt c (st0_7 t) ∗ anyAt c (st0_8 t))
def anyPost (c : Dev nD) (t : Fin cfg0.N) : sProp 𝕄 :=
  iprop((anyDats m 0 c).Φ t.succ ∗ (anyDats m 0 c).owesAt () t.succ
    ∗ owns (c : Thread nD τ) (st0_0 t) fullShare ((anyDats m 0 c).after 0 t)
    ∗ owns (c : Thread nD τ) (st0_1 t) fullShare ((anyDats m 0 c).after 1 t)
    ∗ owns (c : Thread nD τ) (st0_2 t) fullShare ((anyDats m 0 c).after 2 t)
    ∗ owns (c : Thread nD τ) (st0_3 t) fullShare ((anyDats m 0 c).after 3 t)
    ∗ owns (c : Thread nD τ) (st0_4 t) fullShare ((anyDats m 0 c).after 4 t)
    ∗ owns (c : Thread nD τ) (st0_5 t) fullShare ((anyDats m 0 c).after 5 t)
    ∗ anyAt c (st0_6 t) ∗ anyAt c (st0_7 t) ∗ anyAt c (st0_8 t))

theorem any_body (c : Dev nD) (t : Fin cfg0.N) :
    anyPre m c t ⊢ wp frame (wpE (defs₀ (F := F)) Variants.none c none) Set.univ (bodyAt0 t) (fun _ => anyPost m c t) := by
  unfold anyPre anyPost bodyAt0
  simp only [before0, before1, before2, before3, before4, before5]
  rw [show (anyDats m 0 c).Φ t.succ = Pipeline.ΦA spec0 c from rfl,
    show (anyDats m 0 c).owesAt () t.succ = (anyDats m 0 c).owesAt () t.castSucc from rfl,
    show (anyDats m 0 c).Φ t.castSucc = Pipeline.ΦA spec0 c from rfl, PhiA_eq]
  rw [after0, after1, after2, after3, after4, after5]
  iintro ⟨⟨⟨S0, S1, S2⟩, Hg⟩, HO, ⟨%_, H0⟩, ⟨%_, H1⟩, ⟨%_, H2⟩, ⟨%_, H3⟩, ⟨%_, H4⟩, ⟨%_, H5⟩, H6, H7, H8⟩
  iapply (run c _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H7 H8 S0 S1 S2]
  · isplitl [H6]; · iexact H6
    isplitl [H7]; · iexact H7
    isplitl [H8]; · iexact H8
    isplitl [S0]; · iexact S0
    isplitl [S1]; · iexact S1
    iexact S2
  iintro ⟨⟨H0, H1, H2, H3, H4, H5⟩, H6, H7, H8, S0, S1, S2⟩
  isplitl [S0 S1 S2 Hg]
  · isplitl [S0 S1 S2]
    · isplitl [S0]; · iexact S0
      isplitl [S1]; · iexact S1
      iexact S2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body there. -/
theorem defs₀_row (t : Fin cfg0.N) : defs₀ (F := F) .tc cfg0.body (cfg0.bodyArgs t (cfg0.slots t)) = bodyAt0 t := by
  unfold defs₀; rw [Defs.onTc_tc]

theorem any_obligation (c : Dev nD) :
    BodyObligation (anyDats (F := F) m 0 c) (defs₀ (F := F)) Variants.none () Set.univ forgets := fun t => by
  rw [bigSep_W0, bigSep_W0, defs₀_row]
  exact triple_restated (any_body m c t) rfl .rfl fun _ => .rfl

set_option backward.isDefEq.respectTransparency.types false in
/-- Every fair run terminates, with every buffer that is no window's array as launched and every semaphore at zero. -/
theorem any_run :
    θ_run defs (onTc (τ := τ) (main (F := F))) (s₀ m ρ)
      (fun r => Pipeline.RDat.FramePost (cfgs 0) (fun c => (anyDats m 0 c).toRForget forgets) (V m) r ∧ r.2.sem = fun _ => 0) :=
  Pipeline.θ_run_frame_forget (Q' := _) cfgs (anyDats m) (0 : Fin 1) launch0 defs₀ Variants.none forgets m ρ main
    (hbody := fun c => (any_obligation m c).loose) (hshare := fun c => (anyDats m 0 c).share_full fun _ => rfl)
    (howed := fun _ _ => rfl) (V := V m) (hmain := hmain m Variants.none) (hA := anyDats_A m) (hΦ := fun _ _ => rfl)

/-- The frame claim's statement, at any value instance. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (any_run m ρ)

end Cert.AttnIdeal.Proof

end
-- ==== Proof.Reals.lean ====
module

public import Idealize.ShloMosaic.Lib.Pipeline.Value
public import Idealize.ShloMosaic.Lib.ValueIdx
public import Idealize.ShloMosaic.Lib.StableHlo
public import Idealize.ShloMosaic.PureOps.Ideal.Laws
public import Idealize.ShloMosaic.Lib.ReduceAll

/-! Real arrays inside the extended reals: what the ideal operations do to coerced reals, the float
constants of the step as reals, and the reading of a finiteness precondition. -/

@[expose] public section

noncomputable section

namespace Cert.Reals

open Idealize.ShloMosaic
open scoped BigOperators

/-! ## Operations on coerced reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe_coe {b : ℝ} (hb : b ≠ 0) (a : ℝ) : Ideal.div (a : EReal) (b : EReal) = ((a / b : ℝ) : EReal) := by
  rw [Ideal.div_coe hb, ← EReal.coe_mul, mul_one_div]

theorem rsqrt_of_pos {a : ℝ} (ha : 0 < a) : Ideal.rsqrt (a : EReal) = (((Real.sqrt a)⁻¹ : ℝ) : EReal) := by
  rw [Ideal.rsqrt_coe, if_neg (not_lt.mpr ha.le), if_neg ha.ne']

theorem zero_eq_coe : (0 : EReal) = ((0 : ℝ) : EReal) := rfl
theorem one_eq_coe : (1 : EReal) = ((1 : ℝ) : EReal) := rfl

/-! ## Constants -/

/-- The norm's epsilon, the rational of its float word. -/
def eps : ℝ := 8796093 / 2 ^ 43

theorem eps_pos : 0 < eps := by unfold eps; positivity

theorem ofBits_eps : Ideal.ofBits .f32 0x358637BD#32 = (eps : EReal) := by
  unfold eps; simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_top : Ideal.ofBits .f32 0x7F800000#32 = ⊤ := by simp [Ideal.ofBits, Ideal.ieee]

/-! ## A finiteness precondition -/

theorem exists_real (x : EReal) (h : max x (-x) < ⊤) : ∃ r : ℝ, x = (r : EReal) := by
  induction x with
  | bot => simp at h
  | top => simp at h
  | coe r => exact ⟨r, rfl⟩

instance : Subsingleton ((⟨0, ![]⟩ : Shape).Idx) := ⟨fun a b => funext fun i => i.elim0⟩

/-- An array whose absolute values are all below infinity is an array of reals. -/
theorem reals_of_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi (cmpf .olt (Host.absf x) (broadcastInDim s ![] hb (constant ⟨0, ![]⟩ .f32 0x7F800000#32))) init hr hu j = 1#1) :
    ∃ r : s.Idx → ℝ, x = fun i => (r i : EReal) := by
  have h : ∀ i, ∃ r : ℝ, x i = (r : EReal) := fun i => by
    have hi := Host.reduce_andi_all _ init hr hu j e i
    apply exists_real
    have hi' : BitVec.ofBool (decide (max (x i) (-(x i)) < Ideal.ofBits .f32 0x7F800000#32)) = 1#1 := hi
    rw [ofBits_top] at hi'
    by_contra hc
    rw [decide_eq_false hc] at hi'
    exact absurd hi' (by decide)
  choose r hr using h
  exact ⟨r, funext hr⟩

/-! ## The root mean square norm -/

/-- The mean square of row `i` and the norm's epsilon, and the reciprocal of its root. -/
def ms {n : Nat} (H : Fin n → Fin 1024 → ℝ) (i : Fin n) : ℝ := (∑ k, H i k * H i k) / 1024 + eps

def rr {n : Nat} (H : Fin n → Fin 1024 → ℝ) (i : Fin n) : ℝ := (Real.sqrt (ms H i))⁻¹

theorem ms_pos {n : Nat} (H : Fin n → Fin 1024 → ℝ) (i : Fin n) : 0 < ms H i :=
  add_pos_of_nonneg_of_pos (div_nonneg (Finset.sum_nonneg fun k _ => mul_self_nonneg _) (by norm_num)) eps_pos

theorem rr_div_ms {n : Nat} (H : Fin n → Fin 1024 → ℝ) (i : Fin n) : rr H i / ms H i = rr H i * rr H i * rr H i := by
  have h := ms_pos H i
  have hs : rr H i * rr H i = (ms H i)⁻¹ := by
    unfold rr
    rw [← mul_inv, Real.mul_self_sqrt h.le]
  rw [hs, div_eq_inv_mul]

end Cert.Reals

end
-- ==== Proof.AttnPay.lean ====
/- The payloads of the attention backward's body over blocks of reals. -/
module

public import proofs.«01_k».proof.Proof.Gen.AttnIdeal.Skeleton
public import proofs.«01_k».proof.Proof.Reals
public import Idealize.ShloMosaic.Lib.Pipeline.ValueKit
public import Idealize.ShloMosaic.Lib.Pointwise
public import Idealize.ShloMosaic.PureOps.IdealRules
public import Idealize.ShloMosaic.Lib.WordCmp

@[expose] public section

set_option maxRecDepth 16384

noncomputable section

namespace Cert.AttnIdeal.Proof

open Cert.AttnIdeal Cert.AttnIdeal.Gen
open Idealize.ShloMosaic Idealize.ShloMosaic.TcCoe
open Cert.Reals

/-! ## One block of the scores' gradient, over reals -/

/-- The inner product of row `r` of `A` and row `y` of `B`. -/
def ip {R C D : ℕ} (A : Fin R → Fin D → ℝ) (B : Fin C → Fin D → ℝ) (r : Fin R) (y : Fin C) : ℝ := ∑ d, A r d * B y d

/-- The probabilities of a block, from the scores and the rows' saved logarithms of sums. -/
def pb {R C : ℕ} (Q : Fin R → Fin 256 → ℝ) (K : Fin C → Fin 256 → ℝ) (L : Fin R → ℝ) (r : Fin R) (y : Fin C) : ℝ :=
  Real.exp (ip Q K r y - L r)

/-- The scores' gradient on a block whose probabilities are `P`. -/
def gb {R C : ℕ} (P : Fin R → Fin C → ℝ) (DO O : Fin R → Fin 128 → ℝ) (V : Fin C → Fin 128 → ℝ) (r : Fin R) (y : Fin C) : ℝ :=
  P r y * (ip DO V r y - ∑ e, DO r e * O r e)

theorem mask_const : (Named.named (F := Ideal) κ "mask" (φ := .f32) 0xF149F2CA#32) = (⊥ : EReal) :=
  IdealRules.named_const.ideal_named_scalar _ _ _ _ rfl

theorem select_sle {α : Type} (y p : Fin 512) (a b : α) :
    Scalar.select (IntOp.cmpi CmpIPredicate.sle (BitVec.ofNat 32 y.val) (BitVec.ofNat 32 p.val)) a b = if y.val ≤ p.val then a else b := by
  unfold Scalar.select
  exact if_congr (WordCmp.cmpi_sle_ofNat_eq_one_iff (by have := y.isLt; omega) (by have := p.isLt; omega)) rfl rfl

section Loop

variable (v156 : Vec Ideal S1x1024x256 .bf16) (v159 v166 : Vec Ideal S1024x128 .bf16) (v162 : Vec Ideal S1x1024x1 .f32)
  (v157 : FVec Ideal S1024x256 .bf16) (v160 : FVec Ideal S1024x128 .bf16) (v163 v171 : FVec Ideal S1024x1 .f32)
  (v172 v189 : Vec Ideal S1x512x256 .bf16) (v174 v191 : Vec Ideal S1x512x128 .bf16)
  (Q : Fin 1024 → Fin 256 → ℝ) (DO O : Fin 1024 → Fin 128 → ℝ) (L : Fin 1024 → ℝ) (K0 K1 : Fin 512 → Fin 256 → ℝ) (V0 V1 : Fin 512 → Fin 128 → ℝ)
  (hQ : ∀ p d, v156 (ix3 0 p d) = (Q p d : EReal)) (hDO : ∀ p e, v159 (ix2 p e) = (DO p e : EReal)) (hO : ∀ p e, v166 (ix2 p e) = (O p e : EReal))
  (hL : ∀ p, v162 (ix3 0 p 0) = (L p : EReal)) (hK0 : ∀ y d, v172 (ix3 0 y d) = (K0 y d : EReal)) (hK1 : ∀ y d, v189 (ix3 0 y d) = (K1 y d : EReal))
  (hV0 : ∀ y e, v174 (ix3 0 y e) = (V0 y e : EReal)) (hV1 : ∀ y e, v191 (ix3 0 y e) = (V1 y e : EReal))
  (hQ' : ∀ p d, v157 (ix2 p d) = (Q p d : EReal)) (hDO' : ∀ p e, v160 (ix2 p e) = (DO p e : EReal))
  (hL' : ∀ p, v163 (ix2 p 0) = (L p : EReal)) (hD' : ∀ p, v171 (ix2 p 0) = ((∑ e, DO p e * O p e : ℝ) : EReal))

include hQ in
theorem pay_q (p : Fin 1024) (d : Fin 256) : k0_pay3 (F := Ideal) v156 (ix2 p d) = (Q p d : EReal) := by pointwise [k0_pay3, hQ]
include hDO in
theorem pay_do (p : Fin 1024) (e : Fin 128) : k0_pay4 (F := Ideal) v159 (ix2 p e) = (DO p e : EReal) := by pointwise [k0_pay4, hDO]
include hL in
theorem pay_l (p : Fin 1024) : k0_pay5 (F := Ideal) v162 (ix2 p 0) = (L p : EReal) := by pointwise [k0_pay5, hL]
include hDO hO in
theorem pay_delta (p : Fin 1024) : k0_pay6 (F := Ideal) v159 v166 (ix2 p 0) = ((∑ e, DO p e * O p e : ℝ) : EReal) := by
  pointwise [k0_pay6, k0_pay4, hDO, hO]
  simp only [← EReal.coe_mul, coe_sum]

include hQ hL hK0 in
theorem pay_p0 (p : Fin 1024) (y : Fin 512) : k0_pay8 (F := Ideal) v156 v162 v172 (ix2 p y) = (pb Q K0 L p y : EReal) := by
  pointwise [k0_pay8, k0_pay7, pay_q v156 Q hQ, pay_l v162 L hL, hK0]
  simp only [← EReal.coe_mul, coe_sum, ← EReal.coe_sub, Ideal.exp_coe]
  rfl

include hQ' hL' hK1 in
theorem pay_p1 (p : Fin 1024) (y : Fin 512) : k0_pay14 (F := Ideal) v157 v163 v189 (ix2 p y) = (pb Q K1 L p y : EReal) := by
  pointwise [k0_pay14, k0_pay13, hQ', hL', hK1]
  simp only [← EReal.coe_mul, coe_sum, ← EReal.coe_sub, Ideal.exp_coe]
  rfl

include hQ hL hK0 hDO hO hV0 in
theorem pay_g0 (p : Fin 1024) (y : Fin 512) :
    k0_pay9 (F := Ideal) v156 v159 v162 v166 v172 v174 (ix2 p y) = (gb (pb Q K0 L) DO O V0 p y : EReal) := by
  pointwise [k0_pay9, pay_do v159 DO hDO, pay_delta v159 v166 DO O hDO hO, pay_p0 v156 v162 v172 Q L K0 hQ hL hK0, hV0]
  simp only [← EReal.coe_mul, coe_sum, ← EReal.coe_sub]
  rfl

include hQ' hL' hK1 hDO' hD' hV1 in
theorem pay_g1 (p : Fin 1024) (y : Fin 512) :
    k0_pay15 (F := Ideal) v157 v160 v163 v171 v189 v191 (ix2 p y) = (gb (pb Q K1 L) DO O V1 p y : EReal) := by
  pointwise [k0_pay15, pay_p1 v157 v163 v189 Q L K1 hK1 hQ' hL', hDO', hD', hV1]
  simp only [← EReal.coe_mul, coe_sum, ← EReal.coe_sub]
  rfl

include hQ hL hK0 hK1 hDO hO hV0 hV1 hQ' hDO' hL' hD' in
theorem pay_dq (v208 : Vec Ideal S1024x256 .f32) (p : Fin 1024) (d : Fin 256) :
    k0_pay17 (F := Ideal) v157 v160 v163 v171 (k0_pay12 v156 v159 v162 v166 v172 v174) v189 v191 v208 (ix2 p d)
    = v208 (ix2 p d) + ((∑ y, gb (pb Q K0 L) DO O V0 p y * K0 y d + ∑ y, gb (pb Q K1 L) DO O V1 p y * K1 y d : ℝ) : EReal) := by
  pointwise [k0_pay17, k0_pay12, k0_pay13, k0_pay7, pay_g0 v156 v159 v166 v162 v172 v174 Q DO O L K0 V0 hQ hDO hO hL hK0 hV0,
    pay_g1 v157 v160 v163 v171 v189 v191 Q DO O L K1 V1 hK1 hV1 hQ' hDO' hL' hD', hK0, hK1]
  simp only [← EReal.coe_mul, coe_sum, ← EReal.coe_add]

include hQ hL hK0 hDO in
theorem pay_dv0 (v214 : Vec Ideal S512x128 .f32) (y : Fin 512) (e : Fin 128) :
    k0_pay18 (F := Ideal) (k0_pay10 v156 v159 v162 v172) v214 (ix2 y e) = v214 (ix2 y e) + ((∑ p, pb Q K0 L p y * DO p e : ℝ) : EReal) := by
  pointwise [k0_pay18, k0_pay10, pay_do v159 DO hDO, pay_p0 v156 v162 v172 Q L K0 hQ hL hK0]
  simp only [← EReal.coe_mul, coe_sum]

include hQ' hL' hK1 hDO' in
theorem pay_dv1 (v224 : Vec Ideal S512x128 .f32) (y : Fin 512) (e : Fin 128) :
    k0_pay70 (F := Ideal) (k0_pay20 v157 v160 v163 v189 v224) (ix2 y e) = v224 (ix2 y e) + ((∑ p, pb Q K1 L p y * DO p e : ℝ) : EReal) := by
  pointwise [k0_pay70, k0_pay20, pay_p1 v157 v163 v189 Q L K1 hK1 hQ' hL', hDO']
  simp only [← EReal.coe_mul, coe_sum]

include hQ hL hK0 hDO hO hV0 in
theorem pay_dk0 (v219 : Vec Ideal S512x256 .f32) (y : Fin 512) (d : Fin 256) :
    k0_pay19 (F := Ideal) (k0_pay11 v156 v159 v162 v166 v172 v174) v219 (ix2 y d) = v219 (ix2 y d) + ((∑ p, gb (pb Q K0 L) DO O V0 p y * Q p d : ℝ) : EReal) := by
  pointwise [k0_pay19, k0_pay11, pay_q v156 Q hQ, pay_g0 v156 v159 v166 v162 v172 v174 Q DO O L K0 V0 hQ hDO hO hL hK0 hV0]
  simp only [← EReal.coe_mul, coe_sum]

include hQ' hL' hK1 hDO' hD' hV1 in
theorem pay_dk1 (v229 : Vec Ideal S512x256 .f32) (y : Fin 512) (d : Fin 256) :
    k0_pay71 (F := Ideal) (k0_pay16 v157 v160 v163 v171 v189 v191) v229 (ix2 y d)
    = v229 (ix2 y d) + ((∑ p, gb (pb Q K1 L) DO O V1 p y * Q p d : ℝ) : EReal) := by
  pointwise [k0_pay71, k0_pay16, pay_g1 v157 v160 v163 v171 v189 v191 Q DO O L K1 V1 hK1 hV1 hQ' hDO' hL' hD', hQ']
  simp only [← EReal.coe_mul, coe_sum]

end Loop

section Diagonal

/-- The probabilities of a block on the diagonal: nothing right of it. -/
def pd (Q : Fin 512 → Fin 256 → ℝ) (K : Fin 512 → Fin 256 → ℝ) (L : Fin 512 → ℝ) (r y : Fin 512) : ℝ :=
  if y.val ≤ r.val then pb Q K L r y else 0

theorem exp_masked (Q K : Fin 512 → Fin 256 → ℝ) (L : Fin 512 → ℝ) (p y : Fin 512) :
    Ideal.exp ((if y.val ≤ p.val then (∑ x, (Q p x : EReal) * (K y x : EReal)) else ⊥) - (L p : EReal)) = (pd Q K L p y : EReal) := by
  unfold pd
  split
  · simp only [← EReal.coe_mul, coe_sum, ← EReal.coe_sub, Ideal.exp_coe]
    rfl
  · rw [EReal.bot_sub, Ideal.exp_bot]
    rfl

variable (v7 : Vec Ideal S1x512x256 .bf16) (v10 v17 : Vec Ideal S512x128 .bf16) (v13 : Vec Ideal S1x512x1 .f32)
  (v8 : FVec Ideal S512x256 .bf16) (v11 : FVec Ideal S512x128 .bf16) (v14 v22 : FVec Ideal S512x1 .f32) (v24 : FVec Ideal S512x256 .bf16) (v35 v36 : FVec Ideal S512x512 .f32)
  (v23 v90 : Vec Ideal S1x512x256 .bf16) (v25 v92 : Vec Ideal S1x512x128 .bf16)
  (Q : Fin 512 → Fin 256 → ℝ) (DO O : Fin 512 → Fin 128 → ℝ) (L : Fin 512 → ℝ) (K0 K1 : Fin 512 → Fin 256 → ℝ) (V0 V1 : Fin 512 → Fin 128 → ℝ)
  (hQ : ∀ p d, v7 (ix3 0 p d) = (Q p d : EReal)) (hDO : ∀ p e, v10 (ix2 p e) = (DO p e : EReal)) (hO : ∀ p e, v17 (ix2 p e) = (O p e : EReal))
  (hL : ∀ p, v13 (ix3 0 p 0) = (L p : EReal)) (hK0 : ∀ y d, v23 (ix3 0 y d) = (K0 y d : EReal)) (hK1 : ∀ y d, v90 (ix3 0 y d) = (K1 y d : EReal))
  (hV0 : ∀ y e, v25 (ix3 0 y e) = (V0 y e : EReal)) (hV1 : ∀ y e, v92 (ix3 0 y e) = (V1 y e : EReal))
  (hQ' : ∀ p d, v8 (ix2 p d) = (Q p d : EReal)) (hDO' : ∀ p e, v11 (ix2 p e) = (DO p e : EReal)) (hL' : ∀ p, v14 (ix2 p 0) = (L p : EReal))
  (hD' : ∀ p, v22 (ix2 p 0) = ((∑ e, DO p e * O p e : ℝ) : EReal)) (hK' : ∀ y d, v24 (ix2 y d) = (K0 y d : EReal))
  (hP' : ∀ p y, v35 (ix2 p y) = (pd Q K0 L p y : EReal)) (hT' : ∀ p y, v36 (ix2 p y) = (ip DO V0 p y : EReal))

/-! ### The first row block: its keys' first half, masked -/

include hQ in
theorem pay_qa (p : Fin 512) (d : Fin 256) : k0_pay40 (F := Ideal) v7 (ix2 p d) = (Q p d : EReal) := by pointwise [k0_pay40, hQ]
include hDO in
theorem pay_doa (p : Fin 512) (e : Fin 128) : k0_pay41 (F := Ideal) v10 (ix2 p e) = (DO p e : EReal) := by pointwise [k0_pay41, hDO]
include hDO hO in
theorem pay_deltaa (p : Fin 512) : k0_pay42 (F := Ideal) v10 v17 (ix2 p 0) = ((∑ e, DO p e * O p e : ℝ) : EReal) := by
  pointwise [k0_pay42, k0_pay41, hDO, hO]
  simp only [← EReal.coe_mul, coe_sum]
include hK0 in
theorem pay_ka (y : Fin 512) (d : Fin 256) : k0_pay43 (F := Ideal) v23 (ix2 y d) = (K0 y d : EReal) := by pointwise [k0_pay43, hK0]
include hQ hL hK0 in
theorem pay_pa (p y : Fin 512) : k0_pay44 (F := Ideal) v7 v13 v23 (ix2 p y) = (pd Q K0 L p y : EReal) := by
  pointwise [k0_pay44, pay_qa v7 Q hQ, pay_ka v23 K0 hK0, mask_const, hL, select_sle]
  exact exp_masked Q K0 L p y
include hDO hV0 in
theorem pay_ta (p y : Fin 512) : k0_pay45 (F := Ideal) v10 v25 (ix2 p y) = (ip DO V0 p y : EReal) := by
  pointwise [k0_pay45, pay_doa v10 DO hDO, hV0]
  simp only [← EReal.coe_mul, coe_sum]
  rfl

include hD' hP' hT' in
theorem pay_ga (p y : Fin 512) : k0_pay46 (F := Ideal) v22 v35 v36 (ix2 p y) = (gb (pd Q K0 L) DO O V0 p y : EReal) := by
  pointwise [k0_pay46, hD', hP', hT']
  simp only [← EReal.coe_mul, coe_sum, ← EReal.coe_sub]
  rfl
include hDO' hP' in
theorem pay_dva (y : Fin 512) (e : Fin 128) : k0_pay47 (F := Ideal) v11 v35 (ix2 y e) = ((∑ p, pd Q K0 L p y * DO p e : ℝ) : EReal) := by
  pointwise [k0_pay47, hDO', hP']
  simp only [← EReal.coe_mul, coe_sum]
include hQ' hD' hP' hT' in
theorem pay_dka (y : Fin 512) (d : Fin 256) :
    k0_pay48 (F := Ideal) v8 v22 v35 v36 (ix2 y d) = ((∑ p, gb (pd Q K0 L) DO O V0 p y * Q p d : ℝ) : EReal) := by
  pointwise [k0_pay48, pay_ga v22 v35 v36 Q DO O L K0 V0 hD' hP' hT', hQ']
  simp only [← EReal.coe_mul, coe_sum]
include hK' hD' hP' hT' in
theorem pay_dqa (v46 : Vec Ideal S512x256 .f32) (p : Fin 512) (d : Fin 256) :
    k0_pay49 (F := Ideal) v22 v24 v35 v36 v46 (ix2 p d) = v46 (ix2 p d) + ((∑ y, gb (pd Q K0 L) DO O V0 p y * K0 y d : ℝ) : EReal) := by
  pointwise [k0_pay49, pay_ga v22 v35 v36 Q DO O L K0 V0 hD' hP' hT', hK']
  simp only [← EReal.coe_mul, coe_sum]

/-! ### The second row block: the first half of the keys, then the second half, masked -/

include hQ in
theorem pay_qb (p : Fin 512) (d : Fin 256) : k0_pay50 (F := Ideal) v7 (ix2 p d) = (Q p d : EReal) := by pointwise [k0_pay50, hQ]
include hDO in
theorem pay_dob (p : Fin 512) (e : Fin 128) : k0_pay51 (F := Ideal) v10 (ix2 p e) = (DO p e : EReal) := by pointwise [k0_pay51, hDO]
include hL in
theorem pay_lb (p : Fin 512) : k0_pay52 (F := Ideal) v13 (ix2 p 0) = (L p : EReal) := by pointwise [k0_pay52, hL]
include hDO hO in
theorem pay_deltab (p : Fin 512) : k0_pay53 (F := Ideal) v10 v17 (ix2 p 0) = ((∑ e, DO p e * O p e : ℝ) : EReal) := by
  pointwise [k0_pay53, k0_pay51, hDO, hO]
  simp only [← EReal.coe_mul, coe_sum]
include hK0 in
theorem pay_kb (y : Fin 512) (d : Fin 256) : k0_pay54 (F := Ideal) v23 (ix2 y d) = (K0 y d : EReal) := by pointwise [k0_pay54, hK0]
include hQ' hL' hK' in
theorem pay_pb (p y : Fin 512) : k0_pay55 (F := Ideal) v8 v14 v24 (ix2 p y) = (pb Q K0 L p y : EReal) := by
  pointwise [k0_pay55, hQ', hK', hL']
  simp only [← EReal.coe_mul, coe_sum, ← EReal.coe_sub, Ideal.exp_coe]
  rfl
include hQ' hL' hK' hDO' hD' hV0 in
theorem pay_gb (p y : Fin 512) : k0_pay56 (F := Ideal) v8 v11 v14 v22 v24 v25 (ix2 p y) = (gb (pb Q K0 L) DO O V0 p y : EReal) := by
  pointwise [k0_pay56, pay_pb v8 v14 v24 Q L K0 hQ' hL' hK', hDO', hD', hV0]
  simp only [← EReal.coe_mul, coe_sum, ← EReal.coe_sub]
  rfl
include hQ' hL' hK' hDO' in
theorem pay_dvb (y : Fin 512) (e : Fin 128) : k0_pay57 (F := Ideal) v8 v11 v14 v24 (ix2 y e) = ((∑ p, pb Q K0 L p y * DO p e : ℝ) : EReal) := by
  pointwise [k0_pay57, pay_pb v8 v14 v24 Q L K0 hQ' hL' hK', hDO']
  simp only [← EReal.coe_mul, coe_sum]
include hQ' hL' hK' hDO' hD' hV0 in
theorem pay_dkb (y : Fin 512) (d : Fin 256) :
    k0_pay58 (F := Ideal) v8 v11 v14 v22 v24 v25 (ix2 y d) = ((∑ p, gb (pb Q K0 L) DO O V0 p y * Q p d : ℝ) : EReal) := by
  pointwise [k0_pay58, pay_gb v8 v11 v14 v22 v24 v25 Q DO O L K0 V0 hV0 hQ' hDO' hL' hD' hK', hQ']
  simp only [← EReal.coe_mul, coe_sum]
include hQ' hL' hK1 in
theorem pay_pc (p y : Fin 512) : k0_pay60 (F := Ideal) v8 v14 v90 (ix2 p y) = (pd Q K1 L p y : EReal) := by
  pointwise [k0_pay60, k0_pay59, hQ', hK1, mask_const, hL', select_sle]
  exact exp_masked Q K1 L p y
include hQ' hL' hK1 hDO' hD' hV1 in
theorem pay_gc (p y : Fin 512) : k0_pay61 (F := Ideal) v8 v11 v14 v22 v90 v92 (ix2 p y) = (gb (pd Q K1 L) DO O V1 p y : EReal) := by
  pointwise [k0_pay61, pay_pc v8 v14 v90 Q L K1 hK1 hQ' hL', hDO', hD', hV1]
  simp only [← EReal.coe_mul, coe_sum, ← EReal.coe_sub]
  rfl
include hQ' hL' hK1 hDO' in
theorem pay_dvc (y : Fin 512) (e : Fin 128) : k0_pay62 (F := Ideal) v8 v11 v14 v90 (ix2 y e) = ((∑ p, pd Q K1 L p y * DO p e : ℝ) : EReal) := by
  pointwise [k0_pay62, pay_pc v8 v14 v90 Q L K1 hK1 hQ' hL', hDO']
  simp only [← EReal.coe_mul, coe_sum]
include hQ' hL' hK1 hDO' hD' hV1 in
theorem pay_dkc (y : Fin 512) (d : Fin 256) :
    k0_pay63 (F := Ideal) v8 v11 v14 v22 v90 v92 (ix2 y d) = ((∑ p, gb (pd Q K1 L) DO O V1 p y * Q p d : ℝ) : EReal) := by
  pointwise [k0_pay63, pay_gc v8 v11 v14 v22 v90 v92 Q DO O L K1 V1 hK1 hV1 hQ' hDO' hL' hD', hQ']
  simp only [← EReal.coe_mul, coe_sum]
include hQ' hL' hK' hK1 hDO' hD' hV0 hV1 in
theorem pay_dqb (v114 : Vec Ideal S512x256 .f32) (p : Fin 512) (d : Fin 256) :
    k0_pay65 (F := Ideal) (k0_pay64 v8 v11 v14 v22 v24 v25 v90 v92 v114) (ix2 p d)
    = v114 (ix2 p d) + ((∑ y, gb (pb Q K0 L) DO O V0 p y * K0 y d + ∑ y, gb (pd Q K1 L) DO O V1 p y * K1 y d : ℝ) : EReal) := by
  pointwise [k0_pay65, k0_pay64, k0_pay59, pay_gb v8 v11 v14 v22 v24 v25 Q DO O L K0 V0 hV0 hQ' hDO' hL' hD' hK',
    pay_gc v8 v11 v14 v22 v90 v92 Q DO O L K1 V1 hK1 hV1 hQ' hDO' hL' hD', hK', hK1]
  simp only [← EReal.coe_mul, coe_sum, ← EReal.coe_add]

end Diagonal

end Cert.AttnIdeal.Proof

end
-- ==== Proof.AttnMath.lean ====
/- The gradients of causal attention over one head, as sums of reals, and how they grow block by block. -/
module

public import proofs.«01_k».proof.Proof.AttnPay

@[expose] public section

set_option maxRecDepth 16384

noncomputable section

namespace Cert.AttnIdeal.Proof

open Finset

/-- One head's arrays: queries, keys, values, the gradient of the output, the output and the rows' logarithms of sums. -/
structure Head where
  q : ℕ → Fin 256 → ℝ
  k : ℕ → Fin 256 → ℝ
  v : ℕ → Fin 128 → ℝ
  g : ℕ → Fin 128 → ℝ
  o : ℕ → Fin 128 → ℝ
  l : ℕ → ℝ

namespace Head

variable (H : Head)

/-- The probability of key `c` for query `r`. -/
def P (r c : ℕ) : ℝ := if c ≤ r then Real.exp (∑ d, H.q r d * H.k c d - H.l r) else 0

/-- The gradient of the score of key `c` for query `r`. -/
def G (r c : ℕ) : ℝ := H.P r c * (∑ e, H.g r e * H.v c e - ∑ e, H.g r e * H.o r e)

/-- The gradient of query `r` from the first `n` keys. -/
def dq (n r : ℕ) (d : Fin 256) : ℝ := ∑ c ∈ range n, H.G r c * H.k c d

/-- The gradient of key `c` from the first `n` queries. -/
def dk (n c : ℕ) (d : Fin 256) : ℝ := ∑ r ∈ range n, H.G r c * H.q r d

/-- The gradient of value `c` from the first `n` queries. -/
def dv (n c : ℕ) (e : Fin 128) : ℝ := ∑ r ∈ range n, H.P r c * H.g r e

theorem P_of_lt {r c : ℕ} (h : r < c) : H.P r c = 0 := if_neg (by omega)
theorem G_of_lt {r c : ℕ} (h : r < c) : H.G r c = 0 := by unfold G; rw [H.P_of_lt h, zero_mul]

theorem dq_zero (r : ℕ) (d : Fin 256) : H.dq 0 r d = 0 := sum_range_zero _

theorem sum_split {f : ℕ → ℝ} (n m : ℕ) : ∑ c ∈ range (n + m), f c = ∑ c ∈ range n, f c + ∑ y : Fin m, f (n + y.val) := by
  rw [sum_range_add, Finset.sum_range (fun x => f (n + x))]

/-- A row before the keys `[n, n + m)` takes nothing from them. -/
theorem dq_before {n m r : ℕ} (d : Fin 256) (h : r < n) : H.dq (n + m) r d = H.dq n r d := by
  unfold dq
  rw [sum_split, add_eq_left]
  exact Finset.sum_eq_zero fun y _ => by rw [H.G_of_lt (by omega), zero_mul]

theorem dq_half (n r : ℕ) (d : Fin 256) : H.dq (n + 512) r d = H.dq n r d + ∑ y : Fin 512, H.G r (n + y.val) * H.k (n + y.val) d := sum_split _ _

theorem dq_block (n r : ℕ) (d : Fin 256) :
    H.dq (n + 1024) r d = H.dq n r d
      + (∑ y : Fin 512, H.G r (n + y.val) * H.k (n + y.val) d + ∑ y : Fin 512, H.G r (n + 512 + y.val) * H.k (n + 512 + y.val) d) := by
  rw [show n + 1024 = n + 512 + 512 from rfl, dq_half, dq_half, add_assoc]

theorem dk_block (n m c : ℕ) (d : Fin 256) : H.dk (n + m) c d = H.dk n c d + ∑ p : Fin m, H.G (n + p.val) c * H.q (n + p.val) d := sum_split _ _
theorem dv_block (n m c : ℕ) (e : Fin 128) : H.dv (n + m) c e = H.dv n c e + ∑ p : Fin m, H.P (n + p.val) c * H.g (n + p.val) e := sum_split _ _

theorem dk_before {n c : ℕ} (d : Fin 256) (h : n ≤ c) : H.dk n c d = 0 :=
  Finset.sum_eq_zero fun r hr => by rw [H.G_of_lt (by have := mem_range.1 hr; omega), zero_mul]
theorem dv_before {n c : ℕ} (e : Fin 128) (h : n ≤ c) : H.dv n c e = 0 :=
  Finset.sum_eq_zero fun r hr => by rw [H.P_of_lt (by have := mem_range.1 hr; omega), zero_mul]

/-! ### Blocks of the head -/

/-- Rows `[o, o + R)` of an array. -/
abbrev rows {D : Type} (R : ℕ) (A : ℕ → D) (o : ℕ) : Fin R → D := fun p => A (o + p.val)

theorem pb_rows {R C : ℕ} (o u : ℕ) (p : Fin R) (y : Fin C) (h : u + y.val ≤ o + p.val) :
    pb (rows R H.q o) (rows C H.k u) (rows R H.l o) p y = H.P (o + p.val) (u + y.val) := by
  unfold P; rw [if_pos h]; rfl

theorem gb_rows {R C : ℕ} (o u : ℕ) (p : Fin R) (y : Fin C) (h : u + y.val ≤ o + p.val) :
    gb (pb (rows R H.q o) (rows C H.k u) (rows R H.l o)) (rows R H.g o) (rows R H.o o) (rows C H.v u) p y = H.G (o + p.val) (u + y.val) := by
  unfold gb G; rw [H.pb_rows o u p y h]; rfl

theorem pd_rows (o : ℕ) (p y : Fin 512) : pd (rows 512 H.q o) (rows 512 H.k o) (rows 512 H.l o) p y = H.P (o + p.val) (o + y.val) := by
  unfold pd P
  exact if_congr (by omega) rfl rfl

theorem gd_rows (o : ℕ) (p y : Fin 512) :
    gb (pd (rows 512 H.q o) (rows 512 H.k o) (rows 512 H.l o)) (rows 512 H.g o) (rows 512 H.o o) (rows 512 H.v o) p y = H.G (o + p.val) (o + y.val) := by
  unfold gb G; rw [H.pd_rows o p y]; rfl

/-! ### The block on the diagonal -/

theorem dk_diag0 (n : ℕ) (y : Fin 512) (d : Fin 256) :
    H.dk (n + 1024) (n + y.val) d
      = ∑ p : Fin 512, H.G (n + p.val) (n + y.val) * H.q (n + p.val) d
        + ∑ p : Fin 512, H.G (n + 512 + p.val) (n + y.val) * H.q (n + 512 + p.val) d := by
  rw [show n + 1024 = n + 512 + 512 from rfl, dk_block, dk_block, H.dk_before d (by omega), zero_add]

theorem dk_diag1 (n : ℕ) (y : Fin 512) (d : Fin 256) :
    H.dk (n + 1024) (n + 512 + y.val) d = ∑ p : Fin 512, H.G (n + 512 + p.val) (n + 512 + y.val) * H.q (n + 512 + p.val) d := by
  rw [show n + 1024 = n + 512 + 512 from rfl, dk_block, H.dk_before d (by omega), zero_add]

theorem dv_diag0 (n : ℕ) (y : Fin 512) (e : Fin 128) :
    H.dv (n + 1024) (n + y.val) e
      = ∑ p : Fin 512, H.P (n + p.val) (n + y.val) * H.g (n + p.val) e
        + ∑ p : Fin 512, H.P (n + 512 + p.val) (n + y.val) * H.g (n + 512 + p.val) e := by
  rw [show n + 1024 = n + 512 + 512 from rfl, dv_block, dv_block, H.dv_before e (by omega), zero_add]

theorem dv_diag1 (n : ℕ) (y : Fin 512) (e : Fin 128) :
    H.dv (n + 1024) (n + 512 + y.val) e = ∑ p : Fin 512, H.P (n + 512 + p.val) (n + 512 + y.val) * H.g (n + 512 + p.val) e := by
  rw [show n + 1024 = n + 512 + 512 from rfl, dv_block, H.dv_before e (by omega), zero_add]

end Head

/-! ### The payloads of the block on the diagonal, over the head's rows -/

section Diagonal

open Head (rows)
open Cert.AttnIdeal Cert.AttnIdeal.Gen
open Idealize.ShloMosaic Idealize.ShloMosaic.TcCoe
open Cert.Reals

variable (H : Head) (n : ℕ)
  {a7 b7 : Vec Ideal S1x512x256 .bf16} {a10 b10 a17 b17 : Vec Ideal S512x128 .bf16} {a13 b13 : Vec Ideal S1x512x1 .f32}
  {v23 v90 : Vec Ideal S1x512x256 .bf16} {v25 v92 : Vec Ideal S1x512x128 .bf16}
  (hQ : ∀ p d, a7 (ix3 0 p d) = (rows 512 H.q n p d : EReal)) (hG : ∀ p e, a10 (ix2 p e) = (rows 512 H.g n p e : EReal))
  (hO : ∀ p e, a17 (ix2 p e) = (rows 512 H.o n p e : EReal)) (hL : ∀ p, a13 (ix3 0 p 0) = ((rows 512 H.l n p : ℝ) : EReal))
  (hQ' : ∀ p d, b7 (ix3 0 p d) = (rows 512 H.q (n + 512) p d : EReal)) (hG' : ∀ p e, b10 (ix2 p e) = (rows 512 H.g (n + 512) p e : EReal))
  (hO' : ∀ p e, b17 (ix2 p e) = (rows 512 H.o (n + 512) p e : EReal)) (hL' : ∀ p, b13 (ix3 0 p 0) = ((rows 512 H.l (n + 512) p : ℝ) : EReal))
  (hK0 : ∀ y d, v23 (ix3 0 y d) = (rows 512 H.k n y d : EReal)) (hK1 : ∀ y d, v90 (ix3 0 y d) = (rows 512 H.k (n + 512) y d : EReal))
  (hV0 : ∀ y e, v25 (ix3 0 y e) = (rows 512 H.v n y e : EReal)) (hV1 : ∀ y e, v92 (ix3 0 y e) = (rows 512 H.v (n + 512) y e : EReal))

include hQ hG hO hL hK0 hV0 in
theorem diag_dqa (v46 : Vec Ideal S512x256 .f32) (hv : ∀ p x, v46 (ix2 p x) = (H.dq n (n + p.val) x : EReal)) (p : Fin 512) (x : Fin 256) :
    k0_pay49 (F := Ideal) (k0_pay42 a10 a17) (k0_pay43 v23) (k0_pay44 a7 a13 v23) (k0_pay45 a10 v25) v46 (ix2 p x) = (H.dq (n + 1024) (n + p.val) x : EReal) := by
  rw [pay_dqa _ _ _ _ _ _ _ _ _ _ (pay_deltaa _ _ _ _ hG hO) (pay_ka _ _ hK0) (pay_pa _ _ _ _ _ _ hQ hL hK0) (pay_ta _ _ _ _ hG hV0) v46 p x, hv,
    ← EReal.coe_add, show n + 1024 = n + 512 + 512 from rfl, H.dq_before (n := n + 512) x (by omega), H.dq_half]
  simp only [H.gd_rows, rows]

include hQ' hG' hO' hL' hK0 hK1 hV0 hV1 in
theorem diag_dqb (v114 : Vec Ideal S512x256 .f32) (hv : ∀ p x, v114 (ix2 p x) = (H.dq n (n + 512 + p.val) x : EReal)) (p : Fin 512) (x : Fin 256) :
    k0_pay65 (F := Ideal) (k0_pay64 (k0_pay50 b7) (k0_pay51 b10) (k0_pay52 b13) (k0_pay53 b10 b17) (k0_pay54 v23) v25 v90 v92 v114) (ix2 p x)
      = (H.dq (n + 1024) (n + 512 + p.val) x : EReal) := by
  rw [pay_dqb _ _ _ _ _ _ _ _ _ _ _ _ _ _ _ _ hK1 hV0 hV1 (pay_qb _ _ hQ') (pay_dob _ _ hG') (pay_lb _ _ hL') (pay_deltab _ _ _ _ hG' hO') (pay_kb _ _ hK0) v114 p x,
    hv, ← EReal.coe_add, H.dq_block]
  simp (disch := omega) only [H.gd_rows, H.gb_rows, rows]

include hQ hG hO hL hQ' hG' hO' hL' hK0 hV0 in
theorem diag_dk0 (y : Fin 512) (x : Fin 256) :
    k0_pay67 (F := Ideal) (k0_pay48 (k0_pay40 a7) (k0_pay42 a10 a17) (k0_pay44 a7 a13 v23) (k0_pay45 a10 v25))
        (k0_pay58 (k0_pay50 b7) (k0_pay51 b10) (k0_pay52 b13) (k0_pay53 b10 b17) (k0_pay54 v23) v25) (ix2 y x)
      = (H.dk (n + 1024) (n + y.val) x : EReal) := by
  pointwise [k0_pay67]
  rw [pay_dka _ _ _ _ _ _ _ _ _ _ (pay_qa _ _ hQ) (pay_deltaa _ _ _ _ hG hO) (pay_pa _ _ _ _ _ _ hQ hL hK0) (pay_ta _ _ _ _ hG hV0) y x,
    pay_dkb _ _ _ _ _ _ _ _ _ _ _ _ hV0 (pay_qb _ _ hQ') (pay_dob _ _ hG') (pay_lb _ _ hL') (pay_deltab _ _ _ _ hG' hO') (pay_kb _ _ hK0) y x,
    ← EReal.coe_add, H.dk_diag0]
  simp (disch := omega) only [H.gd_rows, H.gb_rows, rows]

include hQ' hG' hO' hL' hK1 hV1 in
theorem diag_dk1 (y : Fin 512) (x : Fin 256) :
    k0_pay69 (F := Ideal) (k0_pay63 (k0_pay50 b7) (k0_pay51 b10) (k0_pay52 b13) (k0_pay53 b10 b17) v90 v92) (ix2 y x)
      = (H.dk (n + 1024) (n + 512 + y.val) x : EReal) := by
  pointwise [k0_pay69]
  rw [pay_dkc _ _ _ _ _ _ _ _ _ _ _ _ hK1 hV1 (pay_qb _ _ hQ') (pay_dob _ _ hG') (pay_lb _ _ hL') (pay_deltab _ _ _ _ hG' hO') y x, H.dk_diag1]
  simp only [H.gd_rows, rows]

include hQ hG hL hQ' hG' hL' hK0 in
theorem diag_dv0 (y : Fin 512) (e : Fin 128) :
    k0_pay66 (F := Ideal) (k0_pay47 (k0_pay41 a10) (k0_pay44 a7 a13 v23)) (k0_pay57 (k0_pay50 b7) (k0_pay51 b10) (k0_pay52 b13) (k0_pay54 v23)) (ix2 y e)
      = (H.dv (n + 1024) (n + y.val) e : EReal) := by
  pointwise [k0_pay66]
  rw [pay_dva _ _ _ _ _ _ (pay_doa _ _ hG) (pay_pa _ _ _ _ _ _ hQ hL hK0) y e,
    pay_dvb _ _ _ _ _ _ _ _ (pay_qb _ _ hQ') (pay_dob _ _ hG') (pay_lb _ _ hL') (pay_kb _ _ hK0) y e,
    ← EReal.coe_add, H.dv_diag0]
  simp (disch := omega) only [H.pd_rows, H.pb_rows, rows]

include hQ' hG' hL' hK1 in
theorem diag_dv1 (y : Fin 512) (e : Fin 128) :
    k0_pay68 (F := Ideal) (k0_pay62 (k0_pay50 b7) (k0_pay51 b10) (k0_pay52 b13) v90) (ix2 y e) = (H.dv (n + 1024) (n + 512 + y.val) e : EReal) := by
  pointwise [k0_pay68]
  rw [pay_dvc _ _ _ _ _ _ _ _ hK1 (pay_qb _ _ hQ') (pay_dob _ _ hG') (pay_lb _ _ hL') y e, H.dv_diag1]
  simp only [H.pd_rows, rows]

/-! ### What the point stores -/

theorem pay_zero (r : Fin 4096) (x : Fin 256) : k0_pay39 (F := Ideal) (ix2 r x) = ((0 : ℝ) : EReal) := by
  pointwise [k0_pay39]
  exact zero_eq_coe

theorem pay_outk (v : Vec Ideal S1024x256 .f32) (y : Fin 1024) (x : Fin 256) : k0_pay74 (F := Ideal) v (ix3 0 y x) = v (ix2 y x) := by pointwise [k0_pay74]
theorem pay_outv (v : Vec Ideal S1024x128 .f32) (y : Fin 1024) (e : Fin 128) : k0_pay1 (F := Ideal) (k0_pay75 v) (ix3 0 y e) = v (ix2 y e) := by pointwise [k0_pay1, k0_pay75]
theorem pay_outq (v : Vec Ideal S4096x256 .f32) (r : Fin 4096) (x : Fin 256) : k0_pay2 (F := Ideal) v (ix3 0 r x) = v (ix2 r x) := by pointwise [k0_pay2]

end Diagonal

end Cert.AttnIdeal.Proof

end
-- ==== Proof.AttnTrip.lean ====
/- One trip of the attention backward's loop over the query blocks below the diagonal, over one head's reals. -/
module

public import proofs.«01_k».proof.Proof.AttnMath
public import proofs.«01_k».proof.Proof.AttnIdealBase
public import Idealize.ShloMosaic.Lib.WritesUnit

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Head (rows)

local notation "𝕄" => MT nD τ sig Unit (Elt Ideal) ℕ (UR sig nD τ) ℕ

/-- A load of a window of known contents, at an index. -/
theorem load_apply {S : Shape} {e : EltTy} (M : Memref sig .tc .vmem S e) (hM : M.IsWhole) (x : Vec Ideal S e) {off size : Fin S.rank → ℕ}
    (inb : ∀ a, off a + size a ≤ S.size a) (y : (Rect.unit off size inb).shape.Idx) (z : S.Idx) (hz : ∀ a, (z a).val = off a + (y a).val) :
    View.readAt (Elt Ideal) M.view (Rect.unit off size inb).toLoadRect (hM.unread x) y = x z := by
  refine (congrFun (hM.read_unread x) _).trans (congrArg x (funext fun a => Fin.ext ?_))
  rw [hz a]
  show off a + 1 * (y a).val = _
  rw [one_mul]

/-- A load of rows `[o, o + R)` of the one matrix of a batch of one. -/
theorem load3 {N C R W : ℕ} {e : EltTy} (M : Memref sig .tc .vmem ⟨3, ![1, N, C]⟩ e) (hM : M.IsWhole) (x : Vec Ideal ⟨3, ![1, N, C]⟩ e) {off : Fin 3 → ℕ}
    (inb : ∀ a, off a + (![1, R, W] : Fin 3 → ℕ) a ≤ (![1, N, C] : Fin 3 → ℕ) a) (o : ℕ) (ho : off = ![0, o, 0]) (p : Fin R) (d : Fin W)
    (q : Fin N) (hq : q.val = o + p.val) (b : Fin C) (hb : b.val = d.val) :
    View.readAt (Elt Ideal) M.view (Rect.unit (s := ⟨3, ![1, N, C]⟩) off ![1, R, W] inb).toLoadRect (hM.unread x) (@ix3 1 R W 0 p d) = x (ix3 0 q b) := by
  subst ho
  refine load_apply M hM x inb _ _ (fun a => ?_)
  fin_cases a
  · rfl
  · exact hq
  · exact hb.trans (Nat.zero_add _).symm

/-- A load of rows `[o, o + R)` of a matrix, of any contents. -/
theorem load_rows {N C R : ℕ} {e : EltTy} (M : Memref sig .tc .vmem ⟨2, ![N, C]⟩ e) (f : M.view.ty.Contents (Elt Ideal)) {off : Fin 2 → ℕ}
    (inb : ∀ a, off a + (![R, C] : Fin 2 → ℕ) a ≤ (![N, C] : Fin 2 → ℕ) a) (o : ℕ) (ho : off = ![o, 0]) (p : Fin R) (d : Fin C)
    (q : Fin N) (hq : q.val = o + p.val) :
    View.readAt (Elt Ideal) M.view (Rect.unit (s := ⟨2, ![N, C]⟩) off ![R, C] inb).toLoadRect f (@ix2 R C p d) = M.view.read (Elt Ideal) f (ix2 q d) := by
  subst ho
  refine congrArg (M.view.read (Elt Ideal) f) (funext fun a => Fin.ext ?_)
  fin_cases a
  · exact (congrArg (o + ·) (Nat.one_mul _)).trans hq.symm
  · exact (congrArg (0 + ·) (Nat.one_mul _)).trans (Nat.zero_add _)

/-- A load of rows `[o, o + R)` of a matrix of known contents. -/
theorem load2 {N C R : ℕ} {e : EltTy} (M : Memref sig .tc .vmem ⟨2, ![N, C]⟩ e) (hM : M.IsWhole) (x : Vec Ideal ⟨2, ![N, C]⟩ e) {off : Fin 2 → ℕ}
    (inb : ∀ a, off a + (![R, C] : Fin 2 → ℕ) a ≤ (![N, C] : Fin 2 → ℕ) a) (o : ℕ) (ho : off = ![o, 0]) (p : Fin R) (d : Fin C)
    (q : Fin N) (hq : q.val = o + p.val) :
    View.readAt (Elt Ideal) M.view (Rect.unit (s := ⟨2, ![N, C]⟩) off ![R, C] inb).toLoadRect (hM.unread x) (@ix2 R C p d) = x (ix2 q d) :=
  (load_rows M _ inb o ho p d q hq).trans (congrFun (hM.read_unread x) _)

/-- The blocks of one head at key block `j`: what the body reads there. -/
structure Blocks (H : Head) (j : ℕ) (x0 : Vec Ideal S1x4096x256 .bf16) (x1 : Vec Ideal S1x1024x256 .bf16) (x2 : Vec Ideal S1x1024x128 .bf16)
    (x3 x4 : Vec Ideal S4096x128 .bf16) (x5 : Vec Ideal S1x4096x128 .f32) : Prop where
  q : ∀ r d, x0 (ix3 0 r d) = (H.q r.val d : EReal)
  k : ∀ y d, x1 (ix3 0 y d) = (H.k (1024 * j + y.val) d : EReal)
  v : ∀ y e, x2 (ix3 0 y e) = (H.v (1024 * j + y.val) e : EReal)
  o : ∀ r e, x3 (ix2 r e) = (H.o r.val e : EReal)
  g : ∀ r e, x4 (ix2 r e) = (H.g r.val e : EReal)
  l : ∀ r, x5 (ix3 0 r 0) = (H.l r.val : EReal)

/-- The accumulators at key block `j` after the query blocks before row `n`. -/
structure Acc (H : Head) (j n : ℕ) (a : Vec Ideal S4096x256 .f32) (b : Vec Ideal S1024x256 .f32) (d : Vec Ideal S1024x128 .f32) : Prop where
  dq : ∀ r x, a (ix2 r x) = ((if r.val < n then H.dq (1024 * j + 1024) r.val x else H.dq (1024 * j) r.val x : ℝ) : EReal)
  dk : ∀ y x, b (ix2 y x) = (H.dk n (1024 * j + y.val) x : EReal)
  dv : ∀ y e, d (ix2 y e) = (H.dv n (1024 * j + y.val) e : EReal)

theorem trips_le (i : grid0.Coords) : (k0_t1_loop i).trips = 3 - (i 1).val := by revert i; decide +kernel

theorem off9 : ∀ (i : grid0.Coords) (k : Fin (k0_t1_loop i).trips), k0_off9 i k = ![0, 1024 * (i 1).val + 1024 + 1024 * k.val, 0] := by decide +kernel
theorem off10 : ∀ (i : grid0.Coords) (k : Fin (k0_t1_loop i).trips), k0_off10 i k = ![1024 * (i 1).val + 1024 + 1024 * k.val, 0] := by decide +kernel
theorem off11 : ∀ (i : grid0.Coords) (k : Fin (k0_t1_loop i).trips), k0_off11 i k = ![0, 1024 * (i 1).val + 1024 + 1024 * k.val, 0] := by decide +kernel
theorem off12 : ∀ (i : grid0.Coords) (k : Fin (k0_t1_loop i).trips), k0_off12 i k = ![1024 * (i 1).val + 1024 + 1024 * k.val, 0] := by decide +kernel

section Loads

variable (c : Dev nD) (i : grid0.Coords)
  (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x4096x128 .f32) (harg7 : arg7.IsWhole)
  {H : Head} {j : ℕ}
  {x0 : Vec Ideal S1x4096x256 .bf16} {x1 : Vec Ideal S1x1024x256 .bf16} {x2 : Vec Ideal S1x1024x128 .bf16} {x3 x4 : Vec Ideal S4096x128 .bf16} {x5 : Vec Ideal S1x4096x128 .f32}
  (B : Blocks H j x0 x1 x2 x3 x4 x5)

include B in
theorem load_q {R : ℕ} {off : Fin 3 → ℕ} (inb : ∀ a, off a + (![1, R, 256] : Fin 3 → ℕ) a ≤ S1x4096x256.size a) (o : ℕ) (ho : off = ![0, o, 0]) (p : Fin R) (d : Fin 256) :
    View.readAt (Elt Ideal) arg2.view (Rect.unit (s := S1x4096x256) off ![1, R, 256] inb).toLoadRect (harg2.unread x0) (@ix3 1 R 256 0 p d) = (rows R H.q o p d : EReal) :=
  (load3 arg2 harg2 x0 inb o ho p d ⟨o + p.val, by subst ho; have h1 : o + R ≤ 4096 := inb 1; omega⟩ rfl d rfl).trans (B.q _ _)
include B in
theorem load_k {R : ℕ} {off : Fin 3 → ℕ} (inb : ∀ a, off a + (![1, R, 256] : Fin 3 → ℕ) a ≤ S1x1024x256.size a) (o : ℕ) (ho : off = ![0, o, 0]) (p : Fin R) (d : Fin 256) :
    View.readAt (Elt Ideal) arg3.view (Rect.unit (s := S1x1024x256) off ![1, R, 256] inb).toLoadRect (harg3.unread x1) (@ix3 1 R 256 0 p d) = (rows R H.k (1024 * j + o) p d : EReal) :=
  (load3 arg3 harg3 x1 inb o ho p d ⟨o + p.val, by subst ho; have h1 : o + R ≤ 1024 := inb 1; omega⟩ rfl d rfl).trans
    ((B.k _ _).trans (by rw [← Nat.add_assoc]))
include B in
theorem load_v {R : ℕ} {off : Fin 3 → ℕ} (inb : ∀ a, off a + (![1, R, 128] : Fin 3 → ℕ) a ≤ S1x1024x128.size a) (o : ℕ) (ho : off = ![0, o, 0]) (p : Fin R) (d : Fin 128) :
    View.readAt (Elt Ideal) arg4.view (Rect.unit (s := S1x1024x128) off ![1, R, 128] inb).toLoadRect (harg4.unread x2) (@ix3 1 R 128 0 p d) = (rows R H.v (1024 * j + o) p d : EReal) :=
  (load3 arg4 harg4 x2 inb o ho p d ⟨o + p.val, by subst ho; have h1 : o + R ≤ 1024 := inb 1; omega⟩ rfl d rfl).trans
    ((B.v _ _).trans (by rw [← Nat.add_assoc]))
include B in
theorem load_o {R : ℕ} {off : Fin 2 → ℕ} (inb : ∀ a, off a + (![R, 128] : Fin 2 → ℕ) a ≤ S4096x128.size a) (o : ℕ) (ho : off = ![o, 0]) (p : Fin R) (d : Fin 128) :
    View.readAt (Elt Ideal) arg5.view (Rect.unit (s := S4096x128) off ![R, 128] inb).toLoadRect (harg5.unread x3) (@ix2 R 128 p d) = (rows R H.o o p d : EReal) :=
  (load2 arg5 harg5 x3 inb o ho p d ⟨o + p.val, by subst ho; have h1 : o + R ≤ 4096 := inb 0; omega⟩ rfl).trans (B.o _ _)
include B in
theorem load_g {R : ℕ} {off : Fin 2 → ℕ} (inb : ∀ a, off a + (![R, 128] : Fin 2 → ℕ) a ≤ S4096x128.size a) (o : ℕ) (ho : off = ![o, 0]) (p : Fin R) (d : Fin 128) :
    View.readAt (Elt Ideal) arg6.view (Rect.unit (s := S4096x128) off ![R, 128] inb).toLoadRect (harg6.unread x4) (@ix2 R 128 p d) = (rows R H.g o p d : EReal) :=
  (load2 arg6 harg6 x4 inb o ho p d ⟨o + p.val, by subst ho; have h1 : o + R ≤ 4096 := inb 0; omega⟩ rfl).trans (B.g _ _)
include B in
theorem load_l {R : ℕ} {off : Fin 3 → ℕ} (inb : ∀ a, off a + (![1, R, 1] : Fin 3 → ℕ) a ≤ S1x4096x128.size a) (o : ℕ) (ho : off = ![0, o, 0]) (p : Fin R) :
    View.readAt (Elt Ideal) arg7.view (Rect.unit (s := S1x4096x128) off ![1, R, 1] inb).toLoadRect (harg7.unread x5) (@ix3 1 R 1 0 p 0) = ((rows R H.l o p : ℝ) : EReal) :=
  (load3 arg7 harg7 x5 inb o ho p 0 ⟨o + p.val, by subst ho; have h1 : o + R ≤ 4096 := inb 1; omega⟩ rfl 0 rfl).trans (B.l _)

end Loads

variable (c : Dev nD) (i : grid0.Coords)
  (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x4096x128 .f32) (harg7 : arg7.IsWhole)
  (arg8 : Memref sig .tc .vmem S1x4096x256 .bf16) (harg8 : arg8.IsWhole) (arg9 : Memref sig .tc .vmem S1x1024x256 .bf16) (harg9 : arg9.IsWhole)
  (arg10 : Memref sig .tc .vmem S1x1024x128 .bf16) (harg10 : arg10.IsWhole) (arg11 : Memref sig .tc .vmem S4096x256 .f32) (harg11 : arg11.IsWhole)
  (arg12 : Memref sig .tc .vmem S1024x256 .f32) (harg12 : arg12.IsWhole) (arg13 : Memref sig .tc .vmem S1024x128 .f32) (harg13 : arg13.IsWhole)
  (H : Head) (j : ℕ)
  (x0 : Vec Ideal S1x4096x256 .bf16) (x1 : Vec Ideal S1x1024x256 .bf16) (x2 : Vec Ideal S1x1024x128 .bf16) (x3 x4 : Vec Ideal S4096x128 .bf16) (x5 : Vec Ideal S1x4096x128 .f32)
  (B : Blocks H j x0 x1 x2 x3 x4 x5)

/-- The accumulators' memrefs, at contents that stand for the query blocks before row `n`. -/
def accAt (n : ℕ) : sProp 𝕄 :=
  iprop(∃ a b d, owns (c : Thread nD τ) arg11 fullShare a ∗ owns (c : Thread nD τ) arg12 fullShare b ∗ owns (c : Thread nD τ) arg13 fullShare d ∗ ⌜Acc H j n a b d⌝)

include B in
set_option maxHeartbeats 4000000 in
theorem trip (arg1 : BitVec 32) (v42 : FVec Ideal S512x128 .f32) (v43 : FVec Ideal S512x256 .f32) (v87 : FVec Ideal S512x128 .f32) (v88 : FVec Ideal S512x256 .f32) (v109 : FVec Ideal S512x128 .f32) (v110 : FVec Ideal S512x256 .f32) (v115 : FVec Ideal S512x256 .f32) (v134 : BitVec 32)
    (hj : j = (i 1).val) (k : Fin (k0_t1_loop i).trips) :
    iprop(inputs c arg2 arg3 arg4 arg5 arg6 arg7 x0 x1 x2 x3 x4 x5 ∗ accAt c arg11 arg12 arg13 H j (1024 * j + 1024 + 1024 * k.val))
      ⊢ wp Idealize.ShloMosaic.frame (wpE (defs₀ (F := Ideal)) Variants.none c none) Set.univ
          (k0_t1_body (F := Ideal) i arg2 harg2 arg3 harg3 arg4 harg4 arg5 harg5 arg6 harg6 arg7 harg7 arg8 harg8 arg9 harg9 arg10 harg10 arg11 harg11 arg12 harg12 arg13 harg13 arg1 v42 v43 v87 v88 v109 v110 v115 v134 k PUnit.unit)
          (fun _ => iprop(inputs c arg2 arg3 arg4 arg5 arg6 arg7 x0 x1 x2 x3 x4 x5 ∗ accAt c arg11 arg12 arg13 H j (1024 * j + 1024 + 1024 * (k.val + 1)))) := by
  subst hj
  unfold k0_t1_body inputs accAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%a, %b, %d, ⟨%f6, %hf6, H6⟩, ⟨%f7, %hf7, H7⟩, ⟨%f8, %hf8, H8⟩, %hacc⟩⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg11.eq_unread hf6; obtain rfl := harg12.eq_unread hf7; obtain rfl := harg13.eq_unread hf8
  sl_exec
  sl_step
  isplitl [H0 H1 H2 H3 H4 H5]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  iexists _, _, _
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  ipureintro
  have hQ := load_q arg2 harg2 B (R := 1024) (k0_off9_inb i k) _ (off9 i k)
  have hG := load_g arg6 harg6 B (R := 1024) (k0_off10_inb i k) _ (off10 i k)
  have hO := load_o arg5 harg5 B (R := 1024) (k0_off10_inb i k) _ (off10 i k)
  have hL := load_l arg7 harg7 B (R := 1024) (k0_off11_inb i k) _ (off11 i k)
  have hK0 := load_k arg3 harg3 B (R := 512) (off := ![0, 0, 0]) (by decide) 0 rfl
  have hK1 := load_k arg3 harg3 B (R := 512) (off := ![0, 512, 0]) (by decide) 512 rfl
  have hV0 := load_v arg4 harg4 B (R := 512) (off := ![0, 0, 0]) (by decide) 0 rfl
  have hV1 := load_v arg4 harg4 B (R := 512) (off := ![0, 512, 0]) (by decide) 512 rfl
  have hQ' := pay_q _ _ hQ
  have hG' := pay_do _ _ hG
  have hL' := pay_l _ _ hL
  have hD' := pay_delta _ _ _ _ hG hO
  sl_unfold_run_names
  refine ⟨fun r x => ?_, fun y x => ?_, fun y e => ?_⟩
  · have hr := r.isLt
    by_cases h : 1024 * (i 1).val + 1024 + 1024 * k.val ≤ r.val ∧ r.val < 1024 * (i 1).val + 1024 + 1024 * k.val + 1024
    · obtain ⟨p, hp⟩ : ∃ p : Fin 1024, r.val = 1024 * (i 1).val + 1024 + 1024 * k.val + p.val := ⟨⟨r.val - (1024 * (i 1).val + 1024 + 1024 * k.val), by omega⟩, by simp; omega⟩
      refine (View.read_writes_cons_rows_of_mem arg11.view _ _ _ _ (ix2 r x) (ix2 p x) (off12 i k) hp rfl).trans ?_
      refine (pay_dq _ _ _ _ _ _ _ _ _ _ _ _ _ _ _ _ _ _ _ _ hQ hG hO hL hK0 hK1 hV0 hV1 hQ' hG' hL' hD' _ p x).trans ?_
      rw [load2 arg11 harg11 a _ _ (off12 i k) p x r hp, hacc.dq, if_neg (by omega), if_pos (by omega), ← EReal.coe_add, H.dq_block]
      simp (disch := omega) only [H.gb_rows, hp, rows, Nat.add_zero]
    · refine (View.read_writes_cons_rows_of_not_mem arg11.view _ _ _ _ (ix2 r x) (off12 i k) rfl (by simp; omega)).trans ?_
      refine (congrFun hf6 _).trans ((hacc.dq r x).trans ?_)
      exact congrArg _ (if_congr (by omega) rfl rfl)
  · by_cases h : y.val < 512
    · obtain ⟨z, hz⟩ : ∃ z : Fin 512, y.val = z.val := ⟨⟨y.val, h⟩, rfl⟩
      refine (View.read_writes_cons_rows_of_not_mem arg12.view _ _ _ _ (ix2 y x) (off := ![512, 0]) rfl rfl (Or.inl h)).trans ?_
      refine (View.read_writes_cons_rows_of_mem arg12.view _ _ _ _ (ix2 y x) (ix2 z x) (off := ![0, 0]) rfl (by simpa using hz) rfl).trans ?_
      refine (pay_dk0 _ _ _ _ _ _ _ _ _ _ _ _ hQ hG hO hL hK0 hV0 _ z x).trans ?_
      rw [load2 arg12 harg12 b _ 0 rfl z x y (by omega), hacc.dk, ← EReal.coe_add,
        show 1024 * (i 1).val + 1024 + 1024 * (k.val + 1) = 1024 * (i 1).val + 1024 + 1024 * k.val + 1024 from rfl, H.dk_block (1024 * (i 1).val + 1024 + 1024 * k.val) 1024]
      simp (disch := omega) only [H.gb_rows, hz, rows, Nat.add_zero]
    · obtain ⟨z, hz⟩ : ∃ z : Fin 512, y.val = 512 + z.val := ⟨⟨y.val - 512, by omega⟩, by simp; omega⟩
      refine (View.read_writes_cons_rows_of_mem arg12.view _ _ _ _ (ix2 y x) (ix2 z x) (off := ![512, 0]) rfl (by simpa using hz) rfl).trans ?_
      refine (pay_dk1 _ _ _ _ _ _ _ _ _ _ _ _ hK1 hV1 hQ' hG' hL' hD' _ z x).trans ?_
      rw [load2 arg12 harg12 b _ 512 rfl z x y (by omega), hacc.dk, ← EReal.coe_add,
        show 1024 * (i 1).val + 1024 + 1024 * (k.val + 1) = 1024 * (i 1).val + 1024 + 1024 * k.val + 1024 from rfl, H.dk_block (1024 * (i 1).val + 1024 + 1024 * k.val) 1024]
      simp (disch := omega) only [H.gb_rows, hz, rows, ← Nat.add_assoc]
  · by_cases h : y.val < 512
    · obtain ⟨z, hz⟩ : ∃ z : Fin 512, y.val = z.val := ⟨⟨y.val, h⟩, rfl⟩
      refine (View.read_writes_cons_rows_of_not_mem arg13.view _ _ _ _ (ix2 y e) (off := ![512, 0]) rfl rfl (Or.inl h)).trans ?_
      refine (View.read_writes_cons_rows_of_mem arg13.view _ _ _ _ (ix2 y e) (ix2 z e) (off := ![0, 0]) rfl (by simpa using hz) rfl).trans ?_
      refine (pay_dv0 _ _ _ _ _ _ _ _ hQ hG hL hK0 _ z e).trans ?_
      rw [load2 arg13 harg13 d _ 0 rfl z e y (by omega), hacc.dv, ← EReal.coe_add,
        show 1024 * (i 1).val + 1024 + 1024 * (k.val + 1) = 1024 * (i 1).val + 1024 + 1024 * k.val + 1024 from rfl, H.dv_block (1024 * (i 1).val + 1024 + 1024 * k.val) 1024]
      simp (disch := omega) only [H.pb_rows, hz, rows, Nat.add_zero]
    · obtain ⟨z, hz⟩ : ∃ z : Fin 512, y.val = 512 + z.val := ⟨⟨y.val - 512, by omega⟩, by simp; omega⟩
      refine (View.read_writes_cons_rows_of_mem arg13.view _ _ _ _ (ix2 y e) (ix2 z e) (off := ![512, 0]) rfl (by simpa using hz) rfl).trans ?_
      refine (pay_dv1 _ _ _ _ _ _ _ _ hK1 hQ' hG' hL' _ z e).trans ?_
      rw [load2 arg13 harg13 d _ 512 rfl z e y (by omega), hacc.dv, ← EReal.coe_add,
        show 1024 * (i 1).val + 1024 + 1024 * (k.val + 1) = 1024 * (i 1).val + 1024 + 1024 * k.val + 1024 from rfl, H.dv_block (1024 * (i 1).val + 1024 + 1024 * k.val) 1024]
      simp (disch := omega) only [H.pb_rows, hz, rows, ← Nat.add_assoc]

end Cert.AttnIdeal.Proof

end
-- ==== Proof.AttnBody.lean ====
/- One run of the attention backward's body over one head's reals. -/
module

public import proofs.«01_k».proof.Proof.AttnTrip

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Head (rows)

local notation "𝕄" => MT nD τ sig Unit (Elt Ideal) ℕ (UR sig nD τ) ℕ

variable (c : Dev nD) (i : grid0.Coords)
  (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x4096x128 .f32) (harg7 : arg7.IsWhole)
  (arg8 : Memref sig .tc .vmem S1x4096x256 .bf16) (harg8 : arg8.IsWhole) (arg9 : Memref sig .tc .vmem S1x1024x256 .bf16) (harg9 : arg9.IsWhole)
  (arg10 : Memref sig .tc .vmem S1x1024x128 .bf16) (harg10 : arg10.IsWhole) (arg11 : Memref sig .tc .vmem S4096x256 .f32) (harg11 : arg11.IsWhole)
  (arg12 : Memref sig .tc .vmem S1024x256 .f32) (harg12 : arg12.IsWhole) (arg13 : Memref sig .tc .vmem S1024x128 .f32) (harg13 : arg13.IsWhole)
  (H : Head)
  (x0 : Vec Ideal S1x4096x256 .bf16) (x1 : Vec Ideal S1x1024x256 .bf16) (x2 : Vec Ideal S1x1024x128 .bf16) (x3 x4 : Vec Ideal S4096x128 .bf16) (x5 : Vec Ideal S1x4096x128 .f32)
  (B : Blocks H (i 1).val x0 x1 x2 x3 x4 x5)

/-- Before the point: the query gradient's accumulator holds the sum over the earlier key blocks, unless the point clears it. -/
def accIn : sProp 𝕄 :=
  iprop(∃ a, owns (c : Thread nD τ) arg11 fullShare a ∗ ⌜¬clears i = 1#1 → ∀ r x, a (ix2 r x) = (H.dq (1024 * (i 1).val) r.val x : EReal)⌝)

/-- After it: the sum including this key block. -/
def accOut : sProp 𝕄 :=
  iprop(∃ a, owns (c : Thread nD τ) arg11 fullShare a ∗ ⌜∀ r x, a (ix2 r x) = (H.dq (1024 * (i 1).val + 1024) r.val x : EReal)⌝)

theorem j_of_clears : ∀ i : grid0.Coords, clears i = 1#1 → (i 1).val = 0 := by decide +kernel

/-- The query gradient's accumulator after the block on the diagonal: its two row blocks over what was there. -/
theorem acc_rows (n : ℕ) (f : arg11.view.ty.Contents (Elt Ideal)) {o8 o4 : Fin 2 → ℕ} (i8 : ∀ a, o8 a + S512x256.size a ≤ S4096x256.size a) (i4 : ∀ a, o4 a + S512x256.size a ≤ S4096x256.size a)
    (w8 w4 : Vec Ideal S512x256 .f32) (L : List (View.Piece (Elt Ideal) S4096x256 .f32)) (h8 : o8 = ![n + 512, 0]) (h4 : o4 = ![n, 0])
    (e8 : ∀ p x, w8 (ix2 p x) = (H.dq (n + 1024) (n + 512 + p.val) x : EReal)) (e4 : ∀ p x, w4 (ix2 p x) = (H.dq (n + 1024) (n + p.val) x : EReal))
    (eL : ∀ r x, arg11.view.read (Elt Ideal) (arg11.view.writes (Elt Ideal) f L) (ix2 r x) = (H.dq n r.val x : EReal)) (r : Fin 4096) (x : Fin 256) :
    arg11.view.read (Elt Ideal) (arg11.view.writes (Elt Ideal) f (⟨Rect.unit (s := S4096x256) o8 S512x256.size i8, w8⟩ :: ⟨Rect.unit (s := S4096x256) o4 S512x256.size i4, w4⟩ :: L)) (ix2 r x)
      = ((if r.val < n + 1024 then H.dq (n + 1024) r.val x else H.dq n r.val x : ℝ) : EReal) := by
  by_cases hr8 : n + 512 ≤ r.val ∧ r.val < n + 512 + 512
  · obtain ⟨p, hp⟩ : ∃ p : Fin 512, r.val = n + 512 + p.val := ⟨⟨r.val - (n + 512), by omega⟩, by simp; omega⟩
    rw [if_pos (by omega)]
    exact (View.read_writes_cons_rows_of_mem arg11.view f i8 w8 _ (ix2 r x) (ix2 p x) h8 hp rfl).trans ((e8 p x).trans (by rw [hp]))
  refine (View.read_writes_cons_rows_of_not_mem arg11.view f i8 w8 _ (ix2 r x) h8 rfl (by simp; omega)).trans ?_
  by_cases hr4 : n ≤ r.val ∧ r.val < n + 512
  · obtain ⟨p, hp⟩ : ∃ p : Fin 512, r.val = n + p.val := ⟨⟨r.val - n, by omega⟩, by simp; omega⟩
    rw [if_pos (by omega)]
    exact (View.read_writes_cons_rows_of_mem arg11.view f i4 w4 _ (ix2 r x) (ix2 p x) h4 hp rfl).trans ((e4 p x).trans (by rw [hp]))
  refine (View.read_writes_cons_rows_of_not_mem arg11.view f i4 w4 _ (ix2 r x) h4 rfl (by simp; omega)).trans ((eL r x).trans (congrArg _ ?_))
  by_cases hr : r.val < n + 1024
  · rw [if_pos hr, H.dq_before x (by omega)]
  · rw [if_neg hr]

/-- An accumulator of 1024 rows stored as its two halves. -/
theorem halves {C : ℕ} (M : Memref sig .tc .vmem ⟨2, ![1024, C]⟩ .f32) (n : ℕ) (f : M.view.ty.Contents (Elt Ideal)) (T : ℕ → Fin C → ℝ)
    (i1 : ∀ a, (![512, 0] : Fin 2 → ℕ) a + (![512, C] : Fin 2 → ℕ) a ≤ (![1024, C] : Fin 2 → ℕ) a) (i0 : ∀ a, (![0, 0] : Fin 2 → ℕ) a + (![512, C] : Fin 2 → ℕ) a ≤ (![1024, C] : Fin 2 → ℕ) a)
    (w1 w0 : Vec Ideal ⟨2, ![512, C]⟩ .f32) (L : List (View.Piece (Elt Ideal) ⟨2, ![1024, C]⟩ .f32))
    (e1 : ∀ p x, w1 (ix2 p x) = (T (n + 512 + p.val) x : EReal)) (e0 : ∀ p x, w0 (ix2 p x) = (T (n + p.val) x : EReal)) (y : Fin 1024) (x : Fin C) :
    M.view.read (Elt Ideal) (M.view.writes (Elt Ideal) f (⟨Rect.unit (s := ⟨2, ![1024, C]⟩) ![512, 0] ![512, C] i1, w1⟩ :: ⟨Rect.unit (s := ⟨2, ![1024, C]⟩) ![0, 0] ![512, C] i0, w0⟩ :: L)) (ix2 y x)
      = (T (n + y.val) x : EReal) := by
  by_cases h : y.val < 512
  · obtain ⟨z, hz⟩ : ∃ z : Fin 512, y.val = z.val := ⟨⟨y.val, h⟩, rfl⟩
    refine (View.read_writes_cons_rows_of_not_mem M.view f i1 w1 _ (ix2 y x) rfl rfl (Or.inl h)).trans ?_
    exact (View.read_writes_cons_rows_of_mem M.view f i0 w0 _ (ix2 y x) (ix2 z x) rfl (by simpa using hz) rfl).trans ((e0 z x).trans (by rw [hz]))
  · obtain ⟨z, hz⟩ : ∃ z : Fin 512, y.val = 512 + z.val := ⟨⟨y.val - 512, by omega⟩, by simp; omega⟩
    exact (View.read_writes_cons_rows_of_mem M.view f i1 w1 _ (ix2 y x) (ix2 z x) rfl hz rfl).trans ((e1 z x).trans (by rw [hz, Nat.add_assoc]))

/-- The gradient of the queries stored at the last key block; elsewhere the buffer is as it was. -/
def outQ (x8 : Vec Ideal S1x4096x256 .bf16) : sProp 𝕄 :=
  iprop(∃ y, owns (c : Thread nD τ) arg8 fullShare y ∗ ⌜(k0_cond2 i = 1#1 → ∀ r x, y (ix3 0 r x) = (H.dq (1024 * (i 1).val + 1024) r.val x : EReal)) ∧ (¬k0_cond2 i = 1#1 → y = x8)⌝)

/-- The gradients of the key block's keys and values, over all queries. -/
def outK : sProp 𝕄 :=
  iprop(∃ y, owns (c : Thread nD τ) arg9 fullShare y ∗ ⌜∀ r x, y (ix3 0 r x) = (H.dk 4096 (1024 * (i 1).val + r.val) x : EReal)⌝)
def outV : sProp 𝕄 :=
  iprop(∃ y, owns (c : Thread nD τ) arg10 fullShare y ∗ ⌜∀ r e, y (ix3 0 r e) = (H.dv 4096 (1024 * (i 1).val + r.val) e : EReal)⌝)

/-- The cleared accumulator reads zero, the sum over no keys. -/
theorem cleared (h : clears i = 1#1) (f : arg11.view.ty.Contents (Elt Ideal)) (r : Fin 4096) (x : Fin 256) :
    arg11.view.read (Elt Ideal) (arg11.view.writes (Elt Ideal) f [⟨Rect.unit (s := S4096x256) ![0, 0] S4096x256.size inb_S4096x256_S4096x256_0_0, k0_pay39 (F := Ideal)⟩]) (ix2 r x)
      = (H.dq (1024 * (i 1).val) r.val x : EReal) := by
  rw [j_of_clears i h, Nat.mul_zero, H.dq_zero]
  exact (View.read_writes_cons_rows_of_mem arg11.view f _ _ _ (ix2 r x) (ix2 r x) (o := 0) rfl (Nat.zero_add _).symm rfl).trans (pay_zero r x)

/-- A store of the whole of a batch of one, read back. -/
theorem whole3 {N C : ℕ} {e : EltTy} (M : Memref sig .tc .vmem ⟨3, ![1, N, C]⟩ e) (f : M.view.ty.Contents (Elt Ideal))
    (inb : ∀ a, (![0, 0, 0] : Fin 3 → ℕ) a + (![1, N, C] : Fin 3 → ℕ) a ≤ (![1, N, C] : Fin 3 → ℕ) a) (w : Vec Ideal ⟨3, ![1, N, C]⟩ e)
    (L : List (View.Piece (Elt Ideal) ⟨3, ![1, N, C]⟩ e)) (r : Fin N) (x : Fin C) :
    M.view.read (Elt Ideal) (M.view.writes (Elt Ideal) f (⟨Rect.unit (s := ⟨3, ![1, N, C]⟩) ![0, 0, 0] ![1, N, C] inb, w⟩ :: L)) (ix3 0 r x) = w (ix3 0 r x) :=
  View.read_writes_cons_unit_of_mem M.view f inb w L (ix3 0 r x) (ix3 0 r x) rfl (fun a => by fin_cases a <;> exact (Nat.zero_add _).symm)

theorem rows_all (i : grid0.Coords) : 1024 * (i 1).val + 1024 + 1024 * (3 - (i 1).val) = 4096 := by
  have : (i 1).val < 4 := (i 1).isLt
  omega

include B in
set_option maxHeartbeats 4000000 in
theorem body (x8 : Vec Ideal S1x4096x256 .bf16) (K : PUnit → sProp 𝕄) :
    iprop(inputs c arg2 arg3 arg4 arg5 arg6 arg7 x0 x1 x2 x3 x4 x5 ∗ owns (c : Thread nD τ) arg8 fullShare x8 ∗ anyAt c arg9 ∗ anyAt c arg10 ∗ accIn c i arg11 H ∗ anyAt c arg12 ∗ anyAt c arg13
        ∗ (iprop(inputs c arg2 arg3 arg4 arg5 arg6 arg7 x0 x1 x2 x3 x4 x5 ∗ outQ c i arg8 H x8 ∗ outK c i arg9 H ∗ outV c i arg10 H ∗ accOut c i arg11 H ∗ anyAt c arg12 ∗ anyAt c arg13) -∗ K ⟨⟩))
      ⊢ wp Idealize.ShloMosaic.frame (wpE (defs₀ (F := Ideal)) Variants.none c none) Set.univ
          (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part5_eq_skeleton, k0_part6_eq_skeleton, k0_part7_eq_skeleton, k0_part8_eq_skeleton]
  unfold inputs accIn anyAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%f6, %hf6, H6⟩, ⟨%d7, %f7, -, H7⟩, ⟨%d8, %f8, -, H8⟩, ⟨%a, ⟨%f9, %hf9, H9⟩, %ha⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg11.eq_unread hf9; obtain rfl := harg8.eq_unread hf6
  have hi : (i 1).val < 4 := (i 1).isLt
  have hQ := load_q arg2 harg2 B (R := 512) (k0_off1_inb i) _ (k0_off1_eq i)
  have hG := load_g arg6 harg6 B (R := 512) (k0_off2_inb i) _ (k0_off2_eq i)
  have hO := load_o arg5 harg5 B (R := 512) (k0_off2_inb i) _ (k0_off2_eq i)
  have hL := load_l arg7 harg7 B (R := 512) (k0_off3_inb i) _ (k0_off3_eq i)
  have hQ' := load_q arg2 harg2 B (R := 512) (k0_off5_inb i) _ (k0_off5_eq i)
  have hG' := load_g arg6 harg6 B (R := 512) (k0_off6_inb i) _ (k0_off6_eq i)
  have hO' := load_o arg5 harg5 B (R := 512) (k0_off6_inb i) _ (k0_off6_eq i)
  have hL' := load_l arg7 harg7 B (R := 512) (k0_off7_inb i) _ (k0_off7_eq i)
  have hK0 := load_k arg3 harg3 B (R := 512) (off := ![0, 0, 0]) (by decide) 0 rfl
  have hK1 := load_k arg3 harg3 B (R := 512) (off := ![0, 512, 0]) (by decide) 512 rfl
  have hV0 := load_v arg4 harg4 B (R := 512) (off := ![0, 0, 0]) (by decide) 0 rfl
  have hV1 := load_v arg4 harg4 B (R := 512) (off := ![0, 512, 0]) (by decide) 512 rfl
  by_cases hc0 : clears i = 1#1
  all_goals
    sl_exec (disch := first | sl_exact hc0)
    ihave HA : iprop(accAt c arg11 arg12 arg13 H (i 1).val (1024 * (i 1).val + 1024)) $$ [H9 H10 H11]
    · unfold accAt owns
      iexists _, _, _
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      ipureintro
      sl_unfold_run_names
      refine ⟨?_, halves arg12 _ _ (H.dk _) _ _ _ _ _ (diag_dk1 H _ hQ' hG' hO' hL' hK1 hV1) (diag_dk0 H _ hQ hG hO hL hQ' hG' hO' hL' hK0 hV0),
        halves arg13 _ _ (H.dv _) _ _ _ _ _ (diag_dv1 H _ hQ' hG' hL' hK1) (diag_dv0 H _ hQ hG hL hQ' hG' hL' hK0)⟩
      first
      | refine acc_rows arg11 H _ _ _ _ _ _ [] (k0_off8_eq i) (k0_off4_eq i) (diag_dqb H _ hQ' hG' hO' hL' hK0 hK1 hV0 hV1 _ fun p x => ?_)
          (diag_dqa H _ hQ hG hO hL hK0 hV0 _ fun p x => ?_) (fun r x => (congrFun hf9 _).trans (ha hc0 r x))
        · have hp := p.isLt
          exact (load2 arg11 harg11 a _ _ (k0_off8_eq i) p x ⟨1024 * (i 1).val + 512 + p.val, by omega⟩ rfl).trans (ha hc0 _ _)
        · exact (load2 arg11 harg11 a _ _ (k0_off4_eq i) p x ⟨1024 * (i 1).val + p.val, by omega⟩ rfl).trans (ha hc0 _ _)
      | refine acc_rows arg11 H _ _ _ _ _ _ _ (k0_off8_eq i) (k0_off4_eq i) (diag_dqb H _ hQ' hG' hO' hL' hK0 hK1 hV0 hV1 _ fun p x => ?_)
          (diag_dqa H _ hQ hG hO hL hK0 hV0 _ fun p x => ?_) (cleared i arg11 H hc0 _)
        · have hp := p.isLt
          refine (load_rows arg11 _ _ _ (k0_off8_eq i) p x ⟨1024 * (i 1).val + 512 + p.val, by omega⟩ rfl).trans ?_
          refine (View.read_writes_cons_rows_of_not_mem arg11.view _ _ _ _ _ (k0_off4_eq i) rfl (Or.inr (by simp))).trans (cleared i arg11 H hc0 _ _ _)
        · exact (load_rows arg11 _ _ _ (k0_off4_eq i) p x ⟨1024 * (i 1).val + p.val, by omega⟩ rfl).trans (cleared i arg11 H hc0 _ _ _)
    ihave HI : iprop(inputs c arg2 arg3 arg4 arg5 arg6 arg7 x0 x1 x2 x3 x4 x5) $$ [H0 H1 H2 H3 H4 H5]
    · unfold inputs owns
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr; · ipureintro; exact hf5
      iexact H5
    sl_for (fun k _ => iprop(inputs c arg2 arg3 arg4 arg5 arg6 arg7 x0 x1 x2 x3 x4 x5 ∗ accAt c arg11 arg12 arg13 H (i 1).val (1024 * (i 1).val + 1024 + 1024 * k))) $$ [HI HA]
    · intro k acc
      exact trip c i arg2 harg2 arg3 harg3 arg4 harg4 arg5 harg5 arg6 harg6 arg7 harg7 arg8 harg8 arg9 harg9 arg10 harg10 arg11 harg11 arg12 harg12 arg13 harg13
        H (i 1).val x0 x1 x2 x3 x4 x5 B _ _ _ _ _ _ _ _ _ rfl k
    · isplitl [HI]
      · iexact HI
      iexact HA
    iintro %acc ⟨HI, HA⟩
    sl_for (fun k _ => iprop(emp)) $$ []
    · intro k acc
      exact absurd k.isLt (Nat.not_lt.2 (Nat.le_trans (k0_t2_abs i).2.1 (Nat.zero_le _)))
    · itrivial
    iintro %acc2 HE
    rw [show Scf.trips (k0_t1_loop i).lb (k0_t1_loop i).ub (k0_t1_loop i).st = 3 - (i 1).val from trips_le i, rows_all i]
    unfold accAt owns
    icases HA with ⟨%a', %b', %d', ⟨%g9, %hg9, H9⟩, ⟨%g10, %hg10, H10⟩, ⟨%g11, %hg11, H11⟩, %hacc⟩
    obtain rfl := harg11.eq_unread hg9; obtain rfl := harg12.eq_unread hg10; obtain rfl := harg13.eq_unread hg11
    by_cases hc1 : k0_cond2 i = 1#1
    all_goals
      sl_exec (disch := first | sl_exact hc1)
      sl_step
      iapply Hk
      unfold outQ outK outV accOut owns
      isplitl [HI]
      · iexact HI
      isplitl [H6]
      · iexists _
        isplitl [H6]
        · iexists _; isplitr; swap; · iexact H6
          ipureintro; rfl
        ipureintro
        refine ⟨fun h1 r x => ?_, fun h1 => ?_⟩
        · first
          | exact absurd h1 hc1
          | sl_unfold_run_names
            refine (whole3 arg8 _ _ _ _ r x).trans ((pay_outq _ r x).trans ((load2 arg11 harg11 a' _ 0 rfl r x r (Nat.zero_add _).symm).trans ?_))
            exact (hacc.dq r x).trans (by rw [if_pos r.isLt])
        · first
          | exact absurd hc1 h1
          | exact hf6
      isplitl [H7]
      · iexists _
        isplitl [H7]
        · iexists _; isplitr; swap; · iexact H7
          ipureintro; rfl
        ipureintro
        intro r x
        sl_unfold_run_names
        exact (whole3 arg9 _ _ _ _ r x).trans ((pay_outk _ r x).trans ((load2 arg12 harg12 b' _ 0 rfl r x r (Nat.zero_add _).symm).trans (hacc.dk r x)))
      isplitl [H8]
      · iexists _
        isplitl [H8]
        · iexists _; isplitr; swap; · iexact H8
          ipureintro; rfl
        ipureintro
        intro r e
        sl_unfold_run_names
        exact (whole3 arg10 _ _ _ _ r e).trans ((pay_outv _ r e).trans ((load2 arg13 harg13 d' _ 0 rfl r e r (Nat.zero_add _).symm).trans (hacc.dv r e)))
      isplitl [H9]
      · iexists _
        isplitl [H9]
        · iexists _; isplitr; swap; · iexact H9
          ipureintro; rfl
        ipureintro
        intro r x
        exact (congrFun hg9 _).trans ((hacc.dq r x).trans (by rw [if_pos r.isLt]))
      isplitl [H10]
      · iexists _, _; isplitr; swap; · iexact H10
        ipureintro; rfl
      iexists _, _; isplitr; swap; · iexact H11
      ipureintro; rfl

end Cert.AttnIdeal.Proof

end
-- ==== Proof.AttnValue.lean ====
/- The attention backward's launch over the heads' reals: what its three results hold. -/
module

public import proofs.«01_k».proof.Proof.AttnBody
public import Idealize.ShloMosaic.Lib.Pipeline.ValueKit

@[expose] public section

set_option maxRecDepth 16384

noncomputable section

namespace Cert.AttnIdeal.Proof

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg) (Hd : Dev nD → ℕ → Head)

theorem coord1 : ∀ t : Fin cfg0.N, (grid0.coords t 1).val = t.val % 4 := (by decide +kernel : ∀ t : Fin grid0.N, _)
theorem clears_iff : ∀ t : Fin cfg0.N, clears (grid0.coords t) = 1#1 ↔ t.val % 4 = 0 := (by decide +kernel : ∀ t : Fin grid0.N, _)
theorem cond2_iff : ∀ t : Fin cfg0.N, k0_cond2 (grid0.coords t) = 1#1 ↔ t.val % 4 = 3 := (by decide +kernel : ∀ t : Fin grid0.N, _)

/-- Between the points: the query gradient's accumulator holds the sum over the head's key blocks done so far. -/
def Phi (c : Dev nD) (n : ℕ) : sProp 𝕄 :=
  iprop(iprop((∃ a, owns (c : Thread nD τ) (Memref.whole cc0_scratch0) fullShare a
        ∗ ⌜¬n % 4 = 0 → ∀ r x, a (ix2 r x) = ((Hd c (n / 4)).dq (1024 * (n % 4)) r.val x : EReal)⌝)
      ∗ anyAt c (Memref.whole cc0_scratch1) ∗ anyAt c (Memref.whole cc0_scratch2)) ∗ (∃ r, prngReg c r))

/-- The proof data: the inputs keep their blocks, the outputs are the head's gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t
    | ⟨3, _⟩ => iblk m c 3 t | ⟨4, _⟩ => iblk m c 4 t | ⟨5, _⟩ => iblk m c 5 t
    | ⟨6, _⟩ => fun y : S1x4096x256.Idx => (((Hd c (t.val / 4)).dq 4096 (y 1).val (y 2) : ℝ) : EReal)
    | ⟨7, _⟩ => fun y : S1x1024x256.Idx => (((Hd c (t.val / 4)).dk 4096 (1024 * (t.val % 4) + (y 1).val) (y 2) : ℝ) : EReal)
    | ⟨8, _⟩ => fun y : S1x1024x128.Idx => (((Hd c (t.val / 4)).dv 4096 (1024 * (t.val % 4) + (y 1).val) (y 2) : ℝ) : EReal)
  Φ t := Phi Hd c t.val
  q _ := fullShare
  owed _ := 0

theorem dats_A (c : Dev nD) (w : Fin cfg0.W) : (dats m Hd 0 c).A w = V m c (Pipeline.arrRef spec0 w) := by dsimp only [dats]

theorem left0 (c : Dev nD) (t : Fin cfg0.N) : (dats m Hd 0 c).after 0 t = iblk m c 0 t := by dsimp only [dats]
theorem left1 (c : Dev nD) (t : Fin cfg0.N) : (dats m Hd 0 c).after 1 t = iblk m c 1 t := by dsimp only [dats]
theorem left2 (c : Dev nD) (t : Fin cfg0.N) : (dats m Hd 0 c).after 2 t = iblk m c 2 t := by dsimp only [dats]
theorem left3 (c : Dev nD) (t : Fin cfg0.N) : (dats m Hd 0 c).after 3 t = iblk m c 3 t := by dsimp only [dats]
theorem left4 (c : Dev nD) (t : Fin cfg0.N) : (dats m Hd 0 c).after 4 t = iblk m c 4 t := by dsimp only [dats]
theorem left5 (c : Dev nD) (t : Fin cfg0.N) : (dats m Hd 0 c).after 5 t = iblk m c 5 t := by dsimp only [dats]
theorem left6 (c : Dev nD) (t : Fin cfg0.N) :
    (dats m Hd 0 c).after 6 t = fun y : S1x4096x256.Idx => (((Hd c (t.val / 4)).dq 4096 (y 1).val (y 2) : ℝ) : EReal) := by dsimp only [dats]
theorem left7 (c : Dev nD) (t : Fin cfg0.N) :
    (dats m Hd 0 c).after 7 t = fun y : S1x1024x256.Idx => (((Hd c (t.val / 4)).dk 4096 (1024 * (t.val % 4) + (y 1).val) (y 2) : ℝ) : EReal) := by dsimp only [dats]
theorem left8 (c : Dev nD) (t : Fin cfg0.N) :
    (dats m Hd 0 c).after 8 t = fun y : S1x1024x128.Idx => (((Hd c (t.val / 4)).dv 4096 (1024 * (t.val % 4) + (y 1).val) (y 2) : ℝ) : EReal) := by dsimp only [dats]

theorem found0 (c : Dev nD) (t : Fin cfg0.N) (d) : (dats m Hd 0 c).before 0 t d = iblk m c 0 t :=
  before0_0_of m _ (dats_A m Hd c 0) (left0 m Hd c) t d
theorem found1 (c : Dev nD) (t : Fin cfg0.N) (d) : (dats m Hd 0 c).before 1 t d = iblk m c 1 t :=
  before0_1_of m _ (dats_A m Hd c 1) (left1 m Hd c) t d
theorem found2 (c : Dev nD) (t : Fin cfg0.N) (d) : (dats m Hd 0 c).before 2 t d = iblk m c 2 t :=
  before0_2_of m _ (dats_A m Hd c 2) (left2 m Hd c) t d
theorem found3 (c : Dev nD) (t : Fin cfg0.N) (d) : (dats m Hd 0 c).before 3 t d = iblk m c 3 t :=
  before0_3_of m _ (dats_A m Hd c 3) (left3 m Hd c) t d
theorem found4 (c : Dev nD) (t : Fin cfg0.N) (d) : (dats m Hd 0 c).before 4 t d = iblk m c 4 t :=
  before0_4_of m _ (dats_A m Hd c 4) (left4 m Hd c) t d
theorem found5 (c : Dev nD) (t : Fin cfg0.N) (d) : (dats m Hd 0 c).before 5 t d = iblk m c 5 t :=
  before0_5_of m _ (dats_A m Hd c 5) (left5 m Hd c) t d

/-- What the body is called with at the point, and what it returns. -/
def bodyPre (c : Dev nD) (t : Fin cfg0.N) : sProp 𝕄 :=
  iprop((dats m Hd 0 c).Φ t.castSucc ∗ (dats m Hd 0 c).owesAt () t.castSucc
    ∗ (∃ d, owns (c : Thread nD τ) (st0_0 t) fullShare ((dats m Hd 0 c).before 0 t d))
    ∗ (∃ d, owns (c : Thread nD τ) (st0_1 t) fullShare ((dats m Hd 0 c).before 1 t d))
    ∗ (∃ d, owns (c : Thread nD τ) (st0_2 t) fullShare ((dats m Hd 0 c).before 2 t d))
    ∗ (∃ d, owns (c : Thread nD τ) (st0_3 t) fullShare ((dats m Hd 0 c).before 3 t d))
    ∗ (∃ d, owns (c : Thread nD τ) (st0_4 t) fullShare ((dats m Hd 0 c).before 4 t d))
    ∗ (∃ d, owns (c : Thread nD τ) (st0_5 t) fullShare ((dats m Hd 0 c).before 5 t d))
    ∗ (∃ d, owns (c : Thread nD τ) (st0_6 t) fullShare ((dats m Hd 0 c).before 6 t d))
    ∗ (∃ d, owns (c : Thread nD τ) (st0_7 t) fullShare ((dats m Hd 0 c).before 7 t d))
    ∗ (∃ d, owns (c : Thread nD τ) (st0_8 t) fullShare ((dats m Hd 0 c).before 8 t d)))
def bodyPost (c : Dev nD) (t : Fin cfg0.N) : sProp 𝕄 :=
  iprop((dats m Hd 0 c).Φ t.succ ∗ (dats m Hd 0 c).owesAt () t.succ
    ∗ (dats m Hd 0 c).leavesExact 0 t ∗ (dats m Hd 0 c).leavesExact 1 t ∗ (dats m Hd 0 c).leavesExact 2 t
    ∗ (dats m Hd 0 c).leavesExact 3 t ∗ (dats m Hd 0 c).leavesExact 4 t ∗ (dats m Hd 0 c).leavesExact 5 t
    ∗ (dats m Hd 0 c).leavesExact 6 t ∗ (dats m Hd 0 c).leavesExact 7 t ∗ (dats m Hd 0 c).leavesExact 8 t)

/-- The query gradient's window after the point: the head's gradient once its last key block is done. -/
theorem leaves6 (c : Dev nD) (t : Fin cfg0.N) (d : _) :
    outQ c (grid0.coords t) (st0_6 t) (Hd c (t.val / 4)) ((dats m Hd 0 c).before 6 t d) ⊢ (dats m Hd 0 c).leavesExact 6 t := by
  unfold outQ
  by_cases h : t.val % 4 = 3
  · have h2 := (cond2_iff t).mpr h
    rw [show (dats m Hd 0 c).leavesExact 6 t = owns (c : Thread nD τ) (st0_6 t) fullShare ((dats m Hd 0 c).after 6 t) from by
      unfold Dat.leavesExact
      rw [show cfg0.idle 6 (cfg0.grid.coords t) = false from by show (!(k0_cond2 (grid0.coords t) == 1#1)) = false; rw [h2]; rfl], left6]
    iintro ⟨%y, H, %e⟩
    obtain rfl : y = fun z : S1x4096x256.Idx => (((Hd c (t.val / 4)).dq 4096 (z 1).val (z 2) : ℝ) : EReal) := by
      funext z
      obtain ⟨a, r, x, rfl⟩ : ∃ a r x, z = ix3 a r x := ⟨_, _, _, eq_ix3 z⟩
      obtain rfl : a = 0 := Subsingleton.elim _ _
      rw [e.1 h2 r x, coord1 t, h]
      rfl
    iexact H
  · have h2 : ¬k0_cond2 (grid0.coords t) = 1#1 := fun e => h ((cond2_iff t).mp e)
    rw [Dat.leavesExact_idle (dats m Hd 0 c) 6 t
      (by show (!(k0_cond2 (grid0.coords t) == 1#1)) = true; simpa using h2)
      (Bool.eq_false_iff.mpr fun e => h ((flush0_6 t).mp e))]
    iintro ⟨%y, H, %e⟩
    obtain rfl := e.2 h2
    iexists _; iexact H

theorem leaves7 (c : Dev nD) (t : Fin cfg0.N) :
    outK c (grid0.coords t) (st0_7 t) (Hd c (t.val / 4)) ⊢ (dats m Hd 0 c).leavesExact 7 t := by
  unfold outK
  rw [show (dats m Hd 0 c).leavesExact 7 t = owns (c : Thread nD τ) (st0_7 t) fullShare ((dats m Hd 0 c).after 7 t) from rfl, left7]
  iintro ⟨%y, H, %e⟩
  obtain rfl : y = fun z : S1x1024x256.Idx => (((Hd c (t.val / 4)).dk 4096 (1024 * (t.val % 4) + (z 1).val) (z 2) : ℝ) : EReal) := by
    funext z
    obtain ⟨a, r, x, rfl⟩ : ∃ a r x, z = ix3 a r x := ⟨_, _, _, eq_ix3 z⟩
    obtain rfl : a = 0 := Subsingleton.elim _ _
    rw [e r x, coord1 t]
    rfl
  iexact H

theorem leaves8 (c : Dev nD) (t : Fin cfg0.N) :
    outV c (grid0.coords t) (st0_8 t) (Hd c (t.val / 4)) ⊢ (dats m Hd 0 c).leavesExact 8 t := by
  unfold outV
  rw [show (dats m Hd 0 c).leavesExact 8 t = owns (c : Thread nD τ) (st0_8 t) fullShare ((dats m Hd 0 c).after 8 t) from rfl, left8]
  iintro ⟨%y, H, %e⟩
  obtain rfl : y = fun z : S1x1024x128.Idx => (((Hd c (t.val / 4)).dv 4096 (1024 * (t.val % 4) + (z 1).val) (z 2) : ℝ) : EReal) := by
    funext z
    obtain ⟨a, r, x, rfl⟩ : ∃ a r x, z = ix3 a r x := ⟨_, _, _, eq_ix3 z⟩
    obtain rfl : a = 0 := Subsingleton.elim _ _
    rw [e r x, coord1 t]
    rfl
  iexact H

/-- The heads are what the launch's arrays hold, block by block. -/
abbrev Heads : Prop := ∀ c (t : Fin cfg0.N),
  Blocks (Hd c (t.val / 4)) (t.val % 4) (iblk m c 0 t) (iblk m c 1 t) (iblk m c 2 t) (iblk m c 3 t) (iblk m c 4 t) (iblk m c 5 t)

variable (HB : Heads m Hd)

include HB in
theorem body_at (c : Dev nD) (t : Fin cfg0.N) :
    bodyPre m Hd c t ⊢ wp frame (wpE (defs₀ (F := Ideal)) Variants.none c none) Set.univ (bodyAt0 t) (fun _ => bodyPost m Hd c t) := by
  unfold bodyPre bodyPost bodyAt0
  simp only [found0, found1, found2, found3, found4, found5]
  rw [show (dats m Hd 0 c).Φ t.succ = Phi Hd c (t.val + 1) from rfl,
    show (dats m Hd 0 c).owesAt () t.succ = (dats m Hd 0 c).owesAt () t.castSucc from rfl,
    show (dats m Hd 0 c).Φ t.castSucc = Phi Hd c t.val from rfl,
    show (dats m Hd 0 c).leavesExact 0 t = owns (c : Thread nD τ) (st0_0 t) fullShare ((dats m Hd 0 c).after 0 t) from rfl,
    show (dats m Hd 0 c).leavesExact 1 t = owns (c : Thread nD τ) (st0_1 t) fullShare ((dats m Hd 0 c).after 1 t) from rfl,
    show (dats m Hd 0 c).leavesExact 2 t = owns (c : Thread nD τ) (st0_2 t) fullShare ((dats m Hd 0 c).after 2 t) from rfl,
    show (dats m Hd 0 c).leavesExact 3 t = owns (c : Thread nD τ) (st0_3 t) fullShare ((dats m Hd 0 c).after 3 t) from rfl,
    show (dats m Hd 0 c).leavesExact 4 t = owns (c : Thread nD τ) (st0_4 t) fullShare ((dats m Hd 0 c).after 4 t) from rfl,
    show (dats m Hd 0 c).leavesExact 5 t = owns (c : Thread nD τ) (st0_5 t) fullShare ((dats m Hd 0 c).after 5 t) from rfl]
  rw [left0, left1, left2, left3, left4, left5]
  unfold Phi
  iintro ⟨⟨⟨⟨%a, S0, %ha⟩, S1, S2⟩, Hg⟩, HO, ⟨%_, H0⟩, ⟨%_, H1⟩, ⟨%_, H2⟩, ⟨%_, H3⟩, ⟨%_, H4⟩, ⟨%_, H5⟩, ⟨%d6, H6⟩, ⟨%d7, H7⟩, ⟨%d8, H8⟩⟩
  have B := HB c t
  rw [← coord1 t] at B
  iapply (body c (grid0.coords t) _ _ _ _ _ _ _ _ _ _ _ _ _ _ _ _ _ _ _ _ _ _ _ _ (Hd c (t.val / 4)) _ _ _ _ _ _ B ((dats m Hd 0 c).before 6 t d6) _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexists _; iexact H7
  isplitl [H8]; · iexists _; iexact H8
  isplitl [S0]
  · unfold accIn
    iexists _; isplitl [S0]; · iexact S0
    ipureintro
    intro hc r x
    rw [coord1 t]
    exact ha (fun h => hc ((clears_iff t).mpr h)) r x
  isplitl [S1]; · iexact S1
  isplitl [S2]; · iexact S2
  iintro ⟨⟨H0, H1, H2, H3, H4, H5⟩, H6, H7, H8, S0, S1, S2⟩
  isplitl [S0 S1 S2 Hg]
  · isplitl [S0 S1 S2]
    · isplitl [S0]
      · unfold accOut
        icases S0 with ⟨%b, S0, %hb⟩
        iexists _; isplitl [S0]; · iexact S0
        ipureintro
        intro h r x
        rw [hb r x, coord1 t, show (t.val + 1) / 4 = t.val / 4 by omega, show 1024 * ((t.val + 1) % 4) = 1024 * (t.val % 4) + 1024 by omega]
      isplitl [S1]; · iexact S1
      iexact S2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iapply (leaves6 m Hd c t d6); iexact H6
  isplitl [H7]; · iapply (leaves7 m Hd c t); iexact H7
  iapply (leaves8 m Hd c t); iexact H8

theorem row_eq (t : Fin cfg0.N) : defs₀ (F := Ideal) .tc cfg0.body (cfg0.bodyArgs t (cfg0.slots t)) = bodyAt0 t := by
  unfold defs₀; rw [Defs.onTc_tc]

include HB in
theorem obligation (c : Dev nD) : BodyObligation (dats m Hd 0 c) (defs₀ (F := Ideal)) Variants.none () Set.univ := fun t => by
  rw [bigSep_W0, bigSep_W0, row_eq]
  exact triple_restated (body_at m Hd HB c t) rfl .rfl fun _ => .rfl

/-- What the launch hands the region: the scratch at some contents. -/
theorem any_scratch (c : Dev nD) :
    (Pipeline.ΦA spec0 c : sProp 𝕄)
      = iprop(iprop(anyAt c (Memref.whole cc0_scratch0) ∗ anyAt c (Memref.whole cc0_scratch1) ∗ anyAt c (Memref.whole cc0_scratch2))
          ∗ (∃ r, prngReg c r)) := by
  unfold Pipeline.ΦA; rw [scopedRest0_eq]; simp only [anyAt, owns_whole]

theorem hin (c : Dev nD) : Pipeline.ΦA spec0 c ⊢ (dats m Hd 0 c).Φ 0 := by
  rw [show (dats m Hd 0 c).Φ 0 = Phi Hd c 0 from rfl, any_scratch]
  unfold Phi
  iintro ⟨⟨⟨%a, S0⟩, S1, S2⟩, Hg⟩
  isplitl [S0 S1 S2]
  · isplitl [S0]
    · iexists _; isplitl [S0]; · iexact S0
      ipureintro
      exact fun h => absurd (Nat.zero_mod 4) h
    isplitl [S1]; · iexact S1
    iexact S2
  iexact Hg

theorem hout (c : Dev nD) : (dats m Hd 0 c).Φ (Fin.last cfg0.N) ⊢ Pipeline.ΦA spec0 c := by
  rw [show (dats m Hd 0 c).Φ (Fin.last cfg0.N) = Phi Hd c cfg0.N from rfl, any_scratch]
  unfold Phi
  iintro ⟨⟨⟨%a, S0, -⟩, S1, S2⟩, Hg⟩
  isplitl [S0 S1 S2]
  · isplitl [S0]; · iexists _; iexact S0
    isplitl [S1]; · iexact S1
    iexact S2
  iexact Hg

include HB in
set_option backward.isDefEq.respectTransparency.types false in
/-- Every fair run terminates with the three results at the heads' gradients. -/
theorem run_main : θ_run defs (onTc (τ := τ) (main (F := Ideal))) (s₀ m ρ) (Pipeline.FramePost cfgs (dats m Hd) 0 (V m)) :=
  (θ_run defs _ _).mono (fun _ h => And.left h)
    (Pipeline.θ_run_frame_track (Q' := _) cfgs (dats m Hd) (0 : Fin 1) launch0 defs₀ Variants.none m ρ main
      (hbody := fun c => (obligation m Hd HB c).loose) (hshare := fun c => (dats m Hd 0 c).share_full fun _ => rfl)
      (howed := fun _ _ => rfl) (V := V m) (hmain := hmain m Variants.none) (hA := dats_A m Hd) (hin := hin m Hd) (hout := hout m Hd))

/-! ## The results -/

theorem index6 : ∀ t : Fin cfg0.N, win0_6.index t = ![t.val / 4, 0, 0] := (by decide +kernel : ∀ t : Fin grid0.N, _)
theorem index7 : ∀ t : Fin cfg0.N, win0_7.index t = ![t.val / 4, t.val % 4, 0] := (by decide +kernel : ∀ t : Fin grid0.N, _)
theorem index8 : ∀ t : Fin cfg0.N, win0_8.index t = ![t.val / 4, t.val % 4, 0] := (by decide +kernel : ∀ t : Fin grid0.N, _)

end Cert.AttnIdeal.Proof

end
-- ==== Proof.AttnSoftmax.lean ====
/- The rows of causal attention over the reals: scores, their exponentials' sums and the probabilities. -/
module

public import proofs.«01_k».proof.Proof.Reals

@[expose] public section

noncomputable section

namespace Cert.AttnRows

open Idealize.ShloMosaic
open Finset

/-- The largest of a row's scores, those of later keys at minus infinity, is a real. -/
theorem fold_max_real {n : ℕ} (f : Fin n → EReal) (s : Fin n → ℝ) (i : Fin n) (h : ∀ j, f j = if j ≤ i then (s j : EReal) else ⊥) :
    ∃ M : ℝ, Finset.fold max (Ideal.ofBits .f32 0xFF800000#32) f Finset.univ = (M : EReal) := by
  have hb : Ideal.ofBits .f32 0xFF800000#32 = ⊥ := by simp [Ideal.ofBits, Ideal.ieee]
  rw [hb]
  have h1 : Finset.fold max ⊥ f Finset.univ < ⊤ := by
    rw [Finset.fold_max_lt]
    refine ⟨bot_lt_top, fun j _ => ?_⟩
    rw [h j]
    split
    · exact EReal.coe_lt_top _
    · exact bot_lt_top
  have h2 : (s i : EReal) ≤ Finset.fold max ⊥ f Finset.univ := by
    rw [Finset.le_fold_max]
    exact Or.inr ⟨i, mem_univ i, by rw [h i, if_pos le_rfl]⟩
  refine ⟨(Finset.fold max ⊥ f Finset.univ).toReal, (EReal.coe_toReal h1.ne ?_).symm⟩
  exact fun e => absurd (e ▸ h2) (not_le.mpr (EReal.bot_lt_coe _))

variable (Q K : Fin 4096 → Fin 8 → Fin 192 → ℝ) (V : Fin 4096 → Fin 8 → Fin 128 → ℝ) (G : Fin 4096 → Fin 8 → Fin 128 → ℝ)

/-- The score of key `j` for query `i` in head `h`. -/
def sc (h : Fin 8) (i j : Fin 4096) : ℝ := ∑ d, Q i h d * K j h d

/-- Its exponential over the row's shift `M`, for a key not after the query. -/
def ex (M : ℝ) (h : Fin 8) (i j : Fin 4096) : ℝ := if j ≤ i then Real.exp (sc Q K h i j - M) else 0

/-- The row's sum. -/
def zs (M : ℝ) (h : Fin 8) (i : Fin 4096) : ℝ := ∑ j, ex Q K M h i j

/-- The probability, and the row's output. -/
def pr (h : Fin 8) (i j : Fin 4096) : ℝ := ex Q K 0 h i j / zs Q K 0 h i
def ot (h : Fin 8) (i : Fin 4096) (e : Fin 128) : ℝ := ∑ j, V j h e * pr Q K h i j

/-- The gradient of the score of key `j` for query `i`. -/
def gs (h : Fin 8) (i j : Fin 4096) : ℝ := pr Q K h i j * (∑ e, G i h e * V j h e - ∑ e, G i h e * ot Q K V h i e)

/-- The gradients of the queries, the keys and the values. -/
def gq (h : Fin 8) (i : Fin 4096) (d : Fin 192) : ℝ := ∑ j, gs Q K V G h i j * K j h d
def gk (h : Fin 8) (j : Fin 4096) (d : Fin 192) : ℝ := ∑ i, gs Q K V G h i j * Q i h d
def gv (h : Fin 8) (j : Fin 4096) (e : Fin 128) : ℝ := ∑ i, pr Q K h i j * G i h e

variable {Q K V G}

theorem ex_nonneg (M : ℝ) (h : Fin 8) (i j : Fin 4096) : 0 ≤ ex Q K M h i j := by
  unfold ex; split
  · exact (Real.exp_pos _).le
  · exact le_rfl

theorem zs_pos (M : ℝ) (h : Fin 8) (i : Fin 4096) : 0 < zs Q K M h i :=
  Finset.sum_pos' (fun j _ => ex_nonneg M h i j) ⟨i, mem_univ i, by unfold ex; rw [if_pos le_rfl]; exact Real.exp_pos _⟩

theorem ex_shift (M : ℝ) (h : Fin 8) (i j : Fin 4096) : ex Q K M h i j = ex Q K 0 h i j * Real.exp (-M) := by
  unfold ex; split
  · rw [← Real.exp_add, sub_zero, sub_eq_add_neg]
  · rw [zero_mul]

theorem zs_shift (M : ℝ) (h : Fin 8) (i : Fin 4096) : zs Q K M h i = zs Q K 0 h i * Real.exp (-M) := by
  unfold zs; rw [Finset.sum_mul]; exact Finset.sum_congr rfl fun j _ => ex_shift M h i j

/-- The probability does not depend on the row's shift. -/
theorem ex_div (M : ℝ) (h : Fin 8) (i j : Fin 4096) : ex Q K M h i j / zs Q K M h i = pr Q K h i j := by
  rw [ex_shift, zs_shift]; unfold pr
  exact mul_div_mul_right _ _ (Real.exp_pos _).ne'

/-- The logarithm of the row's sum, restored from a shift. -/
theorem log_zs (M : ℝ) (h : Fin 8) (i : Fin 4096) : M + Real.log (zs Q K M h i) = Real.log (zs Q K 0 h i) := by
  rw [zs_shift, Real.log_mul (zs_pos 0 h i).ne' (Real.exp_pos _).ne', Real.log_exp]; ring

/-- The probability as the exponential of the score less the row's logarithm. -/
theorem exp_sub_log (h : Fin 8) (i j : Fin 4096) :
    (if j ≤ i then Real.exp (sc Q K h i j - Real.log (zs Q K 0 h i)) else 0) = pr Q K h i j := by
  unfold pr ex; split
  · rw [Real.exp_sub, Real.exp_log (zs_pos 0 h i), sub_zero]
  · rw [zero_div]

theorem pr_of_lt {h : Fin 8} {i j : Fin 4096} (hij : ¬j ≤ i) : pr Q K h i j = 0 := by unfold pr ex; rw [if_neg hij, zero_div]

/-- The gradient of the score by the quotient rule: a row's exponentials `e`, their sum `l`, the gradient `d` of the probabilities. -/
theorem quotient {n : ℕ} (e d : Fin n → ℝ) (l : ℝ) (j : Fin n) :
    (d j / l + -(∑ k, d k * (1 / (l * l)) * e k)) * e j = e j / l * (d j - ∑ k, d k * (e k / l)) := by
  have : ∑ k, d k * (1 / (l * l)) * e k = (∑ k, d k * (e k / l)) / l := by
    rw [Finset.sum_div]; exact Finset.sum_congr rfl fun k _ => by ring
  rw [this]; ring

/-- The row's output against its gradient is the probabilities against theirs. -/
theorem sum_out (h : Fin 8) (i : Fin 4096) :
    ∑ e, G i h e * ot Q K V h i e = ∑ j, (∑ e, G i h e * V j h e) * pr Q K h i j := by
  unfold ot
  simp only [Finset.mul_sum, Finset.sum_mul]
  rw [Finset.sum_comm]
  exact Finset.sum_congr rfl fun j _ => Finset.sum_congr rfl fun e _ => by ring

end Cert.AttnRows

end
-- ==== Proof.AttnHost.lean ====
/- The arrays the attention backward is launched on, over real inputs, and its results over them. -/
module

public import proofs.«01_k».proof.Proof.AttnValue
public import proofs.«01_k».proof.Proof.AttnSoftmax
public import Idealize.ShloMosaic.Lib.StableHlo.ReadAt
public import Idealize.ShloMosaic.Lib.Pointwise
public import Idealize.ShloMosaic.Lib.WordCmp

@[expose] public section

set_option maxRecDepth 16384

noncomputable section

namespace Cert.AttnIdeal.Proof

open Cert.AttnIdeal Cert.AttnIdeal.Gen
open Idealize.ShloMosaic Idealize.ShloMosaic.TcCoe Idealize.SL.Sem
open Cert.Reals Cert.AttnRows

variable (m : (ℓ : Loc nD τ sig) → Buf (Elt Ideal) ℓ) (c : Dev nD)

/-! ## One head over the reals -/

section OneHead

variable (Q K : Fin 4096 → Fin 8 → Fin 192 → ℝ) (W G : Fin 4096 → Fin 8 → Fin 128 → ℝ)

/-- Head `h` of the inputs, queries and keys padded to 256 lanes. -/
def head (h : Fin 8) : Head where
  q r d := if hd : d.val < 192 then Q (Fin.ofNat 4096 r) h ⟨d.val, hd⟩ else 0
  k r d := if hd : d.val < 192 then K (Fin.ofNat 4096 r) h ⟨d.val, hd⟩ else 0
  v r e := W (Fin.ofNat 4096 r) h e
  g r e := G (Fin.ofNat 4096 r) h e
  o r e := ot Q K W h (Fin.ofNat 4096 r) e
  l r := Real.log (zs Q K 0 h (Fin.ofNat 4096 r))

theorem ofNat_val {n : ℕ} [NeZero n] (i : Fin n) : Fin.ofNat n i.val = i := Fin.ext (Nat.mod_eq_of_lt i.isLt)

theorem sum_padded (a b : Fin 192 → ℝ) :
    ∑ d : Fin 256, (if hd : d.val < 192 then a ⟨d.val, hd⟩ else 0) * (if hd : d.val < 192 then b ⟨d.val, hd⟩ else 0) = ∑ d, a d * b d := by
  rw [show (256 : ℕ) = 192 + 64 from rfl, Fin.sum_univ_add]
  simp

variable (h : Fin 8)

theorem head_P (i j : Fin 4096) : (head Q K W G h).P i.val j.val = pr Q K h i j := by
  rw [← exp_sub_log]
  unfold Head.P head
  simp only [ofNat_val, sum_padded, Fin.val_fin_le]
  rfl

theorem head_G (i j : Fin 4096) : (head Q K W G h).G i.val j.val = gs Q K W G h i j := by
  unfold Head.G gs
  rw [head_P]
  unfold head
  simp only [ofNat_val]

theorem head_dq (i : Fin 4096) (d : Fin 256) :
    (head Q K W G h).dq 4096 i.val d = if hd : d.val < 192 then gq Q K W G h i ⟨d.val, hd⟩ else 0 := by
  unfold Head.dq gq
  rw [Finset.sum_range]
  simp only [head_G]
  unfold head
  simp only [ofNat_val]
  split
  · rfl
  · simp

theorem head_dk (j : Fin 4096) (d : Fin 256) :
    (head Q K W G h).dk 4096 j.val d = if hd : d.val < 192 then gk Q K W G h j ⟨d.val, hd⟩ else 0 := by
  unfold Head.dk gk
  rw [Finset.sum_range]
  simp only [head_G]
  unfold head
  simp only [ofNat_val]
  split
  · rfl
  · simp

theorem head_dv (j : Fin 4096) (e : Fin 128) : (head Q K W G h).dv 4096 j.val e = gv Q K G h j e := by
  unfold Head.dv gv
  rw [Finset.sum_range]
  simp only [head_P]
  unfold head
  simp only [ofNat_val]

end OneHead

/-! ## The launch's arrays

The host's lines in two parts: those up to the rows' sums, and the later ones over any buffers. -/

abbrev linesA : List (HloOp τ sig (Elt Ideal)) := List.flatten [hostOps0, hostOps0_1, hostOps0_2.take 8]
abbrev linesB : List (HloOp τ sig (Elt Ideal)) := List.flatten [hostOps0_2.drop 8, hostOps0_3, hostOps0_4, hostOps0_5, hostOps0_6]

abbrev scored (b : Ref sig .tc) : Buf (Elt Ideal) ((c : Thread nD τ).loc b) := StableHlo.after linesA (fun b => m (c, b)) b

abbrev later (f : Valuation τ sig (Elt Ideal)) (b : Ref sig .tc) : Buf (Elt Ideal) ((c : Thread nD τ).loc b) := StableHlo.after linesB f b

theorem after_two (l₁ l₂ : List (HloOp τ sig (Elt Ideal))) (f : Valuation τ sig (Elt Ideal)) :
    StableHlo.after (l₁ ++ l₂) f = StableHlo.after l₂ (StableHlo.after l₁ f) := by
  induction l₁ generalizing f with
  | nil => rfl
  | cons op l ih => exact ih _

theorem V_later (b : Ref sig .tc) : V m c b = later c (StableHlo.after linesA fun b => m (c, b)) b :=
  congrFun (after_two linesA linesB fun b => m (c, b)) _

section Later

variable (f : Valuation τ sig (Elt Ideal)) (h : Fin 8) (i : Fin 4096)

theorem l16_at (j : Fin 4096) {x y : EReal} (hx : f (Proc.devRef .tc main_v12) (ix3 h i j) = x) (hy : f (Proc.devRef .tc main_v13) (ix2 h i) = y) :
    later c f main_v16 (ix3 h i j) = Ideal.div x y := by
  rw [← hx, ← hy]
  simp only [later, linesB, hostOps0_2, List.drop_succ_cons, List.drop_zero]
  after_reads_at

theorem l18_at (e : Fin 128) (a g : Fin 4096 → EReal) (ha : ∀ j, f (Proc.devRef .tc main_arg2) (ix3 j h e) = a j)
    (hg : ∀ j, later c f main_v16 (ix3 h i j) = g j) : later c f main_v18 (ix3 i h e) = ∑ j, a j * g j := by
  simp only [← ha, ← hg]
  simp only [later, linesB, hostOps0_2, List.drop_succ_cons, List.drop_zero]
  after_reads_at

theorem l34_at (e : Fin 128) {x y : EReal} (hx : f (Proc.devRef .tc main_v8) (ix2 h i) = x) (hy : f (Proc.devRef .tc main_v13) (ix2 h i) = y) :
    later c f main_v34 (ix3 h i e) = x + Ideal.log y := by
  rw [← hx, ← hy]
  simp only [later, linesB, hostOps0_2, List.drop_succ_cons, List.drop_zero]
  after_reads_at

theorem l30_at (y : Fin 1024) {x : EReal} (hx : later c f main_v18 (ix3 i ⟨y.val / 128, by omega⟩ ⟨y.val % 128, by omega⟩) = x) :
    later c f main_v30 (ix2 i y) = x := by
  rw [← hx]
  simp only [later, linesB, hostOps0_2, List.drop_succ_cons, List.drop_zero]
  after_reads_at

end Later

variable {Q K : Fin 4096 → Fin 8 → Fin 192 → ℝ} {W G : Fin 4096 → Fin 8 → Fin 128 → ℝ}
  (hq : ∀ i h d, m ((c : Thread nD τ).loc main_arg0) (ix3 i h d) = (Q i h d : EReal))
  (hk : ∀ i h d, m ((c : Thread nD τ).loc main_arg1) (ix3 i h d) = (K i h d : EReal))
  (hw : ∀ i h d, m ((c : Thread nD τ).loc main_arg2) (ix3 i h d) = (W i h d : EReal))
  (hg : ∀ i h d, m ((c : Thread nD τ).loc main_arg3) (ix3 i h d) = (G i h d : EReal))

theorem s8_at (h : Fin 8) (i : Fin 4096) : scored m c main_v8 (ix2 h i)
    = (Finset.fold max (Ideal.ofBits .f32 0xFF800000#32) (fun j : Fin 4096 => (scored m c main_v7 (ix3 h i j) : EReal)) Finset.univ : EReal) := by
  simp only [scored, linesA, hostOps0_2, List.take_succ_cons, List.take_zero]
  after_reads_at

theorem s12_at (h : Fin 8) (i j : Fin 4096) {x y : EReal} (hx : scored m c main_v7 (ix3 h i j) = x) (hy : scored m c main_v8 (ix2 h i) = y) :
    scored m c main_v12 (ix3 h i j) = Ideal.exp (x - y) := by
  rw [← hx, ← hy]
  simp only [scored, linesA, hostOps0_2, List.take_succ_cons, List.take_zero]
  after_reads_at

theorem s13_at (h : Fin 8) (i : Fin 4096) (f : Fin 4096 → EReal) (hf : ∀ j, scored m c main_v12 (ix3 h i j) = f j) :
    scored m c main_v13 (ix2 h i) = ∑ j, f j := by
  simp only [← hf]
  simp only [scored, linesA, hostOps0_2, List.take_succ_cons, List.take_zero]
  after_reads_at

include hq hk in
theorem masked_at (h : Fin 8) (i j : Fin 4096) : scored m c main_v7 (ix3 h i j) = (if j ≤ i then (sc Q K h i j : EReal) else ⊥ : EReal) := by
  simp only [scored, linesA, hostOps0_2, List.take_succ_cons, List.take_zero]
  after_reads_at
  rw [show (id (constant (F := Ideal) S_ .f32 0xFF800000#32) ix0 : EReal) = ⊥ from by
    show Ideal.ofBits .f32 0xFF800000#32 = ⊥; simp [Ideal.ofBits, Ideal.ieee]]
  have e : ∀ i h d, m (c, Proc.tc.devRef main_arg0) (ix3 i h d) = (Q i h d : EReal) := hq
  have e' : ∀ i h d, m (c, Proc.tc.devRef main_arg1) (ix3 i h d) = (K i h d : EReal) := hk
  simp only [e, e', ← EReal.coe_mul, coe_sum]
  unfold Scalar.select sc
  exact if_congr (WordCmp.cmpi_sle_ofNat_eq_one_iff (by omega) (by omega)) rfl rfl

include hq hk in
/-- A row's exponentials over its largest score. -/
theorem row_at (h : Fin 8) (i : Fin 4096) : ∃ M : ℝ, (scored m c main_v8 (ix2 h i) = (M : EReal))
    ∧ (∀ j, scored m c main_v12 (ix3 h i j) = (ex Q K M h i j : EReal)) ∧ scored m c main_v13 (ix2 h i) = (zs Q K M h i : EReal) := by
  obtain ⟨M, hM⟩ := fold_max_real _ (sc Q K h i) i fun j => masked_at m c hq hk h i j
  have hM := (s8_at m c h i).trans hM
  have hE : ∀ j, scored m c main_v12 (ix3 h i j) = (ex Q K M h i j : EReal) := fun j => by
    rw [s12_at m c h i j (masked_at m c hq hk h i j) hM]
    unfold ex
    split
    · rw [← EReal.coe_sub, Ideal.exp_coe]
    · rw [EReal.bot_sub, Ideal.exp_bot]; rfl
  exact ⟨M, hM, hE, by rw [s13_at m c h i _ hE, coe_sum]; rfl⟩

include hq hk in
theorem prob_at (h : Fin 8) (i j : Fin 4096) : later c (StableHlo.after linesA fun b => m (c, b)) main_v16 (ix3 h i j) = (pr Q K h i j : EReal) := by
  obtain ⟨M, -, hE, hZ⟩ := row_at m c hq hk h i
  rw [l16_at c _ h i j (hE j) hZ, div_coe_coe (zs_pos M h i).ne', ex_div]

include hq hk in
theorem lse_at (h : Fin 8) (i : Fin 4096) (e : Fin 128) : V m c main_v34 (ix3 h i e) = (Real.log (zs Q K 0 h i) : EReal) := by
  obtain ⟨M, hM, -, hZ⟩ := row_at m c hq hk h i
  rw [V_later, l34_at c _ h i e hM hZ, Ideal.log_coe, if_neg (zs_pos M h i).not_ge, ← EReal.coe_add, log_zs]

include hq hk hw in
theorem out_at (i : Fin 4096) (y : Fin 1024) : V m c main_v30 (ix2 i y) = (ot Q K W ⟨y.val / 128, by omega⟩ i ⟨y.val % 128, by omega⟩ : EReal) := by
  have e : ∀ i h d, scored m c main_arg2 (ix3 i h d) = (W i h d : EReal) := fun i h d => by
    rw [← hw]
    simp only [scored, linesA, hostOps0_2, List.take_succ_cons, List.take_zero]
    after_reads_at
  rw [V_later, l30_at c _ i y (l18_at c _ _ i _ _ _ (fun j => e j _ _) (fun j => prob_at m c hq hk _ i j))]
  simp only [← EReal.coe_mul, coe_sum]
  rfl

include hg in
theorem v32_at (i : Fin 4096) (y : Fin 1024) : V m c main_v32 (ix2 i y) = (G i ⟨y.val / 128, by omega⟩ ⟨y.val % 128, by omega⟩ : EReal) := by
  rw [← hg]
  unfold V
  after_reads_at

include hw in
theorem v28_at (h : Fin 8) (i : Fin 4096) (e : Fin 128) : V m c main_v28 (ix3 h i e) = (W i h e : EReal) := by
  rw [← hw]
  unfold V
  after_reads_at

theorem zero_bf16 : (FloatOps.sitofp (F := Ideal) .bf16 (0#32) : EReal) = ((0 : ℝ) : EReal) := by
  show ((((0#32 : BitVec 32).toInt : ℤ) : ℝ) : EReal) = _
  simp

include hq in
theorem v23_at (h : Fin 8) (i : Fin 4096) (d : Fin 256) : V m c main_v23 (ix3 h i d) = (((if hd : d.val < 192 then Q i h ⟨d.val, hd⟩ else 0 : ℝ)) : EReal) := by
  have e : ∀ i h d, m (c, Proc.tc.devRef main_arg0) (ix3 i h d) = (Q i h d : EReal) := hq
  unfold V
  after_reads_at
  split
  · exact e _ _ _
  · exact zero_bf16

include hk in
theorem v26_at (h : Fin 8) (i : Fin 4096) (d : Fin 256) : V m c main_v26 (ix3 h i d) = (((if hd : d.val < 192 then K i h ⟨d.val, hd⟩ else 0 : ℝ)) : EReal) := by
  have e : ∀ i h d, m (c, Proc.tc.devRef main_arg1) (ix3 i h d) = (K i h d : EReal) := hk
  unfold V
  after_reads_at
  split
  · exact e _ _ _
  · exact zero_bf16

end Cert.AttnIdeal.Proof

end
-- ==== Proof.AttnResult.lean ====
/- The attention backward's blocks are the heads' rows, and its three results the heads' gradients. -/
module

public import proofs.«01_k».proof.Proof.AttnHost
public import Idealize.ShloMosaic.Lib.Pipeline.ValueKit

@[expose] public section

set_option maxRecDepth 16384

noncomputable section

namespace Cert.AttnIdeal.Proof

open Cert.AttnIdeal Cert.AttnIdeal.Gen
open Idealize.ShloMosaic Idealize.ShloMosaic.TcCoe Idealize.SL.Sem
open Cert.Reals Cert.AttnRows
open Idealize.ShloMosaic.Pipeline (Dat)

variable (m : (ℓ : Loc nD τ sig) → Buf (Elt Ideal) ℓ) (c : Dev nD)

theorem idx : ∀ t : Fin cfg0.N,
    win0_0.index t = ![t.val / 4, 0, 0] ∧ win0_1.index t = ![t.val / 4, t.val % 4, 0] ∧ win0_2.index t = ![t.val / 4, t.val % 4, 0]
    ∧ win0_3.index t = ![0, t.val / 4] ∧ win0_4.index t = ![0, t.val / 4] ∧ win0_5.index t = ![t.val / 4, 0, 0]
    ∧ win0_6.index t = ![t.val / 4, 0, 0] ∧ win0_7.index t = ![t.val / 4, t.val % 4, 0] ∧ win0_8.index t = ![t.val / 4, t.val % 4, 0] :=
  (by decide +kernel : ∀ t : Fin grid0.N, _)

/-- Point `t`'s head, and row `y` of its key block. -/
def hd (t : Fin cfg0.N) : Fin 8 := ⟨t.val / 4, by have := lt_of_lt_of_eq t.isLt N_0; omega⟩
def key (t : Fin cfg0.N) (y : Fin 1024) : Fin 4096 := ⟨t.val % 4 * 1024 + y.val, by omega⟩
/-- Column `e` of its head among the joined ones. -/
def col (t : Fin cfg0.N) (e : Fin 128) : Fin 1024 := ⟨t.val / 4 * 128 + e.val, by have := lt_of_lt_of_eq t.isLt N_0; omega⟩

theorem emb0 (t : Fin cfg0.N) (r : Fin 4096) (d : Fin 256) : ((cfg0.win 0).blk t).view.emb (ix3 0 r d) = ix3 (hd t) r d := by
  unfold hd
  blk_ext [idx t]

theorem emb1 (t : Fin cfg0.N) (y : Fin 1024) (d : Fin 256) : ((cfg0.win 1).blk t).view.emb (ix3 0 y d) = ix3 (hd t) (key t y) d := by
  unfold hd key
  blk_ext [idx t]

theorem emb2 (t : Fin cfg0.N) (y : Fin 1024) (d : Fin 128) : ((cfg0.win 2).blk t).view.emb (ix3 0 y d) = ix3 (hd t) (key t y) d := by
  unfold hd key
  blk_ext [idx t]

theorem emb3 (t : Fin cfg0.N) (r : Fin 4096) (e : Fin 128) : ((cfg0.win 3).blk t).view.emb (ix2 r e) = ix2 r (col t e) := by
  unfold col
  blk_ext [idx t]

theorem emb4 (t : Fin cfg0.N) (r : Fin 4096) (e : Fin 128) : ((cfg0.win 4).blk t).view.emb (ix2 r e) = ix2 r (col t e) := by
  unfold col
  blk_ext [idx t]

theorem emb5 (t : Fin cfg0.N) (r : Fin 4096) (d : Fin 128) : ((cfg0.win 5).blk t).view.emb (ix3 0 r d) = ix3 (hd t) r d := by
  unfold hd
  blk_ext [idx t]

theorem read0 (f : (b : Ref sig .tc) → Buf (Elt Ideal) ((c : Thread nD τ).loc b)) (t : Fin cfg0.N) (r : Fin 4096) (d : Fin 256) :
    ((cfg0.win 0).blk t).view.read (Elt Ideal) (f (Pipeline.arrRef spec0 0)) (ix3 0 r d) = f main_v23 (ix3 (hd t) r d) :=
  congrArg (f main_v23) (emb0 t r d)

theorem blk0 (t : Fin cfg0.N) (r : Fin 4096) (d : Fin 256) : iblk m c 0 t (ix3 0 r d) = V m c main_v23 (ix3 (hd t) r d) := by
  unfold iblk
  exact read0 c (V m c) t r d

theorem read1 (f : (b : Ref sig .tc) → Buf (Elt Ideal) ((c : Thread nD τ).loc b)) (t : Fin cfg0.N) (y : Fin 1024) (d : Fin 256) :
    ((cfg0.win 1).blk t).view.read (Elt Ideal) (f (Pipeline.arrRef spec0 1)) (ix3 0 y d) = f main_v26 (ix3 (hd t) (key t y) d) :=
  congrArg (f main_v26) (emb1 t y d)

theorem blk1 (t : Fin cfg0.N) (y : Fin 1024) (d : Fin 256) : iblk m c 1 t (ix3 0 y d) = V m c main_v26 (ix3 (hd t) (key t y) d) := by
  unfold iblk
  exact read1 c (V m c) t y d

theorem read2 (f : (b : Ref sig .tc) → Buf (Elt Ideal) ((c : Thread nD τ).loc b)) (t : Fin cfg0.N) (y : Fin 1024) (d : Fin 128) :
    ((cfg0.win 2).blk t).view.read (Elt Ideal) (f (Pipeline.arrRef spec0 2)) (ix3 0 y d) = f main_v28 (ix3 (hd t) (key t y) d) :=
  congrArg (f main_v28) (emb2 t y d)

theorem blk2 (t : Fin cfg0.N) (y : Fin 1024) (d : Fin 128) : iblk m c 2 t (ix3 0 y d) = V m c main_v28 (ix3 (hd t) (key t y) d) := by
  unfold iblk
  exact read2 c (V m c) t y d

theorem read3 (f : (b : Ref sig .tc) → Buf (Elt Ideal) ((c : Thread nD τ).loc b)) (t : Fin cfg0.N) (r : Fin 4096) (e : Fin 128) :
    ((cfg0.win 3).blk t).view.read (Elt Ideal) (f (Pipeline.arrRef spec0 3)) (ix2 r e) = f main_v30 (ix2 r (col t e)) :=
  congrArg (f main_v30) (emb3 t r e)

theorem blk3 (t : Fin cfg0.N) (r : Fin 4096) (e : Fin 128) : iblk m c 3 t (ix2 r e) = V m c main_v30 (ix2 r (col t e)) := by
  unfold iblk
  exact read3 c (V m c) t r e

theorem read4 (f : (b : Ref sig .tc) → Buf (Elt Ideal) ((c : Thread nD τ).loc b)) (t : Fin cfg0.N) (r : Fin 4096) (e : Fin 128) :
    ((cfg0.win 4).blk t).view.read (Elt Ideal) (f (Pipeline.arrRef spec0 4)) (ix2 r e) = f main_v32 (ix2 r (col t e)) :=
  congrArg (f main_v32) (emb4 t r e)

theorem blk4 (t : Fin cfg0.N) (r : Fin 4096) (e : Fin 128) : iblk m c 4 t (ix2 r e) = V m c main_v32 (ix2 r (col t e)) := by
  unfold iblk
  exact read4 c (V m c) t r e

theorem read5 (f : (b : Ref sig .tc) → Buf (Elt Ideal) ((c : Thread nD τ).loc b)) (t : Fin cfg0.N) (r : Fin 4096) (d : Fin 128) :
    ((cfg0.win 5).blk t).view.read (Elt Ideal) (f (Pipeline.arrRef spec0 5)) (ix3 0 r d) = f main_v34 (ix3 (hd t) r d) :=
  congrArg (f main_v34) (emb5 t r d)

theorem blk5 (t : Fin cfg0.N) (r : Fin 4096) (d : Fin 128) : iblk m c 5 t (ix3 0 r d) = V m c main_v34 (ix3 (hd t) r d) := by
  unfold iblk
  exact read5 c (V m c) t r d

theorem emb6 (t : Fin cfg0.N) (z : Fin 1) (r : Fin 4096) (d : Fin 256) : ((cfg0.win 6).blk t).view.emb (ix3 z r d) = ix3 (hd t) r d := by
  unfold hd
  obtain rfl : z = 0 := Subsingleton.elim _ _
  blk_ext [idx t]

theorem emb7 (t : Fin cfg0.N) (z : Fin 1) (y : Fin 1024) (d : Fin 256) : ((cfg0.win 7).blk t).view.emb (ix3 z y d) = ix3 (hd t) (key t y) d := by
  unfold hd key
  obtain rfl : z = 0 := Subsingleton.elim _ _
  blk_ext [idx t]

theorem emb8 (t : Fin cfg0.N) (z : Fin 1) (y : Fin 1024) (d : Fin 128) : ((cfg0.win 8).blk t).view.emb (ix3 z y d) = ix3 (hd t) (key t y) d := by
  unfold hd key
  obtain rfl : z = 0 := Subsingleton.elim _ _
  blk_ext [idx t]

theorem col_div (t : Fin cfg0.N) (e : Fin 128) (p) : (⟨(col t e).val / 128, p⟩ : Fin 8) = hd t := Fin.ext (by unfold col hd; dsimp only; omega)
theorem col_mod (t : Fin cfg0.N) (e : Fin 128) (p) : (⟨(col t e).val % 128, p⟩ : Fin 128) = e := Fin.ext (by unfold col; dsimp only; omega)
theorem key_val (t : Fin cfg0.N) (y : Fin 1024) : 1024 * (t.val % 4) + y.val = (key t y).val := by unfold key; dsimp only; omega

variable (Q K : Dev nD → Fin 4096 → Fin 8 → Fin 192 → ℝ) (W G : Dev nD → Fin 4096 → Fin 8 → Fin 128 → ℝ)

/-- Each device's heads. -/
def heads (c : Dev nD) (n : ℕ) : Head := head (Q c) (K c) (W c) (G c) (Fin.ofNat 8 n)

theorem heads_hd (t : Fin cfg0.N) : heads Q K W G c (t.val / 4) = head (Q c) (K c) (W c) (G c) (hd t) :=
  congrArg (head (Q c) (K c) (W c) (G c)) (Fin.ext (Nat.mod_eq_of_lt (hd t).isLt))

theorem blocks (hq : ∀ (c : Dev nD) i h d, m ((c : Thread nD τ).loc main_arg0) (ix3 i h d) = (Q c i h d : EReal))
    (hk : ∀ (c : Dev nD) i h d, m ((c : Thread nD τ).loc main_arg1) (ix3 i h d) = (K c i h d : EReal))
    (hw : ∀ (c : Dev nD) i h d, m ((c : Thread nD τ).loc main_arg2) (ix3 i h d) = (W c i h d : EReal))
    (hg : ∀ (c : Dev nD) i h d, m ((c : Thread nD τ).loc main_arg3) (ix3 i h d) = (G c i h d : EReal)) : Heads m (heads Q K W G) := fun c t => by
  rw [heads_hd]
  refine ⟨fun r d => ?_, fun y d => ?_, fun y e => ?_, fun r e => ?_, fun r e => ?_, fun r => ?_⟩
  · rw [blk0, v23_at m c (hq c)]; unfold head; simp only [ofNat_val]
  · rw [blk1, v26_at m c (hk c), key_val]; unfold head; simp only [ofNat_val]
  · rw [blk2, v28_at m c (hw c), key_val]; unfold head; simp only [ofNat_val]
  · rw [blk3, out_at m c (hq c) (hk c) (hw c), col_div, col_mod]; unfold head; simp only [ofNat_val]
  · rw [blk4, v32_at m c (hg c), col_div, col_mod]; unfold head; simp only [ofNat_val]
  · refine (blk5 m c t r 0).trans ?_; rw [lse_at m c (hq c) (hk c)]; unfold head; simp only [ofNat_val]

theorem result_dq : (dats m (heads Q K W G) 0 c).arrAt 6 (cfgs 0).N
    = fun i : S8x4096x256.Idx => ((if hd : (i 2).val < 192 then gq (Q c) (K c) (W c) (G c) (i 0) (i 1) ⟨(i 2).val, hd⟩ else 0 : ℝ) : EReal) := by
  refine (dats m (heads Q K W G) 0 c).arrAt_eq_of_covers 6 _ (by decide +kernel) fun t hf y => ?_
  have e := emb6 t (y 0) (y 1) (y 2)
  rw [← eq_ix3 y] at e
  rw [e]
  blk_simp
  rw [left6, heads_hd]
  exact congrArg (fun r : ℝ => (r : EReal)) (head_dq (Q c) (K c) (W c) (G c) (hd t) (y 1) (y 2))

theorem result_dk : (dats m (heads Q K W G) 0 c).arrAt 7 (cfgs 0).N
    = fun i : S8x4096x256.Idx => ((if hd : (i 2).val < 192 then gk (Q c) (K c) (W c) (G c) (i 0) (i 1) ⟨(i 2).val, hd⟩ else 0 : ℝ) : EReal) := by
  refine (dats m (heads Q K W G) 0 c).arrAt_eq_of_covers 7 _ (by decide +kernel) fun t hf y => ?_
  have e := emb7 t (y 0) (y 1) (y 2)
  rw [← eq_ix3 y] at e
  rw [e]
  blk_simp
  rw [left7, heads_hd]
  exact congrArg (fun r : ℝ => (r : EReal)) ((congrArg (fun n => (head (Q c) (K c) (W c) (G c) (hd t)).dk 4096 n (y 2)) (key_val t (y 1))).trans
    (head_dk (Q c) (K c) (W c) (G c) (hd t) (key t (y 1)) (y 2)))

theorem result_dv : (dats m (heads Q K W G) 0 c).arrAt 8 (cfgs 0).N
    = fun i : S8x4096x128.Idx => (gv (Q c) (K c) (G c) (i 0) (i 1) (i 2) : EReal) := by
  refine (dats m (heads Q K W G) 0 c).arrAt_eq_of_covers 8 _ (by decide +kernel) fun t hf y => ?_
  have e := emb8 t (y 0) (y 1) (y 2)
  rw [← eq_ix3 y] at e
  rw [e]
  blk_simp
  rw [left8, heads_hd]
  exact congrArg (fun r : ℝ => (r : EReal)) ((congrArg (fun n => (head (Q c) (K c) (W c) (G c) (hd t)).dv 4096 n (y 2)) (key_val t (y 1))).trans
    (head_dv (Q c) (K c) (W c) (G c) (hd t) (key t (y 1)) (y 2)))

/-- Every fair run ends with the results' arrays as the launch leaves them and the arguments as they were. -/
theorem run_at (ρ : Dev nD → PrngReg) (Hd : Dev nD → ℕ → Head) (HB : Heads m Hd) :
    θ_run defs (onTc (τ := τ) (main (F := Ideal))) ⟨m, fun _ => 0, ρ⟩ (fun r => ∀ c : Dev nD,
      r.2.mem ((c.tc : Thread nD τ).loc main_v35_0) = (dats m Hd 0 c).arrAt 6 (cfgs 0).N
      ∧ r.2.mem ((c.tc : Thread nD τ).loc main_v35_1) = (dats m Hd 0 c).arrAt 7 (cfgs 0).N
      ∧ r.2.mem ((c.tc : Thread nD τ).loc main_v35_2) = (dats m Hd 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ Hd HB)

end Cert.AttnIdeal.Proof

end
-- ==== Proof.AttnRef.lean ====
/- The results of the attention backward's reference over real inputs. -/
module

public import proofs.«01_k».proof.Proof.Gen.AttnRefIdeal.Read
public import proofs.«01_k».proof.Proof.AttnSoftmax
public import Idealize.ShloMosaic.Lib.Pointwise
public import Idealize.ShloMosaic.Lib.WordCmp

@[expose] public section

set_option maxRecDepth 16384

noncomputable section

namespace Cert.AttnRefIdeal.Proof

open Cert.AttnRefIdeal Cert.AttnRefIdeal.Gen Cert.AttnRefIdeal.Read Idealize.ShloMosaic Idealize.ShloMosaic.TcCoe Idealize.SL.Sem
open Cert.Reals Cert.AttnRows

variable {x0 x1 : FVec Ideal S4096x8x192 .f32} {x2 x3 : FVec Ideal S4096x8x128 .f32}
variable {Q K : Fin 4096 → Fin 8 → Fin 192 → ℝ} {W G : Fin 4096 → Fin 8 → Fin 128 → ℝ}

theorem neg_inf : Ideal.ofBits .f32 0xFF800000#32 = ⊥ := by
  simp [Ideal.ofBits, Ideal.ieee]

theorem mask_at (h : Fin 8) (i j : Fin 4096) : val_main_v7_1 (F := Ideal) (ix3 h i j) = if j ≤ i then 1#1 else 0#1 := by
  pointwise [val_main_v7_1, val_main_v6, val_main_v5, val_main_v4, val_main_v3, val_main_v2, val_main_v1]
  split
  · exact (WordCmp.cmpi_sle_ofNat_eq_one_iff (by omega) (by omega)).mpr ‹_›
  · exact (BitVec.eq_zero_or_eq_one _).resolve_right fun e => ‹¬_› ((WordCmp.cmpi_sle_ofNat_eq_one_iff (by omega) (by omega)).mp e)

theorem masked_at (hq : ∀ i h d, x0 (ix3 i h d) = (Q i h d : EReal)) (hk : ∀ i h d, x1 (ix3 i h d) = (K i h d : EReal)) (h : Fin 8) (i j : Fin 4096) :
    val_main_v7_0 (F := Ideal) x0 x1 (ix3 h i j) = (if j ≤ i then (sc Q K h i j : EReal) else ⊥ : EReal) := by
  pointwise [val_main_v7_0, val_main_v0, val_main_call0_v2, mask_at, hq, hk]
  rw [show val_main_call0_v0 (F := Ideal) ix0 = (⊥ : EReal) from neg_inf]
  simp only [← EReal.coe_mul, coe_sum]
  unfold Scalar.select sc
  split <;> simp

section Row

variable {M : Fin 8 → Fin 4096 → ℝ} (hM : ∀ h i, val_main_v8 (F := Ideal) x0 x1 (ix2 h i) = (M h i : EReal))
  (hq : ∀ i h d, x0 (ix3 i h d) = (Q i h d : EReal)) (hk : ∀ i h d, x1 (ix3 i h d) = (K i h d : EReal))
  (hw : ∀ i h d, x2 (ix3 i h d) = (W i h d : EReal)) (hg : ∀ i h d, x3 (ix3 i h d) = (G i h d : EReal))

include hM in
theorem max_at (h : Fin 8) (i : Fin 4096) : val_main_v15 (F := Ideal) x0 x1 (ix2 h i) = (M h i : EReal) := by
  rw [val_main_v15_apply, val_main_v14_apply, hM]
  show max (Ideal.ofBits .f32 0xFF800000#32) (M h i : EReal) = _
  rw [neg_inf]
  exact max_eq_right bot_le

include hM hq hk in
theorem exp_at (h : Fin 8) (i j : Fin 4096) : val_main_v28 (F := Ideal) x0 x1 (ix3 h i j) = (ex Q K (M h i) h i j : EReal) := by
  pointwise [val_main_v28, val_main_v27, val_main_v26, val_main_v25, max_at hM, masked_at hq hk]
  unfold ex
  split
  · rw [← EReal.coe_sub, Ideal.exp_coe]
  · rw [EReal.bot_sub, Ideal.exp_bot]; rfl

include hM hq hk in
theorem sum_at (h : Fin 8) (i : Fin 4096) (z : Fin 1) : val_main_v30 (F := Ideal) x0 x1 (ix3 h i z) = (zs Q K (M h i) h i : EReal) := by
  pointwise [val_main_v30, val_main_v29, val_main_cst_8, exp_at hM hq hk]
  simp only [zero_add, coe_sum]
  rfl

include hM hq hk in
theorem prob_at (h : Fin 8) (i j : Fin 4096) : val_main_v32 (F := Ideal) x0 x1 (ix3 h i j) = (pr Q K h i j : EReal) := by
  pointwise [val_main_v32, val_main_v31, exp_at hM hq hk, sum_at hM hq hk]
  rw [div_coe_coe (zs_pos _ h i).ne', ex_div]

include hM hq hk in
theorem inv_at (h : Fin 8) (i : Fin 4096) (z : Fin 1) :
    val_main_v35 (F := Ideal) x0 x1 (ix3 h i z) = ((1 / (zs Q K (M h i) h i * zs Q K (M h i) h i) : ℝ) : EReal) := by
  pointwise [val_main_v35, val_main_v34, val_main_v33, val_main_cst_9, sum_at hM hq hk]
  rw [← EReal.coe_mul, one_eq_coe, div_coe_coe (mul_self_pos.mpr (zs_pos _ h i).ne').ne']

include hw hg in
theorem dp_at (h : Fin 8) (i j : Fin 4096) : val_main_v39 (F := Ideal) x2 x3 (ix3 h i j) = ((∑ e, G i h e * W j h e : ℝ) : EReal) := by
  pointwise [val_main_v39, val_main_v38, hw, hg]
  simp only [← EReal.coe_mul, coe_sum]

include hM hq hk hw hg in
theorem row_at (h : Fin 8) (i : Fin 4096) (z : Fin 1) : val_main_v47 (F := Ideal) x0 x1 x2 x3 (ix3 h i z)
    = ((-(∑ k, (∑ e, G i h e * W k h e) * (1 / (zs Q K (M h i) h i * zs Q K (M h i) h i)) * ex Q K (M h i) h i k) : ℝ) : EReal) := by
  pointwise [val_main_v47, val_main_v46, val_main_v45, val_main_v44, val_main_v43, val_main_v42, val_main_cst_10, inv_at hM hq hk, dp_at hw hg, exp_at hM hq hk]
  simp only [zero_add, ← EReal.coe_mul, coe_sum, ← EReal.coe_neg]

include hM hq hk hw hg in
theorem ds_at (h : Fin 8) (i j : Fin 4096) : val_main_v54 (F := Ideal) x0 x1 x2 x3 (ix3 h i j) = (gs Q K W G h i j : EReal) := by
  pointwise [val_main_v54, val_main_v53, val_main_v52, val_main_v51, val_main_v50, val_main_v49, val_main_v48, val_main_call1_v0, val_main_call1_cst, val_main_cst_11, mask_at,
    row_at hM hq hk hw hg, dp_at hw hg, exp_at hM hq hk, sum_at hM hq hk]
  simp only [zero_add, Fin.sum_univ_one, div_coe_coe (zs_pos _ h i).ne', ← EReal.coe_add, ← EReal.coe_mul]
  rw [quotient (ex Q K (M h i) h i) (fun j => ∑ e, G i h e * W j h e)]
  simp only [ex_div, ← sum_out]
  unfold Scalar.select gs
  by_cases hij : j ≤ i
  · simp [hij]
  · simp [hij, pr_of_lt]

include hM hq hk hw hg in
theorem dq_of : val_main_v62 (F := Ideal) x0 x1 x2 x3
    = fun i => ((if hd : (i 2).val < 192 then gq Q K W G (i 0) (i 1) ⟨(i 2).val, hd⟩ else 0 : ℝ) : EReal) := by
  funext y
  idx_vars y
  pointwise [val_main_v62, val_main_v61, val_main_v60, val_main_v59, val_main_v58, val_main_v57, val_main_cst_12, ds_at hM hq hk hw hg, hk]
  simp only [← EReal.coe_mul, coe_sum]
  split <;> rfl

include hM hq hk hw hg in
theorem dk_of : val_main_v66 (F := Ideal) x0 x1 x2 x3
    = fun i => ((if hd : (i 2).val < 192 then gk Q K W G (i 0) (i 1) ⟨(i 2).val, hd⟩ else 0 : ℝ) : EReal) := by
  funext y
  idx_vars y
  pointwise [val_main_v66, val_main_v65, val_main_v64, val_main_v63, val_main_v56, val_main_v55, val_main_cst_13, ds_at hM hq hk hw hg, hq]
  simp only [← EReal.coe_mul, coe_sum]
  split <;> rfl

include hM hq hk hg in
theorem dv_of : val_main_v68 (F := Ideal) x0 x1 x3 = fun i => (gv Q K G (i 0) (i 1) (i 2) : EReal) := by
  funext y
  idx_vars y
  pointwise [val_main_v68, val_main_v67, val_main_v41, val_main_v40, val_main_v38, prob_at hM hq hk, hg]
  simp only [← EReal.coe_mul, coe_sum]
  unfold gv
  exact congrArg _ (Finset.sum_congr rfl fun i _ => mul_comm _ _)

end Row

/-- A row's largest masked score is a real. -/
theorem max_real (hq : ∀ i h d, x0 (ix3 i h d) = (Q i h d : EReal)) (hk : ∀ i h d, x1 (ix3 i h d) = (K i h d : EReal)) (h : Fin 8) (i : Fin 4096) :
    ∃ M : ℝ, val_main_v8 (F := Ideal) x0 x1 (ix2 h i) = (M : EReal) := by
  obtain ⟨M, e⟩ := fold_max_real _ (sc Q K h i) i fun j => masked_at hq hk h i j
  refine ⟨M, Eq.trans ?_ e⟩
  pointwise [val_main_v8, val_main_cst_0]

section Results

variable (hq : ∀ i h d, x0 (ix3 i h d) = (Q i h d : EReal)) (hk : ∀ i h d, x1 (ix3 i h d) = (K i h d : EReal))
  (hw : ∀ i h d, x2 (ix3 i h d) = (W i h d : EReal)) (hg : ∀ i h d, x3 (ix3 i h d) = (G i h d : EReal))

include hq hk hw hg in
theorem result_dq : val_main_v62 (F := Ideal) x0 x1 x2 x3
    = fun i => ((if hd : (i 2).val < 192 then gq Q K W G (i 0) (i 1) ⟨(i 2).val, hd⟩ else 0 : ℝ) : EReal) := by
  choose M hM using max_real hq hk
  exact dq_of hM hq hk hw hg

include hq hk hw hg in
theorem result_dk : val_main_v66 (F := Ideal) x0 x1 x2 x3
    = fun i => ((if hd : (i 2).val < 192 then gk Q K W G (i 0) (i 1) ⟨(i 2).val, hd⟩ else 0 : ℝ) : EReal) := by
  choose M hM using max_real hq hk
  exact dk_of hM hq hk hw hg

include hq hk hg in
theorem result_dv : val_main_v68 (F := Ideal) x0 x1 x3 = fun i => (gv Q K G (i 0) (i 1) (i 2) : EReal) := by
  choose M hM using max_real hq hk
  exact dv_of hM hq hk hg

end Results

end Cert.AttnRefIdeal.Proof

end
-- ==== Proof.AttnPre.lean ====
/- The attention's precondition: its arrays are arrays of reals. -/
module

public import proofs.«01_k».proof.Pre_attn_finite
public import proofs.«01_k».proof.Proof.Reals
public import Idealize.ShloMosaic.Lib.Pointwise

@[expose] public section

set_option maxRecDepth 16384

noncomputable section

namespace Cert.Pre_attn_finite.Proof

open Cert.Pre_attn_finite Idealize.ShloMosaic Cert.Reals

variable [Facts]

theorem reals (x0 x1 : FVec Ideal S4096x8x192 .f32) (x2 x3 : FVec Ideal S4096x8x128 .f32) (e : fn (F := Ideal) x0 x1 x2 x3 = fun _ => 1#1) :
    (∃ r : S4096x8x192.Idx → ℝ, x0 = fun i => (r i : EReal)) ∧ (∃ r : S4096x8x192.Idx → ℝ, x1 = fun i => (r i : EReal))
    ∧ (∃ r : S4096x8x128.Idx → ℝ, x2 = fun i => (r i : EReal)) ∧ (∃ r : S4096x8x128.Idx → ℝ, x3 = fun i => (r i : EReal)) := by
  have e0 := congrFun e ix0
  unfold fn fn_part1 at e0
  dsimp only at e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3⟩

end Cert.Pre_attn_finite.Proof

end
-- ==== Proof.AttnClaim.lean ====
module

public import proofs.«01_k».proof.Defs
public import proofs.«01_k».proof.Proof.AttnResult
public import proofs.«01_k».proof.Proof.AttnRef
public import proofs.«01_k».proof.Proof.AttnPre
public import proofs.«01_k».proof.Proof.Gen.AttnRefIdeal.Run
public import proofs.«01_k».proof.Proof.Gen.Pre_attn_finite
public import Idealize.ShloMosaic.Lib.Claim

@[expose] public section

set_option maxRecDepth 16384

noncomputable section

namespace Cert.Proof

open Idealize.ShloMosaic Idealize.SL.Sem

theorem attn : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  intro m g m' g' hpre hagree
  have hr := fun c => Cert.Pre_attn_finite.Proof.reals _ _ _ _ (hpre c)
  choose r0 h0 using fun c => (hr c).1
  choose r1 h1 using fun c => (hr c).2.1
  choose r2 h2 using fun c => (hr c).2.2.1
  choose r3 h3 using fun c => (hr c).2.2.2
  obtain ⟨Q, hq⟩ : ∃ Q : Dev Cert.AttnIdeal.nD → Fin 4096 → Fin 8 → Fin 192 → ℝ, ∀ (c : Dev Cert.AttnIdeal.nD) i h d,
      m ((c.tc : Thread Cert.AttnIdeal.nD Cert.AttnIdeal.τ).loc Cert.AttnIdeal.main_arg0) (ix3 i h d) = (Q c i h d : EReal) :=
    ⟨fun c i h d => r0 c (ix3 i h d), fun c i h d => congrFun (h0 c) _⟩
  obtain ⟨K, hk⟩ : ∃ K : Dev Cert.AttnIdeal.nD → Fin 4096 → Fin 8 → Fin 192 → ℝ, ∀ (c : Dev Cert.AttnIdeal.nD) i h d,
      m ((c.tc : Thread Cert.AttnIdeal.nD Cert.AttnIdeal.τ).loc Cert.AttnIdeal.main_arg1) (ix3 i h d) = (K c i h d : EReal) :=
    ⟨fun c i h d => r1 c (ix3 i h d), fun c i h d => congrFun (h1 c) _⟩
  obtain ⟨W, hw⟩ : ∃ W : Dev Cert.AttnIdeal.nD → Fin 4096 → Fin 8 → Fin 128 → ℝ, ∀ (c : Dev Cert.AttnIdeal.nD) i h d,
      m ((c.tc : Thread Cert.AttnIdeal.nD Cert.AttnIdeal.τ).loc Cert.AttnIdeal.main_arg2) (ix3 i h d) = (W c i h d : EReal) :=
    ⟨fun c i h d => r2 c (ix3 i h d), fun c i h d => congrFun (h2 c) _⟩
  obtain ⟨G, hg⟩ : ∃ G : Dev Cert.AttnIdeal.nD → Fin 4096 → Fin 8 → Fin 128 → ℝ, ∀ (c : Dev Cert.AttnIdeal.nD) i h d,
      m ((c.tc : Thread Cert.AttnIdeal.nD Cert.AttnIdeal.τ).loc Cert.AttnIdeal.main_arg3) (ix3 i h d) = (G c i h d : EReal) :=
    ⟨fun c i h d => r3 c (ix3 i h d), fun c i h d => congrFun (h3 c) _⟩
  refine ⟨fun c => (Cert.AttnIdeal.Proof.dats m (Cert.AttnIdeal.Proof.heads Q K W G) 0 c).arrAt 6 (Cert.AttnIdeal.cfgs 0).N,
    fun c => (Cert.AttnIdeal.Proof.dats m (Cert.AttnIdeal.Proof.heads Q K W G) 0 c).arrAt 7 (Cert.AttnIdeal.cfgs 0).N,
    fun c => (Cert.AttnIdeal.Proof.dats m (Cert.AttnIdeal.Proof.heads Q K W G) 0 c).arrAt 8 (Cert.AttnIdeal.cfgs 0).N, ?_, ?_⟩
  · exact Cert.AttnIdeal.Proof.run_at m g (Cert.AttnIdeal.Proof.heads Q K W G) (Cert.AttnIdeal.Proof.blocks m Q K W G hq hk hw hg)
  · run_from Cert.AttnRefIdeal.Value.run m' g'
    · obtain ⟨a0, a1, a2, a3⟩ := hagree c
      rw [Cert.AttnRefIdeal.Read.val_main_v62_eq m' c, a0, a1, a2, a3, Cert.AttnIdeal.Proof.result_dq]
      exact Cert.AttnRefIdeal.Proof.result_dq (hq c) (hk c) (hw c) (hg c)
    · obtain ⟨a0, a1, a2, a3⟩ := hagree c
      rw [Cert.AttnRefIdeal.Read.val_main_v66_eq m' c, a0, a1, a2, a3, Cert.AttnIdeal.Proof.result_dk]
      exact Cert.AttnRefIdeal.Proof.result_dk (hq c) (hk c) (hw c) (hg c)
    · exact (Cert.AttnRefIdeal.Read.val_main_v68_eq _ _ _).trans ((Cert.AttnRefIdeal.Proof.result_dv (hq c) (hk c) (hg c)).trans
        (Cert.AttnIdeal.Proof.result_dv m c Q K W G).symm)

end Cert.Proof

end
-- ==== Proof.NormInMath.lean ====
module

public import proofs.«01_k».proof.Proof.Reals

/-! The gradients of a product of normed rows, over the reals. -/

@[expose] public section

noncomputable section

namespace Cert.NormInMath

open Cert.Reals
open scoped BigOperators

variable {w : ℕ}

/-- The gradient of the normed rows, before the norm. -/
def dx (DU : Fin 4096 → Fin w → ℝ) (W : Fin 1024 → Fin w → ℝ) (i : Fin 4096) (j : Fin 1024) : ℝ := ∑ k, DU i k * W j k

/-- What the kernel leaves in row `i`, column `k` beyond the residual's gradient. -/
def dh (H : Fin 4096 → Fin 1024 → ℝ) (G : Fin 1024 → ℝ) (W : Fin 1024 → Fin w → ℝ) (DU : Fin 4096 → Fin w → ℝ) (i : Fin 4096) (k : Fin 1024) : ℝ :=
  rr H i * (dx DU W i k * G k - H i k * rr H i * ((∑ l, dx DU W i l * G l * (H i l * rr H i)) / 1024))

/-- The gradient of the norm's weight. -/
def dg (H : Fin 4096 → Fin 1024 → ℝ) (W : Fin 1024 → Fin w → ℝ) (DU : Fin 4096 → Fin w → ℝ) (k : Fin 1024) : ℝ :=
  ∑ i, dx DU W i k * (H i k * rr H i)

/-- The derivative of the norm as the chain rule writes it, over the row's reciprocal root `r` and mean square `v`. -/
theorem dh_eq (H : Fin 4096 → Fin 1024 → ℝ) (G : Fin 1024 → ℝ) (W : Fin 1024 → Fin w → ℝ) (DU : Fin 4096 → Fin w → ℝ) (i : Fin 4096) (k : Fin 1024) :
    dx DU W i k * G k * rr H i
      + H i k * ((∑ l, H i l * (dx DU W i l * G l)) * (-(1 / 2) * (rr H i / ms H i)) / 1024)
      + (∑ l, H i l * (dx DU W i l * G l)) * (-(1 / 2) * (rr H i / ms H i)) / 1024 * H i k = dh H G W DU i k := by
  have hsum : ∑ l, dx DU W i l * G l * (H i l * rr H i) = (∑ l, H i l * (dx DU W i l * G l)) * rr H i := by
    rw [Finset.sum_mul]
    exact Finset.sum_congr rfl fun l _ => by ring
  unfold dh
  rw [rr_div_ms, hsum]
  ring

end Cert.NormInMath

end
-- ==== Proof.NormInKernel.lean ====
module

public import proofs.«01_k».proof.Proof.Gen.NormInIdeal.Value
public import proofs.«01_k».proof.Proof.NormInMath
public import Idealize.ShloMosaic.Lib.Pipeline.ValueKit
public import Idealize.ShloMosaic.Lib.Pointwise

@[expose] public section

set_option maxRecDepth 16384

noncomputable section

namespace Cert.NormInIdeal.Proof

open Cert.NormInIdeal Cert.NormInIdeal.Gen Idealize.ShloMosaic Idealize.ShloMosaic.TcCoe Idealize.SL.Sem
open Cert.Reals Cert.NormInMath
open Idealize.ShloMosaic.Pipeline (Dat)

variable (m : (ℓ : Loc nD τ sig) → Buf (Elt Ideal) ℓ) (ρ : Dev nD → PrngReg)

theorem idx : ∀ t : Fin cfg0.N,
    win0_0.index t = ![0, t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-! ## The payloads at real blocks -/

theorem pay_rsqrt (h : FVec Ideal S256x1024 .f32) (H : Fin 256 → Fin 1024 → ℝ) (hh : ∀ p k, h (ix2 p k) = (H p k : EReal)) (p : Fin 256) :
    k0_pay7 (F := Ideal) h (ix2 p 0) = (rr H p : EReal) := by
  pointwise [k0_pay7, hh]
  simp only [ofBits_1024, ofBits_eps, ← EReal.coe_mul, coe_sum, div_coe_coe (by norm_num : (1024 : ℝ) ≠ 0), ← EReal.coe_add]
  exact rsqrt_of_pos (ms_pos H p)

theorem pay_xhat (h : FVec Ideal S256x1024 .f32) (H : Fin 256 → Fin 1024 → ℝ) (hh : ∀ p k, h (ix2 p k) = (H p k : EReal)) (p : Fin 256) (k : Fin 1024) :
    k0_pay8 (F := Ideal) h (ix2 p k) = ((H p k * rr H p : ℝ) : EReal) := by
  pointwise [k0_pay8, hh, pay_rsqrt h H hh]
  rw [EReal.coe_mul]

theorem pay_dres (dx : FVec Ideal S256x1024 .f32) (r : FVec Ideal S256x1 .f32) (xh : FVec Ideal S256x1024 .f32) (g : FVec Ideal S1x1024 .f32) (dres : FVec Ideal S256x1024 .f32)
    (X : Fin 256 → Fin 1024 → ℝ) (R : Fin 256 → ℝ) (XH : Fin 256 → Fin 1024 → ℝ) (G : Fin 1024 → ℝ)
    (hX : ∀ p k, dx (ix2 p k) = (X p k : EReal)) (hR : ∀ p, r (ix2 p 0) = (R p : EReal)) (hXH : ∀ p k, xh (ix2 p k) = (XH p k : EReal))
    (hG : ∀ k, g (ix2 0 k) = (G k : EReal)) (p : Fin 256) (k : Fin 1024) :
    k0_pay1 (F := Ideal) dx r xh g dres (ix2 p k)
    = dres (ix2 p k) + ((R p * (X p k * G k - XH p k * ((∑ l, X p l * G l * XH p l) / 1024)) : ℝ) : EReal) := by
  pointwise [k0_pay1, hX, hR, hXH, hG]
  simp only [ofBits_1024, ← EReal.coe_mul, coe_sum, div_coe_coe (by norm_num : (1024 : ℝ) ≠ 0), ← EReal.coe_sub]

theorem pay_dx (v0 v5 v11 v17 v23 v29 v35 v41 : Vec Ideal S1x256x704 .bf16) (v2 v7 v13 v19 v25 v31 v37 v43 : Vec Ideal S1x1024x704 .bf16) (p : Fin 256) (j : Fin 1024) :
    k0_pay6 (F := Ideal) (k0_pay4 v0 v2 v5 v7 v11 v13 v17 v19) (k0_pay5 v23) v25 v29 v31 v35 v37 v41 v43 (ix2 p j)
    = (∑ k : Fin 704, v0 (ix3 0 p k) * v2 (ix3 0 j k)) + (∑ k : Fin 704, v5 (ix3 0 p k) * v7 (ix3 0 j k))
    + (∑ k : Fin 704, v11 (ix3 0 p k) * v13 (ix3 0 j k)) + (∑ k : Fin 704, v17 (ix3 0 p k) * v19 (ix3 0 j k))
    + (∑ k : Fin 704, v23 (ix3 0 p k) * v25 (ix3 0 j k)) + (∑ k : Fin 704, v29 (ix3 0 p k) * v31 (ix3 0 j k))
    + (∑ k : Fin 704, v35 (ix3 0 p k) * v37 (ix3 0 j k)) + (∑ k : Fin 704, v41 (ix3 0 p k) * v43 (ix3 0 j k)) := by
  pointwise [k0_pay6, k0_pay4, k0_pay5]

theorem pay_dg (dx xh : FVec Ideal S256x1024 .f32) (acc : FVec Ideal S1x1024 .f32) (k : Fin 1024) :
    k0_pay3 (F := Ideal) dx xh acc (ix2 0 k) = acc (ix2 0 k) + ∑ p : Fin 256, dx (ix2 p k) * xh (ix2 p k) := by
  pointwise [k0_pay3]

theorem pay_zero (k : Fin 1024) : k0_pay2 (F := Ideal) (ix2 0 k) = 0 := by pointwise [k0_pay2]

/-! ## The blocks -/

variable {H : Fin 4096 → Fin 1024 → ℝ} {G : Fin 1024 → ℝ} {W : Fin 1024 → Fin 5632 → ℝ} {DU : Fin 4096 → Fin 5632 → ℝ} {D : FVec Ideal S4096x1024 .f32}

/-- Row `p` of point `t`'s block. -/
def row (t : Fin cfg0.N) (p : Fin 256) : Fin 4096 := ⟨t.val * 256 + p.val, by have := lt_of_lt_of_eq t.isLt N_0; omega⟩

theorem blk_du (c : Dev nD) (hdu : ∀ i k, m ((c : Thread nD τ).loc main_arg3) (ix2 i k) = (DU i k : EReal)) (t : Fin cfg0.N) (b : Fin 8) (p : Fin 256) (k : Fin 704) :
    iblk m c 0 t (ix3 b p k) = (DU (row t p) ⟨b.val * 704 + k.val, by omega⟩ : EReal) := by
  rw [← hdu]
  unfold row
  blk_point [iblk, V, idx t]

theorem blk_w (c : Dev nD) (hw : ∀ i k, m ((c : Thread nD τ).loc main_arg2) (ix2 i k) = (W i k : EReal)) (t : Fin cfg0.N) (b : Fin 8) (j : Fin 1024) (k : Fin 704) :
    iblk m c 1 t (ix3 b j k) = (W j ⟨b.val * 704 + k.val, by omega⟩ : EReal) := by
  rw [← hw]
  blk_point [iblk, V, idx t]

theorem blk_h (c : Dev nD) (hh : ∀ i k, m ((c : Thread nD τ).loc main_arg0) (ix2 i k) = (H i k : EReal)) (t : Fin cfg0.N) (p : Fin 256) (k : Fin 1024) :
    iblk m c 2 t (ix2 p k) = (H (row t p) k : EReal) := by
  rw [← hh]
  unfold row
  blk_point [iblk, V, idx t]

theorem blk_g (c : Dev nD) (hg : ∀ k, m ((c : Thread nD τ).loc main_arg1) (ix1 k) = (G k : EReal)) (t : Fin cfg0.N) (k : Fin 1024) :
    iblk m c 3 t (ix2 0 k) = (G k : EReal) := by
  rw [← hg]
  blk_point [iblk, V, idx t]

theorem blk_dres (c : Dev nD) (hD : m ((c : Thread nD τ).loc main_arg4) = D) (t : Fin cfg0.N) (p : Fin 256) (k : Fin 1024) :
    iblk m c 4 t (ix2 p k) = D (ix2 (row t p) k) := by
  rw [← hD]
  unfold row
  blk_point [iblk, V, idx t]

theorem dx_tiles (i : Fin 4096) (j : Fin 1024) :
    dx DU W i j = ∑ b : Fin 8, ∑ k : Fin 704, DU i ⟨b.val * 704 + k.val, by omega⟩ * W j ⟨b.val * 704 + k.val, by omega⟩ :=
  Fin.sum_univ_tiles 8 704 rfl _

theorem read_dx (c : Dev nD) (hw : ∀ i k, m ((c : Thread nD τ).loc main_arg2) (ix2 i k) = (W i k : EReal))
    (hdu : ∀ i k, m ((c : Thread nD τ).loc main_arg3) (ix2 i k) = (DU i k : EReal)) (t : Fin cfg0.N) (x : FVec Ideal S256x1024 .f32)
    (hx : ∀ p k, x (ix2 p k) = ∑ b : Fin 8, ∑ l : Fin 704, (show EReal from iblk m c 0 t (ix3 b p l)) * (show EReal from iblk m c 1 t (ix3 b k l))) (p : Fin 256) (k : Fin 1024) :
    x (ix2 p k) = (dx DU W (row t p) k : EReal) := by
  rw [hx, dx_tiles]
  simp only [blk_du m c hdu t, blk_w m c hw t, ← EReal.coe_mul, coe_sum]

theorem after5 (c : Dev nD) (hh : ∀ i k, m ((c : Thread nD τ).loc main_arg0) (ix2 i k) = (H i k : EReal))
    (hg : ∀ k, m ((c : Thread nD τ).loc main_arg1) (ix1 k) = (G k : EReal))
    (hw : ∀ i k, m ((c : Thread nD τ).loc main_arg2) (ix2 i k) = (W i k : EReal))
    (hdu : ∀ i k, m ((c : Thread nD τ).loc main_arg3) (ix2 i k) = (DU i k : EReal)) (hD : m ((c : Thread nD τ).loc main_arg4) = D) (t : Fin cfg0.N) (p : Fin 256) (k : Fin 1024) :
    (outsAt0 m c t.val t.isLt).1 (ix2 p k) = D (ix2 (row t p) k) + (dh H G W DU (row t p) k : EReal) := by
  by_cases h0 : t.val % 16 = 0
  on_goal 1 => rw [outsAt0_A m c t h0]
  on_goal 2 => rw [outsAt0_B m c t h0]
  all_goals
    frame_out
    refine (pay_dres _ _ _ _ _ (fun p k => dx DU W (row t p) k) (fun p => rr H (row t p)) (fun p k => H (row t p) k * rr H (row t p)) G ?_ ?_ ?_ ?_ p k).trans ?_
    · refine read_dx m c hw hdu t _ fun p k => ?_
      rw [pay_dx, Fin.sum_univ_eight]
      pointwise
    · exact pay_rsqrt _ _ (blk_h m c hh t)
    · exact pay_xhat _ _ (blk_h m c hh t)
    · exact blk_g m c hg t
    · rw [blk_dres m c hD]; rfl

theorem step6 (c : Dev nD) (hh : ∀ i k, m ((c : Thread nD τ).loc main_arg0) (ix2 i k) = (H i k : EReal))
    (hw : ∀ i k, m ((c : Thread nD τ).loc main_arg2) (ix2 i k) = (W i k : EReal))
    (hdu : ∀ i k, m ((c : Thread nD τ).loc main_arg3) (ix2 i k) = (DU i k : EReal)) (t : Fin cfg0.N) (x : FVec Ideal S256x1024 .f32)
    (hx : ∀ p k, x (ix2 p k) = ∑ b : Fin 8, ∑ l : Fin 704, (show EReal from iblk m c 0 t (ix3 b p l)) * (show EReal from iblk m c 1 t (ix3 b k l))) (k : Fin 1024) (a : EReal) :
    a + ∑ p : Fin 256, x (ix2 p k) * k0_pay8 (F := Ideal) (iblk m c 2 t) (ix2 p k)
    = a + ((∑ p : Fin 256, dx DU W (row t p) k * (H (row t p) k * rr H (row t p)) : ℝ) : EReal) := by
  rw [← coe_sum]
  refine congrArg (a + ·) (Finset.sum_congr rfl fun p _ => ?_)
  rw [read_dx m c hw hdu t x hx, pay_xhat _ _ (blk_h m c hh t), ← EReal.coe_mul]
  rfl

theorem emb5 (t : Fin cfg0.N) (p : Fin 256) (k : Fin 1024) : ((cfg0.win 5).blk t).view.emb (ix2 p k) = ix2 (row t p) k := by
  unfold row
  blk_ext [idx t]

theorem result_dh (c : Dev nD) (hh : ∀ i k, m ((c : Thread nD τ).loc main_arg0) (ix2 i k) = (H i k : EReal))
    (hg : ∀ k, m ((c : Thread nD τ).loc main_arg1) (ix1 k) = (G k : EReal))
    (hw : ∀ i k, m ((c : Thread nD τ).loc main_arg2) (ix2 i k) = (W i k : EReal))
    (hdu : ∀ i k, m ((c : Thread nD τ).loc main_arg3) (ix2 i k) = (DU i k : EReal)) (hD : m ((c : Thread nD τ).loc main_arg4) = D) :
    (dats m 0 c).arrAt 5 (cfgs 0).N = fun i : S4096x1024.Idx => D i + (dh H G W DU (i 0) (i 1) : EReal) := by
  refine (dats m 0 c).arrAt_eq_of_covers 5 _ (by decide +kernel) fun t hf y => ?_
  have e := emb5 t (y 0) (y 1)
  rw [← eq_ix2 y] at e
  rw [e]
  blk_simp
  rw [after0_5]
  idx_vars y
  exact after5 m c hh hg hw hdu hD t y0 y1

theorem result_dg (c : Dev nD) (hh : ∀ i k, m ((c : Thread nD τ).loc main_arg0) (ix2 i k) = (H i k : EReal))
    (hw : ∀ i k, m ((c : Thread nD τ).loc main_arg2) (ix2 i k) = (W i k : EReal))
    (hdu : ∀ i k, m ((c : Thread nD τ).loc main_arg3) (ix2 i k) = (DU i k : EReal)) :
    (dats m 0 c).arrAt 6 (cfgs 0).N = fun i : S1x1024.Idx => (dg H W DU (i 1) : EReal) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => ((∑ p : Fin 256, dx DU W (row t p) (j 1) * (H (row t p) (j 1) * rr H (row t p)) : ℝ) : EReal))
    (fun t h j => by
      rw [outsAt0_A m c t h]
      frame_out
      idx_vars j
      obtain rfl : j0 = 0 := Subsingleton.elim _ _
      refine (pay_dg _ _ _ _).trans ?_
      rw [pay_zero]
      exact step6 m c hh hw hdu t _ (fun p k => by rw [pay_dx, Fin.sum_univ_eight]; pointwise) j1 0)
    (fun t h j => by
      rw [outsAt0_B m c t h]
      frame_out
      idx_vars j
      obtain rfl : j0 = 0 := Subsingleton.elim _ _
      refine (pay_dg _ _ _ _).trans ?_
      exact step6 m c hh hw hdu t _ (fun p k => by rw [pay_dx, Fin.sum_univ_eight]; pointwise) j1 _)
    (le_of_eq N_0) t0_15 rfl j, zero_add]
  show (_ : EReal) = _
  rw [coe_sum]
  unfold dg
  exact congrArg _ (Fin.sum_univ_tiles 16 256 rfl (fun i : Fin 4096 => dx DU W i (j 1) * (H i (j 1) * rr H i))).symm

end Cert.NormInIdeal.Proof

end
-- ==== Proof.NormInRef.lean ====
module

public import proofs.«01_k».proof.Proof.Gen.NormInRefIdeal.Read
public import proofs.«01_k».proof.Proof.NormInMath
public import Idealize.ShloMosaic.Lib.Pointwise

@[expose] public section

set_option maxRecDepth 16384

noncomputable section

namespace Cert.NormInRefIdeal.Proof

open Cert.NormInRefIdeal Cert.NormInRefIdeal.Gen Cert.NormInRefIdeal.Read Idealize.ShloMosaic Idealize.ShloMosaic.TcCoe Idealize.SL.Sem
open Cert.Reals Cert.NormInMath

variable {x0 : FVec Ideal S4096x1024 .f32} {x1 : FVec Ideal S1024 .f32} {x2 : FVec Ideal S1024x5632 .f32} {x3 : FVec Ideal S4096x5632 .f32} {x4 : FVec Ideal S4096x1024 .f32}
variable {H : Fin 4096 → Fin 1024 → ℝ} {G : Fin 1024 → ℝ} {W : Fin 1024 → Fin 5632 → ℝ} {DU : Fin 4096 → Fin 5632 → ℝ}

theorem mean (hh : ∀ i k, x0 (ix2 i k) = (H i k : EReal)) (i : Fin 4096) (z : Fin 1) : val_main_v6 (F := Ideal) x0 (ix2 i z) = (ms H i : EReal) := by
  pointwise [val_main_v6, val_main_v4, val_main_v5, val_main_v2, val_main_v3, val_main_v1, val_main_v0, val_main_cst, val_main_cst_0, val_main_cst_1, hh]
  simp only [ofBits_1024, ofBits_eps, ← EReal.coe_mul, coe_sum, zero_add, div_coe_coe (by norm_num : (1024 : ℝ) ≠ 0), ← EReal.coe_add]
  rfl

theorem root (hh : ∀ i k, x0 (ix2 i k) = (H i k : EReal)) (i : Fin 4096) (z : Fin 1) : val_main_v7 (F := Ideal) x0 (ix2 i z) = (rr H i : EReal) := by
  pointwise [val_main_v7, mean hh]
  exact rsqrt_of_pos (ms_pos H i)

theorem prod (hw : ∀ i k, x2 (ix2 i k) = (W i k : EReal)) (hdu : ∀ i k, x3 (ix2 i k) = (DU i k : EReal)) (i : Fin 4096) (k : Fin 1024) :
    val_main_v17 (F := Ideal) x2 x3 (ix2 i k) = (dx DU W i k : EReal) := by
  pointwise [val_main_v17, hw, hdu]
  simp only [← EReal.coe_mul, coe_sum]
  rfl

theorem factor (hh : ∀ i k, x0 (ix2 i k) = (H i k : EReal)) (hg : ∀ k, x1 (ix1 k) = (G k : EReal)) (hw : ∀ i k, x2 (ix2 i k) = (W i k : EReal))
    (hdu : ∀ i k, x3 (ix2 i k) = (DU i k : EReal)) (i : Fin 4096) :
    val_main_v33 (F := Ideal) x0 x1 x2 x3 (ix1 i) = (((∑ l, H i l * (dx DU W i l * G l)) * (-(1 / 2) * (rr H i / ms H i)) / 1024 : ℝ) : EReal) := by
  pointwise [val_main_v33, val_main_v32, val_main_v30, val_main_v31, val_main_v26, val_main_v25, val_main_v24, val_main_v22, val_main_v21, val_main_v13, val_main_v10, val_main_v9,
    val_main_v8, val_main_cst_7, val_main_cst_6, val_main_cst_5, val_main_cst_2, mean hh, root hh, prod hw hdu, hh, hg]
  simp only [ofBits_1024, ofBits_neg_half, ← EReal.coe_mul, coe_sum, zero_add, div_coe_coe (ms_pos H i).ne', div_coe_coe (by norm_num : (1024 : ℝ) ≠ 0), Fin.sum_univ_one]

theorem result_dh (hh : ∀ i k, x0 (ix2 i k) = (H i k : EReal)) (hg : ∀ k, x1 (ix1 k) = (G k : EReal)) (hw : ∀ i k, x2 (ix2 i k) = (W i k : EReal))
    (hdu : ∀ i k, x3 (ix2 i k) = (DU i k : EReal)) :
    val_main_v38 (F := Ideal) x0 x1 x2 x3 x4 = fun i => x4 i + (dh H G W DU (i 0) (i 1) : EReal) := by
  funext j
  idx_vars j
  pointwise [val_main_v38, val_main_v37, val_main_v36, val_main_v35, val_main_v34, val_main_v29, val_main_v28, val_main_v27, val_main_v22, val_main_v21, val_main_v13,
    root hh, prod hw hdu, factor hh hg hw hdu, hh, hg]
  rw [← dh_eq]
  simp only [← EReal.coe_mul, add_assoc, ← EReal.coe_add]

theorem result_dg (hh : ∀ i k, x0 (ix2 i k) = (H i k : EReal)) (hw : ∀ i k, x2 (ix2 i k) = (W i k : EReal)) (hdu : ∀ i k, x3 (ix2 i k) = (DU i k : EReal)) :
    val_main_v39 (F := Ideal) x0 x2 x3 = fun i => (dg H W DU (i 1) : EReal) := by
  funext j
  idx_vars j
  pointwise [val_main_v39, val_main_v23, val_main_v20, val_main_v19, val_main_v18, val_main_v12, val_main_v11, val_main_cst_3, val_main_cst_4, root hh, prod hw hdu, hh]
  simp only [← EReal.coe_mul, coe_sum, zero_add, Fin.sum_univ_one]
  unfold dg
  exact congrArg _ (Finset.sum_congr rfl fun i _ => mul_comm _ _)

end Cert.NormInRefIdeal.Proof

end
-- ==== Proof.NormInPre.lean ====
module

public import proofs.«01_k».proof.Pre_norm_in_finite
public import proofs.«01_k».proof.Proof.Reals
public import Idealize.ShloMosaic.Lib.Pointwise

@[expose] public section

set_option maxRecDepth 16384

noncomputable section

namespace Cert.Pre_norm_in_finite.Proof

open Cert.Pre_norm_in_finite Idealize.ShloMosaic Cert.Reals

variable [Facts]

/-- The precondition says that `h`, `g`, `w` and `du` are arrays of reals. -/
theorem reals (x0 : FVec Ideal S4096x1024 .f32) (x1 : FVec Ideal S1024 .f32) (x2 : FVec Ideal S1024x5632 .f32) (x3 : FVec Ideal S4096x5632 .f32) (x4 : FVec Ideal S4096x1024 .f32)
    (e : fn (F := Ideal) x0 x1 x2 x3 x4 = fun _ => 1#1) :
    (∃ r : S4096x1024.Idx → ℝ, x0 = fun i => (r i : EReal)) ∧ (∃ r : S1024.Idx → ℝ, x1 = fun i => (r i : EReal))
    ∧ (∃ r : S1024x5632.Idx → ℝ, x2 = fun i => (r i : EReal)) ∧ (∃ r : S4096x5632.Idx → ℝ, x3 = fun i => (r i : EReal)) := by
  have e0 := congrFun e ix0
  unfold fn fn_part1 at e0
  dsimp only at e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3⟩

end Cert.Pre_norm_in_finite.Proof

end
-- ==== Proof.NormInClaim.lean ====
module

public import proofs.«01_k».proof.Defs
public import proofs.«01_k».proof.Proof.NormInKernel
public import proofs.«01_k».proof.Proof.NormInRef
public import proofs.«01_k».proof.Proof.NormInPre
public import proofs.«01_k».proof.Proof.Gen.NormInRefIdeal.Run
public import proofs.«01_k».proof.Proof.Gen.Pre_norm_in_finite
public import Idealize.ShloMosaic.Lib.Claim

@[expose] public section

set_option maxRecDepth 16384

noncomputable section

namespace Cert.Proof

open Idealize.ShloMosaic Idealize.SL.Sem

theorem norm_in : Cert.algebraic_NormInIdeal_NormInRefIdeal_pre_norm_in_finite (hNormInIdeal := Cert.NormInIdeal.Gen.facts)
    (hNormInRefIdeal := Cert.NormInRefIdeal.Gen.facts) (hPre_norm_in_finite := Cert.Pre_norm_in_finite.Gen.facts) := by
  intro m g m' g' hpre hagree
  have hr := fun c => Cert.Pre_norm_in_finite.Proof.reals _ _ _ _ _ (hpre c)
  refine ⟨fun c => (Cert.NormInIdeal.Gen.dats m 0 c).arrAt 5 (Cert.NormInIdeal.cfgs 0).N,
    fun c => (Cert.NormInIdeal.Gen.dats m 0 c).arrAt 6 (Cert.NormInIdeal.cfgs 0).N, ?_, ?_⟩
  · run_from Cert.NormInIdeal.Gen.run_main m g
  · run_from Cert.NormInRefIdeal.Value.run m' g'
    · obtain ⟨⟨r0, h0⟩, ⟨r1, h1⟩, ⟨r2, h2⟩, ⟨r3, h3⟩⟩ := hr c
      obtain ⟨a0, a1, a2, a3, a4⟩ := hagree c
      rw [Cert.NormInRefIdeal.Read.val_main_v38_eq m' c, a0, a1, a2, a3, a4,
        Cert.NormInIdeal.Proof.result_dh m c (fun i k => congrFun h0 (ix2 i k)) (fun k => congrFun h1 (ix1 k))
          (fun i k => congrFun h2 (ix2 i k)) (fun i k => congrFun h3 (ix2 i k)) rfl]
      exact Cert.NormInRefIdeal.Proof.result_dh (fun i k => congrFun h0 (ix2 i k)) (fun k => congrFun h1 (ix1 k))
          (fun i k => congrFun h2 (ix2 i k)) (fun i k => congrFun h3 (ix2 i k))
    · obtain ⟨⟨r0, h0⟩, ⟨r1, h1⟩, ⟨r2, h2⟩, ⟨r3, h3⟩⟩ := hr c
      rw [Cert.NormInRefIdeal.Read.val_main_v39_eq,
        Cert.NormInIdeal.Proof.result_dg m c (fun i k => congrFun h0 (ix2 i k))
          (fun i k => congrFun h2 (ix2 i k)) (fun i k => congrFun h3 (ix2 i k))]
      exact Cert.NormInRefIdeal.Proof.result_dg (fun i k => congrFun h0 (ix2 i k))
          (fun i k => congrFun h2 (ix2 i k)) (fun i k => congrFun h3 (ix2 i k))

end Cert.Proof

end
-- ==== Proof.LossMath.lean ====
module

public import proofs.«01_k».proof.Proof.Reals

/-! The loss of a normed product, its gradient before the norm and the gradient of the norm's weight, over the reals. -/

@[expose] public section

noncomputable section

namespace Cert.LossMath

open Cert.Reals
open scoped BigOperators

/-- The rows before the norm. -/
def u (A : Fin 4096 → Fin 2816 → ℝ) (W : Fin 2816 → Fin 1024 → ℝ) (R : Fin 4096 → Fin 1024 → ℝ) (i : Fin 4096) (k : Fin 1024) : ℝ := R i k + ∑ l, A i l * W l k

/-- The normed rows less the target. -/
def err {n : Nat} (U : Fin n → Fin 1024 → ℝ) (G : Fin 1024 → ℝ) (T : Fin n → Fin 1024 → ℝ) (i : Fin n) (k : Fin 1024) : ℝ := U i k * rr U i * G k - T i k

/-- The gradient of the normed rows. -/
def dy {n : Nat} (U : Fin n → Fin 1024 → ℝ) (G : Fin 1024 → ℝ) (T : Fin n → Fin 1024 → ℝ) (i : Fin n) (k : Fin 1024) : ℝ := err U G T i k * (1 / 1024)

/-- The loss as the kernel sums it. -/
def loss (U : Fin 4096 → Fin 1024 → ℝ) (G : Fin 1024 → ℝ) (T : Fin 4096 → Fin 1024 → ℝ) : ℝ := ∑ i, (∑ k, err U G T i k * err U G T i k) * (1 / 2048)

def dh {n : Nat} (U : Fin n → Fin 1024 → ℝ) (G : Fin 1024 → ℝ) (T : Fin n → Fin 1024 → ℝ) (i : Fin n) (k : Fin 1024) : ℝ :=
  rr U i * (dy U G T i k * G k - U i k * rr U i * ((∑ l, dy U G T i l * G l * (U i l * rr U i)) / 1024))

def dg (U : Fin 4096 → Fin 1024 → ℝ) (G : Fin 1024 → ℝ) (T : Fin 4096 → Fin 1024 → ℝ) (k : Fin 1024) : ℝ := ∑ i, dy U G T i k * (U i k * rr U i)

theorem loss_eq (U : Fin 4096 → Fin 1024 → ℝ) (G : Fin 1024 → ℝ) (T : Fin 4096 → Fin 1024 → ℝ) :
    1 / 2 * ∑ i, (∑ k, err U G T i k * err U G T i k) / 1024 = loss U G T := by
  unfold loss
  rw [Finset.mul_sum]
  exact Finset.sum_congr rfl fun i _ => by ring

/-- The gradient of the normed rows as the chain rule writes it. -/
theorem dy_eq {n : Nat} (U : Fin n → Fin 1024 → ℝ) (G : Fin 1024 → ℝ) (T : Fin n → Fin 1024 → ℝ) (i : Fin n) (k : Fin 1024) :
    1 / 2 * 1 / 1024 * (2 * err U G T i k) = dy U G T i k := by
  unfold dy
  ring

/-- The gradient of the rows as the chain rule writes it, over the row's reciprocal root and mean square. -/
theorem dh_eq {n : Nat} (U : Fin n → Fin 1024 → ℝ) (G : Fin 1024 → ℝ) (T : Fin n → Fin 1024 → ℝ) (i : Fin n) (k : Fin 1024) :
    dy U G T i k * G k * rr U i
      + U i k * ((∑ l, U i l * (dy U G T i l * G l)) * (-(1 / 2) * (rr U i / ms U i)) / 1024)
      + (∑ l, U i l * (dy U G T i l * G l)) * (-(1 / 2) * (rr U i / ms U i)) / 1024 * U i k = dh U G T i k := by
  have hsum : ∑ l, dy U G T i l * G l * (U i l * rr U i) = (∑ l, U i l * (dy U G T i l * G l)) * rr U i := by
    rw [Finset.sum_mul]
    exact Finset.sum_congr rfl fun l _ => by ring
  unfold dh
  rw [rr_div_ms, hsum]
  ring

end Cert.LossMath

end
-- ==== Proof.LossKernel.lean ====
module

public import proofs.«01_k».proof.Proof.Gen.LossIdeal.Value
public import proofs.«01_k».proof.Proof.LossMath
public import Idealize.ShloMosaic.Lib.Pipeline.ValueKit
public import Idealize.ShloMosaic.Lib.Pointwise

@[expose] public section

set_option maxRecDepth 16384

noncomputable section

namespace Cert.LossIdeal.Proof

open Cert.LossIdeal Cert.LossIdeal.Gen Idealize.ShloMosaic Idealize.ShloMosaic.TcCoe Idealize.SL.Sem
open Cert.Reals Cert.LossMath
open Idealize.ShloMosaic.Pipeline (Dat)

variable (m : (ℓ : Loc nD τ sig) → Buf (Elt Ideal) ℓ) (ρ : Dev nD → PrngReg)

theorem ofBits_half_row : Ideal.ofBits .f32 0x3A000000#32 = ((1 / 2048 : ℝ) : EReal) := by
  simp [Ideal.ofBits, Ideal.ieee, -EReal.coe_mul]; norm_num

theorem ofBits_row : Ideal.ofBits .f32 0x3A800000#32 = ((1 / 1024 : ℝ) : EReal) := by
  simp [Ideal.ofBits, Ideal.ieee, -EReal.coe_mul]; norm_num

theorem idx : ∀ t : Fin cfg0.N,
    win0_0.index t = ![0, t.val, 0] ∧ win0_1.index t = ![0, 0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] :=
  (by decide +kernel : ∀ t : Fin grid0.N, _)

/-! ## The payloads at real rows -/

theorem pay_rows (r : Vec Ideal S512x1024 .f32) (a0 a1 a2 a3 : Vec Ideal S1x512x704 .bf16) (w0 w1 w2 w3 : Vec Ideal S1x704x1024 .bf16) (p : Fin 512) (j : Fin 1024) :
    k0_pay8 (F := Ideal) (k0_pay5 r a0 w0 a1 w1 a2 w2) (k0_pay6 a3) (k0_pay7 w3) (constant S512x1024 .f32 0x00000000#32) (ix2 p j)
    = r (ix2 p j) + (∑ k : Fin 704, a0 (ix3 0 p k) * w0 (ix3 0 k j)) + (∑ k : Fin 704, a1 (ix3 0 p k) * w1 (ix3 0 k j))
      + (∑ k : Fin 704, a2 (ix3 0 p k) * w2 (ix3 0 k j)) + (∑ k : Fin 704, a3 (ix3 0 p k) * w3 (ix3 0 k j)) := by
  pointwise [k0_pay8, k0_pay5, k0_pay6, k0_pay7]

section rows

variable {v21 : FVec Ideal S512x1024 .f32} {v23 : FVec Ideal S512x704 .bf16} {v25 : FVec Ideal S704x1024 .bf16} {z : FVec Ideal S512x1024 .f32}
variable {U T : Fin 512 → Fin 1024 → ℝ} {G : Fin 1024 → ℝ} {g g' : Vec Ideal S1x1024 .f32} {w : Vec Ideal S512x1024 .f32}

theorem pay_root (hu : ∀ p k, k0_pay8 (F := Ideal) v21 v23 v25 z (ix2 p k) = (U p k : EReal)) (p : Fin 512) :
    k0_pay9 (F := Ideal) v21 v23 v25 z (ix2 p 0) = (rr U p : EReal) := by
  pointwise [k0_pay9, hu]
  simp only [ofBits_1024, ofBits_eps, ← EReal.coe_mul, coe_sum, div_coe_coe (by norm_num : (1024 : ℝ) ≠ 0), ← EReal.coe_add]
  exact rsqrt_of_pos (ms_pos U p)

theorem pay_xhat (hu : ∀ p k, k0_pay8 (F := Ideal) v21 v23 v25 z (ix2 p k) = (U p k : EReal)) (p : Fin 512) (k : Fin 1024) :
    k0_pay10 (F := Ideal) v21 v23 v25 z (ix2 p k) = ((U p k * rr U p : ℝ) : EReal) := by
  pointwise [k0_pay10, hu, pay_root hu]
  rw [EReal.coe_mul]

theorem pay_err (hu : ∀ p k, k0_pay8 (F := Ideal) v21 v23 v25 z (ix2 p k) = (U p k : EReal)) (hg : ∀ k, g (ix2 0 k) = (G k : EReal))
    (hw : ∀ p k, w (ix2 p k) = (T p k : EReal)) (p : Fin 512) (k : Fin 1024) :
    k0_pay11 (F := Ideal) v21 v23 v25 z g w (ix2 p k) = (err U G T p k : EReal) := by
  pointwise [k0_pay11, pay_xhat hu, hg, hw]
  rw [← EReal.coe_mul, ← EReal.coe_sub]
  rfl

theorem pay_dy (hu : ∀ p k, k0_pay8 (F := Ideal) v21 v23 v25 z (ix2 p k) = (U p k : EReal)) (hg : ∀ k, g (ix2 0 k) = (G k : EReal))
    (hw : ∀ p k, w (ix2 p k) = (T p k : EReal)) (p : Fin 512) (k : Fin 1024) :
    k0_pay13 (F := Ideal) v21 v23 v25 z g w (ix2 p k) = (dy U G T p k : EReal) := by
  pointwise [k0_pay13, pay_err hu hg hw]
  rw [ofBits_row, ← EReal.coe_mul]
  rfl

theorem pay_loss (hu : ∀ p k, k0_pay8 (F := Ideal) v21 v23 v25 z (ix2 p k) = (U p k : EReal)) (hg : ∀ k, g (ix2 0 k) = (G k : EReal))
    (hw : ∀ p k, w (ix2 p k) = (T p k : EReal)) (acc : Vec Ideal S1x128 .f32) (l : Fin 128) :
    k0_pay12 (F := Ideal) v21 v23 v25 z g w acc (ix2 0 l) = acc (ix2 0 l) + ((∑ p, (∑ k, err U G T p k * err U G T p k) * (1 / 2048) : ℝ) : EReal) := by
  pointwise [k0_pay12, pay_err hu hg hw]
  simp only [ofBits_half_row, ← EReal.coe_mul, coe_sum, ← Finset.sum_mul]

theorem pay_dh (hu : ∀ p k, k0_pay8 (F := Ideal) v21 v23 v25 z (ix2 p k) = (U p k : EReal)) (hg : ∀ k, g (ix2 0 k) = (G k : EReal))
    (hg' : ∀ k, g' (ix2 0 k) = (G k : EReal)) (hw : ∀ p k, w (ix2 p k) = (T p k : EReal)) (p : Fin 512) (k : Fin 1024) :
    k0_pay1 (F := Ideal) (k0_pay9 v21 v23 v25 z) (k0_pay10 v21 v23 v25 z) (k0_pay14 v21 v23 v25 z g w g') (k0_pay15 v21 v23 v25 z g w g') k0_pay16 (ix2 p k)
    = (dh U G T p k : EReal) := by
  pointwise [k0_pay1, k0_pay14, k0_pay15, k0_pay16, pay_root hu, pay_xhat hu, pay_dy hu hg hw, hg']
  simp only [ofBits_1024, ← EReal.coe_mul, coe_sum, div_coe_coe (by norm_num : (1024 : ℝ) ≠ 0), ← EReal.coe_sub]
  rfl

theorem pay_dg (hu : ∀ p k, k0_pay8 (F := Ideal) v21 v23 v25 z (ix2 p k) = (U p k : EReal)) (hg : ∀ k, g (ix2 0 k) = (G k : EReal))
    (hw : ∀ p k, w (ix2 p k) = (T p k : EReal)) (acc : Vec Ideal S1x1024 .f32) (k : Fin 1024) :
    k0_pay2 (F := Ideal) (k0_pay10 v21 v23 v25 z) (k0_pay13 v21 v23 v25 z g w) acc (ix2 0 k)
    = acc (ix2 0 k) + ((∑ p, dy U G T p k * (U p k * rr U p) : ℝ) : EReal) := by
  pointwise [k0_pay2, pay_xhat hu, pay_dy hu hg hw]
  simp only [← EReal.coe_mul, coe_sum]

end rows

theorem pay_zero5 (k : Fin 128) : k0_pay3 (F := Ideal) (ix2 0 k) = 0 := by pointwise [k0_pay3]

theorem pay_zero7 (k : Fin 1024) : k0_pay4 (F := Ideal) (ix2 0 k) = 0 := by pointwise [k0_pay4]

/-! ## The blocks -/

/-- Row `p` of point `t`'s block. -/
def row (t : Fin cfg0.N) (p : Fin 512) : Fin 4096 := ⟨t.val * 512 + p.val, by have := lt_of_lt_of_eq t.isLt N_0; omega⟩

/-- The arguments are arrays of reals. -/
structure Reals (c : Dev nD) (A : Fin 4096 → Fin 2816 → ℝ) (W : Fin 2816 → Fin 1024 → ℝ) (R : Fin 4096 → Fin 1024 → ℝ) (G : Fin 1024 → ℝ) (T : Fin 4096 → Fin 1024 → ℝ) : Prop where
  a : ∀ i k, m ((c : Thread nD τ).loc main_arg0) (ix2 i k) = (A i k : EReal)
  w : ∀ i k, m ((c : Thread nD τ).loc main_arg1) (ix2 i k) = (W i k : EReal)
  r : ∀ i k, m ((c : Thread nD τ).loc main_arg2) (ix2 i k) = (R i k : EReal)
  g : ∀ k, m ((c : Thread nD τ).loc main_arg3) (ix1 k) = (G k : EReal)
  t : ∀ i k, m ((c : Thread nD τ).loc main_arg4) (ix2 i k) = (T i k : EReal)

variable {A : Fin 4096 → Fin 2816 → ℝ} {W : Fin 2816 → Fin 1024 → ℝ} {R : Fin 4096 → Fin 1024 → ℝ} {G : Fin 1024 → ℝ} {T : Fin 4096 → Fin 1024 → ℝ}

theorem blk_a (c : Dev nD) (h : Reals m c A W R G T) (t : Fin cfg0.N) (b : Fin 4) (p : Fin 512) (k : Fin 704) :
    iblk m c 0 t (ix3 b p k) = (A (row t p) ⟨b.val * 704 + k.val, by omega⟩ : EReal) := by
  rw [← h.a]
  unfold row
  blk_point [iblk, V, idx t]

theorem blk_w (c : Dev nD) (h : Reals m c A W R G T) (t : Fin cfg0.N) (b : Fin 4) (k : Fin 704) (j : Fin 1024) :
    iblk m c 1 t (ix3 b k j) = (W ⟨b.val * 704 + k.val, by omega⟩ j : EReal) := by
  rw [← h.w]
  blk_point [iblk, V, idx t]

theorem blk_r (c : Dev nD) (h : Reals m c A W R G T) (t : Fin cfg0.N) (p : Fin 512) (k : Fin 1024) :
    iblk m c 2 t (ix2 p k) = (R (row t p) k : EReal) := by
  rw [← h.r]
  unfold row
  blk_point [iblk, V, idx t]

theorem blk_g (c : Dev nD) (h : Reals m c A W R G T) (t : Fin cfg0.N) (k : Fin 1024) : iblk m c 3 t (ix2 0 k) = (G k : EReal) := by
  rw [← h.g]
  blk_point [iblk, V, idx t]

theorem blk_t (c : Dev nD) (h : Reals m c A W R G T) (t : Fin cfg0.N) (p : Fin 512) (k : Fin 1024) :
    iblk m c 4 t (ix2 p k) = (T (row t p) k : EReal) := by
  rw [← h.t]
  unfold row
  blk_point [iblk, V, idx t]

theorem u_tiles (i : Fin 4096) (j : Fin 1024) :
    u A W R i j = R i j + ∑ b : Fin 4, ∑ k : Fin 704, A i ⟨b.val * 704 + k.val, by omega⟩ * W ⟨b.val * 704 + k.val, by omega⟩ j :=
  congrArg (R i j + ·) (Fin.sum_univ_tiles 4 704 rfl _)

theorem read_u (c : Dev nD) (h : Reals m c A W R G T) (t : Fin cfg0.N) (x : FVec Ideal S512x1024 .f32)
    (hx : ∀ p k, x (ix2 p k) = (show EReal from iblk m c 2 t (ix2 p k))
      + ∑ b : Fin 4, ∑ l : Fin 704, (show EReal from iblk m c 0 t (ix3 b p l)) * (show EReal from iblk m c 1 t (ix3 b l k))) (p : Fin 512) (k : Fin 1024) :
    x (ix2 p k) = (u A W R (row t p) k : EReal) := by
  rw [hx, u_tiles]
  simp only [blk_a m c h t, blk_w m c h t, blk_r m c h t, ← EReal.coe_mul, coe_sum, ← EReal.coe_add]

/-! ## The outputs -/

theorem after6 (c : Dev nD) (h : Reals m c A W R G T) (t : Fin cfg0.N) (p : Fin 512) (k : Fin 1024) :
    (outsAt0 m c t.val t.isLt).2.1 (ix2 p k) = (dh (u A W R) G T (row t p) k : EReal) := by
  by_cases h0 : t.val % 8 = 0
  on_goal 1 => rw [outsAt0_A m c t h0]
  on_goal 2 => rw [outsAt0_B m c t h0]
  all_goals
    frame_out
    refine (pay_dh (U := fun p => u A W R (row t p)) (T := fun p => T (row t p)) (read_u m c h t _ fun p k => ?_) (blk_g m c h t) (blk_g m c h t) (blk_t m c h t) p k).trans rfl
    rw [pay_rows, Fin.sum_univ_four]
    simp only [← add_assoc]
    pointwise

theorem emb6 (t : Fin cfg0.N) (p : Fin 512) (k : Fin 1024) : ((cfg0.win 6).blk t).view.emb (ix2 p k) = ix2 (row t p) k := by
  unfold row
  blk_ext [idx t]

theorem result_dh (c : Dev nD) (h : Reals m c A W R G T) :
    (dats m 0 c).arrAt 6 (cfgs 0).N = fun i : S4096x1024.Idx => (dh (u A W R) G T (i 0) (i 1) : EReal) := by
  refine (dats m 0 c).arrAt_eq_of_covers 6 _ (by decide +kernel) fun t hf y => ?_
  have e := emb6 t (y 0) (y 1)
  rw [← eq_ix2 y] at e
  rw [e]
  blk_simp
  rw [after0_6]
  idx_vars y
  exact after6 m c h t y0 y1

theorem result_loss (c : Dev nD) (h : Reals m c A W R G T) :
    (dats m 0 c).arrAt 5 (cfgs 0).N = fun i : S1x128.Idx => (loss (u A W R) G T : EReal) := by
  refine (dats m 0 c).arrAt_eq_of_after_last 5 t0_7 (by decide +kernel) _ fun j => ?_
  blk_simp
  rw [after0_5, Pipeline.eq_sum_fin_of_reset_step_apply_last (fun n h => (outsAt0 m c n h).1) 8 (fun _ => 0)
    (fun t j => ((∑ p : Fin 512, (∑ k, err (u A W R) G T (row t p) k * err (u A W R) G T (row t p) k) * (1 / 2048) : ℝ) : EReal))
    (fun t h0 j => by
      rw [outsAt0_A m c t h0]
      frame_out
      idx_vars j
      obtain rfl : j0 = 0 := Subsingleton.elim _ _
      refine (pay_loss (U := fun p => u A W R (row t p)) (T := fun p => T (row t p)) (read_u m c h t _ fun p k => ?_) (blk_g m c h t) (blk_t m c h t) _ j1).trans ?_
      · rw [pay_rows, Fin.sum_univ_four]
        simp only [← add_assoc]
        pointwise
      · rw [pay_zero5]
        rfl)
    (fun t h0 j => by
      rw [outsAt0_B m c t h0]
      frame_out
      idx_vars j
      obtain rfl : j0 = 0 := Subsingleton.elim _ _
      refine (pay_loss (U := fun p => u A W R (row t p)) (T := fun p => T (row t p)) (read_u m c h t _ fun p k => ?_) (blk_g m c h t) (blk_t m c h t) _ j1).trans rfl
      rw [pay_rows, Fin.sum_univ_four]
      simp only [← add_assoc]
      pointwise)
    (le_of_eq N_0) t0_7 rfl j, zero_add]
  show (_ : EReal) = _
  rw [coe_sum]
  unfold loss
  exact congrArg _ (Fin.sum_univ_tiles 8 512 rfl (fun i : Fin 4096 => (∑ k, err (u A W R) G T i k * err (u A W R) G T i k) * (1 / 2048))).symm

theorem result_dg (c : Dev nD) (h : Reals m c A W R G T) :
    (dats m 0 c).arrAt 7 (cfgs 0).N = fun i : S1x1024.Idx => (dg (u A W R) G T (i 1) : EReal) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ((∑ p : Fin 512, dy (u A W R) G T (row t p) (j 1) * (u A W R (row t p) (j 1) * rr (u A W R) (row t p)) : ℝ) : EReal))
    (fun t h0 j => by
      rw [outsAt0_A m c t h0]
      frame_out
      idx_vars j
      obtain rfl : j0 = 0 := Subsingleton.elim _ _
      refine (pay_dg (U := fun p => u A W R (row t p)) (T := fun p => T (row t p)) (read_u m c h t _ fun p k => ?_) (blk_g m c h t) (blk_t m c h t) _ j1).trans ?_
      · rw [pay_rows, Fin.sum_univ_four]
        simp only [← add_assoc]
        pointwise
      · rw [pay_zero7]
        rfl)
    (fun t h0 j => by
      rw [outsAt0_B m c t h0]
      frame_out
      idx_vars j
      obtain rfl : j0 = 0 := Subsingleton.elim _ _
      refine (pay_dg (U := fun p => u A W R (row t p)) (T := fun p => T (row t p)) (read_u m c h t _ fun p k => ?_) (blk_g m c h t) (blk_t m c h t) _ j1).trans rfl
      rw [pay_rows, Fin.sum_univ_four]
      simp only [← add_assoc]
      pointwise)
    (le_of_eq N_0) t0_7 rfl j, zero_add]
  show (_ : EReal) = _
  rw [coe_sum]
  unfold dg
  exact congrArg _ (Fin.sum_univ_tiles 8 512 rfl (fun i : Fin 4096 => dy (u A W R) G T i (j 1) * (u A W R i (j 1) * rr (u A W R) i))).symm

end Cert.LossIdeal.Proof

end
-- ==== Proof.LossRef.lean ====
module

public import proofs.«01_k».proof.Proof.Gen.LossRefIdeal.Read
public import proofs.«01_k».proof.Proof.LossMath
public import Idealize.ShloMosaic.Lib.Pointwise

@[expose] public section

set_option maxRecDepth 16384

noncomputable section

namespace Cert.LossRefIdeal.Proof

open Cert.LossRefIdeal Cert.LossRefIdeal.Gen Cert.LossRefIdeal.Read Idealize.ShloMosaic Idealize.ShloMosaic.TcCoe Idealize.SL.Sem
open Cert.Reals Cert.LossMath

variable {x0 : FVec Ideal S4096x2816 .f32} {x1 : FVec Ideal S2816x1024 .f32} {x2 : FVec Ideal S4096x1024 .f32} {x3 : FVec Ideal S1024 .f32} {x4 : FVec Ideal S4096x1024 .f32}
variable {A : Fin 4096 → Fin 2816 → ℝ} {W : Fin 2816 → Fin 1024 → ℝ} {R : Fin 4096 → Fin 1024 → ℝ} {G : Fin 1024 → ℝ} {T : Fin 4096 → Fin 1024 → ℝ}

theorem rows (ha : ∀ i k, x0 (ix2 i k) = (A i k : EReal)) (hw : ∀ i k, x1 (ix2 i k) = (W i k : EReal)) (hr : ∀ i k, x2 (ix2 i k) = (R i k : EReal)) (i : Fin 4096) (k : Fin 1024) :
    val_main_v1 (F := Ideal) x0 x1 x2 (ix2 i k) = (u A W R i k : EReal) := by
  pointwise [val_main_v1, val_main_v0, ha, hw, hr]
  simp only [← EReal.coe_mul, coe_sum, ← EReal.coe_add]
  rfl

section

variable {U : Fin 4096 → Fin 1024 → ℝ}

theorem mean (hu : ∀ i k, val_main_v1 (F := Ideal) x0 x1 x2 (ix2 i k) = (U i k : EReal)) (i : Fin 4096) (z : Fin 1) : val_main_v8 (F := Ideal) x0 x1 x2 (ix2 i z) = (ms U i : EReal) := by
  pointwise [val_main_v8, val_main_v7, val_main_v6, val_main_v5, val_main_v4, val_main_v3, val_main_v2, val_main_cst, val_main_cst_0, val_main_cst_1, hu]
  simp only [ofBits_1024, ofBits_eps, ← EReal.coe_mul, coe_sum, zero_add, div_coe_coe (by norm_num : (1024 : ℝ) ≠ 0), ← EReal.coe_add]
  rfl

theorem root (hu : ∀ i k, val_main_v1 (F := Ideal) x0 x1 x2 (ix2 i k) = (U i k : EReal)) (i : Fin 4096) (z : Fin 1) : val_main_v9 (F := Ideal) x0 x1 x2 (ix2 i z) = (rr U i : EReal) := by
  pointwise [val_main_v9, mean hu]
  exact rsqrt_of_pos (ms_pos U i)

theorem diff (hu : ∀ i k, val_main_v1 (F := Ideal) x0 x1 x2 (ix2 i k) = (U i k : EReal)) (hg : ∀ k, x3 (ix1 k) = (G k : EReal)) (ht : ∀ i k, x4 (ix2 i k) = (T i k : EReal)) (i : Fin 4096) (k : Fin 1024) :
    val_main_v18 (F := Ideal) x0 x1 x2 x3 x4 (ix2 i k) = (err U G T i k : EReal) := by
  pointwise [val_main_v18, val_main_v17, val_main_v16, val_main_v15, val_main_v14, val_main_v13, root hu, hu, hg, ht]
  rw [← EReal.coe_mul, ← EReal.coe_mul, ← EReal.coe_sub]
  rfl

theorem result_loss (hu : ∀ i k, val_main_v1 (F := Ideal) x0 x1 x2 (ix2 i k) = (U i k : EReal)) (hg : ∀ k, x3 (ix1 k) = (G k : EReal)) (ht : ∀ i k, x4 (ix2 i k) = (T i k : EReal)) :
    val_main_v53 (F := Ideal) x0 x1 x2 x3 x4 = fun _ => (loss U G T : EReal) := by
  funext j
  idx_vars j
  pointwise [val_main_v53, val_main_v26, val_main_v25, val_main_v24, val_main_v23, val_main_v22, val_main_v19, val_main_cst_4, val_main_cst_5, val_main_cst_6, val_main_cst_7, diff hu hg ht]
  rw [← loss_eq]
  simp only [ofBits_1024, ofBits_half, ← EReal.coe_mul, coe_sum, zero_add, div_coe_coe (by norm_num : (1024 : ℝ) ≠ 0)]

theorem ofBits_one : Ideal.ofBits .f32 0x3F800000#32 = ((1 : ℝ) : EReal) := by
  simp [Ideal.ofBits, Ideal.ieee, -EReal.coe_mul]; norm_num

theorem grad (hu : ∀ i k, val_main_v1 (F := Ideal) x0 x1 x2 (ix2 i k) = (U i k : EReal)) (hg : ∀ k, x3 (ix1 k) = (G k : EReal)) (ht : ∀ i k, x4 (ix2 i k) = (T i k : EReal)) (i : Fin 4096) (k : Fin 1024) :
    val_main_v32 (F := Ideal) x0 x1 x2 x3 x4 (ix2 i k) = (dy U G T i k : EReal) := by
  pointwise [val_main_v32, val_main_v31, val_main_v30, val_main_v29, val_main_v28, val_main_v27, val_main_v21, val_main_v20, val_main_cst_3, val_main_cst_8, val_main_cst_9, val_main_cst_10, diff hu hg ht]
  rw [← dy_eq]
  simp only [ofBits_1024, ofBits_half, ofBits_two, ofBits_one, ← EReal.coe_mul, div_coe_coe (by norm_num : (1024 : ℝ) ≠ 0), mul_one]

theorem factor (hu : ∀ i k, val_main_v1 (F := Ideal) x0 x1 x2 (ix2 i k) = (U i k : EReal)) (hg : ∀ k, x3 (ix1 k) = (G k : EReal)) (ht : ∀ i k, x4 (ix2 i k) = (T i k : EReal)) (i : Fin 4096) :
    val_main_v47 (F := Ideal) x0 x1 x2 x3 x4 (ix1 i) = (((∑ l, U i l * (dy U G T i l * G l)) * (-(1 / 2) * (rr U i / ms U i)) / 1024 : ℝ) : EReal) := by
  pointwise [val_main_v47, val_main_v46, val_main_v45, val_main_v44, val_main_v41, val_main_v40, val_main_v39, val_main_v37, val_main_v36, val_main_v15, val_main_v12, val_main_v11, val_main_v10,
    val_main_cst_2, val_main_cst_13, val_main_cst_14, val_main_cst_15, mean hu, root hu, grad hu hg ht, hu, hg]
  simp only [ofBits_1024, ofBits_neg_half, ← EReal.coe_mul, coe_sum, zero_add, div_coe_coe (ms_pos U i).ne', div_coe_coe (by norm_num : (1024 : ℝ) ≠ 0), Fin.sum_univ_one]

theorem result_dh (hu : ∀ i k, val_main_v1 (F := Ideal) x0 x1 x2 (ix2 i k) = (U i k : EReal)) (hg : ∀ k, x3 (ix1 k) = (G k : EReal)) (ht : ∀ i k, x4 (ix2 i k) = (T i k : EReal)) :
    val_main_v52 (F := Ideal) x0 x1 x2 x3 x4 = fun i => (dh U G T (i 0) (i 1) : EReal) := by
  funext j
  idx_vars j
  pointwise [val_main_v52, val_main_v51, val_main_v50, val_main_v49, val_main_v48, val_main_v43, val_main_v42, val_main_v37, val_main_v36, val_main_v15,
    root hu, grad hu hg ht, factor hu hg ht, hu, hg]
  rw [← dh_eq]
  simp only [← EReal.coe_mul, ← EReal.coe_add]

theorem result_dg (hu : ∀ i k, val_main_v1 (F := Ideal) x0 x1 x2 (ix2 i k) = (U i k : EReal)) (hg : ∀ k, x3 (ix1 k) = (G k : EReal)) (ht : ∀ i k, x4 (ix2 i k) = (T i k : EReal)) :
    val_main_v54 (F := Ideal) x0 x1 x2 x3 x4 = fun i => (dg U G T (i 1) : EReal) := by
  funext j
  idx_vars j
  pointwise [val_main_v54, val_main_v38, val_main_v35, val_main_v34, val_main_v33, val_main_v14, val_main_v13, val_main_cst_11, val_main_cst_12, root hu, grad hu hg ht, hu]
  simp only [← EReal.coe_mul, coe_sum, zero_add, Fin.sum_univ_one]
  unfold dg
  exact congrArg _ (Finset.sum_congr rfl fun i _ => mul_comm _ _)

end

end Cert.LossRefIdeal.Proof

end
-- ==== Proof.LossPre.lean ====
module

public import proofs.«01_k».proof.Pre_loss_finite
public import proofs.«01_k».proof.Proof.Reals
public import Idealize.ShloMosaic.Lib.Pointwise

@[expose] public section

set_option maxRecDepth 16384

noncomputable section

namespace Cert.Pre_loss_finite.Proof

open Cert.Pre_loss_finite Idealize.ShloMosaic Cert.Reals

variable [Facts]

/-- The precondition says that every argument is an array of reals. -/
theorem reals (x0 : FVec Ideal S4096x2816 .f32) (x1 : FVec Ideal S2816x1024 .f32) (x2 : FVec Ideal S4096x1024 .f32) (x3 : FVec Ideal S1024 .f32) (x4 : FVec Ideal S4096x1024 .f32)
    (e : fn (F := Ideal) x0 x1 x2 x3 x4 = fun _ => 1#1) :
    (∃ r : S4096x2816.Idx → ℝ, x0 = fun i => (r i : EReal)) ∧ (∃ r : S2816x1024.Idx → ℝ, x1 = fun i => (r i : EReal))
    ∧ (∃ r : S4096x1024.Idx → ℝ, x2 = fun i => (r i : EReal)) ∧ (∃ r : S1024.Idx → ℝ, x3 = fun i => (r i : EReal))
    ∧ (∃ r : S4096x1024.Idx → ℝ, x4 = fun i => (r i : EReal)) := by
  have e0 := congrFun e ix0
  unfold fn fn_part1 at e0
  dsimp only at e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3, reals_of_finite _ _ _ _ _ _ h4⟩

end Cert.Pre_loss_finite.Proof

end
-- ==== Proof.LossClaim.lean ====
module

public import proofs.«01_k».proof.Defs
public import proofs.«01_k».proof.Proof.LossKernel
public import proofs.«01_k».proof.Proof.LossRef
public import proofs.«01_k».proof.Proof.LossPre
public import proofs.«01_k».proof.Proof.Gen.LossRefIdeal.Run
public import proofs.«01_k».proof.Proof.Gen.Pre_loss_finite
public import Idealize.ShloMosaic.Lib.Claim

@[expose] public section

set_option maxRecDepth 16384

noncomputable section

namespace Cert.Proof

open Idealize.ShloMosaic Idealize.SL.Sem

theorem loss : Cert.algebraic_LossIdeal_LossRefIdeal_pre_loss_finite (hLossIdeal := Cert.LossIdeal.Gen.facts)
    (hLossRefIdeal := Cert.LossRefIdeal.Gen.facts) (hPre_loss_finite := Cert.Pre_loss_finite.Gen.facts) := by
  intro m g m' g' hpre hagree
  have hr := fun c => Cert.Pre_loss_finite.Proof.reals _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2
  have hk := fun c => Cert.LossIdeal.Proof.Reals.mk (m := m) (c := c) (fun i k => congrFun (h0 c) (ix2 i k)) (fun i k => congrFun (h1 c) (ix2 i k))
    (fun i k => congrFun (h2 c) (ix2 i k)) (fun k => congrFun (h3 c) (ix1 k)) (fun i k => congrFun (h4 c) (ix2 i k))
  have hu := fun c => Cert.LossRefIdeal.Proof.rows (hk c).a (hk c).w (hk c).r
  refine ⟨fun c => (Cert.LossIdeal.Gen.dats m 0 c).arrAt 5 (Cert.LossIdeal.cfgs 0).N, fun c => (Cert.LossIdeal.Gen.dats m 0 c).arrAt 6 (Cert.LossIdeal.cfgs 0).N,
    fun c => (Cert.LossIdeal.Gen.dats m 0 c).arrAt 7 (Cert.LossIdeal.cfgs 0).N, ?_, ?_⟩
  · run_from Cert.LossIdeal.Gen.run_main m g
  · run_from Cert.LossRefIdeal.Value.run m' g'
    · exact (Cert.LossRefIdeal.Read.val_main_v53_eq _ _ _ _ _).trans
        ((Cert.LossRefIdeal.Proof.result_loss (hu c) (hk c).g (hk c).t).trans (Cert.LossIdeal.Proof.result_loss m c (hk c)).symm)
    · obtain ⟨a0, a1, a2, a3, a4⟩ := hagree c
      rw [Cert.LossRefIdeal.Read.val_main_v52_eq m' c, a0, a1, a2, a3, a4, Cert.LossIdeal.Proof.result_dh m c (hk c)]
      exact Cert.LossRefIdeal.Proof.result_dh (hu c) (hk c).g (hk c).t
    · exact (Cert.LossRefIdeal.Read.val_main_v54_eq _ _ _ _ _).trans
        ((Cert.LossRefIdeal.Proof.result_dg (hu c) (hk c).g (hk c).t).trans (Cert.LossIdeal.Proof.result_dg m c (hk c)).symm)

end Cert.Proof

end
-- ==== Proof.Shift.lean ====
module

public import proofs.«01_k».proof.Proof.Reals

/-! Columns of reals moved down or up by some rows, zeros moving in: the taps of a causal convolution and of its gradients. -/

@[expose] public section

noncomputable section

namespace Cert.Shift

open scoped BigOperators

/-- The column at any row: zero from its end on. -/
def ext {n : ℕ} (f : Fin n → ℝ) (i : ℕ) : ℝ := if h : i < n then f ⟨i, h⟩ else 0

/-- The column moved down by `s` rows. -/
def down {n : ℕ} (s : ℕ) (f : Fin n → ℝ) (i : Fin n) : ℝ := if s ≤ i.val then f ⟨i.val - s, by omega⟩ else 0

theorem ext_val {n : ℕ} (f : Fin n → ℝ) (i : Fin n) : ext f i.val = f i := dif_pos i.isLt

theorem ext_of_lt {n : ℕ} (f : Fin n → ℝ) {i : ℕ} (h : i < n) : ext f i = f ⟨i, h⟩ := dif_pos h

theorem ext_of_le {n : ℕ} (f : Fin n → ℝ) {i : ℕ} (h : n ≤ i) : ext f i = 0 := dif_neg (by omega)

/-- Moving one factor down pairs the same rows as moving the other one up. -/
theorem sum_down {n : ℕ} (s : ℕ) (f g : Fin n → ℝ) : ∑ i, f i * down s g i = ∑ i : Fin n, ext f (i.val + s) * g i := by
  have hl : ∑ i, f i * down s g i = ∑ i ∈ Finset.range n, ext f i * (if s ≤ i then ext g (i - s) else 0) := by
    rw [Finset.sum_range]
    refine Finset.sum_congr rfl fun i _ => ?_
    rw [ext_val]
    unfold down
    split
    · rw [ext_of_lt g (by omega : i.val - s < n)]
    · rfl
  have hr : ∑ i : Fin n, ext f (i.val + s) * g i = ∑ i ∈ Finset.range n, ext f (i + s) * ext g i := by
    rw [Finset.sum_range]
    exact Finset.sum_congr rfl fun i _ => by rw [ext_val]
  rw [hl, hr]
  have two : ∀ m, ∑ i ∈ Finset.range (s + m), ext f i * (if s ≤ i then ext g (i - s) else 0) = ∑ i ∈ Finset.range m, ext f (i + s) * ext g i := fun m => by
    rw [Finset.sum_range_add, Finset.sum_eq_zero (s := Finset.range s) fun i hi => by rw [if_neg (by have := Finset.mem_range.1 hi; omega), mul_zero], zero_add]
    refine Finset.sum_congr rfl fun i _ => ?_
    rw [if_pos (by omega), Nat.add_sub_cancel_left, Nat.add_comm]
  rw [← two n, Nat.add_comm s n, Finset.sum_range_add, Finset.sum_eq_zero (s := Finset.range s) fun i _ => by rw [ext_of_le f (by omega), zero_mul], add_zero]

end Cert.Shift

end
-- ==== Proof.MixerMath.lean ====
module

public import proofs.«01_k».proof.Proof.Shift

/-! The short-convolution mixer and its gradients over the reals: three projections `b`, `c` and `h` of a row, `q` the three-tap causal convolution of `c * h` by columns, and the product of `b * q` with the output weight. -/

@[expose] public section

noncomputable section

namespace Cert.MixerMath

open Cert.Shift
open scoped BigOperators

abbrev Rows (n k : ℕ) := Fin n → Fin k → ℝ

variable (X : Rows 4096 1024) (Wi : Rows 1024 3072) (K : Rows 3 1024) (Wo : Rows 1024 1024) (D : Rows 4096 1024)

/-- Projection `s` of a row. -/
def u (s : Fin 3) (i : Fin 4096) (j : Fin 1024) : ℝ := ∑ k, X i k * Wi k ⟨s.val * 1024 + j.val, by omega⟩

def p (i : Fin 4096) (j : Fin 1024) : ℝ := u X Wi 1 i j * u X Wi 2 i j

def q (i : Fin 4096) (j : Fin 1024) : ℝ :=
  K 0 j * down 2 (fun i => p X Wi i j) i + K 1 j * down 1 (fun i => p X Wi i j) i + K 2 j * p X Wi i j

/-- The gradient of `b * q`. -/
def dz (i : Fin 4096) (j : Fin 1024) : ℝ := ∑ l, D i l * Wo j l

def dq (i : Fin 4096) (j : Fin 1024) : ℝ := dz Wo D i j * u X Wi 0 i j

/-- The gradient of `q` in one column, at any row. -/
def eq (j : Fin 1024) (i : ℕ) : ℝ := ext (fun i => dq X Wi Wo D i j) i

def dp (i : Fin 4096) (j : Fin 1024) : ℝ :=
  K 2 j * eq X Wi Wo D j i.val + K 1 j * eq X Wi Wo D j (i.val + 1) + K 0 j * eq X Wi Wo D j (i.val + 2)

/-- The gradients of the three projections. -/
def du (s : Fin 3) (i : Fin 4096) (j : Fin 1024) : ℝ :=
  match s with
  | 0 => dz Wo D i j * q X Wi K i j
  | 1 => dp X Wi K Wo D i j * u X Wi 2 i j
  | 2 => dp X Wi K Wo D i j * u X Wi 1 i j

def dwi (s : Fin 3) (k j : Fin 1024) : ℝ := ∑ i, X i k * du X Wi K Wo D s i j

def dwo (j l : Fin 1024) : ℝ := ∑ i, u X Wi 0 i j * q X Wi K i j * D i l

def dk (r : Fin 3) (j : Fin 1024) : ℝ := ∑ i : Fin 4096, eq X Wi Wo D j (i.val + (2 - r.val)) * p X Wi i j

end Cert.MixerMath

end
-- ==== Proof.MixerPay.lean ====
module

public import proofs.«01_k».proof.Proof.Gen.MixerIdeal.Value
public import proofs.«01_k».proof.Proof.MixerMath
public import Idealize.ShloMosaic.Lib.Pipeline.ValueKit
public import Idealize.ShloMosaic.Lib.Pointwise
public import Idealize.ShloMosaic.Lib.WordCmp

/-! What the mixer's backward kernel stores, over blocks of reals. -/

@[expose] public section

set_option maxRecDepth 16384

noncomputable section

namespace Cert.MixerIdeal.Proof

open Cert.MixerIdeal Cert.MixerIdeal.Gen Idealize.ShloMosaic Idealize.ShloMosaic.TcCoe Idealize.SL.Sem
open Cert.Reals Cert.MixerMath

variable {v3 : Vec Ideal S512x1024 .f32} {v5 : Vec Ideal S512x1024 .bf16} {D Wo : Rows 512 1024}

theorem select_eq {α : Type} (p : Fin 512) (n : ℕ) (hn : n < 512) (a b : α) :
    Scalar.select (IntOp.cmpi CmpIPredicate.eq (BitVec.ofNat 32 p.val) (BitVec.ofNat 32 n)) a b = if p.val = n then a else b := by
  unfold Scalar.select
  rw [WordCmp.cmpi_eq_eq]
  have : (BitVec.ofNat 32 p.val = BitVec.ofNat 32 n) ↔ p.val = n := by
    rw [← BitVec.toNat_inj, BitVec.toNat_ofNat, BitVec.toNat_ofNat]
    omega
  by_cases h : p.val = n
  · rw [decide_eq_true (this.2 h), if_pos h]; rfl
  · rw [decide_eq_false fun e => h (this.1 e), if_neg h]; rfl

theorem pay_dz (h3 : ∀ p l, v3 (ix2 p l) = (D p l : EReal)) (h5 : ∀ j l, v5 (ix2 j l) = (Wo j l : EReal)) (p j : Fin 512) :
    k0_pay8 (F := Ideal) v3 v5 (ix2 p j) = ((∑ l, D p l * Wo j l : ℝ) : EReal) := by
  pointwise [k0_pay8, k0_pay7, h3, h5]
  simp only [← EReal.coe_mul, coe_sum]

theorem pay_db {v25 : Vec Ideal S1x512x512 .bf16} {Z Q : Rows 512 512} (h8 : ∀ p j, k0_pay8 (F := Ideal) v3 v5 (ix2 p j) = (Z p j : EReal))
    (h25 : ∀ p j, v25 (ix3 0 p j) = (Q p j : EReal)) (p j : Fin 512) : k0_pay14 (F := Ideal) v3 v5 v25 (ix2 p j) = ((Z p j * Q p j : ℝ) : EReal) := by
  pointwise [k0_pay14, h8, h25]
  rw [EReal.coe_mul]

theorem pay_dwo {v8 : Vec Ideal S512x1024 .f32} {v9 : Vec Ideal S512x512 .bf16} {Z : Rows 512 512} (h3 : ∀ p l, v3 (ix2 p l) = (D p l : EReal))
    (h9 : ∀ p j, v9 (ix2 p j) = (Z p j : EReal)) (j : Fin 512) (l : Fin 1024) :
    k0_pay9 (F := Ideal) v3 v8 v9 (ix2 j l) = v8 (ix2 j l) + ((∑ p, Z p j * D p l : ℝ) : EReal) := by
  pointwise [k0_pay9, k0_pay7, h3, h9]
  simp only [← EReal.coe_mul, coe_sum]

section Taps

variable {v7 v18 : FVec Ideal S512x512 .f32} {E : Fin 512 → ℕ → ℝ} {c0 c1 : Vec Ideal S1x512 .f32}

theorem pay_up1 (hq : ∀ p j, k0_pay15 (F := Ideal) v7 v18 (ix2 p j) = (E j p.val : EReal)) (h0 : ∀ j, c0 (ix2 0 j) = (E j 512 : EReal)) (p j : Fin 512) :
    k0_pay16 (F := Ideal) v7 v18 c0 (ix2 p j) = (E j (p.val + 1) : EReal) := by
  pointwise [k0_pay16, hq, h0]
  refine (select_eq p 511 (by omega) _ _).trans ?_
  split
  · next h => rw [h]
  · next h => rw [show (p.val + 512 - 511) % 512 = p.val + 1 by omega]

theorem pay_up2 (hq : ∀ p j, k0_pay15 (F := Ideal) v7 v18 (ix2 p j) = (E j p.val : EReal)) (h0 : ∀ j, c0 (ix2 0 j) = (E j 512 : EReal))
    (h1 : ∀ j, c1 (ix2 0 j) = (E j 513 : EReal)) (p j : Fin 512) :
    k0_pay17 (F := Ideal) v7 v18 c0 c1 (ix2 p j) = (E j (p.val + 2) : EReal) := by
  pointwise [k0_pay17, hq, h0, h1]
  refine (select_eq p 511 (by omega) _ _).trans ?_
  split
  · next h => rw [h]
  · next h =>
    refine (select_eq p 510 (by omega) _ _).trans ?_
    split
    · next h => rw [h]
    · next h' => rw [show (p.val + 512 - 510) % 512 = p.val + 2 by omega]

variable {w0 w1 w2 : Vec Ideal S1x512 .f32} {K : Rows 3 512}

theorem pay_dp (hq : ∀ p j, k0_pay15 (F := Ideal) v7 v18 (ix2 p j) = (E j p.val : EReal)) (h0 : ∀ j, c0 (ix2 0 j) = (E j 512 : EReal))
    (h1 : ∀ j, c1 (ix2 0 j) = (E j 513 : EReal)) (k0 : ∀ j, w0 (ix2 0 j) = (K 0 j : EReal)) (k1 : ∀ j, w1 (ix2 0 j) = (K 1 j : EReal)) (k2 : ∀ j, w2 (ix2 0 j) = (K 2 j : EReal))
    (p j : Fin 512) : k0_pay18 (F := Ideal) v7 v18 w0 w1 w2 c0 c0 c1 (ix2 p j)
      = ((K 2 j * E j p.val + K 1 j * E j (p.val + 1) + K 0 j * E j (p.val + 2) : ℝ) : EReal) := by
  pointwise [k0_pay18, pay_up1 hq h0, pay_up2 hq h0 h1, hq, k0, k1, k2]
  simp only [← EReal.coe_mul, ← EReal.coe_add]

theorem pay_carry (hq : ∀ p j, k0_pay15 (F := Ideal) v7 v18 (ix2 p j) = (E j p.val : EReal)) (r : Fin 8) (j : Fin 512) :
    k0_pay19 (F := Ideal) v7 v18 (ix2 r j) = (E j r.val : EReal) := by
  pointwise [k0_pay19, hq]

end Taps

theorem pay_dk0 {v28 v55 : FVec Ideal S512x512 .f32} {P E : Rows 512 512} (h28 : ∀ p j, v28 (ix2 p j) = (P p j : EReal)) (h55 : ∀ p j, v55 (ix2 p j) = (E p j : EReal))
    (a : Vec Ideal S1x512 .f32) (j : Fin 512) : k0_pay20 (F := Ideal) v28 v55 a (ix2 0 j) = a (ix2 0 j) + ((∑ p, E p j * P p j : ℝ) : EReal) := by
  pointwise [k0_pay20, h28, h55]
  simp only [← EReal.coe_mul, coe_sum]

theorem pay_dk1 {v28 v55 : FVec Ideal S512x512 .f32} {P E : Rows 512 512} (h28 : ∀ p j, v28 (ix2 p j) = (P p j : EReal)) (h55 : ∀ p j, v55 (ix2 p j) = (E p j : EReal))
    (a : Vec Ideal S1x512 .f32) (j : Fin 512) : k0_pay21 (F := Ideal) v28 v55 a (ix2 0 j) = a (ix2 0 j) + ((∑ p, E p j * P p j : ℝ) : EReal) := pay_dk0 h28 h55 a j

theorem pay_dk2 {v28 v55 : FVec Ideal S512x512 .f32} {P E : Rows 512 512} (h28 : ∀ p j, v28 (ix2 p j) = (P p j : EReal)) (h55 : ∀ p j, v55 (ix2 p j) = (E p j : EReal))
    (a : Vec Ideal S1x512 .f32) (j : Fin 512) : k0_pay22 (F := Ideal) v28 v55 a (ix2 0 j) = a (ix2 0 j) + ((∑ p, E p j * P p j : ℝ) : EReal) := pay_dk0 h28 h55 a j

theorem pay_dwi0 {v106 : Vec Ideal S512x1024 .bf16} {v92 : FVec Ideal S512x512 .bf16} {X : Rows 512 1024} {U : Rows 512 512} (hx : ∀ p k, v106 (ix2 p k) = (X p k : EReal))
    (hu : ∀ p j, v92 (ix2 p j) = (U p j : EReal)) (a : Vec Ideal S1x1024x512 .f32) (k : Fin 1024) (j : Fin 512) :
    k0_pay30 (F := Ideal) v92 v106 a (ix3 0 k j) = a (ix3 0 k j) + ((∑ p, X p k * U p j : ℝ) : EReal) := by
  pointwise [k0_pay30, k0_pay29, hx, hu]
  simp only [← EReal.coe_mul, coe_sum]

end Cert.MixerIdeal.Proof

end
-- ==== Proof.MixerHost.lean ====
module

public import proofs.«01_k».proof.Proof.MixerPay
public import Idealize.ShloMosaic.Lib.StableHlo.ReadAt

/-! The arrays the mixer's backward is launched on, over real inputs. -/

@[expose] public section

set_option maxRecDepth 16384

noncomputable section

namespace Cert.MixerIdeal.Proof

open Cert.MixerIdeal Cert.MixerIdeal.Gen Idealize.ShloMosaic Idealize.ShloMosaic.TcCoe Idealize.SL.Sem
open Cert.Reals Cert.Shift Cert.MixerMath

variable (m : (ℓ : Loc nD τ sig) → Buf (Elt Ideal) ℓ) (c : Dev nD)

/-- The arguments are arrays of reals. -/
structure Reals (X : Rows 4096 1024) (Wi : Rows 1024 3072) (K : Rows 3 1024) (Wo : Rows 1024 1024) (D : Rows 4096 1024) : Prop where
  x : ∀ i k, m ((c : Thread nD τ).loc main_arg0) (ix2 i k) = (X i k : EReal)
  wi : ∀ i k, m ((c : Thread nD τ).loc main_arg1) (ix2 i k) = (Wi i k : EReal)
  k : ∀ i k, m ((c : Thread nD τ).loc main_arg2) (ix2 i k) = (K i k : EReal)
  wo : ∀ i k, m ((c : Thread nD τ).loc main_arg3) (ix2 i k) = (Wo i k : EReal)
  d : ∀ i k, m ((c : Thread nD τ).loc main_arg4) (ix2 i k) = (D i k : EReal)

/-! The host's lines in five parts, each read over any buffers: a concatenation begins a part. -/

abbrev part1 : List (HloOp τ sig (Elt Ideal)) := hostOps0.take 3
abbrev part2 : List (HloOp τ sig (Elt Ideal)) := (hostOps0.drop 3).take 9
abbrev part3 : List (HloOp τ sig (Elt Ideal)) := (hostOps0.drop 12).take 9
abbrev part4 : List (HloOp τ sig (Elt Ideal)) := (hostOps0.drop 21).take 15
abbrev part5 : List (HloOp τ sig (Elt Ideal)) := hostOps0.drop 36

abbrev at_ (l : List (HloOp τ sig (Elt Ideal))) (f : Valuation τ sig (Elt Ideal)) (b : Ref sig .tc) : Buf (Elt Ideal) ((c : Thread nD τ).loc b) :=
  StableHlo.after l f b

theorem after_two (l₁ l₂ : List (HloOp τ sig (Elt Ideal))) (f : Valuation τ sig (Elt Ideal)) :
    StableHlo.after (l₁ ++ l₂) f = StableHlo.after l₂ (StableHlo.after l₁ f) := by
  induction l₁ generalizing f with
  | nil => rfl
  | cons op l ih => exact ih _

abbrev vals1 : Valuation τ sig (Elt Ideal) := StableHlo.after part1 fun b => m (c, b)
abbrev vals2 : Valuation τ sig (Elt Ideal) := StableHlo.after part2 (vals1 m c)
abbrev vals3 : Valuation τ sig (Elt Ideal) := StableHlo.after part3 (vals2 m c)
abbrev vals4 : Valuation τ sig (Elt Ideal) := StableHlo.after part4 (vals3 m c)

theorem V_parts (b : Ref sig .tc) : V m c b = at_ c part5 (vals4 m c) b := by
  show StableHlo.after (part1 ++ (part2 ++ (part3 ++ (part4 ++ part5)))) (fun b => m (c, b)) b = _
  rw [after_two, after_two, after_two, after_two]

variable {X : Rows 4096 1024} {Wi : Rows 1024 3072} {K : Rows 3 1024} {Wo : Rows 1024 1024} {D : Rows 4096 1024}

section Parts

variable (f : Valuation τ sig (Elt Ideal)) (i : Fin 4096) (j : Fin 1024)

theorem two_b {x : EReal} (hx : f (Proc.devRef .tc main_v2) (ix2 i ⟨j.val, by omega⟩) = x) : at_ c part2 f main_v3 (ix2 i j) = x := by
  rw [← hx]
  simp only [at_, part2, hostOps0, List.drop_succ_cons, List.drop_zero, List.take_succ_cons, List.take_zero]
  after_reads_at

theorem two_c {x : EReal} (hx : f (Proc.devRef .tc main_v2) (ix2 i ⟨1024 + j.val, by omega⟩) = x) : at_ c part2 f main_v4 (ix2 i j) = x := by
  rw [← hx]
  simp only [at_, part2, hostOps0, List.drop_succ_cons, List.drop_zero, List.take_succ_cons, List.take_zero]
  after_reads_at

theorem two_h {x : EReal} (hx : f (Proc.devRef .tc main_v2) (ix2 i ⟨2048 + j.val, by omega⟩) = x) : at_ c part2 f main_v5 (ix2 i j) = x := by
  rw [← hx]
  simp only [at_, part2, hostOps0, List.drop_succ_cons, List.drop_zero, List.take_succ_cons, List.take_zero]
  after_reads_at

theorem two_p {x y : EReal} (hx : at_ c part2 f main_v4 (ix2 i j) = x) (hy : at_ c part2 f main_v5 (ix2 i j) = y) : at_ c part2 f main_v6 (ix2 i j) = x * y := by
  rw [← hx, ← hy]
  simp only [at_, part2, hostOps0, List.drop_succ_cons, List.drop_zero, List.take_succ_cons, List.take_zero]
  after_reads_at

theorem two_slice (i : Fin 4094) : at_ c part2 f main_v10 (ix2 i j) = at_ c part2 f main_v6 (ix2 ⟨i.val, by omega⟩ j) := by
  simp only [at_, part2, hostOps0, List.drop_succ_cons, List.drop_zero, List.take_succ_cons, List.take_zero]
  after_reads_at

theorem two_zero (i : Fin 2) : at_ c part2 f main_v9 (ix2 i j) = (0 : EReal) := by
  simp only [at_, part2, hostOps0, List.drop_succ_cons, List.drop_zero, List.take_succ_cons, List.take_zero]
  after_reads_at

theorem two_w : at_ c part2 f main_v8 (ix1 j) = at_ c part2 f main_arg2 (ix2 0 j) := by
  simp only [at_, part2, hostOps0, List.drop_succ_cons, List.drop_zero, List.take_succ_cons, List.take_zero]
  after_reads_at

theorem three_down : at_ c part3 f main_v11 (ix2 i j)
    = if h : i.val < 2 then f (Proc.devRef .tc main_v9) (ix2 ⟨i.val, h⟩ j) else f (Proc.devRef .tc main_v10) (ix2 ⟨i.val - 2, by omega⟩ j) := by
  simp only [at_, part3, hostOps0, List.drop_succ_cons, List.drop_zero, List.take_succ_cons, List.take_zero]
  after_reads_at

theorem three_tap {x y : EReal} (hx : f (Proc.devRef .tc main_v8) (ix1 j) = x) (hy : at_ c part3 f main_v11 (ix2 i j) = y) :
    at_ c part3 f main_v14 (ix2 i j) = x * y := by
  rw [← hx, ← hy]
  simp only [at_, part3, hostOps0, List.drop_succ_cons, List.drop_zero, List.take_succ_cons, List.take_zero]
  after_reads_at
  rfl

theorem three_slice (i : Fin 4095) : at_ c part3 f main_v18 (ix2 i j) = f (Proc.devRef .tc main_v6) (ix2 ⟨i.val, by omega⟩ j) := by
  simp only [at_, part3, hostOps0, List.drop_succ_cons, List.drop_zero, List.take_succ_cons, List.take_zero]
  after_reads_at

theorem three_zero (z : Fin 1) : at_ c part3 f main_v17 (ix2 z j) = (0 : EReal) := by
  simp only [at_, part3, hostOps0, List.drop_succ_cons, List.drop_zero, List.take_succ_cons, List.take_zero]
  after_reads_at

theorem three_w : at_ c part3 f main_v16 (ix1 j) = f (Proc.devRef .tc main_arg2) (ix2 1 j) := by
  simp only [at_, part3, hostOps0, List.drop_succ_cons, List.drop_zero, List.take_succ_cons, List.take_zero]
  after_reads_at

theorem four_down : at_ c part4 f main_v19 (ix2 i j)
    = if h : i.val < 1 then f (Proc.devRef .tc main_v17) (ix2 ⟨i.val, h⟩ j) else f (Proc.devRef .tc main_v18) (ix2 ⟨i.val - 1, by omega⟩ j) := by
  simp only [at_, part4, hostOps0, List.drop_succ_cons, List.drop_zero, List.take_succ_cons, List.take_zero]
  after_reads_at

theorem four_q {x k y w z : EReal} (hx : f (Proc.devRef .tc main_v14) (ix2 i j) = x) (hk : f (Proc.devRef .tc main_v16) (ix1 j) = k)
    (hy : at_ c part4 f main_v19 (ix2 i j) = y) (hw : f (Proc.devRef .tc main_arg2) (ix2 2 j) = w) (hz : f (Proc.devRef .tc main_v6) (ix2 i j) = z) :
    at_ c part4 f main_v29 (ix2 i j) = x + k * y + w * z := by
  rw [← hx, ← hk, ← hy, ← hw, ← hz]
  simp only [at_, part4, hostOps0, List.drop_succ_cons, List.drop_zero, List.take_succ_cons, List.take_zero]
  after_reads_at
  rfl

theorem four_stack : at_ c part4 f main_v30 (ix3 0 i j) = f (Proc.devRef .tc main_v3) (ix2 i j)
    ∧ at_ c part4 f main_v31 (ix3 0 i j) = f (Proc.devRef .tc main_v4) (ix2 i j)
    ∧ at_ c part4 f main_v32 (ix3 0 i j) = f (Proc.devRef .tc main_v5) (ix2 i j)
    ∧ at_ c part4 f main_v33 (ix3 0 i j) = at_ c part4 f main_v29 (ix2 i j) := by
  refine ⟨?_, ?_, ?_, ?_⟩
  all_goals
    simp only [at_, part4, hostOps0, List.drop_succ_cons, List.drop_zero, List.take_succ_cons, List.take_zero]
    after_reads_at

theorem five_stack : at_ c part5 f main_v35 (ix3 0 i j) = f (Proc.devRef .tc main_v30) (ix3 0 i j)
    ∧ at_ c part5 f main_v35 (ix3 1 i j) = f (Proc.devRef .tc main_v31) (ix3 0 i j)
    ∧ at_ c part5 f main_v35 (ix3 2 i j) = f (Proc.devRef .tc main_v32) (ix3 0 i j)
    ∧ at_ c part5 f main_v35 (ix3 3 i j) = f (Proc.devRef .tc main_v33) (ix3 0 i j) := by
  refine ⟨?_, ?_, ?_, ?_⟩
  all_goals
    simp only [at_, part5, hostOps0, List.drop_succ_cons, List.drop_zero, List.take_succ_cons, List.take_zero]
    after_reads_at
    rfl

theorem five_z {x y : EReal} (hx : f (Proc.devRef .tc main_v3) (ix2 i j) = x) (hy : f (Proc.devRef .tc main_v29) (ix2 i j) = y) :
    at_ c part5 f main_v37 (ix2 i j) = x * y := by
  rw [← hx, ← hy]
  simp only [at_, part5, hostOps0, List.drop_succ_cons, List.drop_zero, List.take_succ_cons, List.take_zero]
  after_reads_at

/-- The lines between leave these as they were. -/
theorem kept_arg2 (i : Fin 3) : at_ c part2 f main_arg2 (ix2 i j) = f (Proc.devRef .tc main_arg2) (ix2 i j) ∧ at_ c part3 f main_arg2 (ix2 i j) = f (Proc.devRef .tc main_arg2) (ix2 i j) := by
  constructor
  all_goals
    simp only [at_, part2, part3, hostOps0, List.drop_succ_cons, List.drop_zero, List.take_succ_cons, List.take_zero]
    after_reads_at

theorem kept_three : at_ c part3 f main_v3 (ix2 i j) = f (Proc.devRef .tc main_v3) (ix2 i j) ∧ at_ c part3 f main_v4 (ix2 i j) = f (Proc.devRef .tc main_v4) (ix2 i j)
    ∧ at_ c part3 f main_v5 (ix2 i j) = f (Proc.devRef .tc main_v5) (ix2 i j) ∧ at_ c part3 f main_v6 (ix2 i j) = f (Proc.devRef .tc main_v6) (ix2 i j) := by
  refine ⟨?_, ?_, ?_, ?_⟩
  all_goals
    simp only [at_, part3, hostOps0, List.drop_succ_cons, List.drop_zero, List.take_succ_cons, List.take_zero]
    after_reads_at

theorem kept_four : at_ c part4 f main_v3 (ix2 i j) = f (Proc.devRef .tc main_v3) (ix2 i j) := by
  simp only [at_, part4, hostOps0, List.drop_succ_cons, List.drop_zero, List.take_succ_cons, List.take_zero]
  after_reads_at

end Parts

section Read

variable (h : Reals m c X Wi K Wo D)
include h

theorem one_u (i : Fin 4096) (k : Fin 3072) : at_ c part1 (fun b => m (c, b)) main_v2 (ix2 i k) = ((∑ l, X i l * Wi l k : ℝ) : EReal) := by
  simp only [← coe_sum, EReal.coe_mul, ← h.x, ← h.wi]
  simp only [at_, part1, hostOps0, List.take_succ_cons, List.take_zero]
  after_reads_at

theorem one_k (i : Fin 3) (k : Fin 1024) : at_ c part1 (fun b => m (c, b)) main_arg2 (ix2 i k) = (K i k : EReal) := by
  rw [← h.k]
  simp only [at_, part1, hostOps0, List.take_succ_cons, List.take_zero]
  after_reads_at

theorem val_b (i : Fin 4096) (j : Fin 1024) : at_ c part2 (vals1 m c) main_v3 (ix2 i j) = (u X Wi 0 i j : EReal) :=
  two_b c _ i j ((one_u m c h i _).trans (by unfold u; simp only [Fin.val_zero, Nat.zero_mul, Nat.zero_add]))

theorem val_c (i : Fin 4096) (j : Fin 1024) : at_ c part2 (vals1 m c) main_v4 (ix2 i j) = (u X Wi 1 i j : EReal) := two_c c _ i j (one_u m c h i _)

theorem val_h (i : Fin 4096) (j : Fin 1024) : at_ c part2 (vals1 m c) main_v5 (ix2 i j) = (u X Wi 2 i j : EReal) := two_h c _ i j (one_u m c h i _)

theorem val_p (i : Fin 4096) (j : Fin 1024) : at_ c part2 (vals1 m c) main_v6 (ix2 i j) = (p X Wi i j : EReal) := by
  rw [two_p c _ i j (val_c m c h i j) (val_h m c h i j), ← EReal.coe_mul]
  rfl

theorem val_k (i : Fin 3) (j : Fin 1024) : at_ c part2 (vals1 m c) main_arg2 (ix2 i j) = (K i j : EReal) :=
  (kept_arg2 c _ j i).1.trans (one_k m c h i j)

theorem val_down2 (i : Fin 4096) (j : Fin 1024) : at_ c part3 (vals2 m c) main_v11 (ix2 i j) = (down 2 (fun i => p X Wi i j) i : EReal) := by
  refine (three_down c _ i j).trans ?_
  unfold down
  by_cases h2 : i.val < 2
  · rw [dif_pos h2, if_neg (by omega)]
    exact two_zero c _ j _
  · rw [dif_neg h2, if_pos (by omega)]
    exact (two_slice c _ j _).trans (val_p m c h _ j)

theorem val_down1 (i : Fin 4096) (j : Fin 1024) : at_ c part4 (vals3 m c) main_v19 (ix2 i j) = (down 1 (fun i => p X Wi i j) i : EReal) := by
  refine (four_down c _ i j).trans ?_
  unfold down
  by_cases h2 : i.val < 1
  · rw [dif_pos h2, if_neg (by omega)]
    exact three_zero c _ j _
  · rw [dif_neg h2, if_pos (by omega)]
    exact (three_slice c _ j _).trans (val_p m c h _ j)

theorem val_q (i : Fin 4096) (j : Fin 1024) : at_ c part4 (vals3 m c) main_v29 (ix2 i j) = (q X Wi K i j : EReal) := by
  have h0 := three_tap c _ i j ((two_w c _ j).trans (val_k m c h 0 j)) (val_down2 m c h i j)
  rw [four_q c _ i j h0 ((three_w c _ j).trans (val_k m c h 1 j)) (val_down1 m c h i j) ((kept_arg2 c _ j 2).2.trans (val_k m c h 2 j))
    ((kept_three c _ i j).2.2.2.trans (val_p m c h i j))]
  simp only [← EReal.coe_mul, ← EReal.coe_add]
  rfl

theorem V_b (i : Fin 4096) (j : Fin 1024) : V m c main_v35 (ix3 0 i j) = (u X Wi 0 i j : EReal) := by
  rw [V_parts]
  exact (five_stack c _ i j).1.trans ((four_stack c _ i j).1.trans ((kept_three c _ i j).1.trans (val_b m c h i j)))

theorem V_c (i : Fin 4096) (j : Fin 1024) : V m c main_v35 (ix3 1 i j) = (u X Wi 1 i j : EReal) := by
  rw [V_parts]
  exact (five_stack c _ i j).2.1.trans ((four_stack c _ i j).2.1.trans ((kept_three c _ i j).2.1.trans (val_c m c h i j)))

theorem V_h (i : Fin 4096) (j : Fin 1024) : V m c main_v35 (ix3 2 i j) = (u X Wi 2 i j : EReal) := by
  rw [V_parts]
  exact (five_stack c _ i j).2.2.1.trans ((four_stack c _ i j).2.2.1.trans ((kept_three c _ i j).2.2.1.trans (val_h m c h i j)))

theorem V_q (i : Fin 4096) (j : Fin 1024) : V m c main_v35 (ix3 3 i j) = (q X Wi K i j : EReal) := by
  rw [V_parts]
  exact (five_stack c _ i j).2.2.2.trans ((four_stack c _ i j).2.2.2.trans (val_q m c h i j))

theorem V_z (i : Fin 4096) (j : Fin 1024) : V m c main_v37 (ix2 i j) = ((u X Wi 0 i j * q X Wi K i j : ℝ) : EReal) := by
  rw [V_parts, EReal.coe_mul]
  exact five_z c _ i j ((kept_four c _ i j).trans ((kept_three c _ i j).1.trans (val_b m c h i j))) (val_q m c h i j)

theorem V_wo (j l : Fin 1024) : V m c main_v38 (ix2 j l) = (Wo j l : EReal) := by
  rw [← h.wo]
  unfold V
  after_reads_at

theorem V_x (i : Fin 4096) (k : Fin 1024) : V m c main_v39 (ix2 i k) = (X i k : EReal) := by
  rw [← h.x]
  unfold V
  after_reads_at

theorem V_k (i : Fin 3) (k : Fin 1024) : V m c main_arg2 (ix2 i k) = (K i k : EReal) := by
  rw [← h.k]
  unfold V
  after_reads_at

theorem V_d (i : Fin 4096) (k : Fin 1024) : V m c main_arg4 (ix2 i k) = (D i k : EReal) := by
  rw [← h.d]
  unfold V
  after_reads_at

end Read

end Cert.MixerIdeal.Proof

end
-- ==== Proof.MixerKernel.lean ====
module

public import proofs.«01_k».proof.Proof.MixerHost
public import Idealize.ShloMosaic.Lib.Pipeline.ReadBack
public import Idealize.ShloMosaic.Lib.WritesUnit

/-! The results of the mixer's backward kernel over real inputs. -/

@[expose] public section

set_option maxRecDepth 16384

noncomputable section

namespace Cert.MixerIdeal.Proof

open Cert.MixerIdeal Cert.MixerIdeal.Gen Idealize.ShloMosaic Idealize.ShloMosaic.TcCoe Idealize.SL.Sem
open Cert.Reals Cert.Shift Cert.MixerMath
open Idealize.ShloMosaic.Pipeline (Dat)

variable (m : (ℓ : Loc nD τ sig) → Buf (Elt Ideal) ℓ) (c : Dev nD)

theorem idx : ∀ t : Fin cfg0.N,
    win0_0.index t = ![7 - t.val % 8, 0] ∧ win0_1.index t = ![t.val / 8, 0] ∧ win0_2.index t = ![0, 7 - t.val % 8, t.val / 8] ∧ win0_3.index t = ![7 - t.val % 8, t.val / 8]
    ∧ win0_4.index t = ![7 - t.val % 8, 0] ∧ win0_5.index t = ![0, t.val / 8] ∧ win0_6.index t = ![0, 7 - t.val % 8, t.val / 8] ∧ win0_7.index t = ![0, 0, t.val / 8]
    ∧ win0_8.index t = ![t.val / 8, 0] ∧ win0_9.index t = ![0, t.val / 8] :=
  (by decide +kernel : ∀ t : Fin grid0.N, _)

/-! ## Pieces of an array written one plane, or one row, at a time -/

section Pieces

open View

variable {Val : EltTy → Type} {e : EltTy} [∀ e, Nonempty (Val e)]

theorem planes {n k : ℕ} (i0 : ∀ a : Fin 3, (![0, 0, 0] : Fin 3 → ℕ) a + (![1, n, k] : Fin 3 → ℕ) a ≤ (⟨3, ![3, n, k]⟩ : Shape).size a)
    (i1 : ∀ a : Fin 3, (![1, 0, 0] : Fin 3 → ℕ) a + (![1, n, k] : Fin 3 → ℕ) a ≤ (⟨3, ![3, n, k]⟩ : Shape).size a)
    (i2 : ∀ a : Fin 3, (![2, 0, 0] : Fin 3 → ℕ) a + (![1, n, k] : Fin 3 → ℕ) a ≤ (⟨3, ![3, n, k]⟩ : Shape).size a)
    (w0 w1 w2 : (⟨3, ![1, n, k]⟩ : Shape).Idx → Val e) (L : List (Piece Val (⟨3, ![3, n, k]⟩ : Shape) e)) (p : Fin n) (j : Fin k) :
    View.canon (⟨Rect.unit ![2, 0, 0] ![1, n, k] i2, w2⟩ :: ⟨Rect.unit ![1, 0, 0] ![1, n, k] i1, w1⟩ :: ⟨Rect.unit ![0, 0, 0] ![1, n, k] i0, w0⟩ :: L) (ix3 0 p j) = w0 (ix3 0 p j)
    ∧ View.canon (⟨Rect.unit ![2, 0, 0] ![1, n, k] i2, w2⟩ :: ⟨Rect.unit ![1, 0, 0] ![1, n, k] i1, w1⟩ :: ⟨Rect.unit ![0, 0, 0] ![1, n, k] i0, w0⟩ :: L) (ix3 1 p j) = w1 (ix3 0 p j)
    ∧ View.canon (⟨Rect.unit ![2, 0, 0] ![1, n, k] i2, w2⟩ :: ⟨Rect.unit ![1, 0, 0] ![1, n, k] i1, w1⟩ :: ⟨Rect.unit ![0, 0, 0] ![1, n, k] i0, w0⟩ :: L) (ix3 2 p j) = w2 (ix3 0 p j) := by
  have hit : ∀ (o : ℕ) (ho : o < 3) (i : ∀ a : Fin 3, (![o, 0, 0] : Fin 3 → ℕ) a + (![1, n, k] : Fin 3 → ℕ) a ≤ (⟨3, ![3, n, k]⟩ : Shape).size a)
      (w : (⟨3, ![1, n, k]⟩ : Shape).Idx → Val e) (L : List (Piece Val (⟨3, ![3, n, k]⟩ : Shape) e)),
      View.canon (⟨Rect.unit ![o, 0, 0] ![1, n, k] i, w⟩ :: L) (ix3 ⟨o, ho⟩ p j) = w (ix3 0 p j) := fun o ho i w L => by
    have he : (Rect.unit (s := (⟨3, ![3, n, k]⟩ : Shape)) ![o, 0, 0] ![1, n, k] i).emb (ix3 0 p j) = ix3 ⟨o, ho⟩ p j :=
      funext fun a => Fin.ext (by fin_cases a <;> simp [Rect.unit, Rect.emb])
    exact (congrArg _ he.symm).trans (canon_cons_emb (Rect.unit (s := (⟨3, ![3, n, k]⟩ : Shape)) ![o, 0, 0] ![1, n, k] i) w L (ix3 0 p j))
  have miss : ∀ (o : ℕ) (q : Fin 3) (hq : o ≠ q.val) (i : ∀ a : Fin 3, (![o, 0, 0] : Fin 3 → ℕ) a + (![1, n, k] : Fin 3 → ℕ) a ≤ (⟨3, ![3, n, k]⟩ : Shape).size a)
      (w : (⟨3, ![1, n, k]⟩ : Shape).Idx → Val e) (L : List (Piece Val (⟨3, ![3, n, k]⟩ : Shape) e)),
      View.canon (⟨Rect.unit ![o, 0, 0] ![1, n, k] i, w⟩ :: L) (ix3 q p j) = View.canon L (ix3 q p j) := fun o q hq i w L => by
    refine canon_cons_of_not_mem _ L (Rect.not_mem_set_of_axis _ (ix3 q p j) 0 o 1 rfl rfl rfl ?_)
    show q.val < o ∨ o + 1 ≤ q.val
    omega
  refine ⟨?_, ?_, ?_⟩
  · exact (miss 2 0 (by decide) i2 w2 _).trans ((miss 1 0 (by decide) i1 w1 _).trans (hit 0 (by decide) i0 w0 L))
  · exact (miss 2 1 (by decide) i2 w2 _).trans (hit 1 (by decide) i1 w1 _)
  · exact hit 2 (by decide) i2 w2 _

theorem rows {sig : RefSig} {κ : Kind} {sp : Space} {n : ℕ} (v : View sig κ sp (⟨2, ![8, n]⟩ : Shape) e) (f : v.ty.Contents Val)
    (i0 : ∀ a : Fin 2, (![0, 0] : Fin 2 → ℕ) a + (![1, n] : Fin 2 → ℕ) a ≤ (⟨2, ![8, n]⟩ : Shape).size a)
    (i1 : ∀ a : Fin 2, (![1, 0] : Fin 2 → ℕ) a + (![1, n] : Fin 2 → ℕ) a ≤ (⟨2, ![8, n]⟩ : Shape).size a)
    (i2 : ∀ a : Fin 2, (![2, 0] : Fin 2 → ℕ) a + (![1, n] : Fin 2 → ℕ) a ≤ (⟨2, ![8, n]⟩ : Shape).size a)
    (w0 w1 w2 : (⟨2, ![1, n]⟩ : Shape).Idx → Val e) (L : List (Piece Val (⟨2, ![8, n]⟩ : Shape) e)) (j : Fin n) :
    v.read Val (v.writes Val f (⟨Rect.unit ![2, 0] ![1, n] i2, w2⟩ :: ⟨Rect.unit ![1, 0] ![1, n] i1, w1⟩ :: ⟨Rect.unit ![0, 0] ![1, n] i0, w0⟩ :: L)) (ix2 0 j) = w0 (ix2 0 j)
    ∧ v.read Val (v.writes Val f (⟨Rect.unit ![2, 0] ![1, n] i2, w2⟩ :: ⟨Rect.unit ![1, 0] ![1, n] i1, w1⟩ :: ⟨Rect.unit ![0, 0] ![1, n] i0, w0⟩ :: L)) (ix2 1 j) = w1 (ix2 0 j)
    ∧ v.read Val (v.writes Val f (⟨Rect.unit ![2, 0] ![1, n] i2, w2⟩ :: ⟨Rect.unit ![1, 0] ![1, n] i1, w1⟩ :: ⟨Rect.unit ![0, 0] ![1, n] i0, w0⟩ :: L)) (ix2 2 j) = w2 (ix2 0 j) := by
  have hit : ∀ (o : ℕ) (ho : o < 8) (i : ∀ a : Fin 2, (![o, 0] : Fin 2 → ℕ) a + (![1, n] : Fin 2 → ℕ) a ≤ (⟨2, ![8, n]⟩ : Shape).size a)
      (w : (⟨2, ![1, n]⟩ : Shape).Idx → Val e) (L : List (Piece Val (⟨2, ![8, n]⟩ : Shape) e)),
      v.read Val (v.writes Val f (⟨Rect.unit ![o, 0] ![1, n] i, w⟩ :: L)) (ix2 ⟨o, ho⟩ j) = w (ix2 0 j) := fun o ho i w L => by
    have he : (Rect.unit (s := (⟨2, ![8, n]⟩ : Shape)) ![o, 0] ![1, n] i).emb (ix2 0 j) = ix2 ⟨o, ho⟩ j :=
      funext fun a => Fin.ext (by fin_cases a <;> simp [Rect.unit, Rect.emb])
    exact (congrArg _ he.symm).trans (read_writes_cons_emb v f (Rect.unit (s := (⟨2, ![8, n]⟩ : Shape)) ![o, 0] ![1, n] i) w L (ix2 0 j))
  have miss : ∀ (o : ℕ) (q : Fin 8) (hq : o ≠ q.val) (i : ∀ a : Fin 2, (![o, 0] : Fin 2 → ℕ) a + (![1, n] : Fin 2 → ℕ) a ≤ (⟨2, ![8, n]⟩ : Shape).size a)
      (w : (⟨2, ![1, n]⟩ : Shape).Idx → Val e) (L : List (Piece Val (⟨2, ![8, n]⟩ : Shape) e)),
      v.read Val (v.writes Val f (⟨Rect.unit ![o, 0] ![1, n] i, w⟩ :: L)) (ix2 q j) = v.read Val (v.writes Val f L) (ix2 q j) := fun o q hq i w L => by
    refine read_writes_cons_miss_of_axis v f _ L (ix2 q j) 0 o 1 rfl rfl rfl ?_
    show q.val < o ∨ o + 1 ≤ q.val
    omega
  refine ⟨?_, ?_, ?_⟩
  · exact (miss 2 0 (by decide) i2 w2 _).trans ((miss 1 0 (by decide) i1 w1 _).trans (hit 0 (by decide) i0 w0 L))
  · exact (miss 2 1 (by decide) i2 w2 _).trans (hit 1 (by decide) i1 w1 _)
  · exact hit 2 (by decide) i2 w2 _

theorem rows_canon {n : ℕ}
    (i0 : ∀ a : Fin 2, (![0, 0] : Fin 2 → ℕ) a + (![1, n] : Fin 2 → ℕ) a ≤ (⟨2, ![8, n]⟩ : Shape).size a)
    (i1 : ∀ a : Fin 2, (![1, 0] : Fin 2 → ℕ) a + (![1, n] : Fin 2 → ℕ) a ≤ (⟨2, ![8, n]⟩ : Shape).size a)
    (i2 : ∀ a : Fin 2, (![2, 0] : Fin 2 → ℕ) a + (![1, n] : Fin 2 → ℕ) a ≤ (⟨2, ![8, n]⟩ : Shape).size a)
    (w0 w1 w2 : (⟨2, ![1, n]⟩ : Shape).Idx → Val e) (L : List (Piece Val (⟨2, ![8, n]⟩ : Shape) e)) (j : Fin n) :
    View.canon (⟨Rect.unit ![2, 0] ![1, n] i2, w2⟩ :: ⟨Rect.unit ![1, 0] ![1, n] i1, w1⟩ :: ⟨Rect.unit ![0, 0] ![1, n] i0, w0⟩ :: L) (ix2 0 j) = w0 (ix2 0 j)
    ∧ View.canon (⟨Rect.unit ![2, 0] ![1, n] i2, w2⟩ :: ⟨Rect.unit ![1, 0] ![1, n] i1, w1⟩ :: ⟨Rect.unit ![0, 0] ![1, n] i0, w0⟩ :: L) (ix2 1 j) = w1 (ix2 0 j)
    ∧ View.canon (⟨Rect.unit ![2, 0] ![1, n] i2, w2⟩ :: ⟨Rect.unit ![1, 0] ![1, n] i1, w1⟩ :: ⟨Rect.unit ![0, 0] ![1, n] i0, w0⟩ :: L) (ix2 2 j) = w2 (ix2 0 j) := by
  have hit : ∀ (o : ℕ) (ho : o < 8) (i : ∀ a : Fin 2, (![o, 0] : Fin 2 → ℕ) a + (![1, n] : Fin 2 → ℕ) a ≤ (⟨2, ![8, n]⟩ : Shape).size a)
      (w : (⟨2, ![1, n]⟩ : Shape).Idx → Val e) (L : List (Piece Val (⟨2, ![8, n]⟩ : Shape) e)),
      View.canon (⟨Rect.unit ![o, 0] ![1, n] i, w⟩ :: L) (ix2 ⟨o, ho⟩ j) = w (ix2 0 j) := fun o ho i w L => by
    have he : (Rect.unit (s := (⟨2, ![8, n]⟩ : Shape)) ![o, 0] ![1, n] i).emb (ix2 0 j) = ix2 ⟨o, ho⟩ j :=
      funext fun a => Fin.ext (by fin_cases a <;> simp [Rect.unit, Rect.emb])
    exact (congrArg _ he.symm).trans (canon_cons_emb (Rect.unit (s := (⟨2, ![8, n]⟩ : Shape)) ![o, 0] ![1, n] i) w L (ix2 0 j))
  have miss : ∀ (o : ℕ) (q : Fin 8) (hq : o ≠ q.val) (i : ∀ a : Fin 2, (![o, 0] : Fin 2 → ℕ) a + (![1, n] : Fin 2 → ℕ) a ≤ (⟨2, ![8, n]⟩ : Shape).size a)
      (w : (⟨2, ![1, n]⟩ : Shape).Idx → Val e) (L : List (Piece Val (⟨2, ![8, n]⟩ : Shape) e)),
      View.canon (⟨Rect.unit ![o, 0] ![1, n] i, w⟩ :: L) (ix2 q j) = View.canon L (ix2 q j) := fun o q hq i w L => by
    refine canon_cons_of_not_mem _ L (Rect.not_mem_set_of_axis _ (ix2 q j) 0 o 1 rfl rfl rfl ?_)
    show q.val < o ∨ o + 1 ≤ q.val
    omega
  refine ⟨?_, ?_, ?_⟩
  · exact (miss 2 0 (by decide) i2 w2 _).trans ((miss 1 0 (by decide) i1 w1 _).trans (hit 0 (by decide) i0 w0 L))
  · exact (miss 2 1 (by decide) i2 w2 _).trans (hit 1 (by decide) i1 w1 _)
  · exact hit 2 (by decide) i2 w2 _

theorem cov_whole {sig : RefSig} {κ : Kind} {sp : Space} {s : Shape} (v : View sig κ sp s e) {off : Fin s.rank → ℕ} (inb : ∀ a, off a + s.size a ≤ s.size a)
    (L : List (Piece Val s e)) (h : ∀ a, off a = 0) : v.readCov L (Rect.unit off (no_index s.size) inb).toLoadRect = View.canon L := by
  rw [readCov_eq_canon']
  exact ld_unit_lit inb (canon L) h

end Pieces

/-! ## The blocks -/

theorem lt_N (t : Fin cfg0.N) : t.val < 16 := lt_of_lt_of_eq t.isLt N_0

/-- Row `p` of point `t`'s block of rows: the blocks go from the last to the first. -/
def row (t : Fin cfg0.N) (p : Fin 512) : Fin 4096 := ⟨(7 - t.val % 8) * 512 + p.val, by omega⟩

/-- Column `j` of point `t`'s block of columns. -/
def col (t : Fin cfg0.N) (j : Fin 512) : Fin 1024 := ⟨t.val / 8 * 512 + j.val, by have := lt_N t; omega⟩

section Blocks

variable (f : (b : Ref sig .tc) → Buf (Elt Ideal) ((c : Thread nD τ).loc b)) (t : Fin cfg0.N)

theorem read0 (p : Fin 512) (l : Fin 1024) : ((cfg0.win 0).blk t).view.read (Elt Ideal) (f (Pipeline.arrRef spec0 0)) (ix2 p l) = f main_arg4 (ix2 (row t p) l) :=
  congrArg (f main_arg4) (by unfold row; blk_ext [idx t])

theorem read1 (j : Fin 512) (l : Fin 1024) : ((cfg0.win 1).blk t).view.read (Elt Ideal) (f (Pipeline.arrRef spec0 1)) (ix2 j l) = f main_v38 (ix2 (col t j) l) :=
  congrArg (f main_v38) (by unfold col; blk_ext [idx t])

theorem read2 (s : Fin 4) (p j : Fin 512) : ((cfg0.win 2).blk t).view.read (Elt Ideal) (f (Pipeline.arrRef spec0 2)) (ix3 s p j) = f main_v35 (ix3 s (row t p) (col t j)) :=
  congrArg (f main_v35) (by unfold row col; blk_ext [idx t])

theorem read3 (p j : Fin 512) : ((cfg0.win 3).blk t).view.read (Elt Ideal) (f (Pipeline.arrRef spec0 3)) (ix2 p j) = f main_v37 (ix2 (row t p) (col t j)) :=
  congrArg (f main_v37) (by unfold row col; blk_ext [idx t])

theorem read4 (p : Fin 512) (k : Fin 1024) : ((cfg0.win 4).blk t).view.read (Elt Ideal) (f (Pipeline.arrRef spec0 4)) (ix2 p k) = f main_v39 (ix2 (row t p) k) :=
  congrArg (f main_v39) (by unfold row; blk_ext [idx t])

theorem read5 (r : Fin 3) (j : Fin 512) : ((cfg0.win 5).blk t).view.read (Elt Ideal) (f (Pipeline.arrRef spec0 5)) (ix2 r j) = f main_arg2 (ix2 r (col t j)) :=
  congrArg (f main_arg2) (by unfold col; blk_ext [idx t])

end Blocks

variable {X : Rows 4096 1024} {Wi : Rows 1024 3072} {K : Rows 3 1024} {Wo : Rows 1024 1024} {D : Rows 4096 1024}

section AtPoint

variable (h : Reals m c X Wi K Wo D) (t : Fin cfg0.N)
include h

theorem blk_d (p : Fin 512) (l : Fin 1024) : iblk m c 0 t (ix2 p l) = (D (row t p) l : EReal) := by
  unfold iblk
  exact (read0 c (V m c) t p l).trans (V_d m c h _ _)

theorem blk_wo (j : Fin 512) (l : Fin 1024) : iblk m c 1 t (ix2 j l) = (Wo (col t j) l : EReal) := by
  unfold iblk
  exact (read1 c (V m c) t j l).trans (V_wo m c h _ _)

theorem blk_b (p j : Fin 512) : iblk m c 2 t (ix3 0 p j) = (u X Wi 0 (row t p) (col t j) : EReal) := by
  unfold iblk
  exact (read2 c (V m c) t 0 p j).trans (V_b m c h _ _)

theorem blk_c (p j : Fin 512) : iblk m c 2 t (ix3 1 p j) = (u X Wi 1 (row t p) (col t j) : EReal) := by
  unfold iblk
  exact (read2 c (V m c) t 1 p j).trans (V_c m c h _ _)

theorem blk_h (p j : Fin 512) : iblk m c 2 t (ix3 2 p j) = (u X Wi 2 (row t p) (col t j) : EReal) := by
  unfold iblk
  exact (read2 c (V m c) t 2 p j).trans (V_h m c h _ _)

theorem blk_q (p j : Fin 512) : iblk m c 2 t (ix3 3 p j) = (q X Wi K (row t p) (col t j) : EReal) := by
  unfold iblk
  exact (read2 c (V m c) t 3 p j).trans (V_q m c h _ _)

theorem blk_z (p j : Fin 512) : iblk m c 3 t (ix2 p j) = ((u X Wi 0 (row t p) (col t j) * q X Wi K (row t p) (col t j) : ℝ) : EReal) := by
  unfold iblk
  exact (read3 c (V m c) t p j).trans (V_z m c h _ _)

theorem blk_x (p : Fin 512) (k : Fin 1024) : iblk m c 4 t (ix2 p k) = (X (row t p) k : EReal) := by
  unfold iblk
  exact (read4 c (V m c) t p k).trans (V_x m c h _ _)

theorem blk_k (r : Fin 3) (j : Fin 512) : iblk m c 5 t (ix2 r j) = (K r (col t j) : EReal) := by
  unfold iblk
  exact (read5 c (V m c) t r j).trans (V_k m c h _ _)

end AtPoint

/-! ## One point -/

theorem ld_planes (x : Vec Ideal S4x512x512 .bf16) (p j : Fin 512) :
    View.ld x (Rect.unit ![0, 0, 0] ![1, 512, 512] inb_S4x512x512_S1x512x512_0_0_0) (ix3 0 p j) = x (ix3 0 p j)
    ∧ View.ld x (Rect.unit ![1, 0, 0] ![1, 512, 512] inb_S4x512x512_S1x512x512_1_0_0) (ix3 0 p j) = x (ix3 1 p j)
    ∧ View.ld x (Rect.unit ![2, 0, 0] ![1, 512, 512] inb_S4x512x512_S1x512x512_2_0_0) (ix3 0 p j) = x (ix3 2 p j)
    ∧ View.ld x (Rect.unit ![3, 0, 0] ![1, 512, 512] inb_S4x512x512_S1x512x512_3_0_0) (ix3 0 p j) = x (ix3 3 p j) := by
  refine ⟨?_, ?_, ?_, ?_⟩ <;> pointwise

theorem ld_rows (x : Vec Ideal S8x512 .f32) (j : Fin 512) :
    View.ld x (Rect.unit ![0, 0] ![1, 512] inb_S8x512_S1x512_0_0) (ix2 0 j) = x (ix2 0 j)
    ∧ View.ld x (Rect.unit ![1, 0] ![1, 512] inb_S8x512_S1x512_1_0) (ix2 0 j) = x (ix2 1 j)
    ∧ View.ld x (Rect.unit ![2, 0] ![1, 512] inb_S8x512_S1x512_2_0) (ix2 0 j) = x (ix2 2 j) := by
  refine ⟨?_, ?_, ?_⟩ <;> pointwise

theorem ld_taps (x : Vec Ideal S3x512 .f32) (j : Fin 512) :
    View.ld x (Rect.unit ![0, 0] ![1, 512] inb_S3x512_S1x512_0_0) (ix2 0 j) = x (ix2 0 j)
    ∧ View.ld x (Rect.unit ![1, 0] ![1, 512] inb_S3x512_S1x512_1_0) (ix2 0 j) = x (ix2 1 j)
    ∧ View.ld x (Rect.unit ![2, 0] ![1, 512] inb_S3x512_S1x512_2_0) (ix2 0 j) = x (ix2 2 j) := by
  refine ⟨?_, ?_, ?_⟩ <;> pointwise

theorem ld_wide (x : Vec Ideal S3x1024x512 .f32) (k : Fin 1024) (j : Fin 512) :
    View.ld x (Rect.unit ![0, 0, 0] ![1, 1024, 512] inb_S3x1024x512_S1x1024x512_0_0_0) (ix3 0 k j) = x (ix3 0 k j)
    ∧ View.ld x (Rect.unit ![1, 0, 0] ![1, 1024, 512] inb_S3x1024x512_S1x1024x512_1_0_0) (ix3 0 k j) = x (ix3 1 k j)
    ∧ View.ld x (Rect.unit ![2, 0, 0] ![1, 1024, 512] inb_S3x1024x512_S1x1024x512_2_0_0) (ix3 0 k j) = x (ix3 2 k j) := by
  refine ⟨?_, ?_, ?_⟩ <;> pointwise

section Point

variable (h : Reals m c X Wi K Wo D) (t : Fin cfg0.N)

/-- The gradient of `q` in column `j` of the point's block, by rows from the block's first. -/
def E (t : Fin cfg0.N) (j : Fin 512) (n : ℕ) : ℝ := eq X Wi Wo D (col t j) ((7 - t.val % 8) * 512 + n)

variable (cr : Vec Ideal S8x512 .f32) (hcr : ∀ (r : Fin 8) j, cr (ix2 r j) = (E (X := X) (Wi := Wi) (Wo := Wo) (D := D) t j (512 + r.val) : EReal))

abbrev zB : FVec Ideal S512x512 .f32 := k0_pay8 (F := Ideal) (iblk m c 0 t) (iblk m c 1 t)
abbrev uB (s : ℕ) (i : ∀ a, (![s, 0, 0] : Fin 3 → ℕ) a + (![1, 512, 512] : Fin 3 → ℕ) a ≤ S4x512x512.size a) : Vec Ideal S1x512x512 .bf16 :=
  View.ld (iblk m c 2 t) (Rect.unit ![s, 0, 0] ![1, 512, 512] i)
abbrev bB : FVec Ideal S512x512 .f32 := k0_pay10 (F := Ideal) (uB m c t 0 inb_S4x512x512_S1x512x512_0_0_0)
abbrev cB : FVec Ideal S512x512 .f32 := k0_pay11 (F := Ideal) (uB m c t 1 inb_S4x512x512_S1x512x512_1_0_0)
abbrev hB : FVec Ideal S512x512 .f32 := k0_pay12 (F := Ideal) (uB m c t 2 inb_S4x512x512_S1x512x512_2_0_0)
abbrev pB : FVec Ideal S512x512 .f32 := k0_pay13 (F := Ideal) (uB m c t 1 inb_S4x512x512_S1x512x512_1_0_0) (uB m c t 2 inb_S4x512x512_S1x512x512_2_0_0)
abbrev c0B : Vec Ideal S1x512 .f32 := View.ld cr (Rect.unit ![0, 0] ![1, 512] inb_S8x512_S1x512_0_0)
abbrev c1B : Vec Ideal S1x512 .f32 := View.ld cr (Rect.unit ![1, 0] ![1, 512] inb_S8x512_S1x512_1_0)
abbrev dpB : FVec Ideal S512x512 .f32 :=
  k0_pay18 (F := Ideal) (zB m c t) (bB m c t) (View.ld (iblk m c 5 t) (Rect.unit ![0, 0] ![1, 512] inb_S3x512_S1x512_0_0))
    (View.ld (iblk m c 5 t) (Rect.unit ![1, 0] ![1, 512] inb_S3x512_S1x512_1_0)) (View.ld (iblk m c 5 t) (Rect.unit ![2, 0] ![1, 512] inb_S3x512_S1x512_2_0))
    (c0B cr) (c0B cr) (c1B cr)
abbrev dbB : FVec Ideal S512x512 .f32 := k0_pay14 (F := Ideal) (iblk m c 0 t) (iblk m c 1 t) (uB m c t 3 inb_S4x512x512_S1x512x512_3_0_0)

include h

theorem at_z (p j : Fin 512) : zB m c t (ix2 p j) = (dz Wo D (row t p) (col t j) : EReal) :=
  pay_dz (blk_d m c h t) (blk_wo m c h t) p j

theorem at_b (p j : Fin 512) : bB m c t (ix2 p j) = (u X Wi 0 (row t p) (col t j) : EReal) := by
  rw [← blk_b m c h t]
  pointwise [k0_pay10]
  exact (ld_planes _ p j).1

theorem at_c (p j : Fin 512) : cB m c t (ix2 p j) = (u X Wi 1 (row t p) (col t j) : EReal) := by
  rw [← blk_c m c h t]
  pointwise [k0_pay11]
  exact (ld_planes _ p j).2.1

theorem at_h (p j : Fin 512) : hB m c t (ix2 p j) = (u X Wi 2 (row t p) (col t j) : EReal) := by
  rw [← blk_h m c h t]
  pointwise [k0_pay12]
  exact (ld_planes _ p j).2.2.1

theorem at_p (r j : Fin 512) : pB m c t (ix2 r j) = (p X Wi (row t r) (col t j) : EReal) := by
  pointwise [k0_pay13, at_c m c h t, at_h m c h t]
  rw [← EReal.coe_mul]
  rfl

theorem at_q (p j : Fin 512) : k0_pay15 (F := Ideal) (zB m c t) (bB m c t) (ix2 p j) = (E (X := X) (Wi := Wi) (Wo := Wo) (D := D) t j p.val : EReal) := by
  pointwise [k0_pay15, at_z m c h t, at_b m c h t]
  rw [← EReal.coe_mul]
  unfold E eq
  rw [ext_of_lt _ (show (7 - t.val % 8) * 512 + p.val < 4096 from (row t p).isLt)]
  rfl

theorem at_db (p j : Fin 512) : dbB m c t (ix2 p j) = (du X Wi K Wo D 0 (row t p) (col t j) : EReal) :=
  pay_db (at_z m c h t) (fun p j => (ld_planes _ p j).2.2.2.trans (blk_q m c h t p j)) p j

include hcr

theorem at_c0 (j : Fin 512) : c0B cr (ix2 0 j) = (E (X := X) (Wi := Wi) (Wo := Wo) (D := D) t j 512 : EReal) := by
  exact (ld_rows cr j).1.trans (hcr 0 j)

theorem at_c1 (j : Fin 512) : c1B cr (ix2 0 j) = (E (X := X) (Wi := Wi) (Wo := Wo) (D := D) t j 513 : EReal) := by
  exact (ld_rows cr j).2.1.trans (hcr 1 j)

theorem at_dp (p j : Fin 512) : dpB m c t cr (ix2 p j) = (dp X Wi K Wo D (row t p) (col t j) : EReal) :=
  pay_dp (K := fun r j => K r (col t j)) (at_q m c h t) (at_c0 m c h t cr hcr) (at_c1 m c h t cr hcr)
    (fun j => (ld_taps _ j).1.trans (blk_k m c h t 0 j)) (fun j => (ld_taps _ j).2.1.trans (blk_k m c h t 1 j)) (fun j => (ld_taps _ j).2.2.trans (blk_k m c h t 2 j)) p j

/-- The three projections' gradients as they are stored. -/
theorem at_du0 (p j : Fin 512) : k0_pay23 (F := Ideal) (dbB m c t) (ix2 p j) = (du X Wi K Wo D 0 (row t p) (col t j) : EReal) := by
  pointwise [k0_pay23, at_db m c h t]

theorem at_du1 (p j : Fin 512) : k0_pay24 (F := Ideal) (hB m c t) (dpB m c t cr) (ix2 p j) = (du X Wi K Wo D 1 (row t p) (col t j) : EReal) := by
  pointwise [k0_pay24, at_dp m c h t cr hcr, at_h m c h t]
  rw [← EReal.coe_mul]
  rfl

theorem at_du2 (p j : Fin 512) : k0_pay25 (F := Ideal) (cB m c t) (dpB m c t cr) (ix2 p j) = (du X Wi K Wo D 2 (row t p) (col t j) : EReal) := by
  pointwise [k0_pay25, at_dp m c h t cr hcr, at_c m c h t]
  rw [← EReal.coe_mul]
  rfl

/-- What the point adds to the three planes of the projections' gradient. -/
theorem in_planes (a : Vec Ideal S3x1024x512 .f32) (L) (s : Fin 3) (k : Fin 1024) (j : Fin 512) :
    View.canon (⟨Rect.unit ![2, 0, 0] ![1, 1024, 512] inb_S3x1024x512_S1x1024x512_2_0_0, k0_pay32 (F := Ideal) (k0_pay25 (cB m c t) (dpB m c t cr)) (iblk m c 4 t) (View.ld a (Rect.unit ![2, 0, 0] ![1, 1024, 512] inb_S3x1024x512_S1x1024x512_2_0_0))⟩
      :: ⟨Rect.unit ![1, 0, 0] ![1, 1024, 512] inb_S3x1024x512_S1x1024x512_1_0_0, k0_pay31 (F := Ideal) (k0_pay24 (hB m c t) (dpB m c t cr)) (iblk m c 4 t) (View.ld a (Rect.unit ![1, 0, 0] ![1, 1024, 512] inb_S3x1024x512_S1x1024x512_1_0_0))⟩
      :: ⟨Rect.unit ![0, 0, 0] ![1, 1024, 512] inb_S3x1024x512_S1x1024x512_0_0_0, k0_pay30 (F := Ideal) (k0_pay23 (dbB m c t)) (iblk m c 4 t) (View.ld a (Rect.unit ![0, 0, 0] ![1, 1024, 512] inb_S3x1024x512_S1x1024x512_0_0_0))⟩ :: L) (ix3 s k j)
      = a (ix3 s k j) + ((∑ p, X (row t p) k * du X Wi K Wo D s (row t p) (col t j) : ℝ) : EReal) := by
  have e := planes (Val := Elt Ideal) inb_S3x1024x512_S1x1024x512_0_0_0 inb_S3x1024x512_S1x1024x512_1_0_0 inb_S3x1024x512_S1x1024x512_2_0_0
    (k0_pay30 (F := Ideal) (k0_pay23 (dbB m c t)) (iblk m c 4 t) (View.ld a (Rect.unit ![0, 0, 0] ![1, 1024, 512] inb_S3x1024x512_S1x1024x512_0_0_0)))
    (k0_pay31 (F := Ideal) (k0_pay24 (hB m c t) (dpB m c t cr)) (iblk m c 4 t) (View.ld a (Rect.unit ![1, 0, 0] ![1, 1024, 512] inb_S3x1024x512_S1x1024x512_1_0_0)))
    (k0_pay32 (F := Ideal) (k0_pay25 (cB m c t) (dpB m c t cr)) (iblk m c 4 t) (View.ld a (Rect.unit ![2, 0, 0] ![1, 1024, 512] inb_S3x1024x512_S1x1024x512_2_0_0))) L k j
  match s with
  | 0 => exact e.1.trans ((pay_dwi0 (blk_x m c h t) (at_du0 m c h t cr hcr) _ k j).trans (congrArg (· + ((_ : ℝ) : EReal)) (ld_wide a k j).1))
  | 1 => exact e.2.1.trans ((pay_dwi0 (blk_x m c h t) (at_du1 m c h t cr hcr) _ k j).trans (congrArg (· + ((_ : ℝ) : EReal)) (ld_wide a k j).2.1))
  | 2 => exact e.2.2.trans ((pay_dwi0 (blk_x m c h t) (at_du2 m c h t cr hcr) _ k j).trans (congrArg (· + ((_ : ℝ) : EReal)) (ld_wide a k j).2.2))

/-- The point's rows of the three projections' gradients. -/
theorem out_planes (L) (s : Fin 3) (p j : Fin 512) :
    View.canon (Val := Elt Ideal) (s := S3x512x512) (e := EltTy.bf16) (⟨Rect.unit ![2, 0, 0] ![1, 512, 512] inb_S3x512x512_S1x512x512_2_0_0, k0_pay28 (F := Ideal) (k0_pay25 (cB m c t) (dpB m c t cr))⟩
      :: ⟨Rect.unit ![1, 0, 0] ![1, 512, 512] inb_S3x512x512_S1x512x512_1_0_0, k0_pay27 (F := Ideal) (hB m c t) (dpB m c t cr)⟩
      :: ⟨Rect.unit ![0, 0, 0] ![1, 512, 512] inb_S3x512x512_S1x512x512_0_0_0, k0_pay26 (F := Ideal) (dbB m c t)⟩ :: L) (ix3 s p j)
      = (du X Wi K Wo D s (row t p) (col t j) : EReal) := by
  have e := planes (Val := Elt Ideal) inb_S3x512x512_S1x512x512_0_0_0 inb_S3x512x512_S1x512x512_1_0_0 inb_S3x512x512_S1x512x512_2_0_0
    (k0_pay26 (F := Ideal) (dbB m c t)) (k0_pay27 (F := Ideal) (hB m c t) (dpB m c t cr)) (k0_pay28 (F := Ideal) (k0_pay25 (cB m c t) (dpB m c t cr))) L p j
  match s with
  | 0 => exact e.1.trans (Eq.trans (by pointwise [k0_pay26]) (at_du0 m c h t cr hcr p j))
  | 1 => exact e.2.1.trans (Eq.trans (by pointwise [k0_pay27]) (at_du1 m c h t cr hcr p j))
  | 2 => exact e.2.2.trans (Eq.trans (by pointwise [k0_pay28]) (at_du2 m c h t cr hcr p j))

/-- What the point adds to the three rows of the taps' gradient. -/
def dkt (Xx : Rows 4096 1024) (Ww : Rows 1024 3072) (Oo : Rows 1024 1024) (Dd : Rows 4096 1024) (t : Fin cfg0.N) (r : Fin 3) (j : Fin 512) : ℝ :=
  ∑ p' : Fin 512, eq Xx Ww Oo Dd (col t j) ((row t p').val + (2 - r.val)) * p Xx Ww (row t p') (col t j)

theorem row0 (a : Vec Ideal S8x512 .f32) (j : Fin 512) :
    k0_pay20 (F := Ideal) (pB m c t) (k0_pay17 (zB m c t) (bB m c t) (c0B cr) (c1B cr)) (View.ld a (Rect.unit ![0, 0] ![1, 512] inb_S8x512_S1x512_0_0)) (ix2 0 j)
      = a (ix2 0 j) + (dkt X Wi Wo D t 0 j : EReal) :=
  (pay_dk0 (at_p m c h t) (pay_up2 (at_q m c h t) (at_c0 m c h t cr hcr) (at_c1 m c h t cr hcr)) _ j).trans (congrArg (· + ((_ : ℝ) : EReal)) (ld_rows a j).1)

theorem row1 (a : Vec Ideal S8x512 .f32) (j : Fin 512) :
    k0_pay21 (F := Ideal) (pB m c t) (k0_pay16 (zB m c t) (bB m c t) (c0B cr)) (View.ld a (Rect.unit ![1, 0] ![1, 512] inb_S8x512_S1x512_1_0)) (ix2 0 j)
      = a (ix2 1 j) + (dkt X Wi Wo D t 1 j : EReal) :=
  (pay_dk1 (at_p m c h t) (pay_up1 (at_q m c h t) (at_c0 m c h t cr hcr)) _ j).trans (congrArg (· + ((_ : ℝ) : EReal)) (ld_rows a j).2.1)

theorem row2 (a : Vec Ideal S8x512 .f32) (j : Fin 512) :
    k0_pay22 (F := Ideal) (pB m c t) (k0_pay15 (zB m c t) (bB m c t)) (View.ld a (Rect.unit ![2, 0] ![1, 512] inb_S8x512_S1x512_2_0)) (ix2 0 j)
      = a (ix2 2 j) + (dkt X Wi Wo D t 2 j : EReal) :=
  (pay_dk2 (at_p m c h t) (at_q m c h t) _ j).trans (congrArg (· + ((_ : ℝ) : EReal)) (ld_rows a j).2.2)

end Point

/-! ## What the scratch and the result blocks hold after a point -/

section After

variable (h : Reals m c X Wi K Wo D)
include h

theorem carry_after (t : Fin cfg0.N) (r : Fin 8) (j : Fin 512) :
    (outsAt0 m c t.val t.isLt).2.2.2.2.2.2.2 (ix2 r j) = (E (X := X) (Wi := Wi) (Wo := Wo) (D := D) t j r.val : EReal) := by
  by_cases h0 : t.val % 8 = 0
  · rw [outsAt0_A m c t h0 (by omega)]
    frame_out
    exact pay_carry (at_q m c h t) r j
  · by_cases h1 : t.val % 8 = 7
    · rw [outsAt0_C m c t h0 h1]
      frame_out
      exact pay_carry (at_q m c h t) r j
    · rw [outsAt0_B m c t h0 h1]
      frame_out
      exact pay_carry (at_q m c h t) r j

theorem carry_prev (t : Fin cfg0.N) (h0 : ¬t.val % 8 = 0) (r : Fin 8) (j : Fin 512) :
    (outsAt0 m c (t.val - 1) (Nat.lt_of_le_of_lt (Nat.sub_le _ _) t.isLt)).2.2.2.2.2.2.2 (ix2 r j) = (E (X := X) (Wi := Wi) (Wo := Wo) (D := D) t j (512 + r.val) : EReal) := by
  refine (carry_after m c h ⟨t.val - 1, Nat.lt_of_le_of_lt (Nat.sub_le _ _) t.isLt⟩ r j).trans ?_
  unfold E
  rw [show col ⟨t.val - 1, Nat.lt_of_le_of_lt (Nat.sub_le _ _) t.isLt⟩ j = col t j from Fin.ext (by simp only [col]; omega),
    show (7 - (t.val - 1) % 8) * 512 + r.val = (7 - t.val % 8) * 512 + (512 + r.val) by omega]

omit h in
theorem carry_zero (t : Fin cfg0.N) (h0 : t.val % 8 = 0) (r : Fin 8) (j : Fin 512) :
    k0_pay6 (F := Ideal) (ix2 r j) = (E (X := X) (Wi := Wi) (Wo := Wo) (D := D) t j (512 + r.val) : EReal) := by
  unfold E eq
  rw [ext_of_le _ (by omega)]
  pointwise [k0_pay6]
  exact EReal.coe_zero.symm

theorem after_wi (t : Fin cfg0.N) (s : Fin 3) (k : Fin 1024) (j : Fin 512) :
    (t.val % 8 = 0 → (outsAt0 m c t.val t.isLt).2.2.2.2.1 (ix3 s k j) = (0 : EReal) + ((∑ p, X (row t p) k * du X Wi K Wo D s (row t p) (col t j) : ℝ) : EReal))
    ∧ (¬t.val % 8 = 0 → (outsAt0 m c t.val t.isLt).2.2.2.2.1 (ix3 s k j)
      = (outsAt0 m c (t.val - 1) (Nat.lt_of_le_of_lt (Nat.sub_le _ _) t.isLt)).2.2.2.2.1 (ix3 s k j) + ((∑ p, X (row t p) k * du X Wi K Wo D s (row t p) (col t j) : ℝ) : EReal)) := by
  refine ⟨fun h0 => ?_, fun h0 => ?_⟩
  · rw [outsAt0_A m c t h0 (by omega)]
    frame_out
    simp (config := {decide := true}) only [↓View.readCov_skip, View.readCov_fill]
    refine (in_planes m c h t (k0_pay6 (F := Ideal)) (carry_zero t h0) (k0_pay3 (F := Ideal)) _ s k j).trans (congrArg (· + ((_ : ℝ) : EReal)) ?_)
    pointwise [k0_pay3]
  · by_cases h1 : t.val % 8 = 7
    on_goal 1 => rw [outsAt0_C m c t h0 h1]
    on_goal 2 => rw [outsAt0_B m c t h0 h1]
    all_goals
      frame_out
      simp only [read_unread_whole]
      exact in_planes m c h t _ (carry_prev m c h t h0) _ _ s k j

theorem after_wo (t : Fin cfg0.N) (j : Fin 512) (l : Fin 1024) :
    (t.val % 8 = 0 → (outsAt0 m c t.val t.isLt).2.2.2.2.2.1 (ix2 j l) = (0 : EReal) + ((∑ p, u X Wi 0 (row t p) (col t j) * q X Wi K (row t p) (col t j) * D (row t p) l : ℝ) : EReal))
    ∧ (¬t.val % 8 = 0 → (outsAt0 m c t.val t.isLt).2.2.2.2.2.1 (ix2 j l)
      = (outsAt0 m c (t.val - 1) (Nat.lt_of_le_of_lt (Nat.sub_le _ _) t.isLt)).2.2.2.2.2.1 (ix2 j l)
        + ((∑ p, u X Wi 0 (row t p) (col t j) * q X Wi K (row t p) (col t j) * D (row t p) l : ℝ) : EReal)) := by
  refine ⟨fun h0 => ?_, fun h0 => ?_⟩
  · rw [outsAt0_A m c t h0 (by omega)]
    frame_out
    refine (pay_dwo (blk_d m c h t) (blk_z m c h t) j l).trans (congrArg (· + ((_ : ℝ) : EReal)) ?_)
    pointwise [k0_pay4]
  · by_cases h1 : t.val % 8 = 7
    on_goal 1 => rw [outsAt0_C m c t h0 h1]
    on_goal 2 => rw [outsAt0_B m c t h0 h1]
    all_goals
      frame_out
      simp only [read_unread_whole]
      exact pay_dwo (blk_d m c h t) (blk_z m c h t) j l

theorem after_k (t : Fin cfg0.N) (r : Fin 3) (j : Fin 512) :
    (t.val % 8 = 0 → (outsAt0 m c t.val t.isLt).2.2.2.2.2.2.1 (ix2 (r.castLE (by decide)) j) = (0 : EReal) + (dkt X Wi Wo D t r j : EReal))
    ∧ (¬t.val % 8 = 0 → (outsAt0 m c t.val t.isLt).2.2.2.2.2.2.1 (ix2 (r.castLE (by decide)) j)
      = (outsAt0 m c (t.val - 1) (Nat.lt_of_le_of_lt (Nat.sub_le _ _) t.isLt)).2.2.2.2.2.2.1 (ix2 (r.castLE (by decide)) j) + (dkt X Wi Wo D t r j : EReal)) := by
  refine ⟨fun h0 => ?_, fun h0 => ?_⟩
  · have zr : ∀ r, k0_pay5 (F := Ideal) (ix2 r j) = (0 : EReal) := fun r => by pointwise [k0_pay5]
    have r0 := row0 m c h t (k0_pay6 (F := Ideal)) (carry_zero t h0) (k0_pay5 (F := Ideal)) j
    have r1 := row1 m c h t (k0_pay6 (F := Ideal)) (carry_zero t h0) (k0_pay5 (F := Ideal)) j
    have r2 := row2 m c h t (k0_pay6 (F := Ideal)) (carry_zero t h0) (k0_pay5 (F := Ideal)) j
    rw [zr] at r0 r1 r2
    rw [outsAt0_A m c t h0 (by omega)]
    frame_out
    simp (config := {decide := true}) only [↓View.readCov_skip, View.readCov_fill]
    match r with
    | 0 => exact (rows_canon _ _ _ _ _ _ _ j).1.trans r0
    | 1 => exact (rows_canon _ _ _ _ _ _ _ j).2.1.trans r1
    | 2 => exact (rows_canon _ _ _ _ _ _ _ j).2.2.trans r2
  · have r0 := row0 m c h t _ (carry_prev m c h t h0) (outsAt0 m c (t.val - 1) (Nat.lt_of_le_of_lt (Nat.sub_le _ _) t.isLt)).2.2.2.2.2.2.1 j
    have r1 := row1 m c h t _ (carry_prev m c h t h0) (outsAt0 m c (t.val - 1) (Nat.lt_of_le_of_lt (Nat.sub_le _ _) t.isLt)).2.2.2.2.2.2.1 j
    have r2 := row2 m c h t _ (carry_prev m c h t h0) (outsAt0 m c (t.val - 1) (Nat.lt_of_le_of_lt (Nat.sub_le _ _) t.isLt)).2.2.2.2.2.2.1 j
    by_cases h1 : t.val % 8 = 7
    on_goal 1 => rw [outsAt0_C m c t h0 h1]
    on_goal 2 => rw [outsAt0_B m c t h0 h1]
    all_goals
      frame_out
      simp only [read_unread_whole]
      match r with
      | 0 => exact (rows _ _ _ _ _ _ _ _ _ j).1.trans r0
      | 1 => exact (rows _ _ _ _ _ _ _ _ _ j).2.1.trans r1
      | 2 => exact (rows _ _ _ _ _ _ _ _ _ j).2.2.trans r2

theorem after6 (t : Fin cfg0.N) (s : Fin 3) (p j : Fin 512) : (outsAt0 m c t.val t.isLt).1 (ix3 s p j) = (du X Wi K Wo D s (row t p) (col t j) : EReal) := by
  by_cases h0 : t.val % 8 = 0
  · rw [outsAt0_A m c t h0 (by omega)]
    frame_out
    simp (config := {decide := true}) only [↓View.readCov_skip, View.readCov_fill]
    exact out_planes m c h t (k0_pay6 (F := Ideal)) (carry_zero t h0) _ s p j
  · by_cases h1 : t.val % 8 = 7
    on_goal 1 => rw [outsAt0_C m c t h0 h1]
    on_goal 2 => rw [outsAt0_B m c t h0 h1]
    all_goals
      frame_out
      simp only [read_unread_whole]
      exact out_planes m c h t _ (carry_prev m c h t h0) _ s p j

theorem last_wi (t : Fin cfg0.N) (h1 : t.val % 8 = 7) (s : Fin 3) (k : Fin 1024) (j : Fin 512) :
    (outsAt0 m c t.val t.isLt).2.1 (ix3 s k j) = (outsAt0 m c t.val t.isLt).2.2.2.2.1 (ix3 s k j) := by
  rw [outsAt0_C m c t (by omega) h1]
  frame_out
  rw [cov_whole _ _ _ (by decide)]
  pointwise [k0_pay1]

theorem last_wo (t : Fin cfg0.N) (h1 : t.val % 8 = 7) (j : Fin 512) (l : Fin 1024) :
    (outsAt0 m c t.val t.isLt).2.2.1 (ix2 j l) = (outsAt0 m c t.val t.isLt).2.2.2.2.2.1 (ix2 j l) := by
  rw [outsAt0_C m c t (by omega) h1]
  frame_out
  pointwise [k0_pay2]

theorem last_k (t : Fin cfg0.N) (h1 : t.val % 8 = 7) (r : Fin 3) (j : Fin 512) :
    (outsAt0 m c t.val t.isLt).2.2.2.1 (ix2 r j) = (outsAt0 m c t.val t.isLt).2.2.2.2.2.2.1 (ix2 (r.castLE (by decide)) j) := by
  rw [outsAt0_C m c t (by omega) h1]
  frame_out
  simp only [read_unread_whole]
  rw [View.readCov_eq_canon']
  have e : ∀ x : Vec Ideal S8x512 .f32, View.ld x (Rect.unit ![0, 0] ![3, 512] inb_S8x512_S3x512_0_0) (ix2 r j) = x (ix2 (r.castLE (by decide)) j) := fun x => by
    pointwise
    rfl
  refine (e _).trans ?_
  match r with
  | 0 =>
    refine (rows_canon _ _ _ _ _ _ _ j).1.trans ?_
    symm
    exact (rows _ _ _ _ _ _ _ _ _ j).1
  | 1 =>
    refine (rows_canon _ _ _ _ _ _ _ j).2.1.trans ?_
    symm
    exact (rows _ _ _ _ _ _ _ _ _ j).2.1
  | 2 =>
    refine (rows_canon _ _ _ _ _ _ _ j).2.2.trans ?_
    symm
    exact (rows _ _ _ _ _ _ _ _ _ j).2.2

omit h in
/-- Eight blocks of rows, the last one first, are all rows. -/
theorem total (f : (n : ℕ) → n < cfg0.N → EReal) (g : Fin 1024 → Fin 4096 → ℝ) (j : Fin 512)
    (h0 : ∀ t : Fin cfg0.N, t.val % 8 = 0 → f t.val t.isLt = (0 : EReal) + ((∑ p, g (col t j) (row t p) : ℝ) : EReal))
    (hs : ∀ t : Fin cfg0.N, ¬t.val % 8 = 0 → f t.val t.isLt = f (t.val - 1) (Nat.lt_of_le_of_lt (Nat.sub_le _ _) t.isLt) + ((∑ p, g (col t j) (row t p) : ℝ) : EReal))
    (t : Fin cfg0.N) (h1 : t.val % 8 = 7) : f t.val t.isLt = ((∑ i, g (col t j) i : ℝ) : EReal) := by
  rw [Pipeline.eq_sum_fin_of_reset_step_of_flush f 8 0 (fun t => ((∑ p, g (col t j) (row t p) : ℝ) : EReal)) h0 hs t h1, zero_add, coe_sum]
  refine congrArg _ ?_
  rw [Fin.sum_univ_tiles 8 512 rfl (g (col t j)), ← Equiv.sum_comp Fin.revPerm]
  refine Finset.sum_congr rfl fun s _ => Finset.sum_congr rfl fun p _ => ?_
  refine congrArg₂ g (Fin.ext ?_) (Fin.ext ?_)
  · simp only [col]
    omega
  · simp [row, Fin.rev]
    omega

theorem emb6 (t : Fin cfg0.N) (s : Fin 3) (p j : Fin 512) : ((cfg0.win 6).blk t).view.emb (ix3 s p j) = ix3 s (row t p) (col t j) := by
  unfold row col
  blk_ext [idx t]

theorem emb7 (t : Fin cfg0.N) (s : Fin 3) (k : Fin 1024) (j : Fin 512) : ((cfg0.win 7).blk t).view.emb (ix3 s k j) = ix3 s k (col t j) := by
  unfold col
  blk_ext [idx t]

theorem emb8 (t : Fin cfg0.N) (j : Fin 512) (l : Fin 1024) : ((cfg0.win 8).blk t).view.emb (ix2 j l) = ix2 (col t j) l := by
  unfold col
  blk_ext [idx t]

theorem emb9 (t : Fin cfg0.N) (r : Fin 3) (j : Fin 512) : ((cfg0.win 9).blk t).view.emb (ix2 r j) = ix2 r (col t j) := by
  unfold col
  blk_ext [idx t]

theorem result_du : (dats m 0 c).arrAt 6 (cfgs 0).N = fun i : S3x4096x1024.Idx => (du X Wi K Wo D (i 0) (i 1) (i 2) : EReal) := by
  refine (dats m 0 c).arrAt_eq_of_covers 6 _ (by decide +kernel) fun t hf y => ?_
  have e := emb6 m c h t (y 0) (y 1) (y 2)
  rw [← eq_ix3 y] at e
  rw [e]
  blk_simp
  rw [after0_6]
  idx_vars y
  exact after6 m c h t y0 y1 y2

theorem result_wi : (dats m 0 c).arrAt 7 (cfgs 0).N = fun i : S3x1024x1024.Idx => (dwi X Wi K Wo D (i 0) (i 1) (i 2) : EReal) := by
  refine (dats m 0 c).arrAt_eq_of_covers 7 _ (by decide +kernel) fun t hf y => ?_
  have h1 : t.val % 8 = 7 := (flush0_7 t).mp hf
  have e := emb7 m c h t (y 0) (y 1) (y 2)
  rw [← eq_ix3 y] at e
  rw [e]
  blk_simp
  rw [after0_7]
  idx_vars y
  exact (last_wi m c h t h1 y0 y1 y2).trans (total (fun n hn => (outsAt0 m c n hn).2.2.2.2.1 (ix3 y0 y1 y2)) (fun j i => X i y1 * du X Wi K Wo D y0 i j) y2
    (fun t => (after_wi m c h t y0 y1 y2).1) (fun t => (after_wi m c h t y0 y1 y2).2) t h1)

theorem result_wo : (dats m 0 c).arrAt 8 (cfgs 0).N = fun i : S1024x1024.Idx => (dwo X Wi K D (i 0) (i 1) : EReal) := by
  refine (dats m 0 c).arrAt_eq_of_covers 8 _ (by decide +kernel) fun t hf y => ?_
  have h1 : t.val % 8 = 7 := (flush0_8 t).mp hf
  have e := emb8 m c h t (y 0) (y 1)
  rw [← eq_ix2 y] at e
  rw [e]
  blk_simp
  rw [after0_8]
  idx_vars y
  exact (last_wo m c h t h1 y0 y1).trans (total (fun n hn => (outsAt0 m c n hn).2.2.2.2.2.1 (ix2 y0 y1)) (fun j i => u X Wi 0 i j * q X Wi K i j * D i y1) y0
    (fun t => (after_wo m c h t y0 y1).1) (fun t => (after_wo m c h t y0 y1).2) t h1)

theorem result_k : (dats m 0 c).arrAt 9 (cfgs 0).N = fun i : S3x1024.Idx => (dk X Wi Wo D (i 0) (i 1) : EReal) := by
  refine (dats m 0 c).arrAt_eq_of_covers 9 _ (by decide +kernel) fun t hf y => ?_
  have h1 : t.val % 8 = 7 := (flush0_9 t).mp hf
  have e := emb9 m c h t (y 0) (y 1)
  rw [← eq_ix2 y] at e
  rw [e]
  blk_simp
  rw [after0_9]
  idx_vars y
  exact (last_k m c h t h1 y0 y1).trans (total (fun n hn => (outsAt0 m c n hn).2.2.2.2.2.2.1 (ix2 (y0.castLE (by decide)) y1))
    (fun j i => eq X Wi Wo D j (i.val + (2 - y0.val)) * p X Wi i j) y1
    (fun t => (after_k m c h t y0 y1).1) (fun t => (after_k m c h t y0 y1).2) t h1)

end After

/-- The results at the end of the call, the arguments unchanged. -/
theorem run_at (g : Dev nD → PrngReg) : θ_run defs (onTc (τ := τ) (main (F := Ideal))) ⟨m, fun _ => 0, g⟩ (fun r => ∀ c : Dev nD,
      r.2.mem ((c.tc : Thread nD τ).loc main_v40_0) = (dats m 0 c).arrAt 6 (cfgs 0).N
      ∧ r.2.mem ((c.tc : Thread nD τ).loc main_v40_1) = (dats m 0 c).arrAt 7 (cfgs 0).N
      ∧ r.2.mem ((c.tc : Thread nD τ).loc main_v40_2) = (dats m 0 c).arrAt 8 (cfgs 0).N
      ∧ r.2.mem ((c.tc : Thread nD τ).loc main_v40_3) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 6, (h.1 c).1 7, (h.1 c).1 8, (h.1 c).1 9, h.2 c⟩) (θ_run_and (run_main m g) (unchanged m g))

end Cert.MixerIdeal.Proof

end
-- ==== Proof.MixerRef.lean ====
module

public import proofs.«01_k».proof.Proof.Gen.MixerRefIdeal.Read
public import proofs.«01_k».proof.Proof.MixerMath
public import Idealize.ShloMosaic.Lib.Pointwise

/-! The mixer's reference over real inputs. -/

@[expose] public section

set_option maxRecDepth 16384

noncomputable section

namespace Cert.MixerRefIdeal.Proof

open Cert.MixerRefIdeal Cert.MixerRefIdeal.Gen Cert.MixerRefIdeal.Read Idealize.ShloMosaic Idealize.ShloMosaic.TcCoe Idealize.SL.Sem
open Cert.Reals Cert.Shift Cert.MixerMath

variable {x0 : FVec Ideal S4096x1024 .f32} {x1 : FVec Ideal S1024x3072 .f32} {x2 : FVec Ideal S3x1024 .f32} {x3 : FVec Ideal S1024x1024 .f32} {x4 : FVec Ideal S4096x1024 .f32}
variable {X : Rows 4096 1024} {Wi : Rows 1024 3072} {K : Rows 3 1024} {Wo : Rows 1024 1024} {D : Rows 4096 1024}

section Forward

variable (hx : ∀ i k, x0 (ix2 i k) = (X i k : EReal)) (hw : ∀ i k, x1 (ix2 i k) = (Wi i k : EReal)) (hk : ∀ i k, x2 (ix2 i k) = (K i k : EReal))
include hx hw

theorem wide (i : Fin 4096) (k : Fin 3072) : val_main_v0 (F := Ideal) x0 x1 (ix2 i k) = ((∑ l, X i l * Wi l k : ℝ) : EReal) := by
  pointwise [val_main_v0, hx, hw]
  simp only [← EReal.coe_mul, coe_sum]

theorem proj_b (i : Fin 4096) (j : Fin 1024) : val_main_v1 (F := Ideal) x0 x1 (ix2 i j) = (u X Wi 0 i j : EReal) := by
  pointwise [val_main_v1, wide hx hw]
  simp [u]

theorem proj_c (i : Fin 4096) (j : Fin 1024) : val_main_v2 (F := Ideal) x0 x1 (ix2 i j) = (u X Wi 1 i j : EReal) := by
  pointwise [val_main_v2, wide hx hw]
  simp [u]

theorem proj_h (i : Fin 4096) (j : Fin 1024) : val_main_v3 (F := Ideal) x0 x1 (ix2 i j) = (u X Wi 2 i j : EReal) := by
  pointwise [val_main_v3, wide hx hw]
  simp [u]

theorem gated (i : Fin 4096) (j : Fin 1024) : val_main_v4 (F := Ideal) x0 x1 (ix2 i j) = (p X Wi i j : EReal) := by
  pointwise [val_main_v4, proj_c hx hw, proj_h hx hw]
  rw [← EReal.coe_mul]
  rfl

theorem down2 (i : Fin 4096) (j : Fin 1024) : val_main_v9 (F := Ideal) x0 x1 (ix2 i j) = (down 2 (fun i => p X Wi i j) i : EReal) := by
  pointwise [val_main_v9, val_main_v8, val_main_v7, val_main_cst, gated hx hw]
  unfold down
  split <;> split
  · omega
  · rfl
  · rfl
  · omega

theorem down1 (i : Fin 4096) (j : Fin 1024) : val_main_v18 (F := Ideal) x0 x1 (ix2 i j) = (down 1 (fun i => p X Wi i j) i : EReal) := by
  pointwise [val_main_v18, val_main_v17, val_main_v16, val_main_cst_1, gated hx hw]
  unfold down
  split <;> split
  · omega
  · rfl
  · rfl
  · omega

include hk

theorem conv (i : Fin 4096) (j : Fin 1024) : val_main_v29 (F := Ideal) x0 x1 x2 (ix2 i j) = (q X Wi K i j : EReal) := by
  pointwise [val_main_v29, val_main_v28, val_main_v27, val_main_v26, val_main_v25, val_main_v24, val_main_v23, val_main_v22, val_main_v21, val_main_v20, val_main_v15, val_main_v14,
    val_main_v13, val_main_v12, val_main_v11, val_main_v6, val_main_v5, down2 hx hw, down1 hx hw, gated hx hw, hk]
  simp only [← EReal.coe_mul, ← EReal.coe_add]
  rfl

theorem result_wo (hd : ∀ i k, x4 (ix2 i k) = (D i k : EReal)) : val_main_v82 (F := Ideal) x0 x1 x2 x4 = fun i => (dwo X Wi K D (i 0) (i 1) : EReal) := by
  funext i
  idx_vars i
  pointwise [val_main_v82, val_main_v33, val_main_v32, val_main_v30, proj_b hx hw, conv hx hw hk, hd]
  simp only [← EReal.coe_mul, coe_sum]
  unfold dwo
  refine congrArg _ (Finset.sum_congr rfl fun i _ => ?_)
  ring

end Forward

section Backward

variable (hx : ∀ i k, x0 (ix2 i k) = (X i k : EReal)) (hw : ∀ i k, x1 (ix2 i k) = (Wi i k : EReal)) (hk : ∀ i k, x2 (ix2 i k) = (K i k : EReal))
  (ho : ∀ i k, x3 (ix2 i k) = (Wo i k : EReal)) (hd : ∀ i k, x4 (ix2 i k) = (D i k : EReal))

include ho hd in
theorem grad_z (i : Fin 4096) (j : Fin 1024) : val_main_v34 (F := Ideal) x3 x4 (ix2 i j) = (dz Wo D i j : EReal) := by
  pointwise [val_main_v34, ho, hd]
  simp only [← EReal.coe_mul, coe_sum]
  rfl

include hx hw ho hd

theorem grad_q (i : Fin 4096) (j : Fin 1024) : val_main_v35 (F := Ideal) x0 x1 x3 x4 (ix2 i j) = (dq X Wi Wo D i j : EReal) := by
  pointwise [val_main_v35, proj_b hx hw, grad_z ho hd]
  rw [← EReal.coe_mul, mul_comm]
  rfl

/-- A row of the taps' gradient: the products' column sums. -/
theorem tap2 (j : Fin 1024) (z : Fin 1) : val_main_v43 (F := Ideal) x0 x1 x3 x4 (ix2 z j) = (dk X Wi Wo D 2 j : EReal) := by
  pointwise [val_main_v43, val_main_v42, val_main_v41, val_main_v40, val_main_v39, val_main_cst_3, val_main_cst_4, grad_q hx hw ho hd, gated hx hw]
  simp only [← EReal.coe_mul, coe_sum, zero_add, Fin.sum_univ_one]
  unfold dk eq
  refine congrArg _ (Finset.sum_congr rfl fun i _ => ?_)
  exact congrArg (· * _) (ext_val (fun i => dq X Wi Wo D i j) i).symm

theorem tap1 (j : Fin 1024) (z : Fin 1) : val_main_v55 (F := Ideal) x0 x1 x3 x4 (ix2 z j) = (dk X Wi Wo D 1 j : EReal) := by
  pointwise [val_main_v55, val_main_v50, val_main_v49, val_main_v48, val_main_v47, val_main_cst_6, val_main_cst_7, grad_q hx hw ho hd, down1 hx hw]
  simp only [← EReal.coe_mul, coe_sum, zero_add, Fin.sum_univ_one]
  exact congrArg _ (sum_down 1 (fun i => dq X Wi Wo D i j) (fun i => p X Wi i j))

theorem tap0 (j : Fin 1024) (z : Fin 1) : val_main_v68 (F := Ideal) x0 x1 x3 x4 (ix2 z j) = (dk X Wi Wo D 0 j : EReal) := by
  pointwise [val_main_v68, val_main_v63, val_main_v62, val_main_v61, val_main_v60, val_main_cst_10, val_main_cst_11, grad_q hx hw ho hd, down2 hx hw]
  simp only [← EReal.coe_mul, coe_sum, zero_add, Fin.sum_univ_one]
  exact congrArg _ (sum_down 2 (fun i => dq X Wi Wo D i j) (fun i => p X Wi i j))

theorem result_k : val_main_v70 (F := Ideal) x0 x1 x3 x4 = fun i => (dk X Wi Wo D (i 0) (i 1) : EReal) := by
  funext i
  idx_vars i
  pointwise [val_main_v70, val_main_v69, val_main_v57, val_main_v56, val_main_v44, val_main_cst_5, val_main_cst_9, val_main_cst_13, tap0 hx hw ho hd, tap1 hx hw ho hd, tap2 hx hw ho hd]
  fin_cases i0 <;> simp

include hk

theorem grad_p (i : Fin 4096) (j : Fin 1024) : val_main_v67 (F := Ideal) x0 x1 x2 x3 x4 (ix2 i j) = (dp X Wi K Wo D i j : EReal) := by
  pointwise [val_main_v67, val_main_v66, val_main_v65, val_main_v59, val_main_v58, val_main_v54, val_main_v53, val_main_v52, val_main_v46, val_main_v45, val_main_v38, val_main_v37,
    val_main_v26, val_main_v25, val_main_v24, val_main_v20, val_main_v15, val_main_v14, val_main_v11, val_main_v6, val_main_v5, val_main_cst_8, val_main_cst_12, grad_q hx hw ho hd, hk]
  unfold dp eq
  have e : ∀ (r : Fin 3) (n : ℕ), (if h : i.val < 4096 - n then ((K r j : EReal)) * (dq X Wi Wo D ⟨n + i.val, by omega⟩ j : EReal) else 0)
      = ((K r j * ext (fun i => dq X Wi Wo D i j) (i.val + n) : ℝ) : EReal) := fun r n => by
    split
    · rw [ext_of_lt _ (by omega : i.val + n < 4096), ← EReal.coe_mul]
      simp only [Nat.add_comm]
    · rw [ext_of_le _ (by omega), mul_zero, EReal.coe_zero]
  rw [ext_val, EReal.coe_add, EReal.coe_add, ← e 1 1, ← e 0 2, EReal.coe_mul]

theorem grads (s : Fin 3) (i : Fin 4096) (j : Fin 1024) :
    val_main_v73 (F := Ideal) x0 x1 x2 x3 x4 (ix2 i ⟨s.val * 1024 + j.val, by omega⟩) = (du X Wi K Wo D s i j : EReal) := by
  match s with
  | 0 =>
    pointwise [val_main_v73, val_main_v36, grad_z ho hd, conv hx hw hk]
    rw [← EReal.coe_mul]
    rfl
  | 1 =>
    pointwise [val_main_v73, val_main_v72, grad_p hx hw hk ho hd, proj_h hx hw]
    rw [← EReal.coe_mul]
    rfl
  | 2 =>
    pointwise [val_main_v73, val_main_v71, grad_p hx hw hk ho hd, proj_c hx hw]
    rw [dif_neg (by omega), dif_neg (by omega)]
    simp only [show 2048 + j.val - 1024 - 1024 = j.val by omega]
    rw [← EReal.coe_mul, mul_comm]
    rfl

theorem result_du : val_main_v78 (F := Ideal) x0 x1 x2 x3 x4 = fun i => (du X Wi K Wo D (i 0) (i 1) (i 2) : EReal) := by
  funext i
  idx_vars i
  rw [← grads hx hw hk ho hd]
  pointwise [val_main_v78, val_main_v77, val_main_v76]

theorem result_wi : val_main_v81 (F := Ideal) x0 x1 x2 x3 x4 = fun i => (dwi X Wi K Wo D (i 0) (i 1) (i 2) : EReal) := by
  funext i
  idx_vars i
  unfold dwi
  rw [← coe_sum]
  simp only [EReal.coe_mul, ← grads hx hw hk ho hd]
  pointwise [val_main_v81, val_main_v80, val_main_v79, val_main_v75, val_main_v74, hx]
  exact Finset.sum_congr rfl fun i _ => mul_comm _ _

end Backward

end Cert.MixerRefIdeal.Proof

end
-- ==== Proof.MixerPre.lean ====
module

public import proofs.«01_k».proof.Pre_mixer_finite
public import proofs.«01_k».proof.Proof.Reals
public import Idealize.ShloMosaic.Lib.Pointwise

@[expose] public section

set_option maxRecDepth 16384

noncomputable section

namespace Cert.Pre_mixer_finite.Proof

open Cert.Pre_mixer_finite Idealize.ShloMosaic Cert.Reals

variable [Facts]

/-- The precondition says that every argument is an array of reals. -/
theorem reals (x0 : FVec Ideal S4096x1024 .f32) (x1 : FVec Ideal S1024x3072 .f32) (x2 : FVec Ideal S3x1024 .f32) (x3 : FVec Ideal S1024x1024 .f32) (x4 : FVec Ideal S4096x1024 .f32)
    (e : fn (F := Ideal) x0 x1 x2 x3 x4 = fun _ => 1#1) :
    (∃ r : S4096x1024.Idx → ℝ, x0 = fun i => (r i : EReal)) ∧ (∃ r : S1024x3072.Idx → ℝ, x1 = fun i => (r i : EReal))
    ∧ (∃ r : S3x1024.Idx → ℝ, x2 = fun i => (r i : EReal)) ∧ (∃ r : S1024x1024.Idx → ℝ, x3 = fun i => (r i : EReal))
    ∧ (∃ r : S4096x1024.Idx → ℝ, x4 = fun i => (r i : EReal)) := by
  have e0 := congrFun e ix0
  unfold fn fn_part1 at e0
  dsimp only at e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3, reals_of_finite _ _ _ _ _ _ h4⟩

end Cert.Pre_mixer_finite.Proof

end
-- ==== Proof.MixerClaim.lean ====
module

public import proofs.«01_k».proof.Defs
public import proofs.«01_k».proof.Proof.MixerKernel
public import proofs.«01_k».proof.Proof.MixerRef
public import proofs.«01_k».proof.Proof.MixerPre
public import proofs.«01_k».proof.Proof.Gen.MixerRefIdeal.Run
public import proofs.«01_k».proof.Proof.Gen.Pre_mixer_finite
public import Idealize.ShloMosaic.Lib.Claim

@[expose] public section

set_option maxRecDepth 16384

noncomputable section

namespace Cert.Proof

open Idealize.ShloMosaic Idealize.SL.Sem

set_option maxHeartbeats 1600000 in
theorem mixer : Cert.algebraic_MixerIdeal_MixerRefIdeal_pre_mixer_finite (hMixerIdeal := Cert.MixerIdeal.Gen.facts)
    (hMixerRefIdeal := Cert.MixerRefIdeal.Gen.facts) (hPre_mixer_finite := Cert.Pre_mixer_finite.Gen.facts) := by
  intro m g m' g' hpre hagree
  have hr := fun c => Cert.Pre_mixer_finite.Proof.reals _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2
  have hk := fun c => Cert.MixerIdeal.Proof.Reals.mk (m := m) (c := c) (fun i k => congrFun (h0 c) (ix2 i k)) (fun i k => congrFun (h1 c) (ix2 i k))
    (fun i k => congrFun (h2 c) (ix2 i k)) (fun i k => congrFun (h3 c) (ix2 i k)) (fun i k => congrFun (h4 c) (ix2 i k))
  refine ⟨fun c => (Cert.MixerIdeal.Gen.dats m 0 c).arrAt 6 (Cert.MixerIdeal.cfgs 0).N, fun c => (Cert.MixerIdeal.Gen.dats m 0 c).arrAt 7 (Cert.MixerIdeal.cfgs 0).N,
    fun c => (Cert.MixerIdeal.Gen.dats m 0 c).arrAt 8 (Cert.MixerIdeal.cfgs 0).N, fun c => (Cert.MixerIdeal.Gen.dats m 0 c).arrAt 9 (Cert.MixerIdeal.cfgs 0).N, ?_, ?_⟩
  · exact Cert.MixerIdeal.Proof.run_at m g
  · run_from Cert.MixerRefIdeal.Value.run m' g'
    · obtain ⟨a0, a1, a2, a3, a4⟩ := hagree c
      rw [Cert.MixerRefIdeal.Read.val_main_v78_eq m' c, a0, a1, a2, a3, a4, Cert.MixerIdeal.Proof.result_du m c (hk c)]
      exact Cert.MixerRefIdeal.Proof.result_du (hk c).x (hk c).wi (hk c).k (hk c).wo (hk c).d
    · obtain ⟨a0, a1, a2, a3, a4⟩ := hagree c
      rw [Cert.MixerRefIdeal.Read.val_main_v81_eq m' c, a0, a1, a2, a3, a4, Cert.MixerIdeal.Proof.result_wi m c (hk c)]
      exact Cert.MixerRefIdeal.Proof.result_wi (hk c).x (hk c).wi (hk c).k (hk c).wo (hk c).d
    · exact (Cert.MixerRefIdeal.Read.val_main_v82_eq _ _ _ _).trans
        ((Cert.MixerRefIdeal.Proof.result_wo (hk c).x (hk c).wi (hk c).k (hk c).d).trans (Cert.MixerIdeal.Proof.result_wo m c (hk c)).symm)
    · obtain ⟨a0, a1, a2, a3, a4⟩ := hagree c
      rw [Cert.MixerRefIdeal.Read.val_main_v70_eq m' c, a0, a1, a3, a4, Cert.MixerIdeal.Proof.result_k m c (hk c)]
      exact Cert.MixerRefIdeal.Proof.result_k (hk c).x (hk c).wi (hk c).wo (hk c).d

end Cert.Proof

end
-- ==== Proof.FfnMath.lean ====
module

public import proofs.«01_k».proof.Proof.Shift
public import proofs.«01_k».proof.Proof.Reals

/-! The gated feed-forward and its gradients over the reals: `v` the three-tap causal convolution of a row's 5632 projections `u` by columns, the first half of its columns the gate, and the product of the gated half with the output weight. -/

@[expose] public section

set_option maxRecDepth 16384

noncomputable section

namespace Cert.FfnMath

open Cert.Shift Idealize.ShloMosaic
open scoped BigOperators

abbrev Rows (n k : ℕ) := Fin n → Fin k → ℝ

/-- Column `j` of the gate's half and of the other one. -/
def lo (j : Fin 2816) : Fin 5632 := ⟨j.val, by omega⟩
def hi (j : Fin 2816) : Fin 5632 := ⟨2816 + j.val, by omega⟩

/-- Column `j` of chunk `q` in half `s`, and in one half. -/
def wide (s : Fin 2) (q : Fin 4) (j : Fin 704) : Fin 5632 := ⟨s.val * 2816 + q.val * 704 + j.val, by omega⟩
def narrow (q : Fin 4) (j : Fin 704) : Fin 2816 := ⟨q.val * 704 + j.val, by omega⟩

theorem wide_zero (q : Fin 4) (j : Fin 704) : wide 0 q j = lo (narrow q j) := Fin.ext (by simp [wide, lo, narrow])
theorem wide_one (q : Fin 4) (j : Fin 704) : wide 1 q j = hi (narrow q j) := Fin.ext (by simp [wide, hi, narrow]; omega)

def sg (x : ℝ) : ℝ := 1 / (1 + Real.exp (-x))

theorem sg_of (x : ℝ) : Ideal.div (1 : EReal) (1 + Ideal.exp (-(x : EReal))) = (sg x : EReal) := by
  rw [← EReal.coe_neg, Ideal.exp_coe, Cert.Reals.one_eq_coe, ← EReal.coe_add, Cert.Reals.div_coe_coe (by positivity)]
  rfl

variable (X : Rows 4096 1024) (Wu : Rows 1024 5632) (K : Rows 3 5632) (Wd : Rows 2816 1024) (D : Rows 4096 1024)

def u (i : Fin 4096) (k : Fin 5632) : ℝ := ∑ l, X i l * Wu l k

def v (i : Fin 4096) (k : Fin 5632) : ℝ :=
  K 0 k * down 2 (fun i => u X Wu i k) i + K 1 k * down 1 (fun i => u X Wu i k) i + K 2 k * u X Wu i k

def act (i : Fin 4096) (j : Fin 2816) : ℝ := v X Wu K i (lo j) * sg (v X Wu K i (lo j)) * v X Wu K i (hi j)

/-- The gradient of the gated half. -/
def da (i : Fin 4096) (j : Fin 2816) : ℝ := ∑ l, D i l * Wd j l

def dg (i : Fin 4096) (j : Fin 2816) : ℝ :=
  da Wd D i j * v X Wu K i (hi j) * (sg (v X Wu K i (lo j)) + v X Wu K i (lo j) * sg (v X Wu K i (lo j)) * (1 - sg (v X Wu K i (lo j))))

def dc (i : Fin 4096) (j : Fin 2816) : ℝ := da Wd D i j * (v X Wu K i (lo j) * sg (v X Wu K i (lo j)))

/-- The gradient of the convolution. -/
def dv (i : Fin 4096) (k : Fin 5632) : ℝ :=
  if h : k.val < 2816 then dg X Wu K Wd D i ⟨k.val, h⟩ else dc X Wu K Wd D i ⟨k.val - 2816, by omega⟩

theorem dv_lo (i : Fin 4096) (j : Fin 2816) : dv X Wu K Wd D i (lo j) = dg X Wu K Wd D i j := by
  unfold dv
  rw [dif_pos (show (lo j).val < 2816 from j.isLt)]
  rfl

theorem dv_hi (i : Fin 4096) (j : Fin 2816) : dv X Wu K Wd D i (hi j) = dc X Wu K Wd D i j := by
  unfold dv
  rw [dif_neg (show ¬ (hi j).val < 2816 from Nat.not_lt.mpr (Nat.le_add_right _ _))]
  congr 1
  exact Fin.ext (by simp [hi])

/-- Its column `k` at any row. -/
def e (k : Fin 5632) (i : ℕ) : ℝ := ext (fun i => dv X Wu K Wd D i k) i

/-- The gradient of the projections. -/
def du (i : Fin 4096) (k : Fin 5632) : ℝ :=
  K 2 k * e X Wu K Wd D k i.val + K 1 k * e X Wu K Wd D k (i.val + 1) + K 0 k * e X Wu K Wd D k (i.val + 2)

def dwu (l : Fin 1024) (k : Fin 5632) : ℝ := ∑ i, X i l * du X Wu K Wd D i k

def dwd (j : Fin 2816) (l : Fin 1024) : ℝ := ∑ i, act X Wu K i j * D i l

def dk (r : Fin 3) (k : Fin 5632) : ℝ := ∑ i : Fin 4096, e X Wu K Wd D k (i.val + (2 - r.val)) * u X Wu i k

end Cert.FfnMath

end
-- ==== Proof.FfnPay.lean ====
module

public import proofs.«01_k».proof.Proof.Gen.FfnIdeal.Value
public import proofs.«01_k».proof.Proof.FfnMath
public import Idealize.ShloMosaic.Lib.Pipeline.ValueKit
public import Idealize.ShloMosaic.Lib.Pointwise
public import Idealize.ShloMosaic.Lib.WordCmp

/-! What the gated feed-forward's backward kernel stores, over blocks of reals. -/

@[expose] public section

set_option maxRecDepth 16384

noncomputable section

namespace Cert.FfnIdeal.Proof

open Cert.FfnIdeal Cert.FfnIdeal.Gen Idealize.ShloMosaic Idealize.ShloMosaic.TcCoe Idealize.SL.Sem
open Cert.Reals Cert.FfnMath

theorem select_eq {α : Type} (p : Fin 512) (n : ℕ) (hn : n < 512) (a b : α) :
    Scalar.select (IntOp.cmpi CmpIPredicate.eq (BitVec.ofNat 32 p.val) (BitVec.ofNat 32 n)) a b = if p.val = n then a else b := by
  unfold Scalar.select
  rw [WordCmp.cmpi_eq_eq]
  have : (BitVec.ofNat 32 p.val = BitVec.ofNat 32 n) ↔ p.val = n := by
    rw [← BitVec.toNat_inj, BitVec.toNat_ofNat, BitVec.toNat_ofNat]
    omega
  by_cases h : p.val = n
  · rw [decide_eq_true (this.2 h), if_pos h]; rfl
  · rw [decide_eq_false fun e => h (this.1 e), if_neg h]; rfl

theorem pay_da {v3 : Vec Ideal S512x1024 .f32} {v5 : Vec Ideal S1x704x1024 .bf16} {D : Rows 512 1024} {Wd : Rows 704 1024}
    (h3 : ∀ p l, v3 (ix2 p l) = (D p l : EReal)) (h5 : ∀ j l, v5 (ix3 0 j l) = (Wd j l : EReal)) (p : Fin 512) (j : Fin 704) :
    k0_pay11 (F := Ideal) v3 v5 (ix2 p j) = ((∑ l, D p l * Wd j l : ℝ) : EReal) := by
  pointwise [k0_pay11, k0_pay10, h3, h5]
  simp only [← EReal.coe_mul, coe_sum]

theorem pay_down {v3 : Vec Ideal S512x1024 .f32} {v8 : Vec Ideal S704x1024 .f32} {v9 : Vec Ideal S1x512x704 .bf16} {D : Rows 512 1024} {A : Rows 512 704}
    (h3 : ∀ p l, v3 (ix2 p l) = (D p l : EReal)) (h9 : ∀ p j, v9 (ix3 0 p j) = (A p j : EReal)) (j : Fin 704) (l : Fin 1024) :
    k0_pay12 (F := Ideal) v3 v8 v9 (ix2 j l) = v8 (ix2 j l) + ((∑ p, A p j * D p l : ℝ) : EReal) := by
  pointwise [k0_pay12, k0_pay10, h3, h9]
  simp only [← EReal.coe_mul, coe_sum]

theorem pay_sigma {v16 : Vec Ideal S1x1x512x704 .bf16} {G : Rows 512 704} (h : ∀ p j, v16 (ix4 0 0 p j) = (G p j : EReal)) (p : Fin 512) (j : Fin 704) :
    k0_pay15 (F := Ideal) v16 (ix2 p j) = (sg (G p j) : EReal) := by
  pointwise [k0_pay15, k0_pay13, h]
  rw [← sg_of]
  simp only [zero_sub]

section Gate

variable {v7 v18 v21 v28 : FVec Ideal S512x704 .f32} {A G C S : Rows 512 704} (h7 : ∀ p j, v7 (ix2 p j) = (A p j : EReal)) (h18 : ∀ p j, v18 (ix2 p j) = (G p j : EReal))
  (h28 : ∀ p j, v28 (ix2 p j) = (S p j : EReal))
include h7 h18 h28

theorem pay_other (p : Fin 512) (j : Fin 704) : k0_pay18 (F := Ideal) v7 v18 v28 (ix2 p j) = ((A p j * (G p j * S p j) : ℝ) : EReal) := by
  pointwise [k0_pay18, k0_pay16, h7, h18, h28]
  simp only [← EReal.coe_mul]

theorem pay_gate (h21 : ∀ p j, v21 (ix2 p j) = (C p j : EReal)) (p : Fin 512) (j : Fin 704) :
    k0_pay17 (F := Ideal) v7 v18 v21 v28 (ix2 p j) = ((A p j * C p j * (S p j + G p j * S p j * (1 - S p j)) : ℝ) : EReal) := by
  pointwise [k0_pay17, k0_pay16, h7, h18, h28, h21]
  simp only [one_eq_coe, ← EReal.coe_mul, ← EReal.coe_sub, ← EReal.coe_add]

end Gate

section Taps

variable {d : FVec Ideal S512x704 .f32} {E : Fin 704 → ℕ → ℝ} {c0 c1 : Vec Ideal S1x1x704 .f32}
  (hd : ∀ p j, d (ix2 p j) = (E j p.val : EReal)) (h0 : ∀ j, c0 (ix3 0 0 j) = (E j 512 : EReal))
include hd

theorem pay_carry (r : Fin 8) (j : Fin 704) : k0_pay44 (F := Ideal) d (ix3 0 r j) = (E j r.val : EReal) := by
  pointwise [k0_pay44, hd]

include h0

theorem pay_up1 (p : Fin 512) (j : Fin 704) : k0_pay41 (F := Ideal) d c0 (ix2 p j) = (E j (p.val + 1) : EReal) := by
  pointwise [k0_pay41, hd, h0]
  refine (select_eq p 511 (by omega) _ _).trans ?_
  split
  · next h => rw [h]
  · next h => rw [show (p.val + 512 - 511) % 512 = p.val + 1 by omega]

theorem pay_up2 (h1 : ∀ j, c1 (ix3 0 0 j) = (E j 513 : EReal)) (p : Fin 512) (j : Fin 704) : k0_pay42 (F := Ideal) d c0 c1 (ix2 p j) = (E j (p.val + 2) : EReal) := by
  pointwise [k0_pay42, hd, h0, h1]
  refine (select_eq p 511 (by omega) _ _).trans ?_
  split
  · next h => rw [h]
  · next h =>
    refine (select_eq p 510 (by omega) _ _).trans ?_
    split
    · next h => rw [h]
    · next h' => rw [show (p.val + 512 - 510) % 512 = p.val + 2 by omega]

theorem pay_du (h1 : ∀ j, c1 (ix3 0 0 j) = (E j 513 : EReal)) {w0 w1 w2 : Vec Ideal S1x1x704 .f32} {K : Rows 3 704}
    (k0 : ∀ j, w0 (ix3 0 0 j) = (K 0 j : EReal)) (k1 : ∀ j, w1 (ix3 0 0 j) = (K 1 j : EReal)) (k2 : ∀ j, w2 (ix3 0 0 j) = (K 2 j : EReal)) (p : Fin 512) (j : Fin 704) :
    k0_pay43 (F := Ideal) d (k0_pay38 w0) (k0_pay39 w1) (k0_pay40 w2) c0 c0 c1 (ix2 p j)
      = ((K 2 j * E j p.val + K 1 j * E j (p.val + 1) + K 0 j * E j (p.val + 2) : ℝ) : EReal) := by
  pointwise [k0_pay43, k0_pay38, k0_pay39, k0_pay40, pay_up1 hd h0, pay_up2 hd h0 h1, hd, k0, k1, k2]
  simp only [← EReal.coe_mul, ← EReal.coe_add]

end Taps

/-- A row of the taps' gradient: the three rows are one function. -/
theorem pay_tap {s : FVec Ideal S512x704 .f32} {u : Vec Ideal S1x1x512x704 .bf16} {E U : Rows 512 704} (hs : ∀ p j, s (ix2 p j) = (E p j : EReal))
    (hu : ∀ p j, u (ix4 0 0 p j) = (U p j : EReal)) (a : Vec Ideal S1x1x704 .f32) (j : Fin 704) :
    k0_pay46 (F := Ideal) s u a (ix3 0 0 j) = a (ix3 0 0 j) + ((∑ p, E p j * U p j : ℝ) : EReal) := by
  pointwise [k0_pay46, k0_pay45, hs, hu]
  simp only [← EReal.coe_mul, coe_sum]

theorem pay_wu {x : Vec Ideal S512x1024 .bf16} {du : FVec Ideal S512x704 .bf16} {X : Rows 512 1024} {U : Rows 512 704} (hx : ∀ p k, x (ix2 p k) = (X p k : EReal))
    (hu : ∀ p j, du (ix2 p j) = (U p j : EReal)) (a : Vec Ideal S1x1024x704 .f32) (k : Fin 1024) (j : Fin 704) :
    k0_pay2 (F := Ideal) (k0_pay19 x) du a (ix3 0 k j) = a (ix3 0 k j) + ((∑ p, X p k * U p j : ℝ) : EReal) := by
  pointwise [k0_pay2, k0_pay19, hx, hu]
  simp only [← EReal.coe_mul, coe_sum]

end Cert.FfnIdeal.Proof

end
-- ==== Proof.FfnHost.lean ====
module

public import proofs.«01_k».proof.Proof.FfnPay
public import Idealize.ShloMosaic.Lib.StableHlo.ReadAt

/-! The arrays the gated feed-forward's backward is launched on, over real inputs. -/

@[expose] public section

set_option maxRecDepth 16384

noncomputable section

namespace Cert.FfnIdeal.Proof

open Cert.FfnIdeal Cert.FfnIdeal.Gen Idealize.ShloMosaic Idealize.ShloMosaic.TcCoe Idealize.SL.Sem
open Cert.Reals Cert.Shift Cert.FfnMath

variable (m : (ℓ : Loc nD τ sig) → Buf (Elt Ideal) ℓ) (c : Dev nD)

/-- The arguments are arrays of reals. -/
structure Reals (X : Rows 4096 1024) (Wu : Rows 1024 5632) (K : Rows 3 5632) (Wd : Rows 2816 1024) (D : Rows 4096 1024) : Prop where
  x : ∀ i k, m ((c : Thread nD τ).loc main_arg0) (ix2 i k) = (X i k : EReal)
  wu : ∀ i k, m ((c : Thread nD τ).loc main_arg1) (ix2 i k) = (Wu i k : EReal)
  k : ∀ i k, m ((c : Thread nD τ).loc main_arg2) (ix2 i k) = (K i k : EReal)
  wd : ∀ i k, m ((c : Thread nD τ).loc main_arg3) (ix2 i k) = (Wd i k : EReal)
  d : ∀ i k, m ((c : Thread nD τ).loc main_arg4) (ix2 i k) = (D i k : EReal)

/-! The host's lines in six parts, each read over any buffers: a concatenation begins a part. -/

abbrev part1 : List (HloOp τ sig (Elt Ideal)) := hostOps0.take 3
abbrev part2 : List (HloOp τ sig (Elt Ideal)) := (hostOps0.drop 3).take 5
abbrev part3 : List (HloOp τ sig (Elt Ideal)) := (hostOps0.drop 8).take 9
abbrev part4 : List (HloOp τ sig (Elt Ideal)) := hostOps0.drop 17
abbrev part5 : List (HloOp τ sig (Elt Ideal)) := hostOps0_1
abbrev part6 : List (HloOp τ sig (Elt Ideal)) := hostOps0_2

abbrev at_ (l : List (HloOp τ sig (Elt Ideal))) (f : Valuation τ sig (Elt Ideal)) (b : Ref sig .tc) : Buf (Elt Ideal) ((c : Thread nD τ).loc b) :=
  StableHlo.after l f b

theorem after_two (l₁ l₂ : List (HloOp τ sig (Elt Ideal))) (f : Valuation τ sig (Elt Ideal)) :
    StableHlo.after (l₁ ++ l₂) f = StableHlo.after l₂ (StableHlo.after l₁ f) := by
  induction l₁ generalizing f with
  | nil => rfl
  | cons op l ih => exact ih _

abbrev vals1 : Valuation τ sig (Elt Ideal) := StableHlo.after part1 fun b => m (c, b)
abbrev vals2 : Valuation τ sig (Elt Ideal) := StableHlo.after part2 (vals1 m c)
abbrev vals3 : Valuation τ sig (Elt Ideal) := StableHlo.after part3 (vals2 m c)
abbrev vals4 : Valuation τ sig (Elt Ideal) := StableHlo.after part4 (vals3 m c)
abbrev vals5 : Valuation τ sig (Elt Ideal) := StableHlo.after part5 (vals4 m c)

theorem V_parts (b : Ref sig .tc) : V m c b = at_ c part6 (vals5 m c) b := by
  show StableHlo.after (part1 ++ (part2 ++ (part3 ++ (part4 ++ (part5 ++ part6))))) (fun b => m (c, b)) b = _
  rw [after_two, after_two, after_two, after_two, after_two]

variable {X : Rows 4096 1024} {Wu : Rows 1024 5632} {K : Rows 3 5632} {Wd : Rows 2816 1024} {D : Rows 4096 1024}

section Parts

variable (f : Valuation τ sig (Elt Ideal)) (i : Fin 4096) (k : Fin 5632)

theorem two_slice (i : Fin 4094) : at_ c part2 f main_v6 (ix2 i k) = f (Proc.devRef .tc main_v2) (ix2 ⟨i.val, by omega⟩ k) := by
  simp only [at_, part2, hostOps0, List.drop_succ_cons, List.drop_zero, List.take_succ_cons, List.take_zero]
  after_reads_at

theorem two_zero (i : Fin 2) : at_ c part2 f main_v5 (ix2 i k) = (0 : EReal) := by
  simp only [at_, part2, hostOps0, List.drop_succ_cons, List.drop_zero, List.take_succ_cons, List.take_zero]
  after_reads_at

theorem two_w : at_ c part2 f main_v4 (ix1 k) = f (Proc.devRef .tc main_arg2) (ix2 0 k) := by
  simp only [at_, part2, hostOps0, List.drop_succ_cons, List.drop_zero, List.take_succ_cons, List.take_zero]
  after_reads_at

theorem two_kept (r : Fin 3) : at_ c part2 f main_v2 (ix2 i k) = f (Proc.devRef .tc main_v2) (ix2 i k)
    ∧ at_ c part2 f main_arg2 (ix2 r k) = f (Proc.devRef .tc main_arg2) (ix2 r k) := by
  constructor
  all_goals
    simp only [at_, part2, hostOps0, List.drop_succ_cons, List.drop_zero, List.take_succ_cons, List.take_zero]
    after_reads_at

theorem three_down : at_ c part3 f main_v7 (ix2 i k)
    = if h : i.val < 2 then f (Proc.devRef .tc main_v5) (ix2 ⟨i.val, h⟩ k) else f (Proc.devRef .tc main_v6) (ix2 ⟨i.val - 2, by omega⟩ k) := by
  simp only [at_, part3, hostOps0, List.drop_succ_cons, List.drop_zero, List.take_succ_cons, List.take_zero]
  after_reads_at

theorem three_tap {x y : EReal} (hx : f (Proc.devRef .tc main_v4) (ix1 k) = x) (hy : at_ c part3 f main_v7 (ix2 i k) = y) :
    at_ c part3 f main_v10 (ix2 i k) = x * y := by
  rw [← hx, ← hy]
  simp only [at_, part3, hostOps0, List.drop_succ_cons, List.drop_zero, List.take_succ_cons, List.take_zero]
  after_reads_at
  rfl

theorem three_slice (i : Fin 4095) : at_ c part3 f main_v14 (ix2 i k) = f (Proc.devRef .tc main_v2) (ix2 ⟨i.val, by omega⟩ k) := by
  simp only [at_, part3, hostOps0, List.drop_succ_cons, List.drop_zero, List.take_succ_cons, List.take_zero]
  after_reads_at

theorem three_zero (z : Fin 1) : at_ c part3 f main_v13 (ix2 z k) = (0 : EReal) := by
  simp only [at_, part3, hostOps0, List.drop_succ_cons, List.drop_zero, List.take_succ_cons, List.take_zero]
  after_reads_at

theorem three_w : at_ c part3 f main_v12 (ix1 k) = f (Proc.devRef .tc main_arg2) (ix2 1 k) := by
  simp only [at_, part3, hostOps0, List.drop_succ_cons, List.drop_zero, List.take_succ_cons, List.take_zero]
  after_reads_at

theorem three_kept (r : Fin 3) : at_ c part3 f main_v2 (ix2 i k) = f (Proc.devRef .tc main_v2) (ix2 i k)
    ∧ at_ c part3 f main_arg2 (ix2 r k) = f (Proc.devRef .tc main_arg2) (ix2 r k) := by
  constructor
  all_goals
    simp only [at_, part3, hostOps0, List.drop_succ_cons, List.drop_zero, List.take_succ_cons, List.take_zero]
    after_reads_at

theorem four_down : at_ c part4 f main_v15 (ix2 i k)
    = if h : i.val < 1 then f (Proc.devRef .tc main_v13) (ix2 ⟨i.val, h⟩ k) else f (Proc.devRef .tc main_v14) (ix2 ⟨i.val - 1, by omega⟩ k) := by
  simp only [at_, part4, hostOps0, List.drop_succ_cons, List.drop_zero, List.take_succ_cons, List.take_zero]
  after_reads_at

theorem four_v {x y z a b : EReal} (hx : f (Proc.devRef .tc main_v10) (ix2 i k) = x) (ha : f (Proc.devRef .tc main_v12) (ix1 k) = a)
    (hy : at_ c part4 f main_v15 (ix2 i k) = y) (hb : f (Proc.devRef .tc main_arg2) (ix2 2 k) = b) (hz : f (Proc.devRef .tc main_v2) (ix2 i k) = z) :
    at_ c part4 f main_v25 (ix2 i k) = x + a * y + b * z := by
  rw [← hx, ← ha, ← hy, ← hb, ← hz]
  simp only [at_, part4, hostOps0, List.drop_succ_cons, List.drop_zero, List.take_succ_cons, List.take_zero]
  after_reads_at
  rfl

theorem four_halves (j : Fin 2816) : at_ c part4 f main_v26 (ix2 i j) = at_ c part4 f main_v25 (ix2 i (lo j))
    ∧ at_ c part4 f main_v27 (ix2 i j) = at_ c part4 f main_v25 (ix2 i (hi j)) := by
  constructor
  all_goals
    simp only [at_, part4, hostOps0, List.drop_succ_cons, List.drop_zero, List.take_succ_cons, List.take_zero]
    after_reads_at
    rfl

theorem four_kept (r : Fin 3) : at_ c part4 f main_v2 (ix2 i k) = f (Proc.devRef .tc main_v2) (ix2 i k)
    ∧ at_ c part4 f main_arg2 (ix2 r k) = f (Proc.devRef .tc main_arg2) (ix2 r k) := by
  constructor
  all_goals
    simp only [at_, part4, hostOps0, List.drop_succ_cons, List.drop_zero, List.take_succ_cons, List.take_zero]
    after_reads_at

theorem five_silu (j : Fin 2816) {x : ℝ} (hx : f (Proc.devRef .tc main_v26) (ix2 i j) = (x : EReal)) :
    at_ c part5 f main_v28 (ix2 i j) = ((x * sg x : ℝ) : EReal) := by
  rw [EReal.coe_mul, ← sg_of, ← hx]
  simp only [at_, part5, hostOps0_1]
  after_reads_at

theorem five_kept (r : Fin 3) (j : Fin 2816) : at_ c part5 f main_v2 (ix2 i k) = f (Proc.devRef .tc main_v2) (ix2 i k)
    ∧ at_ c part5 f main_arg2 (ix2 r k) = f (Proc.devRef .tc main_arg2) (ix2 r k)
    ∧ at_ c part5 f main_v25 (ix2 i k) = f (Proc.devRef .tc main_v25) (ix2 i k)
    ∧ at_ c part5 f main_v27 (ix2 i j) = f (Proc.devRef .tc main_v27) (ix2 i j) := by
  refine ⟨?_, ?_, ?_, ?_⟩
  all_goals
    simp only [at_, part5, hostOps0_1]
    after_reads_at

theorem six_act (q : Fin 4) (j : Fin 704) {x y : EReal} (hx : f (Proc.devRef .tc main_v28) (ix2 i (narrow q j)) = x)
    (hy : f (Proc.devRef .tc main_v27) (ix2 i (narrow q j)) = y) : at_ c part6 f main_v32 (ix3 q i j) = x * y := by
  rw [← hx, ← hy]
  simp only [at_, part6, hostOps0_2]
  after_reads_at
  rfl

theorem six_u (s : Fin 2) (q : Fin 4) (j : Fin 704) : at_ c part6 f main_v39 (ix4 s q i j) = f (Proc.devRef .tc main_v2) (ix2 i (wide s q j)) := by
  simp only [at_, part6, hostOps0_2]
  after_reads_at
  rfl

theorem six_v (s : Fin 2) (q : Fin 4) (j : Fin 704) : at_ c part6 f main_v42 (ix4 s q i j) = f (Proc.devRef .tc main_v25) (ix2 i (wide s q j)) := by
  simp only [at_, part6, hostOps0_2]
  after_reads_at
  rfl

theorem six_k (e : Fin 8) (r : Fin 3) (j : Fin 704) : at_ c part6 f main_v34 (ix3 e r j) = f (Proc.devRef .tc main_arg2) (ix2 r ⟨e.val * 704 + j.val, by omega⟩) := by
  simp only [at_, part6, hostOps0_2]
  after_reads_at

end Parts

section Read

variable (h : Reals m c X Wu K Wd D)
include h

theorem one_u (i : Fin 4096) (k : Fin 5632) : at_ c part1 (fun b => m (c, b)) main_v2 (ix2 i k) = (u X Wu i k : EReal) := by
  unfold u
  simp only [← coe_sum, EReal.coe_mul, ← h.x, ← h.wu]
  simp only [at_, part1, hostOps0, List.take_succ_cons, List.take_zero]
  after_reads_at

theorem one_k (r : Fin 3) (k : Fin 5632) : at_ c part1 (fun b => m (c, b)) main_arg2 (ix2 r k) = (K r k : EReal) := by
  rw [← h.k]
  simp only [at_, part1, hostOps0, List.take_succ_cons, List.take_zero]
  after_reads_at

theorem val2_u (i : Fin 4096) (k : Fin 5632) : at_ c part2 (vals1 m c) main_v2 (ix2 i k) = (u X Wu i k : EReal) :=
  (two_kept c _ i k 0).1.trans (one_u m c h i k)

theorem val3_u (i : Fin 4096) (k : Fin 5632) : at_ c part3 (vals2 m c) main_v2 (ix2 i k) = (u X Wu i k : EReal) :=
  (three_kept c _ i k 0).1.trans (val2_u m c h i k)

theorem val2_k (r : Fin 3) (k : Fin 5632) : at_ c part2 (vals1 m c) main_arg2 (ix2 r k) = (K r k : EReal) :=
  (two_kept c _ 0 k r).2.trans (one_k m c h r k)

theorem val3_k (r : Fin 3) (k : Fin 5632) : at_ c part3 (vals2 m c) main_arg2 (ix2 r k) = (K r k : EReal) :=
  (three_kept c _ 0 k r).2.trans (val2_k m c h r k)

theorem val_down2 (i : Fin 4096) (k : Fin 5632) : at_ c part3 (vals2 m c) main_v7 (ix2 i k) = (down 2 (fun i => u X Wu i k) i : EReal) := by
  refine (three_down c _ i k).trans ?_
  unfold down
  by_cases h2 : i.val < 2
  · rw [dif_pos h2, if_neg (by omega)]
    exact two_zero c _ k _
  · rw [dif_neg h2, if_pos (by omega)]
    exact (two_slice c _ k _).trans (one_u m c h _ k)

theorem val_down1 (i : Fin 4096) (k : Fin 5632) : at_ c part4 (vals3 m c) main_v15 (ix2 i k) = (down 1 (fun i => u X Wu i k) i : EReal) := by
  refine (four_down c _ i k).trans ?_
  unfold down
  by_cases h2 : i.val < 1
  · rw [dif_pos h2, if_neg (by omega)]
    exact three_zero c _ k _
  · rw [dif_neg h2, if_pos (by omega)]
    exact (three_slice c _ k _).trans (val2_u m c h _ k)

theorem val_v (i : Fin 4096) (k : Fin 5632) : at_ c part4 (vals3 m c) main_v25 (ix2 i k) = (v X Wu K i k : EReal) := by
  have h0 := three_tap c _ i k ((two_w c _ k).trans (one_k m c h 0 k)) (val_down2 m c h i k)
  rw [four_v c _ i k h0 ((three_w c _ k).trans (val2_k m c h 1 k)) (val_down1 m c h i k) (val3_k m c h 2 k) (val3_u m c h i k)]
  simp only [← EReal.coe_mul, ← EReal.coe_add]
  rfl

theorem V_act (q : Fin 4) (i : Fin 4096) (j : Fin 704) : V m c main_v32 (ix3 q i j) = (act X Wu K i (narrow q j) : EReal) := by
  rw [V_parts]
  refine (six_act c _ i q j (five_silu c _ i _ ((four_halves c _ i _).1.trans (val_v m c h i _)))
    ((five_kept c _ i 0 0 _).2.2.2.trans ((four_halves c _ i _).2.trans (val_v m c h i _)))).trans ?_
  rw [← EReal.coe_mul]
  rfl

theorem V_u (s : Fin 2) (q : Fin 4) (i : Fin 4096) (j : Fin 704) : V m c main_v39 (ix4 s q i j) = (u X Wu i (wide s q j) : EReal) := by
  rw [V_parts]
  exact (six_u c _ i s q j).trans ((five_kept c _ i _ 0 0).1.trans ((four_kept c _ i _ 0).1.trans (val3_u m c h i _)))

theorem V_v (s : Fin 2) (q : Fin 4) (i : Fin 4096) (j : Fin 704) : V m c main_v42 (ix4 s q i j) = (v X Wu K i (wide s q j) : EReal) := by
  rw [V_parts]
  exact (six_v c _ i s q j).trans ((five_kept c _ i _ 0 0).2.2.1.trans (val_v m c h i _))

theorem V_k (e : Fin 8) (r : Fin 3) (j : Fin 704) : V m c main_v34 (ix3 e r j) = (K r ⟨e.val * 704 + j.val, by omega⟩ : EReal) := by
  rw [V_parts]
  exact (six_k c _ e r j).trans ((five_kept c _ 0 _ r 0).2.1.trans ((four_kept c _ 0 _ r).2.trans (val3_k m c h r _)))

theorem V_wd (q : Fin 4) (j : Fin 704) (l : Fin 1024) : V m c main_v36 (ix3 q j l) = (Wd (narrow q j) l : EReal) := by
  rw [← h.wd]
  unfold V
  after_reads_at
  rfl

theorem V_x (i : Fin 4096) (k : Fin 1024) : V m c main_v43 (ix2 i k) = (X i k : EReal) := by
  rw [← h.x]
  unfold V
  after_reads_at

theorem V_d (i : Fin 4096) (k : Fin 1024) : V m c main_arg4 (ix2 i k) = (D i k : EReal) := by
  rw [V_main_arg4]
  exact h.d i k

end Read

end Cert.FfnIdeal.Proof

end
-- ==== Proof.FfnKernel.lean ====
module

public import proofs.«01_k».proof.Proof.FfnHost
public import Idealize.ShloMosaic.Lib.Pipeline.ReadBack
public import Idealize.ShloMosaic.Lib.WritesUnit

/-! The results of the gated feed-forward's backward kernel over real inputs. -/

@[expose] public section

set_option maxRecDepth 16384

noncomputable section

namespace Cert.FfnIdeal.Proof

open Cert.FfnIdeal Cert.FfnIdeal.Gen Idealize.ShloMosaic Idealize.ShloMosaic.TcCoe Idealize.SL.Sem
open Cert.Reals Cert.Shift Cert.FfnMath
open Idealize.ShloMosaic.Pipeline (Dat)

variable (m : (ℓ : Loc nD τ sig) → Buf (Elt Ideal) ℓ) (c : Dev nD)

theorem idx : ∀ t : Fin cfg0.N,
    win0_0.index t = ![7 - t.val % 8, 0] ∧ win0_1.index t = ![t.val / 8, 0, 0] ∧ win0_2.index t = ![0, t.val / 8, 7 - t.val % 8, 0]
    ∧ win0_3.index t = ![0, t.val / 8, 7 - t.val % 8, 0] ∧ win0_4.index t = ![t.val / 8, 7 - t.val % 8, 0] ∧ win0_5.index t = ![7 - t.val % 8, 0]
    ∧ win0_6.index t = ![t.val / 8, 0, 0] ∧ win0_7.index t = ![t.val / 8 + 4, 0, 0] ∧ win0_8.index t = ![0, t.val / 8, 7 - t.val % 8, 0]
    ∧ win0_9.index t = ![0, t.val / 8, 0, 0] ∧ win0_10.index t = ![t.val / 8, 0, 0] ∧ win0_11.index t = ![0, t.val / 8, 0, 0] :=
  (by decide +kernel : ∀ t : Fin grid0.N, _)

/-! ## Pieces of an array of two planes, written some rows of a plane at a time -/

section Pieces

open View

variable {Val : EltTy → Type} {e : EltTy} [∀ e, Nonempty (Val e)] {N n : ℕ}

abbrev Two (N n : ℕ) : Shape := ⟨3, ![2, N, n]⟩
abbrev In (N n o r q : ℕ) : Prop := ∀ a : Fin 3, (![o, r, 0] : Fin 3 → ℕ) a + (![1, q, n] : Fin 3 → ℕ) a ≤ (Two N n).size a

theorem emb_in (o r q : ℕ) (ho : o < 2) (i : In N n o r q) (p : Fin q) (hr : r + p.val < N) (j : Fin n) :
    (Rect.unit (s := Two N n) ![o, r, 0] ![1, q, n] i).emb (ix3 0 p j) = ix3 ⟨o, ho⟩ ⟨r + p.val, hr⟩ j :=
  funext fun a => Fin.ext (by fin_cases a <;> simp [Rect.unit, Rect.emb])

theorem not_in (o r q : ℕ) (i : In N n o r q) (a : Fin 2) (b : Fin N) (j : Fin n) (h : a.val ≠ o ∨ b.val < r ∨ r + q ≤ b.val) :
    ix3 a b j ∉ (Rect.unit (s := Two N n) ![o, r, 0] ![1, q, n] i).set := by
  rcases h with h | h
  · refine Rect.not_mem_set_of_axis _ (ix3 a b j) 0 o 1 rfl rfl rfl ?_
    show a.val < o ∨ o + 1 ≤ a.val
    omega
  · refine Rect.not_mem_set_of_axis _ (ix3 a b j) 1 r q rfl rfl rfl ?_
    exact h

/-- A reading of a list of pieces: the last written first. -/
structure Reads (rd : List (Piece Val (Two N n) e) → (Two N n).Idx → Val e) : Prop where
  hit : ∀ (o r q : ℕ) (ho : o < 2) (i : In N n o r q) (w : (⟨3, ![1, q, n]⟩ : Shape).Idx → Val e) (L : List (Piece Val (Two N n) e)) (p : Fin q) (hr : r + p.val < N) (j : Fin n),
    rd (⟨Rect.unit ![o, r, 0] ![1, q, n] i, w⟩ :: L) (ix3 ⟨o, ho⟩ ⟨r + p.val, hr⟩ j) = w (ix3 0 p j)
  miss : ∀ (o r q : ℕ) (i : In N n o r q) (w : (⟨3, ![1, q, n]⟩ : Shape).Idx → Val e) (L : List (Piece Val (Two N n) e)) (a : Fin 2) (b : Fin N) (j : Fin n),
    a.val ≠ o ∨ b.val < r ∨ r + q ≤ b.val → rd (⟨Rect.unit ![o, r, 0] ![1, q, n] i, w⟩ :: L) (ix3 a b j) = rd L (ix3 a b j)

theorem reads_canon : Reads (Val := Val) (e := e) (N := N) (n := n) View.canon where
  hit o r q ho i w L p hr j := (congrArg _ (emb_in o r q ho i p hr j).symm).trans (canon_cons_emb (Rect.unit (s := Two N n) ![o, r, 0] ![1, q, n] i) w L (ix3 0 p j))
  miss o r q i w L a b j h := canon_cons_of_not_mem _ L (not_in o r q i a b j h)

theorem reads_writes {sig : RefSig} {κ : Kind} {sp : Space} (v : View sig κ sp (Two N n) e) (f : v.ty.Contents Val) :
    Reads (Val := Val) (e := e) (N := N) (n := n) (fun L => v.read Val (v.writes Val f L)) where
  hit o r q ho i w L p hr j :=
    (congrArg _ (emb_in o r q ho i p hr j).symm).trans (read_writes_cons_emb v f (Rect.unit (s := Two N n) ![o, r, 0] ![1, q, n] i) w L (ix3 0 p j))
  miss o r q i w L a b j h := by
    rcases h with h | h
    · refine read_writes_cons_miss_of_axis v f _ L (ix3 a b j) 0 o 1 rfl rfl rfl ?_
      show a.val < o ∨ o + 1 ≤ a.val
      omega
    · exact read_writes_cons_miss_of_axis v f _ L (ix3 a b j) 1 r q rfl rfl rfl h

theorem planes (i0 : In N n 0 0 N) (i1 : In N n 1 0 N) (w0 w1 : (⟨3, ![1, N, n]⟩ : Shape).Idx → Val e) (L : List (Piece Val (Two N n) e)) (G : Fin 2 → Fin N → Fin n → Val e)
    (e0 : ∀ p j, w0 (ix3 0 p j) = G 0 p j) (e1 : ∀ p j, w1 (ix3 0 p j) = G 1 p j) (s : Fin 2) (p : Fin N) (j : Fin n) :
    View.canon (⟨Rect.unit ![1, 0, 0] ![1, N, n] i1, w1⟩ :: ⟨Rect.unit ![0, 0, 0] ![1, N, n] i0, w0⟩ :: L) (ix3 s p j) = G s p j := by
  have at0 : (⟨0 + p.val, by omega⟩ : Fin N) = p := Fin.ext (Nat.zero_add _)
  match s with
  | 0 =>
    refine (reads_canon.miss 1 0 N i1 w1 _ 0 p j (Or.inl (by decide))).trans ?_
    have := reads_canon.hit 0 0 N (by decide) i0 w0 L p (by omega) j
    rw [at0] at this
    exact this.trans (e0 p j)
  | 1 =>
    have := reads_canon.hit 1 0 N (by decide) i1 w1 (⟨Rect.unit ![0, 0, 0] ![1, N, n] i0, w0⟩ :: L) p (by omega) j
    rw [at0] at this
    exact this.trans (e1 p j)

theorem rows {rd : List (Piece Val (Two 8 n) e) → (Two 8 n).Idx → Val e} (R : Reads rd) (i00 : In 8 n 0 0 1) (i01 : In 8 n 0 1 1) (i02 : In 8 n 0 2 1)
    (i10 : In 8 n 1 0 1) (i11 : In 8 n 1 1 1) (i12 : In 8 n 1 2 1) (w00 w01 w02 w10 w11 w12 : (⟨3, ![1, 1, n]⟩ : Shape).Idx → Val e) (L : List (Piece Val (Two 8 n) e))
    (j : Fin n) (G : Fin 2 → Fin 3 → Val e) (e00 : w00 (ix3 0 0 j) = G 0 0) (e01 : w01 (ix3 0 0 j) = G 0 1) (e02 : w02 (ix3 0 0 j) = G 0 2)
    (e10 : w10 (ix3 0 0 j) = G 1 0) (e11 : w11 (ix3 0 0 j) = G 1 1) (e12 : w12 (ix3 0 0 j) = G 1 2) (s : Fin 2) (r : Fin 3) :
    rd (⟨Rect.unit ![1, 2, 0] ![1, 1, n] i12, w12⟩ :: ⟨Rect.unit ![1, 1, 0] ![1, 1, n] i11, w11⟩ :: ⟨Rect.unit ![1, 0, 0] ![1, 1, n] i10, w10⟩
      :: ⟨Rect.unit ![0, 2, 0] ![1, 1, n] i02, w02⟩ :: ⟨Rect.unit ![0, 1, 0] ![1, 1, n] i01, w01⟩ :: ⟨Rect.unit ![0, 0, 0] ![1, 1, n] i00, w00⟩ :: L) (ix3 s (r.castLE (by decide)) j) = G s r := by
  have skip : ∀ (o r' : ℕ) (i : In 8 n o r' 1) (w : (⟨3, ![1, 1, n]⟩ : Shape).Idx → Val e) (L : List (Piece Val (Two 8 n) e)), (s.val ≠ o ∨ r.val < r' ∨ r' + 1 ≤ r.val) →
      rd (⟨Rect.unit ![o, r', 0] ![1, 1, n] i, w⟩ :: L) (ix3 s (r.castLE (by decide)) j) = rd L (ix3 s (r.castLE (by decide)) j) := fun o r' i w L h => R.miss o r' 1 i w L s _ j h
  match s, r with
  | 0, 0 =>
    rw [skip _ _ _ _ _ (by decide), skip _ _ _ _ _ (by decide), skip _ _ _ _ _ (by decide), skip _ _ _ _ _ (by decide), skip _ _ _ _ _ (by decide)]
    exact (R.hit 0 0 1 (by decide) i00 w00 _ 0 (by decide) j).trans e00
  | 0, 1 =>
    rw [skip _ _ _ _ _ (by decide), skip _ _ _ _ _ (by decide), skip _ _ _ _ _ (by decide), skip _ _ _ _ _ (by decide)]
    exact (R.hit 0 1 1 (by decide) i01 w01 _ 0 (by decide) j).trans e01
  | 0, 2 =>
    rw [skip _ _ _ _ _ (by decide), skip _ _ _ _ _ (by decide), skip _ _ _ _ _ (by decide)]
    exact (R.hit 0 2 1 (by decide) i02 w02 _ 0 (by decide) j).trans e02
  | 1, 0 =>
    rw [skip _ _ _ _ _ (by decide), skip _ _ _ _ _ (by decide)]
    exact (R.hit 1 0 1 (by decide) i10 w10 _ 0 (by decide) j).trans e10
  | 1, 1 =>
    rw [skip _ _ _ _ _ (by decide)]
    exact (R.hit 1 1 1 (by decide) i11 w11 _ 0 (by decide) j).trans e11
  | 1, 2 => exact (R.hit 1 2 1 (by decide) i12 w12 _ 0 (by decide) j).trans e12

/-- The same of two planes of an array of four axes. -/
theorem planes4 (i0 : ∀ a : Fin 4, (![0, 0, 0, 0] : Fin 4 → ℕ) a + (![1, 1, N, n] : Fin 4 → ℕ) a ≤ (⟨4, ![2, 1, N, n]⟩ : Shape).size a)
    (i1 : ∀ a : Fin 4, (![1, 0, 0, 0] : Fin 4 → ℕ) a + (![1, 1, N, n] : Fin 4 → ℕ) a ≤ (⟨4, ![2, 1, N, n]⟩ : Shape).size a)
    (w0 w1 : (⟨4, ![1, 1, N, n]⟩ : Shape).Idx → Val e) (L : List (Piece Val (⟨4, ![2, 1, N, n]⟩ : Shape) e)) (G : Fin 2 → Fin N → Fin n → Val e)
    (e0 : ∀ p j, w0 (ix4 0 0 p j) = G 0 p j) (e1 : ∀ p j, w1 (ix4 0 0 p j) = G 1 p j) (s : Fin 2) (p : Fin N) (j : Fin n) :
    View.canon (⟨Rect.unit ![1, 0, 0, 0] ![1, 1, N, n] i1, w1⟩ :: ⟨Rect.unit ![0, 0, 0, 0] ![1, 1, N, n] i0, w0⟩ :: L) (ix4 s 0 p j) = G s p j := by
  have hit : ∀ (o : ℕ) (ho : o < 2) (i : ∀ a : Fin 4, (![o, 0, 0, 0] : Fin 4 → ℕ) a + (![1, 1, N, n] : Fin 4 → ℕ) a ≤ (⟨4, ![2, 1, N, n]⟩ : Shape).size a)
      (w : (⟨4, ![1, 1, N, n]⟩ : Shape).Idx → Val e) (L : List (Piece Val (⟨4, ![2, 1, N, n]⟩ : Shape) e)),
      View.canon (⟨Rect.unit ![o, 0, 0, 0] ![1, 1, N, n] i, w⟩ :: L) (ix4 ⟨o, ho⟩ 0 p j) = w (ix4 0 0 p j) := fun o ho i w L => by
    have he : (Rect.unit (s := (⟨4, ![2, 1, N, n]⟩ : Shape)) ![o, 0, 0, 0] ![1, 1, N, n] i).emb (ix4 0 0 p j) = ix4 ⟨o, ho⟩ 0 p j :=
      funext fun a => Fin.ext (by fin_cases a <;> simp [Rect.unit, Rect.emb])
    exact (congrArg _ he.symm).trans (canon_cons_emb (Rect.unit (s := (⟨4, ![2, 1, N, n]⟩ : Shape)) ![o, 0, 0, 0] ![1, 1, N, n] i) w L (ix4 0 0 p j))
  match s with
  | 0 =>
    refine (canon_cons_of_not_mem _ _ (Rect.not_mem_set_of_axis _ (ix4 0 0 p j) 0 1 1 rfl rfl rfl (Or.inl ?_))).trans ((hit 0 (by decide) i0 w0 L).trans (e0 p j))
    exact Nat.zero_lt_one
  | 1 => exact (hit 1 (by decide) i1 w1 _).trans (e1 p j)

theorem cov_whole {sig : RefSig} {κ : Kind} {sp : Space} {s : Shape} (v : View sig κ sp s e) {off : Fin s.rank → ℕ} (inb : ∀ a, off a + s.size a ≤ s.size a)
    (L : List (Piece Val s e)) (h : ∀ a, off a = 0) : v.readCov L (Rect.unit off (no_index s.size) inb).toLoadRect = View.canon L := by
  rw [readCov_eq_canon']
  exact ld_unit_lit inb (canon L) h

end Pieces

/-! ## The blocks -/

theorem lt_N (t : Fin cfg0.N) : t.val < 32 := lt_of_lt_of_eq t.isLt N_0

/-- Row `p` of point `t`'s block of rows: the blocks go from the last to the first. -/
def row (t : Fin cfg0.N) (p : Fin 512) : Fin 4096 := ⟨(7 - t.val % 8) * 512 + p.val, by omega⟩

/-- The point's chunk of columns. -/
def chunk (t : Fin cfg0.N) : Fin 4 := ⟨t.val / 8, by have := lt_N t; omega⟩

section Blocks

variable (f : (b : Ref sig .tc) → Buf (Elt Ideal) ((c : Thread nD τ).loc b)) (t : Fin cfg0.N)

theorem read0 (p : Fin 512) (l : Fin 1024) : ((cfg0.win 0).blk t).view.read (Elt Ideal) (f (Pipeline.arrRef spec0 0)) (ix2 p l) = f main_arg4 (ix2 (row t p) l) :=
  congrArg (f main_arg4) (by unfold row; blk_ext [idx t])

theorem read1 (j : Fin 704) (l : Fin 1024) : ((cfg0.win 1).blk t).view.read (Elt Ideal) (f (Pipeline.arrRef spec0 1)) (ix3 0 j l) = f main_v36 (ix3 (chunk t) j l) :=
  congrArg (f main_v36) (by unfold chunk; blk_ext [idx t])

theorem read2 (s : Fin 2) (p : Fin 512) (j : Fin 704) : ((cfg0.win 2).blk t).view.read (Elt Ideal) (f (Pipeline.arrRef spec0 2)) (ix4 s 0 p j) = f main_v39 (ix4 s (chunk t) (row t p) j) :=
  congrArg (f main_v39) (by unfold row chunk; blk_ext [idx t])

theorem read3 (s : Fin 2) (p : Fin 512) (j : Fin 704) : ((cfg0.win 3).blk t).view.read (Elt Ideal) (f (Pipeline.arrRef spec0 3)) (ix4 s 0 p j) = f main_v42 (ix4 s (chunk t) (row t p) j) :=
  congrArg (f main_v42) (by unfold row chunk; blk_ext [idx t])

theorem read4 (p : Fin 512) (j : Fin 704) : ((cfg0.win 4).blk t).view.read (Elt Ideal) (f (Pipeline.arrRef spec0 4)) (ix3 0 p j) = f main_v32 (ix3 (chunk t) (row t p) j) :=
  congrArg (f main_v32) (by unfold row chunk; blk_ext [idx t])

theorem read5 (p : Fin 512) (k : Fin 1024) : ((cfg0.win 5).blk t).view.read (Elt Ideal) (f (Pipeline.arrRef spec0 5)) (ix2 p k) = f main_v43 (ix2 (row t p) k) :=
  congrArg (f main_v43) (by unfold row; blk_ext [idx t])

theorem read6 (r : Fin 3) (j : Fin 704) : ((cfg0.win 6).blk t).view.read (Elt Ideal) (f (Pipeline.arrRef spec0 6)) (ix3 0 r j)
    = f main_v34 (ix3 ⟨(chunk t).val, by omega⟩ r j) :=
  congrArg (f main_v34) (by unfold chunk; blk_ext [idx t])

theorem read7 (r : Fin 3) (j : Fin 704) : ((cfg0.win 7).blk t).view.read (Elt Ideal) (f (Pipeline.arrRef spec0 7)) (ix3 0 r j)
    = f main_v34 (ix3 ⟨(chunk t).val + 4, by omega⟩ r j) :=
  congrArg (f main_v34) (by unfold chunk; blk_ext [idx t])

end Blocks

variable {X : Rows 4096 1024} {Wu : Rows 1024 5632} {K : Rows 3 5632} {Wd : Rows 2816 1024} {D : Rows 4096 1024}

section AtPoint

variable (h : Reals m c X Wu K Wd D) (t : Fin cfg0.N)
include h

theorem blk_d (p : Fin 512) (l : Fin 1024) : iblk m c 0 t (ix2 p l) = (D (row t p) l : EReal) := by
  unfold iblk
  exact (read0 c (V m c) t p l).trans (V_d m c h _ _)

theorem blk_wd (j : Fin 704) (l : Fin 1024) : iblk m c 1 t (ix3 0 j l) = (Wd (narrow (chunk t) j) l : EReal) := by
  unfold iblk
  exact (read1 c (V m c) t j l).trans (V_wd m c h _ _ _)

theorem blk_u (s : Fin 2) (p : Fin 512) (j : Fin 704) : iblk m c 2 t (ix4 s 0 p j) = (u X Wu (row t p) (wide s (chunk t) j) : EReal) := by
  unfold iblk
  exact (read2 c (V m c) t s p j).trans (V_u m c h _ _ _ _)

theorem blk_v (s : Fin 2) (p : Fin 512) (j : Fin 704) : iblk m c 3 t (ix4 s 0 p j) = (v X Wu K (row t p) (wide s (chunk t) j) : EReal) := by
  unfold iblk
  exact (read3 c (V m c) t s p j).trans (V_v m c h _ _ _ _)

theorem blk_act (p : Fin 512) (j : Fin 704) : iblk m c 4 t (ix3 0 p j) = (act X Wu K (row t p) (narrow (chunk t) j) : EReal) := by
  unfold iblk
  exact (read4 c (V m c) t p j).trans (V_act m c h _ _ _)

theorem blk_x (p : Fin 512) (k : Fin 1024) : iblk m c 5 t (ix2 p k) = (X (row t p) k : EReal) := by
  unfold iblk
  exact (read5 c (V m c) t p k).trans (V_x m c h _ _)

theorem blk_k0 (r : Fin 3) (j : Fin 704) : iblk m c 6 t (ix3 0 r j) = (K r (wide 0 (chunk t) j) : EReal) := by
  unfold iblk
  refine (read6 c (V m c) t r j).trans ((V_k m c h _ _ _).trans (congrArg (fun k => (K r k : EReal)) (Fin.ext ?_)))
  simp [wide]

theorem blk_k1 (r : Fin 3) (j : Fin 704) : iblk m c 7 t (ix3 0 r j) = (K r (wide 1 (chunk t) j) : EReal) := by
  unfold iblk
  refine (read7 c (V m c) t r j).trans ((V_k m c h _ _ _).trans (congrArg (fun k => (K r k : EReal)) (Fin.ext ?_)))
  simp [wide]
  omega

end AtPoint

/-! ## One point -/

theorem ld_planes (x : Vec Ideal S2x1x512x704 .bf16) (p : Fin 512) (j : Fin 704) :
    View.ld x (Rect.unit ![0, 0, 0, 0] ![1, 1, 512, 704] inb_S2x1x512x704_S1x1x512x704_0_0_0_0) (ix4 0 0 p j) = x (ix4 0 0 p j)
    ∧ View.ld x (Rect.unit ![1, 0, 0, 0] ![1, 1, 512, 704] inb_S2x1x512x704_S1x1x512x704_1_0_0_0) (ix4 0 0 p j) = x (ix4 1 0 p j) := by
  refine ⟨?_, ?_⟩ <;> pointwise

theorem ld_rows (x : Vec Ideal S2x8x704 .f32) (j : Fin 704) :
    (View.ld x (Rect.unit ![0, 0, 0] ![1, 1, 704] inb_S2x8x704_S1x1x704_0_0_0) (ix3 0 0 j) = x (ix3 0 0 j)
    ∧ View.ld x (Rect.unit ![0, 1, 0] ![1, 1, 704] inb_S2x8x704_S1x1x704_0_1_0) (ix3 0 0 j) = x (ix3 0 1 j)
    ∧ View.ld x (Rect.unit ![0, 2, 0] ![1, 1, 704] inb_S2x8x704_S1x1x704_0_2_0) (ix3 0 0 j) = x (ix3 0 2 j))
    ∧ View.ld x (Rect.unit ![1, 0, 0] ![1, 1, 704] inb_S2x8x704_S1x1x704_1_0_0) (ix3 0 0 j) = x (ix3 1 0 j)
    ∧ View.ld x (Rect.unit ![1, 1, 0] ![1, 1, 704] inb_S2x8x704_S1x1x704_1_1_0) (ix3 0 0 j) = x (ix3 1 1 j)
    ∧ View.ld x (Rect.unit ![1, 2, 0] ![1, 1, 704] inb_S2x8x704_S1x1x704_1_2_0) (ix3 0 0 j) = x (ix3 1 2 j) := by
  refine ⟨⟨?_, ?_, ?_⟩, ?_, ?_, ?_⟩ <;> pointwise

theorem ld_taps (x : Vec Ideal S1x3x704 .f32) (j : Fin 704) :
    View.ld x (Rect.unit ![0, 0, 0] ![1, 1, 704] inb_S1x3x704_S1x1x704_0_0_0) (ix3 0 0 j) = x (ix3 0 0 j)
    ∧ View.ld x (Rect.unit ![0, 1, 0] ![1, 1, 704] inb_S1x3x704_S1x1x704_0_1_0) (ix3 0 0 j) = x (ix3 0 1 j)
    ∧ View.ld x (Rect.unit ![0, 2, 0] ![1, 1, 704] inb_S1x3x704_S1x1x704_0_2_0) (ix3 0 0 j) = x (ix3 0 2 j) := by
  refine ⟨?_, ?_, ?_⟩ <;> pointwise

theorem ld_wide (x : Vec Ideal S2x1024x704 .f32) (k : Fin 1024) (j : Fin 704) :
    View.ld x (Rect.unit ![0, 0, 0] ![1, 1024, 704] inb_S2x1024x704_S1x1024x704_0_0_0) (ix3 0 k j) = x (ix3 0 k j)
    ∧ View.ld x (Rect.unit ![1, 0, 0] ![1, 1024, 704] inb_S2x1024x704_S1x1024x704_1_0_0) (ix3 0 k j) = x (ix3 1 k j) := by
  refine ⟨?_, ?_⟩ <;> pointwise

section Half

variable (a g c s : FVec Ideal S512x704 .f32) (c0 c1 : Vec Ideal S1x1x704 .f32)

/-! The first half's stores are those of the second half, of another gradient. -/

theorem half_du (w0 w1 w2 : Vec Ideal S1x1x704 .f32) : k0_pay29 (F := Ideal) (k0_pay17 a g c s) (k0_pay20 w0) (k0_pay21 w1) (k0_pay22 w2) (k0_pay23 a g c s c0) (k0_pay24 c1) (k0_pay25 a g c s)
    (iota Kind.tc S512x704 32 [0] iota_S512x704_d0_w32) k0_pay26 (k0_pay27 c0) = k0_pay43 (k0_pay17 a g c s) (k0_pay38 w0) (k0_pay39 w1) (k0_pay40 w2) c0 c0 c1 := rfl

theorem half_tap0 (y : Vec Ideal S1x1x512x704 .bf16) (x : Vec Ideal S1x1x704 .f32) : k0_pay32 (F := Ideal) (k0_pay24 c1) (k0_pay25 a g c s)
    (iota Kind.tc S512x704 32 [0] iota_S512x704_d0_w32) k0_pay26 (k0_pay27 c0) y x = k0_pay46 (k0_pay42 (k0_pay17 a g c s) c0 c1) y x := rfl

theorem half_tap1 (y : Vec Ideal S1x1x512x704 .bf16) (x : Vec Ideal S1x1x704 .f32) :
    k0_pay34 (F := Ideal) (k0_pay33 (k0_pay23 a g c s c0) y x) = k0_pay46 (k0_pay41 (k0_pay17 a g c s) c0) y x := rfl

theorem half_tap2 (y : Vec Ideal S1x1x512x704 .bf16) (x : Vec Ideal S1x1x704 .f32) : k0_pay35 (F := Ideal) a (k0_pay31 y) x = k0_pay46 a y x := rfl

theorem other_tap1 (y : Vec Ideal S1x1x512x704 .bf16) (x : Vec Ideal S1x1x704 .f32) : k0_pay47 (F := Ideal) a y x = k0_pay46 a y x := rfl

theorem other_tap2 (y : Vec Ideal S1x1x512x704 .bf16) (x : Vec Ideal S1x1x704 .f32) : k0_pay48 (F := Ideal) a y x = k0_pay46 a y x := rfl

end Half

section Point

variable (h : Reals m c X Wu K Wd D) (t : Fin cfg0.N)

/-- Column `j` of the point's chunk of the gradient of the convolved projections, by rows from the block's first. -/
def E (X : Rows 4096 1024) (Wu : Rows 1024 5632) (K : Rows 3 5632) (Wd : Rows 2816 1024) (D : Rows 4096 1024) (s : Fin 2) (t : Fin cfg0.N) (j : Fin 704) (n : ℕ) : ℝ :=
  e X Wu K Wd D (wide s (chunk t) j) ((7 - t.val % 8) * 512 + n)

variable (cr : Vec Ideal S2x8x704 .f32) (hcr : ∀ (s : Fin 2) (r : Fin 8) j, cr (ix3 s r j) = (E X Wu K Wd D s t j (512 + r.val) : EReal))

abbrev aB : FVec Ideal S512x704 .f32 := k0_pay11 (F := Ideal) (iblk m c 0 t) (iblk m c 1 t)
abbrev l0B : Vec Ideal S1x1x512x704 .bf16 := View.ld (iblk m c 3 t) (Rect.unit ![0, 0, 0, 0] ![1, 1, 512, 704] inb_S2x1x512x704_S1x1x512x704_0_0_0_0)
abbrev l1B : Vec Ideal S1x1x512x704 .bf16 := View.ld (iblk m c 3 t) (Rect.unit ![1, 0, 0, 0] ![1, 1, 512, 704] inb_S2x1x512x704_S1x1x512x704_1_0_0_0)
abbrev u0B : Vec Ideal S1x1x512x704 .bf16 := View.ld (iblk m c 2 t) (Rect.unit ![0, 0, 0, 0] ![1, 1, 512, 704] inb_S2x1x512x704_S1x1x512x704_0_0_0_0)
abbrev u1B : Vec Ideal S1x1x512x704 .bf16 := View.ld (iblk m c 2 t) (Rect.unit ![1, 0, 0, 0] ![1, 1, 512, 704] inb_S2x1x512x704_S1x1x512x704_1_0_0_0)
abbrev gB : FVec Ideal S512x704 .f32 := k0_pay13 (F := Ideal) (l0B m c t)
abbrev cB : FVec Ideal S512x704 .f32 := k0_pay14 (F := Ideal) (l1B m c t)
abbrev sB : FVec Ideal S512x704 .f32 := k0_pay15 (F := Ideal) (l0B m c t)
abbrev d0B : FVec Ideal S512x704 .f32 := k0_pay17 (F := Ideal) (aB m c t) (gB m c t) (cB m c t) (sB m c t)
abbrev d1B : FVec Ideal S512x704 .f32 := k0_pay18 (F := Ideal) (aB m c t) (gB m c t) (sB m c t)
abbrev r00 (x : Vec Ideal S2x8x704 .f32) : Vec Ideal S1x1x704 .f32 := View.ld x (Rect.unit ![0, 0, 0] ![1, 1, 704] inb_S2x8x704_S1x1x704_0_0_0)
abbrev r01 (x : Vec Ideal S2x8x704 .f32) : Vec Ideal S1x1x704 .f32 := View.ld x (Rect.unit ![0, 1, 0] ![1, 1, 704] inb_S2x8x704_S1x1x704_0_1_0)
abbrev r02 (x : Vec Ideal S2x8x704 .f32) : Vec Ideal S1x1x704 .f32 := View.ld x (Rect.unit ![0, 2, 0] ![1, 1, 704] inb_S2x8x704_S1x1x704_0_2_0)
abbrev r10 (x : Vec Ideal S2x8x704 .f32) : Vec Ideal S1x1x704 .f32 := View.ld x (Rect.unit ![1, 0, 0] ![1, 1, 704] inb_S2x8x704_S1x1x704_1_0_0)
abbrev r11 (x : Vec Ideal S2x8x704 .f32) : Vec Ideal S1x1x704 .f32 := View.ld x (Rect.unit ![1, 1, 0] ![1, 1, 704] inb_S2x8x704_S1x1x704_1_1_0)
abbrev r12 (x : Vec Ideal S2x8x704 .f32) : Vec Ideal S1x1x704 .f32 := View.ld x (Rect.unit ![1, 2, 0] ![1, 1, 704] inb_S2x8x704_S1x1x704_1_2_0)
abbrev k0B (x : Vec Ideal S1x3x704 .f32) : Vec Ideal S1x1x704 .f32 := View.ld x (Rect.unit ![0, 0, 0] ![1, 1, 704] inb_S1x3x704_S1x1x704_0_0_0)
abbrev k1B (x : Vec Ideal S1x3x704 .f32) : Vec Ideal S1x1x704 .f32 := View.ld x (Rect.unit ![0, 1, 0] ![1, 1, 704] inb_S1x3x704_S1x1x704_0_1_0)
abbrev k2B (x : Vec Ideal S1x3x704 .f32) : Vec Ideal S1x1x704 .f32 := View.ld x (Rect.unit ![0, 2, 0] ![1, 1, 704] inb_S1x3x704_S1x1x704_0_2_0)
abbrev iB : IVec S512x704 32 := iota Kind.tc S512x704 32 [0] iota_S512x704_d0_w32
abbrev D0B : FVec Ideal S512x704 .bf16 :=
  k0_pay29 (F := Ideal) (d0B m c t) (k0_pay20 (k0B (iblk m c 6 t))) (k0_pay21 (k1B (iblk m c 6 t))) (k0_pay22 (k2B (iblk m c 6 t)))
    (k0_pay23 (aB m c t) (gB m c t) (cB m c t) (sB m c t) (r00 cr)) (k0_pay24 (r01 cr)) (k0_pay25 (aB m c t) (gB m c t) (cB m c t) (sB m c t)) iB k0_pay26 (k0_pay27 (r00 cr))
abbrev D1B : FVec Ideal S512x704 .bf16 :=
  k0_pay43 (F := Ideal) (d1B m c t) (k0_pay38 (k0B (iblk m c 7 t))) (k0_pay39 (k1B (iblk m c 7 t))) (k0_pay40 (k2B (iblk m c 7 t))) (r10 cr) (r10 cr) (r11 cr)

include h

theorem at_a (p : Fin 512) (j : Fin 704) : aB m c t (ix2 p j) = (da Wd D (row t p) (narrow (chunk t) j) : EReal) :=
  pay_da (D := fun p => D (row t p)) (Wd := fun j => Wd (narrow (chunk t) j)) (blk_d m c h t) (blk_wd m c h t) p j

theorem at_l0 (p : Fin 512) (j : Fin 704) : l0B m c t (ix4 0 0 p j) = (v X Wu K (row t p) (wide 0 (chunk t) j) : EReal) :=
  (ld_planes _ p j).1.trans (blk_v m c h t 0 p j)

theorem at_g (p : Fin 512) (j : Fin 704) : gB m c t (ix2 p j) = (v X Wu K (row t p) (wide 0 (chunk t) j) : EReal) := by
  rw [← at_l0 m c h t]
  pointwise [k0_pay13]

theorem at_c (p : Fin 512) (j : Fin 704) : cB m c t (ix2 p j) = (v X Wu K (row t p) (wide 1 (chunk t) j) : EReal) := by
  rw [← blk_v m c h t]
  pointwise [k0_pay14]
  exact (ld_planes _ p j).2

theorem at_s (p : Fin 512) (j : Fin 704) : sB m c t (ix2 p j) = (sg (v X Wu K (row t p) (wide 0 (chunk t) j)) : EReal) :=
  pay_sigma (G := fun p j => v X Wu K (row t p) (wide 0 (chunk t) j)) (at_l0 m c h t) p j

theorem at_d0 (p : Fin 512) (j : Fin 704) : d0B m c t (ix2 p j) = (E X Wu K Wd D 0 t j p.val : EReal) := by
  refine (pay_gate (A := fun p j => da Wd D (row t p) (narrow (chunk t) j)) (G := fun p j => v X Wu K (row t p) (wide 0 (chunk t) j))
    (S := fun p j => sg (v X Wu K (row t p) (wide 0 (chunk t) j))) (C := fun p j => v X Wu K (row t p) (wide 1 (chunk t) j))
    (at_a m c h t) (at_g m c h t) (at_s m c h t) (at_c m c h t) p j).trans ?_
  unfold E e
  rw [ext_of_lt _ (show (7 - t.val % 8) * 512 + p.val < 4096 from (row t p).isLt)]
  simp only [wide_zero, wide_one, dv_lo]
  rfl

theorem at_d1 (p : Fin 512) (j : Fin 704) : d1B m c t (ix2 p j) = (E X Wu K Wd D 1 t j p.val : EReal) := by
  refine (pay_other (A := fun p j => da Wd D (row t p) (narrow (chunk t) j)) (G := fun p j => v X Wu K (row t p) (wide 0 (chunk t) j))
    (S := fun p j => sg (v X Wu K (row t p) (wide 0 (chunk t) j))) (at_a m c h t) (at_g m c h t) (at_s m c h t) p j).trans ?_
  unfold E e
  rw [ext_of_lt _ (show (7 - t.val % 8) * 512 + p.val < 4096 from (row t p).isLt)]
  simp only [wide_zero, wide_one, dv_hi]
  rfl

theorem at_u0 (p : Fin 512) (j : Fin 704) : u0B m c t (ix4 0 0 p j) = (u X Wu (row t p) (wide 0 (chunk t) j) : EReal) :=
  (ld_planes _ p j).1.trans (blk_u m c h t 0 p j)

theorem at_u1 (p : Fin 512) (j : Fin 704) : u1B m c t (ix4 0 0 p j) = (u X Wu (row t p) (wide 1 (chunk t) j) : EReal) :=
  (ld_planes _ p j).2.trans (blk_u m c h t 1 p j)

include hcr

theorem at_D0 (p : Fin 512) (j : Fin 704) : D0B m c t cr (ix2 p j) = (du X Wu K Wd D (row t p) (wide 0 (chunk t) j) : EReal) :=
  (congrFun (half_du (aB m c t) (gB m c t) (cB m c t) (sB m c t) (r00 cr) (r01 cr) _ _ _) _).trans
    (pay_du (E := E X Wu K Wd D 0 t) (K := fun r j => K r (wide 0 (chunk t) j)) (at_d0 m c h t) (fun j => (ld_rows cr j).1.1.trans (hcr 0 0 j)) (fun j => (ld_rows cr j).1.2.1.trans (hcr 0 1 j))
      (fun j => (ld_taps _ j).1.trans (blk_k0 m c h t 0 j)) (fun j => (ld_taps _ j).2.1.trans (blk_k0 m c h t 1 j)) (fun j => (ld_taps _ j).2.2.trans (blk_k0 m c h t 2 j)) p j)

theorem at_D1 (p : Fin 512) (j : Fin 704) : D1B m c t cr (ix2 p j) = (du X Wu K Wd D (row t p) (wide 1 (chunk t) j) : EReal) :=
  pay_du (E := E X Wu K Wd D 1 t) (K := fun r j => K r (wide 1 (chunk t) j)) (at_d1 m c h t) (fun j => (ld_rows cr j).2.1.trans (hcr 1 0 j)) (fun j => (ld_rows cr j).2.2.1.trans (hcr 1 1 j))
    (fun j => (ld_taps _ j).1.trans (blk_k1 m c h t 0 j)) (fun j => (ld_taps _ j).2.1.trans (blk_k1 m c h t 1 j)) (fun j => (ld_taps _ j).2.2.trans (blk_k1 m c h t 2 j)) p j

/-- What the point adds to the two planes of the weights' gradient. -/
theorem in_planes (a : Vec Ideal S2x1024x704 .f32) (L) (s : Fin 2) (k : Fin 1024) (j : Fin 704) :
    View.canon (⟨Rect.unit ![1, 0, 0] ![1, 1024, 704] inb_S2x1024x704_S1x1024x704_1_0_0, k0_pay2 (F := Ideal) (k0_pay19 (iblk m c 5 t)) (D1B m c t cr) (View.ld a (Rect.unit ![1, 0, 0] ![1, 1024, 704] inb_S2x1024x704_S1x1024x704_1_0_0))⟩
      :: ⟨Rect.unit ![0, 0, 0] ![1, 1024, 704] inb_S2x1024x704_S1x1024x704_0_0_0, k0_pay37 (F := Ideal) (k0_pay19 (iblk m c 5 t)) (D0B m c t cr) (View.ld a (Rect.unit ![0, 0, 0] ![1, 1024, 704] inb_S2x1024x704_S1x1024x704_0_0_0))⟩ :: L) (ix3 s k j)
      = a (ix3 s k j) + ((∑ p, X (row t p) k * du X Wu K Wd D (row t p) (wide s (chunk t) j) : ℝ) : EReal) :=
  planes (Val := Elt Ideal) inb_S2x1024x704_S1x1024x704_0_0_0 inb_S2x1024x704_S1x1024x704_1_0_0 _ _ L
    (fun s k j => a (ix3 s k j) + ((∑ p, X (row t p) k * du X Wu K Wd D (row t p) (wide s (chunk t) j) : ℝ) : EReal))
    (fun k j => (pay_wu (X := fun p => X (row t p)) (U := fun p j => du X Wu K Wd D (row t p) (wide 0 (chunk t) j)) (blk_x m c h t) (at_D0 m c h t cr hcr) _ k j).trans (congrArg (· + ((_ : ℝ) : EReal)) (ld_wide a k j).1))
    (fun k j => (pay_wu (X := fun p => X (row t p)) (U := fun p j => du X Wu K Wd D (row t p) (wide 1 (chunk t) j)) (blk_x m c h t) (at_D1 m c h t cr hcr) _ k j).trans (congrArg (· + ((_ : ℝ) : EReal)) (ld_wide a k j).2)) s k j

/-- The point's rows of the projections' gradient. -/
theorem out_planes (L) (s : Fin 2) (p : Fin 512) (j : Fin 704) :
    View.canon (Val := Elt Ideal) (s := S2x1x512x704) (e := EltTy.bf16) (⟨Rect.unit ![1, 0, 0, 0] ![1, 1, 512, 704] inb_S2x1x512x704_S1x1x512x704_1_0_0_0, k0_pay1 (F := Ideal) (D1B m c t cr)⟩
      :: ⟨Rect.unit ![0, 0, 0, 0] ![1, 1, 512, 704] inb_S2x1x512x704_S1x1x512x704_0_0_0_0, k0_pay36 (F := Ideal) (D0B m c t cr)⟩ :: L) (ix4 s 0 p j)
      = (du X Wu K Wd D (row t p) (wide s (chunk t) j) : EReal) :=
  planes4 (Val := Elt Ideal) (e := EltTy.bf16) inb_S2x1x512x704_S1x1x512x704_0_0_0_0 inb_S2x1x512x704_S1x1x512x704_1_0_0_0 _ _ L
    (fun s p j => (du X Wu K Wd D (row t p) (wide s (chunk t) j) : EReal))
    (fun p j => Eq.trans (by pointwise [k0_pay36]) (at_D0 m c h t cr hcr p j))
    (fun p j => Eq.trans (by pointwise [k0_pay1]) (at_D1 m c h t cr hcr p j)) s p j

/-- What the point adds to the rows of the taps' gradient. -/
def dkt (X : Rows 4096 1024) (Wu : Rows 1024 5632) (K : Rows 3 5632) (Wd : Rows 2816 1024) (D : Rows 4096 1024) (s : Fin 2) (t : Fin cfg0.N) (r : Fin 3) (j : Fin 704) : ℝ :=
  ∑ p : Fin 512, e X Wu K Wd D (wide s (chunk t) j) ((row t p).val + (2 - r.val)) * u X Wu (row t p) (wide s (chunk t) j)

theorem in_rows {rd : List (View.Piece (Elt Ideal) S2x8x704 .f32) → S2x8x704.Idx → EReal} (R : Reads (Val := Elt Ideal) (e := .f32) (N := 8) (n := 704) rd) (a : Vec Ideal S2x8x704 .f32) (L) (s : Fin 2) (r : Fin 3) (j : Fin 704) :
    rd (⟨Rect.unit ![1, 2, 0] ![1, 1, 704] inb_S2x8x704_S1x1x704_1_2_0, k0_pay48 (F := Ideal) (d1B m c t) (u1B m c t) (r12 a)⟩
      :: ⟨Rect.unit ![1, 1, 0] ![1, 1, 704] inb_S2x8x704_S1x1x704_1_1_0, k0_pay47 (F := Ideal) (k0_pay41 (d1B m c t) (r10 cr)) (u1B m c t) (r11 a)⟩
      :: ⟨Rect.unit ![1, 0, 0] ![1, 1, 704] inb_S2x8x704_S1x1x704_1_0_0, k0_pay46 (F := Ideal) (k0_pay42 (d1B m c t) (r10 cr) (r11 cr)) (u1B m c t) (r10 a)⟩
      :: ⟨Rect.unit ![0, 2, 0] ![1, 1, 704] inb_S2x8x704_S1x1x704_0_2_0, k0_pay35 (F := Ideal) (d0B m c t) (k0_pay31 (u0B m c t)) (r02 a)⟩
      :: ⟨Rect.unit ![0, 1, 0] ![1, 1, 704] inb_S2x8x704_S1x1x704_0_1_0, k0_pay34 (F := Ideal) (k0_pay33 (k0_pay23 (aB m c t) (gB m c t) (cB m c t) (sB m c t) (r00 cr)) (u0B m c t) (r01 a))⟩
      :: ⟨Rect.unit ![0, 0, 0] ![1, 1, 704] inb_S2x8x704_S1x1x704_0_0_0, k0_pay32 (F := Ideal) (k0_pay24 (r01 cr)) (k0_pay25 (aB m c t) (gB m c t) (cB m c t) (sB m c t)) iB k0_pay26 (k0_pay27 (r00 cr)) (u0B m c t) (r00 a)⟩
      :: L) (ix3 s (r.castLE (by decide)) j) = a (ix3 s (r.castLE (by decide)) j) + (dkt X Wu K Wd D s t r j : EReal) := by
  have c00 : ∀ j, r00 cr (ix3 0 0 j) = (E X Wu K Wd D 0 t j 512 : EReal) := fun j => (ld_rows cr j).1.1.trans (hcr 0 0 j)
  have c01 : ∀ j, r01 cr (ix3 0 0 j) = (E X Wu K Wd D 0 t j 513 : EReal) := fun j => (ld_rows cr j).1.2.1.trans (hcr 0 1 j)
  have c10 : ∀ j, r10 cr (ix3 0 0 j) = (E X Wu K Wd D 1 t j 512 : EReal) := fun j => (ld_rows cr j).2.1.trans (hcr 1 0 j)
  have c11 : ∀ j, r11 cr (ix3 0 0 j) = (E X Wu K Wd D 1 t j 513 : EReal) := fun j => (ld_rows cr j).2.2.1.trans (hcr 1 1 j)
  have tap : ∀ (s : Fin 2) (r : Fin 3) (y : FVec Ideal S512x704 .f32) (w : Vec Ideal S1x1x512x704 .bf16) (x : Vec Ideal S1x1x704 .f32)
      (hy : ∀ p j, y (ix2 p j) = (E X Wu K Wd D s t j (p.val + (2 - r.val)) : EReal)) (hw : ∀ p j, w (ix4 0 0 p j) = (u X Wu (row t p) (wide s (chunk t) j) : EReal))
      (hx : x (ix3 0 0 j) = a (ix3 s (r.castLE (by decide)) j)), k0_pay46 (F := Ideal) y w x (ix3 0 0 j) = a (ix3 s (r.castLE (by decide)) j) + (dkt X Wu K Wd D s t r j : EReal) := by
    intro s r y w x hy hw hx
    rw [pay_tap (E := fun p j => E X Wu K Wd D s t j (p.val + (2 - r.val))) (U := fun p j => u X Wu (row t p) (wide s (chunk t) j)) hy hw x j, hx]
    unfold dkt E row
    simp only [Nat.add_assoc]
  exact rows (Val := Elt Ideal) R inb_S2x8x704_S1x1x704_0_0_0 inb_S2x8x704_S1x1x704_0_1_0 inb_S2x8x704_S1x1x704_0_2_0
    inb_S2x8x704_S1x1x704_1_0_0 inb_S2x8x704_S1x1x704_1_1_0 inb_S2x8x704_S1x1x704_1_2_0 _ _ _ _ _ _ L j
    (fun s r => a (ix3 s (r.castLE (by decide)) j) + (dkt X Wu K Wd D s t r j : EReal))
    ((congrFun (half_tap0 (aB m c t) (gB m c t) (cB m c t) (sB m c t) (r00 cr) (r01 cr) _ _) _).trans (tap 0 0 _ _ _ (pay_up2 (at_d0 m c h t) c00 c01) (at_u0 m c h t) (ld_rows a j).1.1))
    ((congrFun (half_tap1 (aB m c t) (gB m c t) (cB m c t) (sB m c t) (r00 cr) _ _) _).trans (tap 0 1 _ _ _ (pay_up1 (at_d0 m c h t) c00) (at_u0 m c h t) (ld_rows a j).1.2.1))
    ((congrFun (half_tap2 (d0B m c t) _ _) _).trans (tap 0 2 _ _ _ (at_d0 m c h t) (at_u0 m c h t) (ld_rows a j).1.2.2))
    (tap 1 0 _ _ _ (pay_up2 (at_d1 m c h t) c10 c11) (at_u1 m c h t) (ld_rows a j).2.1)
    ((congrFun (other_tap1 (k0_pay41 (d1B m c t) (r10 cr)) _ _) _).trans (tap 1 1 _ _ _ (pay_up1 (at_d1 m c h t) c10) (at_u1 m c h t) (ld_rows a j).2.2.1))
    ((congrFun (other_tap2 (d1B m c t) _ _) _).trans (tap 1 2 _ _ _ (at_d1 m c h t) (at_u1 m c h t) (ld_rows a j).2.2.2)) s r

omit hcr in
theorem carry_planes (L) (s : Fin 2) (r : Fin 8) (j : Fin 704) :
    View.canon (Val := Elt Ideal) (s := S2x8x704) (e := EltTy.f32) (⟨Rect.unit ![1, 0, 0] ![1, 8, 704] inb_S2x8x704_S1x8x704_1_0_0, k0_pay44 (F := Ideal) (d1B m c t)⟩
      :: ⟨Rect.unit ![0, 0, 0] ![1, 8, 704] inb_S2x8x704_S1x8x704_0_0_0, k0_pay30 (F := Ideal) (d0B m c t)⟩ :: L) (ix3 s r j) = (E X Wu K Wd D s t j r.val : EReal) :=
  planes (Val := Elt Ideal) (e := EltTy.f32) inb_S2x8x704_S1x8x704_0_0_0 inb_S2x8x704_S1x8x704_1_0_0 _ _ L (fun s r j => (E X Wu K Wd D s t j r.val : EReal))
    (fun r j => pay_carry (E := E X Wu K Wd D 0 t) (at_d0 m c h t) r j) (fun r j => pay_carry (E := E X Wu K Wd D 1 t) (at_d1 m c h t) r j) s r j

end Point

/-! ## What the scratch and the result blocks hold after a point -/

section After

variable (h : Reals m c X Wu K Wd D)
include h

theorem carry_after (t : Fin cfg0.N) (s : Fin 2) (r : Fin 8) (j : Fin 704) :
    (outsAt0 m c t.val t.isLt).2.2.2.2.2.2.2 (ix3 s r j) = (E X Wu K Wd D s t j r.val : EReal) := by
  by_cases h0 : t.val % 8 = 0
  · rw [outsAt0_A m c t h0 (by omega)]
    frame_out
    exact carry_planes m c h t _ s r j
  · by_cases h1 : t.val % 8 = 7
    on_goal 1 => rw [outsAt0_C m c t h0 h1]
    on_goal 2 => rw [outsAt0_B m c t h0 h1]
    all_goals
      frame_out
      exact carry_planes m c h t _ s r j

theorem carry_prev (t : Fin cfg0.N) (h0 : ¬t.val % 8 = 0) (s : Fin 2) (r : Fin 8) (j : Fin 704) :
    (outsAt0 m c (t.val - 1) (Nat.lt_of_le_of_lt (Nat.sub_le _ _) t.isLt)).2.2.2.2.2.2.2 (ix3 s r j) = (E X Wu K Wd D s t j (512 + r.val) : EReal) := by
  refine (carry_after m c h ⟨t.val - 1, Nat.lt_of_le_of_lt (Nat.sub_le _ _) t.isLt⟩ s r j).trans ?_
  unfold E
  rw [show chunk ⟨t.val - 1, Nat.lt_of_le_of_lt (Nat.sub_le _ _) t.isLt⟩ = chunk t from Fin.ext (by simp only [chunk]; omega),
    show (7 - (t.val - 1) % 8) * 512 + r.val = (7 - t.val % 8) * 512 + (512 + r.val) by omega]

omit h in
theorem carry_zero (t : Fin cfg0.N) (h0 : t.val % 8 = 0) (s : Fin 2) (r : Fin 8) (j : Fin 704) :
    k0_pay9 (F := Ideal) (ix3 s r j) = (E X Wu K Wd D s t j (512 + r.val) : EReal) := by
  unfold E e
  rw [ext_of_le _ (by omega)]
  pointwise [k0_pay9]
  exact EReal.coe_zero.symm

theorem after_up (t : Fin cfg0.N) (s : Fin 2) (k : Fin 1024) (j : Fin 704) :
    (t.val % 8 = 0 → (outsAt0 m c t.val t.isLt).2.2.2.2.1 (ix3 s k j) = (0 : EReal) + ((∑ p, X (row t p) k * du X Wu K Wd D (row t p) (wide s (chunk t) j) : ℝ) : EReal))
    ∧ (¬t.val % 8 = 0 → (outsAt0 m c t.val t.isLt).2.2.2.2.1 (ix3 s k j)
      = (outsAt0 m c (t.val - 1) (Nat.lt_of_le_of_lt (Nat.sub_le _ _) t.isLt)).2.2.2.2.1 (ix3 s k j) + ((∑ p, X (row t p) k * du X Wu K Wd D (row t p) (wide s (chunk t) j) : ℝ) : EReal)) := by
  refine ⟨fun h0 => ?_, fun h0 => ?_⟩
  · rw [outsAt0_A m c t h0 (by omega)]
    frame_out
    simp (config := {decide := true}) only [↓View.readCov_skip, View.readCov_fill]
    refine (in_planes m c h t (k0_pay9 (F := Ideal)) (carry_zero t h0) (k0_pay6 (F := Ideal)) _ s k j).trans (congrArg (· + ((_ : ℝ) : EReal)) ?_)
    pointwise [k0_pay6]
  · by_cases h1 : t.val % 8 = 7
    on_goal 1 => rw [outsAt0_C m c t h0 h1]
    on_goal 2 => rw [outsAt0_B m c t h0 h1]
    all_goals
      frame_out
      simp only [read_unread_whole]
      exact in_planes m c h t _ (carry_prev m c h t h0) _ _ s k j

theorem after_down (t : Fin cfg0.N) (j : Fin 704) (l : Fin 1024) :
    (t.val % 8 = 0 → (outsAt0 m c t.val t.isLt).2.2.2.2.2.1 (ix2 j l) = (0 : EReal) + ((∑ p, act X Wu K (row t p) (narrow (chunk t) j) * D (row t p) l : ℝ) : EReal))
    ∧ (¬t.val % 8 = 0 → (outsAt0 m c t.val t.isLt).2.2.2.2.2.1 (ix2 j l)
      = (outsAt0 m c (t.val - 1) (Nat.lt_of_le_of_lt (Nat.sub_le _ _) t.isLt)).2.2.2.2.2.1 (ix2 j l)
        + ((∑ p, act X Wu K (row t p) (narrow (chunk t) j) * D (row t p) l : ℝ) : EReal)) := by
  have step := fun w : Vec Ideal S704x1024 .f32 => pay_down (v8 := w) (D := fun p => D (row t p)) (A := fun p j => act X Wu K (row t p) (narrow (chunk t) j)) (blk_d m c h t) (blk_act m c h t) j l
  refine ⟨fun h0 => ?_, fun h0 => ?_⟩
  · rw [outsAt0_A m c t h0 (by omega)]
    frame_out
    refine (step _).trans (congrArg (· + ((_ : ℝ) : EReal)) ?_)
    pointwise [k0_pay7]
  · by_cases h1 : t.val % 8 = 7
    on_goal 1 => rw [outsAt0_C m c t h0 h1]
    on_goal 2 => rw [outsAt0_B m c t h0 h1]
    all_goals
      frame_out
      simp only [read_unread_whole]
      exact step _

theorem after_k (t : Fin cfg0.N) (s : Fin 2) (r : Fin 3) (j : Fin 704) :
    (t.val % 8 = 0 → (outsAt0 m c t.val t.isLt).2.2.2.2.2.2.1 (ix3 s (r.castLE (by decide)) j) = (0 : EReal) + (dkt X Wu K Wd D s t r j : EReal))
    ∧ (¬t.val % 8 = 0 → (outsAt0 m c t.val t.isLt).2.2.2.2.2.2.1 (ix3 s (r.castLE (by decide)) j)
      = (outsAt0 m c (t.val - 1) (Nat.lt_of_le_of_lt (Nat.sub_le _ _) t.isLt)).2.2.2.2.2.2.1 (ix3 s (r.castLE (by decide)) j) + (dkt X Wu K Wd D s t r j : EReal)) := by
  refine ⟨fun h0 => ?_, fun h0 => ?_⟩
  · rw [outsAt0_A m c t h0 (by omega)]
    frame_out
    simp (config := {decide := true}) only [↓View.readCov_skip, View.readCov_fill]
    refine (in_rows m c h t (k0_pay9 (F := Ideal)) (carry_zero t h0) reads_canon (k0_pay8 (F := Ideal)) _ s r j).trans (congrArg (· + ((_ : ℝ) : EReal)) ?_)
    pointwise [k0_pay8]
  · by_cases h1 : t.val % 8 = 7
    on_goal 1 => rw [outsAt0_C m c t h0 h1]
    on_goal 2 => rw [outsAt0_B m c t h0 h1]
    all_goals
      frame_out
      simp only [read_unread_whole]
      exact in_rows m c h t _ (carry_prev m c h t h0) (reads_writes _ _) _ [] s r j

theorem after8 (t : Fin cfg0.N) (s : Fin 2) (p : Fin 512) (j : Fin 704) : (outsAt0 m c t.val t.isLt).1 (ix4 s 0 p j) = (du X Wu K Wd D (row t p) (wide s (chunk t) j) : EReal) := by
  by_cases h0 : t.val % 8 = 0
  · rw [outsAt0_A m c t h0 (by omega)]
    frame_out
    simp (config := {decide := true}) only [↓View.readCov_skip, View.readCov_fill]
    exact out_planes m c h t (k0_pay9 (F := Ideal)) (carry_zero t h0) _ s p j
  · by_cases h1 : t.val % 8 = 7
    on_goal 1 => rw [outsAt0_C m c t h0 h1]
    on_goal 2 => rw [outsAt0_B m c t h0 h1]
    all_goals
      frame_out
      simp only [read_unread_whole]
      exact out_planes m c h t _ (carry_prev m c h t h0) _ s p j

theorem last_up (t : Fin cfg0.N) (h1 : t.val % 8 = 7) (s : Fin 2) (k : Fin 1024) (j : Fin 704) :
    (outsAt0 m c t.val t.isLt).2.1 (ix4 s 0 k j) = (outsAt0 m c t.val t.isLt).2.2.2.2.1 (ix3 s k j) := by
  rw [outsAt0_C m c t (by omega) h1]
  frame_out
  rw [cov_whole _ _ _ (by decide)]
  pointwise [k0_pay3]

theorem last_down (t : Fin cfg0.N) (h1 : t.val % 8 = 7) (j : Fin 704) (l : Fin 1024) :
    (outsAt0 m c t.val t.isLt).2.2.1 (ix3 0 j l) = (outsAt0 m c t.val t.isLt).2.2.2.2.2.1 (ix2 j l) := by
  rw [outsAt0_C m c t (by omega) h1]
  frame_out
  pointwise [k0_pay4]

theorem last_k (t : Fin cfg0.N) (h1 : t.val % 8 = 7) (s : Fin 2) (r : Fin 3) (j : Fin 704) :
    (outsAt0 m c t.val t.isLt).2.2.2.1 (ix4 s 0 r j) = (outsAt0 m c t.val t.isLt).2.2.2.2.2.2.1 (ix3 s (r.castLE (by decide)) j) := by
  refine Eq.trans ?_ ((after_k m c h t s r j).2 (by omega)).symm
  rw [outsAt0_C m c t (by omega) h1]
  frame_out
  simp only [read_unread_whole]
  have e : ∀ x : Vec Ideal S2x8x704 .f32, k0_pay5 (F := Ideal) (View.ld x (Rect.unit ![0, 0, 0] ![2, 3, 704] inb_S2x8x704_S2x3x704_0_0_0)) (ix4 s 0 r j) = x (ix3 s (r.castLE (by decide)) j) := fun x => by
    pointwise [k0_pay5]
    rfl
  rw [View.readCov_eq_canon']
  exact (e _).trans (in_rows m c h t _ (carry_prev m c h t (by omega)) reads_canon _ [] s r j)

omit h in
/-- Eight blocks of rows, the last one first, are all rows. -/
theorem total (f : (n : ℕ) → n < cfg0.N → EReal) (g : Fin 4 → Fin 4096 → ℝ)
    (h0 : ∀ t : Fin cfg0.N, t.val % 8 = 0 → f t.val t.isLt = (0 : EReal) + ((∑ p, g (chunk t) (row t p) : ℝ) : EReal))
    (hs : ∀ t : Fin cfg0.N, ¬t.val % 8 = 0 → f t.val t.isLt = f (t.val - 1) (Nat.lt_of_le_of_lt (Nat.sub_le _ _) t.isLt) + ((∑ p, g (chunk t) (row t p) : ℝ) : EReal))
    (t : Fin cfg0.N) (h1 : t.val % 8 = 7) : f t.val t.isLt = ((∑ i, g (chunk t) i : ℝ) : EReal) := by
  rw [Pipeline.eq_sum_fin_of_reset_step_of_flush f 8 0 (fun t => ((∑ p, g (chunk t) (row t p) : ℝ) : EReal)) h0 hs t h1, zero_add, coe_sum]
  refine congrArg _ ?_
  rw [Fin.sum_univ_tiles 8 512 rfl (g (chunk t)), ← Equiv.sum_comp Fin.revPerm]
  refine Finset.sum_congr rfl fun s _ => Finset.sum_congr rfl fun p _ => ?_
  refine congrArg₂ g (Fin.ext ?_) (Fin.ext ?_)
  · simp only [chunk]
    omega
  · simp [row, Fin.rev]
    omega

theorem emb8 (t : Fin cfg0.N) (s : Fin 2) (p : Fin 512) (j : Fin 704) : ((cfg0.win 8).blk t).view.emb (ix4 s 0 p j) = ix4 s (chunk t) (row t p) j := by
  unfold row chunk
  blk_ext [idx t]

theorem emb9 (t : Fin cfg0.N) (s : Fin 2) (k : Fin 1024) (j : Fin 704) : ((cfg0.win 9).blk t).view.emb (ix4 s 0 k j) = ix4 s (chunk t) k j := by
  unfold chunk
  blk_ext [idx t]

theorem emb10 (t : Fin cfg0.N) (j : Fin 704) (l : Fin 1024) : ((cfg0.win 10).blk t).view.emb (ix3 0 j l) = ix3 (chunk t) j l := by
  unfold chunk
  blk_ext [idx t]

theorem emb11 (t : Fin cfg0.N) (s : Fin 2) (r : Fin 3) (j : Fin 704) : ((cfg0.win 11).blk t).view.emb (ix4 s 0 r j) = ix4 s (chunk t) r j := by
  unfold chunk
  blk_ext [idx t]

theorem result_du : (dats m 0 c).arrAt 8 (cfgs 0).N = fun i : S2x4x4096x704.Idx => (du X Wu K Wd D (i 2) (wide (i 0) (i 1) (i 3)) : EReal) := by
  refine (dats m 0 c).arrAt_eq_of_covers 8 _ (by decide +kernel) fun t hf y => ?_
  obtain ⟨s, p, j, rfl⟩ : ∃ s p j, y = ix4 s 0 p j := ⟨y 0, y 2, y 3, (eq_ix4 y).trans (congrArg (fun z => ix4 (y 0) z (y 2) (y 3)) (Subsingleton.elim (α := Fin 1) _ _))⟩
  rw [emb8 m c h t s p j]
  blk_simp
  rw [after0_8]
  exact after8 m c h t s p j

theorem result_up : (dats m 0 c).arrAt 9 (cfgs 0).N = fun i : S2x4x1024x704.Idx => (dwu X Wu K Wd D (i 2) (wide (i 0) (i 1) (i 3)) : EReal) := by
  refine (dats m 0 c).arrAt_eq_of_covers 9 _ (by decide +kernel) fun t hf y => ?_
  have h1 : t.val % 8 = 7 := (flush0_9 t).mp hf
  obtain ⟨s, k, j, rfl⟩ : ∃ s k j, y = ix4 s 0 k j := ⟨y 0, y 2, y 3, (eq_ix4 y).trans (congrArg (fun z => ix4 (y 0) z (y 2) (y 3)) (Subsingleton.elim (α := Fin 1) _ _))⟩
  rw [emb9 m c h t s k j]
  blk_simp
  rw [after0_9]
  exact (last_up m c h t h1 s k j).trans (total (fun n hn => (outsAt0 m c n hn).2.2.2.2.1 (ix3 s k j)) (fun q i => X i k * du X Wu K Wd D i (wide s q j))
    (fun t => (after_up m c h t s k j).1) (fun t => (after_up m c h t s k j).2) t h1)

theorem result_down : (dats m 0 c).arrAt 10 (cfgs 0).N = fun i : S4x704x1024.Idx => (dwd X Wu K D (narrow (i 0) (i 1)) (i 2) : EReal) := by
  refine (dats m 0 c).arrAt_eq_of_covers 10 _ (by decide +kernel) fun t hf y => ?_
  have h1 : t.val % 8 = 7 := (flush0_10 t).mp hf
  obtain ⟨j, l, rfl⟩ : ∃ j l, y = ix3 0 j l := ⟨y 1, y 2, (eq_ix3 y).trans (congrArg (fun z => ix3 z (y 1) (y 2)) (Subsingleton.elim (α := Fin 1) _ _))⟩
  rw [emb10 m c h t j l]
  blk_simp
  rw [after0_10]
  exact (last_down m c h t h1 j l).trans (total (fun n hn => (outsAt0 m c n hn).2.2.2.2.2.1 (ix2 j l)) (fun q i => act X Wu K i (narrow q j) * D i l)
    (fun t => (after_down m c h t j l).1) (fun t => (after_down m c h t j l).2) t h1)

theorem result_k : (dats m 0 c).arrAt 11 (cfgs 0).N = fun i : S2x4x3x704.Idx => (dk X Wu K Wd D (i 2) (wide (i 0) (i 1) (i 3)) : EReal) := by
  refine (dats m 0 c).arrAt_eq_of_covers 11 _ (by decide +kernel) fun t hf y => ?_
  have h1 : t.val % 8 = 7 := (flush0_11 t).mp hf
  obtain ⟨s, r, j, rfl⟩ : ∃ s r j, y = ix4 s 0 r j := ⟨y 0, y 2, y 3, (eq_ix4 y).trans (congrArg (fun z => ix4 (y 0) z (y 2) (y 3)) (Subsingleton.elim (α := Fin 1) _ _))⟩
  rw [emb11 m c h t s r j]
  blk_simp
  rw [after0_11]
  exact (last_k m c h t h1 s r j).trans (total (fun n hn => (outsAt0 m c n hn).2.2.2.2.2.2.1 (ix3 s (r.castLE (by decide)) j))
    (fun q i => e X Wu K Wd D (wide s q j) (i.val + (2 - r.val)) * u X Wu i (wide s q j))
    (fun t => (after_k m c h t s r j).1) (fun t => (after_k m c h t s r j).2) t h1)

end After

/-- The results at the end of the call, the arguments unchanged. -/
theorem run_at (g : Dev nD → PrngReg) : θ_run defs (onTc (τ := τ) (main (F := Ideal))) ⟨m, fun _ => 0, g⟩ (fun r => ∀ c : Dev nD,
      r.2.mem ((c.tc : Thread nD τ).loc main_v44_0) = (dats m 0 c).arrAt 8 (cfgs 0).N
      ∧ r.2.mem ((c.tc : Thread nD τ).loc main_v44_1) = (dats m 0 c).arrAt 9 (cfgs 0).N
      ∧ r.2.mem ((c.tc : Thread nD τ).loc main_v44_2) = (dats m 0 c).arrAt 10 (cfgs 0).N
      ∧ r.2.mem ((c.tc : Thread nD τ).loc main_v44_3) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 8, (h.1 c).1 9, (h.1 c).1 10, (h.1 c).1 11, h.2 c⟩) (θ_run_and (run_main m g) (unchanged m g))

end Cert.FfnIdeal.Proof

end
-- ==== Proof.FfnRef.lean ====
module

public import proofs.«01_k».proof.Proof.Gen.FfnRefIdeal.Read
public import proofs.«01_k».proof.Proof.FfnMath
public import Idealize.ShloMosaic.Lib.Pointwise

/-! The reference of the gated feed-forward's backward over real inputs. -/

@[expose] public section

set_option maxRecDepth 16384

noncomputable section

namespace Cert.FfnRefIdeal.Proof

open Cert.FfnRefIdeal Cert.FfnRefIdeal.Gen Cert.FfnRefIdeal.Read Idealize.ShloMosaic Idealize.ShloMosaic.TcCoe Idealize.SL.Sem
open Cert.Reals Cert.Shift Cert.FfnMath

variable {x0 : FVec Ideal S4096x1024 .f32} {x1 : FVec Ideal S1024x5632 .f32} {x2 : FVec Ideal S3x5632 .f32} {x3 : FVec Ideal S2816x1024 .f32} {x4 : FVec Ideal S4096x1024 .f32}
variable {X : Rows 4096 1024} {Wu : Rows 1024 5632} {K : Rows 3 5632} {Wd : Rows 2816 1024} {D : Rows 4096 1024}

section Forward

variable (hx : ∀ i k, x0 (ix2 i k) = (X i k : EReal)) (hw : ∀ i k, x1 (ix2 i k) = (Wu i k : EReal)) (hk : ∀ i k, x2 (ix2 i k) = (K i k : EReal))
include hx hw

theorem proj (i : Fin 4096) (k : Fin 5632) : val_main_v0 (F := Ideal) x0 x1 (ix2 i k) = (u X Wu i k : EReal) := by
  pointwise [val_main_v0, hx, hw]
  simp only [← EReal.coe_mul, coe_sum]
  rfl

theorem down2 (i : Fin 4096) (k : Fin 5632) : val_main_v5 (F := Ideal) x0 x1 (ix2 i k) = (down 2 (fun i => u X Wu i k) i : EReal) := by
  pointwise [val_main_v5, val_main_v4, val_main_v3, val_main_cst, proj hx hw]
  unfold down
  split <;> split
  · omega
  · rfl
  · rfl
  · omega

theorem down1 (i : Fin 4096) (k : Fin 5632) : val_main_v14 (F := Ideal) x0 x1 (ix2 i k) = (down 1 (fun i => u X Wu i k) i : EReal) := by
  pointwise [val_main_v14, val_main_v13, val_main_v12, val_main_cst_1, proj hx hw]
  unfold down
  split <;> split
  · omega
  · rfl
  · rfl
  · omega

include hk

theorem conv (i : Fin 4096) (k : Fin 5632) : val_main_v25 (F := Ideal) x0 x1 x2 (ix2 i k) = (v X Wu K i k : EReal) := by
  pointwise [val_main_v25, val_main_v24, val_main_v23, val_main_v22, val_main_v21, val_main_v20, val_main_v19, val_main_v18, val_main_v17, val_main_v16, val_main_v11, val_main_v10,
    val_main_v9, val_main_v8, val_main_v7, val_main_v2, val_main_v1, down2 hx hw, down1 hx hw, proj hx hw, hk]
  simp only [← EReal.coe_mul, ← EReal.coe_add]
  rfl

theorem gate (i : Fin 4096) (j : Fin 2816) : val_main_v26 (F := Ideal) x0 x1 x2 (ix2 i j) = (v X Wu K i (lo j) : EReal) := by
  pointwise [val_main_v26, conv hx hw hk]
  rfl

theorem other (i : Fin 4096) (j : Fin 2816) : val_main_v27 (F := Ideal) x0 x1 x2 (ix2 i j) = (v X Wu K i (hi j) : EReal) := by
  pointwise [val_main_v27, conv hx hw hk]
  rfl

theorem sigma (i : Fin 4096) (j : Fin 2816) : val_main_v28_2 (F := Ideal) x0 x1 x2 (ix2 i j) = (sg (v X Wu K i (lo j)) : EReal) := by
  pointwise [val_main_v28_2, val_main_call0_v4, val_main_call0_v3, val_main_call0_v2, val_main_call0_v1, val_main_call0_v0, val_main_call0_cst, val_main_call0_cst_0, gate hx hw hk]
  exact sg_of _

theorem slope (i : Fin 4096) (j : Fin 2816) :
    val_main_v28_1 (F := Ideal) x0 x1 x2 (ix2 i j) = ((sg (v X Wu K i (lo j)) * (1 - sg (v X Wu K i (lo j))) : ℝ) : EReal) := by
  pointwise [val_main_v28_1, val_main_call0_v7, val_main_call0_v6, val_main_call0_cst_1, sigma hx hw hk]
  rw [one_eq_coe, ← EReal.coe_sub, ← EReal.coe_mul]

theorem silu (i : Fin 4096) (j : Fin 2816) : val_main_v28_0 (F := Ideal) x0 x1 x2 (ix2 i j) = ((v X Wu K i (lo j) * sg (v X Wu K i (lo j)) : ℝ) : EReal) := by
  pointwise [val_main_v28_0, gate hx hw hk, sigma hx hw hk]
  rw [← EReal.coe_mul]

theorem product (i : Fin 4096) (j : Fin 2816) : val_main_v29 (F := Ideal) x0 x1 x2 (ix2 i j) = (act X Wu K i j : EReal) := by
  pointwise [val_main_v29, silu hx hw hk, other hx hw hk]
  rw [← EReal.coe_mul]
  rfl

theorem result_down (hd : ∀ i k, x4 (ix2 i k) = (D i k : EReal)) :
    val_main_v81 (F := Ideal) x0 x1 x2 x4 = fun i : S4x704x1024.Idx => (dwd X Wu K D (narrow (i 0) (i 1)) (i 2) : EReal) := by
  funext i
  idx_vars i
  pointwise [val_main_v81, val_main_v80, val_main_v32, val_main_v31, product hx hw hk, hd]
  simp only [← EReal.coe_mul, coe_sum]
  unfold dwd
  refine congrArg _ (Finset.sum_congr rfl fun i _ => ?_)
  rw [mul_comm]
  rfl

end Forward

section Backward

variable (hx : ∀ i k, x0 (ix2 i k) = (X i k : EReal)) (hw : ∀ i k, x1 (ix2 i k) = (Wu i k : EReal)) (hk : ∀ i k, x2 (ix2 i k) = (K i k : EReal))
  (ho : ∀ i k, x3 (ix2 i k) = (Wd i k : EReal)) (hd : ∀ i k, x4 (ix2 i k) = (D i k : EReal))

include ho hd in
theorem grad_act (i : Fin 4096) (j : Fin 2816) : val_main_v33 (F := Ideal) x3 x4 (ix2 i j) = (da Wd D i j : EReal) := by
  pointwise [val_main_v33, ho, hd]
  simp only [← EReal.coe_mul, coe_sum]
  rfl

include hx hw hk ho hd

theorem grad_other (i : Fin 4096) (j : Fin 2816) : val_main_v34 (F := Ideal) x0 x1 x2 x3 x4 (ix2 i j) = (dc X Wu K Wd D i j : EReal) := by
  pointwise [val_main_v34, silu hx hw hk, grad_act ho hd]
  rw [← EReal.coe_mul, mul_comm]
  rfl

theorem grad_gate (i : Fin 4096) (j : Fin 2816) : val_main_v36 (F := Ideal) x0 x1 x2 x3 x4 (ix2 i j) = (dg X Wu K Wd D i j : EReal) := by
  pointwise [val_main_v36, val_main_call1_v2, val_main_call1_v1, val_main_call1_v0, val_main_v35, gate hx hw hk, other hx hw hk, sigma hx hw hk, slope hx hw hk, grad_act ho hd]
  simp only [← EReal.coe_mul, ← EReal.coe_add]
  refine congrArg _ ?_
  unfold dg
  ring

theorem grad_conv (i : Fin 4096) (k : Fin 5632) : val_main_v37 (F := Ideal) x0 x1 x2 x3 x4 (ix2 i k) = (dv X Wu K Wd D i k : EReal) := by
  pointwise [val_main_v37, grad_gate hx hw hk ho hd, grad_other hx hw hk ho hd]
  unfold dv
  split <;> rfl

/-- A row of the taps' gradient: the products' column sums. -/
theorem tap2 (k : Fin 5632) (z : Fin 1) : val_main_v44 (F := Ideal) x0 x1 x2 x3 x4 (ix2 z k) = (dk X Wu K Wd D 2 k : EReal) := by
  pointwise [val_main_v44, val_main_v43, val_main_v42, val_main_v41, val_main_v40, val_main_cst_3, val_main_cst_4, grad_conv hx hw hk ho hd, proj hx hw]
  simp only [← EReal.coe_mul, coe_sum, zero_add, Fin.sum_univ_one]
  unfold dk e
  refine congrArg _ (Finset.sum_congr rfl fun i _ => ?_)
  exact congrArg (· * _) (ext_val (fun i => dv X Wu K Wd D i k) i).symm

theorem tap1 (k : Fin 5632) (z : Fin 1) : val_main_v56 (F := Ideal) x0 x1 x2 x3 x4 (ix2 z k) = (dk X Wu K Wd D 1 k : EReal) := by
  pointwise [val_main_v56, val_main_v51, val_main_v50, val_main_v49, val_main_v48, val_main_cst_6, val_main_cst_7, grad_conv hx hw hk ho hd, down1 hx hw]
  simp only [← EReal.coe_mul, coe_sum, zero_add, Fin.sum_univ_one]
  exact congrArg _ (sum_down 1 (fun i => dv X Wu K Wd D i k) (fun i => u X Wu i k))

theorem tap0 (k : Fin 5632) (z : Fin 1) : val_main_v69 (F := Ideal) x0 x1 x2 x3 x4 (ix2 z k) = (dk X Wu K Wd D 0 k : EReal) := by
  pointwise [val_main_v69, val_main_v64, val_main_v63, val_main_v62, val_main_v61, val_main_cst_10, val_main_cst_11, grad_conv hx hw hk ho hd, down2 hx hw]
  simp only [← EReal.coe_mul, coe_sum, zero_add, Fin.sum_univ_one]
  exact congrArg _ (sum_down 2 (fun i => dv X Wu K Wd D i k) (fun i => u X Wu i k))

theorem taps (r : Fin 3) (k : Fin 5632) : val_main_v71 (F := Ideal) x0 x1 x2 x3 x4 (ix2 r k) = (dk X Wu K Wd D r k : EReal) := by
  pointwise [val_main_v71, val_main_v70, val_main_v58, val_main_v57, val_main_v45, val_main_cst_5, val_main_cst_9, val_main_cst_13, tap0 hx hw hk ho hd, tap1 hx hw hk ho hd, tap2 hx hw hk ho hd]
  fin_cases r <;> simp

theorem result_k : val_main_v83 (F := Ideal) x0 x1 x2 x3 x4 = fun i : S2x4x3x704.Idx => (dk X Wu K Wd D (i 2) (wide (i 0) (i 1) (i 3)) : EReal) := by
  funext i
  idx_vars i
  pointwise [val_main_v83, val_main_v82, taps hx hw hk ho hd]
  rfl

theorem grad_u (i : Fin 4096) (k : Fin 5632) : val_main_v68 (F := Ideal) x0 x1 x2 x3 x4 (ix2 i k) = (du X Wu K Wd D i k : EReal) := by
  pointwise [val_main_v68, val_main_v67, val_main_v66, val_main_v60, val_main_v59, val_main_v55, val_main_v54, val_main_v53, val_main_v47, val_main_v46, val_main_v39, val_main_v38,
    val_main_v22, val_main_v21, val_main_v20, val_main_v16, val_main_v11, val_main_v10, val_main_v7, val_main_v2, val_main_v1, val_main_cst_8, val_main_cst_12, grad_conv hx hw hk ho hd, hk]
  unfold du e
  have e : ∀ (r : Fin 3) (n : ℕ), (if h : i.val < 4096 - n then ((K r k : EReal)) * (dv X Wu K Wd D ⟨n + i.val, by omega⟩ k : EReal) else 0)
      = ((K r k * ext (fun i => dv X Wu K Wd D i k) (i.val + n) : ℝ) : EReal) := fun r n => by
    split
    · rw [ext_of_lt _ (by omega : i.val + n < 4096), ← EReal.coe_mul]
      simp only [Nat.add_comm]
    · rw [ext_of_le _ (by omega), mul_zero, EReal.coe_zero]
  rw [ext_val, EReal.coe_add, EReal.coe_add, ← e 1 1, ← e 0 2, EReal.coe_mul]

theorem result_du : val_main_v76 (F := Ideal) x0 x1 x2 x3 x4 = fun i : S2x4x4096x704.Idx => (du X Wu K Wd D (i 2) (wide (i 0) (i 1) (i 3)) : EReal) := by
  funext i
  idx_vars i
  pointwise [val_main_v76, val_main_v75, val_main_v74, grad_u hx hw hk ho hd]
  rfl

theorem result_up : val_main_v79 (F := Ideal) x0 x1 x2 x3 x4 = fun i : S2x4x1024x704.Idx => (dwu X Wu K Wd D (i 2) (wide (i 0) (i 1) (i 3)) : EReal) := by
  funext i
  idx_vars i
  pointwise [val_main_v79, val_main_v78, val_main_v77, val_main_v73, val_main_v72, grad_u hx hw hk ho hd, hx]
  simp only [← EReal.coe_mul, coe_sum]
  unfold dwu
  refine congrArg _ (Finset.sum_congr rfl fun i _ => ?_)
  rw [mul_comm]
  rfl

end Backward

end Cert.FfnRefIdeal.Proof

end
-- ==== Proof.FfnPre.lean ====
module

public import proofs.«01_k».proof.Pre_ffn_finite
public import proofs.«01_k».proof.Proof.Reals
public import Idealize.ShloMosaic.Lib.Pointwise

@[expose] public section

set_option maxRecDepth 16384

noncomputable section

namespace Cert.Pre_ffn_finite.Proof

open Cert.Pre_ffn_finite Idealize.ShloMosaic Cert.Reals

variable [Facts]

/-- The precondition says that every argument is an array of reals. -/
theorem reals (x0 : FVec Ideal S4096x1024 .f32) (x1 : FVec Ideal S1024x5632 .f32) (x2 : FVec Ideal S3x5632 .f32) (x3 : FVec Ideal S2816x1024 .f32) (x4 : FVec Ideal S4096x1024 .f32)
    (e : fn (F := Ideal) x0 x1 x2 x3 x4 = fun _ => 1#1) :
    (∃ r : S4096x1024.Idx → ℝ, x0 = fun i => (r i : EReal)) ∧ (∃ r : S1024x5632.Idx → ℝ, x1 = fun i => (r i : EReal))
    ∧ (∃ r : S3x5632.Idx → ℝ, x2 = fun i => (r i : EReal)) ∧ (∃ r : S2816x1024.Idx → ℝ, x3 = fun i => (r i : EReal))
    ∧ (∃ r : S4096x1024.Idx → ℝ, x4 = fun i => (r i : EReal)) := by
  have e0 := congrFun e ix0
  unfold fn fn_part1 at e0
  dsimp only at e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3, reals_of_finite _ _ _ _ _ _ h4⟩

end Cert.Pre_ffn_finite.Proof

end
-- ==== Proof.FfnClaim.lean ====
module

public import proofs.«01_k».proof.Defs
public import proofs.«01_k».proof.Proof.FfnKernel
public import proofs.«01_k».proof.Proof.FfnRef
public import proofs.«01_k».proof.Proof.FfnPre
public import proofs.«01_k».proof.Proof.Gen.FfnRefIdeal.Run
public import proofs.«01_k».proof.Proof.Gen.Pre_ffn_finite
public import Idealize.ShloMosaic.Lib.Claim

@[expose] public section

set_option maxRecDepth 16384

noncomputable section

namespace Cert.Proof

open Idealize.ShloMosaic Idealize.SL.Sem

set_option maxHeartbeats 1600000 in
theorem ffn : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m g m' g' hpre hagree
  have hr := fun c => Cert.Pre_ffn_finite.Proof.reals _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2
  have hk := fun c => Cert.FfnIdeal.Proof.Reals.mk (m := m) (c := c) (fun i k => congrFun (h0 c) (ix2 i k)) (fun i k => congrFun (h1 c) (ix2 i k))
    (fun i k => congrFun (h2 c) (ix2 i k)) (fun i k => congrFun (h3 c) (ix2 i k)) (fun i k => congrFun (h4 c) (ix2 i k))
  refine ⟨fun c => (Cert.FfnIdeal.Gen.dats m 0 c).arrAt 8 (Cert.FfnIdeal.cfgs 0).N, fun c => (Cert.FfnIdeal.Gen.dats m 0 c).arrAt 9 (Cert.FfnIdeal.cfgs 0).N,
    fun c => (Cert.FfnIdeal.Gen.dats m 0 c).arrAt 10 (Cert.FfnIdeal.cfgs 0).N, fun c => (Cert.FfnIdeal.Gen.dats m 0 c).arrAt 11 (Cert.FfnIdeal.cfgs 0).N, ?_, ?_⟩
  · exact Cert.FfnIdeal.Proof.run_at m g
  · refine (θ_run _ _ _).mono (fun r h c => ⟨(h c).1.trans ?_, (h c).2.1.trans ?_, (h c).2.2.1.trans ?_, (h c).2.2.2.1.trans ?_, (h c).2.2.2.2⟩) (Cert.FfnRefIdeal.Value.run m' g')
    · obtain ⟨a0, a1, a2, a3, a4⟩ := hagree c
      refine (Cert.FfnRefIdeal.Read.val_main_v76_eq m' c).trans ?_
      rw [a0, a1, a2, a3, a4]
      exact (Cert.FfnRefIdeal.Proof.result_du (hk c).x (hk c).wu (hk c).k (hk c).wd (hk c).d).trans (Cert.FfnIdeal.Proof.result_du m c (hk c)).symm
    · obtain ⟨a0, a1, a2, a3, a4⟩ := hagree c
      refine (Cert.FfnRefIdeal.Read.val_main_v79_eq m' c).trans ?_
      rw [a0, a1, a2, a3, a4]
      exact (Cert.FfnRefIdeal.Proof.result_up (hk c).x (hk c).wu (hk c).k (hk c).wd (hk c).d).trans (Cert.FfnIdeal.Proof.result_up m c (hk c)).symm
    · obtain ⟨a0, a1, a2, a3, a4⟩ := hagree c
      refine (Cert.FfnRefIdeal.Read.val_main_v81_eq m' c).trans ?_
      rw [a0, a1, a2, a4]
      exact (Cert.FfnRefIdeal.Proof.result_down (hk c).x (hk c).wu (hk c).k (hk c).d).trans (Cert.FfnIdeal.Proof.result_down m c (hk c)).symm
    · obtain ⟨a0, a1, a2, a3, a4⟩ := hagree c
      refine (Cert.FfnRefIdeal.Read.val_main_v83_eq m' c).trans ?_
      rw [a0, a1, a2, a3, a4]
      exact (Cert.FfnRefIdeal.Proof.result_k (hk c).x (hk c).wu (hk c).k (hk c).wd (hk c).d).trans (Cert.FfnIdeal.Proof.result_k m c (hk c)).symm

end Cert.Proof

end
-- ==== Proof.Norm.lean ====
module

public import proofs.«01_k».proof.Proof.Reals

/-! The root mean square norm over rows of any width, and its gradients, over the reals. -/

@[expose] public section

noncomputable section

namespace Cert.Norm

open Cert.Reals Idealize.ShloMosaic
open scoped BigOperators

theorem ofBits_512 : Ideal.ofBits .f32 0x44000000#32 = ((512 : ℝ) : EReal) := by
  simp [Ideal.ofBits, Ideal.ieee, -EReal.coe_mul]; norm_num

section

variable {a b : ℕ} (N : ℝ) (H : Fin a → Fin b → ℝ) (G : Fin b → ℝ) (D : Fin a → Fin b → ℝ) (i : Fin a) (k : Fin b)

/-- The mean square of row `i` and the norm's epsilon, and the reciprocal of its root. -/
def msq : ℝ := (∑ k, H i k * H i k) / N + eps

def rsq : ℝ := (Real.sqrt (msq N H i))⁻¹

/-- The normed row. -/
def nrm : ℝ := H i k * rsq N H i * G k

/-- The gradient of the row, the gradient of the normed row being `D`. -/
def bwd : ℝ := rsq N H i * (D i k * G k - H i k * rsq N H i * ((∑ l, D i l * G l * (H i l * rsq N H i)) / N))

/-- The gradient of the norm's weight. -/
def dwt : ℝ := ∑ i, D i k * (H i k * rsq N H i)

variable (hN : 0 < N)
include hN

theorem msq_pos : 0 < msq N H i :=
  add_pos_of_nonneg_of_pos (div_nonneg (Finset.sum_nonneg fun k _ => mul_self_nonneg _) hN.le) eps_pos

theorem rsq_div_msq : rsq N H i / msq N H i = rsq N H i * rsq N H i * rsq N H i := by
  have h := msq_pos N H i hN
  have hs : rsq N H i * rsq N H i = (msq N H i)⁻¹ := by
    unfold rsq
    rw [← mul_inv, Real.mul_self_sqrt h.le]
  rw [hs, div_eq_inv_mul]

/-- The derivative of the norm as the chain rule writes it. -/
theorem bwd_eq : D i k * G k * rsq N H i
      + H i k * ((∑ l, H i l * (D i l * G l)) * (-(1 / 2) * (rsq N H i / msq N H i)) / N)
      + (∑ l, H i l * (D i l * G l)) * (-(1 / 2) * (rsq N H i / msq N H i)) / N * H i k = bwd N H G D i k := by
  have hsum : ∑ l, D i l * G l * (H i l * rsq N H i) = (∑ l, H i l * (D i l * G l)) * rsq N H i := by
    rw [Finset.sum_mul]
    exact Finset.sum_congr rfl fun l _ => by ring
  unfold bwd
  rw [rsq_div_msq N H i hN, hsum]
  ring

end

end Cert.Norm

end
-- ==== Proof.QueryMath.lean ====
module

public import proofs.«01_k».proof.Proof.Norm
public import proofs.«01_k».proof.Proof.Shift

/-! The gradients of the queries' norms, projections and rotary embedding, over the reals. -/

@[expose] public section

noncomputable section

namespace Cert.QueryMath

open Cert.Reals Cert.Norm Cert.Shift Idealize.ShloMosaic
open scoped BigOperators

abbrev Rows (a b : ℕ) := Fin a → Fin b → ℝ

/-- The factor of the scores, the rational of its float word. -/
def sc : ℝ := 9686330 / 2 ^ 27

theorem ofBits_sc : Ideal.ofBits .f32 0x3D93CD3A#32 = (sc : EReal) := by
  unfold sc; simp [Ideal.ofBits, Ideal.ieee, -EReal.coe_mul]; norm_num

/-- The column of lane `e` of head `hd`. -/
def col (hd : Fin 8) (e : Fin 192) : Fin 1536 := ⟨hd.val * 192 + e.val, by omega⟩

/-- Head `hd` of a row of heads, zero past its last lane. -/
def head (f : Fin 1536 → ℝ) (hd : Fin 8) (n : ℕ) : ℝ := ext (fun e : Fin 192 => f (col hd e)) n

/-- The cosines and the signed sines laid along the lanes of the rotated half head, zero past them. -/
def cosp (c : ℕ → ℝ) (n : ℕ) : ℝ := if n < 32 then c n else if n < 64 then c (n - 32) else 0

def sinp (s : ℕ → ℝ) (n : ℕ) : ℝ := if n < 32 then -s n else if n < 64 then s (n - 32) else 0

/-- The gradient of a head before its rotation, the gradient of the rotated head being `d`. -/
def rot (d c s : ℕ → ℝ) (n : ℕ) : ℝ :=
  if n < 128 then d n * sc
  else if n < 160 then d n * sc * c (n - 128) + d (n + 32) * sc * s (n - 128)
  else if n < 192 then d n * sc * c (n - 160) - d (n - 32) * sc * s (n - 160)
  else 0

theorem rot_of_le (d c s : ℕ → ℝ) {n : ℕ} (h : 192 ≤ n) : rot d c s n = 0 := by
  unfold rot
  rw [if_neg (by omega), if_neg (by omega), if_neg (by omega)]

/-- A sum over the padded lanes of a head is one over its own lanes. -/
theorem sum_lanes (f : ℕ → ℝ) (hf : ∀ n, 192 ≤ n → f n = 0) : ∑ e : Fin 256, f e.val = ∑ e : Fin 192, f e.val := by
  rw [← Finset.sum_range, ← Finset.sum_range, show 256 = 192 + 64 from rfl, Finset.sum_range_add,
    Finset.sum_eq_zero (s := Finset.range 64) fun n _ => hf _ (by omega), add_zero]

section

variable (H : Rows 4096 1024) (G : Fin 1024 → ℝ) (Wd : Rows 1024 512) (GQ : Fin 512 → ℝ) (Wu : Rows 512 1536)
  (CO SI : Rows 4096 32) (DQ : Rows 4096 1536)

/-- The normed rows, their narrow projection, and that projection normed. -/
def xn (i : Fin 4096) (k : Fin 1024) : ℝ := nrm 1024 H G i k

def qc (i : Fin 4096) (r : Fin 512) : ℝ := ∑ k, xn H G i k * Wd k r

def qn (i : Fin 4096) (r : Fin 512) : ℝ := nrm 512 (qc H G Wd) GQ i r

/-- The gradient of head `hd` of row `i` before the rotation. -/
def dr (i : Fin 4096) (hd : Fin 8) (n : ℕ) : ℝ := rot (head (DQ i) hd) (ext (CO i)) (ext (SI i)) n

def dqn (i : Fin 4096) (r : Fin 512) : ℝ := ∑ hd : Fin 8, ∑ e : Fin 192, dr CO SI DQ i hd e.val * Wu r (col hd e)

def dqc (i : Fin 4096) (r : Fin 512) : ℝ := bwd 512 (qc H G Wd) GQ (dqn Wu CO SI DQ) i r

def dxn (i : Fin 4096) (k : Fin 1024) : ℝ := ∑ r, dqc H G Wd GQ Wu CO SI DQ i r * Wd k r

/-- The gradients: of the rows beyond the residual's, of the wide projection (padded lanes zero), of the
narrow one, and of the two norms' weights. -/
def dh (i : Fin 4096) (k : Fin 1024) : ℝ := bwd 1024 H G (dxn H G Wd GQ Wu CO SI DQ) i k

def dwu (hd : Fin 8) (r : Fin 512) (n : ℕ) : ℝ := ∑ i, qn H G Wd GQ i r * dr CO SI DQ i hd n

def dwd (k : Fin 1024) (r : Fin 512) : ℝ := ∑ i, xn H G i k * dqc H G Wd GQ Wu CO SI DQ i r

def dgq (r : Fin 512) : ℝ := dwt 512 (qc H G Wd) (dqn Wu CO SI DQ) r

def dg (k : Fin 1024) : ℝ := dwt 1024 H (dxn H G Wd GQ Wu CO SI DQ) k

end

end Cert.QueryMath

end
-- ==== Proof.QueryPay.lean ====
module

public import proofs.«01_k».proof.Proof.Gen.QueryIdeal.Value
public import proofs.«01_k».proof.Proof.QueryMath
public import Idealize.ShloMosaic.Lib.Pipeline.ValueKit
public import Idealize.ShloMosaic.Lib.Pointwise
public import Idealize.ShloMosaic.Lib.WordCmp

/-! What the queries' backward kernel stores, over blocks of reals. -/

@[expose] public section

set_option maxRecDepth 16384

noncomputable section

namespace Cert.QueryIdeal.Proof

open Cert.QueryIdeal Cert.QueryIdeal.Gen Idealize.ShloMosaic Idealize.ShloMosaic.TcCoe Idealize.SL.Sem
open Cert.Reals Cert.Norm Cert.Shift Cert.QueryMath
open scoped BigOperators

/-! ## The narrow projection and its norm -/

section Narrow

variable {v3 : Vec Ideal S512x1024 .bf16} {v5 : Vec Ideal S1024x512 .bf16} {X : Rows 512 1024} {Wd : Rows 1024 512}
  (h3 : ∀ p k, v3 (ix2 p k) = (X p k : EReal)) (h5 : ∀ k r, v5 (ix2 k r) = (Wd k r : EReal))
include h3 h5

theorem pay_qc (p r : Fin 512) : k0_pay8 (F := Ideal) v3 v5 (ix2 p r) = ((∑ k, X p k * Wd k r : ℝ) : EReal) := by
  pointwise [k0_pay8, k0_pay7, h3, h5]
  simp only [← EReal.coe_mul, coe_sum]

theorem pay_rsq (p : Fin 512) (z : Fin 1) : k0_pay9 (F := Ideal) v3 v5 (ix2 p z) = (rsq 512 (fun p r => ∑ k, X p k * Wd k r) p : EReal) := by
  unfold rsq
  rw [← rsqrt_of_pos (msq_pos 512 _ p (by norm_num))]
  pointwise [k0_pay9, pay_qc h3 h5]
  simp only [ofBits_512, ofBits_eps, ← EReal.coe_mul, coe_sum, zero_add, div_coe_coe (by norm_num : (512 : ℝ) ≠ 0), ← EReal.coe_add]
  rfl

theorem pay_hat (p r : Fin 512) : k0_pay10 (F := Ideal) v3 v5 (ix2 p r)
    = (((∑ k, X p k * Wd k r) * rsq 512 (fun p r => ∑ k, X p k * Wd k r) p : ℝ) : EReal) := by
  pointwise [k0_pay10, pay_qc h3 h5, pay_rsq h3 h5]
  simp only [← EReal.coe_mul]

theorem pay_qn {v8 : Vec Ideal S1x512 .f32} {GQ : Fin 512 → ℝ} (h8 : ∀ r, v8 (ix2 0 r) = (GQ r : EReal)) (p r : Fin 512) :
    k0_pay11 (F := Ideal) v3 v5 v8 (ix2 p r) = (nrm 512 (fun p r => ∑ k, X p k * Wd k r) GQ p r : EReal) := by
  pointwise [k0_pay11, pay_hat h3 h5, h8]
  simp only [← EReal.coe_mul]
  rfl

end Narrow

/-! ## One head -/

theorem select_lt {α : Type} (n : ℕ) (hn : n < 128) (a b : α) :
    Scalar.select (IntOp.cmpi CmpIPredicate.slt (BitVec.ofNat 32 n) 32#32) a b = if n < 32 then a else b := by
  rw [WordCmp.cmpi_slt_ofNat (by omega) (by omega), WordCmp.select_ofBool]
  by_cases h : n < 32
  · rw [decide_eq_true h, if_pos h]; rfl
  · rw [decide_eq_false h, if_neg h]; rfl

section Head

variable {x y : Vec Ideal S1x512x128 .bf16} {co si : Vec Ideal S512x128 .f32} {D C S : Fin 512 → ℕ → ℝ}
  (hx : ∀ p (a : Fin 128), x (ix3 0 p a) = (D p a.val : EReal)) (hy : ∀ p (a : Fin 128), y (ix3 0 p a) = (D p (128 + a.val) : EReal))
  (hc : ∀ p (a : Fin 128), co (ix2 p a) = (cosp (C p) a.val : EReal)) (hs : ∀ p (a : Fin 128), si (ix2 p a) = (sinp (S p) a.val : EReal))
include hx hy hc hs

theorem pay_rot (p : Fin 512) (e : Fin 256) : k0_pay15 (F := Ideal) (k0_pay13 x) (k0_pay14 y) co si (ix2 p e) = (rot (D p) (C p) (S p) e.val : EReal) := by
  unfold rot
  pointwise [k0_pay15, k0_pay14, k0_pay13, hx, hy, hc, hs, ofBits_sc]
  by_cases h1 : e.val < 128
  · rw [dif_pos h1, if_pos h1, EReal.coe_mul]
  · rw [dif_neg h1, if_neg h1, select_lt _ (by omega), show 128 + (e.val - 128) = e.val by omega]
    unfold cosp sinp
    by_cases h2 : e.val < 160
    · rw [if_pos h2, if_pos (by omega), if_pos (by omega), if_pos (by omega), show 128 + (e.val - 128 + 128 - 96) % 128 = e.val + 32 by omega]
      simp only [← EReal.coe_mul, ← EReal.coe_sub]
      exact congrArg _ (by ring)
    · have h3 : ¬ e.val - 128 < 32 := by omega
      rw [if_neg h2, if_neg h3, if_neg h3, if_neg h3]
      by_cases h4 : e.val < 192
      · have h5 : e.val - 128 < 64 := by omega
        rw [if_pos h4, if_pos h5, if_pos h5, show 128 + (e.val - 128 + 128 - 32) % 128 = e.val - 32 by omega, show e.val - 128 - 32 = e.val - 160 by omega]
        simp only [← EReal.coe_mul, ← EReal.coe_sub]
      · have h5 : ¬ e.val - 128 < 64 := by omega
        rw [if_neg h4, if_neg h5, if_neg h5]
        simp only [← EReal.coe_mul, ← EReal.coe_sub, mul_zero, sub_zero]

theorem pay_head {w : Vec Ideal S1x512x256 .bf16} {W : Fin 512 → ℕ → ℝ} (hw : ∀ r (e : Fin 256), w (ix3 0 r e) = (W r e.val : EReal)) (v : FVec Ideal S512x512 .f32) (p r : Fin 512) :
    k0_pay16 (F := Ideal) v (k0_pay13 x) (k0_pay14 y) co si w (ix2 p r) = v (ix2 p r) + ((∑ e : Fin 192, rot (D p) (C p) (S p) e.val * W r e.val : ℝ) : EReal) := by
  rw [← sum_lanes (fun n => rot (D p) (C p) (S p) n * W r n) fun n hn => by rw [rot_of_le _ _ _ hn, zero_mul]]
  pointwise [k0_pay16, pay_rot hx hy hc hs, hw]
  simp only [← EReal.coe_mul, coe_sum]

theorem pay_plane {q : FVec Ideal S512x512 .bf16} {Q : Rows 512 512} (hq : ∀ p r, q (ix2 p r) = (Q p r : EReal)) (v : Vec Ideal S1x512x256 .f32) (r : Fin 512) (e : Fin 256) :
    k0_pay17 (F := Ideal) q (k0_pay13 x) (k0_pay14 y) co si v (ix3 0 r e) = v (ix3 0 r e) + ((∑ p, Q p r * rot (D p) (C p) (S p) e.val : ℝ) : EReal) := by
  pointwise [k0_pay17, pay_rot hx hy hc hs, hq]
  simp only [← EReal.coe_mul, coe_sum]

end Head

/-! ## The gradients of the two norms and of the narrow projection -/

section Inner

variable {v17 : FVec Ideal S512x1 .f32} {v19 v312 : FVec Ideal S512x512 .f32} {C DN : Rows 512 512}
  (h19 : ∀ p r, v19 (ix2 p r) = ((C p r * rsq 512 C p : ℝ) : EReal)) (h312 : ∀ p r, v312 (ix2 p r) = (DN p r : EReal))
include h19 h312

theorem pay_dgq (v : Vec Ideal S1x512 .f32) (r : Fin 512) : k0_pay46 (F := Ideal) v19 v312 v (ix2 0 r) = v (ix2 0 r) + (dwt 512 C DN r : EReal) := by
  pointwise [k0_pay46, h19, h312]
  simp only [← EReal.coe_mul, coe_sum, zero_add]
  rfl

variable {v320 : Vec Ideal S1x512 .f32} {GQ : Fin 512 → ℝ}
  (h17 : ∀ p, v17 (ix2 p 0) = (rsq 512 C p : EReal)) (h320 : ∀ r, v320 (ix2 0 r) = (GQ r : EReal))
include h17 h320

theorem pay_dqc (p r : Fin 512) : k0_pay47 (F := Ideal) v17 v19 v312 v320 (ix2 p r) = (bwd 512 C GQ DN p r : EReal) := by
  pointwise [k0_pay47, h17, h19, h312, h320]
  simp only [ofBits_512, ← EReal.coe_mul, coe_sum, zero_add, div_coe_coe (by norm_num : (512 : ℝ) ≠ 0), ← EReal.coe_sub]
  rfl

theorem pay_dwd {v4 : FVec Ideal S512x1024 .bf16} {X : Rows 512 1024} (h4 : ∀ p k, v4 (ix2 p k) = (X p k : EReal)) (v : Vec Ideal S1024x512 .f32) (k : Fin 1024) (r : Fin 512) :
    k0_pay48 (F := Ideal) v4 v17 v19 v312 v320 v (ix2 k r) = v (ix2 k r) + ((∑ p, X p k * bwd 512 C GQ DN p r : ℝ) : EReal) := by
  pointwise [k0_pay48, pay_dqc h19 h312 h17 h320, h4]
  simp only [← EReal.coe_mul, coe_sum]

end Inner

section Outer

variable {v341 : FVec Ideal S512x512 .bf16} {v348 : Vec Ideal S512x1024 .f32} {v359 : Vec Ideal S1024x512 .bf16} {DC : Rows 512 512} {Wd : Rows 1024 512} {H : Rows 512 1024}
  (h348 : ∀ p k, v348 (ix2 p k) = (H p k : EReal))
include h348

theorem pay_rsq_h (p : Fin 512) (z : Fin 1) : k0_pay50 (F := Ideal) (k0_pay49 v348) (ix2 p z) = (rsq 1024 H p : EReal) := by
  unfold rsq
  rw [← rsqrt_of_pos (msq_pos 1024 _ p (by norm_num))]
  pointwise [k0_pay50, k0_pay49, h348]
  simp only [ofBits_1024, ofBits_eps, ← EReal.coe_mul, coe_sum, zero_add, div_coe_coe (by norm_num : (1024 : ℝ) ≠ 0), ← EReal.coe_add]
  rfl

theorem pay_hat_h (p : Fin 512) (k : Fin 1024) : k0_pay51 (F := Ideal) v348 (k0_pay49 v348) (ix2 p k) = ((H p k * rsq 1024 H p : ℝ) : EReal) := by
  pointwise [k0_pay51, pay_rsq_h h348, h348]
  simp only [← EReal.coe_mul]

variable (h341 : ∀ p r, v341 (ix2 p r) = (DC p r : EReal)) (h359 : ∀ k r, v359 (ix2 k r) = (Wd k r : EReal))
include h341 h359

omit h348 in
theorem pay_dxn (p : Fin 512) (k : Fin 1024) : k0_pay52 (F := Ideal) v341 v359 (ix2 p k) = ((∑ r, DC p r * Wd k r : ℝ) : EReal) := by
  pointwise [k0_pay52, h341, h359]
  simp only [← EReal.coe_mul, coe_sum]

theorem pay_dg (v : Vec Ideal S1x1024 .f32) (k : Fin 1024) : k0_pay54 (F := Ideal) v341 v348 (k0_pay49 v348) v359 v (ix2 0 k)
    = v (ix2 0 k) + (dwt 1024 H (fun p k => ∑ r, DC p r * Wd k r) k : EReal) := by
  pointwise [k0_pay54, pay_dxn h341 h359, pay_hat_h h348]
  simp only [← EReal.coe_mul, coe_sum, zero_add]
  rfl

theorem pay_dh {v362 : Vec Ideal S1x1024 .f32} {G : Fin 1024 → ℝ} (h362 : ∀ k, v362 (ix2 0 k) = (G k : EReal)) (v : Vec Ideal S512x1024 .f32) (p : Fin 512) (k : Fin 1024) :
    k0_pay53 (F := Ideal) v341 v348 (k0_pay49 v348) v359 v362 v (ix2 p k) = v (ix2 p k) + (bwd 1024 H G (fun p k => ∑ r, DC p r * Wd k r) p k : EReal) := by
  pointwise [k0_pay53, pay_dxn h341 h359, pay_hat_h h348, pay_rsq_h h348, h362]
  simp only [ofBits_1024, ← EReal.coe_mul, coe_sum, zero_add, div_coe_coe (by norm_num : (1024 : ℝ) ≠ 0), ← EReal.coe_sub]
  rfl

end Outer

end Cert.QueryIdeal.Proof

end
-- ==== Proof.QueryHost.lean ====
module

public import proofs.«01_k».proof.Proof.QueryPay
public import Idealize.ShloMosaic.Lib.StableHlo.ReadAt

/-! The arrays the queries' backward is launched on, over real inputs. -/

@[expose] public section

set_option maxRecDepth 16384

noncomputable section

namespace Cert.QueryIdeal.Proof

open Cert.QueryIdeal Cert.QueryIdeal.Gen Idealize.ShloMosaic Idealize.ShloMosaic.TcCoe Idealize.SL.Sem
open Cert.Reals Cert.Norm Cert.Shift Cert.QueryMath
open scoped BigOperators

variable (m : (ℓ : Loc nD τ sig) → Buf (Elt Ideal) ℓ) (c : Dev nD)

/-- The arguments are arrays of reals. -/
structure Reals (H : Rows 4096 1024) (G : Fin 1024 → ℝ) (Wd : Rows 1024 512) (GQ : Fin 512 → ℝ) (Wu : Rows 512 1536) (CO SI : Rows 4096 32) (DQ : Rows 4096 1536) : Prop where
  h : ∀ i k, m ((c : Thread nD τ).loc main_arg0) (ix2 i k) = (H i k : EReal)
  g : ∀ k, m ((c : Thread nD τ).loc main_arg1) (ix1 k) = (G k : EReal)
  wd : ∀ k r, m ((c : Thread nD τ).loc main_arg2) (ix2 k r) = (Wd k r : EReal)
  gq : ∀ r, m ((c : Thread nD τ).loc main_arg3) (ix1 r) = (GQ r : EReal)
  wu : ∀ r k, m ((c : Thread nD τ).loc main_arg4) (ix2 r k) = (Wu r k : EReal)
  co : ∀ i f, m ((c : Thread nD τ).loc main_arg5) (ix2 i f) = (CO i f : EReal)
  si : ∀ i f, m ((c : Thread nD τ).loc main_arg6) (ix2 i f) = (SI i f : EReal)
  dq : ∀ i k, m ((c : Thread nD τ).loc main_arg7) (ix2 i k) = (DQ i k : EReal)

/-! The host's lines in four parts, each read over any buffers: a concatenation begins a part. -/

abbrev part1 : List (HloOp τ sig (Elt Ideal)) := hostOps0.take 19
abbrev part2 : List (HloOp τ sig (Elt Ideal)) := (hostOps0.drop 19).take 2
abbrev part3 : List (HloOp τ sig (Elt Ideal)) := (hostOps0.drop 21).take 1
abbrev part4 : List (HloOp τ sig (Elt Ideal)) := hostOps0.drop 22 ++ (hostOps0_1 ++ (hostOps0_2 ++ (hostOps0_3 ++ hostOps0_4)))

abbrev at_ (l : List (HloOp τ sig (Elt Ideal))) (f : Valuation τ sig (Elt Ideal)) (b : Ref sig .tc) : Buf (Elt Ideal) ((c : Thread nD τ).loc b) :=
  StableHlo.after l f b

theorem after_two (l₁ l₂ : List (HloOp τ sig (Elt Ideal))) (f : Valuation τ sig (Elt Ideal)) :
    StableHlo.after (l₁ ++ l₂) f = StableHlo.after l₂ (StableHlo.after l₁ f) := by
  induction l₁ generalizing f with
  | nil => rfl
  | cons op l ih => exact ih _

abbrev vals1 : Valuation τ sig (Elt Ideal) := StableHlo.after part1 fun b => m (c, b)
abbrev vals2 : Valuation τ sig (Elt Ideal) := StableHlo.after part2 (vals1 m c)
abbrev vals3 : Valuation τ sig (Elt Ideal) := StableHlo.after part3 (vals2 m c)

theorem V_parts (b : Ref sig .tc) : V m c b = at_ c part4 (vals3 m c) b := by
  show StableHlo.after (part1 ++ (part2 ++ (part3 ++ part4))) (fun b => m (c, b)) b = _
  rw [after_two, after_two, after_two]

variable {H : Rows 4096 1024} {G : Fin 1024 → ℝ} {Wd : Rows 1024 512} {GQ : Fin 512 → ℝ} {Wu : Rows 512 1536} {CO SI : Rows 4096 32} {DQ : Rows 4096 1536}

section Parts

variable (f : Valuation τ sig (Elt Ideal)) (i : Fin 4096) (e : Fin 128)

theorem two_cos : at_ c part2 f main_v15 (ix2 i e) = if h : e.val < 32 then f (Proc.devRef .tc main_arg5) (ix2 i ⟨e.val, h⟩)
    else if h' : e.val - 32 < 32 then f (Proc.devRef .tc main_arg5) (ix2 i ⟨e.val - 32, h'⟩) else f (Proc.devRef .tc main_v14) (ix2 i ⟨e.val - 32 - 32, by omega⟩) := by
  simp only [at_, part2, hostOps0, List.drop_succ_cons, List.drop_zero, List.take_succ_cons, List.take_zero]
  after_reads_at

theorem two_neg (j : Fin 32) {x : EReal} (hx : f (Proc.devRef .tc main_arg6) (ix2 i j) = x) : at_ c part2 f main_v16 (ix2 i j) = -x := by
  rw [← hx]
  simp only [at_, part2, hostOps0, List.drop_succ_cons, List.drop_zero, List.take_succ_cons, List.take_zero]
  after_reads_at

theorem two_kept (j : Fin 32) (k : Fin 64) : at_ c part2 f main_arg6 (ix2 i j) = f (Proc.devRef .tc main_arg6) (ix2 i j)
    ∧ at_ c part2 f main_v14 (ix2 i k) = f (Proc.devRef .tc main_v14) (ix2 i k) := by
  constructor
  all_goals
    simp only [at_, part2, hostOps0, List.drop_succ_cons, List.drop_zero, List.take_succ_cons, List.take_zero]
    after_reads_at

theorem three_sin : at_ c part3 f main_v17 (ix2 i e) = if h : e.val < 32 then f (Proc.devRef .tc main_v16) (ix2 i ⟨e.val, h⟩)
    else if h' : e.val - 32 < 32 then f (Proc.devRef .tc main_arg6) (ix2 i ⟨e.val - 32, h'⟩) else f (Proc.devRef .tc main_v14) (ix2 i ⟨e.val - 32 - 32, by omega⟩) := by
  simp only [at_, part3, hostOps0, List.drop_succ_cons, List.drop_zero, List.take_succ_cons, List.take_zero]
  after_reads_at

theorem three_kept : at_ c part3 f main_v15 (ix2 i e) = f (Proc.devRef .tc main_v15) (ix2 i e) := by
  simp only [at_, part3, hostOps0, List.drop_succ_cons, List.drop_zero, List.take_succ_cons, List.take_zero]
  after_reads_at

theorem four_kept : at_ c part4 f main_v15 (ix2 i e) = f (Proc.devRef .tc main_v15) (ix2 i e) ∧ at_ c part4 f main_v17 (ix2 i e) = f (Proc.devRef .tc main_v17) (ix2 i e) := by
  constructor
  all_goals
    simp only [at_, part4, hostOps0, hostOps0_1, hostOps0_2, hostOps0_3, hostOps0_4, List.drop_succ_cons, List.drop_zero, List.cons_append, List.nil_append]
    after_reads_at

end Parts

theorem one_zero (i : Fin 4096) (k : Fin 64) : at_ c part1 (fun b => m (c, b)) main_v14 (ix2 i k) = (0 : EReal) := by
  simp only [at_, part1, hostOps0, List.take_succ_cons, List.take_zero]
  after_reads_at

theorem one_kept (i : Fin 4096) (j : Fin 32) : at_ c part1 (fun b => m (c, b)) main_arg5 (ix2 i j) = m ((c : Thread nD τ).loc main_arg5) (ix2 i j)
    ∧ at_ c part1 (fun b => m (c, b)) main_arg6 (ix2 i j) = m ((c : Thread nD τ).loc main_arg6) (ix2 i j) := by
  constructor
  all_goals
    simp only [at_, part1, hostOps0, List.take_succ_cons, List.take_zero]
    after_reads_at

theorem zero_int : (FloatOps.sitofp (F := Ideal) .f32 (0#32) : EReal) = ((0 : ℝ) : EReal) := by
  show (((0#32 : BitVec 32).toInt : ℝ) : EReal) = _
  simp

section Read

variable (h : Reals m c H G Wd GQ Wu CO SI DQ)
include h

theorem V_cos (i : Fin 4096) (e : Fin 128) : V m c main_v15 (ix2 i e) = (cosp (ext (CO i)) e.val : EReal) := by
  rw [V_parts]
  refine (four_kept c _ i e).1.trans ((three_kept c _ i e).trans ((two_cos c _ i e).trans ?_))
  unfold cosp
  by_cases h1 : e.val < 32
  · rw [dif_pos h1, if_pos h1, ext_of_lt _ h1]
    exact (one_kept m c i _).1.trans (h.co _ _)
  · rw [dif_neg h1, if_neg h1]
    by_cases h2 : e.val - 32 < 32
    · rw [dif_pos h2, if_pos (by omega), ext_of_lt _ h2]
      exact (one_kept m c i _).1.trans (h.co _ _)
    · rw [dif_neg h2, if_neg (by omega)]
      exact one_zero m c i _

theorem V_sin (i : Fin 4096) (e : Fin 128) : V m c main_v17 (ix2 i e) = (sinp (ext (SI i)) e.val : EReal) := by
  rw [V_parts]
  refine (four_kept c _ i e).2.trans ((three_sin c _ i e).trans ?_)
  unfold sinp
  by_cases h1 : e.val < 32
  · rw [dif_pos h1, if_pos h1, ext_of_lt _ h1, EReal.coe_neg]
    exact two_neg c _ i _ ((one_kept m c i _).2.trans (h.si _ _))
  · rw [dif_neg h1, if_neg h1]
    by_cases h2 : e.val - 32 < 32
    · rw [dif_pos h2, if_pos (by omega), ext_of_lt _ h2]
      exact (two_kept c _ i _ 0).1.trans ((one_kept m c i _).2.trans (h.si _ _))
    · rw [dif_neg h2, if_neg (by omega)]
      exact (two_kept c _ i 0 _).2.trans (one_zero m c i _)

theorem V_x (i : Fin 4096) (k : Fin 1024) : V m c main_v13 (ix2 i k) = (xn H G i k : EReal) := by
  unfold xn nrm rsq
  rw [EReal.coe_mul, EReal.coe_mul, ← rsqrt_of_pos (msq_pos 1024 H i (by norm_num))]
  unfold msq
  rw [EReal.coe_add, ← div_coe_coe (by norm_num : (1024 : ℝ) ≠ 0), ← coe_sum, ← ofBits_1024, ← ofBits_eps]
  simp only [EReal.coe_mul, ← h.h, ← h.g]
  unfold V
  after_reads_at

theorem V_dq (hd : Fin 8) (i : Fin 4096) (e : Fin 256) : V m c main_v21 (ix3 hd i e) = (head (DQ i) hd e.val : EReal) := by
  have at_ : ∀ i k, m (c, Proc.tc.devRef main_arg7) (ix2 i k) = _ := h.dq
  unfold V
  after_reads_at
  unfold head ext
  split
  · exact at_ _ _
  · exact zero_int

theorem V_wu (hd : Fin 8) (r : Fin 512) (e : Fin 256) : V m c main_v28 (ix3 hd r e) = (head (Wu r) hd e.val : EReal) := by
  have at_ : ∀ r k, m (c, Proc.tc.devRef main_arg4) (ix2 r k) = _ := h.wu
  unfold V
  after_reads_at
  unfold head ext
  split
  · exact at_ _ _
  · exact zero_int

theorem V_g (k : Fin 1024) : V m c main_v22 (ix2 0 k) = (G k : EReal) := by
  rw [← h.g]
  unfold V
  after_reads_at

theorem V_wd (k : Fin 1024) (r : Fin 512) : V m c main_v23 (ix2 k r) = (Wd k r : EReal) := by
  rw [← h.wd]
  unfold V
  after_reads_at

theorem V_gq (r : Fin 512) : V m c main_v24 (ix2 0 r) = (GQ r : EReal) := by
  rw [← h.gq]
  unfold V
  after_reads_at

theorem V_h (i : Fin 4096) (k : Fin 1024) : V m c main_arg0 (ix2 i k) = (H i k : EReal) := by
  rw [V_main_arg0]
  exact h.h i k

end Read

end Cert.QueryIdeal.Proof

end
-- ==== Proof.Pieces.lean ====
module

public import proofs.«01_k».proof.Proof.Reals
public import Idealize.ShloMosaic.Lib.Pipeline.ReadBack
public import Idealize.ShloMosaic.Lib.WritesUnit
public import Idealize.ShloMosaic.Lib.Pointwise

/-! Arrays of planes, written a plane at a time. -/

@[expose] public section

noncomputable section

namespace Cert.Pieces

open Idealize.ShloMosaic View

variable {Val : EltTy → Type} {e : EltTy} [∀ e, Nonempty (Val e)] {A N n : ℕ}

abbrev Planes (A N n : ℕ) : Shape := ⟨3, ![A, N, n]⟩

theorem inb (a : Fin A) : ∀ x : Fin 3, (![a.val, 0, 0] : Fin 3 → ℕ) x + (![1, N, n] : Fin 3 → ℕ) x ≤ (Planes A N n).size x := fun x => by
  fin_cases x
  · exact a.isLt
  · exact (Nat.zero_add N).le
  · exact (Nat.zero_add n).le

abbrev plane (a : Fin A) : Rect (Planes A N n) := Rect.unit ![a.val, 0, 0] ![1, N, n] (inb a)

/-- The planes `l` written over `L`, the first of `l` last. -/
def stack (w : Fin A → (⟨3, ![1, N, n]⟩ : Shape).Idx → Val e) (L : List (Piece Val (Planes A N n) e)) : List (Fin A) → List (Piece Val (Planes A N n) e)
  | [] => L
  | a :: l => ⟨plane a, w a⟩ :: stack w L l

theorem emb_plane (a : Fin A) (p : Fin N) (j : Fin n) : (plane a).emb (ix3 0 p j) = ix3 a p j :=
  funext fun x => Fin.ext (by fin_cases x <;> simp [Rect.unit, Rect.emb])

theorem stack_read (w : Fin A → (⟨3, ![1, N, n]⟩ : Shape).Idx → Val e) (L : List (Piece Val (Planes A N n) e)) (l : List (Fin A)) (a : Fin A) (h : a ∈ l) (p : Fin N) (j : Fin n) :
    View.canon (stack w L l) (ix3 a p j) = w a (ix3 0 p j) := by
  induction l with
  | nil => exact absurd h List.not_mem_nil
  | cons b l ih =>
    by_cases hb : a = b
    · subst hb
      exact (congrArg _ (emb_plane a p j).symm).trans (canon_cons_emb (plane a) (w a) (stack w L l) (ix3 0 p j))
    · refine (canon_cons_of_not_mem _ _ (Rect.not_mem_set_of_axis _ (ix3 a p j) 0 b.val 1 rfl rfl rfl ?_)).trans (ih ((List.mem_cons.1 h).resolve_left hb))
      show a.val < b.val ∨ b.val + 1 ≤ a.val
      have := Fin.val_ne_of_ne hb
      omega

theorem cov_whole {sig : RefSig} {κ : Kind} {sp : Space} {s : Shape} (v : View sig κ sp s e) {off : Fin s.rank → ℕ} (inb : ∀ a, off a + s.size a ≤ s.size a)
    (L : List (Piece Val s e)) (h : ∀ a, off a = 0) : v.readCov L (Rect.unit off (no_index s.size) inb).toLoadRect = View.canon L := by
  rw [readCov_eq_canon']
  exact ld_unit_lit inb (canon L) h

end Cert.Pieces

end
-- ==== Proof.QueryKernel.lean ====
module

public import proofs.«01_k».proof.Proof.QueryHost
public import proofs.«01_k».proof.Proof.Pieces

/-! The results of the queries' backward kernel over real inputs. -/

@[expose] public section

set_option maxRecDepth 16384

noncomputable section

namespace Cert.QueryIdeal.Proof

open Cert.QueryIdeal Cert.QueryIdeal.Gen Idealize.ShloMosaic Idealize.ShloMosaic.TcCoe Idealize.SL.Sem
open Cert.Reals Cert.Norm Cert.Shift Cert.QueryMath Cert.Pieces
open Idealize.ShloMosaic.Pipeline (Dat)
open scoped BigOperators

variable (m : (ℓ : Loc nD τ sig) → Buf (Elt Ideal) ℓ) (c : Dev nD)

/-! ## The heads of a point -/

section Heads

variable (q : FVec Ideal S512x512 .bf16) (x y : Fin 8 → Vec Ideal S1x512x128 .bf16) (w : Fin 8 → Vec Ideal S1x512x256 .bf16) (a : Fin 8 → Vec Ideal S1x512x256 .f32) (co si : Vec Ideal S512x128 .f32)

/-- The eight heads' products with the wide projection, added up as the body adds them. -/
abbrev heads : FVec Ideal S512x512 .f32 :=
  k0_pay44 (F := Ideal) (k0_pay40 (k0_pay36 (k0_pay33 (k0_pay29 (k0_pay25 (k0_pay21 (k0_pay16 k0_pay12 (k0_pay13 (x 0)) (k0_pay14 (y 0)) co si (w 0))
    (k0_pay18 (x 1)) (k0_pay19 (y 1)) (FloatOps.ofBits FTy.f32 1033096506#32) co si (w 1)) (k0_pay23 (x 2)) (y 2) co si (w 2)) (k0_pay27 (x 3)) (y 3) co si (w 3))
    (k0_pay31 (x 4)) (y 4) co si (w 4)) (x 5) (y 5) co si (w 5)) (x 6) (y 6) co si (w 6)) (x 7) (y 7) co si (w 7)

/-- One head's product added to those before it. -/
def headStep (v : FVec Ideal S512x512 .f32) (hd : Fin 8) : FVec Ideal S512x512 .f32 := k0_pay16 (F := Ideal) v (k0_pay13 (x hd)) (k0_pay14 (y hd)) co si (w hd)

theorem heads_eq : heads x y w co si = ([0, 1, 2, 3, 4, 5, 6, 7] : List (Fin 8)).foldl (headStep x y w co si) k0_pay12 := rfl

/-- One head's product with the normed projections, added to its plane. -/
def headPlane (hd : Fin 8) : Vec Ideal S1x512x256 .f32 := k0_pay17 (F := Ideal) q (k0_pay13 (x hd)) (k0_pay14 (y hd)) co si (a hd)

/-- The eight planes as the body stores them. -/
abbrev planes (L : List (View.Piece (Elt Ideal) S8x512x256 .f32)) : List (View.Piece (Elt Ideal) S8x512x256 .f32) :=
  ⟨Rect.unit ![7, 0, 0] ![1, 512, 256] inb_S8x512x256_S1x512x256_7_0_0, k0_pay45 (F := Ideal) q (k0_pay43 (x 7) (y 7) co si) (a 7)⟩
  :: ⟨Rect.unit ![6, 0, 0] ![1, 512, 256] inb_S8x512x256_S1x512x256_6_0_0, k0_pay42 (F := Ideal) (k0_pay41 q (x 6) (y 6) co si (a 6))⟩
  :: ⟨Rect.unit ![5, 0, 0] ![1, 512, 256] inb_S8x512x256_S1x512x256_5_0_0, k0_pay38 (F := Ideal) (k0_pay37 q (x 5) (y 5) co si (a 5))⟩
  :: ⟨Rect.unit ![4, 0, 0] ![1, 512, 256] inb_S8x512x256_S1x512x256_4_0_0, k0_pay34 (F := Ideal) q (k0_pay31 (x 4)) (y 4) co si (a 4)⟩
  :: ⟨Rect.unit ![3, 0, 0] ![1, 512, 256] inb_S8x512x256_S1x512x256_3_0_0, k0_pay30 (F := Ideal) q (k0_pay27 (x 3)) (y 3) co si (a 3)⟩
  :: ⟨Rect.unit ![2, 0, 0] ![1, 512, 256] inb_S8x512x256_S1x512x256_2_0_0, k0_pay26 (F := Ideal) q (k0_pay23 (x 2)) (y 2) co si (a 2)⟩
  :: ⟨Rect.unit ![1, 0, 0] ![1, 512, 256] inb_S8x512x256_S1x512x256_1_0_0, k0_pay22 (F := Ideal) q (k0_pay18 (x 1)) (k0_pay19 (y 1)) (FloatOps.ofBits FTy.f32 1033096506#32) co si (a 1)⟩
  :: ⟨Rect.unit ![0, 0, 0] ![1, 512, 256] inb_S8x512x256_S1x512x256_0_0_0, k0_pay17 (F := Ideal) q (k0_pay13 (x 0)) (k0_pay14 (y 0)) co si (a 0)⟩ :: L

theorem planes_eq (L) : planes q x y a co si L = stack (Val := Elt Ideal) (headPlane q x y a co si) L ([7, 6, 5, 4, 3, 2, 1, 0] : List (Fin 8)) := rfl

variable {q x y w co si} {D : Fin 8 → Fin 512 → ℕ → ℝ} {C S : Fin 512 → ℕ → ℝ}
  (hx : ∀ hd p (l : Fin 128), x hd (ix3 0 p l) = (D hd p l.val : EReal)) (hy : ∀ hd p (l : Fin 128), y hd (ix3 0 p l) = (D hd p (128 + l.val) : EReal))
  (hc : ∀ p (l : Fin 128), co (ix2 p l) = (cosp (C p) l.val : EReal)) (hs : ∀ p (l : Fin 128), si (ix2 p l) = (sinp (S p) l.val : EReal))
include hx hy hc hs

theorem heads_at {W : Fin 8 → Fin 512 → ℕ → ℝ} (hw : ∀ hd r (e : Fin 256), w hd (ix3 0 r e) = (W hd r e.val : EReal)) (p r : Fin 512) :
    heads x y w co si (ix2 p r) = ((∑ hd : Fin 8, ∑ e : Fin 192, rot (D hd p) (C p) (S p) e.val * W hd r e.val : ℝ) : EReal) := by
  have step : ∀ v hd, headStep x y w co si v hd (ix2 p r) = v (ix2 p r) + ((∑ e : Fin 192, rot (D hd p) (C p) (S p) e.val * W hd r e.val : ℝ) : EReal) :=
    fun v hd => pay_head (hx hd) (hy hd) hc hs (hw hd) v p r
  rw [heads_eq]
  simp only [List.foldl_cons, List.foldl_nil, step]
  rw [← coe_sum, Fin.sum_univ_eight]
  refine congrArg (· + _) (congrArg (· + _) (congrArg (· + _) (congrArg (· + _) (congrArg (· + _) (congrArg (· + _) (congrArg (· + _) (Eq.trans (congrArg (· + _) ?_) (zero_add _))))))))
  pointwise [k0_pay12]

theorem planes_at {Q : Rows 512 512} (hq : ∀ p r, q (ix2 p r) = (Q p r : EReal)) (L) (hd : Fin 8) (r : Fin 512) (e : Fin 256) :
    View.canon (planes q x y a co si L) (ix3 hd r e) = a hd (ix3 0 r e) + ((∑ p, Q p r * rot (D hd p) (C p) (S p) e.val : ℝ) : EReal) := by
  rw [planes_eq]
  refine (stack_read (Val := Elt Ideal) (headPlane q x y a co si) L [7, 6, 5, 4, 3, 2, 1, 0] hd ?_ r e).trans (pay_plane (hx hd) (hy hd) hc hs hq (a hd) r e)
  revert hd
  decide

end Heads

/-! ## The blocks -/

theorem idx : ∀ t : Fin cfg0.N,
    win0_0.index t = ![0, t.val, 0] ∧ win0_1.index t = ![t.val, 0] ∧ win0_2.index t = ![t.val, 0] ∧ win0_3.index t = ![0, 0] ∧ win0_4.index t = ![t.val, 0]
    ∧ win0_5.index t = ![0, 0] ∧ win0_6.index t = ![0, 0] ∧ win0_7.index t = ![0, 0, 0] ∧ win0_8.index t = ![t.val, 0] ∧ win0_9.index t = ![t.val, 0]
    ∧ win0_10.index t = ![t.val, 0] ∧ win0_11.index t = ![0, 0, 0] ∧ win0_12.index t = ![0, 0] ∧ win0_13.index t = ![0, 0] ∧ win0_14.index t = ![0, 0] :=
  (by decide +kernel : ∀ t : Fin grid0.N, _)

theorem lt_N (t : Fin cfg0.N) : t.val < 8 := lt_of_lt_of_eq t.isLt N_0

/-- Row `p` of point `t`'s block of rows. -/
def row (t : Fin cfg0.N) (p : Fin 512) : Fin 4096 := ⟨t.val * 512 + p.val, by have := lt_N t; omega⟩

section Blocks

variable (f : (b : Ref sig .tc) → Buf (Elt Ideal) ((c : Thread nD τ).loc b)) (t : Fin cfg0.N)

theorem read0 (hd : Fin 8) (p : Fin 512) (e : Fin 256) : ((cfg0.win 0).blk t).view.read (Elt Ideal) (f (Pipeline.arrRef spec0 0)) (ix3 hd p e) = f main_v21 (ix3 hd (row t p) e) :=
  congrArg (f main_v21) (by unfold row; blk_ext [idx t])

theorem read1 (p : Fin 512) (k : Fin 1024) : ((cfg0.win 1).blk t).view.read (Elt Ideal) (f (Pipeline.arrRef spec0 1)) (ix2 p k) = f main_v13 (ix2 (row t p) k) :=
  congrArg (f main_v13) (by unfold row; blk_ext [idx t])

theorem read2 (p : Fin 512) (k : Fin 1024) : ((cfg0.win 2).blk t).view.read (Elt Ideal) (f (Pipeline.arrRef spec0 2)) (ix2 p k) = f main_arg0 (ix2 (row t p) k) :=
  congrArg (f main_arg0) (by unfold row; blk_ext [idx t])

theorem read3 (k : Fin 1024) : ((cfg0.win 3).blk t).view.read (Elt Ideal) (f (Pipeline.arrRef spec0 3)) (ix2 0 k) = f main_v22 (ix2 0 k) :=
  congrArg (f main_v22) (by blk_ext [idx t])

theorem read4 (p : Fin 512) (k : Fin 1024) : ((cfg0.win 4).blk t).view.read (Elt Ideal) (f (Pipeline.arrRef spec0 4)) (ix2 p k) = f main_arg8 (ix2 (row t p) k) :=
  congrArg (f main_arg8) (by unfold row; blk_ext [idx t])

theorem read5 (k : Fin 1024) (r : Fin 512) : ((cfg0.win 5).blk t).view.read (Elt Ideal) (f (Pipeline.arrRef spec0 5)) (ix2 k r) = f main_v23 (ix2 k r) :=
  congrArg (f main_v23) (by blk_ext [idx t])

theorem read6 (r : Fin 512) : ((cfg0.win 6).blk t).view.read (Elt Ideal) (f (Pipeline.arrRef spec0 6)) (ix2 0 r) = f main_v24 (ix2 0 r) :=
  congrArg (f main_v24) (by blk_ext [idx t])

theorem read7 (hd : Fin 8) (r : Fin 512) (e : Fin 256) : ((cfg0.win 7).blk t).view.read (Elt Ideal) (f (Pipeline.arrRef spec0 7)) (ix3 hd r e) = f main_v28 (ix3 hd r e) :=
  congrArg (f main_v28) (by blk_ext [idx t])

theorem read8 (p : Fin 512) (l : Fin 128) : ((cfg0.win 8).blk t).view.read (Elt Ideal) (f (Pipeline.arrRef spec0 8)) (ix2 p l) = f main_v15 (ix2 (row t p) l) :=
  congrArg (f main_v15) (by unfold row; blk_ext [idx t])

theorem read9 (p : Fin 512) (l : Fin 128) : ((cfg0.win 9).blk t).view.read (Elt Ideal) (f (Pipeline.arrRef spec0 9)) (ix2 p l) = f main_v17 (ix2 (row t p) l) :=
  congrArg (f main_v17) (by unfold row; blk_ext [idx t])

end Blocks

/-! ## One head's part of a block -/

section Cut

variable {e : EltTy} {n : ℕ} (v : (⟨3, ![8, 512, 256]⟩ : Shape).Idx → Elt Ideal e)

theorem cut_in (hd : Fin 8) (o : ℕ) (ho : o + n ≤ 256) : ∀ a : Fin 3, (![hd.val, 0, o] : Fin 3 → ℕ) a + (![1, 512, n] : Fin 3 → ℕ) a ≤ (⟨3, ![8, 512, 256]⟩ : Shape).size a := fun a => by
  fin_cases a
  · exact hd.isLt
  · exact (Nat.zero_add 512).le
  · exact ho

/-- Lanes `o` to `o + n` of head `hd`. -/
abbrev cut (o n : ℕ) (ho : o + n ≤ 256) (hd : Fin 8) : (⟨3, ![1, 512, n]⟩ : Shape).Idx → Elt Ideal e :=
  View.ld v (Rect.unit (s := ⟨3, ![8, 512, 256]⟩) ![hd.val, 0, o] ![1, 512, n] (cut_in hd o ho))

theorem cut_at (o n : ℕ) (ho : o + n ≤ 256) (hd : Fin 8) (p : Fin 512) (l : Fin n) : cut v o n ho hd (ix3 0 p l) = v (ix3 hd p ⟨o + l.val, by omega⟩) :=
  congrArg v (funext fun a => Fin.ext (by fin_cases a <;> simp [Rect.unit, Rect.emb]))

theorem cut_whole (hd : Fin 8) (p : Fin 512) (l : Fin 256) : cut v 0 256 (by decide) hd (ix3 0 p l) = v (ix3 hd p l) :=
  (cut_at v 0 256 (by decide) hd p l).trans (congrArg v (congrArg (ix3 hd p) (Fin.ext (Nat.zero_add _))))

end Cut

variable {H : Rows 4096 1024} {G : Fin 1024 → ℝ} {Wd : Rows 1024 512} {GQ : Fin 512 → ℝ} {Wu : Rows 512 1536} {CO SI : Rows 4096 32} {DQ : Rows 4096 1536}

section AtPoint

variable (h : Reals m c H G Wd GQ Wu CO SI DQ) (t : Fin cfg0.N)
include h

theorem blk_dq (hd : Fin 8) (p : Fin 512) (e : Fin 256) : iblk m c 0 t (ix3 hd p e) = (head (DQ (row t p)) hd e.val : EReal) := by
  unfold iblk
  exact (read0 c (V m c) t hd p e).trans (V_dq m c h _ _ _)

theorem blk_x (p : Fin 512) (k : Fin 1024) : iblk m c 1 t (ix2 p k) = (xn H G (row t p) k : EReal) := by
  unfold iblk
  exact (read1 c (V m c) t p k).trans (V_x m c h _ _)

theorem blk_h (p : Fin 512) (k : Fin 1024) : iblk m c 2 t (ix2 p k) = (H (row t p) k : EReal) := by
  unfold iblk
  exact (read2 c (V m c) t p k).trans (V_h m c h _ _)

theorem blk_g (k : Fin 1024) : iblk m c 3 t (ix2 0 k) = (G k : EReal) := by
  unfold iblk
  exact (read3 c (V m c) t k).trans (V_g m c h _)

omit h in
theorem blk_dres (p : Fin 512) (k : Fin 1024) : iblk m c 4 t (ix2 p k) = m ((c : Thread nD τ).loc main_arg8) (ix2 (row t p) k) := by
  unfold iblk
  exact (read4 c (V m c) t p k).trans (congrFun (V_main_arg8 m c) _)

theorem blk_wd (k : Fin 1024) (r : Fin 512) : iblk m c 5 t (ix2 k r) = (Wd k r : EReal) := by
  unfold iblk
  exact (read5 c (V m c) t k r).trans (V_wd m c h _ _)

theorem blk_gq (r : Fin 512) : iblk m c 6 t (ix2 0 r) = (GQ r : EReal) := by
  unfold iblk
  exact (read6 c (V m c) t r).trans (V_gq m c h _)

theorem blk_wu (hd : Fin 8) (r : Fin 512) (e : Fin 256) : iblk m c 7 t (ix3 hd r e) = (head (Wu r) hd e.val : EReal) := by
  unfold iblk
  exact (read7 c (V m c) t hd r e).trans (V_wu m c h _ _ _)

theorem blk_cos (p : Fin 512) (l : Fin 128) : iblk m c 8 t (ix2 p l) = (cosp (ext (CO (row t p))) l.val : EReal) := by
  unfold iblk
  exact (read8 c (V m c) t p l).trans (V_cos m c h _ _)

theorem blk_sin (p : Fin 512) (l : Fin 128) : iblk m c 9 t (ix2 p l) = (sinp (ext (SI (row t p))) l.val : EReal) := by
  unfold iblk
  exact (read9 c (V m c) t p l).trans (V_sin m c h _ _)

theorem cut_lo (hd : Fin 8) (p : Fin 512) (l : Fin 128) : cut (iblk m c 0 t) 0 128 (by decide) hd (ix3 0 p l) = (head (DQ (row t p)) hd l.val : EReal) :=
  (cut_at (iblk m c 0 t) 0 128 (by decide) hd p l).trans ((blk_dq m c h t hd p _).trans (congrArg (fun n => (head (DQ (row t p)) hd n : EReal)) (Nat.zero_add _)))

theorem cut_hi (hd : Fin 8) (p : Fin 512) (l : Fin 128) : cut (iblk m c 0 t) 128 128 (by decide) hd (ix3 0 p l) = (head (DQ (row t p)) hd (128 + l.val) : EReal) :=
  (cut_at (iblk m c 0 t) 128 128 (by decide) hd p l).trans (blk_dq m c h t hd p _)

theorem cut_w (hd : Fin 8) (r : Fin 512) (e : Fin 256) : cut (iblk m c 7 t) 0 256 (by decide) hd (ix3 0 r e) = (head (Wu r) hd e.val : EReal) :=
  (cut_whole (iblk m c 7 t) hd r e).trans (blk_wu m c h t hd r e)

/-! ## One point -/

omit h in
/-- The heads' products of a point, added up. -/
abbrev nb : FVec Ideal S512x512 .f32 :=
  heads (cut (iblk m c 0 t) 0 128 (by decide)) (cut (iblk m c 0 t) 128 128 (by decide)) (cut (iblk m c 7 t) 0 256 (by decide)) (iblk m c 8 t) (iblk m c 9 t)

theorem nb_at (p r : Fin 512) : nb m c t (ix2 p r) = (dqn Wu CO SI DQ (row t p) r : EReal) := by
  refine (heads_at (D := fun hd p => head (DQ (row t p)) hd) (C := fun p => ext (CO (row t p))) (S := fun p => ext (SI (row t p))) (W := fun hd r => head (Wu r) hd)
    (cut_lo m c h t) (cut_hi m c h t) (blk_cos m c h t) (blk_sin m c h t) (cut_w m c h t) p r).trans ?_
  refine congrArg _ (Finset.sum_congr rfl fun hd _ => Finset.sum_congr rfl fun e _ => ?_)
  unfold dr
  exact congrArg _ (ext_of_lt _ e.isLt)

theorem uq_at (a : Fin 8 → Vec Ideal S1x512x256 .f32) (L) (hd : Fin 8) (r : Fin 512) (e : Fin 256) :
    View.canon (planes (k0_pay11 (F := Ideal) (iblk m c 1 t) (iblk m c 5 t) (iblk m c 6 t)) (cut (iblk m c 0 t) 0 128 (by decide)) (cut (iblk m c 0 t) 128 128 (by decide))
      a (iblk m c 8 t) (iblk m c 9 t) L) (ix3 hd r e) = a hd (ix3 0 r e) + ((∑ p, qn H G Wd GQ (row t p) r * dr CO SI DQ (row t p) hd e.val : ℝ) : EReal) :=
  planes_at (a := a) (D := fun hd p => head (DQ (row t p)) hd) (C := fun p => ext (CO (row t p))) (S := fun p => ext (SI (row t p))) (Q := fun p r => qn H G Wd GQ (row t p) r)
    (cut_lo m c h t) (cut_hi m c h t) (blk_cos m c h t) (blk_sin m c h t) (pay_qn (blk_x m c h t) (blk_wd m c h t) (blk_gq m c h t)) L hd r e

theorem hat_at (p r : Fin 512) : k0_pay10 (F := Ideal) (iblk m c 1 t) (iblk m c 5 t) (ix2 p r)
    = ((qc H G Wd (row t p) r * rsq 512 (fun p => qc H G Wd (row t p)) p : ℝ) : EReal) := pay_hat (blk_x m c h t) (blk_wd m c h t) p r

theorem rsq_at (p : Fin 512) : k0_pay9 (F := Ideal) (iblk m c 1 t) (iblk m c 5 t) (ix2 p 0) = (rsq 512 (fun p => qc H G Wd (row t p)) p : EReal) :=
  pay_rsq (blk_x m c h t) (blk_wd m c h t) p 0

theorem x_at (p : Fin 512) (k : Fin 1024) : k0_pay7 (F := Ideal) (iblk m c 1 t) (ix2 p k) = (xn H G (row t p) k : EReal) := by
  rw [← blk_x m c h t]
  pointwise [k0_pay7]

theorem gq_at (w : Vec Ideal S1x512 .f32) (r : Fin 512) : k0_pay46 (F := Ideal) (k0_pay10 (iblk m c 1 t) (iblk m c 5 t)) (nb m c t) w (ix2 0 r)
    = w (ix2 0 r) + ((∑ p, dqn Wu CO SI DQ (row t p) r * (qc H G Wd (row t p) r * rsq 512 (qc H G Wd) (row t p)) : ℝ) : EReal) :=
  pay_dgq (hat_at m c h t) (nb_at m c h t) w r

theorem dqc_at (p r : Fin 512) : k0_pay47 (F := Ideal) (k0_pay9 (iblk m c 1 t) (iblk m c 5 t)) (k0_pay10 (iblk m c 1 t) (iblk m c 5 t)) (nb m c t) (iblk m c 6 t) (ix2 p r)
    = (dqc H G Wd GQ Wu CO SI DQ (row t p) r : EReal) :=
  pay_dqc (hat_at m c h t) (nb_at m c h t) (rsq_at m c h t) (blk_gq m c h t) p r

theorem wd_at (w : Vec Ideal S1024x512 .f32) (k : Fin 1024) (r : Fin 512) :
    k0_pay48 (F := Ideal) (k0_pay7 (iblk m c 1 t)) (k0_pay9 (iblk m c 1 t) (iblk m c 5 t)) (k0_pay10 (iblk m c 1 t) (iblk m c 5 t)) (nb m c t) (iblk m c 6 t) w (ix2 k r)
    = w (ix2 k r) + ((∑ p, xn H G (row t p) k * dqc H G Wd GQ Wu CO SI DQ (row t p) r : ℝ) : EReal) :=
  pay_dwd (hat_at m c h t) (nb_at m c h t) (rsq_at m c h t) (blk_gq m c h t) (x_at m c h t) w k r

theorem g_at (w : Vec Ideal S1x1024 .f32) (k : Fin 1024) :
    k0_pay54 (F := Ideal) (k0_pay47 (k0_pay9 (iblk m c 1 t) (iblk m c 5 t)) (k0_pay10 (iblk m c 1 t) (iblk m c 5 t)) (nb m c t) (iblk m c 6 t)) (iblk m c 2 t) (k0_pay49 (iblk m c 2 t))
      (iblk m c 5 t) w (ix2 0 k) = w (ix2 0 k) + ((∑ p, dxn H G Wd GQ Wu CO SI DQ (row t p) k * (H (row t p) k * rsq 1024 H (row t p)) : ℝ) : EReal) :=
  pay_dg (blk_h m c h t) (dqc_at m c h t) (blk_wd m c h t) w k

theorem h_at (p : Fin 512) (k : Fin 1024) {d : EReal} (hd : m ((c : Thread nD τ).loc main_arg8) (ix2 (row t p) k) = d) :
    k0_pay53 (F := Ideal) (k0_pay47 (k0_pay9 (iblk m c 1 t) (iblk m c 5 t)) (k0_pay10 (iblk m c 1 t) (iblk m c 5 t)) (nb m c t) (iblk m c 6 t)) (iblk m c 2 t) (k0_pay49 (iblk m c 2 t))
      (iblk m c 5 t) (iblk m c 3 t) (iblk m c 4 t) (ix2 p k) = d + (dh H G Wd GQ Wu CO SI DQ (row t p) k : EReal) :=
  (pay_dh (blk_h m c h t) (dqc_at m c h t) (blk_wd m c h t) (blk_g m c h t) (iblk m c 4 t) p k).trans (congrArg (· + _) ((blk_dres m c t p k).trans hd))

end AtPoint

section After

variable (h : Reals m c H G Wd GQ Wu CO SI DQ)
include h

set_option maxHeartbeats 1600000 in
theorem after_uq (t : Fin cfg0.N) (hd : Fin 8) (r : Fin 512) (e : Fin 256) :
    (t.val % 8 = 0 → (outsAt0 m c t.val t.isLt).2.2.2.2.2.1 (ix3 hd r e) = (0 : EReal) + ((∑ p, qn H G Wd GQ (row t p) r * dr CO SI DQ (row t p) hd e.val : ℝ) : EReal))
    ∧ (¬t.val % 8 = 0 → (outsAt0 m c t.val t.isLt).2.2.2.2.2.1 (ix3 hd r e)
      = (outsAt0 m c (t.val - 1) (Nat.lt_of_le_of_lt (Nat.sub_le _ _) t.isLt)).2.2.2.2.2.1 (ix3 hd r e)
        + ((∑ p, qn H G Wd GQ (row t p) r * dr CO SI DQ (row t p) hd e.val : ℝ) : EReal)) := by
  have zero : k0_pay3 (F := Ideal) (ix3 hd r e) = (0 : EReal) := by pointwise [k0_pay3]
  refine ⟨fun h0 => ?_, fun h0 => ?_⟩
  · rw [outsAt0_A m c t h0 (by omega)]
    frame_out
    simp (config := {decide := true}) only [↓View.readCov_skip, View.readCov_fill]
    generalize k0_pay3 (F := Ideal) = z at zero ⊢
    exact (uq_at m c h t (cut (e := .f32) z 0 256 (by decide)) _ hd r e).trans (congrArg (· + _) ((cut_whole (e := .f32) z hd r e).trans zero))
  · by_cases h1 : t.val % 8 = 7
    on_goal 1 => rw [outsAt0_C m c t h0 h1]
    on_goal 2 => rw [outsAt0_B m c t h0 h1]
    all_goals
      frame_out
      simp only [read_unread_whole]
      exact (uq_at m c h t (cut (outsAt0 m c (t.val - 1) (Nat.lt_of_le_of_lt (Nat.sub_le _ _) t.isLt)).2.2.2.2.2.1 0 256 (by decide)) _ hd r e).trans
        (congrArg (· + ((_ : ℝ) : EReal)) (cut_whole _ hd r e))

theorem after_wd (t : Fin cfg0.N) (k : Fin 1024) (r : Fin 512) :
    (t.val % 8 = 0 → (outsAt0 m c t.val t.isLt).2.2.2.2.2.2 (ix2 k r) = (0 : EReal) + ((∑ p, xn H G (row t p) k * dqc H G Wd GQ Wu CO SI DQ (row t p) r : ℝ) : EReal))
    ∧ (¬t.val % 8 = 0 → (outsAt0 m c t.val t.isLt).2.2.2.2.2.2 (ix2 k r)
      = (outsAt0 m c (t.val - 1) (Nat.lt_of_le_of_lt (Nat.sub_le _ _) t.isLt)).2.2.2.2.2.2 (ix2 k r)
        + ((∑ p, xn H G (row t p) k * dqc H G Wd GQ Wu CO SI DQ (row t p) r : ℝ) : EReal)) := by
  refine ⟨fun h0 => ?_, fun h0 => ?_⟩
  · rw [outsAt0_A m c t h0 (by omega)]
    frame_out
    refine (wd_at m c h t _ k r).trans (congrArg (· + ((_ : ℝ) : EReal)) ?_)
    pointwise [k0_pay4]
  · by_cases h1 : t.val % 8 = 7
    on_goal 1 => rw [outsAt0_C m c t h0 h1]
    on_goal 2 => rw [outsAt0_B m c t h0 h1]
    all_goals
      frame_out
      simp only [read_unread_whole]
      exact wd_at m c h t _ k r

theorem after_gq (t : Fin cfg0.N) (r : Fin 512) :
    (t.val % 8 = 0 → (outsAt0 m c t.val t.isLt).2.2.2.1 (ix2 0 r)
      = (0 : EReal) + ((∑ p, dqn Wu CO SI DQ (row t p) r * (qc H G Wd (row t p) r * rsq 512 (qc H G Wd) (row t p)) : ℝ) : EReal))
    ∧ (¬t.val % 8 = 0 → (outsAt0 m c t.val t.isLt).2.2.2.1 (ix2 0 r)
      = (outsAt0 m c (t.val - 1) (Nat.lt_of_le_of_lt (Nat.sub_le _ _) t.isLt)).2.2.2.1 (ix2 0 r)
        + ((∑ p, dqn Wu CO SI DQ (row t p) r * (qc H G Wd (row t p) r * rsq 512 (qc H G Wd) (row t p)) : ℝ) : EReal)) := by
  refine ⟨fun h0 => ?_, fun h0 => ?_⟩
  · rw [outsAt0_A m c t h0 (by omega)]
    frame_out
    refine (gq_at m c h t _ r).trans (congrArg (· + ((_ : ℝ) : EReal)) ?_)
    pointwise [k0_pay5]
  · by_cases h1 : t.val % 8 = 7
    on_goal 1 => rw [outsAt0_C m c t h0 h1]
    on_goal 2 => rw [outsAt0_B m c t h0 h1]
    all_goals
      frame_out
      exact gq_at m c h t _ r

theorem after_g (t : Fin cfg0.N) (k : Fin 1024) :
    (t.val % 8 = 0 → (outsAt0 m c t.val t.isLt).2.2.2.2.1 (ix2 0 k)
      = (0 : EReal) + ((∑ p, dxn H G Wd GQ Wu CO SI DQ (row t p) k * (H (row t p) k * rsq 1024 H (row t p)) : ℝ) : EReal))
    ∧ (¬t.val % 8 = 0 → (outsAt0 m c t.val t.isLt).2.2.2.2.1 (ix2 0 k)
      = (outsAt0 m c (t.val - 1) (Nat.lt_of_le_of_lt (Nat.sub_le _ _) t.isLt)).2.2.2.2.1 (ix2 0 k)
        + ((∑ p, dxn H G Wd GQ Wu CO SI DQ (row t p) k * (H (row t p) k * rsq 1024 H (row t p)) : ℝ) : EReal)) := by
  refine ⟨fun h0 => ?_, fun h0 => ?_⟩
  · rw [outsAt0_A m c t h0 (by omega)]
    frame_out
    refine (g_at m c h t _ k).trans (congrArg (· + ((_ : ℝ) : EReal)) ?_)
    pointwise [k0_pay6]
  · by_cases h1 : t.val % 8 = 7
    on_goal 1 => rw [outsAt0_C m c t h0 h1]
    on_goal 2 => rw [outsAt0_B m c t h0 h1]
    all_goals
      frame_out
      exact g_at m c h t _ k

theorem after_dh (t : Fin cfg0.N) (p : Fin 512) (k : Fin 1024) {d : EReal} (hd : m ((c : Thread nD τ).loc main_arg8) (ix2 (row t p) k) = d) :
    (outsAt0 m c t.val t.isLt).1 (ix2 p k) = d + (dh H G Wd GQ Wu CO SI DQ (row t p) k : EReal) := by
  by_cases h0 : t.val % 8 = 0
  · rw [outsAt0_A m c t h0 (by omega)]
    frame_out
    exact h_at m c h t p k hd
  · by_cases h1 : t.val % 8 = 7
    on_goal 1 => rw [outsAt0_C m c t h0 h1]
    on_goal 2 => rw [outsAt0_B m c t h0 h1]
    all_goals
      frame_out
      exact h_at m c h t p k hd

omit h

theorem last_uq (t : Fin cfg0.N) (h1 : t.val % 8 = 7) (hd : Fin 8) (r : Fin 512) (e : Fin 256) :
    (outsAt0 m c t.val t.isLt).2.1 (ix3 hd r e) = (outsAt0 m c t.val t.isLt).2.2.2.2.2.1 (ix3 hd r e) := by
  rw [outsAt0_C m c t (by omega) h1]
  frame_out
  rw [cov_whole _ _ _ (by decide)]
  pointwise [k0_pay1]

theorem last_wd (t : Fin cfg0.N) (h1 : t.val % 8 = 7) (k : Fin 1024) (r : Fin 512) :
    (outsAt0 m c t.val t.isLt).2.2.1 (ix2 k r) = (outsAt0 m c t.val t.isLt).2.2.2.2.2.2 (ix2 k r) := by
  rw [outsAt0_C m c t (by omega) h1]
  frame_out
  pointwise [k0_pay2]

/-- Eight blocks of rows are all rows. -/
theorem total (f : (n : ℕ) → n < cfg0.N → EReal) (g : Fin 4096 → ℝ)
    (hf : ∀ t : Fin cfg0.N, (t.val % 8 = 0 → f t.val t.isLt = (0 : EReal) + ((∑ p, g (row t p) : ℝ) : EReal))
      ∧ (¬t.val % 8 = 0 → f t.val t.isLt = f (t.val - 1) (Nat.lt_of_le_of_lt (Nat.sub_le _ _) t.isLt) + ((∑ p, g (row t p) : ℝ) : EReal)))
    (t : Fin cfg0.N) (h1 : t.val % 8 = 7) : f t.val t.isLt = ((∑ i, g i : ℝ) : EReal) := by
  rw [Pipeline.eq_sum_fin_of_reset_step_of_flush f 8 0 (fun t => ((∑ p, g (row t p) : ℝ) : EReal)) (fun t => (hf t).1) (fun t => (hf t).2) t h1, zero_add, coe_sum]
  refine congrArg _ ?_
  rw [Fin.sum_univ_tiles 8 512 rfl g]
  refine Finset.sum_congr rfl fun s _ => Finset.sum_congr rfl fun p _ => congrArg g (Fin.ext ?_)
  have := lt_N t
  simp only [row]
  omega

theorem emb10 (t : Fin cfg0.N) (p : Fin 512) (k : Fin 1024) : ((cfg0.win 10).blk t).view.emb (ix2 p k) = ix2 (row t p) k := by
  unfold row
  blk_ext [idx t]

theorem emb11 (t : Fin cfg0.N) (hd : Fin 8) (r : Fin 512) (e : Fin 256) : ((cfg0.win 11).blk t).view.emb (ix3 hd r e) = ix3 hd r e := by
  blk_ext [idx t]

theorem emb12 (t : Fin cfg0.N) (k : Fin 1024) (r : Fin 512) : ((cfg0.win 12).blk t).view.emb (ix2 k r) = ix2 k r := by
  blk_ext [idx t]

theorem emb13 (t : Fin cfg0.N) (r : Fin 512) : ((cfg0.win 13).blk t).view.emb (ix2 0 r) = ix2 0 r := by
  blk_ext [idx t]

theorem emb14 (t : Fin cfg0.N) (k : Fin 1024) : ((cfg0.win 14).blk t).view.emb (ix2 0 k) = ix2 0 k := by
  blk_ext [idx t]

include h

theorem result_h {d : S4096x1024.Idx → EReal} (hd : ∀ i, m ((c : Thread nD τ).loc main_arg8) i = d i) :
    (dats m 0 c).arrAt 10 (cfgs 0).N = fun i : S4096x1024.Idx => d i + (dh H G Wd GQ Wu CO SI DQ (i 0) (i 1) : EReal) := by
  refine (dats m 0 c).arrAt_eq_of_covers 10 _ (by decide +kernel) fun t hf y => ?_
  obtain ⟨p, k, rfl⟩ : ∃ p k, y = ix2 p k := ⟨y 0, y 1, eq_ix2 y⟩
  rw [emb10 t p k]
  blk_simp
  rw [after0_10]
  exact after_dh m c h t p k (hd _)

theorem result_uq : (dats m 0 c).arrAt 11 (cfgs 0).N = fun i : S8x512x256.Idx => (dwu H G Wd GQ CO SI DQ (i 0) (i 1) (i 2).val : EReal) := by
  refine (dats m 0 c).arrAt_eq_of_covers 11 _ (by decide +kernel) fun t hf y => ?_
  have h1 : t.val % 8 = 7 := (flush0_11 t).mp hf
  obtain ⟨hd, r, e, rfl⟩ : ∃ hd r e, y = ix3 hd r e := ⟨y 0, y 1, y 2, eq_ix3 y⟩
  rw [emb11 t hd r e]
  blk_simp
  rw [after0_11]
  exact (last_uq m c t h1 hd r e).trans (total (fun n hn => (outsAt0 m c n hn).2.2.2.2.2.1 (ix3 hd r e)) (fun i => qn H G Wd GQ i r * dr CO SI DQ i hd e.val)
    (fun t => after_uq m c h t hd r e) t h1)

theorem result_wd : (dats m 0 c).arrAt 12 (cfgs 0).N = fun i : S1024x512.Idx => (dwd H G Wd GQ Wu CO SI DQ (i 0) (i 1) : EReal) := by
  refine (dats m 0 c).arrAt_eq_of_covers 12 _ (by decide +kernel) fun t hf y => ?_
  have h1 : t.val % 8 = 7 := (flush0_12 t).mp hf
  obtain ⟨k, r, rfl⟩ : ∃ k r, y = ix2 k r := ⟨y 0, y 1, eq_ix2 y⟩
  rw [emb12 t k r]
  blk_simp
  rw [after0_12]
  exact (last_wd m c t h1 k r).trans (total (fun n hn => (outsAt0 m c n hn).2.2.2.2.2.2 (ix2 k r)) (fun i => xn H G i k * dqc H G Wd GQ Wu CO SI DQ i r)
    (fun t => after_wd m c h t k r) t h1)

theorem result_gq : (dats m 0 c).arrAt 13 (cfgs 0).N = fun i : S1x512.Idx => (dgq H G Wd Wu CO SI DQ (i 1) : EReal) := by
  refine (dats m 0 c).arrAt_eq_of_covers 13 _ (by decide +kernel) fun t hf y => ?_
  have h1 : t.val % 8 = 7 := (flush0_13 t).mp hf
  obtain ⟨r, rfl⟩ : ∃ r, y = ix2 0 r := ⟨y 1, (eq_ix2 y).trans (congrArg (fun z => ix2 z (y 1)) (Subsingleton.elim (α := Fin 1) _ _))⟩
  rw [emb13 t r]
  blk_simp
  rw [after0_13]
  exact total (fun n hn => (outsAt0 m c n hn).2.2.2.1 (ix2 0 r)) (fun i => dqn Wu CO SI DQ i r * (qc H G Wd i r * rsq 512 (qc H G Wd) i))
    (fun t => after_gq m c h t r) t h1

theorem result_g : (dats m 0 c).arrAt 14 (cfgs 0).N = fun i : S1x1024.Idx => (dg H G Wd GQ Wu CO SI DQ (i 1) : EReal) := by
  refine (dats m 0 c).arrAt_eq_of_covers 14 _ (by decide +kernel) fun t hf y => ?_
  have h1 : t.val % 8 = 7 := (flush0_14 t).mp hf
  obtain ⟨k, rfl⟩ : ∃ k, y = ix2 0 k := ⟨y 1, (eq_ix2 y).trans (congrArg (fun z => ix2 z (y 1)) (Subsingleton.elim (α := Fin 1) _ _))⟩
  rw [emb14 t k]
  blk_simp
  rw [after0_14]
  exact total (fun n hn => (outsAt0 m c n hn).2.2.2.2.1 (ix2 0 k)) (fun i => dxn H G Wd GQ Wu CO SI DQ i k * (H i k * rsq 1024 H i))
    (fun t => after_g m c h t k) t h1

end After

/-- The results at the end of the call, the arguments unchanged. -/
theorem run_at (g : Dev nD → PrngReg) : θ_run defs (onTc (τ := τ) (main (F := Ideal))) ⟨m, fun _ => 0, g⟩ (fun r => ∀ c : Dev nD,
      r.2.mem ((c.tc : Thread nD τ).loc main_v29_0) = (dats m 0 c).arrAt 10 (cfgs 0).N
      ∧ r.2.mem ((c.tc : Thread nD τ).loc main_v29_1) = (dats m 0 c).arrAt 11 (cfgs 0).N
      ∧ r.2.mem ((c.tc : Thread nD τ).loc main_v29_2) = (dats m 0 c).arrAt 12 (cfgs 0).N
      ∧ r.2.mem ((c.tc : Thread nD τ).loc main_v29_3) = (dats m 0 c).arrAt 13 (cfgs 0).N
      ∧ r.2.mem ((c.tc : Thread nD τ).loc main_v29_4) = (dats m 0 c).arrAt 14 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 10, (h.1 c).1 11, (h.1 c).1 12, (h.1 c).1 13, (h.1 c).1 14, h.2 c⟩) (θ_run_and (run_main m g) (unchanged m g))

end Cert.QueryIdeal.Proof

end
-- ==== Proof.QueryRef.lean ====
module

public import proofs.«01_k».proof.Proof.Gen.QueryRefIdeal.Read
public import proofs.«01_k».proof.Proof.QueryMath
public import Idealize.ShloMosaic.Lib.Pointwise

/-! The queries' reference backward over real inputs. -/

@[expose] public section

set_option maxRecDepth 16384

noncomputable section

namespace Cert.QueryRefIdeal.Proof

open Cert.QueryRefIdeal Cert.QueryRefIdeal.Gen Cert.QueryRefIdeal.Read Idealize.ShloMosaic Idealize.ShloMosaic.TcCoe Idealize.SL.Sem
open Cert.Reals Cert.Norm Cert.Shift Cert.QueryMath
open scoped BigOperators

variable {x0 : FVec Ideal S4096x1024 .f32} {x1 : FVec Ideal S1024 .f32} {x2 : FVec Ideal S1024x512 .f32} {x3 : FVec Ideal S512 .f32} {x4 : FVec Ideal S512x1536 .f32}
  {x5 : FVec Ideal S4096x32 .f32} {x6 : FVec Ideal S4096x32 .f32} {x7 : FVec Ideal S4096x1536 .f32} {x8 : FVec Ideal S4096x1024 .f32}
variable {H : Rows 4096 1024} {G : Fin 1024 → ℝ} {Wd : Rows 1024 512} {GQ : Fin 512 → ℝ} {Wu : Rows 512 1536} {CO SI : Rows 4096 32} {DQ : Rows 4096 1536}

theorem zero_int : (FloatOps.sitofp (F := Ideal) .f32 (0#32) : EReal) = ((0 : ℝ) : EReal) := by
  show (((0#32 : BitVec 32).toInt : ℝ) : EReal) = _
  simp

theorem mean (hh : ∀ i k, x0 (ix2 i k) = (H i k : EReal)) (i : Fin 4096) (z : Fin 1) : val_main_v6 (F := Ideal) x0 (ix2 i z) = (msq 1024 H i : EReal) := by
  pointwise [val_main_v6, val_main_v4, val_main_v5, val_main_v2, val_main_v3, val_main_v1, val_main_v0, val_main_cst, val_main_cst_0, val_main_cst_1, hh]
  simp only [ofBits_1024, ofBits_eps, ← EReal.coe_mul, coe_sum, zero_add, div_coe_coe (by norm_num : (1024 : ℝ) ≠ 0), ← EReal.coe_add]
  rfl

theorem root (hh : ∀ i k, x0 (ix2 i k) = (H i k : EReal)) (i : Fin 4096) (z : Fin 1) : val_main_v7 (F := Ideal) x0 (ix2 i z) = (rsq 1024 H i : EReal) := by
  pointwise [val_main_v7, mean hh]
  exact rsqrt_of_pos (msq_pos 1024 H i (by norm_num))

section Normed

variable (hh : ∀ i k, x0 (ix2 i k) = (H i k : EReal)) (hg : ∀ k, x1 (ix1 k) = (G k : EReal))
include hh hg

theorem normed (i : Fin 4096) (k : Fin 1024) : val_main_v15 (F := Ideal) x0 x1 (ix2 i k) = (xn H G i k : EReal) := by
  pointwise [val_main_v15, val_main_v14, val_main_v13, val_main_v12, val_main_v11, root hh, hh, hg]
  simp only [← EReal.coe_mul]
  rfl

variable (hw : ∀ k r, x2 (ix2 k r) = (Wd k r : EReal))
include hw

theorem narrow (i : Fin 4096) (r : Fin 512) : val_main_v16 (F := Ideal) x0 x1 x2 (ix2 i r) = (qc H G Wd i r : EReal) := by
  pointwise [val_main_v16, normed hh hg, hw]
  simp only [← EReal.coe_mul, coe_sum]
  rfl

theorem mean_q (i : Fin 4096) (z : Fin 1) : val_main_v23 (F := Ideal) x0 x1 x2 (ix2 i z) = (msq 512 (qc H G Wd) i : EReal) := by
  pointwise [val_main_v23, val_main_v22, val_main_v21, val_main_v20, val_main_v19, val_main_v18, val_main_v17, val_main_cst_3, val_main_cst_4, val_main_cst_5, narrow hh hg hw]
  simp only [ofBits_512, ofBits_eps, ← EReal.coe_mul, coe_sum, zero_add, div_coe_coe (by norm_num : (512 : ℝ) ≠ 0), ← EReal.coe_add]
  rfl

theorem root_q (i : Fin 4096) (z : Fin 1) : val_main_v24 (F := Ideal) x0 x1 x2 (ix2 i z) = (rsq 512 (qc H G Wd) i : EReal) := by
  pointwise [val_main_v24, mean_q hh hg hw]
  exact rsqrt_of_pos (msq_pos 512 _ i (by norm_num))

theorem hat_q (i : Fin 4096) (r : Fin 512) : val_main_v29 (F := Ideal) x0 x1 x2 (ix2 i r) = ((qc H G Wd i r * rsq 512 (qc H G Wd) i : ℝ) : EReal) := by
  pointwise [val_main_v29, val_main_v28, narrow hh hg hw, root_q hh hg hw]
  simp only [← EReal.coe_mul]

theorem normed_q (hq : ∀ r, x3 (ix1 r) = (GQ r : EReal)) (i : Fin 4096) (r : Fin 512) : val_main_v32 (F := Ideal) x0 x1 x2 x3 (ix2 i r) = (qn H G Wd GQ i r : EReal) := by
  pointwise [val_main_v32, val_main_v31, val_main_v30, hat_q hh hg hw, hq]
  simp only [← EReal.coe_mul]
  rfl

end Normed

section Rotation

variable (hc : ∀ i f, x5 (ix2 i f) = (CO i f : EReal)) (hs : ∀ i f, x6 (ix2 i f) = (SI i f : EReal)) (hd : ∀ i k, x7 (ix2 i k) = (DQ i k : EReal))
include hd

theorem scaled (i : Fin 4096) (h : Fin 8) (e : Fin 192) : val_main_v57 (F := Ideal) x7 (ix3 i h e) = ((head (DQ i) h e.val * sc : ℝ) : EReal) := by
  pointwise [val_main_v57, val_main_v56, val_main_v55, val_main_cst_8, ofBits_sc, hd]
  rw [← EReal.coe_mul]
  unfold head
  rw [ext_val]
  rfl

include hc hs

set_option maxHeartbeats 800000 in
theorem rotated (i : Fin 4096) (h : Fin 8) (e : Fin 192) : val_main_v76 (F := Ideal) x5 x6 x7 (ix3 i h e) = (dr CO SI DQ i h e.val : EReal) := by
  unfold dr rot
  pointwise [val_main_v76, val_main_v75, val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v37, val_main_v36, val_main_cst_9, val_main_cst_10, scaled hd, hc, hs]
  by_cases h1 : e.val < 128
  · rw [dif_pos h1, dif_neg (by omega), if_pos h1, add_zero]
  · rw [dif_neg h1, dif_pos (by omega), if_neg h1, zero_add]
    by_cases h2 : e.val < 160
    · rw [dif_pos (by omega), if_pos h2, ext_of_lt _ (by omega : e.val - 128 < 32), ext_of_lt _ (by omega : e.val - 128 < 32), show 128 + (e.val - 128) = e.val by omega,
        show 128 + (32 + (e.val - 128)) = e.val + 32 by omega]
      simp only [← EReal.coe_mul, ← EReal.coe_add]
      rw [add_comm]
    · have h3 : ¬ e.val - 128 < 32 := by omega
      have h4 : e.val - 128 - 32 = e.val - 160 := by omega
      have h5 : e.val - 160 < 32 := by omega
      rw [dif_neg h3, if_neg h2, ext_of_lt (CO i) h5, ext_of_lt (SI i) h5]
      simp only [h4, show 128 + (32 + (e.val - 160)) = e.val by omega, show 128 + (e.val - 160) = e.val - 32 by omega]
      simp only [← EReal.coe_neg, ← EReal.coe_mul, ← EReal.coe_add]
      exact congrArg _ (by ring)

/-- The product of the heads' gradients with the wide projection. -/
theorem product (hw : ∀ r k, x4 (ix2 r k) = (Wu r k : EReal)) (i : Fin 4096) (r : Fin 512) :
    val_main_v80 (F := Ideal) x4 x5 x6 x7 (ix2 i r) = (dqn Wu CO SI DQ i r : EReal) := by
  pointwise [val_main_v80, val_main_v77, hw]
  rw [Fin.sum_univ_tiles 8 192 (by norm_num)]
  unfold dqn
  simp only [← coe_sum]
  refine Finset.sum_congr rfl fun h _ => Finset.sum_congr rfl fun e _ => ?_
  rw [EReal.coe_mul, ← rotated hc hs hd, show (⟨(h.val * 192 + e.val) / 192, by omega⟩ : Fin 8) = h from Fin.ext (by dsimp only; omega),
    show (⟨(h.val * 192 + e.val) % 192, by omega⟩ : Fin 192) = e from Fin.ext (by dsimp only; omega)]
  rfl

end Rotation

/-! ## The results -/

section Results

variable (hh : ∀ i k, x0 (ix2 i k) = (H i k : EReal)) (hg : ∀ k, x1 (ix1 k) = (G k : EReal)) (hw : ∀ k r, x2 (ix2 k r) = (Wd k r : EReal))
  (hc : ∀ i f, x5 (ix2 i f) = (CO i f : EReal)) (hs : ∀ i f, x6 (ix2 i f) = (SI i f : EReal)) (hd : ∀ i k, x7 (ix2 i k) = (DQ i k : EReal))
include hh hg hw hc hs hd

theorem result_dgq (hu : ∀ r k, x4 (ix2 r k) = (Wu r k : EReal)) :
    val_main_v130 (F := Ideal) x0 x1 x2 x4 x5 x6 x7 = fun i => (dgq H G Wd Wu CO SI DQ (i 1) : EReal) := by
  funext j
  idx_vars j
  pointwise [val_main_v130, val_main_v86, val_main_v83, val_main_v82, val_main_v81, val_main_cst_11, val_main_cst_12, hat_q hh hg hw, product hc hs hd hu]
  simp only [← EReal.coe_mul, coe_sum, zero_add, Fin.sum_univ_one]
  unfold dgq dwt
  exact congrArg _ (Finset.sum_congr rfl fun i _ => mul_comm _ _)

theorem result_dwu (hq : ∀ r, x3 (ix1 r) = (GQ r : EReal)) :
    val_main_v128 (F := Ideal) x0 x1 x2 x3 x5 x6 x7 = fun i => (dwu H G Wd GQ CO SI DQ (i 0) (i 1) (i 2).val : EReal) := by
  funext j
  idx_vars j
  pointwise [val_main_v128, val_main_v127, val_main_v126, val_main_v125, val_main_v79, val_main_v78, val_main_v77, val_main_call0_v0, normed_q hh hg hw hq]
  unfold dwu
  by_cases h : j2.val < 192
  · have at_ : ∀ x, val_main_v76 (F := Ideal) x5 x6 x7 (ix3 x ⟨(j0.val * 192 + j2.val) / 192, by omega⟩ ⟨(j0.val * 192 + j2.val) % 192, by omega⟩) = (dr CO SI DQ x j0 j2.val : EReal) :=
      fun x => (congrArg₂ (fun a b => val_main_v76 (F := Ideal) x5 x6 x7 (ix3 x a b)) (Fin.ext (by dsimp only; omega)) (Fin.ext (by dsimp only; omega))).trans (rotated hc hs hd x j0 ⟨j2.val, h⟩)
    rw [dif_pos h]
    refine (Finset.sum_congr rfl fun x _ => congrArg (· * _) (at_ x)).trans ?_
    simp only [← EReal.coe_mul, coe_sum]
    exact congrArg _ (Finset.sum_congr rfl fun i _ => mul_comm _ _)
  · rw [dif_neg h, Finset.sum_eq_zero fun i _ => by rw [dr, rot_of_le _ _ _ (not_lt.1 h), mul_zero]]
    exact zero_int

variable (hq : ∀ r, x3 (ix1 r) = (GQ r : EReal)) (hu : ∀ r k, x4 (ix2 r k) = (Wu r k : EReal))
include hq hu

theorem factor_q (i : Fin 4096) : val_main_v95 (F := Ideal) x0 x1 x2 x3 x4 x5 x6 x7 (ix1 i)
    = (((∑ l, qc H G Wd i l * (dqn Wu CO SI DQ i l * GQ l)) * (-(1 / 2) * (rsq 512 (qc H G Wd) i / msq 512 (qc H G Wd) i)) / 512 : ℝ) : EReal) := by
  pointwise [val_main_v95, val_main_v94, val_main_v93, val_main_v92, val_main_v89, val_main_v88, val_main_v87, val_main_v85, val_main_v84, val_main_v30, val_main_v27, val_main_v26, val_main_v25,
    val_main_cst_15, val_main_cst_14, val_main_cst_13, val_main_cst_6, mean_q hh hg hw, root_q hh hg hw, narrow hh hg hw, product hc hs hd hu, hq]
  simp only [ofBits_512, ofBits_neg_half, ← EReal.coe_mul, coe_sum, zero_add, div_coe_coe (msq_pos 512 (qc H G Wd) i (by norm_num)).ne', div_coe_coe (by norm_num : (512 : ℝ) ≠ 0),
    Fin.sum_univ_one]

theorem narrow_d (i : Fin 4096) (r : Fin 512) : val_main_v100 (F := Ideal) x0 x1 x2 x3 x4 x5 x6 x7 (ix2 i r) = (dqc H G Wd GQ Wu CO SI DQ i r : EReal) := by
  pointwise [val_main_v100, val_main_v99, val_main_v98, val_main_v97, val_main_v96, val_main_v91, val_main_v90, val_main_v85, val_main_v84, val_main_v30,
    root_q hh hg hw, narrow hh hg hw, product hc hs hd hu, factor_q hh hg hw hc hs hd hq hu, hq]
  unfold dqc
  rw [← bwd_eq 512 _ _ _ _ _ (by norm_num)]
  simp only [← EReal.coe_mul, ← EReal.coe_add]

theorem result_dwd : val_main_v129 (F := Ideal) x0 x1 x2 x3 x4 x5 x6 x7 = fun i => (dwd H G Wd GQ Wu CO SI DQ (i 0) (i 1) : EReal) := by
  funext j
  idx_vars j
  pointwise [val_main_v129, val_main_v102, val_main_v101, narrow_d hh hg hw hc hs hd hq hu, normed hh hg]
  simp only [← EReal.coe_mul, coe_sum]
  unfold dwd
  exact congrArg _ (Finset.sum_congr rfl fun i _ => mul_comm _ _)

theorem normed_d (i : Fin 4096) (k : Fin 1024) : val_main_v103 (F := Ideal) x0 x1 x2 x3 x4 x5 x6 x7 (ix2 i k) = (dxn H G Wd GQ Wu CO SI DQ i k : EReal) := by
  pointwise [val_main_v103, narrow_d hh hg hw hc hs hd hq hu, hw]
  simp only [← EReal.coe_mul, coe_sum]
  rfl

theorem result_dg : val_main_v131 (F := Ideal) x0 x1 x2 x3 x4 x5 x6 x7 = fun i => (dg H G Wd GQ Wu CO SI DQ (i 1) : EReal) := by
  funext j
  idx_vars j
  pointwise [val_main_v131, val_main_v109, val_main_v106, val_main_v105, val_main_v104, val_main_v12, val_main_v11, val_main_cst_16, val_main_cst_17, root hh, normed_d hh hg hw hc hs hd hq hu, hh]
  simp only [← EReal.coe_mul, coe_sum, zero_add, Fin.sum_univ_one]
  unfold dg dwt
  exact congrArg _ (Finset.sum_congr rfl fun i _ => mul_comm _ _)

theorem factor (i : Fin 4096) : val_main_v119 (F := Ideal) x0 x1 x2 x3 x4 x5 x6 x7 (ix1 i)
    = (((∑ l, H i l * (dxn H G Wd GQ Wu CO SI DQ i l * G l)) * (-(1 / 2) * (rsq 1024 H i / msq 1024 H i)) / 1024 : ℝ) : EReal) := by
  pointwise [val_main_v119, val_main_v118, val_main_v117, val_main_v116, val_main_v112, val_main_v111, val_main_v110, val_main_v108, val_main_v107, val_main_v13, val_main_v10, val_main_v9, val_main_v8,
    val_main_cst_20, val_main_cst_19, val_main_cst_18, val_main_cst_2, mean hh, root hh, normed_d hh hg hw hc hs hd hq hu, hh, hg]
  simp only [ofBits_1024, ofBits_neg_half, ← EReal.coe_mul, coe_sum, zero_add, div_coe_coe (msq_pos 1024 H i (by norm_num)).ne', div_coe_coe (by norm_num : (1024 : ℝ) ≠ 0),
    Fin.sum_univ_one]

theorem result_dh : val_main_v124 (F := Ideal) x0 x1 x2 x3 x4 x5 x6 x7 x8 = fun i => x8 i + (dh H G Wd GQ Wu CO SI DQ (i 0) (i 1) : EReal) := by
  funext j
  idx_vars j
  pointwise [val_main_v124, val_main_v123, val_main_v122, val_main_v121, val_main_v120, val_main_v115, val_main_v114, val_main_v113, val_main_v108, val_main_v107, val_main_v13,
    root hh, normed_d hh hg hw hc hs hd hq hu, factor hh hg hw hc hs hd hq hu, hh, hg]
  unfold dh
  rw [← bwd_eq 1024 _ _ _ _ _ (by norm_num)]
  simp only [← EReal.coe_mul, add_assoc, ← EReal.coe_add]

end Results

end Cert.QueryRefIdeal.Proof

end
-- ==== Proof.QueryPre.lean ====
module

public import proofs.«01_k».proof.Pre_q_finite
public import proofs.«01_k».proof.Proof.Reals
public import Idealize.ShloMosaic.Lib.Pointwise

@[expose] public section

set_option maxRecDepth 16384

noncomputable section

namespace Cert.Pre_q_finite.Proof

open Cert.Pre_q_finite Idealize.ShloMosaic Cert.Reals

variable [Facts]

/-- The precondition says that every argument but the residual's gradient is an array of reals. -/
theorem reals (x0 : FVec Ideal S4096x1024 .f32) (x1 : FVec Ideal S1024 .f32) (x2 : FVec Ideal S1024x512 .f32) (x3 : FVec Ideal S512 .f32) (x4 : FVec Ideal S512x1536 .f32) (x5 : FVec Ideal S4096x32 .f32) (x6 : FVec Ideal S4096x32 .f32) (x7 : FVec Ideal S4096x1536 .f32) (x8 : FVec Ideal S4096x1024 .f32)
    (e : fn (F := Ideal) x0 x1 x2 x3 x4 x5 x6 x7 x8 = fun _ => 1#1) :
    (∃ r : S4096x1024.Idx → ℝ, x0 = fun i => (r i : EReal))
    ∧ (∃ r : S1024.Idx → ℝ, x1 = fun i => (r i : EReal))
    ∧ (∃ r : S1024x512.Idx → ℝ, x2 = fun i => (r i : EReal))
    ∧ (∃ r : S512.Idx → ℝ, x3 = fun i => (r i : EReal))
    ∧ (∃ r : S512x1536.Idx → ℝ, x4 = fun i => (r i : EReal))
    ∧ (∃ r : S4096x32.Idx → ℝ, x5 = fun i => (r i : EReal))
    ∧ (∃ r : S4096x32.Idx → ℝ, x6 = fun i => (r i : EReal))
    ∧ (∃ r : S4096x1536.Idx → ℝ, x7 = fun i => (r i : EReal)) := by
  have e0 := congrFun e ix0
  unfold fn fn_part1 at e0
  dsimp only at e0
  obtain ⟨e0, h7⟩ := IntOp.andi_eq_one.1 e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3, reals_of_finite _ _ _ _ _ _ h4, reals_of_finite _ _ _ _ _ _ h5, reals_of_finite _ _ _ _ _ _ h6, reals_of_finite _ _ _ _ _ _ h7⟩

end Cert.Pre_q_finite.Proof

end
-- ==== Proof.QueryClaim.lean ====
module

public import proofs.«01_k».proof.Defs
public import proofs.«01_k».proof.Proof.QueryKernel
public import proofs.«01_k».proof.Proof.QueryRef
public import proofs.«01_k».proof.Proof.QueryPre
public import proofs.«01_k».proof.Proof.Gen.QueryRefIdeal.Run
public import proofs.«01_k».proof.Proof.Gen.Pre_q_finite
public import Idealize.ShloMosaic.Lib.Claim

@[expose] public section

set_option maxRecDepth 16384

noncomputable section

namespace Cert.Proof

open Idealize.ShloMosaic Idealize.SL.Sem

set_option maxHeartbeats 1600000 in
theorem query : Cert.algebraic_QueryIdeal_QueryRefIdeal_pre_q_finite (hQueryIdeal := Cert.QueryIdeal.Gen.facts)
    (hQueryRefIdeal := Cert.QueryRefIdeal.Gen.facts) (hPre_q_finite := Cert.Pre_q_finite.Gen.facts) := by
  intro m g m' g' hpre hagree
  have hr := fun c => Cert.Pre_q_finite.Proof.reals _ _ _ _ _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2.1
  choose r5 h5 using fun c => (hr c).2.2.2.2.2.1
  choose r6 h6 using fun c => (hr c).2.2.2.2.2.2.1
  choose r7 h7 using fun c => (hr c).2.2.2.2.2.2.2
  have hk := fun c => Cert.QueryIdeal.Proof.Reals.mk (m := m) (c := c) (fun i k => congrFun (h0 c) (ix2 i k)) (fun i => congrFun (h1 c) (ix1 i)) (fun i k => congrFun (h2 c) (ix2 i k)) (fun i => congrFun (h3 c) (ix1 i)) (fun i k => congrFun (h4 c) (ix2 i k)) (fun i k => congrFun (h5 c) (ix2 i k)) (fun i k => congrFun (h6 c) (ix2 i k)) (fun i k => congrFun (h7 c) (ix2 i k))
  refine ⟨fun c => (Cert.QueryIdeal.Gen.dats m 0 c).arrAt 10 (Cert.QueryIdeal.cfgs 0).N, fun c => (Cert.QueryIdeal.Gen.dats m 0 c).arrAt 11 (Cert.QueryIdeal.cfgs 0).N, fun c => (Cert.QueryIdeal.Gen.dats m 0 c).arrAt 12 (Cert.QueryIdeal.cfgs 0).N, fun c => (Cert.QueryIdeal.Gen.dats m 0 c).arrAt 13 (Cert.QueryIdeal.cfgs 0).N, fun c => (Cert.QueryIdeal.Gen.dats m 0 c).arrAt 14 (Cert.QueryIdeal.cfgs 0).N, ?_, ?_⟩
  · exact Cert.QueryIdeal.Proof.run_at m g
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.QueryRefIdeal.Value.run m' g')
    · obtain ⟨a0, a1, a2, a3, a4, a5, a6, a7, a8⟩ := hagree c
      refine (Cert.QueryRefIdeal.Read.val_main_v124_eq m' c).trans ?_
      rw [a0, a1, a2, a3, a4, a5, a6, a7, a8]
      exact (Cert.QueryRefIdeal.Proof.result_dh (hk c).h (hk c).g (hk c).wd (hk c).co (hk c).si (hk c).dq (hk c).gq (hk c).wu).trans (Cert.QueryIdeal.Proof.result_h m c (hk c) (fun i => rfl)).symm
    · obtain ⟨a0, a1, a2, a3, a4, a5, a6, a7, a8⟩ := hagree c
      refine (Cert.QueryRefIdeal.Read.val_main_v128_eq m' c).trans ?_
      rw [a0, a1, a2, a3, a5, a6, a7]
      exact (Cert.QueryRefIdeal.Proof.result_dwu (hk c).h (hk c).g (hk c).wd (hk c).co (hk c).si (hk c).dq (hk c).gq).trans (Cert.QueryIdeal.Proof.result_uq m c (hk c)).symm
    · obtain ⟨a0, a1, a2, a3, a4, a5, a6, a7, a8⟩ := hagree c
      refine (Cert.QueryRefIdeal.Read.val_main_v129_eq m' c).trans ?_
      rw [a0, a1, a2, a3, a4, a5, a6, a7]
      exact (Cert.QueryRefIdeal.Proof.result_dwd (hk c).h (hk c).g (hk c).wd (hk c).co (hk c).si (hk c).dq (hk c).gq (hk c).wu).trans (Cert.QueryIdeal.Proof.result_wd m c (hk c)).symm
    · obtain ⟨a0, a1, a2, a3, a4, a5, a6, a7, a8⟩ := hagree c
      refine (Cert.QueryRefIdeal.Read.val_main_v130_eq m' c).trans ?_
      rw [a0, a1, a2, a4, a5, a6, a7]
      exact (Cert.QueryRefIdeal.Proof.result_dgq (hk c).h (hk c).g (hk c).wd (hk c).co (hk c).si (hk c).dq (hk c).wu).trans (Cert.QueryIdeal.Proof.result_gq m c (hk c)).symm
    · obtain ⟨a0, a1, a2, a3, a4, a5, a6, a7, a8⟩ := hagree c
      refine (Cert.QueryRefIdeal.Read.val_main_v131_eq m' c).trans ?_
      rw [a0, a1, a2, a3, a4, a5, a6, a7]
      exact (Cert.QueryRefIdeal.Proof.result_dg (hk c).h (hk c).g (hk c).wd (hk c).co (hk c).si (hk c).dq (hk c).gq (hk c).wu).trans (Cert.QueryIdeal.Proof.result_g m c (hk c)).symm

end Cert.Proof

end
-- ==== Proof.KvMath.lean ====
module

public import proofs.«01_k».proof.Proof.QueryMath

/-! The gradients of the keys' and values' norms, projections and rotary embedding, over the reals. -/

@[expose] public section

noncomputable section

namespace Cert.KvMath

open Cert.Reals Cert.Norm Cert.Shift Cert.QueryMath Idealize.ShloMosaic
open scoped BigOperators

theorem ofBits_256 : Ideal.ofBits .f32 0x43800000#32 = ((256 : ℝ) : EReal) := by
  simp [Ideal.ofBits, Ideal.ieee, -EReal.coe_mul]; norm_num

abbrev Heads (n : ℕ) := Fin 4096 → Fin 8 → Fin n → ℝ

/-- The gradient of a head's keys and values before the wide projection: the keys' unrotated lanes, then the values'. -/
def kvf (k v : ℕ → ℝ) (e : ℕ) : ℝ := if e < 128 then k e else v (e - 128)

/-- The gradient of the shared rotated lanes before their rotation, the gradient after it being `d`; zero past them. -/
def back (d c s : ℕ → ℝ) (n : ℕ) : ℝ :=
  if n < 32 then d n * c n + d (n + 32) * s n
  else if n < 64 then d n * c (n - 32) - d (n - 32) * s (n - 32)
  else 0

theorem back_of_le (d c s : ℕ → ℝ) {n : ℕ} (h : 64 ≤ n) : back d c s n = 0 := by
  unfold back
  rw [if_neg (by omega), if_neg (by omega)]

/-- The narrow projection's lanes side by side: the normed ones, then the rotated ones. -/
def join (a : Fin 256 → ℝ) (b : ℕ → ℝ) (n : ℕ) : ℝ := if h : n < 256 then a ⟨n, h⟩ else b (n - 256)

theorem join_of_le (a : Fin 256 → ℝ) (d c s : ℕ → ℝ) {n : ℕ} (h : 320 ≤ n) : join a (back d c s) n = 0 := by
  unfold join
  rw [dif_neg (by omega), back_of_le _ _ _ (by omega)]

/-- A sum over the padded lanes of the narrow projection is one over its own lanes. -/
theorem sum_narrow (f : ℕ → ℝ) (hf : ∀ n, 320 ≤ n → f n = 0) : ∑ e : Fin 384, f e.val = ∑ e : Fin 320, f e.val := by
  rw [← Finset.sum_range, ← Finset.sum_range, show 384 = 320 + 64 from rfl, Finset.sum_range_add,
    Finset.sum_eq_zero (s := Finset.range 64) fun n _ => hf _ (by omega), add_zero]

/-- The column of lane `e` of head `hd`. -/
def lane (hd : Fin 8) (e : Fin 256) : Fin 2048 := ⟨hd.val * 256 + e.val, by omega⟩

section

variable (H : Rows 4096 1024) (G : Fin 1024 → ℝ) (Wd : Rows 1024 320) (GK : Fin 256 → ℝ) (Wu : Rows 256 2048)
  (CO SI : Rows 4096 32) (K0 K1 : Heads 192) (V0 V1 : Heads 128)

/-- The normed rows and the normed part of their narrow projection. -/
def xn (i : Fin 4096) (k : Fin 1024) : ℝ := nrm 1024 H G i k

def ck (i : Fin 4096) (r : Fin 256) : ℝ := ∑ k, xn H G i k * Wd k ⟨r.val, by omega⟩

def cn (i : Fin 4096) (r : Fin 256) : ℝ := nrm 256 (ck H G Wd) GK i r

/-- The two devices' gradients of a head's keys and of its values, added. -/
def ks (i : Fin 4096) (hd : Fin 8) (n : ℕ) : ℝ := ext (K0 i hd) n + ext (K1 i hd) n

def vs (i : Fin 4096) (hd : Fin 8) (n : ℕ) : ℝ := ext (V0 i hd) n + ext (V1 i hd) n

def kv (i : Fin 4096) (hd : Fin 8) (e : ℕ) : ℝ := kvf (ks K0 K1 i hd) (vs V0 V1 i hd) e

def dcn (i : Fin 4096) (r : Fin 256) : ℝ := ∑ hd : Fin 8, ∑ e : Fin 256, kv K0 K1 V0 V1 i hd e.val * Wu r (lane hd e)

/-- The rotated lanes' gradient, all heads sharing them. -/
def dro (i : Fin 4096) (n : ℕ) : ℝ := ∑ hd : Fin 8, ks K0 K1 i hd (128 + n)

def dc (i : Fin 4096) (r : Fin 256) : ℝ := bwd 256 (ck H G Wd) GK (dcn Wu K0 K1 V0 V1) i r

def dck (i : Fin 4096) (n : ℕ) : ℝ := join (dc H G Wd GK Wu K0 K1 V0 V1 i) (back (dro K0 K1 i) (ext (CO i)) (ext (SI i))) n

def dxn (i : Fin 4096) (k : Fin 1024) : ℝ := ∑ e : Fin 320, dck H G Wd GK Wu CO SI K0 K1 V0 V1 i e.val * Wd k e

/-- The gradients: of the rows beyond the residual's, of the wide projection, of the narrow one (padded
lanes zero), and of the two norms' weights. -/
def dh (i : Fin 4096) (k : Fin 1024) : ℝ := bwd 1024 H G (dxn H G Wd GK Wu CO SI K0 K1 V0 V1) i k

def dwu (hd : Fin 8) (r e : Fin 256) : ℝ := ∑ i, cn H G Wd GK i r * kv K0 K1 V0 V1 i hd e.val

def dwd (k : Fin 1024) (n : ℕ) : ℝ := ∑ i, xn H G i k * dck H G Wd GK Wu CO SI K0 K1 V0 V1 i n

def dgk (r : Fin 256) : ℝ := dwt 256 (ck H G Wd) (dcn Wu K0 K1 V0 V1) r

def dg (k : Fin 1024) : ℝ := dwt 1024 H (dxn H G Wd GK Wu CO SI K0 K1 V0 V1) k

end

end Cert.KvMath

end
-- ==== Proof.KvPay.lean ====
module

public import proofs.«01_k».proof.Proof.Gen.KvIdeal.Value
public import proofs.«01_k».proof.Proof.KvMath
public import Idealize.ShloMosaic.Lib.Pipeline.ValueKit
public import Idealize.ShloMosaic.Lib.Pointwise
public import Idealize.ShloMosaic.Lib.WordCmp

/-! What the keys' and values' backward kernel stores, over blocks of reals. -/

@[expose] public section

set_option maxRecDepth 16384

noncomputable section

namespace Cert.KvIdeal.Proof

open Cert.KvIdeal Cert.KvIdeal.Gen Idealize.ShloMosaic Idealize.ShloMosaic.TcCoe Idealize.SL.Sem
open Cert.Reals Cert.Norm Cert.Shift Cert.KvMath
open Cert.QueryMath (Rows cosp sinp)
open scoped BigOperators

/-! ## The norm of the narrow projection -/

section Narrow

variable {v3 : Vec Ideal S512x256 .f32} {C : Rows 512 256} (h3 : ∀ p r, v3 (ix2 p r) = (C p r : EReal))
include h3

theorem pay_rsq (p : Fin 512) (z : Fin 1) : k0_pay9 (F := Ideal) v3 (ix2 p z) = (rsq 256 C p : EReal) := by
  unfold rsq
  rw [← rsqrt_of_pos (msq_pos 256 _ p (by norm_num))]
  pointwise [k0_pay9, k0_pay8, h3]
  simp only [ofBits_256, ofBits_eps, ← EReal.coe_mul, coe_sum, zero_add, div_coe_coe (by norm_num : (256 : ℝ) ≠ 0), ← EReal.coe_add]
  rfl

theorem pay_hat (p : Fin 512) (r : Fin 256) : k0_pay10 (F := Ideal) v3 (ix2 p r) = ((C p r * rsq 256 C p : ℝ) : EReal) := by
  pointwise [k0_pay10, k0_pay8, h3, pay_rsq h3]
  simp only [← EReal.coe_mul]

theorem pay_cn {v5 : Vec Ideal S1x256 .f32} {GK : Fin 256 → ℝ} (h5 : ∀ r, v5 (ix2 0 r) = (GK r : EReal)) (p : Fin 512) (r : Fin 256) :
    k0_pay11 (F := Ideal) v3 v5 (ix2 p r) = (nrm 256 C GK p r : EReal) := by
  pointwise [k0_pay11, pay_hat h3, h5]
  simp only [← EReal.coe_mul]
  rfl

end Narrow

/-! ## One head -/

section Head

variable {x y : Vec Ideal S1x512x256 .bf16} {u v : Vec Ideal S1x512x128 .bf16} {X Y U V : Fin 512 → ℕ → ℝ}
  (hx : ∀ p (e : Fin 256), x (ix3 0 p e) = (X p e.val : EReal)) (hy : ∀ p (e : Fin 256), y (ix3 0 p e) = (Y p e.val : EReal))
include hx hy

theorem pay_rope (w : FVec Ideal S512x128 .f32) (p : Fin 512) (l : Fin 128) :
    k0_pay28 (F := Ideal) w x y (ix2 p l) = w (ix2 p l) + ((X p (128 + l.val) + Y p (128 + l.val) : ℝ) : EReal) := by
  pointwise [k0_pay28, k0_pay27, hx, hy]
  simp only [← EReal.coe_add]

variable (hu : ∀ p (l : Fin 128), u (ix3 0 p l) = (U p l.val : EReal)) (hv : ∀ p (l : Fin 128), v (ix3 0 p l) = (V p l.val : EReal))
include hu hv

theorem pay_kv (p : Fin 512) (e : Fin 256) : k0_pay17 (F := Ideal) (k0_pay14 u) (k0_pay15 x y) (k0_pay16 v) (ix2 p e)
    = (kvf (fun n => X p n + Y p n) (fun n => U p n + V p n) e.val : EReal) := by
  unfold kvf
  pointwise [k0_pay17, k0_pay16, k0_pay15, k0_pay14, hx, hy, hu, hv]
  by_cases h : e.val < 128
  · rw [dif_pos h, if_pos h, EReal.coe_add]
  · rw [dif_neg h, if_neg h, EReal.coe_add]

theorem pay_head {w : Vec Ideal S1x256x256 .bf16} {W : Rows 256 256} (hw : ∀ r e, w (ix3 0 r e) = (W r e : EReal)) (a : FVec Ideal S512x256 .f32) (p : Fin 512) (r : Fin 256) :
    k0_pay18 (F := Ideal) a (k0_pay14 u) (k0_pay15 x y) (k0_pay16 v) w (ix2 p r)
      = a (ix2 p r) + ((∑ e : Fin 256, kvf (fun n => X p n + Y p n) (fun n => U p n + V p n) e.val * W r e : ℝ) : EReal) := by
  pointwise [k0_pay18, pay_kv hx hy hu hv, hw]
  simp only [← EReal.coe_mul, coe_sum]

theorem pay_plane {q : FVec Ideal S512x256 .bf16} {Q : Rows 512 256} (hq : ∀ p r, q (ix2 p r) = (Q p r : EReal)) (a : Vec Ideal S1x256x256 .f32) (r e : Fin 256) :
    k0_pay19 (F := Ideal) q (k0_pay14 u) (k0_pay15 x y) (k0_pay16 v) a (ix3 0 r e)
      = a (ix3 0 r e) + ((∑ p, Q p r * kvf (fun n => X p n + Y p n) (fun n => U p n + V p n) e.val : ℝ) : EReal) := by
  pointwise [k0_pay19, pay_kv hx hy hu hv, hq]
  simp only [← EReal.coe_mul, coe_sum]

end Head

/-! ## The gradients of the inner norm and of the rotated lanes -/

theorem select_lt {α : Type} (n : ℕ) (hn : n < 128) (a b : α) :
    Scalar.select (IntOp.cmpi CmpIPredicate.slt (BitVec.ofNat 32 n) 32#32) a b = if n < 32 then a else b := by
  rw [WordCmp.cmpi_slt_ofNat (by omega) (by omega), WordCmp.select_ofBool]
  by_cases h : n < 32
  · rw [decide_eq_true h, if_pos h]; rfl
  · rw [decide_eq_false h, if_neg h]; rfl

section Inner

variable {v14 : FVec Ideal S512x1 .f32} {v16 v262 : FVec Ideal S512x256 .f32} {C DN : Rows 512 256}
  (h16 : ∀ p r, v16 (ix2 p r) = ((C p r * rsq 256 C p : ℝ) : EReal)) (h262 : ∀ p r, v262 (ix2 p r) = (DN p r : EReal))
include h16 h262

theorem pay_dgk (v : Vec Ideal S1x256 .f32) (r : Fin 256) : k0_pay59 (F := Ideal) v16 v262 v (ix2 0 r) = v (ix2 0 r) + (dwt 256 C DN r : EReal) := by
  pointwise [k0_pay59, h16, h262]
  simp only [← EReal.coe_mul, coe_sum, zero_add]
  rfl

variable {v270 : Vec Ideal S1x256 .f32} {GK : Fin 256 → ℝ} {v254 : FVec Ideal S512x128 .f32} {co si : Vec Ideal S512x128 .f32} {R K S : Fin 512 → ℕ → ℝ}
  (h14 : ∀ p, v14 (ix2 p 0) = (rsq 256 C p : EReal)) (h270 : ∀ r, v270 (ix2 0 r) = (GK r : EReal))
  (h254 : ∀ p (l : Fin 128), v254 (ix2 p l) = (R p l.val : EReal))
  (hc : ∀ p (l : Fin 128), co (ix2 p l) = (cosp (K p) l.val : EReal)) (hs : ∀ p (l : Fin 128), si (ix2 p l) = (sinp (S p) l.val : EReal))
include h14 h270 h254 hc hs

theorem pay_dck (p : Fin 512) (e : Fin 384) : k0_pay60 (F := Ideal) v14 v16 v254 v262 (k0_pay58 v270) co si (ix2 p e)
    = (join (bwd 256 C GK DN p) (back (R p) (K p) (S p)) e.val : EReal) := by
  unfold join
  pointwise [k0_pay60, k0_pay58, h14, h16, h262, h270, h254, hc, hs]
  by_cases h1 : e.val < 256
  · rw [dif_pos h1, dif_pos h1]
    simp only [ofBits_256, ← EReal.coe_mul, coe_sum, zero_add, div_coe_coe (by norm_num : (256 : ℝ) ≠ 0), ← EReal.coe_sub]
    rfl
  · rw [dif_neg h1, dif_neg h1, select_lt _ (by omega)]
    unfold cosp sinp back
    by_cases h2 : e.val - 256 < 32
    · rw [if_pos h2, if_pos h2, if_pos h2, if_pos h2, show (e.val - 256 + 128 - 96) % 128 = e.val - 256 + 32 by omega]
      simp only [← EReal.coe_mul, ← EReal.coe_sub]
      exact congrArg _ (by ring)
    · rw [if_neg h2, if_neg h2, if_neg h2, if_neg h2]
      by_cases h3 : e.val - 256 < 64
      · rw [if_pos h3, if_pos h3, if_pos h3, show (e.val - 256 + 128 - 32) % 128 = e.val - 256 - 32 by omega]
        simp only [← EReal.coe_mul, ← EReal.coe_sub]
      · rw [if_neg h3, if_neg h3, if_neg h3]
        simp only [← EReal.coe_mul, ← EReal.coe_sub, mul_zero, sub_zero]

end Inner

/-! ## The gradients of the outer norm and of the narrow projection -/

section Outer

variable {v306 : FVec Ideal S512x384 .bf16} {v307 : Vec Ideal S512x1024 .f32} {v329 : Vec Ideal S1024x384 .bf16} {D : Fin 512 → ℕ → ℝ} {Wd : Rows 1024 320} {H : Rows 512 1024}
  {g : Vec Ideal S1x1024 .f32} {G : Fin 1024 → ℝ}
  (h307 : ∀ p k, v307 (ix2 p k) = (H p k : EReal))
include h307

theorem pay_rsq_h (p : Fin 512) (z : Fin 1) : k0_pay63 (F := Ideal) (k0_pay62 v307) (ix2 p z) = (rsq 1024 H p : EReal) := by
  unfold rsq
  rw [← rsqrt_of_pos (msq_pos 1024 _ p (by norm_num))]
  pointwise [k0_pay63, k0_pay62, h307]
  simp only [ofBits_1024, ofBits_eps, ← EReal.coe_mul, coe_sum, zero_add, div_coe_coe (by norm_num : (1024 : ℝ) ≠ 0), ← EReal.coe_add]
  rfl

theorem pay_hat_h (p : Fin 512) (k : Fin 1024) : k0_pay64 (F := Ideal) v307 (k0_pay62 v307) (ix2 p k) = ((H p k * rsq 1024 H p : ℝ) : EReal) := by
  pointwise [k0_pay64, pay_rsq_h h307, h307]
  simp only [← EReal.coe_mul]

variable (h306 : ∀ p (e : Fin 384), v306 (ix2 p e) = (D p e.val : EReal))
include h306

theorem pay_dwd (hg : ∀ k, g (ix2 0 k) = (G k : EReal)) (v : Vec Ideal S1024x384 .f32) (k : Fin 1024) (e : Fin 384) :
    k0_pay65 (F := Ideal) v306 v307 (k0_pay61 g) (k0_pay62 v307) v (ix2 k e) = v (ix2 k e) + ((∑ p, nrm 1024 H G p k * D p e.val : ℝ) : EReal) := by
  pointwise [k0_pay65, k0_pay61, pay_hat_h h307, h306, hg]
  simp only [← EReal.coe_mul, coe_sum]
  rfl

variable (h329 : ∀ k (e : Fin 384), v329 (ix2 k e) = (ext (Wd k) e.val : EReal))
include h329

omit h307 in
theorem pay_dxn (p : Fin 512) (k : Fin 1024) : k0_pay66 (F := Ideal) v306 v329 (ix2 p k) = ((∑ e : Fin 320, D p e.val * Wd k e : ℝ) : EReal) := by
  have own : ∑ e : Fin 320, D p e.val * Wd k e = ∑ e : Fin 320, D p e.val * ext (Wd k) e.val := Finset.sum_congr rfl fun e _ => by rw [ext_val]
  rw [own, ← sum_narrow (fun n => D p n * ext (Wd k) n) fun n hn => by rw [ext_of_le _ hn, mul_zero]]
  pointwise [k0_pay66, h306, h329]
  simp only [← EReal.coe_mul, coe_sum]

theorem pay_dg (v : Vec Ideal S1x1024 .f32) (k : Fin 1024) : k0_pay1 (F := Ideal) (k0_pay67 v306 v307 (k0_pay62 v307) v329) v (ix2 0 k)
    = v (ix2 0 k) + (dwt 1024 H (fun p k => ∑ e : Fin 320, D p e.val * Wd k e) k : EReal) := by
  pointwise [k0_pay1, k0_pay67, pay_dxn h306 h329, pay_hat_h h307]
  simp only [← EReal.coe_mul, coe_sum, zero_add]
  rfl

theorem pay_dh (hg : ∀ k, g (ix2 0 k) = (G k : EReal)) (v : Vec Ideal S512x1024 .f32) (p : Fin 512) (k : Fin 1024) :
    k0_pay68 (F := Ideal) v306 v307 (k0_pay62 v307) v329 g v (ix2 p k)
      = v (ix2 p k) + (bwd 1024 H G (fun p k => ∑ e : Fin 320, D p e.val * Wd k e) p k : EReal) := by
  pointwise [k0_pay68, pay_dxn h306 h329, pay_hat_h h307, pay_rsq_h h307, hg]
  simp only [ofBits_1024, ← EReal.coe_mul, coe_sum, zero_add, div_coe_coe (by norm_num : (1024 : ℝ) ≠ 0), ← EReal.coe_sub]
  rfl

end Outer

end Cert.KvIdeal.Proof

end
-- ==== Proof.KvHost.lean ====
module

public import proofs.«01_k».proof.Proof.KvPay
public import Idealize.ShloMosaic.Lib.StableHlo.ReadAt

/-! The arrays the keys' and values' backward is launched on, over real inputs. -/

@[expose] public section

set_option maxRecDepth 16384

noncomputable section

namespace Cert.KvIdeal.Proof

open Cert.KvIdeal Cert.KvIdeal.Gen Idealize.ShloMosaic Idealize.ShloMosaic.TcCoe Idealize.SL.Sem
open Cert.Reals Cert.Norm Cert.Shift Cert.KvMath
open Cert.QueryMath (Rows cosp sinp)
open scoped BigOperators

variable (m : (ℓ : Loc nD τ sig) → Buf (Elt Ideal) ℓ) (c : Dev nD)

/-- The arguments are arrays of reals. -/
structure Reals (H : Rows 4096 1024) (G : Fin 1024 → ℝ) (Wd : Rows 1024 320) (GK : Fin 256 → ℝ) (Wu : Rows 256 2048) (CO SI : Rows 4096 32) (K0 K1 : Heads 192) (V0 V1 : Heads 128) : Prop where
  h : ∀ i k, m ((c : Thread nD τ).loc main_arg0) (ix2 i k) = (H i k : EReal)
  g : ∀ k, m ((c : Thread nD τ).loc main_arg1) (ix1 k) = (G k : EReal)
  wd : ∀ k r, m ((c : Thread nD τ).loc main_arg2) (ix2 k r) = (Wd k r : EReal)
  gk : ∀ r, m ((c : Thread nD τ).loc main_arg3) (ix1 r) = (GK r : EReal)
  wu : ∀ r k, m ((c : Thread nD τ).loc main_arg4) (ix2 r k) = (Wu r k : EReal)
  co : ∀ i f, m ((c : Thread nD τ).loc main_arg5) (ix2 i f) = (CO i f : EReal)
  si : ∀ i f, m ((c : Thread nD τ).loc main_arg6) (ix2 i f) = (SI i f : EReal)
  k0 : ∀ i hd e, m ((c : Thread nD τ).loc main_arg7) (ix3 i hd e) = (K0 i hd e : EReal)
  k1 : ∀ i hd e, m ((c : Thread nD τ).loc main_arg8) (ix3 i hd e) = (K1 i hd e : EReal)
  v0 : ∀ i hd e, m ((c : Thread nD τ).loc main_arg9) (ix3 i hd e) = (V0 i hd e : EReal)
  v1 : ∀ i hd e, m ((c : Thread nD τ).loc main_arg10) (ix3 i hd e) = (V1 i hd e : EReal)

/-! The host's lines in five parts, each read over any buffers: a concatenation begins a part. -/

abbrev part1 : List (HloOp τ sig (Elt Ideal)) := hostOps0.take 2
abbrev part2 : List (HloOp τ sig (Elt Ideal)) := (hostOps0.drop 2).take 2
abbrev part3 : List (HloOp τ sig (Elt Ideal)) := (hostOps0.drop 4).take 1
abbrev part4 : List (HloOp τ sig (Elt Ideal)) := (hostOps0.drop 5).take 17
abbrev part5 : List (HloOp τ sig (Elt Ideal)) := hostOps0.drop 22 ++ (hostOps0_1 ++ (hostOps0_2 ++ (hostOps0_3 ++ (hostOps0_4 ++ (hostOps0_5 ++ hostOps0_6)))))

abbrev at_ (l : List (HloOp τ sig (Elt Ideal))) (f : Valuation τ sig (Elt Ideal)) (b : Ref sig .tc) : Buf (Elt Ideal) ((c : Thread nD τ).loc b) :=
  StableHlo.after l f b

theorem after_two (l₁ l₂ : List (HloOp τ sig (Elt Ideal))) (f : Valuation τ sig (Elt Ideal)) :
    StableHlo.after (l₁ ++ l₂) f = StableHlo.after l₂ (StableHlo.after l₁ f) := by
  induction l₁ generalizing f with
  | nil => rfl
  | cons op l ih => exact ih _

abbrev vals1 : Valuation τ sig (Elt Ideal) := StableHlo.after part1 fun b => m (c, b)
abbrev vals2 : Valuation τ sig (Elt Ideal) := StableHlo.after part2 (vals1 m c)
abbrev vals3 : Valuation τ sig (Elt Ideal) := StableHlo.after part3 (vals2 m c)
abbrev vals4 : Valuation τ sig (Elt Ideal) := StableHlo.after part4 (vals3 m c)

theorem V_parts (b : Ref sig .tc) : V m c b = at_ c part5 (vals4 m c) b := by
  show StableHlo.after (part1 ++ (part2 ++ (part3 ++ (part4 ++ part5)))) (fun b => m (c, b)) b = _
  rw [after_two, after_two, after_two, after_two]

variable {H : Rows 4096 1024} {G : Fin 1024 → ℝ} {Wd : Rows 1024 320} {GK : Fin 256 → ℝ} {Wu : Rows 256 2048} {CO SI : Rows 4096 32} {K0 K1 : Heads 192} {V0 V1 : Heads 128}

section Parts

variable (f : Valuation τ sig (Elt Ideal)) (i : Fin 4096) (e : Fin 128)

theorem two_cos : at_ c part2 f main_v1 (ix2 i e) = if h : e.val < 32 then f (Proc.devRef .tc main_arg5) (ix2 i ⟨e.val, h⟩)
    else if h' : e.val - 32 < 32 then f (Proc.devRef .tc main_arg5) (ix2 i ⟨e.val - 32, h'⟩) else f (Proc.devRef .tc main_v0) (ix2 i ⟨e.val - 32 - 32, by omega⟩) := by
  simp only [at_, part2, hostOps0, List.drop_succ_cons, List.drop_zero, List.take_succ_cons, List.take_zero]
  after_reads_at

theorem two_neg (j : Fin 32) {x : EReal} (hx : f (Proc.devRef .tc main_arg6) (ix2 i j) = x) : at_ c part2 f main_v2 (ix2 i j) = -x := by
  rw [← hx]
  simp only [at_, part2, hostOps0, List.drop_succ_cons, List.drop_zero, List.take_succ_cons, List.take_zero]
  after_reads_at

theorem two_kept (j : Fin 32) (k : Fin 64) : at_ c part2 f main_arg6 (ix2 i j) = f (Proc.devRef .tc main_arg6) (ix2 i j)
    ∧ at_ c part2 f main_v0 (ix2 i k) = f (Proc.devRef .tc main_v0) (ix2 i k) := by
  constructor
  all_goals
    simp only [at_, part2, hostOps0, List.drop_succ_cons, List.drop_zero, List.take_succ_cons, List.take_zero]
    after_reads_at

theorem three_sin : at_ c part3 f main_v3 (ix2 i e) = if h : e.val < 32 then f (Proc.devRef .tc main_v2) (ix2 i ⟨e.val, h⟩)
    else if h' : e.val - 32 < 32 then f (Proc.devRef .tc main_arg6) (ix2 i ⟨e.val - 32, h'⟩) else f (Proc.devRef .tc main_v0) (ix2 i ⟨e.val - 32 - 32, by omega⟩) := by
  simp only [at_, part3, hostOps0, List.drop_succ_cons, List.drop_zero, List.take_succ_cons, List.take_zero]
  after_reads_at

theorem three_kept : at_ c part3 f main_v1 (ix2 i e) = f (Proc.devRef .tc main_v1) (ix2 i e) := by
  simp only [at_, part3, hostOps0, List.drop_succ_cons, List.drop_zero, List.take_succ_cons, List.take_zero]
  after_reads_at

theorem four_kept : at_ c part4 f main_v1 (ix2 i e) = f (Proc.devRef .tc main_v1) (ix2 i e) ∧ at_ c part4 f main_v3 (ix2 i e) = f (Proc.devRef .tc main_v3) (ix2 i e) := by
  constructor
  all_goals
    simp only [at_, part4, hostOps0, List.drop_succ_cons, List.drop_zero, List.take_succ_cons, List.take_zero]
    after_reads_at

theorem five_kept : at_ c part5 f main_v1 (ix2 i e) = f (Proc.devRef .tc main_v1) (ix2 i e) ∧ at_ c part5 f main_v3 (ix2 i e) = f (Proc.devRef .tc main_v3) (ix2 i e) := by
  constructor
  all_goals
    simp only [at_, part5, hostOps0, hostOps0_1, hostOps0_2, hostOps0_3, hostOps0_4, hostOps0_5, hostOps0_6, List.drop_succ_cons, List.drop_zero, List.cons_append, List.nil_append]
    after_reads_at

/-- The normed part of the narrow projection, of any normed rows. -/
theorem five_narrow (r : Fin 256) {x : Fin 1024 → EReal} {w : Fin 1024 → EReal} (hx : ∀ k, f (Proc.devRef .tc main_v17) (ix2 i k) = x k)
    (hw : ∀ k, f (Proc.devRef .tc main_arg2) (ix2 k ⟨r.val, by omega⟩) = w k) : at_ c part5 f main_v30 (ix2 i r) = ∑ k, x k * w k := by
  simp only [← hx, ← hw]
  simp only [at_, part5, hostOps0, hostOps0_1, hostOps0_2, hostOps0_3, hostOps0_4, hostOps0_5, hostOps0_6, List.drop_succ_cons, List.drop_zero, List.cons_append, List.nil_append]
  after_reads_at

end Parts

theorem one_zero (i : Fin 4096) (k : Fin 64) : at_ c part1 (fun b => m (c, b)) main_v0 (ix2 i k) = (0 : EReal) := by
  simp only [at_, part1, hostOps0, List.take_succ_cons, List.take_zero]
  after_reads_at

theorem one_kept (i : Fin 4096) (j : Fin 32) : at_ c part1 (fun b => m (c, b)) main_arg5 (ix2 i j) = m ((c : Thread nD τ).loc main_arg5) (ix2 i j)
    ∧ at_ c part1 (fun b => m (c, b)) main_arg6 (ix2 i j) = m ((c : Thread nD τ).loc main_arg6) (ix2 i j) := by
  constructor
  all_goals
    simp only [at_, part1, hostOps0, List.take_succ_cons, List.take_zero]
    after_reads_at

theorem vals4_w (k : Fin 1024) (r : Fin 320) : vals4 m c (Proc.devRef .tc main_arg2) (ix2 k r) = m ((c : Thread nD τ).loc main_arg2) (ix2 k r) := by
  simp only [vals4, vals3, vals2, vals1, part1, part2, part3, part4, hostOps0, List.drop_succ_cons, List.drop_zero, List.take_succ_cons, List.take_zero]
  after_reads_at

theorem zero_int : (FloatOps.sitofp (F := Ideal) .f32 (0#32) : EReal) = ((0 : ℝ) : EReal) := by
  show (((0#32 : BitVec 32).toInt : ℝ) : EReal) = _
  simp

section Read

variable (h : Reals m c H G Wd GK Wu CO SI K0 K1 V0 V1)
include h

theorem V_cos (i : Fin 4096) (e : Fin 128) : V m c main_v1 (ix2 i e) = (cosp (ext (CO i)) e.val : EReal) := by
  rw [V_parts]
  refine (five_kept c _ i e).1.trans ((four_kept c _ i e).1.trans ((three_kept c _ i e).trans ((two_cos c _ i e).trans ?_)))
  unfold cosp
  by_cases h1 : e.val < 32
  · rw [dif_pos h1, if_pos h1, ext_of_lt _ h1]
    exact (one_kept m c i _).1.trans (h.co _ _)
  · rw [dif_neg h1, if_neg h1]
    by_cases h2 : e.val - 32 < 32
    · rw [dif_pos h2, if_pos (by omega), ext_of_lt _ h2]
      exact (one_kept m c i _).1.trans (h.co _ _)
    · rw [dif_neg h2, if_neg (by omega)]
      exact one_zero m c i _

theorem V_sin (i : Fin 4096) (e : Fin 128) : V m c main_v3 (ix2 i e) = (sinp (ext (SI i)) e.val : EReal) := by
  rw [V_parts]
  refine (five_kept c _ i e).2.trans ((four_kept c _ i e).2.trans ((three_sin c _ i e).trans ?_))
  unfold sinp
  by_cases h1 : e.val < 32
  · rw [dif_pos h1, if_pos h1, ext_of_lt _ h1, EReal.coe_neg]
    exact two_neg c _ i _ ((one_kept m c i _).2.trans (h.si _ _))
  · rw [dif_neg h1, if_neg h1]
    by_cases h2 : e.val - 32 < 32
    · rw [dif_pos h2, if_pos (by omega), ext_of_lt _ h2]
      exact (two_kept c _ i _ 0).1.trans ((one_kept m c i _).2.trans (h.si _ _))
    · rw [dif_neg h2, if_neg (by omega)]
      exact (two_kept c _ i 0 _).2.trans (one_zero m c i _)

theorem vals4_x (i : Fin 4096) (k : Fin 1024) : vals4 m c (Proc.devRef .tc main_v17) (ix2 i k) = (xn H G i k : EReal) := by
  unfold xn nrm rsq
  rw [EReal.coe_mul, EReal.coe_mul, ← rsqrt_of_pos (msq_pos 1024 H i (by norm_num))]
  unfold msq
  rw [EReal.coe_add, ← div_coe_coe (by norm_num : (1024 : ℝ) ≠ 0), ← coe_sum, ← ofBits_1024, ← ofBits_eps]
  simp only [EReal.coe_mul, ← h.h, ← h.g]
  simp only [vals4, vals3, vals2, vals1, part1, part2, part3, part4, hostOps0, List.drop_succ_cons, List.drop_zero, List.take_succ_cons, List.take_zero]
  after_reads_at

theorem V_c (i : Fin 4096) (r : Fin 256) : V m c main_v30 (ix2 i r) = (ck H G Wd i r : EReal) := by
  rw [V_parts]
  refine (five_narrow c _ i r (vals4_x m c h i) fun k => (vals4_w m c k _).trans (h.wd k _)).trans ?_
  unfold ck
  simp only [← EReal.coe_mul, coe_sum]

theorem V_k0 (hd : Fin 8) (i : Fin 4096) (e : Fin 256) : V m c main_v22 (ix3 hd i e) = (ext (K0 i hd) e.val : EReal) := by
  have at_ : ∀ i hd e, m (c, Proc.tc.devRef main_arg7) (ix3 i hd e) = _ := h.k0
  unfold V
  after_reads_at
  unfold ext
  split
  · exact at_ _ _ _
  · exact zero_int

theorem V_k1 (hd : Fin 8) (i : Fin 4096) (e : Fin 256) : V m c main_v25 (ix3 hd i e) = (ext (K1 i hd) e.val : EReal) := by
  have at_ : ∀ i hd e, m (c, Proc.tc.devRef main_arg8) (ix3 i hd e) = _ := h.k1
  unfold V
  after_reads_at
  unfold ext
  split
  · exact at_ _ _ _
  · exact zero_int

theorem V_v0 (hd : Fin 8) (i : Fin 4096) (e : Fin 128) : V m c main_v27 (ix3 hd i e) = (ext (V0 i hd) e.val : EReal) := by
  rw [ext_val, ← h.v0]
  unfold V
  after_reads_at

theorem V_v1 (hd : Fin 8) (i : Fin 4096) (e : Fin 128) : V m c main_v29 (ix3 hd i e) = (ext (V1 i hd) e.val : EReal) := by
  rw [ext_val, ← h.v1]
  unfold V
  after_reads_at

theorem V_g (k : Fin 1024) : V m c main_v31 (ix2 0 k) = (G k : EReal) := by
  rw [← h.g]
  unfold V
  after_reads_at

theorem V_wd (k : Fin 1024) (e : Fin 384) : V m c main_v33 (ix2 k e) = (ext (Wd k) e.val : EReal) := by
  have at_ : ∀ k r, m (c, Proc.tc.devRef main_arg2) (ix2 k r) = _ := h.wd
  unfold V
  after_reads_at
  unfold ext
  split
  · exact at_ _ _
  · exact zero_int

theorem V_gk (r : Fin 256) : V m c main_v34 (ix2 0 r) = (GK r : EReal) := by
  rw [← h.gk]
  unfold V
  after_reads_at

theorem V_wu (hd : Fin 8) (r e : Fin 256) : V m c main_v37 (ix3 hd r e) = (Wu r (lane hd e) : EReal) := by
  rw [← h.wu]
  unfold V lane
  after_reads_at

theorem V_h (i : Fin 4096) (k : Fin 1024) : V m c main_arg0 (ix2 i k) = (H i k : EReal) := by
  rw [V_main_arg0]
  exact h.h i k

end Read

end Cert.KvIdeal.Proof

end
-- ==== Proof.KvKernel.lean ====
module

public import proofs.«01_k».proof.Proof.KvHost
public import proofs.«01_k».proof.Proof.Pieces

/-! The results of the keys' and values' backward kernel over real inputs. -/

@[expose] public section

set_option maxRecDepth 16384

noncomputable section

namespace Cert.KvIdeal.Proof

open Cert.KvIdeal Cert.KvIdeal.Gen Idealize.ShloMosaic Idealize.ShloMosaic.TcCoe Idealize.SL.Sem
open Cert.Reals Cert.Norm Cert.Shift Cert.KvMath Cert.Pieces
open Cert.QueryMath (Rows cosp sinp)
open Idealize.ShloMosaic.Pipeline (Dat)
open scoped BigOperators

variable (m : (ℓ : Loc nD τ sig) → Buf (Elt Ideal) ℓ) (c : Dev nD)

/-! ## The heads of a point -/

section Heads

variable (q : FVec Ideal S512x256 .bf16) (x y : Fin 8 → Vec Ideal S1x512x256 .bf16) (u v : Fin 8 → Vec Ideal S1x512x128 .bf16) (w : Fin 8 → Vec Ideal S1x256x256 .bf16) (a : Fin 8 → Vec Ideal S1x256x256 .f32)

/-- The eight heads' products with the wide projection, added up as the body adds them. -/
abbrev heads : FVec Ideal S512x256 .f32 :=
  k0_pay56 (F := Ideal) (k0_pay51 (k0_pay45 (k0_pay39 (k0_pay34 (k0_pay25 (k0_pay18 k0_pay12 (k0_pay14 (u 0)) (k0_pay15 (x 0) (y 0)) (k0_pay16 (v 0)) (w 0))
    (k0_pay21 (u 1) (v 1)) (k0_pay23 (x 1) (y 1)) (w 1)) (k0_pay29 (x 2) (u 2) (y 2) (v 2)) (w 2) (x 3) (u 3) (y 3) (v 3) (w 3))
    (x 4) (u 4) (y 4) (v 4) (w 4)) (x 5) (u 5) (y 5) (v 5) (w 5)) (x 6) (u 6) (y 6) (v 6) (w 6)) (x 7) (u 7) (y 7) (v 7) (w 7)

/-- One head's product added to those before it. -/
def headStep (f : FVec Ideal S512x256 .f32) (hd : Fin 8) : FVec Ideal S512x256 .f32 := k0_pay18 (F := Ideal) f (k0_pay14 (u hd)) (k0_pay15 (x hd) (y hd)) (k0_pay16 (v hd)) (w hd)

theorem heads_eq : heads x y u v w = ([0, 1, 2, 3, 4, 5, 6, 7] : List (Fin 8)).foldl (headStep x y u v w) k0_pay12 := rfl

/-- The eight heads' rotated lanes, added up as the body adds them. -/
abbrev ropes : FVec Ideal S512x128 .f32 :=
  k0_pay54 (F := Ideal) (k0_pay49 (k0_pay43 (k0_pay37 (k0_pay32 (k0_pay28 (k0_pay22 k0_pay13 (k0_pay15 (x 0) (y 0)) (x 1) (y 1)) (x 2) (y 2)) (x 3) (y 3)) (x 4) (y 4)) (x 5) (y 5)) (x 6) (y 6)) (x 7) (y 7)

/-- One head's rotated lanes added to those before it. -/
def ropeStep (f : FVec Ideal S512x128 .f32) (hd : Fin 8) : FVec Ideal S512x128 .f32 := k0_pay28 (F := Ideal) f (x hd) (y hd)

theorem ropes_eq : ropes x y = ([0, 1, 2, 3, 4, 5, 6, 7] : List (Fin 8)).foldl (ropeStep x y) k0_pay13 := rfl

/-- One head's product with the normed projections, added to its plane. -/
def headPlane (hd : Fin 8) : Vec Ideal S1x256x256 .f32 := k0_pay19 (F := Ideal) q (k0_pay14 (u hd)) (k0_pay15 (x hd) (y hd)) (k0_pay16 (v hd)) (a hd)

/-- The eight planes as the body stores them. -/
abbrev planes (L : List (View.Piece (Elt Ideal) S8x256x256 .f32)) : List (View.Piece (Elt Ideal) S8x256x256 .f32) :=
  ⟨Rect.unit ![7, 0, 0] ![1, 256, 256] inb_S8x256x256_S1x256x256_7_0_0, k0_pay57 (F := Ideal) q (x 7) (u 7) (y 7) (v 7) (a 7)⟩
  :: ⟨Rect.unit ![6, 0, 0] ![1, 256, 256] inb_S8x256x256_S1x256x256_6_0_0, k0_pay52 (F := Ideal) q (x 6) (u 6) (y 6) (v 6) (a 6)⟩
  :: ⟨Rect.unit ![5, 0, 0] ![1, 256, 256] inb_S8x256x256_S1x256x256_5_0_0, k0_pay47 (F := Ideal) (k0_pay46 q (x 5) (u 5) (y 5) (v 5) (a 5))⟩
  :: ⟨Rect.unit ![4, 0, 0] ![1, 256, 256] inb_S8x256x256_S1x256x256_4_0_0, k0_pay41 (F := Ideal) q (k0_pay38 (x 4) (u 4) (y 4) (v 4)) (k0_pay40 (a 4))⟩
  :: ⟨Rect.unit ![3, 0, 0] ![1, 256, 256] inb_S8x256x256_S1x256x256_3_0_0, k0_pay35 (F := Ideal) q (k0_pay33 (x 3) (u 3) (y 3) (v 3)) (a 3)⟩
  :: ⟨Rect.unit ![2, 0, 0] ![1, 256, 256] inb_S8x256x256_S1x256x256_2_0_0, k0_pay30 (F := Ideal) q (k0_pay29 (x 2) (u 2) (y 2) (v 2)) (a 2)⟩
  :: ⟨Rect.unit ![1, 0, 0] ![1, 256, 256] inb_S8x256x256_S1x256x256_1_0_0, k0_pay26 (F := Ideal) q (k0_pay21 (u 1) (v 1)) (k0_pay23 (x 1) (y 1)) (a 1)⟩
  :: ⟨Rect.unit ![0, 0, 0] ![1, 256, 256] inb_S8x256x256_S1x256x256_0_0_0, k0_pay19 (F := Ideal) q (k0_pay14 (u 0)) (k0_pay15 (x 0) (y 0)) (k0_pay16 (v 0)) (a 0)⟩ :: L

theorem planes_eq (L) : planes q x y u v a L = stack (Val := Elt Ideal) (headPlane q x y u v a) L ([7, 6, 5, 4, 3, 2, 1, 0] : List (Fin 8)) := rfl

variable {q x y u v w} {X Y U V : Fin 8 → Fin 512 → ℕ → ℝ}
  (hx : ∀ hd p (e : Fin 256), x hd (ix3 0 p e) = (X hd p e.val : EReal)) (hy : ∀ hd p (e : Fin 256), y hd (ix3 0 p e) = (Y hd p e.val : EReal))
include hx hy

theorem ropes_at (p : Fin 512) (l : Fin 128) : ropes x y (ix2 p l) = ((∑ hd : Fin 8, (X hd p (128 + l.val) + Y hd p (128 + l.val)) : ℝ) : EReal) := by
  have step : ∀ f hd, ropeStep x y f hd (ix2 p l) = f (ix2 p l) + ((X hd p (128 + l.val) + Y hd p (128 + l.val) : ℝ) : EReal) := fun f hd => pay_rope (hx hd) (hy hd) f p l
  rw [ropes_eq]
  simp only [List.foldl_cons, List.foldl_nil, step]
  rw [← coe_sum, Fin.sum_univ_eight]
  refine congrArg (· + _) (congrArg (· + _) (congrArg (· + _) (congrArg (· + _) (congrArg (· + _) (congrArg (· + _) (congrArg (· + _) (Eq.trans (congrArg (· + _) ?_) (zero_add _))))))))
  pointwise [k0_pay13]

variable (hu : ∀ hd p (l : Fin 128), u hd (ix3 0 p l) = (U hd p l.val : EReal)) (hv : ∀ hd p (l : Fin 128), v hd (ix3 0 p l) = (V hd p l.val : EReal))
include hu hv

theorem heads_at {W : Fin 8 → Rows 256 256} (hw : ∀ hd r e, w hd (ix3 0 r e) = (W hd r e : EReal)) (p : Fin 512) (r : Fin 256) :
    heads x y u v w (ix2 p r) = ((∑ hd : Fin 8, ∑ e : Fin 256, kvf (fun n => X hd p n + Y hd p n) (fun n => U hd p n + V hd p n) e.val * W hd r e : ℝ) : EReal) := by
  have step : ∀ f hd, headStep x y u v w f hd (ix2 p r) = f (ix2 p r)
      + ((∑ e : Fin 256, kvf (fun n => X hd p n + Y hd p n) (fun n => U hd p n + V hd p n) e.val * W hd r e : ℝ) : EReal) :=
    fun f hd => pay_head (hx hd) (hy hd) (hu hd) (hv hd) (hw hd) f p r
  rw [heads_eq]
  simp only [List.foldl_cons, List.foldl_nil, step]
  rw [← coe_sum, Fin.sum_univ_eight]
  refine congrArg (· + _) (congrArg (· + _) (congrArg (· + _) (congrArg (· + _) (congrArg (· + _) (congrArg (· + _) (congrArg (· + _) (Eq.trans (congrArg (· + _) ?_) (zero_add _))))))))
  pointwise [k0_pay12]

theorem planes_at {Q : Rows 512 256} (hq : ∀ p r, q (ix2 p r) = (Q p r : EReal)) (L) (hd : Fin 8) (r e : Fin 256) :
    View.canon (planes q x y u v a L) (ix3 hd r e)
      = a hd (ix3 0 r e) + ((∑ p, Q p r * kvf (fun n => X hd p n + Y hd p n) (fun n => U hd p n + V hd p n) e.val : ℝ) : EReal) := by
  rw [planes_eq]
  refine (stack_read (Val := Elt Ideal) (headPlane q x y u v a) L [7, 6, 5, 4, 3, 2, 1, 0] hd ?_ r e).trans (pay_plane (hx hd) (hy hd) (hu hd) (hv hd) hq (a hd) r e)
  revert hd
  decide

end Heads

/-! ## The blocks -/

theorem idx : ∀ t : Fin cfg0.N,
    win0_0.index t = ![0, t.val, 0] ∧ win0_1.index t = ![0, t.val, 0] ∧ win0_2.index t = ![0, t.val, 0] ∧ win0_3.index t = ![0, t.val, 0] ∧ win0_4.index t = ![t.val, 0]
    ∧ win0_5.index t = ![t.val, 0] ∧ win0_6.index t = ![0, 0] ∧ win0_7.index t = ![t.val, 0] ∧ win0_8.index t = ![0, 0] ∧ win0_9.index t = ![0, 0]
    ∧ win0_10.index t = ![0, 0, 0] ∧ win0_11.index t = ![t.val, 0] ∧ win0_12.index t = ![t.val, 0] ∧ win0_13.index t = ![t.val, 0] ∧ win0_14.index t = ![0, 0, 0]
    ∧ win0_15.index t = ![0, 0] ∧ win0_16.index t = ![0, 0] ∧ win0_17.index t = ![0, 0] :=
  (by decide +kernel : ∀ t : Fin grid0.N, _)

theorem lt_N (t : Fin cfg0.N) : t.val < 8 := lt_of_lt_of_eq t.isLt N_0

/-- Row `p` of point `t`'s block of rows. -/
def row (t : Fin cfg0.N) (p : Fin 512) : Fin 4096 := ⟨t.val * 512 + p.val, by have := lt_N t; omega⟩

section Blocks

variable (f : (b : Ref sig .tc) → Buf (Elt Ideal) ((c : Thread nD τ).loc b)) (t : Fin cfg0.N)

theorem read0 (hd : Fin 8) (p : Fin 512) (e : Fin 256) : ((cfg0.win 0).blk t).view.read (Elt Ideal) (f (Pipeline.arrRef spec0 0)) (ix3 hd p e) = f main_v22 (ix3 hd (row t p) e) :=
  congrArg (f main_v22) (by unfold row; blk_ext [idx t])

theorem read1 (hd : Fin 8) (p : Fin 512) (e : Fin 256) : ((cfg0.win 1).blk t).view.read (Elt Ideal) (f (Pipeline.arrRef spec0 1)) (ix3 hd p e) = f main_v25 (ix3 hd (row t p) e) :=
  congrArg (f main_v25) (by unfold row; blk_ext [idx t])

theorem read2 (hd : Fin 8) (p : Fin 512) (e : Fin 128) : ((cfg0.win 2).blk t).view.read (Elt Ideal) (f (Pipeline.arrRef spec0 2)) (ix3 hd p e) = f main_v27 (ix3 hd (row t p) e) :=
  congrArg (f main_v27) (by unfold row; blk_ext [idx t])

theorem read3 (hd : Fin 8) (p : Fin 512) (e : Fin 128) : ((cfg0.win 3).blk t).view.read (Elt Ideal) (f (Pipeline.arrRef spec0 3)) (ix3 hd p e) = f main_v29 (ix3 hd (row t p) e) :=
  congrArg (f main_v29) (by unfold row; blk_ext [idx t])

theorem read4 (p : Fin 512) (k : Fin 256) : ((cfg0.win 4).blk t).view.read (Elt Ideal) (f (Pipeline.arrRef spec0 4)) (ix2 p k) = f main_v30 (ix2 (row t p) k) :=
  congrArg (f main_v30) (by unfold row; blk_ext [idx t])

theorem read5 (p : Fin 512) (k : Fin 1024) : ((cfg0.win 5).blk t).view.read (Elt Ideal) (f (Pipeline.arrRef spec0 5)) (ix2 p k) = f main_arg0 (ix2 (row t p) k) :=
  congrArg (f main_arg0) (by unfold row; blk_ext [idx t])

theorem read7 (p : Fin 512) (k : Fin 1024) : ((cfg0.win 7).blk t).view.read (Elt Ideal) (f (Pipeline.arrRef spec0 7)) (ix2 p k) = f main_arg11 (ix2 (row t p) k) :=
  congrArg (f main_arg11) (by unfold row; blk_ext [idx t])

theorem read11 (p : Fin 512) (k : Fin 128) : ((cfg0.win 11).blk t).view.read (Elt Ideal) (f (Pipeline.arrRef spec0 11)) (ix2 p k) = f main_v1 (ix2 (row t p) k) :=
  congrArg (f main_v1) (by unfold row; blk_ext [idx t])

theorem read12 (p : Fin 512) (k : Fin 128) : ((cfg0.win 12).blk t).view.read (Elt Ideal) (f (Pipeline.arrRef spec0 12)) (ix2 p k) = f main_v3 (ix2 (row t p) k) :=
  congrArg (f main_v3) (by unfold row; blk_ext [idx t])

theorem read6 (k : Fin 1024) : ((cfg0.win 6).blk t).view.read (Elt Ideal) (f (Pipeline.arrRef spec0 6)) (ix2 0 k) = f main_v31 (ix2 0 k) :=
  congrArg (f main_v31) (by blk_ext [idx t])

theorem read9 (k : Fin 256) : ((cfg0.win 9).blk t).view.read (Elt Ideal) (f (Pipeline.arrRef spec0 9)) (ix2 0 k) = f main_v34 (ix2 0 k) :=
  congrArg (f main_v34) (by blk_ext [idx t])

theorem read8 (k : Fin 1024) (e : Fin 384) : ((cfg0.win 8).blk t).view.read (Elt Ideal) (f (Pipeline.arrRef spec0 8)) (ix2 k e) = f main_v33 (ix2 k e) :=
  congrArg (f main_v33) (by blk_ext [idx t])

theorem read10 (hd : Fin 8) (r e : Fin 256) : ((cfg0.win 10).blk t).view.read (Elt Ideal) (f (Pipeline.arrRef spec0 10)) (ix3 hd r e) = f main_v37 (ix3 hd r e) :=
  congrArg (f main_v37) (by blk_ext [idx t])

end Blocks

/-! ## One head's part of a block -/

section Cut

variable {e : EltTy} {N n : ℕ} (v : (Planes 8 N n).Idx → Elt Ideal e)

/-- Head `hd` of a block. -/
abbrev cut (hd : Fin 8) : (⟨3, ![1, N, n]⟩ : Shape).Idx → Elt Ideal e := View.ld v (plane (A := 8) (N := N) (n := n) hd)

theorem cut_at (hd : Fin 8) (p : Fin N) (l : Fin n) : cut v hd (ix3 0 p l) = v (ix3 hd p l) := congrArg v (emb_plane hd p l)

end Cut

variable {H : Rows 4096 1024} {G : Fin 1024 → ℝ} {Wd : Rows 1024 320} {GK : Fin 256 → ℝ} {Wu : Rows 256 2048} {CO SI : Rows 4096 32} {K0 K1 : Heads 192} {V0 V1 : Heads 128}

section AtPoint

variable (h : Reals m c H G Wd GK Wu CO SI K0 K1 V0 V1) (t : Fin cfg0.N)
include h

theorem blk_k0 (hd : Fin 8) (p : Fin 512) (e : Fin 256) : cut (iblk m c 0 t) hd (ix3 0 p e) = (ext (K0 (row t p) hd) e.val : EReal) := by
  refine (cut_at (iblk m c 0 t) hd p e).trans ?_
  unfold iblk
  exact (read0 c (V m c) t hd p e).trans (V_k0 m c h _ _ _)

theorem blk_k1 (hd : Fin 8) (p : Fin 512) (e : Fin 256) : cut (iblk m c 1 t) hd (ix3 0 p e) = (ext (K1 (row t p) hd) e.val : EReal) := by
  refine (cut_at (iblk m c 1 t) hd p e).trans ?_
  unfold iblk
  exact (read1 c (V m c) t hd p e).trans (V_k1 m c h _ _ _)

theorem blk_v0 (hd : Fin 8) (p : Fin 512) (e : Fin 128) : cut (iblk m c 2 t) hd (ix3 0 p e) = (ext (V0 (row t p) hd) e.val : EReal) := by
  refine (cut_at (iblk m c 2 t) hd p e).trans ?_
  unfold iblk
  exact (read2 c (V m c) t hd p e).trans (V_v0 m c h _ _ _)

theorem blk_v1 (hd : Fin 8) (p : Fin 512) (e : Fin 128) : cut (iblk m c 3 t) hd (ix3 0 p e) = (ext (V1 (row t p) hd) e.val : EReal) := by
  refine (cut_at (iblk m c 3 t) hd p e).trans ?_
  unfold iblk
  exact (read3 c (V m c) t hd p e).trans (V_v1 m c h _ _ _)

theorem blk_wu (hd : Fin 8) (r e : Fin 256) : cut (iblk m c 10 t) hd (ix3 0 r e) = (Wu r (lane hd e) : EReal) := by
  refine (cut_at (iblk m c 10 t) hd r e).trans ?_
  unfold iblk
  exact (read10 c (V m c) t hd r e).trans (V_wu m c h _ _ _)

theorem blk_c (p : Fin 512) (k : Fin 256) : iblk m c 4 t (ix2 p k) = (ck H G Wd (row t p) k : EReal) := by
  unfold iblk
  exact (read4 c (V m c) t p k).trans (V_c m c h _ _)

theorem blk_h (p : Fin 512) (k : Fin 1024) : iblk m c 5 t (ix2 p k) = (H (row t p) k : EReal) := by
  unfold iblk
  exact (read5 c (V m c) t p k).trans (V_h m c h _ _)

theorem blk_cos (p : Fin 512) (k : Fin 128) : iblk m c 11 t (ix2 p k) = (cosp (ext (CO (row t p))) k.val : EReal) := by
  unfold iblk
  exact (read11 c (V m c) t p k).trans (V_cos m c h _ _)

theorem blk_sin (p : Fin 512) (k : Fin 128) : iblk m c 12 t (ix2 p k) = (sinp (ext (SI (row t p))) k.val : EReal) := by
  unfold iblk
  exact (read12 c (V m c) t p k).trans (V_sin m c h _ _)

theorem blk_g (k : Fin 1024) : iblk m c 6 t (ix2 0 k) = (G k : EReal) := by
  unfold iblk
  exact (read6 c (V m c) t k).trans (V_g m c h _)

theorem blk_gk (k : Fin 256) : iblk m c 9 t (ix2 0 k) = (GK k : EReal) := by
  unfold iblk
  exact (read9 c (V m c) t k).trans (V_gk m c h _)

theorem blk_wd (k : Fin 1024) (e : Fin 384) : iblk m c 8 t (ix2 k e) = (ext (Wd k) e.val : EReal) := by
  unfold iblk
  exact (read8 c (V m c) t k e).trans (V_wd m c h _ _)

omit h in
theorem blk_dres (p : Fin 512) (k : Fin 1024) : iblk m c 7 t (ix2 p k) = m ((c : Thread nD τ).loc main_arg11) (ix2 (row t p) k) := by
  unfold iblk
  exact (read7 c (V m c) t p k).trans (congrFun (V_main_arg11 m c) _)

/-! ## One point -/

omit h in
/-- The heads' products of a point, added up. -/
abbrev nb : FVec Ideal S512x256 .f32 := heads (cut (iblk m c 0 t)) (cut (iblk m c 1 t)) (cut (iblk m c 2 t)) (cut (iblk m c 3 t)) (cut (iblk m c 10 t))

omit h in
/-- The gradient of a point's narrow projections. -/
abbrev nd : FVec Ideal S512x384 .bf16 :=
  k0_pay60 (F := Ideal) (k0_pay9 (iblk m c 4 t)) (k0_pay10 (iblk m c 4 t)) (ropes (cut (iblk m c 0 t)) (cut (iblk m c 1 t))) (nb m c t) (k0_pay58 (iblk m c 9 t)) (iblk m c 11 t) (iblk m c 12 t)

theorem nb_at (p : Fin 512) (r : Fin 256) : nb m c t (ix2 p r) = (dcn Wu K0 K1 V0 V1 (row t p) r : EReal) :=
  heads_at (X := fun hd p => ext (K0 (row t p) hd)) (Y := fun hd p => ext (K1 (row t p) hd)) (U := fun hd p => ext (V0 (row t p) hd)) (V := fun hd p => ext (V1 (row t p) hd))
    (W := fun hd r e => Wu r (lane hd e)) (blk_k0 m c h t) (blk_k1 m c h t) (blk_v0 m c h t) (blk_v1 m c h t) (blk_wu m c h t) p r

theorem rope_at (p : Fin 512) (l : Fin 128) : ropes (cut (iblk m c 0 t)) (cut (iblk m c 1 t)) (ix2 p l) = (dro K0 K1 (row t p) l.val : EReal) :=
  ropes_at (X := fun hd p => ext (K0 (row t p) hd)) (Y := fun hd p => ext (K1 (row t p) hd)) (blk_k0 m c h t) (blk_k1 m c h t) p l

theorem nd_at (p : Fin 512) (e : Fin 384) : nd m c t (ix2 p e) = (dck H G Wd GK Wu CO SI K0 K1 V0 V1 (row t p) e.val : EReal) :=
  pay_dck (C := fun p => ck H G Wd (row t p)) (DN := fun p => dcn Wu K0 K1 V0 V1 (row t p)) (R := fun p => dro K0 K1 (row t p)) (K := fun p => ext (CO (row t p))) (S := fun p => ext (SI (row t p)))
    (pay_hat (blk_c m c h t)) (nb_at m c h t) (fun p => pay_rsq (blk_c m c h t) p 0) (blk_gk m c h t) (rope_at m c h t) (blk_cos m c h t) (blk_sin m c h t) p e

theorem uk_at (a : Fin 8 → Vec Ideal S1x256x256 .f32) (L) (hd : Fin 8) (r e : Fin 256) :
    View.canon (planes (k0_pay11 (F := Ideal) (iblk m c 4 t) (iblk m c 9 t)) (cut (iblk m c 0 t)) (cut (iblk m c 1 t)) (cut (iblk m c 2 t)) (cut (iblk m c 3 t)) a L) (ix3 hd r e)
      = a hd (ix3 0 r e) + ((∑ p, cn H G Wd GK (row t p) r * kv K0 K1 V0 V1 (row t p) hd e.val : ℝ) : EReal) :=
  planes_at (a := a) (X := fun hd p => ext (K0 (row t p) hd)) (Y := fun hd p => ext (K1 (row t p) hd)) (U := fun hd p => ext (V0 (row t p) hd)) (V := fun hd p => ext (V1 (row t p) hd))
    (Q := fun p r => cn H G Wd GK (row t p) r) (blk_k0 m c h t) (blk_k1 m c h t) (blk_v0 m c h t) (blk_v1 m c h t) (pay_cn (blk_c m c h t) (blk_gk m c h t)) L hd r e

theorem gk_at (w : Vec Ideal S1x256 .f32) (r : Fin 256) : k0_pay59 (F := Ideal) (k0_pay10 (iblk m c 4 t)) (nb m c t) w (ix2 0 r)
    = w (ix2 0 r) + ((∑ p, dcn Wu K0 K1 V0 V1 (row t p) r * (ck H G Wd (row t p) r * rsq 256 (ck H G Wd) (row t p)) : ℝ) : EReal) :=
  pay_dgk (pay_hat (blk_c m c h t)) (nb_at m c h t) w r

theorem wd_at (w : Vec Ideal S1024x384 .f32) (k : Fin 1024) (e : Fin 384) :
    k0_pay65 (F := Ideal) (nd m c t) (iblk m c 5 t) (k0_pay61 (iblk m c 6 t)) (k0_pay62 (iblk m c 5 t)) w (ix2 k e)
      = w (ix2 k e) + ((∑ p, xn H G (row t p) k * dck H G Wd GK Wu CO SI K0 K1 V0 V1 (row t p) e.val : ℝ) : EReal) :=
  pay_dwd (D := fun p => dck H G Wd GK Wu CO SI K0 K1 V0 V1 (row t p)) (blk_h m c h t) (nd_at m c h t) (blk_g m c h t) w k e

theorem g_at (w : Vec Ideal S1x1024 .f32) (k : Fin 1024) :
    k0_pay1 (F := Ideal) (k0_pay67 (nd m c t) (iblk m c 5 t) (k0_pay62 (iblk m c 5 t)) (iblk m c 8 t)) w (ix2 0 k)
      = w (ix2 0 k) + ((∑ p, dxn H G Wd GK Wu CO SI K0 K1 V0 V1 (row t p) k * (H (row t p) k * rsq 1024 H (row t p)) : ℝ) : EReal) :=
  pay_dg (D := fun p => dck H G Wd GK Wu CO SI K0 K1 V0 V1 (row t p)) (blk_h m c h t) (nd_at m c h t) (blk_wd m c h t) w k

theorem h_at (p : Fin 512) (k : Fin 1024) {d : EReal} (hd : m ((c : Thread nD τ).loc main_arg11) (ix2 (row t p) k) = d) :
    k0_pay68 (F := Ideal) (nd m c t) (iblk m c 5 t) (k0_pay62 (iblk m c 5 t)) (iblk m c 8 t) (iblk m c 6 t) (iblk m c 7 t) (ix2 p k)
      = d + (dh H G Wd GK Wu CO SI K0 K1 V0 V1 (row t p) k : EReal) :=
  (pay_dh (D := fun p => dck H G Wd GK Wu CO SI K0 K1 V0 V1 (row t p)) (blk_h m c h t) (nd_at m c h t) (blk_wd m c h t) (blk_g m c h t) (iblk m c 7 t) p k).trans
    (congrArg (· + _) ((blk_dres m c t p k).trans hd))

end AtPoint

section After

variable (h : Reals m c H G Wd GK Wu CO SI K0 K1 V0 V1)
include h

set_option maxHeartbeats 1600000 in
theorem after_uk (t : Fin cfg0.N) (hd : Fin 8) (r : Fin 256) (e : Fin 256) :
    (t.val % 8 = 0 → (outsAt0 m c t.val t.isLt).2.2.2.2.2.1 (ix3 hd r e) = (0 : EReal) + ((∑ p, cn H G Wd GK (row t p) r * kv K0 K1 V0 V1 (row t p) hd e.val : ℝ) : EReal))
    ∧ (¬t.val % 8 = 0 → (outsAt0 m c t.val t.isLt).2.2.2.2.2.1 (ix3 hd r e)
      = (outsAt0 m c (t.val - 1) (Nat.lt_of_le_of_lt (Nat.sub_le _ _) t.isLt)).2.2.2.2.2.1 (ix3 hd r e)
        + ((∑ p, cn H G Wd GK (row t p) r * kv K0 K1 V0 V1 (row t p) hd e.val : ℝ) : EReal)) := by
  have zero : k0_pay4 (F := Ideal) (ix3 hd r e) = (0 : EReal) := by pointwise [k0_pay4]
  refine ⟨fun h0 => ?_, fun h0 => ?_⟩
  · rw [outsAt0_A m c t h0 (by omega)]
    frame_out
    simp (config := {decide := true}) only [↓View.readCov_skip, View.readCov_fill]
    generalize k0_pay4 (F := Ideal) = z at zero ⊢
    exact (uk_at m c h t (cut (e := .f32) z) _ hd r e).trans (congrArg (· + _) ((cut_at (e := .f32) z hd r e).trans zero))
  · by_cases h1 : t.val % 8 = 7
    on_goal 1 => rw [outsAt0_C m c t h0 h1]
    on_goal 2 => rw [outsAt0_B m c t h0 h1]
    all_goals
      frame_out
      simp only [read_unread_whole]
      exact (uk_at m c h t (cut (outsAt0 m c (t.val - 1) (Nat.lt_of_le_of_lt (Nat.sub_le _ _) t.isLt)).2.2.2.2.2.1) _ hd r e).trans
        (congrArg (· + ((_ : ℝ) : EReal)) (cut_at _ hd r e))

theorem after_wd (t : Fin cfg0.N) (k : Fin 1024) (r : Fin 384) :
    (t.val % 8 = 0 → (outsAt0 m c t.val t.isLt).2.2.2.2.2.2 (ix2 k r) = (0 : EReal) + ((∑ p, xn H G (row t p) k * dck H G Wd GK Wu CO SI K0 K1 V0 V1 (row t p) r.val : ℝ) : EReal))
    ∧ (¬t.val % 8 = 0 → (outsAt0 m c t.val t.isLt).2.2.2.2.2.2 (ix2 k r)
      = (outsAt0 m c (t.val - 1) (Nat.lt_of_le_of_lt (Nat.sub_le _ _) t.isLt)).2.2.2.2.2.2 (ix2 k r)
        + ((∑ p, xn H G (row t p) k * dck H G Wd GK Wu CO SI K0 K1 V0 V1 (row t p) r.val : ℝ) : EReal)) := by
  refine ⟨fun h0 => ?_, fun h0 => ?_⟩
  · rw [outsAt0_A m c t h0 (by omega)]
    frame_out
    refine (wd_at m c h t _ k r).trans (congrArg (· + ((_ : ℝ) : EReal)) ?_)
    pointwise [k0_pay5]
  · by_cases h1 : t.val % 8 = 7
    on_goal 1 => rw [outsAt0_C m c t h0 h1]
    on_goal 2 => rw [outsAt0_B m c t h0 h1]
    all_goals
      frame_out
      simp only [read_unread_whole]
      exact wd_at m c h t _ k r

theorem after_gk (t : Fin cfg0.N) (r : Fin 256) :
    (t.val % 8 = 0 → (outsAt0 m c t.val t.isLt).2.2.2.1 (ix2 0 r)
      = (0 : EReal) + ((∑ p, dcn Wu K0 K1 V0 V1 (row t p) r * (ck H G Wd (row t p) r * rsq 256 (ck H G Wd) (row t p)) : ℝ) : EReal))
    ∧ (¬t.val % 8 = 0 → (outsAt0 m c t.val t.isLt).2.2.2.1 (ix2 0 r)
      = (outsAt0 m c (t.val - 1) (Nat.lt_of_le_of_lt (Nat.sub_le _ _) t.isLt)).2.2.2.1 (ix2 0 r)
        + ((∑ p, dcn Wu K0 K1 V0 V1 (row t p) r * (ck H G Wd (row t p) r * rsq 256 (ck H G Wd) (row t p)) : ℝ) : EReal)) := by
  refine ⟨fun h0 => ?_, fun h0 => ?_⟩
  · rw [outsAt0_A m c t h0 (by omega)]
    frame_out
    refine (gk_at m c h t _ r).trans (congrArg (· + ((_ : ℝ) : EReal)) ?_)
    pointwise [k0_pay6]
  · by_cases h1 : t.val % 8 = 7
    on_goal 1 => rw [outsAt0_C m c t h0 h1]
    on_goal 2 => rw [outsAt0_B m c t h0 h1]
    all_goals
      frame_out
      exact gk_at m c h t _ r

theorem after_g (t : Fin cfg0.N) (k : Fin 1024) :
    (t.val % 8 = 0 → (outsAt0 m c t.val t.isLt).2.2.2.2.1 (ix2 0 k)
      = (0 : EReal) + ((∑ p, dxn H G Wd GK Wu CO SI K0 K1 V0 V1 (row t p) k * (H (row t p) k * rsq 1024 H (row t p)) : ℝ) : EReal))
    ∧ (¬t.val % 8 = 0 → (outsAt0 m c t.val t.isLt).2.2.2.2.1 (ix2 0 k)
      = (outsAt0 m c (t.val - 1) (Nat.lt_of_le_of_lt (Nat.sub_le _ _) t.isLt)).2.2.2.2.1 (ix2 0 k)
        + ((∑ p, dxn H G Wd GK Wu CO SI K0 K1 V0 V1 (row t p) k * (H (row t p) k * rsq 1024 H (row t p)) : ℝ) : EReal)) := by
  refine ⟨fun h0 => ?_, fun h0 => ?_⟩
  · rw [outsAt0_A m c t h0 (by omega)]
    frame_out
    refine (g_at m c h t _ k).trans (congrArg (· + ((_ : ℝ) : EReal)) ?_)
    pointwise [k0_pay7]
  · by_cases h1 : t.val % 8 = 7
    on_goal 1 => rw [outsAt0_C m c t h0 h1]
    on_goal 2 => rw [outsAt0_B m c t h0 h1]
    all_goals
      frame_out
      exact g_at m c h t _ k

theorem after_dh (t : Fin cfg0.N) (p : Fin 512) (k : Fin 1024) {d : EReal} (hd : m ((c : Thread nD τ).loc main_arg11) (ix2 (row t p) k) = d) :
    (outsAt0 m c t.val t.isLt).1 (ix2 p k) = d + (dh H G Wd GK Wu CO SI K0 K1 V0 V1 (row t p) k : EReal) := by
  by_cases h0 : t.val % 8 = 0
  · rw [outsAt0_A m c t h0 (by omega)]
    frame_out
    exact h_at m c h t p k hd
  · by_cases h1 : t.val % 8 = 7
    on_goal 1 => rw [outsAt0_C m c t h0 h1]
    on_goal 2 => rw [outsAt0_B m c t h0 h1]
    all_goals
      frame_out
      exact h_at m c h t p k hd

omit h

theorem last_uk (t : Fin cfg0.N) (h1 : t.val % 8 = 7) (hd : Fin 8) (r : Fin 256) (e : Fin 256) :
    (outsAt0 m c t.val t.isLt).2.1 (ix3 hd r e) = (outsAt0 m c t.val t.isLt).2.2.2.2.2.1 (ix3 hd r e) := by
  rw [outsAt0_C m c t (by omega) h1]
  frame_out
  rw [cov_whole _ _ _ (by decide)]
  pointwise [k0_pay2]

theorem last_wd (t : Fin cfg0.N) (h1 : t.val % 8 = 7) (k : Fin 1024) (r : Fin 384) :
    (outsAt0 m c t.val t.isLt).2.2.1 (ix2 k r) = (outsAt0 m c t.val t.isLt).2.2.2.2.2.2 (ix2 k r) := by
  rw [outsAt0_C m c t (by omega) h1]
  frame_out
  pointwise [k0_pay3]

/-- Eight blocks of rows are all rows. -/
theorem total (f : (n : ℕ) → n < cfg0.N → EReal) (g : Fin 4096 → ℝ)
    (hf : ∀ t : Fin cfg0.N, (t.val % 8 = 0 → f t.val t.isLt = (0 : EReal) + ((∑ p, g (row t p) : ℝ) : EReal))
      ∧ (¬t.val % 8 = 0 → f t.val t.isLt = f (t.val - 1) (Nat.lt_of_le_of_lt (Nat.sub_le _ _) t.isLt) + ((∑ p, g (row t p) : ℝ) : EReal)))
    (t : Fin cfg0.N) (h1 : t.val % 8 = 7) : f t.val t.isLt = ((∑ i, g i : ℝ) : EReal) := by
  rw [Pipeline.eq_sum_fin_of_reset_step_of_flush f 8 0 (fun t => ((∑ p, g (row t p) : ℝ) : EReal)) (fun t => (hf t).1) (fun t => (hf t).2) t h1, zero_add, coe_sum]
  refine congrArg _ ?_
  rw [Fin.sum_univ_tiles 8 512 rfl g]
  refine Finset.sum_congr rfl fun s _ => Finset.sum_congr rfl fun p _ => congrArg g (Fin.ext ?_)
  have := lt_N t
  simp only [row]
  omega

theorem emb13 (t : Fin cfg0.N) (p : Fin 512) (k : Fin 1024) : ((cfg0.win 13).blk t).view.emb (ix2 p k) = ix2 (row t p) k := by
  unfold row
  blk_ext [idx t]

theorem emb14 (t : Fin cfg0.N) (hd : Fin 8) (r : Fin 256) (e : Fin 256) : ((cfg0.win 14).blk t).view.emb (ix3 hd r e) = ix3 hd r e := by
  blk_ext [idx t]

theorem emb15 (t : Fin cfg0.N) (k : Fin 1024) (r : Fin 384) : ((cfg0.win 15).blk t).view.emb (ix2 k r) = ix2 k r := by
  blk_ext [idx t]

theorem emb16 (t : Fin cfg0.N) (r : Fin 256) : ((cfg0.win 16).blk t).view.emb (ix2 0 r) = ix2 0 r := by
  blk_ext [idx t]

theorem emb17 (t : Fin cfg0.N) (k : Fin 1024) : ((cfg0.win 17).blk t).view.emb (ix2 0 k) = ix2 0 k := by
  blk_ext [idx t]

include h

theorem result_h {d : S4096x1024.Idx → EReal} (hd : ∀ i, m ((c : Thread nD τ).loc main_arg11) i = d i) :
    (dats m 0 c).arrAt 13 (cfgs 0).N = fun i : S4096x1024.Idx => d i + (dh H G Wd GK Wu CO SI K0 K1 V0 V1 (i 0) (i 1) : EReal) := by
  refine (dats m 0 c).arrAt_eq_of_covers 13 _ (by decide +kernel) fun t hf y => ?_
  obtain ⟨p, k, rfl⟩ : ∃ p k, y = ix2 p k := ⟨y 0, y 1, eq_ix2 y⟩
  rw [emb13 t p k]
  blk_simp
  rw [after0_13]
  exact after_dh m c h t p k (hd _)

theorem result_uk : (dats m 0 c).arrAt 14 (cfgs 0).N = fun i : S8x256x256.Idx => (dwu H G Wd GK K0 K1 V0 V1 (i 0) (i 1) (i 2) : EReal) := by
  refine (dats m 0 c).arrAt_eq_of_covers 14 _ (by decide +kernel) fun t hf y => ?_
  have h1 : t.val % 8 = 7 := (flush0_14 t).mp hf
  obtain ⟨hd, r, e, rfl⟩ : ∃ hd r e, y = ix3 hd r e := ⟨y 0, y 1, y 2, eq_ix3 y⟩
  rw [emb14 t hd r e]
  blk_simp
  rw [after0_14]
  exact (last_uk m c t h1 hd r e).trans (total (fun n hn => (outsAt0 m c n hn).2.2.2.2.2.1 (ix3 hd r e)) (fun i => cn H G Wd GK i r * kv K0 K1 V0 V1 i hd e.val)
    (fun t => after_uk m c h t hd r e) t h1)

theorem result_wd : (dats m 0 c).arrAt 15 (cfgs 0).N = fun i : S1024x384.Idx => (dwd H G Wd GK Wu CO SI K0 K1 V0 V1 (i 0) (i 1).val : EReal) := by
  refine (dats m 0 c).arrAt_eq_of_covers 15 _ (by decide +kernel) fun t hf y => ?_
  have h1 : t.val % 8 = 7 := (flush0_15 t).mp hf
  obtain ⟨k, r, rfl⟩ : ∃ k r, y = ix2 k r := ⟨y 0, y 1, eq_ix2 y⟩
  rw [emb15 t k r]
  blk_simp
  rw [after0_15]
  exact (last_wd m c t h1 k r).trans (total (fun n hn => (outsAt0 m c n hn).2.2.2.2.2.2 (ix2 k r)) (fun i => xn H G i k * dck H G Wd GK Wu CO SI K0 K1 V0 V1 i r.val)
    (fun t => after_wd m c h t k r) t h1)

theorem result_gk : (dats m 0 c).arrAt 16 (cfgs 0).N = fun i : S1x256.Idx => (dgk H G Wd Wu K0 K1 V0 V1 (i 1) : EReal) := by
  refine (dats m 0 c).arrAt_eq_of_covers 16 _ (by decide +kernel) fun t hf y => ?_
  have h1 : t.val % 8 = 7 := (flush0_16 t).mp hf
  obtain ⟨r, rfl⟩ : ∃ r, y = ix2 0 r := ⟨y 1, (eq_ix2 y).trans (congrArg (fun z => ix2 z (y 1)) (Subsingleton.elim (α := Fin 1) _ _))⟩
  rw [emb16 t r]
  blk_simp
  rw [after0_16]
  exact total (fun n hn => (outsAt0 m c n hn).2.2.2.1 (ix2 0 r)) (fun i => dcn Wu K0 K1 V0 V1 i r * (ck H G Wd i r * rsq 256 (ck H G Wd) i))
    (fun t => after_gk m c h t r) t h1

theorem result_g : (dats m 0 c).arrAt 17 (cfgs 0).N = fun i : S1x1024.Idx => (dg H G Wd GK Wu CO SI K0 K1 V0 V1 (i 1) : EReal) := by
  refine (dats m 0 c).arrAt_eq_of_covers 17 _ (by decide +kernel) fun t hf y => ?_
  have h1 : t.val % 8 = 7 := (flush0_17 t).mp hf
  obtain ⟨k, rfl⟩ : ∃ k, y = ix2 0 k := ⟨y 1, (eq_ix2 y).trans (congrArg (fun z => ix2 z (y 1)) (Subsingleton.elim (α := Fin 1) _ _))⟩
  rw [emb17 t k]
  blk_simp
  rw [after0_17]
  exact total (fun n hn => (outsAt0 m c n hn).2.2.2.2.1 (ix2 0 k)) (fun i => dxn H G Wd GK Wu CO SI K0 K1 V0 V1 i k * (H i k * rsq 1024 H i))
    (fun t => after_g m c h t k) t h1

end After

/-- The results at the end of the call, the arguments unchanged. -/
theorem run_at (g : Dev nD → PrngReg) : θ_run defs (onTc (τ := τ) (main (F := Ideal))) ⟨m, fun _ => 0, g⟩ (fun r => ∀ c : Dev nD,
      r.2.mem ((c.tc : Thread nD τ).loc main_v38_0) = (dats m 0 c).arrAt 13 (cfgs 0).N
      ∧ r.2.mem ((c.tc : Thread nD τ).loc main_v38_1) = (dats m 0 c).arrAt 14 (cfgs 0).N
      ∧ r.2.mem ((c.tc : Thread nD τ).loc main_v38_2) = (dats m 0 c).arrAt 15 (cfgs 0).N
      ∧ r.2.mem ((c.tc : Thread nD τ).loc main_v38_3) = (dats m 0 c).arrAt 16 (cfgs 0).N
      ∧ r.2.mem ((c.tc : Thread nD τ).loc main_v38_4) = (dats m 0 c).arrAt 17 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1 13, (h.1 c).1 14, (h.1 c).1 15, (h.1 c).1 16, (h.1 c).1 17, h.2 c⟩) (θ_run_and (run_main m g) (unchanged m g))

end Cert.KvIdeal.Proof

end
-- ==== Proof.KvRef.lean ====
module

public import proofs.«01_k».proof.Proof.Gen.KvRefIdeal.Read
public import proofs.«01_k».proof.Proof.KvMath
public import Idealize.ShloMosaic.Lib.Pointwise

/-! The keys' and values' reference backward over real inputs. -/

@[expose] public section

set_option maxRecDepth 16384

noncomputable section

namespace Cert.KvRefIdeal.Proof

open Cert.KvRefIdeal Cert.KvRefIdeal.Gen Cert.KvRefIdeal.Read Idealize.ShloMosaic Idealize.ShloMosaic.TcCoe Idealize.SL.Sem
open Cert.Reals Cert.Norm Cert.Shift Cert.KvMath
open Cert.QueryMath (Rows cosp sinp)
open scoped BigOperators

variable {x0 : FVec Ideal S4096x1024 .f32} {x1 : FVec Ideal S1024 .f32} {x2 : FVec Ideal S1024x320 .f32} {x3 : FVec Ideal S256 .f32} {x4 : FVec Ideal S256x2048 .f32}
  {x5 x6 : FVec Ideal S4096x32 .f32} {x7 x8 : FVec Ideal S4096x8x192 .f32} {x9 x10 : FVec Ideal S4096x8x128 .f32} {x11 : FVec Ideal S4096x1024 .f32}
variable {H : Rows 4096 1024} {G : Fin 1024 → ℝ} {Wd : Rows 1024 320} {GK : Fin 256 → ℝ} {Wu : Rows 256 2048} {CO SI : Rows 4096 32} {K0 K1 : Heads 192} {V0 V1 : Heads 128}

theorem zero_int : (FloatOps.sitofp (F := Ideal) .f32 (0#32) : EReal) = ((0 : ℝ) : EReal) := by
  show (((0#32 : BitVec 32).toInt : ℝ) : EReal) = _
  simp

theorem mean (hh : ∀ i k, x0 (ix2 i k) = (H i k : EReal)) (i : Fin 4096) (z : Fin 1) : val_main_v6 (F := Ideal) x0 (ix2 i z) = (msq 1024 H i : EReal) := by
  pointwise [val_main_v6, val_main_v4, val_main_v5, val_main_v2, val_main_v3, val_main_v1, val_main_v0, val_main_cst, val_main_cst_0, val_main_cst_1, hh]
  simp only [ofBits_1024, ofBits_eps, ← EReal.coe_mul, coe_sum, zero_add, div_coe_coe (by norm_num : (1024 : ℝ) ≠ 0), ← EReal.coe_add]
  rfl

theorem root (hh : ∀ i k, x0 (ix2 i k) = (H i k : EReal)) (i : Fin 4096) (z : Fin 1) : val_main_v7 (F := Ideal) x0 (ix2 i z) = (rsq 1024 H i : EReal) := by
  pointwise [val_main_v7, mean hh]
  exact rsqrt_of_pos (msq_pos 1024 H i (by norm_num))

section Normed

variable (hh : ∀ i k, x0 (ix2 i k) = (H i k : EReal)) (hg : ∀ k, x1 (ix1 k) = (G k : EReal))
include hh hg

theorem normed (i : Fin 4096) (k : Fin 1024) : val_main_v15 (F := Ideal) x0 x1 (ix2 i k) = (xn H G i k : EReal) := by
  pointwise [val_main_v15, val_main_v14, val_main_v13, val_main_v12, val_main_v11, root hh, hh, hg]
  simp only [← EReal.coe_mul]
  rfl

variable (hw : ∀ k r, x2 (ix2 k r) = (Wd k r : EReal))
include hw

theorem narrow (i : Fin 4096) (r : Fin 256) : val_main_v17 (F := Ideal) x0 x1 x2 (ix2 i r) = (ck H G Wd i r : EReal) := by
  pointwise [val_main_v17, val_main_v16, normed hh hg, hw]
  simp only [← EReal.coe_mul, coe_sum]
  rfl

theorem mean_k (i : Fin 4096) (z : Fin 1) : val_main_v34 (F := Ideal) x0 x1 x2 (ix2 i z) = (msq 256 (ck H G Wd) i : EReal) := by
  pointwise [val_main_v34, val_main_v33, val_main_v32, val_main_v31, val_main_v30, val_main_v29, val_main_v28, val_main_cst_3, val_main_cst_4, val_main_cst_5, narrow hh hg hw]
  simp only [ofBits_256, ofBits_eps, ← EReal.coe_mul, coe_sum, zero_add, div_coe_coe (by norm_num : (256 : ℝ) ≠ 0), ← EReal.coe_add]
  rfl

theorem root_k (i : Fin 4096) (z : Fin 1) : val_main_v35 (F := Ideal) x0 x1 x2 (ix2 i z) = (rsq 256 (ck H G Wd) i : EReal) := by
  pointwise [val_main_v35, mean_k hh hg hw]
  exact rsqrt_of_pos (msq_pos 256 _ i (by norm_num))

theorem hat_k (i : Fin 4096) (r : Fin 256) : val_main_v40 (F := Ideal) x0 x1 x2 (ix2 i r) = ((ck H G Wd i r * rsq 256 (ck H G Wd) i : ℝ) : EReal) := by
  pointwise [val_main_v40, val_main_v39, narrow hh hg hw, root_k hh hg hw]
  simp only [← EReal.coe_mul]

theorem normed_k (hk : ∀ r, x3 (ix1 r) = (GK r : EReal)) (i : Fin 4096) (r : Fin 256) : val_main_v43 (F := Ideal) x0 x1 x2 x3 (ix2 i r) = (cn H G Wd GK i r : EReal) := by
  pointwise [val_main_v43, val_main_v42, val_main_v41, hat_k hh hg hw, hk]
  simp only [← EReal.coe_mul]
  rfl

end Normed

section Rotation

variable (hk0 : ∀ i h e, x7 (ix3 i h e) = (K0 i h e : EReal)) (hk1 : ∀ i h e, x8 (ix3 i h e) = (K1 i h e : EReal))
include hk0 hk1

theorem shared (i : Fin 4096) (l : Fin 64) : val_main_v60 (F := Ideal) x7 x8 (ix2 i l) = (dro K0 K1 i l.val : EReal) := by
  pointwise [val_main_v60, val_main_v59, val_main_v58, val_main_v57, val_main_v52, val_main_cst_9, val_main_cst_10, hk0, hk1]
  simp only [zero_add, Fin.sum_univ_one, ← EReal.coe_add, coe_sum]
  unfold dro ks
  refine congrArg _ (Finset.sum_congr rfl fun h _ => ?_)
  rw [ext_of_lt _ (by omega : 128 + l.val < 192), ext_of_lt _ (by omega : 128 + l.val < 192)]

section Halves

variable (hc : ∀ i f, x5 (ix2 i f) = (CO i f : EReal)) (hs : ∀ i f, x6 (ix2 i f) = (SI i f : EReal))
include hc hs

theorem first (i : Fin 4096) (l : Fin 32) : val_main_v95 (F := Ideal) x5 x6 x7 x8 (ix2 i l)
    = ((dro K0 K1 i l.val * CO i l + dro K0 K1 i (l.val + 32) * SI i l : ℝ) : EReal) := by
  pointwise [val_main_v95, val_main_v94, val_main_v90, val_main_v88, val_main_v87, shared hk0 hk1, hc, hs]
  rw [Nat.add_comm 32]
  simp only [← EReal.coe_mul, ← EReal.coe_add]
  rw [add_comm]

theorem second (i : Fin 4096) (l : Fin 32) : val_main_v93 (F := Ideal) x5 x6 x7 x8 (ix2 i l)
    = ((dro K0 K1 i (32 + l.val) * CO i l - dro K0 K1 i l.val * SI i l : ℝ) : EReal) := by
  pointwise [val_main_v93, val_main_v92, val_main_v91, val_main_v89, val_main_v88, val_main_v87, shared hk0 hk1, hc, hs]
  simp only [← EReal.coe_neg, ← EReal.coe_mul, ← EReal.coe_add]
  exact congrArg _ (by ring)

theorem rotated (i : Fin 4096) (l : Fin 64) : val_main_v96 (F := Ideal) x5 x6 x7 x8 (ix2 i l) = (back (dro K0 K1 i) (ext (CO i)) (ext (SI i)) l.val : EReal) := by
  unfold back
  pointwise [val_main_v96, first hk0 hk1 hc hs, second hk0 hk1 hc hs]
  by_cases h1 : l.val < 32
  · rw [dif_pos h1, if_pos h1, ext_of_lt _ h1, ext_of_lt _ h1]
  · have h2 : l.val - 32 < 32 := by omega
    rw [dif_neg h1, if_neg h1, ext_of_lt _ h2, ext_of_lt _ h2]
    simp only [show 32 + (l.val - 32) = l.val by omega]

end Halves

variable (hv0 : ∀ i h e, x9 (ix3 i h e) = (V0 i h e : EReal)) (hv1 : ∀ i h e, x10 (ix3 i h e) = (V1 i h e : EReal))
include hv0 hv1

theorem both (i : Fin 4096) (h : Fin 8) (e : Fin 256) : val_main_v62 (F := Ideal) x7 x8 x9 x10 (ix3 i h e) = (kv K0 K1 V0 V1 i h e.val : EReal) := by
  unfold kv kvf ks vs
  pointwise [val_main_v62, val_main_v61, val_main_v56, val_main_v55, val_main_v54, val_main_v53, val_main_v52, val_main_cst_7, val_main_cst_8, val_main_cst_11, hk0, hk1, hv0, hv1]
  by_cases h1 : e.val < 128
  · rw [if_pos h1, dif_pos h1, dif_neg (by omega), dif_neg (by omega), zero_add, zero_add, ext_of_lt _ (by omega : e.val < 192), ext_of_lt _ (by omega : e.val < 192), EReal.coe_add]
  · have h2 : e.val - 128 < 128 := by omega
    rw [if_neg h1, dif_neg h1, dif_pos (by omega), dif_pos (by omega), add_zero, ext_of_lt _ h2, ext_of_lt _ h2, EReal.coe_add, add_comm]

theorem both_at (i : Fin 4096) (h : Fin 8) (e : Fin 256) : val_main_v63 (F := Ideal) x7 x8 x9 x10 (ix2 i (lane h e)) = (kv K0 K1 V0 V1 i h e.val : EReal) := by
  rw [← both hk0 hk1 hv0 hv1]
  pointwise [val_main_v63]
  exact congrArg₂ (fun a b => val_main_v62 (F := Ideal) x7 x8 x9 x10 (ix3 i a b)) (Fin.ext (by unfold lane; dsimp only; omega)) (Fin.ext (by unfold lane; dsimp only; omega))

/-- The product of the heads' gradients with the wide projection. -/
theorem product (hu : ∀ r k, x4 (ix2 r k) = (Wu r k : EReal)) (i : Fin 4096) (r : Fin 256) :
    val_main_v66 (F := Ideal) x4 x7 x8 x9 x10 (ix2 i r) = (dcn Wu K0 K1 V0 V1 i r : EReal) := by
  pointwise [val_main_v66, hu]
  rw [Fin.sum_univ_tiles 8 256 (by norm_num)]
  unfold dcn
  simp only [← coe_sum]
  refine Finset.sum_congr rfl fun h _ => Finset.sum_congr rfl fun e _ => ?_
  rw [EReal.coe_mul, ← both_at hk0 hk1 hv0 hv1]
  rfl

end Rotation

/-! ## The results -/

section Results

variable (hh : ∀ i k, x0 (ix2 i k) = (H i k : EReal)) (hg : ∀ k, x1 (ix1 k) = (G k : EReal)) (hw : ∀ k r, x2 (ix2 k r) = (Wd k r : EReal))
  (hk0 : ∀ i h e, x7 (ix3 i h e) = (K0 i h e : EReal)) (hk1 : ∀ i h e, x8 (ix3 i h e) = (K1 i h e : EReal))
  (hv0 : ∀ i h e, x9 (ix3 i h e) = (V0 i h e : EReal)) (hv1 : ∀ i h e, x10 (ix3 i h e) = (V1 i h e : EReal))
include hh hg hw hk0 hk1 hv0 hv1

theorem result_dwu (hk : ∀ r, x3 (ix1 r) = (GK r : EReal)) :
    val_main_v126 (F := Ideal) x0 x1 x2 x3 x7 x8 x9 x10 = fun i => (dwu H G Wd GK K0 K1 V0 V1 (i 0) (i 1) (i 2) : EReal) := by
  funext j
  idx_vars j
  have at_ : ∀ x, val_main_v63 (F := Ideal) x7 x8 x9 x10 (ix2 x (lane j0 j2)) * val_main_v43 (F := Ideal) x0 x1 x2 x3 (ix2 x j1)
      = ((kv K0 K1 V0 V1 x j0 j2.val * cn H G Wd GK x j1 : ℝ) : EReal) := fun x => by
    rw [both_at hk0 hk1 hv0 hv1, normed_k hh hg hw hk, EReal.coe_mul]
  have sum : val_main_v64 (F := Ideal) x0 x1 x2 x3 x7 x8 x9 x10 (ix2 (lane j0 j2) j1) = (dwu H G Wd GK K0 K1 V0 V1 j0 j1 j2 : EReal) := by
    pointwise [val_main_v64]
    refine (Finset.sum_congr rfl fun x _ => at_ x).trans ?_
    rw [coe_sum]
    unfold dwu
    exact congrArg _ (Finset.sum_congr rfl fun i _ => mul_comm _ _)
  refine Eq.trans ?_ sum
  pointwise [val_main_v126, val_main_v125, val_main_v124, val_main_v65]
  exact congrArg₂ (fun a b => val_main_v64 (F := Ideal) x0 x1 x2 x3 x7 x8 x9 x10 (ix2 a b)) (Fin.ext (by unfold lane; dsimp only)) (Fin.ext (by dsimp only))

variable (hu : ∀ r k, x4 (ix2 r k) = (Wu r k : EReal))
include hu

theorem result_dgk : val_main_v129 (F := Ideal) x0 x1 x2 x4 x7 x8 x9 x10 = fun i => (dgk H G Wd Wu K0 K1 V0 V1 (i 1) : EReal) := by
  funext j
  idx_vars j
  pointwise [val_main_v129, val_main_v72, val_main_v69, val_main_v68, val_main_v67, val_main_cst_12, val_main_cst_13, hat_k hh hg hw, product hk0 hk1 hv0 hv1 hu]
  simp only [← EReal.coe_mul, coe_sum, zero_add, Fin.sum_univ_one]
  unfold dgk dwt
  exact congrArg _ (Finset.sum_congr rfl fun i _ => mul_comm _ _)

variable (hk : ∀ r, x3 (ix1 r) = (GK r : EReal))
include hk

theorem factor_k (i : Fin 4096) : val_main_v81 (F := Ideal) x0 x1 x2 x3 x4 x7 x8 x9 x10 (ix1 i)
    = (((∑ l, ck H G Wd i l * (dcn Wu K0 K1 V0 V1 i l * GK l)) * (-(1 / 2) * (rsq 256 (ck H G Wd) i / msq 256 (ck H G Wd) i)) / 256 : ℝ) : EReal) := by
  pointwise [val_main_v81, val_main_v80, val_main_v79, val_main_v78, val_main_v75, val_main_v74, val_main_v73, val_main_v71, val_main_v70, val_main_v41, val_main_v38, val_main_v37, val_main_v36,
    val_main_cst_16, val_main_cst_15, val_main_cst_14, val_main_cst_6, mean_k hh hg hw, root_k hh hg hw, narrow hh hg hw, product hk0 hk1 hv0 hv1 hu, hk]
  simp only [ofBits_256, ofBits_neg_half, ← EReal.coe_mul, coe_sum, zero_add, div_coe_coe (msq_pos 256 (ck H G Wd) i (by norm_num)).ne', div_coe_coe (by norm_num : (256 : ℝ) ≠ 0),
    Fin.sum_univ_one]

theorem narrow_d (i : Fin 4096) (r : Fin 256) : val_main_v86 (F := Ideal) x0 x1 x2 x3 x4 x7 x8 x9 x10 (ix2 i r) = (dc H G Wd GK Wu K0 K1 V0 V1 i r : EReal) := by
  pointwise [val_main_v86, val_main_v85, val_main_v84, val_main_v83, val_main_v82, val_main_v77, val_main_v76, val_main_v71, val_main_v70, val_main_v41,
    root_k hh hg hw, narrow hh hg hw, product hk0 hk1 hv0 hv1 hu, factor_k hh hg hw hk0 hk1 hv0 hv1 hu hk, hk]
  unfold dc
  rw [← bwd_eq 256 _ _ _ _ _ (by norm_num)]
  simp only [← EReal.coe_mul, ← EReal.coe_add]

variable (hc : ∀ i f, x5 (ix2 i f) = (CO i f : EReal)) (hs : ∀ i f, x6 (ix2 i f) = (SI i f : EReal))
include hc hs

theorem joined (i : Fin 4096) (e : Fin 320) : val_main_v99 (F := Ideal) x0 x1 x2 x3 x4 x5 x6 x7 x8 x9 x10 (ix2 i e) = (dck H G Wd GK Wu CO SI K0 K1 V0 V1 i e.val : EReal) := by
  unfold dck join
  pointwise [val_main_v99, val_main_v98, val_main_v97, val_main_cst_17, val_main_cst_18, rotated hk0 hk1 hc hs, narrow_d hh hg hw hk0 hk1 hv0 hv1 hu hk]
  by_cases h1 : e.val < 256
  · rw [dif_pos h1, dif_pos h1, dif_neg (by omega), zero_add]
  · rw [dif_neg h1, dif_neg h1, dif_pos (by omega), add_zero]

theorem result_dwd : val_main_v128 (F := Ideal) x0 x1 x2 x3 x4 x5 x6 x7 x8 x9 x10 = fun i => (dwd H G Wd GK Wu CO SI K0 K1 V0 V1 (i 0) (i 1).val : EReal) := by
  funext j
  idx_vars j
  pointwise [val_main_v128, val_main_v127, val_main_v101, val_main_v100, val_main_call0_v0, joined hh hg hw hk0 hk1 hv0 hv1 hu hk hc hs, normed hh hg]
  unfold dwd
  by_cases h : j1.val < 320
  · rw [dif_pos h]
    simp only [← EReal.coe_mul, coe_sum]
    exact congrArg _ (Finset.sum_congr rfl fun i _ => mul_comm _ _)
  · rw [dif_neg h, Finset.sum_eq_zero fun i _ => by rw [dck, join_of_le _ _ _ _ (not_lt.1 h), mul_zero]]
    exact zero_int

theorem normed_d (i : Fin 4096) (k : Fin 1024) : val_main_v102 (F := Ideal) x0 x1 x2 x3 x4 x5 x6 x7 x8 x9 x10 (ix2 i k) = (dxn H G Wd GK Wu CO SI K0 K1 V0 V1 i k : EReal) := by
  pointwise [val_main_v102, joined hh hg hw hk0 hk1 hv0 hv1 hu hk hc hs, hw]
  simp only [← EReal.coe_mul, coe_sum]
  rfl

theorem result_dg : val_main_v130 (F := Ideal) x0 x1 x2 x3 x4 x5 x6 x7 x8 x9 x10 = fun i => (dg H G Wd GK Wu CO SI K0 K1 V0 V1 (i 1) : EReal) := by
  funext j
  idx_vars j
  pointwise [val_main_v130, val_main_v108, val_main_v105, val_main_v104, val_main_v103, val_main_v12, val_main_v11, val_main_cst_19, val_main_cst_20, root hh,
    normed_d hh hg hw hk0 hk1 hv0 hv1 hu hk hc hs, hh]
  simp only [← EReal.coe_mul, coe_sum, zero_add, Fin.sum_univ_one]
  unfold dg dwt
  exact congrArg _ (Finset.sum_congr rfl fun i _ => mul_comm _ _)

theorem factor (i : Fin 4096) : val_main_v118 (F := Ideal) x0 x1 x2 x3 x4 x5 x6 x7 x8 x9 x10 (ix1 i)
    = (((∑ l, H i l * (dxn H G Wd GK Wu CO SI K0 K1 V0 V1 i l * G l)) * (-(1 / 2) * (rsq 1024 H i / msq 1024 H i)) / 1024 : ℝ) : EReal) := by
  pointwise [val_main_v118, val_main_v117, val_main_v116, val_main_v115, val_main_v111, val_main_v110, val_main_v109, val_main_v107, val_main_v106, val_main_v13, val_main_v10, val_main_v9, val_main_v8,
    val_main_cst_23, val_main_cst_22, val_main_cst_21, val_main_cst_2, mean hh, root hh, normed_d hh hg hw hk0 hk1 hv0 hv1 hu hk hc hs, hh, hg]
  simp only [ofBits_1024, ofBits_neg_half, ← EReal.coe_mul, coe_sum, zero_add, div_coe_coe (msq_pos 1024 H i (by norm_num)).ne', div_coe_coe (by norm_num : (1024 : ℝ) ≠ 0),
    Fin.sum_univ_one]

theorem result_dh : val_main_v123 (F := Ideal) x0 x1 x2 x3 x4 x5 x6 x7 x8 x9 x10 x11 = fun i => x11 i + (dh H G Wd GK Wu CO SI K0 K1 V0 V1 (i 0) (i 1) : EReal) := by
  funext j
  idx_vars j
  pointwise [val_main_v123, val_main_v122, val_main_v121, val_main_v120, val_main_v119, val_main_v114, val_main_v113, val_main_v112, val_main_v107, val_main_v106, val_main_v13,
    root hh, normed_d hh hg hw hk0 hk1 hv0 hv1 hu hk hc hs, factor hh hg hw hk0 hk1 hv0 hv1 hu hk hc hs, hh, hg]
  unfold dh
  rw [← bwd_eq 1024 _ _ _ _ _ (by norm_num)]
  simp only [← EReal.coe_mul, add_assoc, ← EReal.coe_add]

end Results

end Cert.KvRefIdeal.Proof

end
-- ==== Proof.KvPre.lean ====
module

public import proofs.«01_k».proof.Pre_kv_finite
public import proofs.«01_k».proof.Proof.Reals
public import Idealize.ShloMosaic.Lib.Pointwise

@[expose] public section

set_option maxRecDepth 16384

noncomputable section

namespace Cert.Pre_kv_finite.Proof

open Cert.Pre_kv_finite Idealize.ShloMosaic Cert.Reals

variable [Facts]

/-- The precondition says that every argument but the residual's gradient is an array of reals. -/
theorem reals (x0 : FVec Ideal S4096x1024 .f32) (x1 : FVec Ideal S1024 .f32) (x2 : FVec Ideal S1024x320 .f32) (x3 : FVec Ideal S256 .f32) (x4 : FVec Ideal S256x2048 .f32) (x5 : FVec Ideal S4096x32 .f32) (x6 : FVec Ideal S4096x32 .f32) (x7 : FVec Ideal S4096x8x192 .f32) (x8 : FVec Ideal S4096x8x192 .f32) (x9 : FVec Ideal S4096x8x128 .f32) (x10 : FVec Ideal S4096x8x128 .f32) (x11 : FVec Ideal S4096x1024 .f32)
    (e : fn (F := Ideal) x0 x1 x2 x3 x4 x5 x6 x7 x8 x9 x10 x11 = fun _ => 1#1) :
    (∃ r : S4096x1024.Idx → ℝ, x0 = fun i => (r i : EReal))
    ∧ (∃ r : S1024.Idx → ℝ, x1 = fun i => (r i : EReal))
    ∧ (∃ r : S1024x320.Idx → ℝ, x2 = fun i => (r i : EReal))
    ∧ (∃ r : S256.Idx → ℝ, x3 = fun i => (r i : EReal))
    ∧ (∃ r : S256x2048.Idx → ℝ, x4 = fun i => (r i : EReal))
    ∧ (∃ r : S4096x32.Idx → ℝ, x5 = fun i => (r i : EReal))
    ∧ (∃ r : S4096x32.Idx → ℝ, x6 = fun i => (r i : EReal))
    ∧ (∃ r : S4096x8x192.Idx → ℝ, x7 = fun i => (r i : EReal))
    ∧ (∃ r : S4096x8x192.Idx → ℝ, x8 = fun i => (r i : EReal))
    ∧ (∃ r : S4096x8x128.Idx → ℝ, x9 = fun i => (r i : EReal))
    ∧ (∃ r : S4096x8x128.Idx → ℝ, x10 = fun i => (r i : EReal)) := by
  have e0 := congrFun e ix0
  unfold fn fn_part1 at e0
  dsimp only at e0
  obtain ⟨e0, h10⟩ := IntOp.andi_eq_one.1 e0
  obtain ⟨e0, h9⟩ := IntOp.andi_eq_one.1 e0
  obtain ⟨e0, h8⟩ := IntOp.andi_eq_one.1 e0
  obtain ⟨e0, h7⟩ := IntOp.andi_eq_one.1 e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3, reals_of_finite _ _ _ _ _ _ h4, reals_of_finite _ _ _ _ _ _ h5, reals_of_finite _ _ _ _ _ _ h6, reals_of_finite _ _ _ _ _ _ h7, reals_of_finite _ _ _ _ _ _ h8, reals_of_finite _ _ _ _ _ _ h9, reals_of_finite _ _ _ _ _ _ h10⟩

end Cert.Pre_kv_finite.Proof

end
-- ==== Proof.KvClaim.lean ====
module

public import proofs.«01_k».proof.Defs
public import proofs.«01_k».proof.Proof.KvKernel
public import proofs.«01_k».proof.Proof.KvRef
public import proofs.«01_k».proof.Proof.KvPre
public import proofs.«01_k».proof.Proof.Gen.KvRefIdeal.Run
public import proofs.«01_k».proof.Proof.Gen.Pre_kv_finite
public import Idealize.ShloMosaic.Lib.Claim

@[expose] public section

set_option maxRecDepth 16384

noncomputable section

namespace Cert.Proof

open Idealize.ShloMosaic Idealize.SL.Sem

set_option maxHeartbeats 1600000 in
theorem kv : Cert.algebraic_KvIdeal_KvRefIdeal_pre_kv_finite (hKvIdeal := Cert.KvIdeal.Gen.facts)
    (hKvRefIdeal := Cert.KvRefIdeal.Gen.facts) (hPre_kv_finite := Cert.Pre_kv_finite.Gen.facts) := by
  intro m g m' g' hpre hagree
  have hr := fun c => Cert.Pre_kv_finite.Proof.reals _ _ _ _ _ _ _ _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2.1
  choose r5 h5 using fun c => (hr c).2.2.2.2.2.1
  choose r6 h6 using fun c => (hr c).2.2.2.2.2.2.1
  choose r7 h7 using fun c => (hr c).2.2.2.2.2.2.2.1
  choose r8 h8 using fun c => (hr c).2.2.2.2.2.2.2.2.1
  choose r9 h9 using fun c => (hr c).2.2.2.2.2.2.2.2.2.1
  choose r10 h10 using fun c => (hr c).2.2.2.2.2.2.2.2.2.2
  have hk := fun c => Cert.KvIdeal.Proof.Reals.mk (m := m) (c := c) (fun i k => congrFun (h0 c) (ix2 i k)) (fun i => congrFun (h1 c) (ix1 i)) (fun i k => congrFun (h2 c) (ix2 i k)) (fun i => congrFun (h3 c) (ix1 i)) (fun i k => congrFun (h4 c) (ix2 i k)) (fun i k => congrFun (h5 c) (ix2 i k)) (fun i k => congrFun (h6 c) (ix2 i k)) (fun i k e => congrFun (h7 c) (ix3 i k e)) (fun i k e => congrFun (h8 c) (ix3 i k e)) (fun i k e => congrFun (h9 c) (ix3 i k e)) (fun i k e => congrFun (h10 c) (ix3 i k e))
  refine ⟨fun c => (Cert.KvIdeal.Gen.dats m 0 c).arrAt 13 (Cert.KvIdeal.cfgs 0).N, fun c => (Cert.KvIdeal.Gen.dats m 0 c).arrAt 14 (Cert.KvIdeal.cfgs 0).N, fun c => (Cert.KvIdeal.Gen.dats m 0 c).arrAt 15 (Cert.KvIdeal.cfgs 0).N, fun c => (Cert.KvIdeal.Gen.dats m 0 c).arrAt 16 (Cert.KvIdeal.cfgs 0).N, fun c => (Cert.KvIdeal.Gen.dats m 0 c).arrAt 17 (Cert.KvIdeal.cfgs 0).N, ?_, ?_⟩
  · exact Cert.KvIdeal.Proof.run_at m g
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.KvRefIdeal.Value.run m' g')
    · obtain ⟨a0, a1, a2, a3, a4, a5, a6, a7, a8, a9, a10, a11⟩ := hagree c
      refine (Cert.KvRefIdeal.Read.val_main_v123_eq m' c).trans ?_
      rw [a0, a1, a2, a3, a4, a5, a6, a7, a8, a9, a10, a11]
      exact (Cert.KvRefIdeal.Proof.result_dh (hk c).h (hk c).g (hk c).wd (hk c).k0 (hk c).k1 (hk c).v0 (hk c).v1 (hk c).wu (hk c).gk (hk c).co (hk c).si).trans (Cert.KvIdeal.Proof.result_h m c (hk c) (fun i => rfl)).symm
    · obtain ⟨a0, a1, a2, a3, a4, a5, a6, a7, a8, a9, a10, a11⟩ := hagree c
      refine (Cert.KvRefIdeal.Read.val_main_v126_eq m' c).trans ?_
      rw [a0, a1, a2, a3, a7, a8, a9, a10]
      exact (Cert.KvRefIdeal.Proof.result_dwu (hk c).h (hk c).g (hk c).wd (hk c).k0 (hk c).k1 (hk c).v0 (hk c).v1 (hk c).gk).trans (Cert.KvIdeal.Proof.result_uk m c (hk c)).symm
    · obtain ⟨a0, a1, a2, a3, a4, a5, a6, a7, a8, a9, a10, a11⟩ := hagree c
      refine (Cert.KvRefIdeal.Read.val_main_v128_eq m' c).trans ?_
      rw [a0, a1, a2, a3, a4, a5, a6, a7, a8, a9, a10]
      exact (Cert.KvRefIdeal.Proof.result_dwd (hk c).h (hk c).g (hk c).wd (hk c).k0 (hk c).k1 (hk c).v0 (hk c).v1 (hk c).wu (hk c).gk (hk c).co (hk c).si).trans (Cert.KvIdeal.Proof.result_wd m c (hk c)).symm
    · obtain ⟨a0, a1, a2, a3, a4, a5, a6, a7, a8, a9, a10, a11⟩ := hagree c
      refine (Cert.KvRefIdeal.Read.val_main_v129_eq m' c).trans ?_
      rw [a0, a1, a2, a4, a7, a8, a9, a10]
      exact (Cert.KvRefIdeal.Proof.result_dgk (hk c).h (hk c).g (hk c).wd (hk c).k0 (hk c).k1 (hk c).v0 (hk c).v1 (hk c).wu).trans (Cert.KvIdeal.Proof.result_gk m c (hk c)).symm
    · obtain ⟨a0, a1, a2, a3, a4, a5, a6, a7, a8, a9, a10, a11⟩ := hagree c
      refine (Cert.KvRefIdeal.Read.val_main_v130_eq m' c).trans ?_
      rw [a0, a1, a2, a3, a4, a5, a6, a7, a8, a9, a10]
      exact (Cert.KvRefIdeal.Proof.result_dg (hk c).h (hk c).g (hk c).wd (hk c).k0 (hk c).k1 (hk c).v0 (hk c).v1 (hk c).wu (hk c).gk (hk c).co (hk c).si).trans (Cert.KvIdeal.Proof.result_g m c (hk c)).symm

end Cert.Proof

end
-- ==== Proof.FwdMath.lean ====
/- The rows of causal attention block of keys by block of keys: the running maximum, the running sum and the running result. -/
module

public import proofs.«01_k».proof.Proof.Reals

@[expose] public section

noncomputable section

namespace Cert.FwdMath

open Idealize.ShloMosaic
open Finset
open Cert.Reals

/-! ## One update over the extended reals -/

section Update

variable {B : ℕ} (m l : EReal) (f : Fin B → EReal)

/-- The new maximum, sum and result after a block of scores `f` whose values are `w`. -/
def nm : EReal := max m (fold max (Ideal.ofBits .f32 0xFF800000#32) f univ)
def nl : EReal := Ideal.exp (m - nm m f) * l + ∑ j, Ideal.exp (f j - nm m f)
def na (a : EReal) (w : Fin B → EReal) : EReal := Ideal.exp (m - nm m f) * a + ∑ j, Ideal.exp (f j - nm m f) * w j

end Update

/-- A maximum of scores of which one is real and none is plus infinity is real. -/
theorem nm_real {B : ℕ} (m : EReal) (f : Fin B → EReal) (hm : m < ⊤) (h : ∀ j, f j < ⊤) (i : Fin B) (hi : ⊥ < f i) : ∃ M : ℝ, nm m f = (M : EReal) := by
  have hb : Ideal.ofBits .f32 0xFF800000#32 = ⊥ := by simp [Ideal.ofBits, Ideal.ieee]
  have h1 : nm m f < ⊤ := by
    unfold nm
    rw [hb]
    exact max_lt hm ((fold_max_lt _).2 ⟨bot_lt_top, fun j _ => h j⟩)
  have h2 : ⊥ < nm m f := by
    unfold nm
    rw [hb]
    exact lt_max_of_lt_right (hi.trans_le (le_fold_max _ |>.2 (Or.inr ⟨i, mem_univ i, le_rfl⟩)))
  exact ⟨(nm m f).toReal, (EReal.coe_toReal h1.ne h2.ne').symm⟩

/-! ## One head over the reals -/

/-- One head's queries, keys and values. -/
structure Head where
  q : ℕ → Fin 256 → ℝ
  k : ℕ → Fin 256 → ℝ
  v : ℕ → Fin 128 → ℝ

namespace Head

variable (H : Head)

/-- The score of key `c` for query `r`, and its exponential for a key not after the query. -/
def sc (r c : ℕ) : ℝ := ∑ d, H.q r d * H.k c d
def w (r c : ℕ) : ℝ := if c ≤ r then Real.exp (H.sc r c) else 0

/-- The sum and the weighted values of the first `n` keys. -/
def Z (n r : ℕ) : ℝ := ∑ c ∈ range n, H.w r c
def A (n r : ℕ) (e : Fin 128) : ℝ := ∑ c ∈ range n, H.w r c * H.v c e

theorem w_nonneg (r c : ℕ) : 0 ≤ H.w r c := by unfold w; split; exacts [(Real.exp_pos _).le, le_rfl]

theorem Z_pos {n r : ℕ} (hn : 0 < n) : 0 < H.Z n r :=
  sum_pos' (fun c _ => H.w_nonneg r c) ⟨0, mem_range.2 hn, by unfold w; rw [if_pos (Nat.zero_le r)]; exact Real.exp_pos _⟩

theorem Z_add (n B r : ℕ) : H.Z (n + B) r = H.Z n r + ∑ j : Fin B, H.w r (n + j.val) := by
  unfold Z; rw [sum_range_add, Finset.sum_range (fun x => H.w r (n + x))]

theorem A_add (n B r : ℕ) (e : Fin 128) : H.A (n + B) r e = H.A n r e + ∑ j : Fin B, H.w r (n + j.val) * H.v (n + j.val) e := by
  unfold A; rw [sum_range_add, Finset.sum_range (fun x => H.w r (n + x) * H.v (n + x) e)]

/-- The keys after the query give nothing. -/
theorem Z_past {n r : ℕ} (B : ℕ) (h : r < n) : H.Z (n + B) r = H.Z n r := by
  rw [Z_add, add_eq_left]
  exact sum_eq_zero fun j _ => if_neg (by omega)
theorem A_past {n r : ℕ} (B : ℕ) (e : Fin 128) (h : r < n) : H.A (n + B) r e = H.A n r e := by
  rw [A_add, add_eq_left]
  exact sum_eq_zero fun j _ => by unfold w; rw [if_neg (by omega), zero_mul]

/-- What the running maximum, sum and result of query `r` are after the first `n` keys: at the start minus infinity and zeros, then the
    sum and the result over some real shift. -/
def Holds (n r : ℕ) (m l : EReal) (a : Fin 128 → EReal) : Prop :=
  (n = 0 ∧ m = ⊥ ∧ l = 0 ∧ ∀ e, a e = 0) ∨
  ∃ M : ℝ, m = (M : EReal) ∧ l = ((H.Z n r * Real.exp (-M) : ℝ) : EReal) ∧ ∀ e, a e = ((H.A n r e * Real.exp (-M) : ℝ) : EReal)

theorem Holds.lt_top {H : Head} {n r : ℕ} {m l : EReal} {a : Fin 128 → EReal} (h : H.Holds n r m l a) : m < ⊤ := by
  rcases h with ⟨-, hm, -⟩ | ⟨M, hm, -⟩
  · rw [hm]; exact bot_lt_top
  · rw [hm]; exact EReal.coe_lt_top M

/-- One update by the keys `[n, n + B)`, of which at least the first is not after the query. -/
theorem Holds.step {H : Head} {n r B : ℕ} {m l : EReal} {a : Fin 128 → EReal} (h : H.Holds n r m l a) (hB : 0 < B) (hn : n ≤ r) (f : Fin B → EReal)
    (hf : ∀ j, f j = if n + j.val ≤ r then (H.sc r (n + j.val) : EReal) else ⊥) (w : Fin B → Fin 128 → EReal) (hw : ∀ j e, w j e = (H.v (n + j.val) e : EReal)) :
    H.Holds (n + B) r (nm m f) (nl m l f) (fun e => na m f (a e) (fun j => w j e)) := by
  obtain ⟨M, hM⟩ := nm_real m f h.lt_top (fun j => by rw [hf j]; split; exacts [EReal.coe_lt_top _, bot_lt_top]) ⟨0, hB⟩
    (by rw [hf, if_pos (by simpa using hn)]; exact EReal.bot_lt_coe _)
  have he : ∀ j, Ideal.exp (f j - nm m f) = ((H.w r (n + j.val) * Real.exp (-M) : ℝ) : EReal) := fun j => by
    rw [hM, hf j]
    unfold Head.w
    split
    · rw [← EReal.coe_sub, Ideal.exp_coe, ← Real.exp_add, sub_eq_add_neg]
    · rw [EReal.bot_sub, Ideal.exp_bot, zero_mul, EReal.coe_zero]
  refine Or.inr ⟨M, hM, ?_, fun e => ?_⟩
  · unfold nl
    simp only [he]
    rw [coe_sum, hM, Z_add, add_mul, sum_mul]
    rcases h with ⟨rfl, rfl, rfl, -⟩ | ⟨M', rfl, rfl, -⟩
    · rw [mul_zero, zero_add]
      simp [Z]
    · rw [← EReal.coe_sub, Ideal.exp_coe, ← EReal.coe_mul, ← EReal.coe_add, ← mul_assoc, mul_comm (Real.exp _), mul_assoc, ← Real.exp_add]
      congr 4; ring
  · unfold na
    simp only [he, hw, ← EReal.coe_mul]
    rw [coe_sum, hM, A_add, add_mul, sum_mul]
    have hs : ∑ j : Fin B, H.w r (n + j.val) * Real.exp (-M) * H.v (n + j.val) e = ∑ j : Fin B, H.w r (n + j.val) * H.v (n + j.val) e * Real.exp (-M) :=
      sum_congr rfl fun j _ => by ring
    rw [hs]
    rcases h with ⟨rfl, rfl, -, ha⟩ | ⟨M', rfl, -, ha⟩
    · rw [ha, mul_zero, zero_add]
      simp [A]
    · rw [ha, ← EReal.coe_sub, Ideal.exp_coe, ← EReal.coe_mul, ← EReal.coe_add, ← mul_assoc, mul_comm (Real.exp _), mul_assoc, ← Real.exp_add]
      congr 4; ring

/-- The query's result and the logarithm of its sum. -/
theorem Holds.result {H : Head} {n r : ℕ} {m l : EReal} {a : Fin 128 → EReal} (h : H.Holds n r m l a) (hn : 0 < n) :
    (∀ e, Ideal.div (a e) l = ((H.A n r e / H.Z n r : ℝ) : EReal)) ∧ m + Ideal.log l = ((Real.log (H.Z n r) : ℝ) : EReal) := by
  rcases h with ⟨rfl, -⟩ | ⟨M, rfl, rfl, ha⟩
  · exact absurd hn (lt_irrefl 0)
  have hz := H.Z_pos (r := r) hn
  have hp : 0 < H.Z n r * Real.exp (-M) := mul_pos hz (Real.exp_pos _)
  refine ⟨fun e => ?_, ?_⟩
  · rw [ha, div_coe_coe hp.ne', mul_div_mul_right _ _ (Real.exp_pos _).ne']
  · rw [Ideal.log_coe, if_neg (not_le.2 hp), ← EReal.coe_add, Real.log_mul hz.ne' (Real.exp_pos _).ne', Real.log_exp]
    congr 1; ring

end Head

end Cert.FwdMath

end
-- ==== Proof.FwdPay.lean ====
/- The body's terms over blocks: each update of the running maximum, sum and result, the mask and what the point stores. -/
module

public import proofs.«01_k».proof.Proof.Gen.FwdIdeal.Skeleton
public import proofs.«01_k».proof.Proof.FwdMath
public import Idealize.ShloMosaic.Lib.Pipeline.ValueKit
public import Idealize.ShloMosaic.Lib.Pointwise
public import Idealize.ShloMosaic.PureOps.IdealRules
public import Idealize.ShloMosaic.Lib.WordCmp

@[expose] public section

set_option maxRecDepth 16384

noncomputable section

namespace Cert.FwdIdeal.Proof

open Cert.FwdIdeal Cert.FwdIdeal.Gen
open Idealize.ShloMosaic Idealize.ShloMosaic.TcCoe
open Cert.Reals Cert.FwdMath

theorem mask_const : (Named.named (F := Ideal) κ "mask" (φ := .f32) 0xF149F2CA#32) = (⊥ : EReal) :=
  IdealRules.named_const.ideal_named_scalar _ _ _ _ rfl

theorem select_sle {α : Type} (y p : Fin 512) (a b : α) :
    Scalar.select (IntOp.cmpi CmpIPredicate.sle (BitVec.ofNat 32 y.val) (BitVec.ofNat 32 p.val)) a b = if y.val ≤ p.val then a else b := by
  unfold Scalar.select
  exact if_congr (WordCmp.cmpi_sle_ofNat_eq_one_iff (by have := y.isLt; omega) (by have := p.isLt; omega)) rfl rfl

/-! ### The start, the queries, the keys and the values -/

theorem pay_start_m (p : Fin 512) : k0_pay32 (F := Ideal) (ix2 p 0) = (⊥ : EReal) := by
  pointwise [k0_pay32]
  exact mask_const
theorem pay_start_l (p : Fin 512) : k0_pay33 (F := Ideal) (ix2 p 0) = (0 : EReal) := by pointwise [k0_pay33]
theorem pay_start_a (p : Fin 512) (e : Fin 128) : k0_pay34 (F := Ideal) (ix2 p e) = (0 : EReal) := by pointwise [k0_pay34]

theorem pay_qa (v : Vec Ideal S1x512x256 .bf16) (p : Fin 512) (d : Fin 256) : k0_pay30 (F := Ideal) v (ix2 p d) = v (ix3 0 p d) := by pointwise [k0_pay30]
theorem pay_k0 (v : Vec Ideal S1x512x256 .bf16) (p : Fin 512) (d : Fin 256) : k0_pay35 (F := Ideal) v (ix2 p d) = v (ix3 0 p d) := by pointwise [k0_pay35]
theorem pay_v0 (v : Vec Ideal S1x512x128 .bf16) (p : Fin 512) (d : Fin 128) : k0_pay36 (F := Ideal) v (ix2 p d) = v (ix3 0 p d) := by pointwise [k0_pay36]

/-! ### An update by 1024 keys -/

section Wide

variable (q : FVec Ideal S512x256 .bf16) (k : Vec Ideal S1x1024x256 .bf16) (v : Vec Ideal S1x1024x128 .bf16)
  (m l : FVec Ideal S512x1 .f32) (a : FVec Ideal S512x128 .f32) (p : Fin 512) (e : Fin 128)

theorem wide_s (y : Fin 1024) (Q K : Fin 256 → ℝ) (hq : ∀ d, q (ix2 p d) = (Q d : EReal)) (hk : ∀ d, k (ix3 0 y d) = (K d : EReal)) :
    k0_pay4 (F := Ideal) q k (ix2 p y) = ((∑ d, Q d * K d : ℝ) : EReal) := by
  pointwise [k0_pay4, k0_pay2, hq, hk]
  simp only [← EReal.coe_mul, coe_sum]

theorem wide_m : k0_pay5 (F := Ideal) q m k (ix2 p 0) = nm (m (ix2 p 0)) (fun y : Fin 1024 => k0_pay4 (F := Ideal) q k (ix2 p y)) := by
  pointwise [k0_pay5]
  rfl

theorem wide_e (y : Fin 1024) : k0_pay6 (F := Ideal) q m k (ix2 p y)
    = Ideal.exp (k0_pay4 (F := Ideal) q k (ix2 p y) - nm (m (ix2 p 0)) (fun y : Fin 1024 => k0_pay4 (F := Ideal) q k (ix2 p y))) := by
  pointwise [k0_pay6, wide_m]

theorem wide_c : k0_pay7 (F := Ideal) q m k (ix2 p 0)
    = Ideal.exp (m (ix2 p 0) - nm (m (ix2 p 0)) (fun y : Fin 1024 => k0_pay4 (F := Ideal) q k (ix2 p y))) := by
  pointwise [k0_pay7, wide_m]

theorem wide_l : k0_pay8 (F := Ideal) q m l k (ix2 p 0)
    = nl (m (ix2 p 0)) (l (ix2 p 0)) (fun y : Fin 1024 => k0_pay4 (F := Ideal) q k (ix2 p y)) := by
  pointwise [k0_pay8, wide_c, wide_e]
  rfl

theorem wide_a : k0_pay9 (F := Ideal) q m a k v (ix2 p e)
    = na (m (ix2 p 0)) (fun y : Fin 1024 => k0_pay4 (F := Ideal) q k (ix2 p y)) (a (ix2 p e)) (fun y => v (ix3 0 y e)) := by
  pointwise [k0_pay9, wide_c, wide_e, k0_pay3]
  rfl

end Wide

/-! ### The upper half's update by the 512 keys on the diagonal -/

section Diag

variable (q k : FVec Ideal S512x256 .bf16) (v : FVec Ideal S512x128 .bf16)
  (m l : FVec Ideal S512x1 .f32) (a : FVec Ideal S512x128 .f32) (p : Fin 512) (e : Fin 128)

theorem diag_s (y : Fin 512) (Q K : Fin 256 → ℝ) (hq : ∀ d, q (ix2 p d) = (Q d : EReal)) (hk : ∀ d, k (ix2 y d) = (K d : EReal)) :
    k0_pay39 (F := Ideal) q k (ix2 p y) = if y.val ≤ p.val then ((∑ d, Q d * K d : ℝ) : EReal) else ⊥ := by
  pointwise [k0_pay39, hq, hk]
  simp only [← EReal.coe_mul, coe_sum]
  rw [mask_const]
  exact select_sle y p _ _

theorem diag_m : k0_pay40 (F := Ideal) q m k (ix2 p 0) = nm (m (ix2 p 0)) (fun y : Fin 512 => k0_pay39 (F := Ideal) q k (ix2 p y)) := by
  pointwise [k0_pay40]
  rfl

theorem diag_e (y : Fin 512) : k0_pay41 (F := Ideal) q m k (ix2 p y)
    = Ideal.exp (k0_pay39 (F := Ideal) q k (ix2 p y) - nm (m (ix2 p 0)) (fun y : Fin 512 => k0_pay39 (F := Ideal) q k (ix2 p y))) := by
  pointwise [k0_pay41, diag_m]

theorem diag_c : k0_pay42 (F := Ideal) q m k (ix2 p 0)
    = Ideal.exp (m (ix2 p 0) - nm (m (ix2 p 0)) (fun y : Fin 512 => k0_pay39 (F := Ideal) q k (ix2 p y))) := by
  pointwise [k0_pay42, diag_m]

theorem diag_l : k0_pay43 (F := Ideal) q m l k (ix2 p 0)
    = nl (m (ix2 p 0)) (l (ix2 p 0)) (fun y : Fin 512 => k0_pay39 (F := Ideal) q k (ix2 p y)) := by
  pointwise [k0_pay43, diag_c, diag_e]
  rfl

theorem diag_a : k0_pay44 (F := Ideal) q m a k v (ix2 p e)
    = na (m (ix2 p 0)) (fun y : Fin 512 => k0_pay39 (F := Ideal) q k (ix2 p y)) (a (ix2 p e)) (fun y => v (ix2 y e)) := by
  pointwise [k0_pay44, diag_c, diag_e]
  rfl

/-! ### The lower half's update by the 512 keys before its diagonal -/

theorem low_s (y : Fin 512) (Q K : Fin 256 → ℝ) (hq : ∀ d, q (ix2 p d) = (Q d : EReal)) (hk : ∀ d, k (ix2 y d) = (K d : EReal)) :
    k0_pay45 (F := Ideal) q k (ix2 p y) = ((∑ d, Q d * K d : ℝ) : EReal) := by
  pointwise [k0_pay45, hq, hk]
  simp only [← EReal.coe_mul, coe_sum]

theorem low_m : k0_pay46 (F := Ideal) q m k (ix2 p 0) = nm (m (ix2 p 0)) (fun y : Fin 512 => k0_pay45 (F := Ideal) q k (ix2 p y)) := by
  pointwise [k0_pay46]
  rfl

theorem low_e (y : Fin 512) : k0_pay47 (F := Ideal) q m k (ix2 p y)
    = Ideal.exp (k0_pay45 (F := Ideal) q k (ix2 p y) - nm (m (ix2 p 0)) (fun y : Fin 512 => k0_pay45 (F := Ideal) q k (ix2 p y))) := by
  pointwise [k0_pay47, low_m]

theorem low_c : k0_pay48 (F := Ideal) q m k (ix2 p 0)
    = Ideal.exp (m (ix2 p 0) - nm (m (ix2 p 0)) (fun y : Fin 512 => k0_pay45 (F := Ideal) q k (ix2 p y))) := by
  pointwise [k0_pay48, low_m]

theorem low_l : k0_pay49 (F := Ideal) q m l k (ix2 p 0)
    = nl (m (ix2 p 0)) (l (ix2 p 0)) (fun y : Fin 512 => k0_pay45 (F := Ideal) q k (ix2 p y)) := by
  pointwise [k0_pay49, low_c, low_e]
  rfl

/-- The lower half's running result after those keys, of which the body keeps the two terms. -/
abbrev lowA : FVec Ideal S512x128 .f32 := fun i => na (m (ix2 (i 0) 0)) (fun y : Fin 512 => k0_pay45 (F := Ideal) q k (ix2 (i 0) y)) (a i) (fun y => v (ix2 y (i 1)))

/-! ### The lower half's update by the 512 keys on its diagonal, and its stores -/

variable (k' : FVec Ideal S512x256 .bf16) (v' : FVec Ideal S512x128 .bf16) (m' l' : FVec Ideal S512x1 .f32)

theorem last_s (y : Fin 512) (Q K : Fin 256 → ℝ) (hq : ∀ d, q (ix2 p d) = (Q d : EReal)) (hk : ∀ d, k (ix2 y d) = (K d : EReal)) :
    k0_pay52 (F := Ideal) q k (ix2 p y) = if y.val ≤ p.val then ((∑ d, Q d * K d : ℝ) : EReal) else ⊥ := diag_s q k p y Q K hq hk

theorem last_m : k0_pay53 (F := Ideal) q k m (ix2 p 0) = nm (m (ix2 p 0)) (fun y : Fin 512 => k0_pay52 (F := Ideal) q k (ix2 p y)) := diag_m q k m p

theorem last_e (y : Fin 512) : k0_pay54 (F := Ideal) q k m (ix2 p y)
    = Ideal.exp (k0_pay52 (F := Ideal) q k (ix2 p y) - nm (m (ix2 p 0)) (fun y : Fin 512 => k0_pay52 (F := Ideal) q k (ix2 p y))) := diag_e q k m p y

theorem last_c : k0_pay55 (F := Ideal) q k m (ix2 p 0)
    = Ideal.exp (m (ix2 p 0) - nm (m (ix2 p 0)) (fun y : Fin 512 => k0_pay52 (F := Ideal) q k (ix2 p y))) := diag_c q k m p

theorem last_l : k0_pay56 (F := Ideal) q k m l (ix2 p 0)
    = nl (m (ix2 p 0)) (l (ix2 p 0)) (fun y : Fin 512 => k0_pay52 (F := Ideal) q k (ix2 p y)) := diag_l q k m l p

theorem last_o : k0_pay59 (F := Ideal) q v k' v' m' l' (k0_pay50 q m a k) (k0_pay51 q m k) (ix2 p e)
    = Ideal.div (na (m' (ix2 p 0)) (fun y : Fin 512 => k0_pay52 (F := Ideal) q k' (ix2 p y))
          (na (m (ix2 p 0)) (fun y : Fin 512 => k0_pay45 (F := Ideal) q k (ix2 p y)) (a (ix2 p e)) (fun y => v (ix2 y e))) (fun y => v' (ix2 y e)))
        (nl (m' (ix2 p 0)) (l' (ix2 p 0)) (fun y : Fin 512 => k0_pay52 (F := Ideal) q k' (ix2 p y))) := by
  pointwise [k0_pay59, k0_pay50, k0_pay51, last_c, last_e, last_l, low_c, low_e]
  rfl

theorem last_lse : k0_pay1 (F := Ideal) (k0_pay60 q k m l) (ix3 0 p e)
    = nm (m (ix2 p 0)) (fun y : Fin 512 => k0_pay52 (F := Ideal) q k (ix2 p y))
      + Ideal.log (nl (m (ix2 p 0)) (l (ix2 p 0)) (fun y : Fin 512 => k0_pay52 (F := Ideal) q k (ix2 p y))) := by
  pointwise [k0_pay1, k0_pay60, last_m, last_l]

theorem diag_o : k0_pay57 (F := Ideal) l a (ix2 p e) = Ideal.div (a (ix2 p e)) (l (ix2 p 0)) := by pointwise [k0_pay57]
theorem diag_lse : k0_pay58 (F := Ideal) m l (ix3 0 p e) = m (ix2 p 0) + Ideal.log (l (ix2 p 0)) := by pointwise [k0_pay58]

end Diag

end Cert.FwdIdeal.Proof

end
-- ==== Proof.Loads.lean ====
/- Loads of rows of a window of known contents, and two stores that fill one. -/
module

public import Idealize.ShloMosaic.Lib.Pipeline.ValueKit
public import Idealize.ShloMosaic.Lib.Pointwise

@[expose] public section

noncomputable section

namespace Cert.Loads

open Idealize.ShloMosaic Idealize.ShloMosaic.TcCoe

variable {sig : RefSig} {e : EltTy}

/-- A load of rows `[o, o + R)` of the one matrix of a batch of one. -/
theorem load {N C R : ℕ} (M : Memref sig .tc .vmem ⟨3, ![1, N, C]⟩ e) (hM : M.IsWhole) (x : Vec Ideal ⟨3, ![1, N, C]⟩ e) {off : Fin 3 → ℕ}
    (inb : ∀ a, off a + (![1, R, C] : Fin 3 → ℕ) a ≤ (⟨3, ![1, N, C]⟩ : Shape).size a) (o : ℕ) (ho : off = ![0, o, 0]) (p : Fin R) (d : Fin C)
    (q : Fin N) (hq : q.val = o + p.val) :
    View.readAt (Elt Ideal) M.view (Rect.unit (s := ⟨3, ![1, N, C]⟩) off ![1, R, C] inb).toLoadRect (hM.unread x) (@ix3 1 R C 0 p d) = x (ix3 0 q d) := by
  subst ho
  refine (congrFun (hM.read_unread x) _).trans (congrArg x (funext fun a => Fin.ext ?_))
  fin_cases a
  · rfl
  · exact (congrArg (o + ·) (Nat.one_mul _)).trans hq.symm
  · exact (congrArg (0 + ·) (Nat.one_mul _)).trans (Nat.zero_add _)

/-- Two stores of the halves of a matrix, at an index of the first half and at one of the second. -/
theorem halves {κ : Kind} {sp : Space} {N B C : ℕ} (v : View sig κ sp ⟨2, ![N, C]⟩ e) (f : v.ty.Contents (Elt Ideal)) (hN : N = B + B)
    (i0 : ∀ a : Fin 2, (![0, 0] : Fin 2 → ℕ) a + (![B, C] : Fin 2 → ℕ) a ≤ (⟨2, ![N, C]⟩ : Shape).size a)
    (i1 : ∀ a : Fin 2, (![B, 0] : Fin 2 → ℕ) a + (![B, C] : Fin 2 → ℕ) a ≤ (⟨2, ![N, C]⟩ : Shape).size a)
    (w0 w1 : (⟨2, ![B, C]⟩ : Shape).Idx → Elt Ideal e) (L : List (View.Piece (Elt Ideal) ⟨2, ![N, C]⟩ e)) (p : Fin B) (j : Fin C) :
    v.read (Elt Ideal) (v.writes (Elt Ideal) f (⟨Rect.unit ![B, 0] ![B, C] i1, w1⟩ :: ⟨Rect.unit ![0, 0] ![B, C] i0, w0⟩ :: L)) (ix2 ⟨p.val, by omega⟩ j) = w0 (ix2 p j)
    ∧ v.read (Elt Ideal) (v.writes (Elt Ideal) f (⟨Rect.unit ![B, 0] ![B, C] i1, w1⟩ :: ⟨Rect.unit ![0, 0] ![B, C] i0, w0⟩ :: L)) (ix2 ⟨B + p.val, by omega⟩ j) = w1 (ix2 p j) := by
  constructor
  · have he : (Rect.unit (s := (⟨2, ![N, C]⟩ : Shape)) ![0, 0] ![B, C] i0).emb (ix2 p j) = ix2 ⟨p.val, by omega⟩ j :=
      funext fun a => Fin.ext (by fin_cases a <;> simp [Rect.unit, Rect.emb])
    refine (View.read_writes_cons_miss_of_axis v f _ _ (ix2 ⟨p.val, by omega⟩ j) 0 B B rfl rfl rfl (Or.inl p.isLt)).trans
      ((congrArg _ he.symm).trans (View.read_writes_cons_emb v f (Rect.unit (s := (⟨2, ![N, C]⟩ : Shape)) ![0, 0] ![B, C] i0) w0 L (ix2 p j)))
  · have he : (Rect.unit (s := (⟨2, ![N, C]⟩ : Shape)) ![B, 0] ![B, C] i1).emb (ix2 p j) = ix2 ⟨B + p.val, by omega⟩ j :=
      funext fun a => Fin.ext (by fin_cases a <;> simp [Rect.unit, Rect.emb])
    exact (congrArg _ he.symm).trans (View.read_writes_cons_emb v f (Rect.unit (s := (⟨2, ![N, C]⟩ : Shape)) ![B, 0] ![B, C] i1) w1 _ (ix2 p j))

/-- The same of the one matrix of a batch of one. -/
theorem halves3 {κ : Kind} {sp : Space} {N B C : ℕ} (v : View sig κ sp ⟨3, ![1, N, C]⟩ e) (f : v.ty.Contents (Elt Ideal)) (hN : N = B + B)
    (i0 : ∀ a : Fin 3, (![0, 0, 0] : Fin 3 → ℕ) a + (![1, B, C] : Fin 3 → ℕ) a ≤ (⟨3, ![1, N, C]⟩ : Shape).size a)
    (i1 : ∀ a : Fin 3, (![0, B, 0] : Fin 3 → ℕ) a + (![1, B, C] : Fin 3 → ℕ) a ≤ (⟨3, ![1, N, C]⟩ : Shape).size a)
    (w0 w1 : (⟨3, ![1, B, C]⟩ : Shape).Idx → Elt Ideal e) (L : List (View.Piece (Elt Ideal) ⟨3, ![1, N, C]⟩ e)) (p : Fin B) (j : Fin C) :
    v.read (Elt Ideal) (v.writes (Elt Ideal) f (⟨Rect.unit ![0, B, 0] ![1, B, C] i1, w1⟩ :: ⟨Rect.unit ![0, 0, 0] ![1, B, C] i0, w0⟩ :: L)) (ix3 0 ⟨p.val, by omega⟩ j) = w0 (ix3 0 p j)
    ∧ v.read (Elt Ideal) (v.writes (Elt Ideal) f (⟨Rect.unit ![0, B, 0] ![1, B, C] i1, w1⟩ :: ⟨Rect.unit ![0, 0, 0] ![1, B, C] i0, w0⟩ :: L)) (ix3 0 ⟨B + p.val, by omega⟩ j) = w1 (ix3 0 p j) := by
  constructor
  · have he : (Rect.unit (s := (⟨3, ![1, N, C]⟩ : Shape)) ![0, 0, 0] ![1, B, C] i0).emb (ix3 0 p j) = ix3 0 ⟨p.val, by omega⟩ j :=
      funext fun a => Fin.ext (by fin_cases a <;> simp [Rect.unit, Rect.emb])
    refine (View.read_writes_cons_miss_of_axis v f _ _ (ix3 0 ⟨p.val, by omega⟩ j) 1 B B rfl rfl rfl (Or.inl p.isLt)).trans
      ((congrArg _ he.symm).trans (View.read_writes_cons_emb v f (Rect.unit (s := (⟨3, ![1, N, C]⟩ : Shape)) ![0, 0, 0] ![1, B, C] i0) w0 L (ix3 0 p j)))
  · have he : (Rect.unit (s := (⟨3, ![1, N, C]⟩ : Shape)) ![0, B, 0] ![1, B, C] i1).emb (ix3 0 p j) = ix3 0 ⟨B + p.val, by omega⟩ j :=
      funext fun a => Fin.ext (by fin_cases a <;> simp [Rect.unit, Rect.emb])
    exact (congrArg _ he.symm).trans (View.read_writes_cons_emb v f (Rect.unit (s := (⟨3, ![1, N, C]⟩ : Shape)) ![0, B, 0] ![1, B, C] i1) w1 _ (ix3 0 p j))

end Cert.Loads

end
-- ==== Proof.FwdPoint.lean ====
/- What one point of the grid stores: the results of 1024 queries of one head, and the logarithms of their sums. -/
module

public import proofs.«01_k».proof.Proof.Gen.FwdIdeal.Value
public import proofs.«01_k».proof.Proof.FwdPay
public import proofs.«01_k».proof.Proof.Loads

@[expose] public section

set_option maxRecDepth 16384

noncomputable section

namespace Cert.FwdIdeal.Proof

open Cert.FwdIdeal Cert.FwdIdeal.Gen
open Idealize.ShloMosaic Idealize.ShloMosaic.TcCoe
open Cert.Reals Cert.FwdMath Cert.Loads

theorem trips1 : ∀ i : grid0.Coords, Scf.trips (k0_t1_loop i).lb (k0_t1_loop i).ub (k0_t1_loop i).st = (i 1).val := by decide +kernel
theorem trips2 : ∀ i : grid0.Coords, Scf.trips (k0_t2_loop i).lb (k0_t2_loop i).ub (k0_t2_loop i).st = 0 := by decide +kernel
theorem trips1' : ∀ i : grid0.Coords, (k0_t1_loop i).trips = (i 1).val := by decide +kernel

theorem off1 : ∀ (i : grid0.Coords) (k : Fin (k0_t1_loop i).trips), k0_off1 i k = ![0, 1024 * k.val, 0] := by decide +kernel
theorem off2 : ∀ (i : grid0.Coords) (k : Fin (k0_t1_loop i).trips), k0_off2 i k = ![0, 1024 * k.val, 0] := by decide +kernel
theorem off5 : ∀ i : grid0.Coords, k0_off5 i = ![0, 1024 * (i 1).val, 0] := by decide +kernel
theorem off6 : ∀ i : grid0.Coords, k0_off6 i = ![0, 1024 * (i 1).val, 0] := by decide +kernel
theorem off7 : ∀ i : grid0.Coords, k0_off7 i = ![0, 1024 * (i 1).val + 512, 0] := by decide +kernel
theorem off8 : ∀ i : grid0.Coords, k0_off8 i = ![0, 1024 * (i 1).val + 512, 0] := by decide +kernel

/-- The running maximum, sum and result of 512 queries. -/
abbrev Half := FVec Ideal S512x1 .f32 × FVec Ideal S512x1 .f32 × FVec Ideal S512x128 .f32

/-- What they are after the first `n` keys, for the queries from `o` on. -/
def HoldsAt (H : Head) (n o : ℕ) (m l : FVec Ideal S512x1 .f32) (a : FVec Ideal S512x128 .f32) : Prop :=
  ∀ p : Fin 512, H.Holds n (o + p.val) (m (ix2 p 0)) (l (ix2 p 0)) (fun e => a (ix2 p e))

section Updates

variable {H : Head} {n o : ℕ} {m l : FVec Ideal S512x1 .f32} {a : FVec Ideal S512x128 .f32} (h : HoldsAt H n o m l a) {q : FVec Ideal S512x256 .bf16}
  (hq : ∀ p d, q (ix2 p d) = (H.q (o + p.val) d : EReal))

include h hq

theorem wide {k : Vec Ideal S1x1024x256 .bf16} {v : Vec Ideal S1x1024x128 .bf16} (hk : ∀ y d, k (ix3 0 y d) = (H.k (n + y.val) d : EReal))
    (hv : ∀ y e, v (ix3 0 y e) = (H.v (n + y.val) e : EReal)) (ho : n + 1024 ≤ o) :
    HoldsAt H (n + 1024) o (k0_pay5 (F := Ideal) q m k) (k0_pay8 (F := Ideal) q m l k) (k0_pay9 (F := Ideal) q m a k v) := fun p => by
  simp only [wide_m, wide_l, wide_a]
  refine (h p).step (by decide) (by omega) _ (fun y => ?_) (fun y e => v (ix3 0 y e)) hv
  rw [if_pos (by omega)]
  exact wide_s q k p y _ _ (hq p) (hk y)

variable {k : FVec Ideal S512x256 .bf16} {v : FVec Ideal S512x128 .bf16} (hk : ∀ y d, k (ix2 y d) = (H.k (n + y.val) d : EReal))
  (hv : ∀ y e, v (ix2 y e) = (H.v (n + y.val) e : EReal))

include hk hv

theorem low (ho : n + 512 ≤ o) (p : Fin 512) :
    H.Holds (n + 512) (o + p.val) (k0_pay46 (F := Ideal) q m k (ix2 p 0)) (k0_pay49 (F := Ideal) q m l k (ix2 p 0))
      (fun e => na (m (ix2 p 0)) (fun y : Fin 512 => k0_pay45 (F := Ideal) q k (ix2 p y)) (a (ix2 p e)) (fun y => v (ix2 y e))) := by
  simp only [low_m, low_l]
  refine (h p).step (by decide) (by omega) _ (fun y => ?_) (fun y e => v (ix2 y e)) hv
  rw [if_pos (by omega)]
  exact low_s q k p y _ _ (hq p) (hk y)

end Updates

/-- The update by the keys on the diagonal. -/
theorem diag {H : Head} {n o : ℕ} {q k : FVec Ideal S512x256 .bf16} {v : FVec Ideal S512x128 .bf16} {p : Fin 512} {m l : EReal} {a : Fin 128 → EReal}
    (h : H.Holds n (o + p.val) m l a) (hq : ∀ d, q (ix2 p d) = (H.q (o + p.val) d : EReal)) (hk : ∀ y d, k (ix2 y d) = (H.k (n + y.val) d : EReal))
    (hv : ∀ y e, v (ix2 y e) = (H.v (n + y.val) e : EReal)) (ho : o = n) :
    H.Holds (n + 512) (o + p.val) (nm m (fun y : Fin 512 => k0_pay39 (F := Ideal) q k (ix2 p y))) (nl m l (fun y : Fin 512 => k0_pay39 (F := Ideal) q k (ix2 p y)))
      (fun e => na m (fun y : Fin 512 => k0_pay39 (F := Ideal) q k (ix2 p y)) (a e) (fun y => v (ix2 y e))) := by
  refine h.step (by decide) (by omega) _ (fun y => ?_) (fun y e => v (ix2 y e)) hv
  rw [diag_s q k p y _ _ hq (hk y)]
  exact if_congr (by omega) rfl rfl

/-- Query `r`'s result and the logarithm of its sum, from all 4096 keys. -/
theorem all_keys {H : Head} {n r : ℕ} (hn : r < n) (hm : n ≤ 4096) {m l : EReal} {a : Fin 128 → EReal} (h : H.Holds n r m l a) :
    (∀ e, Ideal.div (a e) l = ((H.A 4096 r e / H.Z 4096 r : ℝ) : EReal)) ∧ m + Ideal.log l = ((Real.log (H.Z 4096 r) : ℝ) : EReal) := by
  obtain ⟨B, hB⟩ := Nat.exists_eq_add_of_le hm
  have e := h.result (by omega)
  simp only [hB, H.Z_past B hn, H.A_past B _ hn]
  exact e

section Point

variable (c : Dev nD) (i : grid0.Coords) (arg2 : Memref sig .tc .vmem S1x1024x256 .bf16) (harg2 : arg2.IsWhole) (arg3 : Memref sig .tc .vmem S1x4096x256 .bf16) (harg3 : arg3.IsWhole)
  (arg4 : Memref sig .tc .vmem S1x4096x128 .bf16) (harg4 : arg4.IsWhole) (arg5 : Memref sig .tc .vmem S1024x128 .bf16) (harg5 : arg5.IsWhole)
  (arg6 : Memref sig .tc .vmem S1x1024x128 .f32) (harg6 : arg6.IsWhole)

theorem trip_eq (v0 v2 : Vec Ideal S1x512x256 .bf16) (X3 : BufTy.Contents (Elt Ideal) arg3.view.ty) (X4 : BufTy.Contents (Elt Ideal) arg4.view.ty)
    (k : Fin (k0_t1_loop i).trips) (s : FVec Ideal S512x1 .f32 × FVec Ideal S512x1 .f32 × FVec Ideal S512x128 .f32 × FVec Ideal S512x1 .f32 × FVec Ideal S512x1 .f32 × FVec Ideal S512x128 .f32)
    (K : Vec Ideal S1x1024x256 .bf16) (hK : K = View.readAt (Elt Ideal) arg3.view (Rect.unit (s := S1x4096x256) (k0_off1 i k) S1x1024x256.size (k0_off1_inb i k)).toLoadRect X3)
    (W : Vec Ideal S1x1024x128 .bf16) (hW : W = View.readAt (Elt Ideal) arg4.view (Rect.unit (s := S1x4096x128) (k0_off2 i k) S1x1024x128.size (k0_off2_inb i k)).toLoadRect X4) :
    tripR_k0_t1 (F := Ideal) Variants.none c none i arg2 harg2 arg3 harg3 arg4 harg4 arg5 harg5 arg6 harg6 v0 v2 X3 X4 k s
    = (k0_pay5 (k0_pay30 v0) s.1 K, k0_pay8 (k0_pay30 v0) s.1 s.2.1 K, k0_pay9 (k0_pay30 v0) s.1 s.2.2.1 K W,
       k0_pay5 (k0_pay30 v2) s.2.2.2.1 K, k0_pay8 (k0_pay30 v2) s.2.2.2.1 s.2.2.2.2.1 K, k0_pay9 (k0_pay30 v2) s.2.2.2.1 s.2.2.2.2.2 K W) := by
  subst hK hW
  unfold tripR_k0_t1 trip_k0_t1
  rfl

variable {H : Head} {x0 : Vec Ideal S1x1024x256 .bf16} {x1 : Vec Ideal S1x4096x256 .bf16} {x2 : Vec Ideal S1x4096x128 .bf16}
  (hq : ∀ p d, x0 (ix3 0 p d) = (H.q (1024 * (i 1).val + p.val) d : EReal)) (hk : ∀ y d, x1 (ix3 0 y d) = (H.k y.val d : EReal))
  (hv : ∀ y e, x2 (ix3 0 y e) = (H.v y.val e : EReal))

abbrev La : Vec Ideal S1x512x256 .bf16 := View.readAt (Elt Ideal) arg2.view (Rect.unit (s := S1x1024x256) ![0, 0, 0] S1x512x256.size inb_S1x1024x256_S1x512x256_0_0_0).toLoadRect (harg2.unread x0)
abbrev Lb : Vec Ideal S1x512x256 .bf16 := View.readAt (Elt Ideal) arg2.view (Rect.unit (s := S1x1024x256) ![0, 512, 0] S1x512x256.size inb_S1x1024x256_S1x512x256_0_512_0).toLoadRect (harg2.unread x0)

/-- The carried values before trip `k`. -/
abbrev st (x0 : Vec Ideal S1x1024x256 .bf16) (x1 : Vec Ideal S1x4096x256 .bf16) (x2 : Vec Ideal S1x4096x128 .bf16) (k : ℕ) :=
  st_k0_t1 (F := Ideal) Variants.none c none i arg2 harg2 arg3 harg3 arg4 harg4 arg5 harg5 arg6 harg6 (La arg2 harg2 (x0 := x0)) (Lb arg2 harg2 (x0 := x0))
    (harg3.unread x1) (harg4.unread x2) (k0_pay32, k0_pay33, k0_pay34, k0_pay32, k0_pay33, k0_pay34) k

include hq in
theorem qa_at (p : Fin 512) (d : Fin 256) : k0_pay30 (F := Ideal) (La arg2 harg2 (x0 := x0)) (ix2 p d) = (H.q (1024 * (i 1).val + p.val) d : EReal) :=
  (pay_qa _ p d).trans ((load arg2 harg2 x0 _ 0 rfl p d ⟨p.val, by omega⟩ (Nat.zero_add _).symm).trans (hq _ d))
include hq in
theorem qb_at (p : Fin 512) (d : Fin 256) : k0_pay30 (F := Ideal) (Lb arg2 harg2 (x0 := x0)) (ix2 p d) = (H.q (1024 * (i 1).val + 512 + p.val) d : EReal) :=
  (pay_qa _ p d).trans ((load arg2 harg2 x0 _ 512 rfl p d ⟨512 + p.val, by omega⟩ rfl).trans ((hq _ d).trans (by rw [← Nat.add_assoc])))

include hq hk hv in
theorem st_at (k : ℕ) (hkn : k ≤ (i 1).val) :
    HoldsAt H (1024 * k) (1024 * (i 1).val) (st c i arg2 harg2 arg3 harg3 arg4 harg4 arg5 harg5 arg6 harg6 x0 x1 x2 k).1
      (st c i arg2 harg2 arg3 harg3 arg4 harg4 arg5 harg5 arg6 harg6 x0 x1 x2 k).2.1 (st c i arg2 harg2 arg3 harg3 arg4 harg4 arg5 harg5 arg6 harg6 x0 x1 x2 k).2.2.1
    ∧ HoldsAt H (1024 * k) (1024 * (i 1).val + 512) (st c i arg2 harg2 arg3 harg3 arg4 harg4 arg5 harg5 arg6 harg6 x0 x1 x2 k).2.2.2.1
      (st c i arg2 harg2 arg3 harg3 arg4 harg4 arg5 harg5 arg6 harg6 x0 x1 x2 k).2.2.2.2.1 (st c i arg2 harg2 arg3 harg3 arg4 harg4 arg5 harg5 arg6 harg6 x0 x1 x2 k).2.2.2.2.2 := by
  induction k with
  | zero =>
    exact ⟨fun p => Or.inl ⟨rfl, pay_start_m p, pay_start_l p, pay_start_a p⟩, fun p => Or.inl ⟨rfl, pay_start_m p, pay_start_l p, pay_start_a p⟩⟩
  | succ k ih =>
    obtain ⟨ha, hb⟩ := ih (by omega)
    have hlt : k < (k0_t1_loop i).trips := by rw [trips1']; omega
    have hi := (i 1).isLt
    have e := (st_k0_t1_succ (F := Ideal) Variants.none c none i arg2 harg2 arg3 harg3 arg4 harg4 arg5 harg5 arg6 harg6 (La arg2 harg2 (x0 := x0)) (Lb arg2 harg2 (x0 := x0))
      (harg3.unread x1) (harg4.unread x2) (k0_pay32, k0_pay33, k0_pay34, k0_pay32, k0_pay33, k0_pay34) ⟨k, hlt⟩).trans
      (trip_eq c i arg2 harg2 arg3 harg3 arg4 harg4 arg5 harg5 arg6 harg6 _ _ _ _ ⟨k, hlt⟩ _ _ rfl _ rfl)
    have hK : ∀ (y : Fin 1024) d, _ = (H.k (1024 * k + y.val) d : EReal) := fun y d =>
      (load arg3 harg3 x1 (k0_off1_inb i ⟨k, hlt⟩) (1024 * k) (off1 i ⟨k, hlt⟩) y d ⟨1024 * k + y.val, by have : (i 1).val < 4 := hi; omega⟩ rfl).trans (hk _ d)
    have hV : ∀ (y : Fin 1024) d, _ = (H.v (1024 * k + y.val) d : EReal) := fun y d =>
      (load arg4 harg4 x2 (k0_off2_inb i ⟨k, hlt⟩) (1024 * k) (off2 i ⟨k, hlt⟩) y d ⟨1024 * k + y.val, by have : (i 1).val < 4 := hi; omega⟩ rfl).trans (hv _ d)
    unfold st
    rw [show st_k0_t1 (F := Ideal) Variants.none c none i arg2 harg2 arg3 harg3 arg4 harg4 arg5 harg5 arg6 harg6 (La arg2 harg2 (x0 := x0)) (Lb arg2 harg2 (x0 := x0))
      (harg3.unread x1) (harg4.unread x2) (k0_pay32, k0_pay33, k0_pay34, k0_pay32, k0_pay33, k0_pay34) (k + 1) = _ from e]
    exact ⟨wide ha (qa_at i arg2 harg2 hq) hK hV (by omega), wide hb (qb_at i arg2 harg2 hq) hK hV (by omega)⟩

include hq hk hv in
/-- The carried values after the loops. -/
theorem carried :
    HoldsAt H (1024 * (i 1).val) (1024 * (i 1).val) (kernelRun0_A.sl.r_2 c i arg2 harg2 arg3 harg3 arg4 harg4 arg5 harg5 arg6 harg6 x0 x1 x2)
      (kernelRun0_A.sl.r_3 c i arg2 harg2 arg3 harg3 arg4 harg4 arg5 harg5 arg6 harg6 x0 x1 x2) (kernelRun0_A.sl.r_4 c i arg2 harg2 arg3 harg3 arg4 harg4 arg5 harg5 arg6 harg6 x0 x1 x2)
    ∧ HoldsAt H (1024 * (i 1).val) (1024 * (i 1).val + 512) (kernelRun0_A.sl.r_5 c i arg2 harg2 arg3 harg3 arg4 harg4 arg5 harg5 arg6 harg6 x0 x1 x2)
      (kernelRun0_A.sl.r_6 c i arg2 harg2 arg3 harg3 arg4 harg4 arg5 harg5 arg6 harg6 x0 x1 x2) (kernelRun0_A.sl.r_7 c i arg2 harg2 arg3 harg3 arg4 harg4 arg5 harg5 arg6 harg6 x0 x1 x2) := by
  delta kernelRun0_A.sl.r_2 kernelRun0_A.sl.r_3 kernelRun0_A.sl.r_4 kernelRun0_A.sl.r_5 kernelRun0_A.sl.r_6 kernelRun0_A.sl.r_7
  rw [trips2, trips1]
  exact st_at c i arg2 harg2 arg3 harg3 arg4 harg4 arg5 harg5 arg6 harg6 hq hk hv _ le_rfl

include hk in
theorem k0_at (y : Fin 512) (d : Fin 256) : kernelRun0_A.sl.r_8 (F := Ideal) i arg3 harg3 x1 (ix2 y d) = (H.k (1024 * (i 1).val + y.val) d : EReal) := by
  have hi : (i 1).val < 4 := (i 1).isLt
  delta kernelRun0_A.sl.r_8
  exact (pay_k0 _ y d).trans ((load arg3 harg3 x1 _ (1024 * (i 1).val) (off5 i) y d ⟨1024 * (i 1).val + y.val, by omega⟩ rfl).trans (hk _ d))
include hv in
theorem v0_at (y : Fin 512) (d : Fin 128) : kernelRun0_A.sl.r_9 (F := Ideal) i arg4 harg4 x2 (ix2 y d) = (H.v (1024 * (i 1).val + y.val) d : EReal) := by
  have hi : (i 1).val < 4 := (i 1).isLt
  delta kernelRun0_A.sl.r_9
  exact (pay_v0 _ y d).trans ((load arg4 harg4 x2 _ (1024 * (i 1).val) (off6 i) y d ⟨1024 * (i 1).val + y.val, by omega⟩ rfl).trans (hv _ d))
include hk in
theorem k1_at (y : Fin 512) (d : Fin 256) : kernelRun0_A.sl.r_11 (F := Ideal) i arg3 harg3 x1 (ix2 y d) = (H.k (1024 * (i 1).val + 512 + y.val) d : EReal) := by
  have hi : (i 1).val < 4 := (i 1).isLt
  delta kernelRun0_A.sl.r_11
  exact (pay_k0 _ y d).trans ((load arg3 harg3 x1 _ (1024 * (i 1).val + 512) (off7 i) y d ⟨1024 * (i 1).val + 512 + y.val, by omega⟩ rfl).trans (hk _ d))
include hv in
theorem v1_at (y : Fin 512) (d : Fin 128) : kernelRun0_A.sl.r_12 (F := Ideal) i arg4 harg4 x2 (ix2 y d) = (H.v (1024 * (i 1).val + 512 + y.val) d : EReal) := by
  have hi : (i 1).val < 4 := (i 1).isLt
  delta kernelRun0_A.sl.r_12
  exact (pay_v0 _ y d).trans ((load arg4 harg4 x2 _ (1024 * (i 1).val + 512) (off8 i) y d ⟨1024 * (i 1).val + 512 + y.val, by omega⟩ rfl).trans (hv _ d))

include hq hk hv

/-- The upper half's results and logarithms. -/
theorem upper (p : Fin 512) (e : Fin 128) :
    out0_A_3 (F := Ideal) c i arg2 harg2 arg3 harg3 arg4 harg4 arg5 harg5 arg6 harg6 x0 x1 x2 (ix2 ⟨p.val, by omega⟩ e)
      = ((H.A 4096 (1024 * (i 1).val + p.val) e / H.Z 4096 (1024 * (i 1).val + p.val) : ℝ) : EReal)
    ∧ out0_A_4 (F := Ideal) c i arg2 harg2 arg3 harg3 arg4 harg4 arg5 harg5 arg6 harg6 x0 x1 x2 (ix3 0 ⟨p.val, by omega⟩ e)
      = ((Real.log (H.Z 4096 (1024 * (i 1).val + p.val)) : ℝ) : EReal) := by
  have hi : (i 1).val < 4 := (i 1).isLt
  have h := all_keys (by omega) (by omega) (diag ((carried c i arg2 harg2 arg3 harg3 arg4 harg4 arg5 harg5 arg6 harg6 hq hk hv).1 p) (qa_at i arg2 harg2 hq p) (k0_at i arg3 harg3 hk) (v0_at i arg4 harg4 hv) rfl)
  constructor
  · unfold out0_A_3 kernelRun0_A
    refine (halves _ _ rfl _ _ _ _ _ p e).1.trans ?_
    delta kernelRun0_A.sl.r_14 kernelRun0_A.sl.r_15
    rw [diag_o, diag_l, diag_a]
    exact h.1 e
  · unfold out0_A_4 kernelRun0_A
    refine (halves3 _ _ rfl _ _ _ _ _ p e).1.trans ?_
    delta kernelRun0_A.sl.r_13 kernelRun0_A.sl.r_14
    rw [diag_lse, diag_l, diag_m]
    exact h.2

/-- The lower half's results and logarithms. -/
theorem lower (p : Fin 512) (e : Fin 128) :
    out0_A_3 (F := Ideal) c i arg2 harg2 arg3 harg3 arg4 harg4 arg5 harg5 arg6 harg6 x0 x1 x2 (ix2 ⟨512 + p.val, by omega⟩ e)
      = ((H.A 4096 (1024 * (i 1).val + 512 + p.val) e / H.Z 4096 (1024 * (i 1).val + 512 + p.val) : ℝ) : EReal)
    ∧ out0_A_4 (F := Ideal) c i arg2 harg2 arg3 harg3 arg4 harg4 arg5 harg5 arg6 harg6 x0 x1 x2 (ix3 0 ⟨512 + p.val, by omega⟩ e)
      = ((Real.log (H.Z 4096 (1024 * (i 1).val + 512 + p.val)) : ℝ) : EReal) := by
  have hi : (i 1).val < 4 := (i 1).isLt
  have h := all_keys (by omega) (by omega) (diag (low (carried c i arg2 harg2 arg3 harg3 arg4 harg4 arg5 harg5 arg6 harg6 hq hk hv).2 (qb_at i arg2 harg2 hq) (k0_at i arg3 harg3 hk) (v0_at i arg4 harg4 hv) le_rfl p)
    (qb_at i arg2 harg2 hq p) (k1_at i arg3 harg3 hk) (v1_at i arg4 harg4 hv) rfl)
  constructor
  · unfold out0_A_3 kernelRun0_A
    refine (halves _ _ rfl _ _ _ _ _ p e).2.trans ?_
    delta kernelRun0_A.sl.r_16 kernelRun0_A.sl.r_17 kernelRun0_A.sl.r_18 kernelRun0_A.sl.r_19
    rw [last_o]
    exact h.1 e
  · unfold out0_A_4 kernelRun0_A
    refine (halves3 _ _ rfl _ _ _ _ _ p e).2.trans ?_
    delta kernelRun0_A.sl.r_16 kernelRun0_A.sl.r_17 kernelRun0_A.sl.r_20
    rw [last_lse]
    exact h.2

end Point

end Cert.FwdIdeal.Proof

end
-- ==== Proof.FwdKernel.lean ====
/- The attention forward's results over real inputs. -/
module

public import proofs.«01_k».proof.Proof.Gen.FwdIdeal.Value
public import proofs.«01_k».proof.Proof.FwdPoint
public import proofs.«01_k».proof.Proof.AttnSoftmax
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FwdIdeal.Proof

open Cert.FwdIdeal Cert.FwdIdeal.Gen Idealize.ShloMosaic Idealize.ShloMosaic.TcCoe Idealize.SL.Sem
open Cert.Reals Cert.FwdMath Cert.AttnRows
open Idealize.ShloMosaic.Pipeline (Dat)

variable (m : (ℓ : Loc nD τ sig) → Buf (Elt Ideal) ℓ) (c : Dev nD)
variable {Q K : Fin 4096 → Fin 8 → Fin 192 → ℝ} {W : Fin 4096 → Fin 8 → Fin 128 → ℝ}

/-! ## One head -/

/-- Head `h` of the inputs, queries and keys padded to 256 lanes. -/
def head (Q K : Fin 4096 → Fin 8 → Fin 192 → ℝ) (W : Fin 4096 → Fin 8 → Fin 128 → ℝ) (h : Fin 8) : Head where
  q r d := if hd : d.val < 192 then Q (Fin.ofNat 4096 r) h ⟨d.val, hd⟩ else 0
  k r d := if hd : d.val < 192 then K (Fin.ofNat 4096 r) h ⟨d.val, hd⟩ else 0
  v r e := W (Fin.ofNat 4096 r) h e

theorem ofNat_val (i : Fin 4096) : Fin.ofNat 4096 i.val = i := Fin.ext (Nat.mod_eq_of_lt i.isLt)

theorem sum_padded (a b : Fin 192 → ℝ) :
    ∑ d : Fin 256, (if hd : d.val < 192 then a ⟨d.val, hd⟩ else 0) * (if hd : d.val < 192 then b ⟨d.val, hd⟩ else 0) = ∑ d, a d * b d := by
  rw [show (256 : ℕ) = 192 + 64 from rfl, Fin.sum_univ_add]
  simp

theorem head_w (h : Fin 8) (i j : Fin 4096) : (head Q K W h).w i.val j.val = ex Q K 0 h i j := by
  unfold Head.w Head.sc ex head
  simp only [ofNat_val, sum_padded, Fin.val_fin_le, sub_zero]
  rfl

theorem head_Z (h : Fin 8) (i : Fin 4096) : (head Q K W h).Z 4096 i.val = zs Q K 0 h i := by
  unfold Head.Z zs
  rw [Finset.sum_range]
  exact Finset.sum_congr rfl fun j _ => head_w h i j

theorem head_A (h : Fin 8) (i : Fin 4096) (e : Fin 128) : (head Q K W h).A 4096 i.val e / (head Q K W h).Z 4096 i.val = ot Q K W h i e := by
  rw [head_Z]
  unfold Head.A ot pr
  rw [Finset.sum_range, Finset.sum_div]
  refine Finset.sum_congr rfl fun j _ => ?_
  rw [head_w, mul_comm, mul_div_assoc]
  simp only [head, ofNat_val]

/-! ## The arrays the call is launched on -/

/-- The arguments are arrays of reals. -/
structure Reals (Q K : Fin 4096 → Fin 8 → Fin 192 → ℝ) (W : Fin 4096 → Fin 8 → Fin 128 → ℝ) : Prop where
  q : ∀ i h d, m (c, Proc.tc.devRef main_arg0) (ix3 i h d) = (Q i h d : EReal)
  k : ∀ i h d, m (c, Proc.tc.devRef main_arg1) (ix3 i h d) = (K i h d : EReal)
  v : ∀ i h d, m (c, Proc.tc.devRef main_arg2) (ix3 i h d) = (W i h d : EReal)

variable {m c} (R : Reals m c Q K W)

theorem zero_bf16 : (FloatOps.sitofp (F := Ideal) .bf16 (0#32) : EReal) = ((0 : ℝ) : EReal) := by
  show ((((0#32 : BitVec 32).toInt : ℤ) : ℝ) : EReal) = _
  simp

include R in
theorem V_q (h : Fin 8) (i : Fin 4096) (d : Fin 256) : V m c main_v2 (ix3 h i d) = ((head Q K W h).q i.val d : EReal) := by
  have e := R.q
  unfold V head
  simp only [ofNat_val]
  after_reads_at
  split
  · exact e _ _ _
  · exact zero_bf16

include R in
theorem V_k (h : Fin 8) (i : Fin 4096) (d : Fin 256) : V m c main_v5 (ix3 h i d) = ((head Q K W h).k i.val d : EReal) := by
  have e := R.k
  unfold V head
  simp only [ofNat_val]
  after_reads_at
  split
  · exact e _ _ _
  · exact zero_bf16

include R in
theorem V_v (h : Fin 8) (i : Fin 4096) (d : Fin 128) : V m c main_v7 (ix3 h i d) = ((head Q K W h).v i.val d : EReal) := by
  have e := R.v
  unfold V head
  simp only [ofNat_val]
  after_reads_at
  exact e _ _ _

/-! ## The blocks -/

theorem lt_N (t : Fin cfg0.N) : t.val < 32 := lt_of_lt_of_eq t.isLt N_0

/-- The head and the first query of point `t`. -/
def hd (t : Fin cfg0.N) : Fin 8 := ⟨t.val / 4, by have := lt_N t; omega⟩
def row (t : Fin cfg0.N) (p : Fin 1024) : Fin 4096 := ⟨1024 * (t.val % 4) + p.val, by omega⟩

theorem idx : ∀ t : Fin cfg0.N,
    win0_0.index t = ![t.val / 4, t.val % 4, 0] ∧ win0_1.index t = ![t.val / 4, 0, 0] ∧ win0_2.index t = ![t.val / 4, 0, 0] ∧ win0_3.index t = ![t.val % 4, t.val / 4]
    ∧ win0_4.index t = ![t.val / 4, t.val % 4, 0] :=
  (by decide +kernel : ∀ t : Fin grid0.N, _)

theorem coord : ∀ t : Fin cfg0.N, (grid0.coords t 1).val = t.val % 4 := (by decide +kernel : ∀ t : Fin grid0.N, _)

include R in
theorem blk_q (t : Fin cfg0.N) (p : Fin 1024) (d : Fin 256) : iblk m c 0 t (ix3 0 p d) = ((head Q K W (hd t)).q (1024 * (grid0.coords t 1).val + p.val) d : EReal) := by
  rw [coord]
  refine Eq.trans ?_ (V_q R (hd t) (row t p) d)
  unfold iblk
  exact congrArg (V m c main_v2) (by unfold hd row; blk_ext [idx t])

include R in
theorem blk_k (t : Fin cfg0.N) (y : Fin 4096) (d : Fin 256) : iblk m c 1 t (ix3 0 y d) = ((head Q K W (hd t)).k y.val d : EReal) := by
  refine Eq.trans ?_ (V_k R (hd t) y d)
  unfold iblk
  exact congrArg (V m c main_v5) (by unfold hd; blk_ext [idx t])

include R in
theorem blk_v (t : Fin cfg0.N) (y : Fin 4096) (d : Fin 128) : iblk m c 2 t (ix3 0 y d) = ((head Q K W (hd t)).v y.val d : EReal) := by
  refine Eq.trans ?_ (V_v R (hd t) y d)
  unfold iblk
  exact congrArg (V m c main_v7) (by unfold hd; blk_ext [idx t])

/-! ## The outputs -/

include R in
theorem point (t : Fin cfg0.N) (p : Fin 1024) (e : Fin 128) :
    (outsAt0 m c t).1 (ix2 p e) = (ot Q K W (hd t) (row t p) e : EReal)
    ∧ (outsAt0 m c t).2 (ix3 0 p e) = (Real.log (zs Q K 0 (hd t) (row t p)) : EReal) := by
  rw [← head_A, ← head_Z (W := W)]
  unfold outsAt0
  dsimp only
  have hr : (row t p).val = 1024 * (grid0.coords t 1).val + p.val := by rw [coord]; rfl
  rw [hr]
  by_cases hp : p.val < 512
  · exact upper c (grid0.coords t) (ms0_0 t) (hs0_0 t) (ms0_1 t) (hs0_1 t) (ms0_2 t) (hs0_2 t) (ms0_3 t) (hs0_3 t) (ms0_4 t) (hs0_4 t) (blk_q R t) (blk_k R t) (blk_v R t) ⟨p.val, hp⟩ e
  · have h := lower c (grid0.coords t) (ms0_0 t) (hs0_0 t) (ms0_1 t) (hs0_1 t) (ms0_2 t) (hs0_2 t) (ms0_3 t) (hs0_3 t) (ms0_4 t) (hs0_4 t) (blk_q R t) (blk_k R t) (blk_v R t)
      ⟨p.val - 512, by omega⟩ e
    have hp' : (⟨512 + (p.val - 512), by omega⟩ : Fin 1024) = p := Fin.ext (by show 512 + (p.val - 512) = p.val; omega)
    have hn : 1024 * (grid0.coords t 1).val + 512 + (p.val - 512) = 1024 * (grid0.coords t 1).val + p.val := by omega
    dsimp only at h
    rw [hp', hn] at h
    exact h

theorem emb3 (t : Fin cfg0.N) (p : Fin 1024) (e : Fin 128) : ((cfg0.win 3).blk t).view.emb (ix2 p e) = ix2 (row t p) ⟨128 * (hd t).val + e.val, by have := (hd t).isLt; omega⟩ := by
  unfold row hd
  blk_ext [idx t]

theorem emb4 (t : Fin cfg0.N) (p : Fin 1024) (e : Fin 128) : ((cfg0.win 4).blk t).view.emb (ix3 0 p e) = ix3 (hd t) (row t p) e := by
  unfold row hd
  blk_ext [idx t]

include R in
theorem result_o : (dats m 0 c).arrAt 3 (cfgs 0).N
    = fun i : S4096x1024.Idx => (ot Q K W ⟨(i 1).val / 128, by have h : (i 1).val < 1024 := (i 1).isLt; omega⟩ (i 0) ⟨(i 1).val % 128, by omega⟩ : EReal) := by
  refine (dats m 0 c).arrAt_eq_of_covers 3 _ (by decide +kernel) fun t hf y => ?_
  have e := emb3 t (y 0) (y 1)
  rw [← eq_ix2 y] at e
  rw [e]
  blk_simp
  rw [after0_3]
  idx_vars y
  refine (point R t y0 y1).1.trans ?_
  have h1 : ∀ (h : Fin 8) (e : Fin 128) (a : Fin 8) (b : Fin 128), a = h → b = e → (ot Q K W h (row t y0) e : EReal) = (ot Q K W a (row t y0) b : EReal) := fun h e a b ha hb => by rw [ha, hb]
  exact h1 _ _ _ _ (Fin.ext (show (128 * (hd t).val + y1.val) / 128 = _ by omega)) (Fin.ext (show (128 * (hd t).val + y1.val) % 128 = _ by omega))

include R in
theorem result_lse : (dats m 0 c).arrAt 4 (cfgs 0).N = fun i : S8x4096x128.Idx => (Real.log (zs Q K 0 (i 0) (i 1)) : EReal) := by
  refine (dats m 0 c).arrAt_eq_of_covers 4 _ (by decide +kernel) fun t hf y => ?_
  have hy : y = ix3 0 (y 1) (y 2) := (eq_ix3 y).trans (congrArg (fun z : Fin 1 => ix3 z (y 1) (y 2)) (Subsingleton.elim _ _))
  have e : ((cfg0.win 4).blk t).view.emb y = ix3 (hd t) (row t (y 1)) (y 2) := (congrArg _ hy).trans (emb4 t (y 1) (y 2))
  rw [e]
  blk_simp
  rw [after0_4]
  exact (congrArg (outsAt0 m c t).2 hy).trans (point R t (y 1) (y 2)).2

end Cert.FwdIdeal.Proof

end
-- ==== Proof.FwdRef.lean ====
/- The results of the attention's reference over real inputs. -/
module

public import proofs.«01_k».proof.Proof.Gen.FwdRefIdeal.Read
public import proofs.«01_k».proof.Proof.AttnSoftmax
public import Idealize.ShloMosaic.Lib.Pointwise
public import Idealize.ShloMosaic.Lib.WordCmp

@[expose] public section

set_option maxRecDepth 16384

noncomputable section

namespace Cert.FwdRefIdeal.Proof

open Cert.FwdRefIdeal Cert.FwdRefIdeal.Gen Cert.FwdRefIdeal.Read Idealize.ShloMosaic Idealize.ShloMosaic.TcCoe Idealize.SL.Sem
open Cert.Reals Cert.AttnRows

variable {x0 x1 : FVec Ideal S4096x8x192 .f32} {x2 : FVec Ideal S4096x8x128 .f32}
variable {Q K : Fin 4096 → Fin 8 → Fin 192 → ℝ} {W : Fin 4096 → Fin 8 → Fin 128 → ℝ}

theorem neg_inf : Ideal.ofBits .f32 0xFF800000#32 = ⊥ := by
  simp [Ideal.ofBits, Ideal.ieee]

theorem mask_at (h : Fin 8) (i j : Fin 4096) : val_main_call0_v1 (F := Ideal) (ix3 h i j) = if j ≤ i then 1#1 else 0#1 := by
  pointwise [val_main_call0_v1, val_main_v6, val_main_v5, val_main_v4, val_main_v3, val_main_v2, val_main_v1]
  split
  · exact (WordCmp.cmpi_sle_ofNat_eq_one_iff (by omega) (by omega)).mpr ‹_›
  · exact (BitVec.eq_zero_or_eq_one _).resolve_right fun e => ‹¬_› ((WordCmp.cmpi_sle_ofNat_eq_one_iff (by omega) (by omega)).mp e)

theorem masked_at (hq : ∀ i h d, x0 (ix3 i h d) = (Q i h d : EReal)) (hk : ∀ i h d, x1 (ix3 i h d) = (K i h d : EReal)) (h : Fin 8) (i j : Fin 4096) :
    val_main_v7 (F := Ideal) x0 x1 (ix3 h i j) = (if j ≤ i then (sc Q K h i j : EReal) else ⊥ : EReal) := by
  pointwise [val_main_v7, val_main_v0, val_main_call0_v2, mask_at, hq, hk]
  rw [show val_main_call0_v0 (F := Ideal) ix0 = (⊥ : EReal) from neg_inf]
  simp only [← EReal.coe_mul, coe_sum]
  unfold Scalar.select sc
  split <;> simp

section Row

variable {M : Fin 8 → Fin 4096 → ℝ} (hM : ∀ h i, val_main_v8 (F := Ideal) x0 x1 (ix2 h i) = (M h i : EReal))
  (hq : ∀ i h d, x0 (ix3 i h d) = (Q i h d : EReal)) (hk : ∀ i h d, x1 (ix3 i h d) = (K i h d : EReal))
  (hw : ∀ i h d, x2 (ix3 i h d) = (W i h d : EReal))

include hM in
theorem max_at (h : Fin 8) (i : Fin 4096) : val_main_v10 (F := Ideal) x0 x1 (ix2 h i) = (M h i : EReal) := by
  rw [val_main_v10_apply, val_main_v9_apply, hM]
  show max (Ideal.ofBits .f32 0xFF800000#32) (M h i : EReal) = _
  rw [neg_inf]
  exact max_eq_right bot_le

include hM hq hk in
theorem exp_at (h : Fin 8) (i j : Fin 4096) : val_main_v14 (F := Ideal) x0 x1 (ix3 h i j) = (ex Q K (M h i) h i j : EReal) := by
  pointwise [val_main_v14, val_main_v13, val_main_v12, val_main_v11, max_at hM, masked_at hq hk]
  unfold ex
  split
  · rw [← EReal.coe_sub, Ideal.exp_coe]
  · rw [EReal.bot_sub, Ideal.exp_bot]; rfl

include hM hq hk in
theorem sum_at (h : Fin 8) (i : Fin 4096) (z : Fin 1) : val_main_v16 (F := Ideal) x0 x1 (ix3 h i z) = (zs Q K (M h i) h i : EReal) := by
  pointwise [val_main_v16, val_main_v15, val_main_cst_2, exp_at hM hq hk]
  simp only [zero_add, coe_sum]
  rfl

include hM hq hk in
theorem prob_at (h : Fin 8) (i j : Fin 4096) : val_main_v18 (F := Ideal) x0 x1 (ix3 h i j) = (pr Q K h i j : EReal) := by
  pointwise [val_main_v18, val_main_v17, exp_at hM hq hk, sum_at hM hq hk]
  rw [div_coe_coe (zs_pos _ h i).ne', ex_div]

include hM hq hk hw in
theorem o_of : val_main_v31 (F := Ideal) x0 x1 x2 = fun i : S4096x1024.Idx => (ot Q K W ⟨(i 1).val / 128, by have h : (i 1).val < 1024 := (i 1).isLt; omega⟩ (i 0) ⟨(i 1).val % 128, by omega⟩ : EReal) := by
  funext y
  idx_vars y
  pointwise [val_main_v31, val_main_v30, val_main_v20, val_main_v19, prob_at hM hq hk, hw]
  simp only [← EReal.coe_mul, coe_sum]
  rfl

include hM in
theorem top_at (h : Fin 8) (i : Fin 4096) (z : Fin 1) : val_main_v22 (F := Ideal) x0 x1 (ix3 h i z) = (M h i : EReal) := by
  have e : val_main_v21 (F := Ideal) x0 x1 (ix2 h i) = (M h i : EReal) := hM h i
  pointwise [val_main_v22, e]

include hM hq hk in
theorem exp2_at (h : Fin 8) (i j : Fin 4096) : val_main_v25 (F := Ideal) x0 x1 (ix3 h i j) = (ex Q K (M h i) h i j : EReal) := by
  pointwise [val_main_v25, val_main_v24, val_main_v23, top_at hM, masked_at hq hk]
  unfold ex
  split
  · rw [← EReal.coe_sub, Ideal.exp_coe]
  · rw [EReal.bot_sub, Ideal.exp_bot]; rfl

include hM hq hk in
theorem sum2_at (h : Fin 8) (i : Fin 4096) (z : Fin 1) : val_main_v27 (F := Ideal) x0 x1 (ix3 h i z) = (zs Q K (M h i) h i : EReal) := by
  pointwise [val_main_v27, val_main_v26, val_main_cst_4, exp2_at hM hq hk]
  simp only [zero_add, coe_sum]
  rfl

include hM hq hk in
theorem log_at (h : Fin 8) (i : Fin 4096) (z : Fin 1) : val_main_v29 (F := Ideal) x0 x1 (ix3 h i z) = (Real.log (zs Q K 0 h i) : EReal) := by
  have e : ∀ a b : ℝ, 0 < b → FloatOps.addf (F := Ideal) (φ := .f32) (a : EReal) (FloatOps.hostUnary (F := Ideal) (φ := .f32) .log (b : EReal)) = ((a + Real.log b : ℝ) : EReal) :=
    fun a b hb => by
      show (a : EReal) + Ideal.log (b : EReal) = _
      rw [Ideal.log_coe, if_neg hb.not_ge, ← EReal.coe_add]
  rw [val_main_v29_apply, val_main_v28_apply, top_at hM, sum2_at hM hq hk, e _ _ (zs_pos _ h i), log_zs]

include hM hq hk in
theorem lse_of : val_main_v32 (F := Ideal) x0 x1 = fun i : S8x4096x128.Idx => (Real.log (zs Q K 0 (i 0) (i 1)) : EReal) := by
  funext y
  idx_vars y
  pointwise [val_main_v32, log_at hM hq hk]

end Row

/-- A row's largest masked score is a real. -/
theorem max_real (hq : ∀ i h d, x0 (ix3 i h d) = (Q i h d : EReal)) (hk : ∀ i h d, x1 (ix3 i h d) = (K i h d : EReal)) (h : Fin 8) (i : Fin 4096) :
    ∃ M : ℝ, val_main_v8 (F := Ideal) x0 x1 (ix2 h i) = (M : EReal) := by
  obtain ⟨M, e⟩ := fold_max_real _ (sc Q K h i) i fun j => masked_at hq hk h i j
  refine ⟨M, Eq.trans ?_ e⟩
  pointwise [val_main_v8, val_main_cst_0]

section Results

variable (hq : ∀ i h d, x0 (ix3 i h d) = (Q i h d : EReal)) (hk : ∀ i h d, x1 (ix3 i h d) = (K i h d : EReal))
  (hw : ∀ i h d, x2 (ix3 i h d) = (W i h d : EReal))

include hq hk hw in
theorem result_o : val_main_v31 (F := Ideal) x0 x1 x2 = fun i : S4096x1024.Idx => (ot Q K W ⟨(i 1).val / 128, by have h : (i 1).val < 1024 := (i 1).isLt; omega⟩ (i 0) ⟨(i 1).val % 128, by omega⟩ : EReal) := by
  choose M hM using max_real hq hk
  exact o_of hM hq hk hw

include hq hk in
theorem result_lse : val_main_v32 (F := Ideal) x0 x1 = fun i : S8x4096x128.Idx => (Real.log (zs Q K 0 (i 0) (i 1)) : EReal) := by
  choose M hM using max_real hq hk
  exact lse_of hM hq hk

end Results

end Cert.FwdRefIdeal.Proof

end
-- ==== Proof.FwdPre.lean ====
/- The attention forward's precondition: its arrays are arrays of reals. -/
module

public import proofs.«01_k».proof.Pre_attn_fwd_finite
public import proofs.«01_k».proof.Proof.Reals
public import Idealize.ShloMosaic.Lib.Pointwise

@[expose] public section

set_option maxRecDepth 16384

noncomputable section

namespace Cert.Pre_attn_fwd_finite.Proof

open Cert.Pre_attn_fwd_finite Idealize.ShloMosaic Cert.Reals

variable [Facts]

theorem reals (x0 x1 : FVec Ideal S4096x8x192 .f32) (x2 : FVec Ideal S4096x8x128 .f32) (e : fn (F := Ideal) x0 x1 x2 = fun _ => 1#1) :
    (∃ r : S4096x8x192.Idx → ℝ, x0 = fun i => (r i : EReal)) ∧ (∃ r : S4096x8x192.Idx → ℝ, x1 = fun i => (r i : EReal))
    ∧ (∃ r : S4096x8x128.Idx → ℝ, x2 = fun i => (r i : EReal)) := by
  have e0 := congrFun e ix0
  unfold fn at e0
  dsimp only at e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2⟩

end Cert.Pre_attn_fwd_finite.Proof

end
-- ==== Proof.FwdClaim.lean ====
module

public import proofs.«01_k».proof.Defs
public import proofs.«01_k».proof.Proof.FwdKernel
public import proofs.«01_k».proof.Proof.FwdRef
public import proofs.«01_k».proof.Proof.FwdPre
public import proofs.«01_k».proof.Proof.Gen.FwdRefIdeal.Run
public import proofs.«01_k».proof.Proof.Gen.Pre_attn_fwd_finite
public import Idealize.ShloMosaic.Lib.Claim

@[expose] public section

set_option maxRecDepth 16384

noncomputable section

namespace Cert.Proof

open Idealize.ShloMosaic Idealize.SL.Sem

theorem fwd : Cert.algebraic_FwdIdeal_FwdRefIdeal_pre_attn_fwd_finite (hFwdIdeal := Cert.FwdIdeal.Gen.facts)
    (hFwdRefIdeal := Cert.FwdRefIdeal.Gen.facts) (hPre_attn_fwd_finite := Cert.Pre_attn_fwd_finite.Gen.facts) := by
  intro m g m' g' hpre hagree
  have hr := fun c => Cert.Pre_attn_fwd_finite.Proof.reals _ _ _ (hpre c)
  choose r0 h0 using fun c => (hr c).1
  choose r1 h1 using fun c => (hr c).2.1
  choose r2 h2 using fun c => (hr c).2.2
  have hk := fun c => Cert.FwdIdeal.Proof.Reals.mk (m := m) (c := c) (Q := fun i h d => r0 c (ix3 i h d)) (K := fun i h d => r1 c (ix3 i h d)) (W := fun i h d => r2 c (ix3 i h d))
    (fun i h d => congrFun (h0 c) (ix3 i h d)) (fun i h d => congrFun (h1 c) (ix3 i h d)) (fun i h d => congrFun (h2 c) (ix3 i h d))
  refine ⟨fun c => (Cert.FwdIdeal.Gen.dats m 0 c).arrAt 3 (Cert.FwdIdeal.cfgs 0).N, fun c => (Cert.FwdIdeal.Gen.dats m 0 c).arrAt 4 (Cert.FwdIdeal.cfgs 0).N, ?_, ?_⟩
  · exact Cert.FwdIdeal.Value.run_blocks m g
  · refine (θ_run _ _ _).mono (fun r h c => ⟨(h c).1.trans ?_, (h c).2.1.trans ?_, (h c).2.2⟩) (Cert.FwdRefIdeal.Value.run m' g')
    · obtain ⟨a0, a1, a2⟩ := hagree c
      refine (Cert.FwdRefIdeal.Read.val_main_v31_eq _ _ _).trans ?_
      rw [a0, a1, a2]
      exact (Cert.FwdRefIdeal.Proof.result_o (hk c).q (hk c).k (hk c).v).trans (Cert.FwdIdeal.Proof.result_o (hk c)).symm
    · obtain ⟨a0, a1, a2⟩ := hagree c
      refine (Cert.FwdRefIdeal.Read.val_main_v32_eq _ _).trans ?_
      rw [a0, a1]
      exact (Cert.FwdRefIdeal.Proof.result_lse (hk c).q (hk c).k).trans (Cert.FwdIdeal.Proof.result_lse (hk c)).symm

end Cert.Proof

end
-- ==== Proof.NormMixKernel.lean ====
module

public import proofs.«01_k».proof.Proof.Gen.NormMixIdeal.Value
public import proofs.«01_k».proof.Proof.NormInMath
public import Idealize.ShloMosaic.Lib.Pipeline.ValueKit
public import Idealize.ShloMosaic.Lib.Pointwise

@[expose] public section

set_option maxRecDepth 16384

noncomputable section

namespace Cert.NormMixIdeal.Proof

open Cert.NormMixIdeal Cert.NormMixIdeal.Gen Idealize.ShloMosaic Idealize.ShloMosaic.TcCoe Idealize.SL.Sem
open Cert.Reals Cert.NormInMath
open Idealize.ShloMosaic.Pipeline (Dat)

variable (m : (ℓ : Loc nD τ sig) → Buf (Elt Ideal) ℓ) (ρ : Dev nD → PrngReg)

theorem idx : ∀ t : Fin cfg0.N,
    win0_0.index t = ![0, t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-! ## The payloads at real blocks -/

theorem pay_rsqrt (h : FVec Ideal S512x1024 .f32) (H : Fin 512 → Fin 1024 → ℝ) (hh : ∀ p k, h (ix2 p k) = (H p k : EReal)) (p : Fin 512) :
    k0_pay5 (F := Ideal) h (ix2 p 0) = (rr H p : EReal) := by
  pointwise [k0_pay5, hh]
  simp only [ofBits_1024, ofBits_eps, ← EReal.coe_mul, coe_sum, div_coe_coe (by norm_num : (1024 : ℝ) ≠ 0), ← EReal.coe_add]
  exact rsqrt_of_pos (ms_pos H p)

theorem pay_xhat (h : FVec Ideal S512x1024 .f32) (H : Fin 512 → Fin 1024 → ℝ) (hh : ∀ p k, h (ix2 p k) = (H p k : EReal)) (p : Fin 512) (k : Fin 1024) :
    k0_pay6 (F := Ideal) h (ix2 p k) = ((H p k * rr H p : ℝ) : EReal) := by
  pointwise [k0_pay6, hh, pay_rsqrt h H hh]
  rw [EReal.coe_mul]

theorem pay_dres (dx : FVec Ideal S512x1024 .f32) (r : FVec Ideal S512x1 .f32) (xh : FVec Ideal S512x1024 .f32) (g : FVec Ideal S1x1024 .f32) (dres : FVec Ideal S512x1024 .f32)
    (X : Fin 512 → Fin 1024 → ℝ) (R : Fin 512 → ℝ) (XH : Fin 512 → Fin 1024 → ℝ) (G : Fin 1024 → ℝ)
    (hX : ∀ p k, dx (ix2 p k) = (X p k : EReal)) (hR : ∀ p, r (ix2 p 0) = (R p : EReal)) (hXH : ∀ p k, xh (ix2 p k) = (XH p k : EReal))
    (hG : ∀ k, g (ix2 0 k) = (G k : EReal)) (p : Fin 512) (k : Fin 1024) :
    k0_pay1 (F := Ideal) dx r xh (k0_pay7 g) dres (ix2 p k)
    = dres (ix2 p k) + ((R p * (X p k * G k - XH p k * ((∑ l, X p l * G l * XH p l) / 1024)) : ℝ) : EReal) := by
  pointwise [k0_pay1, k0_pay7, hX, hR, hXH, hG]
  simp only [ofBits_1024, ← EReal.coe_mul, coe_sum, div_coe_coe (by norm_num : (1024 : ℝ) ≠ 0), ← EReal.coe_sub]

theorem pay_dx (v0 v5 v11 : Vec Ideal S1x512x1024 .bf16) (v2 v7 v13 : Vec Ideal S1x1024x1024 .bf16) (p : Fin 512) (j : Fin 1024) :
    k0_pay4 (F := Ideal) v0 v2 v5 v7 v11 v13 (ix2 p j)
    = (∑ k : Fin 1024, v0 (ix3 0 p k) * v2 (ix3 0 j k)) + (∑ k : Fin 1024, v5 (ix3 0 p k) * v7 (ix3 0 j k)) + (∑ k : Fin 1024, v11 (ix3 0 p k) * v13 (ix3 0 j k)) := by
  pointwise [k0_pay4]

theorem pay_dg (dx xh : FVec Ideal S512x1024 .f32) (acc : FVec Ideal S1x1024 .f32) (k : Fin 1024) :
    k0_pay3 (F := Ideal) dx xh acc (ix2 0 k) = acc (ix2 0 k) + ∑ p : Fin 512, dx (ix2 p k) * xh (ix2 p k) := by
  pointwise [k0_pay3]

theorem pay_zero (k : Fin 1024) : k0_pay2 (F := Ideal) (ix2 0 k) = 0 := by pointwise [k0_pay2]

/-! ## The blocks -/

variable {H : Fin 4096 → Fin 1024 → ℝ} {G : Fin 1024 → ℝ} {W : Fin 1024 → Fin 3072 → ℝ} {DU : Fin 4096 → Fin 3072 → ℝ} {D : FVec Ideal S4096x1024 .f32}

/-- Row `p` of point `t`'s block. -/
def row (t : Fin cfg0.N) (p : Fin 512) : Fin 4096 := ⟨t.val * 512 + p.val, by have := lt_of_lt_of_eq t.isLt N_0; omega⟩

theorem blk_du (c : Dev nD) (hdu : ∀ i k, m ((c : Thread nD τ).loc main_arg3) (ix2 i k) = (DU i k : EReal)) (t : Fin cfg0.N) (b : Fin 3) (p : Fin 512) (k : Fin 1024) :
    iblk m c 0 t (ix3 b p k) = (DU (row t p) ⟨b.val * 1024 + k.val, by omega⟩ : EReal) := by
  rw [← hdu]
  unfold row
  blk_point [iblk, V, idx t]

theorem blk_w (c : Dev nD) (hw : ∀ i k, m ((c : Thread nD τ).loc main_arg2) (ix2 i k) = (W i k : EReal)) (t : Fin cfg0.N) (b : Fin 3) (j : Fin 1024) (k : Fin 1024) :
    iblk m c 1 t (ix3 b j k) = (W j ⟨b.val * 1024 + k.val, by omega⟩ : EReal) := by
  rw [← hw]
  blk_point [iblk, V, idx t]

theorem blk_h (c : Dev nD) (hh : ∀ i k, m ((c : Thread nD τ).loc main_arg0) (ix2 i k) = (H i k : EReal)) (t : Fin cfg0.N) (p : Fin 512) (k : Fin 1024) :
    iblk m c 2 t (ix2 p k) = (H (row t p) k : EReal) := by
  rw [← hh]
  unfold row
  blk_point [iblk, V, idx t]

theorem blk_g (c : Dev nD) (hg : ∀ k, m ((c : Thread nD τ).loc main_arg1) (ix1 k) = (G k : EReal)) (t : Fin cfg0.N) (k : Fin 1024) :
    iblk m c 3 t (ix2 0 k) = (G k : EReal) := by
  rw [← hg]
  blk_point [iblk, V, idx t]

theorem blk_dres (c : Dev nD) (hD : m ((c : Thread nD τ).loc main_arg4) = D) (t : Fin cfg0.N) (p : Fin 512) (k : Fin 1024) :
    iblk m c 4 t (ix2 p k) = D (ix2 (row t p) k) := by
  rw [← hD]
  unfold row
  blk_point [iblk, V, idx t]

theorem dx_tiles (i : Fin 4096) (j : Fin 1024) :
    dx DU W i j = ∑ b : Fin 3, ∑ k : Fin 1024, DU i ⟨b.val * 1024 + k.val, by omega⟩ * W j ⟨b.val * 1024 + k.val, by omega⟩ :=
  Fin.sum_univ_tiles 3 1024 rfl _

theorem read_dx (c : Dev nD) (hw : ∀ i k, m ((c : Thread nD τ).loc main_arg2) (ix2 i k) = (W i k : EReal))
    (hdu : ∀ i k, m ((c : Thread nD τ).loc main_arg3) (ix2 i k) = (DU i k : EReal)) (t : Fin cfg0.N) (x : FVec Ideal S512x1024 .f32)
    (hx : ∀ p k, x (ix2 p k) = ∑ b : Fin 3, ∑ l : Fin 1024, (show EReal from iblk m c 0 t (ix3 b p l)) * (show EReal from iblk m c 1 t (ix3 b k l))) (p : Fin 512) (k : Fin 1024) :
    x (ix2 p k) = (dx DU W (row t p) k : EReal) := by
  rw [hx, dx_tiles]
  simp only [blk_du m c hdu t, blk_w m c hw t, ← EReal.coe_mul, coe_sum]

theorem after5 (c : Dev nD) (hh : ∀ i k, m ((c : Thread nD τ).loc main_arg0) (ix2 i k) = (H i k : EReal))
    (hg : ∀ k, m ((c : Thread nD τ).loc main_arg1) (ix1 k) = (G k : EReal))
    (hw : ∀ i k, m ((c : Thread nD τ).loc main_arg2) (ix2 i k) = (W i k : EReal))
    (hdu : ∀ i k, m ((c : Thread nD τ).loc main_arg3) (ix2 i k) = (DU i k : EReal)) (hD : m ((c : Thread nD τ).loc main_arg4) = D) (t : Fin cfg0.N) (p : Fin 512) (k : Fin 1024) :
    (outsAt0 m c t.val t.isLt).1 (ix2 p k) = D (ix2 (row t p) k) + (dh H G W DU (row t p) k : EReal) := by
  by_cases h0 : t.val % 8 = 0
  on_goal 1 => rw [outsAt0_A m c t h0]
  on_goal 2 => rw [outsAt0_B m c t h0]
  all_goals
    frame_out
    refine (pay_dres _ _ _ _ _ (fun p k => dx DU W (row t p) k) (fun p => rr H (row t p)) (fun p k => H (row t p) k * rr H (row t p)) G ?_ ?_ ?_ ?_ p k).trans ?_
    · refine read_dx m c hw hdu t _ fun p k => ?_
      rw [pay_dx, Fin.sum_univ_three]
      pointwise
    · exact pay_rsqrt _ _ (blk_h m c hh t)
    · exact pay_xhat _ _ (blk_h m c hh t)
    · exact blk_g m c hg t
    · rw [blk_dres m c hD]; rfl

theorem step6 (c : Dev nD) (hh : ∀ i k, m ((c : Thread nD τ).loc main_arg0) (ix2 i k) = (H i k : EReal))
    (hw : ∀ i k, m ((c : Thread nD τ).loc main_arg2) (ix2 i k) = (W i k : EReal))
    (hdu : ∀ i k, m ((c : Thread nD τ).loc main_arg3) (ix2 i k) = (DU i k : EReal)) (t : Fin cfg0.N) (x : FVec Ideal S512x1024 .f32)
    (hx : ∀ p k, x (ix2 p k) = ∑ b : Fin 3, ∑ l : Fin 1024, (show EReal from iblk m c 0 t (ix3 b p l)) * (show EReal from iblk m c 1 t (ix3 b k l))) (k : Fin 1024) (a : EReal) :
    a + ∑ p : Fin 512, x (ix2 p k) * k0_pay6 (F := Ideal) (iblk m c 2 t) (ix2 p k)
    = a + ((∑ p : Fin 512, dx DU W (row t p) k * (H (row t p) k * rr H (row t p)) : ℝ) : EReal) := by
  rw [← coe_sum]
  refine congrArg (a + ·) (Finset.sum_congr rfl fun p _ => ?_)
  rw [read_dx m c hw hdu t x hx, pay_xhat _ _ (blk_h m c hh t), ← EReal.coe_mul]
  rfl

theorem emb5 (t : Fin cfg0.N) (p : Fin 512) (k : Fin 1024) : ((cfg0.win 5).blk t).view.emb (ix2 p k) = ix2 (row t p) k := by
  unfold row
  blk_ext [idx t]

theorem result_dh (c : Dev nD) (hh : ∀ i k, m ((c : Thread nD τ).loc main_arg0) (ix2 i k) = (H i k : EReal))
    (hg : ∀ k, m ((c : Thread nD τ).loc main_arg1) (ix1 k) = (G k : EReal))
    (hw : ∀ i k, m ((c : Thread nD τ).loc main_arg2) (ix2 i k) = (W i k : EReal))
    (hdu : ∀ i k, m ((c : Thread nD τ).loc main_arg3) (ix2 i k) = (DU i k : EReal)) (hD : m ((c : Thread nD τ).loc main_arg4) = D) :
    (dats m 0 c).arrAt 5 (cfgs 0).N = fun i : S4096x1024.Idx => D i + (dh H G W DU (i 0) (i 1) : EReal) := by
  refine (dats m 0 c).arrAt_eq_of_covers 5 _ (by decide +kernel) fun t hf y => ?_
  have e := emb5 t (y 0) (y 1)
  rw [← eq_ix2 y] at e
  rw [e]
  blk_simp
  rw [after0_5]
  idx_vars y
  exact after5 m c hh hg hw hdu hD t y0 y1

theorem result_dg (c : Dev nD) (hh : ∀ i k, m ((c : Thread nD τ).loc main_arg0) (ix2 i k) = (H i k : EReal))
    (hw : ∀ i k, m ((c : Thread nD τ).loc main_arg2) (ix2 i k) = (W i k : EReal))
    (hdu : ∀ i k, m ((c : Thread nD τ).loc main_arg3) (ix2 i k) = (DU i k : EReal)) :
    (dats m 0 c).arrAt 6 (cfgs 0).N = fun i : S1x1024.Idx => (dg H W DU (i 1) : EReal) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => ((∑ p : Fin 512, dx DU W (row t p) (j 1) * (H (row t p) (j 1) * rr H (row t p)) : ℝ) : EReal))
    (fun t h j => by
      rw [outsAt0_A m c t h]
      frame_out
      idx_vars j
      obtain rfl : j0 = 0 := Subsingleton.elim _ _
      refine (pay_dg _ _ _ _).trans ?_
      rw [pay_zero]
      exact step6 m c hh hw hdu t _ (fun p k => by rw [pay_dx, Fin.sum_univ_three]; pointwise) j1 0)
    (fun t h j => by
      rw [outsAt0_B m c t h]
      frame_out
      idx_vars j
      obtain rfl : j0 = 0 := Subsingleton.elim _ _
      refine (pay_dg _ _ _ _).trans ?_
      exact step6 m c hh hw hdu t _ (fun p k => by rw [pay_dx, Fin.sum_univ_three]; pointwise) j1 _)
    (le_of_eq N_0) t0_7 rfl j, zero_add]
  show (_ : EReal) = _
  rw [coe_sum]
  unfold dg
  exact congrArg _ (Fin.sum_univ_tiles 8 512 rfl (fun i : Fin 4096 => dx DU W i (j 1) * (H i (j 1) * rr H i))).symm

end Cert.NormMixIdeal.Proof

end
-- ==== Proof.NormMixRef.lean ====
module

public import proofs.«01_k».proof.Proof.Gen.NormMixRefIdeal.Read
public import proofs.«01_k».proof.Proof.NormInMath
public import Idealize.ShloMosaic.Lib.Pointwise

@[expose] public section

set_option maxRecDepth 16384

noncomputable section

namespace Cert.NormMixRefIdeal.Proof

open Cert.NormMixRefIdeal Cert.NormMixRefIdeal.Gen Cert.NormMixRefIdeal.Read Idealize.ShloMosaic Idealize.ShloMosaic.TcCoe Idealize.SL.Sem
open Cert.Reals Cert.NormInMath

variable {x0 : FVec Ideal S4096x1024 .f32} {x1 : FVec Ideal S1024 .f32} {x2 : FVec Ideal S1024x3072 .f32} {x3 : FVec Ideal S4096x3072 .f32} {x4 : FVec Ideal S4096x1024 .f32}
variable {H : Fin 4096 → Fin 1024 → ℝ} {G : Fin 1024 → ℝ} {W : Fin 1024 → Fin 3072 → ℝ} {DU : Fin 4096 → Fin 3072 → ℝ}

theorem mean (hh : ∀ i k, x0 (ix2 i k) = (H i k : EReal)) (i : Fin 4096) (z : Fin 1) : val_main_v6 (F := Ideal) x0 (ix2 i z) = (ms H i : EReal) := by
  pointwise [val_main_v6, val_main_v4, val_main_v5, val_main_v2, val_main_v3, val_main_v1, val_main_v0, val_main_cst, val_main_cst_0, val_main_cst_1, hh]
  simp only [ofBits_1024, ofBits_eps, ← EReal.coe_mul, coe_sum, zero_add, div_coe_coe (by norm_num : (1024 : ℝ) ≠ 0), ← EReal.coe_add]
  rfl

theorem root (hh : ∀ i k, x0 (ix2 i k) = (H i k : EReal)) (i : Fin 4096) (z : Fin 1) : val_main_v7 (F := Ideal) x0 (ix2 i z) = (rr H i : EReal) := by
  pointwise [val_main_v7, mean hh]
  exact rsqrt_of_pos (ms_pos H i)

theorem prod (hw : ∀ i k, x2 (ix2 i k) = (W i k : EReal)) (hdu : ∀ i k, x3 (ix2 i k) = (DU i k : EReal)) (i : Fin 4096) (k : Fin 1024) :
    val_main_v17 (F := Ideal) x2 x3 (ix2 i k) = (dx DU W i k : EReal) := by
  pointwise [val_main_v17, hw, hdu]
  simp only [← EReal.coe_mul, coe_sum]
  rfl

theorem factor (hh : ∀ i k, x0 (ix2 i k) = (H i k : EReal)) (hg : ∀ k, x1 (ix1 k) = (G k : EReal)) (hw : ∀ i k, x2 (ix2 i k) = (W i k : EReal))
    (hdu : ∀ i k, x3 (ix2 i k) = (DU i k : EReal)) (i : Fin 4096) :
    val_main_v33 (F := Ideal) x0 x1 x2 x3 (ix1 i) = (((∑ l, H i l * (dx DU W i l * G l)) * (-(1 / 2) * (rr H i / ms H i)) / 1024 : ℝ) : EReal) := by
  pointwise [val_main_v33, val_main_v32, val_main_v30, val_main_v31, val_main_v26, val_main_v25, val_main_v24, val_main_v22, val_main_v21, val_main_v13, val_main_v10, val_main_v9,
    val_main_v8, val_main_cst_7, val_main_cst_6, val_main_cst_5, val_main_cst_2, mean hh, root hh, prod hw hdu, hh, hg]
  simp only [ofBits_1024, ofBits_neg_half, ← EReal.coe_mul, coe_sum, zero_add, div_coe_coe (ms_pos H i).ne', div_coe_coe (by norm_num : (1024 : ℝ) ≠ 0), Fin.sum_univ_one]

theorem result_dh (hh : ∀ i k, x0 (ix2 i k) = (H i k : EReal)) (hg : ∀ k, x1 (ix1 k) = (G k : EReal)) (hw : ∀ i k, x2 (ix2 i k) = (W i k : EReal))
    (hdu : ∀ i k, x3 (ix2 i k) = (DU i k : EReal)) :
    val_main_v38 (F := Ideal) x0 x1 x2 x3 x4 = fun i => x4 i + (dh H G W DU (i 0) (i 1) : EReal) := by
  funext j
  idx_vars j
  pointwise [val_main_v38, val_main_v37, val_main_v36, val_main_v35, val_main_v34, val_main_v29, val_main_v28, val_main_v27, val_main_v22, val_main_v21, val_main_v13,
    root hh, prod hw hdu, factor hh hg hw hdu, hh, hg]
  rw [← dh_eq]
  simp only [← EReal.coe_mul, add_assoc, ← EReal.coe_add]

theorem result_dg (hh : ∀ i k, x0 (ix2 i k) = (H i k : EReal)) (hw : ∀ i k, x2 (ix2 i k) = (W i k : EReal)) (hdu : ∀ i k, x3 (ix2 i k) = (DU i k : EReal)) :
    val_main_v39 (F := Ideal) x0 x2 x3 = fun i => (dg H W DU (i 1) : EReal) := by
  funext j
  idx_vars j
  pointwise [val_main_v39, val_main_v23, val_main_v20, val_main_v19, val_main_v18, val_main_v12, val_main_v11, val_main_cst_3, val_main_cst_4, root hh, prod hw hdu, hh]
  simp only [← EReal.coe_mul, coe_sum, zero_add, Fin.sum_univ_one]
  unfold dg
  exact congrArg _ (Finset.sum_congr rfl fun i _ => mul_comm _ _)

end Cert.NormMixRefIdeal.Proof

end
-- ==== Proof.NormMixPre.lean ====
module

public import proofs.«01_k».proof.Pre_norm_mix_finite
public import proofs.«01_k».proof.Proof.Reals
public import Idealize.ShloMosaic.Lib.Pointwise

@[expose] public section

set_option maxRecDepth 16384

noncomputable section

namespace Cert.Pre_norm_mix_finite.Proof

open Cert.Pre_norm_mix_finite Idealize.ShloMosaic Cert.Reals

variable [Facts]

/-- The precondition says that `h`, `g`, `w` and `du` are arrays of reals. -/
theorem reals (x0 : FVec Ideal S4096x1024 .f32) (x1 : FVec Ideal S1024 .f32) (x2 : FVec Ideal S1024x3072 .f32) (x3 : FVec Ideal S4096x3072 .f32) (x4 : FVec Ideal S4096x1024 .f32)
    (e : fn (F := Ideal) x0 x1 x2 x3 x4 = fun _ => 1#1) :
    (∃ r : S4096x1024.Idx → ℝ, x0 = fun i => (r i : EReal)) ∧ (∃ r : S1024.Idx → ℝ, x1 = fun i => (r i : EReal))
    ∧ (∃ r : S1024x3072.Idx → ℝ, x2 = fun i => (r i : EReal)) ∧ (∃ r : S4096x3072.Idx → ℝ, x3 = fun i => (r i : EReal)) := by
  have e0 := congrFun e ix0
  unfold fn fn_part1 at e0
  dsimp only at e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨reals_of_finite _ _ _ _ _ _ h0, reals_of_finite _ _ _ _ _ _ h1, reals_of_finite _ _ _ _ _ _ h2, reals_of_finite _ _ _ _ _ _ h3⟩

end Cert.Pre_norm_mix_finite.Proof

end
-- ==== Proof.NormMixClaim.lean ====
module

public import proofs.«01_k».proof.Defs
public import proofs.«01_k».proof.Proof.NormMixKernel
public import proofs.«01_k».proof.Proof.NormMixRef
public import proofs.«01_k».proof.Proof.NormMixPre
public import proofs.«01_k».proof.Proof.Gen.NormMixRefIdeal.Run
public import proofs.«01_k».proof.Proof.Gen.Pre_norm_mix_finite
public import Idealize.ShloMosaic.Lib.Claim

@[expose] public section

set_option maxRecDepth 16384

noncomputable section

namespace Cert.Proof

open Idealize.ShloMosaic Idealize.SL.Sem

theorem norm_mix : Cert.algebraic_NormMixIdeal_NormMixRefIdeal_pre_norm_mix_finite (hNormMixIdeal := Cert.NormMixIdeal.Gen.facts)
    (hNormMixRefIdeal := Cert.NormMixRefIdeal.Gen.facts) (hPre_norm_mix_finite := Cert.Pre_norm_mix_finite.Gen.facts) := by
  intro m g m' g' hpre hagree
  have hr := fun c => Cert.Pre_norm_mix_finite.Proof.reals _ _ _ _ _ (hpre c)
  refine ⟨fun c => (Cert.NormMixIdeal.Gen.dats m 0 c).arrAt 5 (Cert.NormMixIdeal.cfgs 0).N,
    fun c => (Cert.NormMixIdeal.Gen.dats m 0 c).arrAt 6 (Cert.NormMixIdeal.cfgs 0).N, ?_, ?_⟩
  · run_from Cert.NormMixIdeal.Gen.run_main m g
  · run_from Cert.NormMixRefIdeal.Value.run m' g'
    · obtain ⟨⟨r0, h0⟩, ⟨r1, h1⟩, ⟨r2, h2⟩, ⟨r3, h3⟩⟩ := hr c
      obtain ⟨a0, a1, a2, a3, a4⟩ := hagree c
      rw [Cert.NormMixRefIdeal.Read.val_main_v38_eq m' c, a0, a1, a2, a3, a4,
        Cert.NormMixIdeal.Proof.result_dh m c (fun i k => congrFun h0 (ix2 i k)) (fun k => congrFun h1 (ix1 k))
          (fun i k => congrFun h2 (ix2 i k)) (fun i k => congrFun h3 (ix2 i k)) rfl]
      exact Cert.NormMixRefIdeal.Proof.result_dh (fun i k => congrFun h0 (ix2 i k)) (fun k => congrFun h1 (ix1 k))
          (fun i k => congrFun h2 (ix2 i k)) (fun i k => congrFun h3 (ix2 i k))
    · obtain ⟨⟨r0, h0⟩, ⟨r1, h1⟩, ⟨r2, h2⟩, ⟨r3, h3⟩⟩ := hr c
      rw [Cert.NormMixRefIdeal.Read.val_main_v39_eq,
        Cert.NormMixIdeal.Proof.result_dg m c (fun i k => congrFun h0 (ix2 i k))
          (fun i k => congrFun h2 (ix2 i k)) (fun i k => congrFun h3 (ix2 i k))]
      exact Cert.NormMixRefIdeal.Proof.result_dg (fun i k => congrFun h0 (ix2 i k))
          (fun i k => congrFun h2 (ix2 i k)) (fun i k => congrFun h3 (ix2 i k))

end Cert.Proof

end
-- ==== Proof.NormFwdKernel.lean ====
module

public import proofs.«01_k».proof.Proof.Gen.NormFwdIdeal.Value
public import proofs.«01_k».proof.Proof.Gen.NormFwdRefIdeal.Read
public import proofs.«01_k».proof.Proof.Reals
public import Idealize.ShloMosaic.Lib.Pipeline.ValueKit
public import Idealize.ShloMosaic.Lib.Pointwise

/-! The norm of the first layer's rows, over all extended reals: the kernel's blocks and the reference. -/

@[expose] public section

set_option maxRecDepth 16384

noncomputable section

namespace Cert.NormFwdIdeal.Proof

open Idealize.ShloMosaic Idealize.ShloMosaic.TcCoe Idealize.SL.Sem
open scoped BigOperators

/-- Entry `k` of a normed row `x`. -/
def normed (x g : Fin 1024 → EReal) (k : Fin 1024) : EReal :=
  x k * Ideal.rsqrt (Ideal.div (∑ l, x l * x l) (Ideal.ofBits .f32 0x44800000#32) + Ideal.ofBits .f32 0x358637BD#32) * g k

section Kernel

open Cert.NormFwdIdeal Cert.NormFwdIdeal.Gen

variable (m : (ℓ : Loc nD τ sig) → Buf (Elt Ideal) ℓ) (c : Dev nD)

theorem pay (h : FVec Ideal S512x1024 .f32) (w : FVec Ideal S1x1024 .f32) (p : Fin 512) (k : Fin 1024) :
    k0_pay1 (F := Ideal) h w (ix2 p k) = normed (fun l => h (ix2 p l)) (fun l => w (ix2 0 l)) k := by
  unfold normed
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- Row `p` of point `t`'s block. -/
def row (t : Fin cfg0.N) (p : Fin 512) : Fin 4096 := ⟨t.val * 512 + p.val, by have := lt_of_lt_of_eq t.isLt N_0; omega⟩

theorem blk_h (t : Fin cfg0.N) (p : Fin 512) (k : Fin 1024) : iblk m c 0 t (ix2 p k) = m ((c : Thread nD τ).loc main_arg0) (ix2 (row t p) k) := by
  unfold row
  blk_point [iblk, V, idx t]

theorem blk_g (t : Fin cfg0.N) (k : Fin 1024) : iblk m c 1 t (ix2 0 k) = m ((c : Thread nD τ).loc main_arg1) (ix1 k) := by
  blk_point [iblk, V, idx t]

theorem emb2 (t : Fin cfg0.N) (p : Fin 512) (k : Fin 1024) : ((cfg0.win 2).blk t).view.emb (ix2 p k) = ix2 (row t p) k := by
  unfold row
  blk_ext [idx t]

theorem result : (dats m 0 c).arrAt 2 (cfgs 0).N = fun i : S4096x1024.Idx =>
    normed (fun l => m ((c : Thread nD τ).loc main_arg0) (ix2 (i 0) l)) (fun l => m ((c : Thread nD τ).loc main_arg1) (ix1 l)) (i 1) := by
  refine (dats m 0 c).arrAt_eq_of_covers 2 _ (by decide +kernel) fun t hf y => ?_
  obtain ⟨p, k, rfl⟩ : ∃ p k, y = ix2 p k := ⟨y 0, y 1, eq_ix2 y⟩
  rw [emb2 t p k]
  blk_simp
  rw [after0_2]
  unfold out0_2
  frame_out
  refine (pay _ _ p k).trans ?_
  exact congrArg₂ (fun x g => normed x g k) (funext fun l => blk_h m c t p l) (funext fun l => blk_g m c t l)

end Kernel

section Ref

open Cert.NormFwdRefIdeal Cert.NormFwdRefIdeal.Gen Cert.NormFwdRefIdeal.Read

theorem ref (x0 : FVec Ideal S4096x1024 .f32) (x1 : FVec Ideal S1024 .f32) :
    val_main_v13 (F := Ideal) x0 x1 = fun i => normed (fun l => x0 (ix2 (i 0) l)) (fun l => x1 (ix1 l)) (i 1) := by
  funext j
  idx_vars j
  unfold normed
  pointwise [val_main_v13, val_main_v12, val_main_v11, val_main_v10, val_main_v9, val_main_v8, val_main_v7, val_main_v6, val_main_v5, val_main_v4, val_main_v3, val_main_v2, val_main_v1, val_main_v0,
    val_main_cst, val_main_cst_0, val_main_cst_1]

end Ref

end Cert.NormFwdIdeal.Proof

end
-- ==== Proof.NormFwdClaim.lean ====
module

public import proofs.«01_k».proof.Defs
public import proofs.«01_k».proof.Proof.NormFwdKernel
public import proofs.«01_k».proof.Proof.Gen.NormFwdRefIdeal.Run
public import Idealize.ShloMosaic.Lib.Claim

@[expose] public section

set_option maxRecDepth 16384

noncomputable section

namespace Cert.Proof

open Idealize.ShloMosaic Idealize.SL.Sem

theorem norm_fwd : Cert.algebraic_NormFwdIdeal_NormFwdRefIdeal (hNormFwdIdeal := Cert.NormFwdIdeal.Gen.facts) (hNormFwdRefIdeal := Cert.NormFwdRefIdeal.Gen.facts) := by
  intro m g m' g' hpre hagree
  refine ⟨fun c => (Cert.NormFwdIdeal.Gen.dats m 0 c).arrAt 2 (Cert.NormFwdIdeal.cfgs 0).N, Cert.NormFwdIdeal.Value.run_blocks m g, ?_⟩
  refine (θ_run _ _ _).mono (fun r h c => ⟨(h c).1.trans ?_, (h c).2⟩) (Cert.NormFwdRefIdeal.Value.run m' g')
  obtain ⟨a0, a1⟩ := hagree c
  refine (Cert.NormFwdRefIdeal.Read.val_main_v13_eq _ _).trans ?_
  rw [a0, a1]
  exact (Cert.NormFwdIdeal.Proof.ref _ _).trans (Cert.NormFwdIdeal.Proof.result m c).symm

end Cert.Proof

end
-- ==== Proof.lean ====
module

public import proofs.«01_k».proof.Defs
public import proofs.«01_k».proof.Proof.Gen.Attn.Frame
public import proofs.«01_k».proof.Proof.Gen.AttnIdeal.Frame
public import proofs.«01_k».proof.Proof.Gen.AttnRefIdeal.Read
public import proofs.«01_k».proof.Proof.Gen.AttnRefIdeal.Run
public import proofs.«01_k».proof.Proof.Gen.NormIn.Frame
public import proofs.«01_k».proof.Proof.Gen.NormInIdeal.Frame
public import proofs.«01_k».proof.Proof.Gen.NormInIdeal.Value
public import proofs.«01_k».proof.Proof.Gen.NormInRefIdeal.Read
public import proofs.«01_k».proof.Proof.Gen.NormInRefIdeal.Run
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Read
public import proofs.«01_k».proof.Proof.Gen.LossRefIdeal.Run
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal.Read
public import proofs.«01_k».proof.Proof.Gen.MixerRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Read
public import proofs.«01_k».proof.Proof.Gen.FfnRefIdeal.Run
public import proofs.«01_k».proof.Proof.Gen.Query.Frame
public import proofs.«01_k».proof.Proof.Gen.QueryIdeal.Frame
public import proofs.«01_k».proof.Proof.Gen.QueryIdeal.Value
public import proofs.«01_k».proof.Proof.Gen.QueryRefIdeal.Read
public import proofs.«01_k».proof.Proof.Gen.QueryRefIdeal.Run
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Read
public import proofs.«01_k».proof.Proof.Gen.KvRefIdeal.Run
public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Read
public import proofs.«01_k».proof.Proof.Gen.FwdRefIdeal.Run
public import proofs.«01_k».proof.Proof.Gen.NormMix.Frame
public import proofs.«01_k».proof.Proof.Gen.NormMixIdeal.Frame
public import proofs.«01_k».proof.Proof.Gen.NormMixIdeal.Value
public import proofs.«01_k».proof.Proof.Gen.NormMixRefIdeal.Read
public import proofs.«01_k».proof.Proof.Gen.NormMixRefIdeal.Run
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Read
public import proofs.«01_k».proof.Proof.Gen.NormFwdRefIdeal.Run
public import proofs.«01_k».proof.Proof.AttnFrame
public import proofs.«01_k».proof.Proof.AttnIdealFrame
public import proofs.«01_k».proof.Proof.AttnClaim
public import proofs.«01_k».proof.Proof.NormInClaim
public import proofs.«01_k».proof.Proof.LossClaim
public import proofs.«01_k».proof.Proof.MixerClaim
public import proofs.«01_k».proof.Proof.FfnClaim
public import proofs.«01_k».proof.Proof.QueryClaim
public import proofs.«01_k».proof.Proof.KvClaim
public import proofs.«01_k».proof.Proof.FwdClaim
public import proofs.«01_k».proof.Proof.NormMixClaim
public import proofs.«01_k».proof.Proof.NormFwdClaim

@[expose] public section

namespace Cert.Proof

open Idealize.ShloMosaic Idealize.SL.Sem

/-- The host program `AttnRefIdeal` runs, leaves its arguments as they were and declares no semaphore. -/
theorem frame_AttnRefIdeal : Cert.quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The host program `NormInRefIdeal` runs, leaves its arguments as they were and declares no semaphore. -/
theorem frame_NormInRefIdeal : Cert.quiescent_NormInRefIdeal (hNormInRefIdeal := Cert.NormInRefIdeal.Gen.facts) := fun m ρ _ =>
  (θ_run Cert.NormInRefIdeal.defs _ _).mono (fun r h => ⟨fun c => (h c).2.2, sem_eq_zero_of_no_sems (by decide) r.2⟩)
    (Cert.NormInRefIdeal.Value.run (F := Ideal) m ρ)

/-- The host program `LossRefIdeal` runs, leaves its arguments as they were and declares no semaphore. -/
theorem frame_LossRefIdeal : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- The host program `MixerRefIdeal` runs, leaves its arguments as they were and declares no semaphore. -/
theorem frame_MixerRefIdeal : Cert.quiescent_MixerRefIdeal (hMixerRefIdeal := Cert.MixerRefIdeal.Gen.facts) := fun m ρ _ =>
  (θ_run Cert.MixerRefIdeal.defs _ _).mono (fun r h => ⟨fun c => (h c).2.2.2.2, sem_eq_zero_of_no_sems (by decide) r.2⟩)
    (Cert.MixerRefIdeal.Value.run (F := Ideal) m ρ)

/-- The host program `FfnRefIdeal` runs, leaves its arguments as they were and declares no semaphore. -/
theorem frame_FfnRefIdeal : Cert.quiescent_FfnRefIdeal (hFfnRefIdeal := Cert.FfnRefIdeal.Gen.facts) := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

/-- The host program `QueryRefIdeal` runs, leaves its arguments as they were and declares no semaphore. -/
theorem frame_QueryRefIdeal : Cert.quiescent_QueryRefIdeal (hQueryRefIdeal := Cert.QueryRefIdeal.Gen.facts) := fun m ρ _ =>
  (θ_run Cert.QueryRefIdeal.defs _ _).mono (fun r h => ⟨fun c => (h c).2.2.2.2.2, sem_eq_zero_of_no_sems (by decide) r.2⟩)
    (Cert.QueryRefIdeal.Value.run (F := Ideal) m ρ)

/-- The host program `KvRefIdeal` runs, leaves its arguments as they were and declares no semaphore. -/
theorem frame_KvRefIdeal : Cert.quiescent_KvRefIdeal (hKvRefIdeal := Cert.KvRefIdeal.Gen.facts) := fun m ρ _ =>
  (θ_run Cert.KvRefIdeal.defs _ _).mono (fun r h => ⟨fun c => (h c).2.2.2.2.2, sem_eq_zero_of_no_sems (by decide) r.2⟩)
    (Cert.KvRefIdeal.Value.run (F := Ideal) m ρ)

/-- The host program `FwdRefIdeal` runs, leaves its arguments as they were and declares no semaphore. -/
theorem frame_FwdRefIdeal : Cert.quiescent_FwdRefIdeal (hFwdRefIdeal := Cert.FwdRefIdeal.Gen.facts) := fun m ρ _ =>
  (θ_run Cert.FwdRefIdeal.defs _ _).mono (fun r h => ⟨fun c => (h c).2.2, sem_eq_zero_of_no_sems (by decide) r.2⟩)
    (Cert.FwdRefIdeal.Value.run (F := Ideal) m ρ)

/-- The host program `NormMixRefIdeal` runs, leaves its arguments as they were and declares no semaphore. -/
theorem frame_NormMixRefIdeal : Cert.quiescent_NormMixRefIdeal (hNormMixRefIdeal := Cert.NormMixRefIdeal.Gen.facts) := fun m ρ _ =>
  (θ_run Cert.NormMixRefIdeal.defs _ _).mono (fun r h => ⟨fun c => (h c).2.2, sem_eq_zero_of_no_sems (by decide) r.2⟩)
    (Cert.NormMixRefIdeal.Value.run (F := Ideal) m ρ)

/-- The host program `NormFwdRefIdeal` runs, leaves its arguments as they were and declares no semaphore. -/
theorem frame_NormFwdRefIdeal : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem claim : Cert.Claim :=
  ⟨Cert.Attn.Gen.facts,
    Cert.AttnIdeal.Gen.facts,
    Cert.AttnRefIdeal.Gen.facts,
    Cert.NormIn.Gen.facts,
    Cert.NormInIdeal.Gen.facts,
    Cert.NormInRefIdeal.Gen.facts,
    Cert.Loss.Gen.facts,
    Cert.LossIdeal.Gen.facts,
    Cert.LossRefIdeal.Gen.facts,
    Cert.Mixer.Gen.facts,
    Cert.MixerIdeal.Gen.facts,
    Cert.MixerRefIdeal.Gen.facts,
    Cert.Ffn.Gen.facts,
    Cert.FfnIdeal.Gen.facts,
    Cert.FfnRefIdeal.Gen.facts,
    Cert.Query.Gen.facts,
    Cert.QueryIdeal.Gen.facts,
    Cert.QueryRefIdeal.Gen.facts,
    Cert.Kv.Gen.facts,
    Cert.KvIdeal.Gen.facts,
    Cert.KvRefIdeal.Gen.facts,
    Cert.Fwd.Gen.facts,
    Cert.FwdIdeal.Gen.facts,
    Cert.FwdRefIdeal.Gen.facts,
    Cert.NormMix.Gen.facts,
    Cert.NormMixIdeal.Gen.facts,
    Cert.NormMixRefIdeal.Gen.facts,
    Cert.NormFwd.Gen.facts,
    Cert.NormFwdIdeal.Gen.facts,
    Cert.NormFwdRefIdeal.Gen.facts,
    Cert.Pre_attn_finite.Gen.facts,
    Cert.Pre_norm_in_finite.Gen.facts,
    Cert.Pre_loss_finite.Gen.facts,
    Cert.Pre_mixer_finite.Gen.facts,
    Cert.Pre_ffn_finite.Gen.facts,
    Cert.Pre_q_finite.Gen.facts,
    Cert.Pre_kv_finite.Gen.facts,
    Cert.Pre_attn_fwd_finite.Gen.facts,
    Cert.Pre_norm_mix_finite.Gen.facts,
    fun m ρ _ => Cert.Attn.Proof.frame m ρ,
    fun m ρ _ => Cert.AttnIdeal.Proof.frame m ρ,
    fun m ρ _ => Cert.AttnIdeal.Proof.frame m ρ,
    fun m ρ _ => frame_AttnRefIdeal m ρ trivial,
    fun m ρ _ => frame_AttnRefIdeal m ρ trivial,
    fun m ρ _ => Cert.NormIn.Gen.frame m ρ,
    fun m ρ _ => Cert.NormInIdeal.Gen.frame m ρ,
    fun m ρ _ => Cert.NormInIdeal.Gen.frame m ρ,
    fun m ρ _ => frame_NormInRefIdeal m ρ trivial,
    fun m ρ _ => frame_NormInRefIdeal m ρ trivial,
    fun m ρ _ => Cert.Loss.Gen.frame m ρ,
    fun m ρ _ => Cert.LossIdeal.Gen.frame m ρ,
    fun m ρ _ => Cert.LossIdeal.Gen.frame m ρ,
    fun m ρ _ => frame_LossRefIdeal m ρ trivial,
    fun m ρ _ => frame_LossRefIdeal m ρ trivial,
    fun m ρ _ => Cert.Mixer.Gen.frame m ρ,
    fun m ρ _ => Cert.MixerIdeal.Gen.frame m ρ,
    fun m ρ _ => Cert.MixerIdeal.Gen.frame m ρ,
    fun m ρ _ => frame_MixerRefIdeal m ρ trivial,
    fun m ρ _ => frame_MixerRefIdeal m ρ trivial,
    fun m ρ _ => Cert.Ffn.Gen.frame m ρ,
    fun m ρ _ => Cert.FfnIdeal.Gen.frame m ρ,
    fun m ρ _ => Cert.FfnIdeal.Gen.frame m ρ,
    fun m ρ _ => frame_FfnRefIdeal m ρ trivial,
    fun m ρ _ => frame_FfnRefIdeal m ρ trivial,
    fun m ρ _ => Cert.Query.Gen.frame m ρ,
    fun m ρ _ => Cert.QueryIdeal.Gen.frame m ρ,
    fun m ρ _ => Cert.QueryIdeal.Gen.frame m ρ,
    fun m ρ _ => frame_QueryRefIdeal m ρ trivial,
    fun m ρ _ => frame_QueryRefIdeal m ρ trivial,
    fun m ρ _ => Cert.Kv.Gen.frame m ρ,
    fun m ρ _ => Cert.KvIdeal.Gen.frame m ρ,
    fun m ρ _ => Cert.KvIdeal.Gen.frame m ρ,
    fun m ρ _ => frame_KvRefIdeal m ρ trivial,
    fun m ρ _ => frame_KvRefIdeal m ρ trivial,
    fun m ρ _ => Cert.Fwd.Gen.frame m ρ,
    fun m ρ _ => Cert.FwdIdeal.Gen.frame m ρ,
    fun m ρ _ => Cert.FwdIdeal.Gen.frame m ρ,
    fun m ρ _ => frame_FwdRefIdeal m ρ trivial,
    fun m ρ _ => frame_FwdRefIdeal m ρ trivial,
    fun m ρ _ => Cert.NormMix.Gen.frame m ρ,
    fun m ρ _ => Cert.NormMixIdeal.Gen.frame m ρ,
    fun m ρ _ => Cert.NormMixIdeal.Gen.frame m ρ,
    fun m ρ _ => frame_NormMixRefIdeal m ρ trivial,
    fun m ρ _ => frame_NormMixRefIdeal m ρ trivial,
    fun m ρ _ => Cert.NormFwd.Gen.frame m ρ,
    fun m ρ _ => Cert.NormFwdIdeal.Gen.frame m ρ,
    fun m ρ _ => frame_NormFwdRefIdeal m ρ trivial,
    IdealRules.named_const.statement Cert.AttnIdeal.κ "mask" .f32 0xF149F2CA#32 ⊥ rfl,
    attn,
    trivial,
    norm_in,
    trivial,
    loss,
    trivial,
    mixer,
    trivial,
    ffn,
    trivial,
    query,
    trivial,
    kv,
    IdealRules.named_const.statement Cert.FwdIdeal.κ "mask" .f32 0xF149F2CA#32 ⊥ rfl,
    fwd,
    trivial,
    norm_mix,
    trivial,
    norm_fwd⟩

end Cert.Proof
